-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3)
      ∧ r.2.mem ((c.tc : Thread Cert.Kernel38.nD Cert.Kernel38.τ).loc Cert.Kernel38.main_arg4) = m ((c.tc : Thread Cert.Kernel38.nD Cert.Kernel38.τ).loc Cert.Kernel38.main_arg4))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3)
      ∧ r.2.mem ((c.tc : Thread Cert.Kernel39.nD Cert.Kernel39.τ).loc Cert.Kernel39.main_arg4) = m ((c.tc : Thread Cert.Kernel39.nD Cert.Kernel39.τ).loc Cert.Kernel39.main_arg4)
      ∧ r.2.mem ((c.tc : Thread Cert.Kernel39.nD Cert.Kernel39.τ).loc Cert.Kernel39.main_arg5) = m ((c.tc : Thread Cert.Kernel39.nD Cert.Kernel39.τ).loc Cert.Kernel39.main_arg5)
      ∧ r.2.mem ((c.tc : Thread Cert.Kernel39.nD Cert.Kernel39.τ).loc Cert.Kernel39.main_arg6) = m ((c.tc : Thread Cert.Kernel39.nD Cert.Kernel39.τ).loc Cert.Kernel39.main_arg6))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
      ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
      ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
      ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3)
      ∧ r.2.mem ((c.tc : Thread Cert.Reference39Ideal.nD Cert.Reference39Ideal.τ).loc Cert.Reference39Ideal.main_arg4) = m ((c.tc : Thread Cert.Reference39Ideal.nD Cert.Reference39Ideal.τ).loc Cert.Reference39Ideal.main_arg4)
      ∧ r.2.mem ((c.tc : Thread Cert.Reference39Ideal.nD Cert.Reference39Ideal.τ).loc Cert.Reference39Ideal.main_arg5) = m ((c.tc : Thread Cert.Reference39Ideal.nD Cert.Reference39Ideal.τ).loc Cert.Reference39Ideal.main_arg5)
      ∧ r.2.mem ((c.tc : Thread Cert.Reference39Ideal.nD Cert.Reference39Ideal.τ).loc Cert.Reference39Ideal.main_arg6) = m ((c.tc : Thread Cert.Reference39Ideal.nD Cert.Reference39Ideal.τ).loc Cert.Reference39Ideal.main_arg6))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v13_0)) (v2 : (c : Dev Cert.KernelIdeal.nD) → Buf (Elt Ideal) ((c.tc : Thread Cert.KernelIdeal.nD Cert.KernelIdeal.τ).loc Cert.KernelIdeal.main_v13_1)) (v3 : (c : Dev Cert.KernelIdeal.nD) → Buf (Elt Ideal) ((c.tc : Thread Cert.KernelIdeal.nD Cert.KernelIdeal.τ).loc Cert.KernelIdeal.main_v13_2)) (v4 : (c : Dev Cert.KernelIdeal.nD) → Buf (Elt Ideal) ((c.tc : Thread Cert.KernelIdeal.nD Cert.KernelIdeal.τ).loc Cert.KernelIdeal.main_v13_3)) (v5 : (c : Dev Cert.KernelIdeal.nD) → Buf (Elt Ideal) ((c.tc : Thread Cert.KernelIdeal.nD Cert.KernelIdeal.τ).loc Cert.KernelIdeal.main_v13_4)) (v6 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v13_0) = v1 c
          ∧ r.2.mem ((c.tc : Thread Cert.KernelIdeal.nD Cert.KernelIdeal.τ).loc Cert.KernelIdeal.main_v13_1) = v2 c
          ∧ r.2.mem ((c.tc : Thread Cert.KernelIdeal.nD Cert.KernelIdeal.τ).loc Cert.KernelIdeal.main_v13_2) = v3 c
          ∧ r.2.mem ((c.tc : Thread Cert.KernelIdeal.nD Cert.KernelIdeal.τ).loc Cert.KernelIdeal.main_v13_3) = v4 c
          ∧ r.2.mem ((c.tc : Thread Cert.KernelIdeal.nD Cert.KernelIdeal.τ).loc Cert.KernelIdeal.main_v13_4) = v5 c
          ∧ r.2.mem ((c.tc : Thread Cert.KernelIdeal.nD Cert.KernelIdeal.τ).loc Cert.KernelIdeal.main_v15) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_v37) = v4 c
          ∧ r.2.mem ((c.tc : Thread Cert.ReferenceIdeal.nD Cert.ReferenceIdeal.τ).loc Cert.ReferenceIdeal.main_v42) = v5 c
          ∧ r.2.mem ((c.tc : Thread Cert.ReferenceIdeal.nD Cert.ReferenceIdeal.τ).loc Cert.ReferenceIdeal.main_v31_14) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v1_1)) (v2 : (c : Dev Cert.Kernel22Ideal.nD) → Buf (Elt Ideal) ((c.tc : Thread Cert.Kernel22Ideal.nD Cert.Kernel22Ideal.τ).loc Cert.Kernel22Ideal.main_v1_2)) (v3 : (c : Dev Cert.Kernel22Ideal.nD) → Buf (Elt Ideal) ((c.tc : Thread Cert.Kernel22Ideal.nD Cert.Kernel22Ideal.τ).loc Cert.Kernel22Ideal.main_v1_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v1_1) = v1 c
          ∧ r.2.mem ((c.tc : Thread Cert.Kernel22Ideal.nD Cert.Kernel22Ideal.τ).loc Cert.Kernel22Ideal.main_v1_2) = v2 c
          ∧ r.2.mem ((c.tc : Thread Cert.Kernel22Ideal.nD Cert.Kernel22Ideal.τ).loc Cert.Kernel22Ideal.main_v1_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v1_0)) (v1 : (c : Dev Cert.Kernel23Ideal.nD) → Buf (Elt Ideal) ((c.tc : Thread Cert.Kernel23Ideal.nD Cert.Kernel23Ideal.τ).loc Cert.Kernel23Ideal.main_v1_1)) (v2 : (c : Dev Cert.Kernel23Ideal.nD) → Buf (Elt Ideal) ((c.tc : Thread Cert.Kernel23Ideal.nD Cert.Kernel23Ideal.τ).loc Cert.Kernel23Ideal.main_v1_2)) (v3 : (c : Dev Cert.Kernel23Ideal.nD) → Buf (Elt Ideal) ((c.tc : Thread Cert.Kernel23Ideal.nD Cert.Kernel23Ideal.τ).loc Cert.Kernel23Ideal.main_v1_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1_0) = v0 c
          ∧ r.2.mem ((c.tc : Thread Cert.Kernel23Ideal.nD Cert.Kernel23Ideal.τ).loc Cert.Kernel23Ideal.main_v1_1) = v1 c
          ∧ r.2.mem ((c.tc : Thread Cert.Kernel23Ideal.nD Cert.Kernel23Ideal.τ).loc Cert.Kernel23Ideal.main_v1_2) = v2 c
          ∧ r.2.mem ((c.tc : Thread Cert.Kernel23Ideal.nD Cert.Kernel23Ideal.τ).loc Cert.Kernel23Ideal.main_v1_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v11) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v1_0)) (v1 : (c : Dev Cert.Kernel24Ideal.nD) → Buf (Elt Ideal) ((c.tc : Thread Cert.Kernel24Ideal.nD Cert.Kernel24Ideal.τ).loc Cert.Kernel24Ideal.main_v1_1)) (v2 : (c : Dev Cert.Kernel24Ideal.nD) → Buf (Elt Ideal) ((c.tc : Thread Cert.Kernel24Ideal.nD Cert.Kernel24Ideal.τ).loc Cert.Kernel24Ideal.main_v1_2)) (v3 : (c : Dev Cert.Kernel24Ideal.nD) → Buf (Elt Ideal) ((c.tc : Thread Cert.Kernel24Ideal.nD Cert.Kernel24Ideal.τ).loc Cert.Kernel24Ideal.main_v1_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1_0) = v0 c
          ∧ r.2.mem ((c.tc : Thread Cert.Kernel24Ideal.nD Cert.Kernel24Ideal.τ).loc Cert.Kernel24Ideal.main_v1_1) = v1 c
          ∧ r.2.mem ((c.tc : Thread Cert.Kernel24Ideal.nD Cert.Kernel24Ideal.τ).loc Cert.Kernel24Ideal.main_v1_2) = v2 c
          ∧ r.2.mem ((c.tc : Thread Cert.Kernel24Ideal.nD Cert.Kernel24Ideal.τ).loc Cert.Kernel24Ideal.main_v1_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v24) = v1 c
          ∧ r.2.mem ((c.tc : Thread Cert.Reference24Ideal.nD Cert.Reference24Ideal.τ).loc Cert.Reference24Ideal.main_v5) = v2 c
          ∧ r.2.mem ((c.tc : Thread Cert.Reference24Ideal.nD Cert.Reference24Ideal.τ).loc Cert.Reference24Ideal.main_v11) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)) (v2 : (c : Dev Cert.Kernel25Ideal.nD) → Buf (Elt Ideal) ((c.tc : Thread Cert.Kernel25Ideal.nD Cert.Kernel25Ideal.τ).loc Cert.Kernel25Ideal.main_v1_2)) (v3 : (c : Dev Cert.Kernel25Ideal.nD) → Buf (Elt Ideal) ((c.tc : Thread Cert.Kernel25Ideal.nD Cert.Kernel25Ideal.τ).loc Cert.Kernel25Ideal.main_v1_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_v1_2) = v2 c
          ∧ r.2.mem ((c.tc : Thread Cert.Kernel25Ideal.nD Cert.Kernel25Ideal.τ).loc Cert.Kernel25Ideal.main_v1_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_v24) = v1 c
          ∧ r.2.mem ((c.tc : Thread Cert.Reference25Ideal.nD Cert.Reference25Ideal.τ).loc Cert.Reference25Ideal.main_v5) = v2 c
          ∧ r.2.mem ((c.tc : Thread Cert.Reference25Ideal.nD Cert.Reference25Ideal.τ).loc Cert.Reference25Ideal.main_v11) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v1_0)) (v1 : (c : Dev Cert.Kernel26Ideal.nD) → Buf (Elt Ideal) ((c.tc : Thread Cert.Kernel26Ideal.nD Cert.Kernel26Ideal.τ).loc Cert.Kernel26Ideal.main_v1_1)) (v2 : (c : Dev Cert.Kernel26Ideal.nD) → Buf (Elt Ideal) ((c.tc : Thread Cert.Kernel26Ideal.nD Cert.Kernel26Ideal.τ).loc Cert.Kernel26Ideal.main_v1_2)) (v3 : (c : Dev Cert.Kernel26Ideal.nD) → Buf (Elt Ideal) ((c.tc : Thread Cert.Kernel26Ideal.nD Cert.Kernel26Ideal.τ).loc Cert.Kernel26Ideal.main_v1_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1_0) = v0 c
          ∧ r.2.mem ((c.tc : Thread Cert.Kernel26Ideal.nD Cert.Kernel26Ideal.τ).loc Cert.Kernel26Ideal.main_v1_1) = v1 c
          ∧ r.2.mem ((c.tc : Thread Cert.Kernel26Ideal.nD Cert.Kernel26Ideal.τ).loc Cert.Kernel26Ideal.main_v1_2) = v2 c
          ∧ r.2.mem ((c.tc : Thread Cert.Kernel26Ideal.nD Cert.Kernel26Ideal.τ).loc Cert.Kernel26Ideal.main_v1_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_v24) = v1 c
          ∧ r.2.mem ((c.tc : Thread Cert.Reference26Ideal.nD Cert.Reference26Ideal.τ).loc Cert.Reference26Ideal.main_v5) = v2 c
          ∧ r.2.mem ((c.tc : Thread Cert.Reference26Ideal.nD Cert.Reference26Ideal.τ).loc Cert.Reference26Ideal.main_v11) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v1_0)) (v1 : (c : Dev Cert.Kernel27Ideal.nD) → Buf (Elt Ideal) ((c.tc : Thread Cert.Kernel27Ideal.nD Cert.Kernel27Ideal.τ).loc Cert.Kernel27Ideal.main_v1_1)) (v2 : (c : Dev Cert.Kernel27Ideal.nD) → Buf (Elt Ideal) ((c.tc : Thread Cert.Kernel27Ideal.nD Cert.Kernel27Ideal.τ).loc Cert.Kernel27Ideal.main_v1_2)) (v3 : (c : Dev Cert.Kernel27Ideal.nD) → Buf (Elt Ideal) ((c.tc : Thread Cert.Kernel27Ideal.nD Cert.Kernel27Ideal.τ).loc Cert.Kernel27Ideal.main_v1_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1_0) = v0 c
          ∧ r.2.mem ((c.tc : Thread Cert.Kernel27Ideal.nD Cert.Kernel27Ideal.τ).loc Cert.Kernel27Ideal.main_v1_1) = v1 c
          ∧ r.2.mem ((c.tc : Thread Cert.Kernel27Ideal.nD Cert.Kernel27Ideal.τ).loc Cert.Kernel27Ideal.main_v1_2) = v2 c
          ∧ r.2.mem ((c.tc : Thread Cert.Kernel27Ideal.nD Cert.Kernel27Ideal.τ).loc Cert.Kernel27Ideal.main_v1_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_v24) = v1 c
          ∧ r.2.mem ((c.tc : Thread Cert.Reference27Ideal.nD Cert.Reference27Ideal.τ).loc Cert.Reference27Ideal.main_v5) = v2 c
          ∧ r.2.mem ((c.tc : Thread Cert.Reference27Ideal.nD Cert.Reference27Ideal.τ).loc Cert.Reference27Ideal.main_v11) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v1_0)) (v1 : (c : Dev Cert.Kernel28Ideal.nD) → Buf (Elt Ideal) ((c.tc : Thread Cert.Kernel28Ideal.nD Cert.Kernel28Ideal.τ).loc Cert.Kernel28Ideal.main_v1_1)) (v2 : (c : Dev Cert.Kernel28Ideal.nD) → Buf (Elt Ideal) ((c.tc : Thread Cert.Kernel28Ideal.nD Cert.Kernel28Ideal.τ).loc Cert.Kernel28Ideal.main_v1_2)) (v3 : (c : Dev Cert.Kernel28Ideal.nD) → Buf (Elt Ideal) ((c.tc : Thread Cert.Kernel28Ideal.nD Cert.Kernel28Ideal.τ).loc Cert.Kernel28Ideal.main_v1_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1_0) = v0 c
          ∧ r.2.mem ((c.tc : Thread Cert.Kernel28Ideal.nD Cert.Kernel28Ideal.τ).loc Cert.Kernel28Ideal.main_v1_1) = v1 c
          ∧ r.2.mem ((c.tc : Thread Cert.Kernel28Ideal.nD Cert.Kernel28Ideal.τ).loc Cert.Kernel28Ideal.main_v1_2) = v2 c
          ∧ r.2.mem ((c.tc : Thread Cert.Kernel28Ideal.nD Cert.Kernel28Ideal.τ).loc Cert.Kernel28Ideal.main_v1_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_v24) = v1 c
          ∧ r.2.mem ((c.tc : Thread Cert.Reference28Ideal.nD Cert.Reference28Ideal.τ).loc Cert.Reference28Ideal.main_v5) = v2 c
          ∧ r.2.mem ((c.tc : Thread Cert.Reference28Ideal.nD Cert.Reference28Ideal.τ).loc Cert.Reference28Ideal.main_v11) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v1_0)) (v1 : (c : Dev Cert.Kernel29Ideal.nD) → Buf (Elt Ideal) ((c.tc : Thread Cert.Kernel29Ideal.nD Cert.Kernel29Ideal.τ).loc Cert.Kernel29Ideal.main_v1_1)) (v2 : (c : Dev Cert.Kernel29Ideal.nD) → Buf (Elt Ideal) ((c.tc : Thread Cert.Kernel29Ideal.nD Cert.Kernel29Ideal.τ).loc Cert.Kernel29Ideal.main_v1_2)) (v3 : (c : Dev Cert.Kernel29Ideal.nD) → Buf (Elt Ideal) ((c.tc : Thread Cert.Kernel29Ideal.nD Cert.Kernel29Ideal.τ).loc Cert.Kernel29Ideal.main_v1_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1_0) = v0 c
          ∧ r.2.mem ((c.tc : Thread Cert.Kernel29Ideal.nD Cert.Kernel29Ideal.τ).loc Cert.Kernel29Ideal.main_v1_1) = v1 c
          ∧ r.2.mem ((c.tc : Thread Cert.Kernel29Ideal.nD Cert.Kernel29Ideal.τ).loc Cert.Kernel29Ideal.main_v1_2) = v2 c
          ∧ r.2.mem ((c.tc : Thread Cert.Kernel29Ideal.nD Cert.Kernel29Ideal.τ).loc Cert.Kernel29Ideal.main_v1_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v0) = v0 c
          ∧ r.2.mem ((c.tc : Thread Cert.Reference29Ideal.nD Cert.Reference29Ideal.τ).loc Cert.Reference29Ideal.main_v24) = v1 c
          ∧ r.2.mem ((c.tc : Thread Cert.Reference29Ideal.nD Cert.Reference29Ideal.τ).loc Cert.Reference29Ideal.main_v5) = v2 c
          ∧ r.2.mem ((c.tc : Thread Cert.Reference29Ideal.nD Cert.Reference29Ideal.τ).loc Cert.Reference29Ideal.main_v11) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v1_0)) (v1 : (c : Dev Cert.Kernel30Ideal.nD) → Buf (Elt Ideal) ((c.tc : Thread Cert.Kernel30Ideal.nD Cert.Kernel30Ideal.τ).loc Cert.Kernel30Ideal.main_v1_1)) (v2 : (c : Dev Cert.Kernel30Ideal.nD) → Buf (Elt Ideal) ((c.tc : Thread Cert.Kernel30Ideal.nD Cert.Kernel30Ideal.τ).loc Cert.Kernel30Ideal.main_v1_2)) (v3 : (c : Dev Cert.Kernel30Ideal.nD) → Buf (Elt Ideal) ((c.tc : Thread Cert.Kernel30Ideal.nD Cert.Kernel30Ideal.τ).loc Cert.Kernel30Ideal.main_v1_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1_0) = v0 c
          ∧ r.2.mem ((c.tc : Thread Cert.Kernel30Ideal.nD Cert.Kernel30Ideal.τ).loc Cert.Kernel30Ideal.main_v1_1) = v1 c
          ∧ r.2.mem ((c.tc : Thread Cert.Kernel30Ideal.nD Cert.Kernel30Ideal.τ).loc Cert.Kernel30Ideal.main_v1_2) = v2 c
          ∧ r.2.mem ((c.tc : Thread Cert.Kernel30Ideal.nD Cert.Kernel30Ideal.τ).loc Cert.Kernel30Ideal.main_v1_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v0) = v0 c
          ∧ r.2.mem ((c.tc : Thread Cert.Reference30Ideal.nD Cert.Reference30Ideal.τ).loc Cert.Reference30Ideal.main_v24) = v1 c
          ∧ r.2.mem ((c.tc : Thread Cert.Reference30Ideal.nD Cert.Reference30Ideal.τ).loc Cert.Reference30Ideal.main_v5) = v2 c
          ∧ r.2.mem ((c.tc : Thread Cert.Reference30Ideal.nD Cert.Reference30Ideal.τ).loc Cert.Reference30Ideal.main_v11) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v1_0)) (v1 : (c : Dev Cert.Kernel31Ideal.nD) → Buf (Elt Ideal) ((c.tc : Thread Cert.Kernel31Ideal.nD Cert.Kernel31Ideal.τ).loc Cert.Kernel31Ideal.main_v1_1)) (v2 : (c : Dev Cert.Kernel31Ideal.nD) → Buf (Elt Ideal) ((c.tc : Thread Cert.Kernel31Ideal.nD Cert.Kernel31Ideal.τ).loc Cert.Kernel31Ideal.main_v1_2)) (v3 : (c : Dev Cert.Kernel31Ideal.nD) → Buf (Elt Ideal) ((c.tc : Thread Cert.Kernel31Ideal.nD Cert.Kernel31Ideal.τ).loc Cert.Kernel31Ideal.main_v1_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1_0) = v0 c
          ∧ r.2.mem ((c.tc : Thread Cert.Kernel31Ideal.nD Cert.Kernel31Ideal.τ).loc Cert.Kernel31Ideal.main_v1_1) = v1 c
          ∧ r.2.mem ((c.tc : Thread Cert.Kernel31Ideal.nD Cert.Kernel31Ideal.τ).loc Cert.Kernel31Ideal.main_v1_2) = v2 c
          ∧ r.2.mem ((c.tc : Thread Cert.Kernel31Ideal.nD Cert.Kernel31Ideal.τ).loc Cert.Kernel31Ideal.main_v1_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v0) = v0 c
          ∧ r.2.mem ((c.tc : Thread Cert.Reference31Ideal.nD Cert.Reference31Ideal.τ).loc Cert.Reference31Ideal.main_v24) = v1 c
          ∧ r.2.mem ((c.tc : Thread Cert.Reference31Ideal.nD Cert.Reference31Ideal.τ).loc Cert.Reference31Ideal.main_v5) = v2 c
          ∧ r.2.mem ((c.tc : Thread Cert.Reference31Ideal.nD Cert.Reference31Ideal.τ).loc Cert.Reference31Ideal.main_v11) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v1_0)) (v1 : (c : Dev Cert.Kernel32Ideal.nD) → Buf (Elt Ideal) ((c.tc : Thread Cert.Kernel32Ideal.nD Cert.Kernel32Ideal.τ).loc Cert.Kernel32Ideal.main_v1_1)) (v2 : (c : Dev Cert.Kernel32Ideal.nD) → Buf (Elt Ideal) ((c.tc : Thread Cert.Kernel32Ideal.nD Cert.Kernel32Ideal.τ).loc Cert.Kernel32Ideal.main_v1_2)) (v3 : (c : Dev Cert.Kernel32Ideal.nD) → Buf (Elt Ideal) ((c.tc : Thread Cert.Kernel32Ideal.nD Cert.Kernel32Ideal.τ).loc Cert.Kernel32Ideal.main_v1_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1_0) = v0 c
          ∧ r.2.mem ((c.tc : Thread Cert.Kernel32Ideal.nD Cert.Kernel32Ideal.τ).loc Cert.Kernel32Ideal.main_v1_1) = v1 c
          ∧ r.2.mem ((c.tc : Thread Cert.Kernel32Ideal.nD Cert.Kernel32Ideal.τ).loc Cert.Kernel32Ideal.main_v1_2) = v2 c
          ∧ r.2.mem ((c.tc : Thread Cert.Kernel32Ideal.nD Cert.Kernel32Ideal.τ).loc Cert.Kernel32Ideal.main_v1_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v0) = v0 c
          ∧ r.2.mem ((c.tc : Thread Cert.Reference32Ideal.nD Cert.Reference32Ideal.τ).loc Cert.Reference32Ideal.main_v24) = v1 c
          ∧ r.2.mem ((c.tc : Thread Cert.Reference32Ideal.nD Cert.Reference32Ideal.τ).loc Cert.Reference32Ideal.main_v5) = v2 c
          ∧ r.2.mem ((c.tc : Thread Cert.Reference32Ideal.nD Cert.Reference32Ideal.τ).loc Cert.Reference32Ideal.main_v11) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v0) = v0 c
          ∧ r.2.mem ((c.tc : Thread Cert.Reference33Ideal.nD Cert.Reference33Ideal.τ).loc Cert.Reference33Ideal.main_v24) = v1 c
          ∧ r.2.mem ((c.tc : Thread Cert.Reference33Ideal.nD Cert.Reference33Ideal.τ).loc Cert.Reference33Ideal.main_v5) = v2 c
          ∧ r.2.mem ((c.tc : Thread Cert.Reference33Ideal.nD Cert.Reference33Ideal.τ).loc Cert.Reference33Ideal.main_v11) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v34) = v0 c
          ∧ r.2.mem ((c.tc : Thread Cert.Reference34Ideal.nD Cert.Reference34Ideal.τ).loc Cert.Reference34Ideal.main_v17) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v49) = v0 c
          ∧ r.2.mem ((c.tc : Thread Cert.Reference35Ideal.nD Cert.Reference35Ideal.τ).loc Cert.Reference35Ideal.main_v50) = v1 c
          ∧ r.2.mem ((c.tc : Thread Cert.Reference35Ideal.nD Cert.Reference35Ideal.τ).loc Cert.Reference35Ideal.main_v33) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v12) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v0) = v0 c
          ∧ r.2.mem ((c.tc : Thread Cert.Reference37Ideal.nD Cert.Reference37Ideal.τ).loc Cert.Reference37Ideal.main_v14) = v1 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)
      ∧ m' ((c.tc : Thread Cert.Reference38Ideal.nD Cert.Reference38Ideal.τ).loc Cert.Reference38Ideal.main_arg4) = m ((c.tc : Thread Cert.Kernel38Ideal.nD Cert.Kernel38Ideal.τ).loc Cert.Kernel38Ideal.main_arg4)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
          ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v23) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3)
          ∧ r.2.mem ((c.tc : Thread Cert.Reference38Ideal.nD Cert.Reference38Ideal.τ).loc Cert.Reference38Ideal.main_arg4) = m' ((c.tc : Thread Cert.Reference38Ideal.nD Cert.Reference38Ideal.τ).loc Cert.Reference38Ideal.main_arg4))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)
      ∧ m' ((c.tc : Thread Cert.Reference39Ideal.nD Cert.Reference39Ideal.τ).loc Cert.Reference39Ideal.main_arg4) = m ((c.tc : Thread Cert.Kernel39Ideal.nD Cert.Kernel39Ideal.τ).loc Cert.Kernel39Ideal.main_arg4)
      ∧ m' ((c.tc : Thread Cert.Reference39Ideal.nD Cert.Reference39Ideal.τ).loc Cert.Reference39Ideal.main_arg5) = m ((c.tc : Thread Cert.Kernel39Ideal.nD Cert.Kernel39Ideal.τ).loc Cert.Kernel39Ideal.main_arg5)
      ∧ m' ((c.tc : Thread Cert.Reference39Ideal.nD Cert.Reference39Ideal.τ).loc Cert.Reference39Ideal.main_arg6) = m ((c.tc : Thread Cert.Kernel39Ideal.nD Cert.Kernel39Ideal.τ).loc Cert.Kernel39Ideal.main_arg6)) →
    ∃ (v0 : (c : Dev Cert.Kernel39Ideal.nD) → Buf (Elt Ideal) ((c.tc : Thread Cert.Kernel39Ideal.nD Cert.Kernel39Ideal.τ).loc Cert.Kernel39Ideal.main_v1_0)) (v1 : (c : Dev Cert.Kernel39Ideal.nD) → Buf (Elt Ideal) ((c.tc : Thread Cert.Kernel39Ideal.nD Cert.Kernel39Ideal.τ).loc Cert.Kernel39Ideal.main_v1_1)) (v2 : (c : Dev Cert.Kernel39Ideal.nD) → Buf (Elt Ideal) ((c.tc : Thread Cert.Kernel39Ideal.nD Cert.Kernel39Ideal.τ).loc Cert.Kernel39Ideal.main_v1_2)) (v3 : (c : Dev Cert.Kernel39Ideal.nD) → Buf (Elt Ideal) ((c.tc : Thread Cert.Kernel39Ideal.nD Cert.Kernel39Ideal.τ).loc Cert.Kernel39Ideal.main_v1_3)) (v4 : (c : Dev Cert.Kernel39Ideal.nD) → Buf (Elt Ideal) ((c.tc : Thread Cert.Kernel39Ideal.nD Cert.Kernel39Ideal.τ).loc Cert.Kernel39Ideal.main_v1_4)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v1_0) = v0 c
          ∧ r.2.mem ((c.tc : Thread Cert.Kernel39Ideal.nD Cert.Kernel39Ideal.τ).loc Cert.Kernel39Ideal.main_v1_1) = v1 c
          ∧ r.2.mem ((c.tc : Thread Cert.Kernel39Ideal.nD Cert.Kernel39Ideal.τ).loc Cert.Kernel39Ideal.main_v1_2) = v2 c
          ∧ r.2.mem ((c.tc : Thread Cert.Kernel39Ideal.nD Cert.Kernel39Ideal.τ).loc Cert.Kernel39Ideal.main_v1_3) = v3 c
          ∧ r.2.mem ((c.tc : Thread Cert.Kernel39Ideal.nD Cert.Kernel39Ideal.τ).loc Cert.Kernel39Ideal.main_v1_4) = v4 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
          ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
          ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
          ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v51) = v0 c
          ∧ r.2.mem ((c.tc : Thread Cert.Reference39Ideal.nD Cert.Reference39Ideal.τ).loc Cert.Reference39Ideal.main_v52) = v1 c
          ∧ r.2.mem ((c.tc : Thread Cert.Reference39Ideal.nD Cert.Reference39Ideal.τ).loc Cert.Reference39Ideal.main_v53) = v2 c
          ∧ r.2.mem ((c.tc : Thread Cert.Reference39Ideal.nD Cert.Reference39Ideal.τ).loc Cert.Reference39Ideal.main_v54) = v3 c
          ∧ r.2.mem ((c.tc : Thread Cert.Reference39Ideal.nD Cert.Reference39Ideal.τ).loc Cert.Reference39Ideal.main_v55) = v4 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3)
          ∧ r.2.mem ((c.tc : Thread Cert.Reference39Ideal.nD Cert.Reference39Ideal.τ).loc Cert.Reference39Ideal.main_arg4) = m' ((c.tc : Thread Cert.Reference39Ideal.nD Cert.Reference39Ideal.τ).loc Cert.Reference39Ideal.main_arg4)
          ∧ r.2.mem ((c.tc : Thread Cert.Reference39Ideal.nD Cert.Reference39Ideal.τ).loc Cert.Reference39Ideal.main_arg5) = m' ((c.tc : Thread Cert.Reference39Ideal.nD Cert.Reference39Ideal.τ).loc Cert.Reference39Ideal.main_arg5)
          ∧ r.2.mem ((c.tc : Thread Cert.Reference39Ideal.nD Cert.Reference39Ideal.τ).loc Cert.Reference39Ideal.main_arg6) = m' ((c.tc : Thread Cert.Reference39Ideal.nD Cert.Reference39Ideal.τ).loc Cert.Reference39Ideal.main_arg6))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)) →
    ∃ (v0 : (c : Dev Cert.Kernel40Ideal.nD) → Buf (Elt Ideal) ((c.tc : Thread Cert.Kernel40Ideal.nD Cert.Kernel40Ideal.τ).loc Cert.Kernel40Ideal.main_v0)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v0) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v13) = v0 c
          ∧ r.2.mem ((c.tc : Thread Cert.Reference41Ideal.nD Cert.Reference41Ideal.τ).loc Cert.Reference41Ideal.main_v27) = v1 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v19) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
-- ==== Pre_finite.lean ====
abbrev S8192x1024 : Shape := ⟨2, ![8192, 1024]⟩
abbrev S8x8192x64 : Shape := ⟨3, ![8, 8192, 64]⟩
abbrev S128x8 : Shape := ⟨2, ![128, 8]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8x8192x64 : S_.BroadcastsInDim S8x8192x64 (![] : Fin 0 → Fin S8x8192x64.rank)
  reducesTo_S8x8192x64_S_d0_1_2 : S8x8192x64.ReducesTo [0, 1, 2] S_
  bcast_S_S128x8 : S_.BroadcastsInDim S128x8 (![] : Fin 0 → Fin S128x8.rank)
  reducesTo_S128x8_S_d0_1 : S128x8.ReducesTo [0, 1] S_

variable [Facts]

def fn_part1 {F : FTy → Type} [FloatOps F] (main_arg4 : FVec F S8x8192x64 .f32) (main_arg5 : FVec F S128x8 .f32) (main_arg6 : FVec F S8192x1024 .f32) (main_v3 : IVec S_ 1) (main_v7 : IVec S_ 1) (main_v11 : IVec S_ 1) (main_v15 : IVec S_ 1) : IVec S_ 1 :=
  let main_v16 : FVec F S8x8192x64 .f32 := Host.absf main_arg4
  let main_cst_6 : FVec F S_ .f32 := constant S_ .f32 0x7F800000#32
  let main_v17 : FVec F S8x8192x64 .f32 := broadcastInDim S8x8192x64 ![] bcast_S_S8x8192x64 main_cst_6
  let main_v18 : IVec S8x8192x64 1 := cmpf .olt main_v16 main_v17
  let main_c_7 : IVec S_ 1 := constantI S_ 1 1#1
  let main_v19 : IVec S_ 1 := (fun x v => Host.reduce IntOp.andi x v reducesTo_S8x8192x64_S_d0_1_2 h_S_) main_v18 main_c_7
  let main_v20 : FVec F S128x8 .f32 := Host.absf main_arg5
  let main_cst_8 : FVec F S_ .f32 := constant S_ .f32 0x7F800000#32
  let main_v21 : FVec F S128x8 .f32 := broadcastInDim S128x8 ![] bcast_S_S128x8 main_cst_8
  let main_v22 : IVec S128x8 1 := cmpf .olt main_v20 main_v21
  let main_c_9 : IVec S_ 1 := constantI S_ 1 1#1
  let main_v23 : IVec S_ 1 := (fun x v => Host.reduce IntOp.andi x v reducesTo_S128x8_S_d0_1 h_S_) main_v22 main_c_9
  let main_v24 : FVec F S8192x1024 .f32 := Host.absf main_arg6
  let main_cst_10 : FVec F S_ .f32 := constant S_ .f32 0x7F800000#32
  let main_v25 : FVec F S8192x1024 .f32 := broadcastInDim S8192x1024 ![] bcast_S_S8192x1024 main_cst_10
  let main_v26 : IVec S8192x1024 1 := cmpf .olt main_v24 main_v25
  let main_c_11 : IVec S_ 1 := constantI S_ 1 1#1
  let main_v27 : IVec S_ 1 := (fun x v => Host.reduce IntOp.andi x v reducesTo_S8192x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S8x8192x64 .f32) (main_arg5 : FVec F S128x8 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S8192x1024 .f32 := Host.absf main_arg2
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  let main_v12 : FVec F S8192x1024 .f32 := Host.absf main_arg3
  let main_cst_4 : FVec F S_ .f32 := constant S_ .f32 0x7F800000#32
  let main_v13 : FVec F S8192x1024 .f32 := broadcastInDim S8192x1024 ![] bcast_S_S8192x1024 main_cst_4
  let main_v14 : IVec S8192x1024 1 := cmpf .olt main_v12 main_v13
  let main_c_5 : IVec S_ 1 := constantI S_ 1 1#1
  let main_v15 : IVec S_ 1 := (fun x v => Host.reduce IntOp.andi x v reducesTo_S8192x1024_S_d0_1 h_S_) main_v14 main_c_5
  fn_part1 (F := F) main_arg4 main_arg5 main_arg6 main_v3 main_v7 main_v11 main_v15
-- ==== Kernel.lean ====
abbrev S8192x1024 : Shape := ⟨2, ![8192, 1024]⟩
abbrev S8x8192x64 : Shape := ⟨3, ![8, 8192, 64]⟩
abbrev S128x8 : Shape := ⟨2, ![128, 8]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x128x64x64 : Shape := ⟨4, ![8, 128, 64, 64]⟩
abbrev S_ : Shape := ⟨0, ![]⟩
abbrev S128x8x1 : Shape := ⟨3, ![128, 8, 1]⟩
abbrev S128x8x128 : Shape := ⟨3, ![128, 8, 128]⟩
abbrev S8x128x128x128 : Shape := ⟨4, ![8, 128, 128, 128]⟩
abbrev S64x1024 : Shape := ⟨2, ![64, 1024]⟩
abbrev S8x64x64 : Shape := ⟨3, ![8, 64, 64]⟩
abbrev S1x8x128 : Shape := ⟨3, ![1, 8, 128]⟩
abbrev S8x1x128x128 : Shape := ⟨4, ![8, 1, 128, 128]⟩
abbrev S8x128x128 : Shape := ⟨3, ![8, 128, 128]⟩
abbrev S1x128x128 : Shape := ⟨3, ![1, 128, 128]⟩
abbrev S128x128 : Shape := ⟨2, ![128, 128]⟩
abbrev S64x128 : Shape := ⟨2, ![64, 128]⟩
abbrev S1x64x64 : Shape := ⟨3, ![1, 64, 64]⟩
abbrev S1x1x128 : Shape := ⟨3, ![1, 1, 128]⟩
abbrev S1x128 : Shape := ⟨2, ![1, 128]⟩
abbrev S1x1x128x128 : Shape := ⟨4, ![1, 1, 128, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S8x128 : Shape := ⟨2, ![8, 128]⟩

abbrev nBuf : Space → Nat
  | .hbm => 34
  | .vmem => 48
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8x8192x64, .f32⟩
  | .hbm, ⟨5, _⟩ => ⟨S128x8, .f32⟩
  | .hbm, ⟨6, _⟩ => ⟨S8192x1024, .f32⟩
  | .hbm, ⟨7, _⟩ => ⟨S64, .i32⟩
  | .hbm, ⟨8, _⟩ => ⟨S64x1, .i32⟩
  | .hbm, ⟨9, _⟩ => ⟨S64, .i32⟩
  | .hbm, ⟨10, _⟩ => ⟨S1x64, .i32⟩
  | .hbm, ⟨11, _⟩ => ⟨S64x64, .i32⟩
  | .hbm, ⟨12, _⟩ => ⟨S64x64, .i32⟩
  | .hbm, ⟨13, _⟩ => ⟨S64x64, .i1⟩
  | .hbm, ⟨14, _⟩ => ⟨S8x128x64x64, .f32⟩
  | .hbm, ⟨15, _⟩ => ⟨S_, .f32⟩
  | .hbm, ⟨16, _⟩ => ⟨S_, .f32⟩
  | .hbm, ⟨17, _⟩ => ⟨S8x128x64x64, .i1⟩
  | .hbm, ⟨18, _⟩ => ⟨S8x128x64x64, .f32⟩
  | .hbm, ⟨19, _⟩ => ⟨S8x128x64x64, .f32⟩
  | .hbm, ⟨20, _⟩ => ⟨S8x8192x64, .f32⟩
  | .hbm, ⟨21, _⟩ => ⟨S128x8x1, .f32⟩
  | .hbm, ⟨22, _⟩ => ⟨S128x8x128, .f32⟩
  | .hbm, ⟨23, _⟩ => ⟨S8192x1024, .f32⟩
  | .hbm, ⟨24, _⟩ => ⟨S8x128x128x128, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8x8192x64, .f32⟩
  | .hbm, ⟨31, _⟩ => ⟨S128x8x128, .f32⟩
  | .hbm, ⟨32, _⟩ => ⟨S128x8x1, .f32⟩
  | .hbm, ⟨33, _⟩ => ⟨S128x8, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S8x64x64, .f32⟩
  | .local _ .vmem, ⟨9, _⟩ => ⟨S8x64x64, .f32⟩
  | .local _ .vmem, ⟨10, _⟩ => ⟨S1x8x128, .f32⟩
  | .local _ .vmem, ⟨11, _⟩ => ⟨S1x8x128, .f32⟩
  | .local _ .vmem, ⟨12, _⟩ => ⟨S64x1024, .f32⟩
  | .local _ .vmem, ⟨13, _⟩ => ⟨S64x1024, .f32⟩
  | .local _ .vmem, ⟨14, _⟩ => ⟨S8x1x128x128, .f32⟩
  | .local _ .vmem, ⟨15, _⟩ => ⟨S8x1x128x128, .f32⟩
  | .local _ .vmem, ⟨16, _⟩ => ⟨S64x1024, .f32⟩
  | .local _ .vmem, ⟨17, _⟩ => ⟨S64x1024, .f32⟩
  | .local _ .vmem, ⟨18, _⟩ => ⟨S8x128x128, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S64x1024, .f32⟩
  | .local _ .vmem, ⟨26, _⟩ => ⟨S64x1024, .f32⟩
  | .local _ .vmem, ⟨27, _⟩ => ⟨S8x64x64, .f32⟩
  | .local _ .vmem, ⟨28, _⟩ => ⟨S8x64x64, .f32⟩
  | .local _ .vmem, ⟨29, _⟩ => ⟨S1x8x128, .f32⟩
  | .local _ .vmem, ⟨30, _⟩ => ⟨S1x8x128, .f32⟩
  | .local _ .vmem, ⟨31, _⟩ => ⟨S8x1x128x128, .f32⟩
  | .local _ .vmem, ⟨32, _⟩ => ⟨S8x1x128x128, .f32⟩
  | .local _ .vmem, ⟨33, _⟩ => ⟨S64x1024, .f32⟩
  | .local _ .vmem, ⟨34, _⟩ => ⟨S64x1024, .f32⟩
  | .local _ .vmem, ⟨35, _⟩ => ⟨S64x1024, .f32⟩
  | .local _ .vmem, ⟨36, _⟩ => ⟨S64x1024, .f32⟩
  | .local _ .vmem, ⟨37, _⟩ => ⟨S64x1024, .f32⟩
  | .local _ .vmem, ⟨38, _⟩ => ⟨S64x1024, .f32⟩
  | .local _ .vmem, ⟨39, _⟩ => ⟨S64x1024, .f32⟩
  | .local _ .vmem, ⟨40, _⟩ => ⟨S64x1024, .f32⟩
  | .local _ .vmem, ⟨41, _⟩ => ⟨S64x1024, .f32⟩
  | .local _ .vmem, ⟨42, _⟩ => ⟨S64x1024, .f32⟩
  | .local _ .vmem, ⟨43, _⟩ => ⟨S8x64x64, .f32⟩
  | .local _ .vmem, ⟨44, _⟩ => ⟨S8x64x64, .f32⟩
  | .local _ .vmem, ⟨45, _⟩ => ⟨S1x8x128, .f32⟩
  | .local _ .vmem, ⟨46, _⟩ => ⟨S1x8x128, .f32⟩
  | .local _ .vmem, ⟨47, _⟩ => ⟨S8x128x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev main_v13_3 : Ref sig .tc := ⟨.hbm, 29, rfl⟩
abbrev main_v13_4 : Ref sig .tc := ⟨.hbm, 30, rfl⟩
abbrev main_v13_5 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc1_stg12_1 : Ref sig .tc := ⟨.vmem, 44, rfl⟩
abbrev cc1_stg13_0 : Ref sig .tc := ⟨.vmem, 45, rfl⟩
abbrev cc1_stg13_1 : Ref sig .tc := ⟨.vmem, 46, rfl⟩
abbrev cc1_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem13_1 : DmaSem sig := 45

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc1_transform_4 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![c0_i32.toNat, v0.toNat, c0_i32_0.toNat]

def cc1_transform_5 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_6 (i : grid1.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_7 (i : grid1.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc1_transform_12 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![c0_i32.toNat, v0.toNat, c0_i32_0.toNat]

def cc1_transform_13 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

abbrev stage1_0 : Fin 2 → Memref sig .tc .vmem S64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x64x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x1x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S64x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S64x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S64x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S64x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S64x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S8x64x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x8x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S8192x1024 : Shape := ⟨2, ![8192, 1024]⟩
abbrev S8x8192x64 : Shape := ⟨3, ![8, 8192, 64]⟩
abbrev S128x8 : Shape := ⟨2, ![128, 8]⟩
abbrev S_ : Shape := ⟨0, ![]⟩
abbrev S64x64 : Shape := ⟨2, ![64, 64]⟩
abbrev S8x128x64x64 : Shape := ⟨4, ![8, 128, 64, 64]⟩
abbrev S128x8x64x64 : Shape := ⟨4, ![128, 8, 64, 64]⟩
abbrev S8x128x128 : Shape := ⟨3, ![8, 128, 128]⟩
abbrev S128x64x8x128 : Shape := ⟨4, ![128, 64, 8, 128]⟩
abbrev S128x8x64x128 : Shape := ⟨4, ![128, 8, 64, 128]⟩
abbrev S128x8x128x128 : Shape := ⟨4, ![128, 8, 128, 128]⟩
abbrev S128x8x1x1 : Shape := ⟨4, ![128, 8, 1, 1]⟩
abbrev S1x8x64x128 : Shape := ⟨4, ![1, 8, 64, 128]⟩
abbrev S8x64x128 : Shape := ⟨3, ![8, 64, 128]⟩
abbrev S1x8 : Shape := ⟨2, ![1, 8]⟩
abbrev S8 : Shape := ⟨1, ![8]⟩
abbrev S1x8x64x64 : Shape := ⟨4, ![1, 8, 64, 64]⟩
abbrev S8x64x64 : Shape := ⟨3, ![8, 64, 64]⟩
abbrev S8x1x1 : Shape := ⟨3, ![8, 1, 1]⟩
abbrev S1x8x128x128 : Shape := ⟨4, ![1, 8, 128, 128]⟩
abbrev S1x8x1x1 : Shape := ⟨4, ![1, 8, 1, 1]⟩
abbrev S8x128x64 : Shape := ⟨3, ![8, 128, 64]⟩

abbrev nBuf : Space → Nat
  | .hbm => 271
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8x8192x64, .f32⟩
  | 5 => ⟨S128x8, .f32⟩
  | 6 => ⟨S8192x1024, .f32⟩
  | 7 => ⟨S_, .i1⟩
  | 8 => ⟨S64x64, .i1⟩
  | 9 => ⟨S64x64, .i32⟩
  | 10 => ⟨S_, .i32⟩
  | 11 => ⟨S64x64, .i32⟩
  | 12 => ⟨S64x64, .i32⟩
  | 13 => ⟨S64x64, .i32⟩
  | 14 => ⟨S64x64, .i1⟩
  | 15 => ⟨S_, .i1⟩
  | 16 => ⟨S64x64, .i1⟩
  | 17 => ⟨S64x64, .i1⟩
  | 18 => ⟨S8x128x64x64, .f32⟩
  | 19 => ⟨S128x8x64x64, .f32⟩
  | 20 => ⟨S_, .f32⟩
  | 21 => ⟨S_, .f32⟩
  | 22 => ⟨S128x8x64x64, .i1⟩
  | 23 => ⟨S128x8x64x64, .f32⟩
  | 24 => ⟨S128x8x64x64, .f32⟩
  | 25 => ⟨S_, .f32⟩
  | 26 => ⟨S128x8x64x64, .f32⟩
  | 27 => ⟨S_, .f32⟩
  | 28 => ⟨S8x128x128, .f32⟩
  | 29 => ⟨S128x64x8x128, .f32⟩
  | 30 => ⟨S128x8x64x128, .f32⟩
  | 31 => ⟨S128x64x8x128, .f32⟩
  | 32 => ⟨S128x8x64x128, .f32⟩
  | 33 => ⟨S128x64x8x128, .f32⟩
  | 34 => ⟨S128x8x64x128, .f32⟩
  | 35 => ⟨S128x64x8x128, .f32⟩
  | 36 => ⟨S128x8x64x128, .f32⟩
  | 37 => ⟨S_, .f32⟩
  | 38 => ⟨S128x8x64x128, .f32⟩
  | 39 => ⟨S_, .f32⟩
  | 40 => ⟨S128x8x128x128, .f32⟩
  | 41 => ⟨S_, .f32⟩
  | 42 => ⟨S128x8x64x128, .f32⟩
  | 43 => ⟨S_, .f32⟩
  | 44 => ⟨S128x8x1x1, .f32⟩
  | 45 => ⟨S_, .i32⟩
  | 46 => ⟨S128x8x64x128, .f32⟩
  | 47 => ⟨S128x8x64x128, .f32⟩
  | 48 => ⟨S128x8x64x128, .f32⟩
  | 49 => ⟨S128x8x64x128, .f32⟩
  | 50 => ⟨S128x8, .f32⟩
  | 51 => ⟨S128x8x64x64, .f32⟩
  | 52 => ⟨S_, .i32⟩
  | 53 => ⟨S8x128x128, .f32⟩
  | 54 => ⟨S128x8x64x128, .f32⟩
  | 55 => ⟨S128x8x128x128, .f32⟩
  | 56 => ⟨S128x8x64x128, .f32⟩
  | 57 => ⟨S128x8x1x1, .f32⟩
  | 58 => ⟨S_, .i32⟩
  | 59 => ⟨S_, .i1⟩
  | 60 => ⟨S_, .i32⟩
  | 61 => ⟨S_, .i32⟩
  | 62 => ⟨S_, .i32⟩
  | 63 => ⟨S1x8x64x128, .f32⟩
  | 64 => ⟨S8x64x128, .f32⟩
  | 65 => ⟨S_, .i32⟩
  | 66 => ⟨S_, .i32⟩
  | 67 => ⟨S_, .i32⟩
  | 68 => ⟨S1x8x64x128, .f32⟩
  | 69 => ⟨S8x64x128, .f32⟩
  | 70 => ⟨S_, .i32⟩
  | 71 => ⟨S_, .i32⟩
  | 72 => ⟨S_, .i32⟩
  | 73 => ⟨S1x8x64x128, .f32⟩
  | 74 => ⟨S8x64x128, .f32⟩
  | 75 => ⟨S_, .i32⟩
  | 76 => ⟨S_, .i32⟩
  | 77 => ⟨S_, .i32⟩
  | 78 => ⟨S1x8x64x128, .f32⟩
  | 79 => ⟨S8x64x128, .f32⟩
  | 80 => ⟨S_, .i32⟩
  | 81 => ⟨S1x8, .f32⟩
  | 82 => ⟨S8, .f32⟩
  | 83 => ⟨S_, .i32⟩
  | 84 => ⟨S_, .i32⟩
  | 85 => ⟨S_, .i32⟩
  | 86 => ⟨S1x8x64x64, .f32⟩
  | 87 => ⟨S8x64x64, .f32⟩
  | 88 => ⟨S8x64x128, .f32⟩
  | 89 => ⟨S8x64x128, .f32⟩
  | 90 => ⟨S8x64x128, .f32⟩
  | 91 => ⟨S8x64x128, .f32⟩
  | 92 => ⟨S8x64x128, .f32⟩
  | 93 => ⟨S8x1x1, .f32⟩
  | 94 => ⟨S8x128x128, .f32⟩
  | 95 => ⟨S8x128x128, .f32⟩
  | 96 => ⟨S8x128x128, .f32⟩
  | 97 => ⟨S8x128x128, .f32⟩
  | 98 => ⟨S1x8x64x128, .f32⟩
  | 99 => ⟨S_, .i32⟩
  | 100 => ⟨S_, .i32⟩
  | 101 => ⟨S_, .i32⟩
  | 102 => ⟨S128x8x64x128, .f32⟩
  | 103 => ⟨S1x8x128x128, .f32⟩
  | 104 => ⟨S_, .i32⟩
  | 105 => ⟨S_, .i32⟩
  | 106 => ⟨S_, .i32⟩
  | 107 => ⟨S128x8x128x128, .f32⟩
  | 108 => ⟨S1x8x64x128, .f32⟩
  | 109 => ⟨S_, .i32⟩
  | 110 => ⟨S_, .i32⟩
  | 111 => ⟨S_, .i32⟩
  | 112 => ⟨S128x8x64x128, .f32⟩
  | 113 => ⟨S1x8x1x1, .f32⟩
  | 114 => ⟨S_, .i32⟩
  | 115 => ⟨S_, .i32⟩
  | 116 => ⟨S_, .i32⟩
  | 117 => ⟨S128x8x1x1, .f32⟩
  | 118 => ⟨S_, .i32⟩
  | 119 => ⟨S_, .i32⟩
  | 120 => ⟨S128x64x8x128, .f32⟩
  | 121 => ⟨S8192x1024, .f32⟩
  | 122 => ⟨S_, .f32⟩
  | 123 => ⟨S8x128x128, .f32⟩
  | 124 => ⟨S128x64x8x128, .f32⟩
  | 125 => ⟨S128x8x64x128, .f32⟩
  | 126 => ⟨S_, .f32⟩
  | 127 => ⟨S8x128x128, .f32⟩
  | _ => ⟨S8192x1024, .f32⟩

abbrev hbmTy0_1 (i : Nat) : BufTy := match i % 128 with
  | 0 => ⟨S_, .f32⟩
  | 1 => ⟨S128x8x64x128, .f32⟩
  | 2 => ⟨S_, .f32⟩
  | 3 => ⟨S128x8x64x128, .f32⟩
  | 4 => ⟨S_, .f32⟩
  | 5 => ⟨S128x8x64x128, .f32⟩
  | 6 => ⟨S_, .f32⟩
  | 7 => ⟨S128x8x64x128, .f32⟩
  | 8 => ⟨S_, .f32⟩
  | 9 => ⟨S128x8, .f32⟩
  | 10 => ⟨S_, .f32⟩
  | 11 => ⟨S128x8x64x64, .f32⟩
  | 12 => ⟨S_, .i32⟩
  | 13 => ⟨S128x8x64x128, .f32⟩
  | 14 => ⟨S128x8x128x128, .f32⟩
  | 15 => ⟨S128x8x64x128, .f32⟩
  | 16 => ⟨S128x8x64x128, .f32⟩
  | 17 => ⟨S128x8x64x128, .f32⟩
  | 18 => ⟨S128x8x64x64, .f32⟩
  | 19 => ⟨S128x8x1x1, .f32⟩
  | 20 => ⟨S128x8x64x128, .f32⟩
  | 21 => ⟨S_, .i32⟩
  | 22 => ⟨S8x128x128, .f32⟩
  | 23 => ⟨S128x8x64x128, .f32⟩
  | 24 => ⟨S128x8x64x128, .f32⟩
  | 25 => ⟨S128x8x64x128, .f32⟩
  | 26 => ⟨S128x8x64x128, .f32⟩
  | 27 => ⟨S128x8, .f32⟩
  | 28 => ⟨S128x8x64x64, .f32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S1x8x64x128, .f32⟩
  | 39 => ⟨S8x64x128, .f32⟩
  | 40 => ⟨S_, .i32⟩
  | 41 => ⟨S_, .i32⟩
  | 42 => ⟨S_, .i32⟩
  | 43 => ⟨S1x8x128x128, .f32⟩
  | 44 => ⟨S8x128x128, .f32⟩
  | 45 => ⟨S_, .i32⟩
  | 46 => ⟨S_, .i32⟩
  | 47 => ⟨S_, .i32⟩
  | 48 => ⟨S1x8x64x128, .f32⟩
  | 49 => ⟨S8x64x128, .f32⟩
  | 50 => ⟨S_, .i32⟩
  | 51 => ⟨S_, .i32⟩
  | 52 => ⟨S_, .i32⟩
  | 53 => ⟨S1x8x64x128, .f32⟩
  | 54 => ⟨S8x64x128, .f32⟩
  | 55 => ⟨S_, .i32⟩
  | 56 => ⟨S_, .i32⟩
  | 57 => ⟨S_, .i32⟩
  | 58 => ⟨S1x8x64x128, .f32⟩
  | 59 => ⟨S8x64x128, .f32⟩
  | 60 => ⟨S_, .i32⟩
  | 61 => ⟨S_, .i32⟩
  | 62 => ⟨S_, .i32⟩
  | 63 => ⟨S1x8x64x64, .f32⟩
  | 64 => ⟨S8x64x64, .f32⟩
  | 65 => ⟨S_, .i32⟩
  | 66 => ⟨S_, .i32⟩
  | 67 => ⟨S_, .i32⟩
  | 68 => ⟨S1x8x1x1, .f32⟩
  | 69 => ⟨S8x1x1, .f32⟩
  | 70 => ⟨S_, .i32⟩
  | 71 => ⟨S_, .i32⟩
  | 72 => ⟨S_, .i32⟩
  | 73 => ⟨S1x8x64x128, .f32⟩
  | 74 => ⟨S8x64x128, .f32⟩
  | 75 => ⟨S8x128x64, .f32⟩
  | 76 => ⟨S8x64x128, .f32⟩
  | 77 => ⟨S8x128x64, .f32⟩
  | 78 => ⟨S8x64x128, .f32⟩
  | 79 => ⟨S8x128x128, .f32⟩
  | 80 => ⟨S_, .f32⟩
  | 81 => ⟨S8, .f32⟩
  | 82 => ⟨S8x1x1, .f32⟩
  | 83 => ⟨S8x128x128, .f32⟩
  | 84 => ⟨S8x128x128, .f32⟩
  | 85 => ⟨S_, .f32⟩
  | 86 => ⟨S8, .f32⟩
  | 87 => ⟨S8x128x64, .f32⟩
  | 88 => ⟨S8x64x128, .f32⟩
  | 89 => ⟨S8x64x128, .f32⟩
  | 90 => ⟨S8x64x64, .f32⟩
  | 91 => ⟨S8x128x128, .f32⟩
  | 92 => ⟨S8x128x128, .f32⟩
  | 93 => ⟨S8x128x128, .f32⟩
  | 94 => ⟨S8x64x128, .f32⟩
  | 95 => ⟨S8x64x128, .f32⟩
  | 96 => ⟨S8x128x128, .f32⟩
  | 97 => ⟨S8x128x128, .f32⟩
  | 98 => ⟨S8x128x128, .f32⟩
  | 99 => ⟨S8x64x128, .f32⟩
  | 100 => ⟨S1x8x64x128, .f32⟩
  | 101 => ⟨S_, .i32⟩
  | 102 => ⟨S_, .i32⟩
  | 103 => ⟨S_, .i32⟩
  | 104 => ⟨S128x8x64x128, .f32⟩
  | 105 => ⟨S1x8x64x128, .f32⟩
  | 106 => ⟨S_, .i32⟩
  | 107 => ⟨S_, .i32⟩
  | 108 => ⟨S_, .i32⟩
  | 109 => ⟨S128x8x64x128, .f32⟩
  | 110 => ⟨S1x8x64x128, .f32⟩
  | 111 => ⟨S_, .i32⟩
  | 112 => ⟨S_, .i32⟩
  | 113 => ⟨S_, .i32⟩
  | 114 => ⟨S128x8x64x128, .f32⟩
  | 115 => ⟨S1x8x64x128, .f32⟩
  | 116 => ⟨S_, .i32⟩
  | 117 => ⟨S_, .i32⟩
  | 118 => ⟨S_, .i32⟩
  | 119 => ⟨S128x8x64x128, .f32⟩
  | 120 => ⟨S1x8, .f32⟩
  | 121 => ⟨S_, .i32⟩
  | 122 => ⟨S128x8, .f32⟩
  | 123 => ⟨S1x8x64x64, .f32⟩
  | 124 => ⟨S_, .i32⟩
  | 125 => ⟨S_, .i32⟩
  | 126 => ⟨S_, .i32⟩
  | 127 => ⟨S128x8x64x64, .f32⟩
  | _ => ⟨S8192x1024, .f32⟩

abbrev hbmTy0_2 (i : Nat) : BufTy := match i % 128 with
  | 0 => ⟨S_, .i32⟩
  | 1 => ⟨S_, .i32⟩
  | 2 => ⟨S128x64x8x128, .f32⟩
  | 3 => ⟨S8192x1024, .f32⟩
  | 4 => ⟨S128x64x8x128, .f32⟩
  | 5 => ⟨S8192x1024, .f32⟩
  | 6 => ⟨S128x64x8x128, .f32⟩
  | 7 => ⟨S8192x1024, .f32⟩
  | 8 => ⟨S128x64x8x128, .f32⟩
  | 9 => ⟨S8192x1024, .f32⟩
  | 10 => ⟨S_, .f32⟩
  | 11 => ⟨S128x8x64x64, .f32⟩
  | 12 => ⟨S128x8x64x64, .f32⟩
  | 13 => ⟨S8x128x64x64, .f32⟩
  | 14 => ⟨S8x8192x64, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_call1_v0 : Ref sig .tc := ⟨.hbm, 21, rfl⟩
abbrev main_v4_1 : Ref sig .tc := ⟨.hbm, 22, rfl⟩
abbrev main_call1_v2 : Ref sig .tc := ⟨.hbm, 23, rfl⟩
abbrev main_v4_0 : Ref sig .tc := ⟨.hbm, 24, rfl⟩
abbrev main_call1_cst : Ref sig .tc := ⟨.hbm, 25, rfl⟩
abbrev main_v4_2 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_cst_3 : Ref sig .tc := ⟨.hbm, 41, rfl⟩
abbrev main_v16 : Ref sig .tc := ⟨.hbm, 42, rfl⟩
abbrev main_cst_4 : Ref sig .tc := ⟨.hbm, 43, rfl⟩
abbrev main_v17 : Ref sig .tc := ⟨.hbm, 44, rfl⟩
abbrev main_c_5 : Ref sig .tc := ⟨.hbm, 45, rfl⟩
abbrev main_v18_0 : Ref sig .tc := ⟨.hbm, 46, rfl⟩
abbrev main_v18_1 : Ref sig .tc := ⟨.hbm, 47, rfl⟩
abbrev main_v18_2 : Ref sig .tc := ⟨.hbm, 48, rfl⟩
abbrev main_v18_3 : Ref sig .tc := ⟨.hbm, 49, rfl⟩
abbrev main_v18_4 : Ref sig .tc := ⟨.hbm, 50, rfl⟩
abbrev main_v18_5 : Ref sig .tc := ⟨.hbm, 51, rfl⟩
abbrev main_v18_6 : Ref sig .tc := ⟨.hbm, 52, rfl⟩
abbrev main_v18_7 : Ref sig .tc := ⟨.hbm, 53, rfl⟩
abbrev main_v18_8 : Ref sig .tc := ⟨.hbm, 54, rfl⟩
abbrev main_v18_9 : Ref sig .tc := ⟨.hbm, 55, rfl⟩
abbrev main_v18_10 : Ref sig .tc := ⟨.hbm, 56, rfl⟩
abbrev main_v18_11 : Ref sig .tc := ⟨.hbm, 57, rfl⟩
abbrev main_while0c_c_26 : Ref sig .tc := ⟨.hbm, 58, rfl⟩
abbrev main_while0c_v43 : Ref sig .tc := ⟨.hbm, 59, rfl⟩
abbrev main_while0b_call2_c : Ref sig .tc := ⟨.hbm, 60, rfl⟩
abbrev main_while0b_call2_c_0 : Ref sig .tc := ⟨.hbm, 61, rfl⟩
abbrev main_while0b_call2_c_1 : Ref sig .tc := ⟨.hbm, 62, rfl⟩
abbrev main_while0b_call2_v0 : Ref sig .tc := ⟨.hbm, 63, rfl⟩
abbrev main_while0b_v43 : Ref sig .tc := ⟨.hbm, 64, rfl⟩
abbrev main_while0b_call3_c : Ref sig .tc := ⟨.hbm, 65, rfl⟩
abbrev main_while0b_call3_c_0 : Ref sig .tc := ⟨.hbm, 66, rfl⟩
abbrev main_while0b_call3_c_1 : Ref sig .tc := ⟨.hbm, 67, rfl⟩
abbrev main_while0b_call3_v0 : Ref sig .tc := ⟨.hbm, 68, rfl⟩
abbrev main_while0b_v44 : Ref sig .tc := ⟨.hbm, 69, rfl⟩
abbrev main_while0b_call4_c : Ref sig .tc := ⟨.hbm, 70, rfl⟩
abbrev main_while0b_call4_c_0 : Ref sig .tc := ⟨.hbm, 71, rfl⟩
abbrev main_while0b_call4_c_1 : Ref sig .tc := ⟨.hbm, 72, rfl⟩
abbrev main_while0b_call4_v0 : Ref sig .tc := ⟨.hbm, 73, rfl⟩
abbrev main_while0b_v45 : Ref sig .tc := ⟨.hbm, 74, rfl⟩
abbrev main_while0b_call5_c : Ref sig .tc := ⟨.hbm, 75, rfl⟩
abbrev main_while0b_call5_c_0 : Ref sig .tc := ⟨.hbm, 76, rfl⟩
abbrev main_while0b_call5_c_1 : Ref sig .tc := ⟨.hbm, 77, rfl⟩
abbrev main_while0b_call5_v0 : Ref sig .tc := ⟨.hbm, 78, rfl⟩
abbrev main_while0b_v46 : Ref sig .tc := ⟨.hbm, 79, rfl⟩
abbrev main_while0b_call6_c : Ref sig .tc := ⟨.hbm, 80, rfl⟩
abbrev main_while0b_call6_v0 : Ref sig .tc := ⟨.hbm, 81, rfl⟩
abbrev main_while0b_v47 : Ref sig .tc := ⟨.hbm, 82, rfl⟩
abbrev main_while0b_call7_c : Ref sig .tc := ⟨.hbm, 83, rfl⟩
abbrev main_while0b_call7_c_0 : Ref sig .tc := ⟨.hbm, 84, rfl⟩
abbrev main_while0b_call7_c_1 : Ref sig .tc := ⟨.hbm, 85, rfl⟩
abbrev main_while0b_call7_v0 : Ref sig .tc := ⟨.hbm, 86, rfl⟩
abbrev main_while0b_v48 : Ref sig .tc := ⟨.hbm, 87, rfl⟩
abbrev main_while0b_v49 : Ref sig .tc := ⟨.hbm, 88, rfl⟩
abbrev main_while0b_v50 : Ref sig .tc := ⟨.hbm, 89, rfl⟩
abbrev main_while0b_v51 : Ref sig .tc := ⟨.hbm, 90, rfl⟩
abbrev main_while0b_v52 : Ref sig .tc := ⟨.hbm, 91, rfl⟩
abbrev main_while0b_v53 : Ref sig .tc := ⟨.hbm, 92, rfl⟩
abbrev main_while0b_v54 : Ref sig .tc := ⟨.hbm, 93, rfl⟩
abbrev main_while0b_v55 : Ref sig .tc := ⟨.hbm, 94, rfl⟩
abbrev main_while0b_v56 : Ref sig .tc := ⟨.hbm, 95, rfl⟩
abbrev main_while0b_v57 : Ref sig .tc := ⟨.hbm, 96, rfl⟩
abbrev main_while0b_v58 : Ref sig .tc := ⟨.hbm, 97, rfl⟩
abbrev main_while0b_call8_v0 : Ref sig .tc := ⟨.hbm, 98, rfl⟩
abbrev main_while0b_call8_c : Ref sig .tc := ⟨.hbm, 99, rfl⟩
abbrev main_while0b_call8_c_0 : Ref sig .tc := ⟨.hbm, 100, rfl⟩
abbrev main_while0b_call8_c_1 : Ref sig .tc := ⟨.hbm, 101, rfl⟩
abbrev main_while0b_v59 : Ref sig .tc := ⟨.hbm, 102, rfl⟩
abbrev main_while0b_call9_v0 : Ref sig .tc := ⟨.hbm, 103, rfl⟩
abbrev main_while0b_call9_c : Ref sig .tc := ⟨.hbm, 104, rfl⟩
abbrev main_while0b_call9_c_0 : Ref sig .tc := ⟨.hbm, 105, rfl⟩
abbrev main_while0b_call9_c_1 : Ref sig .tc := ⟨.hbm, 106, rfl⟩
abbrev main_while0b_v60 : Ref sig .tc := ⟨.hbm, 107, rfl⟩
abbrev main_while0b_call10_v0 : Ref sig .tc := ⟨.hbm, 108, rfl⟩
abbrev main_while0b_call10_c : Ref sig .tc := ⟨.hbm, 109, rfl⟩
abbrev main_while0b_call10_c_0 : Ref sig .tc := ⟨.hbm, 110, rfl⟩
abbrev main_while0b_call10_c_1 : Ref sig .tc := ⟨.hbm, 111, rfl⟩
abbrev main_while0b_v61 : Ref sig .tc := ⟨.hbm, 112, rfl⟩
abbrev main_while0b_call11_v0 : Ref sig .tc := ⟨.hbm, 113, rfl⟩
abbrev main_while0b_call11_c : Ref sig .tc := ⟨.hbm, 114, rfl⟩
abbrev main_while0b_call11_c_0 : Ref sig .tc := ⟨.hbm, 115, rfl⟩
abbrev main_while0b_call11_c_1 : Ref sig .tc := ⟨.hbm, 116, rfl⟩
abbrev main_while0b_v62 : Ref sig .tc := ⟨.hbm, 117, rfl⟩
abbrev main_while0b_c_26 : Ref sig .tc := ⟨.hbm, 118, rfl⟩
abbrev main_while0b_v63 : Ref sig .tc := ⟨.hbm, 119, rfl⟩
abbrev main_v19 : Ref sig .tc := ⟨.hbm, 120, rfl⟩
abbrev main_v20 : Ref sig .tc := ⟨.hbm, 121, rfl⟩
abbrev main_cst_6 : Ref sig .tc := ⟨.hbm, 122, rfl⟩
abbrev main_v21 : Ref sig .tc := ⟨.hbm, 123, rfl⟩
abbrev main_v22 : Ref sig .tc := ⟨.hbm, 124, rfl⟩
abbrev main_v23 : Ref sig .tc := ⟨.hbm, 125, rfl⟩
abbrev main_cst_7 : Ref sig .tc := ⟨.hbm, 126, rfl⟩
abbrev main_v24 : Ref sig .tc := ⟨.hbm, 127, rfl⟩
abbrev main_cst_8 : Ref sig .tc := ⟨.hbm, 128, rfl⟩
abbrev main_v25 : Ref sig .tc := ⟨.hbm, 129, rfl⟩
abbrev main_cst_9 : Ref sig .tc := ⟨.hbm, 130, rfl⟩
abbrev main_v26 : Ref sig .tc := ⟨.hbm, 131, rfl⟩
abbrev main_cst_10 : Ref sig .tc := ⟨.hbm, 132, rfl⟩
abbrev main_v27 : Ref sig .tc := ⟨.hbm, 133, rfl⟩
abbrev main_cst_11 : Ref sig .tc := ⟨.hbm, 134, rfl⟩
abbrev main_v28 : Ref sig .tc := ⟨.hbm, 135, rfl⟩
abbrev main_cst_12 : Ref sig .tc := ⟨.hbm, 136, rfl⟩
abbrev main_v29 : Ref sig .tc := ⟨.hbm, 137, rfl⟩
abbrev main_cst_13 : Ref sig .tc := ⟨.hbm, 138, rfl⟩
abbrev main_v30 : Ref sig .tc := ⟨.hbm, 139, rfl⟩
abbrev main_c_14 : Ref sig .tc := ⟨.hbm, 140, rfl⟩
abbrev main_v31_0 : Ref sig .tc := ⟨.hbm, 141, rfl⟩
abbrev main_v31_1 : Ref sig .tc := ⟨.hbm, 142, rfl⟩
abbrev main_v31_2 : Ref sig .tc := ⟨.hbm, 143, rfl⟩
abbrev main_v31_3 : Ref sig .tc := ⟨.hbm, 144, rfl⟩
abbrev main_v31_4 : Ref sig .tc := ⟨.hbm, 145, rfl⟩
abbrev main_v31_5 : Ref sig .tc := ⟨.hbm, 146, rfl⟩
abbrev main_v31_6 : Ref sig .tc := ⟨.hbm, 147, rfl⟩
abbrev main_v31_7 : Ref sig .tc := ⟨.hbm, 148, rfl⟩
abbrev main_v31_8 : Ref sig .tc := ⟨.hbm, 149, rfl⟩
abbrev main_v31_9 : Ref sig .tc := ⟨.hbm, 150, rfl⟩
abbrev main_v31_10 : Ref sig .tc := ⟨.hbm, 151, rfl⟩
abbrev main_v31_11 : Ref sig .tc := ⟨.hbm, 152, rfl⟩
abbrev main_v31_12 : Ref sig .tc := ⟨.hbm, 153, rfl⟩
abbrev main_v31_13 : Ref sig .tc := ⟨.hbm, 154, rfl⟩
abbrev main_v31_14 : Ref sig .tc := ⟨.hbm, 155, rfl⟩
abbrev main_v31_15 : Ref sig .tc := ⟨.hbm, 156, rfl⟩
abbrev main_while1c_c_30 : Ref sig .tc := ⟨.hbm, 157, rfl⟩
abbrev main_while1c_v43 : Ref sig .tc := ⟨.hbm, 158, rfl⟩
abbrev main_while1b_c_30 : Ref sig .tc := ⟨.hbm, 159, rfl⟩
abbrev main_while1b_v43 : Ref sig .tc := ⟨.hbm, 160, rfl⟩
abbrev main_while1b_c_31 : Ref sig .tc := ⟨.hbm, 161, rfl⟩
abbrev main_while1b_v44 : Ref sig .tc := ⟨.hbm, 162, rfl⟩
abbrev main_while1b_call12_c : Ref sig .tc := ⟨.hbm, 163, rfl⟩
abbrev main_while1b_call12_c_0 : Ref sig .tc := ⟨.hbm, 164, rfl⟩
abbrev main_while1b_call12_c_1 : Ref sig .tc := ⟨.hbm, 165, rfl⟩
abbrev main_while1b_call12_v0 : Ref sig .tc := ⟨.hbm, 166, rfl⟩
abbrev main_while1b_v45 : Ref sig .tc := ⟨.hbm, 167, rfl⟩
abbrev main_while1b_call13_c : Ref sig .tc := ⟨.hbm, 168, rfl⟩
abbrev main_while1b_call13_c_0 : Ref sig .tc := ⟨.hbm, 169, rfl⟩
abbrev main_while1b_call13_c_1 : Ref sig .tc := ⟨.hbm, 170, rfl⟩
abbrev main_while1b_call13_v0 : Ref sig .tc := ⟨.hbm, 171, rfl⟩
abbrev main_while1b_v46 : Ref sig .tc := ⟨.hbm, 172, rfl⟩
abbrev main_while1b_call14_c : Ref sig .tc := ⟨.hbm, 173, rfl⟩
abbrev main_while1b_call14_c_0 : Ref sig .tc := ⟨.hbm, 174, rfl⟩
abbrev main_while1b_call14_c_1 : Ref sig .tc := ⟨.hbm, 175, rfl⟩
abbrev main_while1b_call14_v0 : Ref sig .tc := ⟨.hbm, 176, rfl⟩
abbrev main_while1b_v47 : Ref sig .tc := ⟨.hbm, 177, rfl⟩
abbrev main_while1b_call15_c : Ref sig .tc := ⟨.hbm, 178, rfl⟩
abbrev main_while1b_call15_c_0 : Ref sig .tc := ⟨.hbm, 179, rfl⟩
abbrev main_while1b_call15_c_1 : Ref sig .tc := ⟨.hbm, 180, rfl⟩
abbrev main_while1b_call15_v0 : Ref sig .tc := ⟨.hbm, 181, rfl⟩
abbrev main_while1b_v48 : Ref sig .tc := ⟨.hbm, 182, rfl⟩
abbrev main_while1b_call16_c : Ref sig .tc := ⟨.hbm, 183, rfl⟩
abbrev main_while1b_call16_c_0 : Ref sig .tc := ⟨.hbm, 184, rfl⟩
abbrev main_while1b_call16_c_1 : Ref sig .tc := ⟨.hbm, 185, rfl⟩
abbrev main_while1b_call16_v0 : Ref sig .tc := ⟨.hbm, 186, rfl⟩
abbrev main_while1b_v49 : Ref sig .tc := ⟨.hbm, 187, rfl⟩
abbrev main_while1b_call17_c : Ref sig .tc := ⟨.hbm, 188, rfl⟩
abbrev main_while1b_call17_c_0 : Ref sig .tc := ⟨.hbm, 189, rfl⟩
abbrev main_while1b_call17_c_1 : Ref sig .tc := ⟨.hbm, 190, rfl⟩
abbrev main_while1b_call17_v0 : Ref sig .tc := ⟨.hbm, 191, rfl⟩
abbrev main_while1b_v50 : Ref sig .tc := ⟨.hbm, 192, rfl⟩
abbrev main_while1b_call18_c : Ref sig .tc := ⟨.hbm, 193, rfl⟩
abbrev main_while1b_call18_c_0 : Ref sig .tc := ⟨.hbm, 194, rfl⟩
abbrev main_while1b_call18_c_1 : Ref sig .tc := ⟨.hbm, 195, rfl⟩
abbrev main_while1b_call18_v0 : Ref sig .tc := ⟨.hbm, 196, rfl⟩
abbrev main_while1b_v51 : Ref sig .tc := ⟨.hbm, 197, rfl⟩
abbrev main_while1b_call19_c : Ref sig .tc := ⟨.hbm, 198, rfl⟩
abbrev main_while1b_call19_c_0 : Ref sig .tc := ⟨.hbm, 199, rfl⟩
abbrev main_while1b_call19_c_1 : Ref sig .tc := ⟨.hbm, 200, rfl⟩
abbrev main_while1b_call19_v0 : Ref sig .tc := ⟨.hbm, 201, rfl⟩
abbrev main_while1b_v52 : Ref sig .tc := ⟨.hbm, 202, rfl⟩
abbrev main_while1b_v53 : Ref sig .tc := ⟨.hbm, 203, rfl⟩
abbrev main_while1b_v54 : Ref sig .tc := ⟨.hbm, 204, rfl⟩
abbrev main_while1b_v55 : Ref sig .tc := ⟨.hbm, 205, rfl⟩
abbrev main_while1b_v56 : Ref sig .tc := ⟨.hbm, 206, rfl⟩
abbrev main_while1b_v57 : Ref sig .tc := ⟨.hbm, 207, rfl⟩
abbrev main_while1b_cst_32 : Ref sig .tc := ⟨.hbm, 208, rfl⟩
abbrev main_while1b_v58 : Ref sig .tc := ⟨.hbm, 209, rfl⟩
abbrev main_while1b_v59 : Ref sig .tc := ⟨.hbm, 210, rfl⟩
abbrev main_while1b_v60 : Ref sig .tc := ⟨.hbm, 211, rfl⟩
abbrev main_while1b_v61 : Ref sig .tc := ⟨.hbm, 212, rfl⟩
abbrev main_while1b_cst_33 : Ref sig .tc := ⟨.hbm, 213, rfl⟩
abbrev main_while1b_v62 : Ref sig .tc := ⟨.hbm, 214, rfl⟩
abbrev main_while1b_v63 : Ref sig .tc := ⟨.hbm, 215, rfl⟩
abbrev main_while1b_v64 : Ref sig .tc := ⟨.hbm, 216, rfl⟩
abbrev main_while1b_v65 : Ref sig .tc := ⟨.hbm, 217, rfl⟩
abbrev main_while1b_v66 : Ref sig .tc := ⟨.hbm, 218, rfl⟩
abbrev main_while1b_v67 : Ref sig .tc := ⟨.hbm, 219, rfl⟩
abbrev main_while1b_v68 : Ref sig .tc := ⟨.hbm, 220, rfl⟩
abbrev main_while1b_v69 : Ref sig .tc := ⟨.hbm, 221, rfl⟩
abbrev main_while1b_v70 : Ref sig .tc := ⟨.hbm, 222, rfl⟩
abbrev main_while1b_v71 : Ref sig .tc := ⟨.hbm, 223, rfl⟩
abbrev main_while1b_v72 : Ref sig .tc := ⟨.hbm, 224, rfl⟩
abbrev main_while1b_v73 : Ref sig .tc := ⟨.hbm, 225, rfl⟩
abbrev main_while1b_v74 : Ref sig .tc := ⟨.hbm, 226, rfl⟩
abbrev main_while1b_v75 : Ref sig .tc := ⟨.hbm, 227, rfl⟩
abbrev main_while1b_call20_v0 : Ref sig .tc := ⟨.hbm, 228, rfl⟩
abbrev main_while1b_call20_c : Ref sig .tc := ⟨.hbm, 229, rfl⟩
abbrev main_while1b_call20_c_0 : Ref sig .tc := ⟨.hbm, 230, rfl⟩
abbrev main_while1b_call20_c_1 : Ref sig .tc := ⟨.hbm, 231, rfl⟩
abbrev main_while1b_v76 : Ref sig .tc := ⟨.hbm, 232, rfl⟩
abbrev main_while1b_call21_v0 : Ref sig .tc := ⟨.hbm, 233, rfl⟩
abbrev main_while1b_call21_c : Ref sig .tc := ⟨.hbm, 234, rfl⟩
abbrev main_while1b_call21_c_0 : Ref sig .tc := ⟨.hbm, 235, rfl⟩
abbrev main_while1b_call21_c_1 : Ref sig .tc := ⟨.hbm, 236, rfl⟩
abbrev main_while1b_v77 : Ref sig .tc := ⟨.hbm, 237, rfl⟩
abbrev main_while1b_call22_v0 : Ref sig .tc := ⟨.hbm, 238, rfl⟩
abbrev main_while1b_call22_c : Ref sig .tc := ⟨.hbm, 239, rfl⟩
abbrev main_while1b_call22_c_0 : Ref sig .tc := ⟨.hbm, 240, rfl⟩
abbrev main_while1b_call22_c_1 : Ref sig .tc := ⟨.hbm, 241, rfl⟩
abbrev main_while1b_v78 : Ref sig .tc := ⟨.hbm, 242, rfl⟩
abbrev main_while1b_call23_v0 : Ref sig .tc := ⟨.hbm, 243, rfl⟩
abbrev main_while1b_call23_c : Ref sig .tc := ⟨.hbm, 244, rfl⟩
abbrev main_while1b_call23_c_0 : Ref sig .tc := ⟨.hbm, 245, rfl⟩
abbrev main_while1b_call23_c_1 : Ref sig .tc := ⟨.hbm, 246, rfl⟩
abbrev main_while1b_v79 : Ref sig .tc := ⟨.hbm, 247, rfl⟩
abbrev main_while1b_call24_v0 : Ref sig .tc := ⟨.hbm, 248, rfl⟩
abbrev main_while1b_call24_c : Ref sig .tc := ⟨.hbm, 249, rfl⟩
abbrev main_while1b_v80 : Ref sig .tc := ⟨.hbm, 250, rfl⟩
abbrev main_while1b_call25_v0 : Ref sig .tc := ⟨.hbm, 251, rfl⟩
abbrev main_while1b_call25_c : Ref sig .tc := ⟨.hbm, 252, rfl⟩
abbrev main_while1b_call25_c_0 : Ref sig .tc := ⟨.hbm, 253, rfl⟩
abbrev main_while1b_call25_c_1 : Ref sig .tc := ⟨.hbm, 254, rfl⟩
abbrev main_while1b_v81 : Ref sig .tc := ⟨.hbm, 255, rfl⟩
abbrev main_while1b_c_34 : Ref sig .tc := ⟨.hbm, 256, rfl⟩
abbrev main_while1b_v82 : Ref sig .tc := ⟨.hbm, 257, rfl⟩
abbrev main_v32 : Ref sig .tc := ⟨.hbm, 258, rfl⟩
abbrev main_v33 : Ref sig .tc := ⟨.hbm, 259, rfl⟩
abbrev main_v34 : Ref sig .tc := ⟨.hbm, 260, rfl⟩
abbrev main_v35 : Ref sig .tc := ⟨.hbm, 261, rfl⟩
abbrev main_v36 : Ref sig .tc := ⟨.hbm, 262, rfl⟩
abbrev main_v37 : Ref sig .tc := ⟨.hbm, 263, rfl⟩
abbrev main_v38 : Ref sig .tc := ⟨.hbm, 264, rfl⟩
abbrev main_v39 : Ref sig .tc := ⟨.hbm, 265, rfl⟩
abbrev main_call26_cst : Ref sig .tc := ⟨.hbm, 266, rfl⟩
abbrev main_call26_v0 : Ref sig .tc := ⟨.hbm, 267, rfl⟩
abbrev main_v40 : Ref sig .tc := ⟨.hbm, 268, rfl⟩
abbrev main_v41 : Ref sig .tc := ⟨.hbm, 269, rfl⟩
abbrev main_v42 : Ref sig .tc := ⟨.hbm, 270, rfl⟩

abbrev nD : Nat := 1
abbrev τ : Topo := Topo.v7x

variable {F : FTy → Type} [FloatOps F]

abbrev main_while0_count : Scf.Loop 32 := ⟨0#32, 128#32, 1#32⟩

abbrev main_while1_count : Scf.Loop 32 := ⟨0#32, 128#32, 1#32⟩
-- ==== Kernel2.lean ====
abbrev S8192x2048 : Shape := ⟨2, ![8192, 2048]⟩
abbrev S2048x11264 : Shape := ⟨2, ![2048, 11264]⟩
abbrev S8192x11264 : Shape := ⟨2, ![8192, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x2048, .bf16⟩
  | .hbm, ⟨3, _⟩ => ⟨S2048x11264, .bf16⟩
  | .hbm, ⟨4, _⟩ => ⟨S8192x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel2Ideal.lean ====
abbrev S8192x2048 : Shape := ⟨2, ![8192, 2048]⟩
abbrev S2048x11264 : Shape := ⟨2, ![2048, 11264]⟩
abbrev S8192x11264 : Shape := ⟨2, ![8192, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x2048, .bf16⟩
  | .hbm, ⟨3, _⟩ => ⟨S2048x11264, .bf16⟩
  | .hbm, ⟨4, _⟩ => ⟨S8192x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel3.lean ====
abbrev S8192x11264 : Shape := ⟨2, ![8192, 11264]⟩
abbrev S2048x11264 : Shape := ⟨2, ![2048, 11264]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x11264, .f32⟩
  | .hbm, ⟨1, _⟩ => ⟨S2048x11264, .f32⟩
  | .hbm, ⟨2, _⟩ => ⟨S8192x11264, .bf16⟩
  | .hbm, ⟨3, _⟩ => ⟨S2048x11264, .bf16⟩
  | .hbm, ⟨4, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel3Ideal.lean ====
abbrev S8192x11264 : Shape := ⟨2, ![8192, 11264]⟩
abbrev S2048x11264 : Shape := ⟨2, ![2048, 11264]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x11264, .f32⟩
  | .hbm, ⟨1, _⟩ => ⟨S2048x11264, .f32⟩
  | .hbm, ⟨2, _⟩ => ⟨S8192x11264, .bf16⟩
  | .hbm, ⟨3, _⟩ => ⟨S2048x11264, .bf16⟩
  | .hbm, ⟨4, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x11264 : Shape := ⟨2, ![8192, 11264]⟩
abbrev S2048x11264 : Shape := ⟨2, ![2048, 11264]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S2048x11264, .f32⟩
  | .hbm, ⟨2, _⟩ => ⟨S_, .f32⟩
  | .hbm, ⟨3, _⟩ => ⟨S8192x2048, .f32⟩
  | .hbm, ⟨4, _⟩ => ⟨S8192x11264, .f32⟩
  | .hbm, ⟨5, _⟩ => ⟨S8192x2048, .f32⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S8192x2048 : Shape := ⟨2, ![8192, 2048]⟩
abbrev S8192x11264 : Shape := ⟨2, ![8192, 11264]⟩
abbrev S2048x11264 : Shape := ⟨2, ![2048, 11264]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x11264, .f32⟩
  | .hbm, ⟨2, _⟩ => ⟨S8192x2048, .bf16⟩
  | .hbm, ⟨3, _⟩ => ⟨S8192x11264, .bf16⟩
  | .hbm, ⟨4, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel4Ideal.lean ====
abbrev S8192x2048 : Shape := ⟨2, ![8192, 2048]⟩
abbrev S8192x11264 : Shape := ⟨2, ![8192, 11264]⟩
abbrev S2048x11264 : Shape := ⟨2, ![2048, 11264]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x11264, .f32⟩
  | .hbm, ⟨2, _⟩ => ⟨S8192x2048, .bf16⟩
  | .hbm, ⟨3, _⟩ => ⟨S8192x11264, .bf16⟩
  | .hbm, ⟨4, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x11264, .f32⟩
  | .hbm, ⟨2, _⟩ => ⟨S_, .f32⟩
  | .hbm, ⟨3, _⟩ => ⟨S2048x11264, .f32⟩
  | .hbm, ⟨4, _⟩ => ⟨S8192x11264, .f32⟩
  | .hbm, ⟨5, _⟩ => ⟨S11264x2048, .f32⟩
  | .hbm, ⟨6, _⟩ => ⟨S2048x11264, .f32⟩
  | .hbm, ⟨7, _⟩ => ⟨S2048x11264, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x5632, .bf16⟩
  | .hbm, ⟨3, _⟩ => ⟨S5632x2048, .bf16⟩
  | .hbm, ⟨4, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel5Ideal.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x5632, .bf16⟩
  | .hbm, ⟨3, _⟩ => ⟨S5632x2048, .bf16⟩
  | .hbm, ⟨4, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel6.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S5632x2048, .bf16⟩
  | .hbm, ⟨3, _⟩ => ⟨S8192x5632, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel6Ideal.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S5632x2048, .bf16⟩
  | .hbm, ⟨3, _⟩ => ⟨S8192x5632, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S_, .f32⟩
  | .hbm, ⟨3, _⟩ => ⟨S8192x5632, .f32⟩
  | .hbm, ⟨4, _⟩ => ⟨S8192x2048, .f32⟩
  | .hbm, ⟨5, _⟩ => ⟨S8192x5632, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S8192x5632, .bf16⟩
  | .hbm, ⟨3, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel7Ideal.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S8192x5632, .bf16⟩
  | .hbm, ⟨3, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S_, .f32⟩
  | .hbm, ⟨3, _⟩ => ⟨S5632x2048, .f32⟩
  | .hbm, ⟨4, _⟩ => ⟨S8192x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x2048 : Shape := ⟨2, ![8192, 2048]⟩
abbrev S2048x16384 : Shape := ⟨2, ![2048, 16384]⟩
abbrev S8192x16384 : Shape := ⟨2, ![8192, 16384]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x16384, .f32⟩
  | .hbm, ⟨2, _⟩ => ⟨S8192x2048, .bf16⟩
  | .hbm, ⟨3, _⟩ => ⟨S2048x16384, .bf16⟩
  | .hbm, ⟨4, _⟩ => ⟨S8192x16384, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S8192x2048 : Shape := ⟨2, ![8192, 2048]⟩
abbrev S2048x16384 : Shape := ⟨2, ![2048, 16384]⟩
abbrev S8192x16384 : Shape := ⟨2, ![8192, 16384]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x16384, .f32⟩
  | .hbm, ⟨2, _⟩ => ⟨S8192x2048, .bf16⟩
  | .hbm, ⟨3, _⟩ => ⟨S2048x16384, .bf16⟩
  | .hbm, ⟨4, _⟩ => ⟨S8192x16384, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x16384 : Shape := ⟨2, ![2048, 16384]⟩
abbrev S8192x16384 : Shape := ⟨2, ![8192, 16384]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x16384, .f32⟩
  | .hbm, ⟨2, _⟩ => ⟨S8192x16384, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S8192x16384 : Shape := ⟨2, ![8192, 16384]⟩
abbrev S2048x16384 : Shape := ⟨2, ![2048, 16384]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x16384, .f32⟩
  | .hbm, ⟨1, _⟩ => ⟨S2048x16384, .f32⟩
  | .hbm, ⟨2, _⟩ => ⟨S8192x16384, .bf16⟩
  | .hbm, ⟨3, _⟩ => ⟨S2048x16384, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel9Ideal.lean ====
abbrev S8192x16384 : Shape := ⟨2, ![8192, 16384]⟩
abbrev S2048x16384 : Shape := ⟨2, ![2048, 16384]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x16384, .f32⟩
  | .hbm, ⟨1, _⟩ => ⟨S2048x16384, .f32⟩
  | .hbm, ⟨2, _⟩ => ⟨S8192x16384, .bf16⟩
  | .hbm, ⟨3, _⟩ => ⟨S2048x16384, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x16384 : Shape := ⟨2, ![8192, 16384]⟩
abbrev S2048x16384 : Shape := ⟨2, ![2048, 16384]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S2048x16384, .f32⟩
  | .hbm, ⟨2, _⟩ => ⟨S_, .f32⟩
  | .hbm, ⟨3, _⟩ => ⟨S8192x2048, .f32⟩
  | .hbm, ⟨4, _⟩ => ⟨S8192x16384, .f32⟩
  | .hbm, ⟨5, _⟩ => ⟨S8192x2048, .f32⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S8192x2048 : Shape := ⟨2, ![8192, 2048]⟩
abbrev S8192x16384 : Shape := ⟨2, ![8192, 16384]⟩
abbrev S2048x16384 : Shape := ⟨2, ![2048, 16384]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x16384, .f32⟩
  | .hbm, ⟨2, _⟩ => ⟨S8192x2048, .bf16⟩
  | .hbm, ⟨3, _⟩ => ⟨S8192x16384, .bf16⟩
  | .hbm, ⟨4, _⟩ => ⟨S2048x16384, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S8192x2048 : Shape := ⟨2, ![8192, 2048]⟩
abbrev S8192x16384 : Shape := ⟨2, ![8192, 16384]⟩
abbrev S2048x16384 : Shape := ⟨2, ![2048, 16384]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x16384, .f32⟩
  | .hbm, ⟨2, _⟩ => ⟨S8192x2048, .bf16⟩
  | .hbm, ⟨3, _⟩ => ⟨S8192x16384, .bf16⟩
  | .hbm, ⟨4, _⟩ => ⟨S2048x16384, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S8192x16384 : Shape := ⟨2, ![8192, 16384]⟩
abbrev S_ : Shape := ⟨0, ![]⟩
abbrev S2048x16384 : Shape := ⟨2, ![2048, 16384]⟩
abbrev S16384x2048 : Shape := ⟨2, ![16384, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x16384, .f32⟩
  | .hbm, ⟨2, _⟩ => ⟨S_, .f32⟩
  | .hbm, ⟨3, _⟩ => ⟨S2048x16384, .f32⟩
  | .hbm, ⟨4, _⟩ => ⟨S8192x16384, .f32⟩
  | .hbm, ⟨5, _⟩ => ⟨S16384x2048, .f32⟩
  | .hbm, ⟨6, _⟩ => ⟨S2048x16384, .f32⟩
  | .hbm, ⟨7, _⟩ => ⟨S2048x16384, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel11Ideal.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .bf16⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .bf16⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel13Ideal.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S1024x2048, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel14Ideal.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S1024x2048, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S8192x2048 : Shape := ⟨2, ![8192, 2048]⟩
abbrev S1024x2048 : Shape := ⟨2, ![1024, 2048]⟩
abbrev S8192x1024 : Shape := ⟨2, ![8192, 1024]⟩
abbrev S512x2048 : Shape := ⟨2, ![512, 2048]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x2048, .bf16⟩
  | .hbm, ⟨3, _⟩ => ⟨S1024x2048, .bf16⟩
  | .hbm, ⟨4, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel15Ideal.lean ====
abbrev S8192x2048 : Shape := ⟨2, ![8192, 2048]⟩
abbrev S1024x2048 : Shape := ⟨2, ![1024, 2048]⟩
abbrev S8192x1024 : Shape := ⟨2, ![8192, 1024]⟩
abbrev S512x2048 : Shape := ⟨2, ![512, 2048]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x2048, .bf16⟩
  | .hbm, ⟨3, _⟩ => ⟨S1024x2048, .bf16⟩
  | .hbm, ⟨4, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S_, .f32⟩
  | .hbm, ⟨3, _⟩ => ⟨S8192x1024, .f32⟩
  | .hbm, ⟨4, _⟩ => ⟨S8192x2048, .f32⟩
  | .hbm, ⟨5, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel16.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel16Ideal.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S1024x2048, .bf16⟩
  | .hbm, ⟨3, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel17Ideal.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S1024x2048, .bf16⟩
  | .hbm, ⟨3, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2048, .bf16⟩
  | .hbm, ⟨3, _⟩ => ⟨S1024x2048, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel18Ideal.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2048, .bf16⟩
  | .hbm, ⟨3, _⟩ => ⟨S1024x2048, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x512, .bf16⟩
  | .hbm, ⟨3, _⟩ => ⟨S512x2048, .bf16⟩
  | .hbm, ⟨4, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel19Ideal.lean ====
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x512, .bf16⟩
  | .hbm, ⟨3, _⟩ => ⟨S512x2048, .bf16⟩
  | .hbm, ⟨4, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel20.lean ====
abbrev S8192x2048 : Shape := ⟨2, ![8192, 2048]⟩
abbrev S512x2048 : Shape := ⟨2, ![512, 2048]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S8192x2048, .bf16⟩
  | .hbm, ⟨3, _⟩ => ⟨S512x2048, .bf16⟩
  | .hbm, ⟨4, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel20Ideal.lean ====
abbrev S8192x2048 : Shape := ⟨2, ![8192, 2048]⟩
abbrev S512x2048 : Shape := ⟨2, ![512, 2048]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S8192x2048, .bf16⟩
  | .hbm, ⟨3, _⟩ => ⟨S512x2048, .bf16⟩
  | .hbm, ⟨4, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x2048 : Shape := ⟨2, ![8192, 2048]⟩
abbrev S512x2048 : Shape := ⟨2, ![512, 2048]⟩
abbrev S_ : Shape := ⟨0, ![]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S_, .f32⟩
  | .hbm, ⟨3, _⟩ => ⟨S8192x512, .f32⟩
  | .hbm, ⟨4, _⟩ => ⟨S8192x2048, .f32⟩
  | .hbm, ⟨5, _⟩ => ⟨S8192x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel21.lean ====
abbrev S8192x512 : Shape := ⟨2, ![8192, 512]⟩
abbrev S8192x2048 : Shape := ⟨2, ![8192, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S8192x512, .bf16⟩
  | .hbm, ⟨3, _⟩ => ⟨S8192x2048, .bf16⟩
  | .hbm, ⟨4, _⟩ => ⟨S512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel21Ideal.lean ====
abbrev S8192x512 : Shape := ⟨2, ![8192, 512]⟩
abbrev S8192x2048 : Shape := ⟨2, ![8192, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S8192x512, .bf16⟩
  | .hbm, ⟨3, _⟩ => ⟨S8192x2048, .bf16⟩
  | .hbm, ⟨4, _⟩ => ⟨S512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x512 : Shape := ⟨2, ![8192, 512]⟩
abbrev S8192x2048 : Shape := ⟨2, ![8192, 2048]⟩
abbrev S_ : Shape := ⟨0, ![]⟩
abbrev S512x2048 : Shape := ⟨2, ![512, 2048]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S_, .f32⟩
  | .hbm, ⟨3, _⟩ => ⟨S512x2048, .f32⟩
  | .hbm, ⟨4, _⟩ => ⟨S8192x2048, .f32⟩
  | .hbm, ⟨5, _⟩ => ⟨S2048x512, .f32⟩
  | .hbm, ⟨6, _⟩ => ⟨S512x2048, .f32⟩
  | .hbm, ⟨7, _⟩ => ⟨S512x2048, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S4x2x2048x1930 : Shape := ⟨4, ![4, 2, 2048, 1930]⟩
abbrev S2x2048x1930 : Shape := ⟨3, ![2, 2048, 1930]⟩
abbrev S4x1x128x1930 : Shape := ⟨4, ![4, 1, 128, 1930]⟩
abbrev S1x128x1930 : Shape := ⟨3, ![1, 128, 1930]⟩
abbrev S1x1x128x1930 : Shape := ⟨4, ![1, 1, 128, 1930]⟩
abbrev S128x1930 : Shape := ⟨2, ![128, 1930]⟩

abbrev nBuf : Space → Nat
  | .hbm => 9
  | .vmem => 16
  | .smem => 0
  | _ => 0

abbrev bufTy : (tb : Table) → Fin (tcTables nBuf tb) → BufTy
  | .hbm, ⟨0, _⟩ => ⟨S4x2x2048x1930, .f32⟩
  | .hbm, ⟨1, _⟩ => ⟨S2x2048x1930, .f32⟩
  | .hbm, ⟨2, _⟩ => ⟨S2x2048x1930, .f32⟩
  | .hbm, ⟨3, _⟩ => ⟨S2x2048x1930, .f32⟩
  | .hbm, ⟨4, _⟩ => ⟨S4x2x2048x1930, .bf16⟩
  | .hbm, ⟨5, _⟩ => ⟨S2x2048x1930, .f32⟩
  | .hbm, ⟨6, _⟩ => ⟨S2x2048x1930, .f32⟩
  | .hbm, ⟨7, _⟩ => ⟨S2x2048x1930, .f32⟩
  | .hbm, ⟨8, _⟩ => ⟨S2x2048x1930, .f32⟩
  | .local _ .vmem, ⟨0, _⟩ => ⟨S4x1x128x1930, .bf16⟩
  | .local _ .vmem, ⟨1, _⟩ => ⟨S4x1x128x1930, .bf16⟩
  | .local _ .vmem, ⟨2, _⟩ => ⟨S1x128x1930, .f32⟩
  | .local _ .vmem, ⟨3, _⟩ => ⟨S1x128x1930, .f32⟩
  | .local _ .vmem, ⟨4, _⟩ => ⟨S1x128x1930, .f32⟩
  | .local _ .vmem, ⟨5, _⟩ => ⟨S1x128x1930, .f32⟩
  | .local _ .vmem, ⟨6, _⟩ => ⟨S1x128x1930, .f32⟩
  | .local _ .vmem, ⟨7, _⟩ => ⟨S1x128x1930, .f32⟩
  | .local _ .vmem, ⟨8, _⟩ => ⟨S1x128x1930, .f32⟩
  | .local _ .vmem, ⟨9, _⟩ => ⟨S1x128x1930, .f32⟩
  | .local _ .vmem, ⟨10, _⟩ => ⟨S1x128x1930, .f32⟩
  | .local _ .vmem, ⟨11, _⟩ => ⟨S1x128x1930, .f32⟩
  | .local _ .vmem, ⟨12, _⟩ => ⟨S1x128x1930, .f32⟩
  | .local _ .vmem, ⟨13, _⟩ => ⟨S1x128x1930, .f32⟩
  | .local _ .vmem, ⟨14, _⟩ => ⟨S1x128x1930, .f32⟩
  | .local _ .vmem, ⟨15, _⟩ => ⟨S1x128x1930, .f32⟩
  | _, _ => ⟨S4x2x2048x1930, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x128x1930 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1930 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1930 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1930 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1930 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1930 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1930 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1930 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel22Ideal.lean ====
abbrev S4x2x2048x1930 : Shape := ⟨4, ![4, 2, 2048, 1930]⟩
abbrev S2x2048x1930 : Shape := ⟨3, ![2, 2048, 1930]⟩
abbrev S4x1x128x1930 : Shape := ⟨4, ![4, 1, 128, 1930]⟩
abbrev S1x128x1930 : Shape := ⟨3, ![1, 128, 1930]⟩
abbrev S1x1x128x1930 : Shape := ⟨4, ![1, 1, 128, 1930]⟩
abbrev S128x1930 : Shape := ⟨2, ![128, 1930]⟩

abbrev nBuf : Space → Nat
  | .hbm => 9
  | .vmem => 16
  | .smem => 0
  | _ => 0

abbrev bufTy : (tb : Table) → Fin (tcTables nBuf tb) → BufTy
  | .hbm, ⟨0, _⟩ => ⟨S4x2x2048x1930, .f32⟩
  | .hbm, ⟨1, _⟩ => ⟨S2x2048x1930, .f32⟩
  | .hbm, ⟨2, _⟩ => ⟨S2x2048x1930, .f32⟩
  | .hbm, ⟨3, _⟩ => ⟨S2x2048x1930, .f32⟩
  | .hbm, ⟨4, _⟩ => ⟨S4x2x2048x1930, .bf16⟩
  | .hbm, ⟨5, _⟩ => ⟨S2x2048x1930, .f32⟩
  | .hbm, ⟨6, _⟩ => ⟨S2x2048x1930, .f32⟩
  | .hbm, ⟨7, _⟩ => ⟨S2x2048x1930, .f32⟩
  | .hbm, ⟨8, _⟩ => ⟨S2x2048x1930, .f32⟩
  | .local _ .vmem, ⟨0, _⟩ => ⟨S4x1x128x1930, .bf16⟩
  | .local _ .vmem, ⟨1, _⟩ => ⟨S4x1x128x1930, .bf16⟩
  | .local _ .vmem, ⟨2, _⟩ => ⟨S1x128x1930, .f32⟩
  | .local _ .vmem, ⟨3, _⟩ => ⟨S1x128x1930, .f32⟩
  | .local _ .vmem, ⟨4, _⟩ => ⟨S1x128x1930, .f32⟩
  | .local _ .vmem, ⟨5, _⟩ => ⟨S1x128x1930, .f32⟩
  | .local _ .vmem, ⟨6, _⟩ => ⟨S1x128x1930, .f32⟩
  | .local _ .vmem, ⟨7, _⟩ => ⟨S1x128x1930, .f32⟩
  | .local _ .vmem, ⟨8, _⟩ => ⟨S1x128x1930, .f32⟩
  | .local _ .vmem, ⟨9, _⟩ => ⟨S1x128x1930, .f32⟩
  | .local _ .vmem, ⟨10, _⟩ => ⟨S1x128x1930, .f32⟩
  | .local _ .vmem, ⟨11, _⟩ => ⟨S1x128x1930, .f32⟩
  | .local _ .vmem, ⟨12, _⟩ => ⟨S1x128x1930, .f32⟩
  | .local _ .vmem, ⟨13, _⟩ => ⟨S1x128x1930, .f32⟩
  | .local _ .vmem, ⟨14, _⟩ => ⟨S1x128x1930, .f32⟩
  | .local _ .vmem, ⟨15, _⟩ => ⟨S1x128x1930, .f32⟩
  | _, _ => ⟨S4x2x2048x1930, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x128x1930 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1930 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1930 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1930 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1930 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1930 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1930 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1930 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference22Ideal.lean ====
abbrev S4x2x2048x1930 : Shape := ⟨4, ![4, 2, 2048, 1930]⟩
abbrev S2x2048x1930 : Shape := ⟨3, ![2, 2048, 1930]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x2x2048x1930, .f32⟩
  | .hbm, ⟨1, _⟩ => ⟨S2x2048x1930, .f32⟩
  | .hbm, ⟨2, _⟩ => ⟨S2x2048x1930, .f32⟩
  | .hbm, ⟨3, _⟩ => ⟨S2x2048x1930, .f32⟩
  | .hbm, ⟨4, _⟩ => ⟨S_, .f32⟩
  | .hbm, ⟨5, _⟩ => ⟨S2x2048x1930, .f32⟩
  | .hbm, ⟨6, _⟩ => ⟨S_, .f32⟩
  | .hbm, ⟨7, _⟩ => ⟨S2x2048x1930, .f32⟩
  | .hbm, ⟨8, _⟩ => ⟨S2x2048x1930, .f32⟩
  | .hbm, ⟨9, _⟩ => ⟨S_, .f32⟩
  | .hbm, ⟨10, _⟩ => ⟨S2x2048x1930, .f32⟩
  | .hbm, ⟨11, _⟩ => ⟨S2x2048x1930, .f32⟩
  | .hbm, ⟨12, _⟩ => ⟨S2x2048x1930, .f32⟩
  | .hbm, ⟨13, _⟩ => ⟨S_, .f32⟩
  | .hbm, ⟨14, _⟩ => ⟨S2x2048x1930, .f32⟩
  | .hbm, ⟨15, _⟩ => ⟨S2x2048x1930, .f32⟩
  | .hbm, ⟨16, _⟩ => ⟨S2x2048x1930, .f32⟩
  | .hbm, ⟨17, _⟩ => ⟨S_, .f32⟩
  | .hbm, ⟨18, _⟩ => ⟨S2x2048x1930, .f32⟩
  | .hbm, ⟨19, _⟩ => ⟨S2x2048x1930, .f32⟩
  | .hbm, ⟨20, _⟩ => ⟨S2x2048x1930, .f32⟩
  | .hbm, ⟨21, _⟩ => ⟨S_, .f32⟩
  | .hbm, ⟨22, _⟩ => ⟨S2x2048x1930, .f32⟩
  | .hbm, ⟨23, _⟩ => ⟨S2x2048x1930, .f32⟩
  | .hbm, ⟨24, _⟩ => ⟨S_, .f32⟩
  | .hbm, ⟨25, _⟩ => ⟨S2x2048x1930, .f32⟩
  | .hbm, ⟨26, _⟩ => ⟨S2x2048x1930, .f32⟩
  | .hbm, ⟨27, _⟩ => ⟨S2x2048x1930, .f32⟩
  | .hbm, ⟨28, _⟩ => ⟨S_, .f32⟩
  | .hbm, ⟨29, _⟩ => ⟨S2x2048x1930, .f32⟩
  | .hbm, ⟨30, _⟩ => ⟨S2x2048x1930, .f32⟩
  | .hbm, ⟨31, _⟩ => ⟨S2x2048x1930, .f32⟩
  | .hbm, ⟨32, _⟩ => ⟨S_, .f32⟩
  | .hbm, ⟨33, _⟩ => ⟨S2x2048x1930, .f32⟩
  | .hbm, ⟨34, _⟩ => ⟨S2x2048x1930, .f32⟩
  | .hbm, ⟨35, _⟩ => ⟨S2x2048x1930, .f32⟩
  | .hbm, ⟨36, _⟩ => ⟨S_, .f32⟩
  | .hbm, ⟨37, _⟩ => ⟨S2x2048x1930, .f32⟩
  | .hbm, ⟨38, _⟩ => ⟨S2x2048x1930, .f32⟩
  | _, _ => ⟨S4x2x2048x1930, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S4x2x2048x1408 : Shape := ⟨4, ![4, 2, 2048, 1408]⟩
abbrev S2x2048x1408 : Shape := ⟨3, ![2, 2048, 1408]⟩
abbrev S4x1x128x1408 : Shape := ⟨4, ![4, 1, 128, 1408]⟩
abbrev S1x128x1408 : Shape := ⟨3, ![1, 128, 1408]⟩
abbrev S1x1x128x1408 : Shape := ⟨4, ![1, 1, 128, 1408]⟩
abbrev S128x1408 : Shape := ⟨2, ![128, 1408]⟩

abbrev nBuf : Space → Nat
  | .hbm => 9
  | .vmem => 16
  | .smem => 0
  | _ => 0

abbrev bufTy : (tb : Table) → Fin (tcTables nBuf tb) → BufTy
  | .hbm, ⟨0, _⟩ => ⟨S4x2x2048x1408, .f32⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S4x2x2048x1408, .bf16⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .local _ .vmem, ⟨0, _⟩ => ⟨S4x1x128x1408, .bf16⟩
  | .local _ .vmem, ⟨1, _⟩ => ⟨S4x1x128x1408, .bf16⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | _, _ => ⟨S4x2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel23Ideal.lean ====
abbrev S4x2x2048x1408 : Shape := ⟨4, ![4, 2, 2048, 1408]⟩
abbrev S2x2048x1408 : Shape := ⟨3, ![2, 2048, 1408]⟩
abbrev S4x1x128x1408 : Shape := ⟨4, ![4, 1, 128, 1408]⟩
abbrev S1x128x1408 : Shape := ⟨3, ![1, 128, 1408]⟩
abbrev S1x1x128x1408 : Shape := ⟨4, ![1, 1, 128, 1408]⟩
abbrev S128x1408 : Shape := ⟨2, ![128, 1408]⟩

abbrev nBuf : Space → Nat
  | .hbm => 9
  | .vmem => 16
  | .smem => 0
  | _ => 0

abbrev bufTy : (tb : Table) → Fin (tcTables nBuf tb) → BufTy
  | .hbm, ⟨0, _⟩ => ⟨S4x2x2048x1408, .f32⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S4x2x2048x1408, .bf16⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .local _ .vmem, ⟨0, _⟩ => ⟨S4x1x128x1408, .bf16⟩
  | .local _ .vmem, ⟨1, _⟩ => ⟨S4x1x128x1408, .bf16⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | _, _ => ⟨S4x2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference23Ideal.lean ====
abbrev S4x2x2048x1408 : Shape := ⟨4, ![4, 2, 2048, 1408]⟩
abbrev S2x2048x1408 : Shape := ⟨3, ![2, 2048, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x2x2048x1408, .f32⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S_, .f32⟩
  | .hbm, ⟨5, _⟩ => ⟨S2x2048x1408, .f32⟩
  | .hbm, ⟨6, _⟩ => ⟨S_, .f32⟩
  | .hbm, ⟨7, _⟩ => ⟨S2x2048x1408, .f32⟩
  | .hbm, ⟨8, _⟩ => ⟨S2x2048x1408, .f32⟩
  | .hbm, ⟨9, _⟩ => ⟨S_, .f32⟩
  | .hbm, ⟨10, _⟩ => ⟨S2x2048x1408, .f32⟩
  | .hbm, ⟨11, _⟩ => ⟨S2x2048x1408, .f32⟩
  | .hbm, ⟨12, _⟩ => ⟨S2x2048x1408, .f32⟩
  | .hbm, ⟨13, _⟩ => ⟨S_, .f32⟩
  | .hbm, ⟨14, _⟩ => ⟨S2x2048x1408, .f32⟩
  | .hbm, ⟨15, _⟩ => ⟨S2x2048x1408, .f32⟩
  | .hbm, ⟨16, _⟩ => ⟨S2x2048x1408, .f32⟩
  | .hbm, ⟨17, _⟩ => ⟨S_, .f32⟩
  | .hbm, ⟨18, _⟩ => ⟨S2x2048x1408, .f32⟩
  | .hbm, ⟨19, _⟩ => ⟨S2x2048x1408, .f32⟩
  | .hbm, ⟨20, _⟩ => ⟨S2x2048x1408, .f32⟩
  | .hbm, ⟨21, _⟩ => ⟨S_, .f32⟩
  | .hbm, ⟨22, _⟩ => ⟨S2x2048x1408, .f32⟩
  | .hbm, ⟨23, _⟩ => ⟨S2x2048x1408, .f32⟩
  | .hbm, ⟨24, _⟩ => ⟨S_, .f32⟩
  | .hbm, ⟨25, _⟩ => ⟨S2x2048x1408, .f32⟩
  | .hbm, ⟨26, _⟩ => ⟨S2x2048x1408, .f32⟩
  | .hbm, ⟨27, _⟩ => ⟨S2x2048x1408, .f32⟩
  | .hbm, ⟨28, _⟩ => ⟨S_, .f32⟩
  | .hbm, ⟨29, _⟩ => ⟨S2x2048x1408, .f32⟩
  | .hbm, ⟨30, _⟩ => ⟨S2x2048x1408, .f32⟩
  | .hbm, ⟨31, _⟩ => ⟨S2x2048x1408, .f32⟩
  | .hbm, ⟨32, _⟩ => ⟨S_, .f32⟩
  | .hbm, ⟨33, _⟩ => ⟨S2x2048x1408, .f32⟩
  | .hbm, ⟨34, _⟩ => ⟨S2x2048x1408, .f32⟩
  | .hbm, ⟨35, _⟩ => ⟨S2x2048x1408, .f32⟩
  | .hbm, ⟨36, _⟩ => ⟨S_, .f32⟩
  | .hbm, ⟨37, _⟩ => ⟨S2x2048x1408, .f32⟩
  | .hbm, ⟨38, _⟩ => ⟨S2x2048x1408, .f32⟩
  | _, _ => ⟨S4x2x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel24.lean ====
abbrev S4x2x704x2048 : Shape := ⟨4, ![4, 2, 704, 2048]⟩
abbrev S2x704x2048 : Shape := ⟨3, ![2, 704, 2048]⟩
abbrev S4x1x64x2048 : Shape := ⟨4, ![4, 1, 64, 2048]⟩
abbrev S1x64x2048 : Shape := ⟨3, ![1, 64, 2048]⟩
abbrev S1x1x64x2048 : Shape := ⟨4, ![1, 1, 64, 2048]⟩
abbrev S64x2048 : Shape := ⟨2, ![64, 2048]⟩

abbrev nBuf : Space → Nat
  | .hbm => 9
  | .vmem => 16
  | .smem => 0
  | _ => 0

abbrev bufTy : (tb : Table) → Fin (tcTables nBuf tb) → BufTy
  | .hbm, ⟨0, _⟩ => ⟨S4x2x704x2048, .f32⟩
  | .hbm, ⟨1, _⟩ => ⟨S2x704x2048, .f32⟩
  | .hbm, ⟨2, _⟩ => ⟨S2x704x2048, .f32⟩
  | .hbm, ⟨3, _⟩ => ⟨S2x704x2048, .f32⟩
  | .hbm, ⟨4, _⟩ => ⟨S4x2x704x2048, .bf16⟩
  | .hbm, ⟨5, _⟩ => ⟨S2x704x2048, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .local _ .vmem, ⟨0, _⟩ => ⟨S4x1x64x2048, .bf16⟩
  | .local _ .vmem, ⟨1, _⟩ => ⟨S4x1x64x2048, .bf16⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | _, _ => ⟨S4x2x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 11], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel24Ideal.lean ====
abbrev S4x2x704x2048 : Shape := ⟨4, ![4, 2, 704, 2048]⟩
abbrev S2x704x2048 : Shape := ⟨3, ![2, 704, 2048]⟩
abbrev S4x1x64x2048 : Shape := ⟨4, ![4, 1, 64, 2048]⟩
abbrev S1x64x2048 : Shape := ⟨3, ![1, 64, 2048]⟩
abbrev S1x1x64x2048 : Shape := ⟨4, ![1, 1, 64, 2048]⟩
abbrev S64x2048 : Shape := ⟨2, ![64, 2048]⟩

abbrev nBuf : Space → Nat
  | .hbm => 9
  | .vmem => 16
  | .smem => 0
  | _ => 0

abbrev bufTy : (tb : Table) → Fin (tcTables nBuf tb) → BufTy
  | .hbm, ⟨0, _⟩ => ⟨S4x2x704x2048, .f32⟩
  | .hbm, ⟨1, _⟩ => ⟨S2x704x2048, .f32⟩
  | .hbm, ⟨2, _⟩ => ⟨S2x704x2048, .f32⟩
  | .hbm, ⟨3, _⟩ => ⟨S2x704x2048, .f32⟩
  | .hbm, ⟨4, _⟩ => ⟨S4x2x704x2048, .bf16⟩
  | .hbm, ⟨5, _⟩ => ⟨S2x704x2048, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .local _ .vmem, ⟨0, _⟩ => ⟨S4x1x64x2048, .bf16⟩
  | .local _ .vmem, ⟨1, _⟩ => ⟨S4x1x64x2048, .bf16⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | _, _ => ⟨S4x2x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 11], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference24Ideal.lean ====
abbrev S4x2x704x2048 : Shape := ⟨4, ![4, 2, 704, 2048]⟩
abbrev S2x704x2048 : Shape := ⟨3, ![2, 704, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x2x704x2048, .f32⟩
  | .hbm, ⟨1, _⟩ => ⟨S2x704x2048, .f32⟩
  | .hbm, ⟨2, _⟩ => ⟨S2x704x2048, .f32⟩
  | .hbm, ⟨3, _⟩ => ⟨S2x704x2048, .f32⟩
  | .hbm, ⟨4, _⟩ => ⟨S_, .f32⟩
  | .hbm, ⟨5, _⟩ => ⟨S2x704x2048, .f32⟩
  | .hbm, ⟨6, _⟩ => ⟨S_, .f32⟩
  | .hbm, ⟨7, _⟩ => ⟨S2x704x2048, .f32⟩
  | .hbm, ⟨8, _⟩ => ⟨S2x704x2048, .f32⟩
  | .hbm, ⟨9, _⟩ => ⟨S_, .f32⟩
  | .hbm, ⟨10, _⟩ => ⟨S2x704x2048, .f32⟩
  | .hbm, ⟨11, _⟩ => ⟨S2x704x2048, .f32⟩
  | .hbm, ⟨12, _⟩ => ⟨S2x704x2048, .f32⟩
  | .hbm, ⟨13, _⟩ => ⟨S_, .f32⟩
  | .hbm, ⟨14, _⟩ => ⟨S2x704x2048, .f32⟩
  | .hbm, ⟨15, _⟩ => ⟨S2x704x2048, .f32⟩
  | .hbm, ⟨16, _⟩ => ⟨S2x704x2048, .f32⟩
  | .hbm, ⟨17, _⟩ => ⟨S_, .f32⟩
  | .hbm, ⟨18, _⟩ => ⟨S2x704x2048, .f32⟩
  | .hbm, ⟨19, _⟩ => ⟨S2x704x2048, .f32⟩
  | .hbm, ⟨20, _⟩ => ⟨S2x704x2048, .f32⟩
  | .hbm, ⟨21, _⟩ => ⟨S_, .f32⟩
  | .hbm, ⟨22, _⟩ => ⟨S2x704x2048, .f32⟩
  | .hbm, ⟨23, _⟩ => ⟨S2x704x2048, .f32⟩
  | .hbm, ⟨24, _⟩ => ⟨S_, .f32⟩
  | .hbm, ⟨25, _⟩ => ⟨S2x704x2048, .f32⟩
  | .hbm, ⟨26, _⟩ => ⟨S2x704x2048, .f32⟩
  | .hbm, ⟨27, _⟩ => ⟨S2x704x2048, .f32⟩
  | .hbm, ⟨28, _⟩ => ⟨S_, .f32⟩
  | .hbm, ⟨29, _⟩ => ⟨S2x704x2048, .f32⟩
  | .hbm, ⟨30, _⟩ => ⟨S2x704x2048, .f32⟩
  | .hbm, ⟨31, _⟩ => ⟨S2x704x2048, .f32⟩
  | .hbm, ⟨32, _⟩ => ⟨S_, .f32⟩
  | .hbm, ⟨33, _⟩ => ⟨S2x704x2048, .f32⟩
  | .hbm, ⟨34, _⟩ => ⟨S2x704x2048, .f32⟩
  | .hbm, ⟨35, _⟩ => ⟨S2x704x2048, .f32⟩
  | .hbm, ⟨36, _⟩ => ⟨S_, .f32⟩
  | .hbm, ⟨37, _⟩ => ⟨S2x704x2048, .f32⟩
  | .hbm, ⟨38, _⟩ => ⟨S2x704x2048, .f32⟩
  | _, _ => ⟨S4x2x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel25.lean ====
abbrev S4x2x256x2048 : Shape := ⟨4, ![4, 2, 256, 2048]⟩
abbrev S2x256x2048 : Shape := ⟨3, ![2, 256, 2048]⟩
abbrev S4x1x128x2048 : Shape := ⟨4, ![4, 1, 128, 2048]⟩
abbrev S1x128x2048 : Shape := ⟨3, ![1, 128, 2048]⟩
abbrev S1x1x128x2048 : Shape := ⟨4, ![1, 1, 128, 2048]⟩
abbrev S128x2048 : Shape := ⟨2, ![128, 2048]⟩

abbrev nBuf : Space → Nat
  | .hbm => 9
  | .vmem => 16
  | .smem => 0
  | _ => 0

abbrev bufTy : (tb : Table) → Fin (tcTables nBuf tb) → BufTy
  | .hbm, ⟨0, _⟩ => ⟨S4x2x256x2048, .f32⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S4x2x256x2048, .bf16⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .local _ .vmem, ⟨0, _⟩ => ⟨S4x1x128x2048, .bf16⟩
  | .local _ .vmem, ⟨1, _⟩ => ⟨S4x1x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel25Ideal.lean ====
abbrev S4x2x256x2048 : Shape := ⟨4, ![4, 2, 256, 2048]⟩
abbrev S2x256x2048 : Shape := ⟨3, ![2, 256, 2048]⟩
abbrev S4x1x128x2048 : Shape := ⟨4, ![4, 1, 128, 2048]⟩
abbrev S1x128x2048 : Shape := ⟨3, ![1, 128, 2048]⟩
abbrev S1x1x128x2048 : Shape := ⟨4, ![1, 1, 128, 2048]⟩
abbrev S128x2048 : Shape := ⟨2, ![128, 2048]⟩

abbrev nBuf : Space → Nat
  | .hbm => 9
  | .vmem => 16
  | .smem => 0
  | _ => 0

abbrev bufTy : (tb : Table) → Fin (tcTables nBuf tb) → BufTy
  | .hbm, ⟨0, _⟩ => ⟨S4x2x256x2048, .f32⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S4x2x256x2048, .bf16⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .local _ .vmem, ⟨0, _⟩ => ⟨S4x1x128x2048, .bf16⟩
  | .local _ .vmem, ⟨1, _⟩ => ⟨S4x1x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference25Ideal.lean ====
abbrev S4x2x256x2048 : Shape := ⟨4, ![4, 2, 256, 2048]⟩
abbrev S2x256x2048 : Shape := ⟨3, ![2, 256, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x2x256x2048, .f32⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S_, .f32⟩
  | .hbm, ⟨5, _⟩ => ⟨S2x256x2048, .f32⟩
  | .hbm, ⟨6, _⟩ => ⟨S_, .f32⟩
  | .hbm, ⟨7, _⟩ => ⟨S2x256x2048, .f32⟩
  | .hbm, ⟨8, _⟩ => ⟨S2x256x2048, .f32⟩
  | .hbm, ⟨9, _⟩ => ⟨S_, .f32⟩
  | .hbm, ⟨10, _⟩ => ⟨S2x256x2048, .f32⟩
  | .hbm, ⟨11, _⟩ => ⟨S2x256x2048, .f32⟩
  | .hbm, ⟨12, _⟩ => ⟨S2x256x2048, .f32⟩
  | .hbm, ⟨13, _⟩ => ⟨S_, .f32⟩
  | .hbm, ⟨14, _⟩ => ⟨S2x256x2048, .f32⟩
  | .hbm, ⟨15, _⟩ => ⟨S2x256x2048, .f32⟩
  | .hbm, ⟨16, _⟩ => ⟨S2x256x2048, .f32⟩
  | .hbm, ⟨17, _⟩ => ⟨S_, .f32⟩
  | .hbm, ⟨18, _⟩ => ⟨S2x256x2048, .f32⟩
  | .hbm, ⟨19, _⟩ => ⟨S2x256x2048, .f32⟩
  | .hbm, ⟨20, _⟩ => ⟨S2x256x2048, .f32⟩
  | .hbm, ⟨21, _⟩ => ⟨S_, .f32⟩
  | .hbm, ⟨22, _⟩ => ⟨S2x256x2048, .f32⟩
  | .hbm, ⟨23, _⟩ => ⟨S2x256x2048, .f32⟩
  | .hbm, ⟨24, _⟩ => ⟨S_, .f32⟩
  | .hbm, ⟨25, _⟩ => ⟨S2x256x2048, .f32⟩
  | .hbm, ⟨26, _⟩ => ⟨S2x256x2048, .f32⟩
  | .hbm, ⟨27, _⟩ => ⟨S2x256x2048, .f32⟩
  | .hbm, ⟨28, _⟩ => ⟨S_, .f32⟩
  | .hbm, ⟨29, _⟩ => ⟨S2x256x2048, .f32⟩
  | .hbm, ⟨30, _⟩ => ⟨S2x256x2048, .f32⟩
  | .hbm, ⟨31, _⟩ => ⟨S2x256x2048, .f32⟩
  | .hbm, ⟨32, _⟩ => ⟨S_, .f32⟩
  | .hbm, ⟨33, _⟩ => ⟨S2x256x2048, .f32⟩
  | .hbm, ⟨34, _⟩ => ⟨S2x256x2048, .f32⟩
  | .hbm, ⟨35, _⟩ => ⟨S2x256x2048, .f32⟩
  | .hbm, ⟨36, _⟩ => ⟨S_, .f32⟩
  | .hbm, ⟨37, _⟩ => ⟨S2x256x2048, .f32⟩
  | .hbm, ⟨38, _⟩ => ⟨S2x256x2048, .f32⟩
  | _, _ => ⟨S4x2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel26.lean ====
abbrev S4x2x512x256 : Shape := ⟨4, ![4, 2, 512, 256]⟩
abbrev S2x512x256 : Shape := ⟨3, ![2, 512, 256]⟩
abbrev S4x1x512x256 : Shape := ⟨4, ![4, 1, 512, 256]⟩
abbrev S1x512x256 : Shape := ⟨3, ![1, 512, 256]⟩
abbrev S1x1x512x256 : Shape := ⟨4, ![1, 1, 512, 256]⟩
abbrev S512x256 : Shape := ⟨2, ![512, 256]⟩

abbrev nBuf : Space → Nat
  | .hbm => 9
  | .vmem => 16
  | .smem => 0
  | _ => 0

abbrev bufTy : (tb : Table) → Fin (tcTables nBuf tb) → BufTy
  | .hbm, ⟨0, _⟩ => ⟨S4x2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S4x2x512x256, .bf16⟩
  | .hbm, ⟨5, _⟩ => ⟨S2x512x256, .f32⟩
  | .hbm, ⟨6, _⟩ => ⟨S2x512x256, .f32⟩
  | .hbm, ⟨7, _⟩ => ⟨S2x512x256, .f32⟩
  | .hbm, ⟨8, _⟩ => ⟨S2x512x256, .f32⟩
  | .local _ .vmem, ⟨0, _⟩ => ⟨S4x1x512x256, .bf16⟩
  | .local _ .vmem, ⟨1, _⟩ => ⟨S4x1x512x256, .bf16⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | _, _ => ⟨S4x2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel26Ideal.lean ====
abbrev S4x2x512x256 : Shape := ⟨4, ![4, 2, 512, 256]⟩
abbrev S2x512x256 : Shape := ⟨3, ![2, 512, 256]⟩
abbrev S4x1x512x256 : Shape := ⟨4, ![4, 1, 512, 256]⟩
abbrev S1x512x256 : Shape := ⟨3, ![1, 512, 256]⟩
abbrev S1x1x512x256 : Shape := ⟨4, ![1, 1, 512, 256]⟩
abbrev S512x256 : Shape := ⟨2, ![512, 256]⟩

abbrev nBuf : Space → Nat
  | .hbm => 9
  | .vmem => 16
  | .smem => 0
  | _ => 0

abbrev bufTy : (tb : Table) → Fin (tcTables nBuf tb) → BufTy
  | .hbm, ⟨0, _⟩ => ⟨S4x2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S4x2x512x256, .bf16⟩
  | .hbm, ⟨5, _⟩ => ⟨S2x512x256, .f32⟩
  | .hbm, ⟨6, _⟩ => ⟨S2x512x256, .f32⟩
  | .hbm, ⟨7, _⟩ => ⟨S2x512x256, .f32⟩
  | .hbm, ⟨8, _⟩ => ⟨S2x512x256, .f32⟩
  | .local _ .vmem, ⟨0, _⟩ => ⟨S4x1x512x256, .bf16⟩
  | .local _ .vmem, ⟨1, _⟩ => ⟨S4x1x512x256, .bf16⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | _, _ => ⟨S4x2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference26Ideal.lean ====
abbrev S4x2x512x256 : Shape := ⟨4, ![4, 2, 512, 256]⟩
abbrev S2x512x256 : Shape := ⟨3, ![2, 512, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S_, .f32⟩
  | .hbm, ⟨5, _⟩ => ⟨S2x512x256, .f32⟩
  | .hbm, ⟨6, _⟩ => ⟨S_, .f32⟩
  | .hbm, ⟨7, _⟩ => ⟨S2x512x256, .f32⟩
  | .hbm, ⟨8, _⟩ => ⟨S2x512x256, .f32⟩
  | .hbm, ⟨9, _⟩ => ⟨S_, .f32⟩
  | .hbm, ⟨10, _⟩ => ⟨S2x512x256, .f32⟩
  | .hbm, ⟨11, _⟩ => ⟨S2x512x256, .f32⟩
  | .hbm, ⟨12, _⟩ => ⟨S2x512x256, .f32⟩
  | .hbm, ⟨13, _⟩ => ⟨S_, .f32⟩
  | .hbm, ⟨14, _⟩ => ⟨S2x512x256, .f32⟩
  | .hbm, ⟨15, _⟩ => ⟨S2x512x256, .f32⟩
  | .hbm, ⟨16, _⟩ => ⟨S2x512x256, .f32⟩
  | .hbm, ⟨17, _⟩ => ⟨S_, .f32⟩
  | .hbm, ⟨18, _⟩ => ⟨S2x512x256, .f32⟩
  | .hbm, ⟨19, _⟩ => ⟨S2x512x256, .f32⟩
  | .hbm, ⟨20, _⟩ => ⟨S2x512x256, .f32⟩
  | .hbm, ⟨21, _⟩ => ⟨S_, .f32⟩
  | .hbm, ⟨22, _⟩ => ⟨S2x512x256, .f32⟩
  | .hbm, ⟨23, _⟩ => ⟨S2x512x256, .f32⟩
  | .hbm, ⟨24, _⟩ => ⟨S_, .f32⟩
  | .hbm, ⟨25, _⟩ => ⟨S2x512x256, .f32⟩
  | .hbm, ⟨26, _⟩ => ⟨S2x512x256, .f32⟩
  | .hbm, ⟨27, _⟩ => ⟨S2x512x256, .f32⟩
  | .hbm, ⟨28, _⟩ => ⟨S_, .f32⟩
  | .hbm, ⟨29, _⟩ => ⟨S2x512x256, .f32⟩
  | .hbm, ⟨30, _⟩ => ⟨S2x512x256, .f32⟩
  | .hbm, ⟨31, _⟩ => ⟨S2x512x256, .f32⟩
  | .hbm, ⟨32, _⟩ => ⟨S_, .f32⟩
  | .hbm, ⟨33, _⟩ => ⟨S2x512x256, .f32⟩
  | .hbm, ⟨34, _⟩ => ⟨S2x512x256, .f32⟩
  | .hbm, ⟨35, _⟩ => ⟨S2x512x256, .f32⟩
  | .hbm, ⟨36, _⟩ => ⟨S_, .f32⟩
  | .hbm, ⟨37, _⟩ => ⟨S2x512x256, .f32⟩
  | .hbm, ⟨38, _⟩ => ⟨S2x512x256, .f32⟩
  | _, _ => ⟨S4x2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel27.lean ====
abbrev S4x2x512x192 : Shape := ⟨4, ![4, 2, 512, 192]⟩
abbrev S2x512x192 : Shape := ⟨3, ![2, 512, 192]⟩
abbrev S4x1x512x192 : Shape := ⟨4, ![4, 1, 512, 192]⟩
abbrev S1x512x192 : Shape := ⟨3, ![1, 512, 192]⟩
abbrev S1x1x512x192 : Shape := ⟨4, ![1, 1, 512, 192]⟩
abbrev S512x192 : Shape := ⟨2, ![512, 192]⟩

abbrev nBuf : Space → Nat
  | .hbm => 9
  | .vmem => 16
  | .smem => 0
  | _ => 0

abbrev bufTy : (tb : Table) → Fin (tcTables nBuf tb) → BufTy
  | .hbm, ⟨0, _⟩ => ⟨S4x2x512x192, .f32⟩
  | .hbm, ⟨1, _⟩ => ⟨S2x512x192, .f32⟩
  | .hbm, ⟨2, _⟩ => ⟨S2x512x192, .f32⟩
  | .hbm, ⟨3, _⟩ => ⟨S2x512x192, .f32⟩
  | .hbm, ⟨4, _⟩ => ⟨S4x2x512x192, .bf16⟩
  | .hbm, ⟨5, _⟩ => ⟨S2x512x192, .f32⟩
  | .hbm, ⟨6, _⟩ => ⟨S2x512x192, .f32⟩
  | .hbm, ⟨7, _⟩ => ⟨S2x512x192, .f32⟩
  | .hbm, ⟨8, _⟩ => ⟨S2x512x192, .f32⟩
  | .local _ .vmem, ⟨0, _⟩ => ⟨S4x1x512x192, .bf16⟩
  | .local _ .vmem, ⟨1, _⟩ => ⟨S4x1x512x192, .bf16⟩
  | .local _ .vmem, ⟨2, _⟩ => ⟨S1x512x192, .f32⟩
  | .local _ .vmem, ⟨3, _⟩ => ⟨S1x512x192, .f32⟩
  | .local _ .vmem, ⟨4, _⟩ => ⟨S1x512x192, .f32⟩
  | .local _ .vmem, ⟨5, _⟩ => ⟨S1x512x192, .f32⟩
  | .local _ .vmem, ⟨6, _⟩ => ⟨S1x512x192, .f32⟩
  | .local _ .vmem, ⟨7, _⟩ => ⟨S1x512x192, .f32⟩
  | .local _ .vmem, ⟨8, _⟩ => ⟨S1x512x192, .f32⟩
  | .local _ .vmem, ⟨9, _⟩ => ⟨S1x512x192, .f32⟩
  | .local _ .vmem, ⟨10, _⟩ => ⟨S1x512x192, .f32⟩
  | .local _ .vmem, ⟨11, _⟩ => ⟨S1x512x192, .f32⟩
  | .local _ .vmem, ⟨12, _⟩ => ⟨S1x512x192, .f32⟩
  | .local _ .vmem, ⟨13, _⟩ => ⟨S1x512x192, .f32⟩
  | .local _ .vmem, ⟨14, _⟩ => ⟨S1x512x192, .f32⟩
  | .local _ .vmem, ⟨15, _⟩ => ⟨S1x512x192, .f32⟩
  | _, _ => ⟨S4x2x512x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel27Ideal.lean ====
abbrev S4x2x512x192 : Shape := ⟨4, ![4, 2, 512, 192]⟩
abbrev S2x512x192 : Shape := ⟨3, ![2, 512, 192]⟩
abbrev S4x1x512x192 : Shape := ⟨4, ![4, 1, 512, 192]⟩
abbrev S1x512x192 : Shape := ⟨3, ![1, 512, 192]⟩
abbrev S1x1x512x192 : Shape := ⟨4, ![1, 1, 512, 192]⟩
abbrev S512x192 : Shape := ⟨2, ![512, 192]⟩

abbrev nBuf : Space → Nat
  | .hbm => 9
  | .vmem => 16
  | .smem => 0
  | _ => 0

abbrev bufTy : (tb : Table) → Fin (tcTables nBuf tb) → BufTy
  | .hbm, ⟨0, _⟩ => ⟨S4x2x512x192, .f32⟩
  | .hbm, ⟨1, _⟩ => ⟨S2x512x192, .f32⟩
  | .hbm, ⟨2, _⟩ => ⟨S2x512x192, .f32⟩
  | .hbm, ⟨3, _⟩ => ⟨S2x512x192, .f32⟩
  | .hbm, ⟨4, _⟩ => ⟨S4x2x512x192, .bf16⟩
  | .hbm, ⟨5, _⟩ => ⟨S2x512x192, .f32⟩
  | .hbm, ⟨6, _⟩ => ⟨S2x512x192, .f32⟩
  | .hbm, ⟨7, _⟩ => ⟨S2x512x192, .f32⟩
  | .hbm, ⟨8, _⟩ => ⟨S2x512x192, .f32⟩
  | .local _ .vmem, ⟨0, _⟩ => ⟨S4x1x512x192, .bf16⟩
  | .local _ .vmem, ⟨1, _⟩ => ⟨S4x1x512x192, .bf16⟩
  | .local _ .vmem, ⟨2, _⟩ => ⟨S1x512x192, .f32⟩
  | .local _ .vmem, ⟨3, _⟩ => ⟨S1x512x192, .f32⟩
  | .local _ .vmem, ⟨4, _⟩ => ⟨S1x512x192, .f32⟩
  | .local _ .vmem, ⟨5, _⟩ => ⟨S1x512x192, .f32⟩
  | .local _ .vmem, ⟨6, _⟩ => ⟨S1x512x192, .f32⟩
  | .local _ .vmem, ⟨7, _⟩ => ⟨S1x512x192, .f32⟩
  | .local _ .vmem, ⟨8, _⟩ => ⟨S1x512x192, .f32⟩
  | .local _ .vmem, ⟨9, _⟩ => ⟨S1x512x192, .f32⟩
  | .local _ .vmem, ⟨10, _⟩ => ⟨S1x512x192, .f32⟩
  | .local _ .vmem, ⟨11, _⟩ => ⟨S1x512x192, .f32⟩
  | .local _ .vmem, ⟨12, _⟩ => ⟨S1x512x192, .f32⟩
  | .local _ .vmem, ⟨13, _⟩ => ⟨S1x512x192, .f32⟩
  | .local _ .vmem, ⟨14, _⟩ => ⟨S1x512x192, .f32⟩
  | .local _ .vmem, ⟨15, _⟩ => ⟨S1x512x192, .f32⟩
  | _, _ => ⟨S4x2x512x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference27Ideal.lean ====
abbrev S4x2x512x192 : Shape := ⟨4, ![4, 2, 512, 192]⟩
abbrev S2x512x192 : Shape := ⟨3, ![2, 512, 192]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x2x512x192, .f32⟩
  | .hbm, ⟨1, _⟩ => ⟨S2x512x192, .f32⟩
  | .hbm, ⟨2, _⟩ => ⟨S2x512x192, .f32⟩
  | .hbm, ⟨3, _⟩ => ⟨S2x512x192, .f32⟩
  | .hbm, ⟨4, _⟩ => ⟨S_, .f32⟩
  | .hbm, ⟨5, _⟩ => ⟨S2x512x192, .f32⟩
  | .hbm, ⟨6, _⟩ => ⟨S_, .f32⟩
  | .hbm, ⟨7, _⟩ => ⟨S2x512x192, .f32⟩
  | .hbm, ⟨8, _⟩ => ⟨S2x512x192, .f32⟩
  | .hbm, ⟨9, _⟩ => ⟨S_, .f32⟩
  | .hbm, ⟨10, _⟩ => ⟨S2x512x192, .f32⟩
  | .hbm, ⟨11, _⟩ => ⟨S2x512x192, .f32⟩
  | .hbm, ⟨12, _⟩ => ⟨S2x512x192, .f32⟩
  | .hbm, ⟨13, _⟩ => ⟨S_, .f32⟩
  | .hbm, ⟨14, _⟩ => ⟨S2x512x192, .f32⟩
  | .hbm, ⟨15, _⟩ => ⟨S2x512x192, .f32⟩
  | .hbm, ⟨16, _⟩ => ⟨S2x512x192, .f32⟩
  | .hbm, ⟨17, _⟩ => ⟨S_, .f32⟩
  | .hbm, ⟨18, _⟩ => ⟨S2x512x192, .f32⟩
  | .hbm, ⟨19, _⟩ => ⟨S2x512x192, .f32⟩
  | .hbm, ⟨20, _⟩ => ⟨S2x512x192, .f32⟩
  | .hbm, ⟨21, _⟩ => ⟨S_, .f32⟩
  | .hbm, ⟨22, _⟩ => ⟨S2x512x192, .f32⟩
  | .hbm, ⟨23, _⟩ => ⟨S2x512x192, .f32⟩
  | .hbm, ⟨24, _⟩ => ⟨S_, .f32⟩
  | .hbm, ⟨25, _⟩ => ⟨S2x512x192, .f32⟩
  | .hbm, ⟨26, _⟩ => ⟨S2x512x192, .f32⟩
  | .hbm, ⟨27, _⟩ => ⟨S2x512x192, .f32⟩
  | .hbm, ⟨28, _⟩ => ⟨S_, .f32⟩
  | .hbm, ⟨29, _⟩ => ⟨S2x512x192, .f32⟩
  | .hbm, ⟨30, _⟩ => ⟨S2x512x192, .f32⟩
  | .hbm, ⟨31, _⟩ => ⟨S2x512x192, .f32⟩
  | .hbm, ⟨32, _⟩ => ⟨S_, .f32⟩
  | .hbm, ⟨33, _⟩ => ⟨S2x512x192, .f32⟩
  | .hbm, ⟨34, _⟩ => ⟨S2x512x192, .f32⟩
  | .hbm, ⟨35, _⟩ => ⟨S2x512x192, .f32⟩
  | .hbm, ⟨36, _⟩ => ⟨S_, .f32⟩
  | .hbm, ⟨37, _⟩ => ⟨S2x512x192, .f32⟩
  | .hbm, ⟨38, _⟩ => ⟨S2x512x192, .f32⟩
  | _, _ => ⟨S4x2x512x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel28.lean ====
abbrev S4x8x32x256 : Shape := ⟨4, ![4, 8, 32, 256]⟩
abbrev S8x32x256 : Shape := ⟨3, ![8, 32, 256]⟩
abbrev S4x1x32x256 : Shape := ⟨4, ![4, 1, 32, 256]⟩
abbrev S1x32x256 : Shape := ⟨3, ![1, 32, 256]⟩
abbrev S1x1x32x256 : Shape := ⟨4, ![1, 1, 32, 256]⟩
abbrev S32x256 : Shape := ⟨2, ![32, 256]⟩

abbrev nBuf : Space → Nat
  | .hbm => 9
  | .vmem => 16
  | .smem => 0
  | _ => 0

abbrev bufTy : (tb : Table) → Fin (tcTables nBuf tb) → BufTy
  | .hbm, ⟨0, _⟩ => ⟨S4x8x32x256, .f32⟩
  | .hbm, ⟨1, _⟩ => ⟨S8x32x256, .f32⟩
  | .hbm, ⟨2, _⟩ => ⟨S8x32x256, .f32⟩
  | .hbm, ⟨3, _⟩ => ⟨S8x32x256, .f32⟩
  | .hbm, ⟨4, _⟩ => ⟨S4x8x32x256, .bf16⟩
  | .hbm, ⟨5, _⟩ => ⟨S8x32x256, .f32⟩
  | .hbm, ⟨6, _⟩ => ⟨S8x32x256, .f32⟩
  | .hbm, ⟨7, _⟩ => ⟨S8x32x256, .f32⟩
  | .hbm, ⟨8, _⟩ => ⟨S8x32x256, .f32⟩
  | .local _ .vmem, ⟨0, _⟩ => ⟨S4x1x32x256, .bf16⟩
  | .local _ .vmem, ⟨1, _⟩ => ⟨S4x1x32x256, .bf16⟩
  | .local _ .vmem, ⟨2, _⟩ => ⟨S1x32x256, .f32⟩
  | .local _ .vmem, ⟨3, _⟩ => ⟨S1x32x256, .f32⟩
  | .local _ .vmem, ⟨4, _⟩ => ⟨S1x32x256, .f32⟩
  | .local _ .vmem, ⟨5, _⟩ => ⟨S1x32x256, .f32⟩
  | .local _ .vmem, ⟨6, _⟩ => ⟨S1x32x256, .f32⟩
  | .local _ .vmem, ⟨7, _⟩ => ⟨S1x32x256, .f32⟩
  | .local _ .vmem, ⟨8, _⟩ => ⟨S1x32x256, .f32⟩
  | .local _ .vmem, ⟨9, _⟩ => ⟨S1x32x256, .f32⟩
  | .local _ .vmem, ⟨10, _⟩ => ⟨S1x32x256, .f32⟩
  | .local _ .vmem, ⟨11, _⟩ => ⟨S1x32x256, .f32⟩
  | .local _ .vmem, ⟨12, _⟩ => ⟨S1x32x256, .f32⟩
  | .local _ .vmem, ⟨13, _⟩ => ⟨S1x32x256, .f32⟩
  | .local _ .vmem, ⟨14, _⟩ => ⟨S1x32x256, .f32⟩
  | .local _ .vmem, ⟨15, _⟩ => ⟨S1x32x256, .f32⟩
  | _, _ => ⟨S4x8x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel28Ideal.lean ====
abbrev S4x8x32x256 : Shape := ⟨4, ![4, 8, 32, 256]⟩
abbrev S8x32x256 : Shape := ⟨3, ![8, 32, 256]⟩
abbrev S4x1x32x256 : Shape := ⟨4, ![4, 1, 32, 256]⟩
abbrev S1x32x256 : Shape := ⟨3, ![1, 32, 256]⟩
abbrev S1x1x32x256 : Shape := ⟨4, ![1, 1, 32, 256]⟩
abbrev S32x256 : Shape := ⟨2, ![32, 256]⟩

abbrev nBuf : Space → Nat
  | .hbm => 9
  | .vmem => 16
  | .smem => 0
  | _ => 0

abbrev bufTy : (tb : Table) → Fin (tcTables nBuf tb) → BufTy
  | .hbm, ⟨0, _⟩ => ⟨S4x8x32x256, .f32⟩
  | .hbm, ⟨1, _⟩ => ⟨S8x32x256, .f32⟩
  | .hbm, ⟨2, _⟩ => ⟨S8x32x256, .f32⟩
  | .hbm, ⟨3, _⟩ => ⟨S8x32x256, .f32⟩
  | .hbm, ⟨4, _⟩ => ⟨S4x8x32x256, .bf16⟩
  | .hbm, ⟨5, _⟩ => ⟨S8x32x256, .f32⟩
  | .hbm, ⟨6, _⟩ => ⟨S8x32x256, .f32⟩
  | .hbm, ⟨7, _⟩ => ⟨S8x32x256, .f32⟩
  | .hbm, ⟨8, _⟩ => ⟨S8x32x256, .f32⟩
  | .local _ .vmem, ⟨0, _⟩ => ⟨S4x1x32x256, .bf16⟩
  | .local _ .vmem, ⟨1, _⟩ => ⟨S4x1x32x256, .bf16⟩
  | .local _ .vmem, ⟨2, _⟩ => ⟨S1x32x256, .f32⟩
  | .local _ .vmem, ⟨3, _⟩ => ⟨S1x32x256, .f32⟩
  | .local _ .vmem, ⟨4, _⟩ => ⟨S1x32x256, .f32⟩
  | .local _ .vmem, ⟨5, _⟩ => ⟨S1x32x256, .f32⟩
  | .local _ .vmem, ⟨6, _⟩ => ⟨S1x32x256, .f32⟩
  | .local _ .vmem, ⟨7, _⟩ => ⟨S1x32x256, .f32⟩
  | .local _ .vmem, ⟨8, _⟩ => ⟨S1x32x256, .f32⟩
  | .local _ .vmem, ⟨9, _⟩ => ⟨S1x32x256, .f32⟩
  | .local _ .vmem, ⟨10, _⟩ => ⟨S1x32x256, .f32⟩
  | .local _ .vmem, ⟨11, _⟩ => ⟨S1x32x256, .f32⟩
  | .local _ .vmem, ⟨12, _⟩ => ⟨S1x32x256, .f32⟩
  | .local _ .vmem, ⟨13, _⟩ => ⟨S1x32x256, .f32⟩
  | .local _ .vmem, ⟨14, _⟩ => ⟨S1x32x256, .f32⟩
  | .local _ .vmem, ⟨15, _⟩ => ⟨S1x32x256, .f32⟩
  | _, _ => ⟨S4x8x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference28Ideal.lean ====
abbrev S4x8x32x256 : Shape := ⟨4, ![4, 8, 32, 256]⟩
abbrev S8x32x256 : Shape := ⟨3, ![8, 32, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x8x32x256, .f32⟩
  | .hbm, ⟨1, _⟩ => ⟨S8x32x256, .f32⟩
  | .hbm, ⟨2, _⟩ => ⟨S8x32x256, .f32⟩
  | .hbm, ⟨3, _⟩ => ⟨S8x32x256, .f32⟩
  | .hbm, ⟨4, _⟩ => ⟨S_, .f32⟩
  | .hbm, ⟨5, _⟩ => ⟨S8x32x256, .f32⟩
  | .hbm, ⟨6, _⟩ => ⟨S_, .f32⟩
  | .hbm, ⟨7, _⟩ => ⟨S8x32x256, .f32⟩
  | .hbm, ⟨8, _⟩ => ⟨S8x32x256, .f32⟩
  | .hbm, ⟨9, _⟩ => ⟨S_, .f32⟩
  | .hbm, ⟨10, _⟩ => ⟨S8x32x256, .f32⟩
  | .hbm, ⟨11, _⟩ => ⟨S8x32x256, .f32⟩
  | .hbm, ⟨12, _⟩ => ⟨S8x32x256, .f32⟩
  | .hbm, ⟨13, _⟩ => ⟨S_, .f32⟩
  | .hbm, ⟨14, _⟩ => ⟨S8x32x256, .f32⟩
  | .hbm, ⟨15, _⟩ => ⟨S8x32x256, .f32⟩
  | .hbm, ⟨16, _⟩ => ⟨S8x32x256, .f32⟩
  | .hbm, ⟨17, _⟩ => ⟨S_, .f32⟩
  | .hbm, ⟨18, _⟩ => ⟨S8x32x256, .f32⟩
  | .hbm, ⟨19, _⟩ => ⟨S8x32x256, .f32⟩
  | .hbm, ⟨20, _⟩ => ⟨S8x32x256, .f32⟩
  | .hbm, ⟨21, _⟩ => ⟨S_, .f32⟩
  | .hbm, ⟨22, _⟩ => ⟨S8x32x256, .f32⟩
  | .hbm, ⟨23, _⟩ => ⟨S8x32x256, .f32⟩
  | .hbm, ⟨24, _⟩ => ⟨S_, .f32⟩
  | .hbm, ⟨25, _⟩ => ⟨S8x32x256, .f32⟩
  | .hbm, ⟨26, _⟩ => ⟨S8x32x256, .f32⟩
  | .hbm, ⟨27, _⟩ => ⟨S8x32x256, .f32⟩
  | .hbm, ⟨28, _⟩ => ⟨S_, .f32⟩
  | .hbm, ⟨29, _⟩ => ⟨S8x32x256, .f32⟩
  | .hbm, ⟨30, _⟩ => ⟨S8x32x256, .f32⟩
  | .hbm, ⟨31, _⟩ => ⟨S8x32x256, .f32⟩
  | .hbm, ⟨32, _⟩ => ⟨S_, .f32⟩
  | .hbm, ⟨33, _⟩ => ⟨S8x32x256, .f32⟩
  | .hbm, ⟨34, _⟩ => ⟨S8x32x256, .f32⟩
  | .hbm, ⟨35, _⟩ => ⟨S8x32x256, .f32⟩
  | .hbm, ⟨36, _⟩ => ⟨S_, .f32⟩
  | .hbm, ⟨37, _⟩ => ⟨S8x32x256, .f32⟩
  | .hbm, ⟨38, _⟩ => ⟨S8x32x256, .f32⟩
  | _, _ => ⟨S4x8x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel29.lean ====
abbrev S4x2x4x256 : Shape := ⟨4, ![4, 2, 4, 256]⟩
abbrev S2x4x256 : Shape := ⟨3, ![2, 4, 256]⟩
abbrev S4x1x4x256 : Shape := ⟨4, ![4, 1, 4, 256]⟩
abbrev S1x4x256 : Shape := ⟨3, ![1, 4, 256]⟩
abbrev S1x1x4x256 : Shape := ⟨4, ![1, 1, 4, 256]⟩
abbrev S4x256 : Shape := ⟨2, ![4, 256]⟩

abbrev nBuf : Space → Nat
  | .hbm => 9
  | .vmem => 16
  | .smem => 0
  | _ => 0

abbrev bufTy : (tb : Table) → Fin (tcTables nBuf tb) → BufTy
  | .hbm, ⟨0, _⟩ => ⟨S4x2x4x256, .f32⟩
  | .hbm, ⟨1, _⟩ => ⟨S2x4x256, .f32⟩
  | .hbm, ⟨2, _⟩ => ⟨S2x4x256, .f32⟩
  | .hbm, ⟨3, _⟩ => ⟨S2x4x256, .f32⟩
  | .hbm, ⟨4, _⟩ => ⟨S4x2x4x256, .bf16⟩
  | .hbm, ⟨5, _⟩ => ⟨S2x4x256, .f32⟩
  | .hbm, ⟨6, _⟩ => ⟨S2x4x256, .f32⟩
  | .hbm, ⟨7, _⟩ => ⟨S2x4x256, .f32⟩
  | .hbm, ⟨8, _⟩ => ⟨S2x4x256, .f32⟩
  | .local _ .vmem, ⟨0, _⟩ => ⟨S4x1x4x256, .bf16⟩
  | .local _ .vmem, ⟨1, _⟩ => ⟨S4x1x4x256, .bf16⟩
  | .local _ .vmem, ⟨2, _⟩ => ⟨S1x4x256, .f32⟩
  | .local _ .vmem, ⟨3, _⟩ => ⟨S1x4x256, .f32⟩
  | .local _ .vmem, ⟨4, _⟩ => ⟨S1x4x256, .f32⟩
  | .local _ .vmem, ⟨5, _⟩ => ⟨S1x4x256, .f32⟩
  | .local _ .vmem, ⟨6, _⟩ => ⟨S1x4x256, .f32⟩
  | .local _ .vmem, ⟨7, _⟩ => ⟨S1x4x256, .f32⟩
  | .local _ .vmem, ⟨8, _⟩ => ⟨S1x4x256, .f32⟩
  | .local _ .vmem, ⟨9, _⟩ => ⟨S1x4x256, .f32⟩
  | .local _ .vmem, ⟨10, _⟩ => ⟨S1x4x256, .f32⟩
  | .local _ .vmem, ⟨11, _⟩ => ⟨S1x4x256, .f32⟩
  | .local _ .vmem, ⟨12, _⟩ => ⟨S1x4x256, .f32⟩
  | .local _ .vmem, ⟨13, _⟩ => ⟨S1x4x256, .f32⟩
  | .local _ .vmem, ⟨14, _⟩ => ⟨S1x4x256, .f32⟩
  | .local _ .vmem, ⟨15, _⟩ => ⟨S1x4x256, .f32⟩
  | _, _ => ⟨S4x2x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x4x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel29Ideal.lean ====
abbrev S4x2x4x256 : Shape := ⟨4, ![4, 2, 4, 256]⟩
abbrev S2x4x256 : Shape := ⟨3, ![2, 4, 256]⟩
abbrev S4x1x4x256 : Shape := ⟨4, ![4, 1, 4, 256]⟩
abbrev S1x4x256 : Shape := ⟨3, ![1, 4, 256]⟩
abbrev S1x1x4x256 : Shape := ⟨4, ![1, 1, 4, 256]⟩
abbrev S4x256 : Shape := ⟨2, ![4, 256]⟩

abbrev nBuf : Space → Nat
  | .hbm => 9
  | .vmem => 16
  | .smem => 0
  | _ => 0

abbrev bufTy : (tb : Table) → Fin (tcTables nBuf tb) → BufTy
  | .hbm, ⟨0, _⟩ => ⟨S4x2x4x256, .f32⟩
  | .hbm, ⟨1, _⟩ => ⟨S2x4x256, .f32⟩
  | .hbm, ⟨2, _⟩ => ⟨S2x4x256, .f32⟩
  | .hbm, ⟨3, _⟩ => ⟨S2x4x256, .f32⟩
  | .hbm, ⟨4, _⟩ => ⟨S4x2x4x256, .bf16⟩
  | .hbm, ⟨5, _⟩ => ⟨S2x4x256, .f32⟩
  | .hbm, ⟨6, _⟩ => ⟨S2x4x256, .f32⟩
  | .hbm, ⟨7, _⟩ => ⟨S2x4x256, .f32⟩
  | .hbm, ⟨8, _⟩ => ⟨S2x4x256, .f32⟩
  | .local _ .vmem, ⟨0, _⟩ => ⟨S4x1x4x256, .bf16⟩
  | .local _ .vmem, ⟨1, _⟩ => ⟨S4x1x4x256, .bf16⟩
  | .local _ .vmem, ⟨2, _⟩ => ⟨S1x4x256, .f32⟩
  | .local _ .vmem, ⟨3, _⟩ => ⟨S1x4x256, .f32⟩
  | .local _ .vmem, ⟨4, _⟩ => ⟨S1x4x256, .f32⟩
  | .local _ .vmem, ⟨5, _⟩ => ⟨S1x4x256, .f32⟩
  | .local _ .vmem, ⟨6, _⟩ => ⟨S1x4x256, .f32⟩
  | .local _ .vmem, ⟨7, _⟩ => ⟨S1x4x256, .f32⟩
  | .local _ .vmem, ⟨8, _⟩ => ⟨S1x4x256, .f32⟩
  | .local _ .vmem, ⟨9, _⟩ => ⟨S1x4x256, .f32⟩
  | .local _ .vmem, ⟨10, _⟩ => ⟨S1x4x256, .f32⟩
  | .local _ .vmem, ⟨11, _⟩ => ⟨S1x4x256, .f32⟩
  | .local _ .vmem, ⟨12, _⟩ => ⟨S1x4x256, .f32⟩
  | .local _ .vmem, ⟨13, _⟩ => ⟨S1x4x256, .f32⟩
  | .local _ .vmem, ⟨14, _⟩ => ⟨S1x4x256, .f32⟩
  | .local _ .vmem, ⟨15, _⟩ => ⟨S1x4x256, .f32⟩
  | _, _ => ⟨S4x2x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x4x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference29Ideal.lean ====
abbrev S4x2x4x256 : Shape := ⟨4, ![4, 2, 4, 256]⟩
abbrev S2x4x256 : Shape := ⟨3, ![2, 4, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x2x4x256, .f32⟩
  | .hbm, ⟨1, _⟩ => ⟨S2x4x256, .f32⟩
  | .hbm, ⟨2, _⟩ => ⟨S2x4x256, .f32⟩
  | .hbm, ⟨3, _⟩ => ⟨S2x4x256, .f32⟩
  | .hbm, ⟨4, _⟩ => ⟨S_, .f32⟩
  | .hbm, ⟨5, _⟩ => ⟨S2x4x256, .f32⟩
  | .hbm, ⟨6, _⟩ => ⟨S_, .f32⟩
  | .hbm, ⟨7, _⟩ => ⟨S2x4x256, .f32⟩
  | .hbm, ⟨8, _⟩ => ⟨S2x4x256, .f32⟩
  | .hbm, ⟨9, _⟩ => ⟨S_, .f32⟩
  | .hbm, ⟨10, _⟩ => ⟨S2x4x256, .f32⟩
  | .hbm, ⟨11, _⟩ => ⟨S2x4x256, .f32⟩
  | .hbm, ⟨12, _⟩ => ⟨S2x4x256, .f32⟩
  | .hbm, ⟨13, _⟩ => ⟨S_, .f32⟩
  | .hbm, ⟨14, _⟩ => ⟨S2x4x256, .f32⟩
  | .hbm, ⟨15, _⟩ => ⟨S2x4x256, .f32⟩
  | .hbm, ⟨16, _⟩ => ⟨S2x4x256, .f32⟩
  | .hbm, ⟨17, _⟩ => ⟨S_, .f32⟩
  | .hbm, ⟨18, _⟩ => ⟨S2x4x256, .f32⟩
  | .hbm, ⟨19, _⟩ => ⟨S2x4x256, .f32⟩
  | .hbm, ⟨20, _⟩ => ⟨S2x4x256, .f32⟩
  | .hbm, ⟨21, _⟩ => ⟨S_, .f32⟩
  | .hbm, ⟨22, _⟩ => ⟨S2x4x256, .f32⟩
  | .hbm, ⟨23, _⟩ => ⟨S2x4x256, .f32⟩
  | .hbm, ⟨24, _⟩ => ⟨S_, .f32⟩
  | .hbm, ⟨25, _⟩ => ⟨S2x4x256, .f32⟩
  | .hbm, ⟨26, _⟩ => ⟨S2x4x256, .f32⟩
  | .hbm, ⟨27, _⟩ => ⟨S2x4x256, .f32⟩
  | .hbm, ⟨28, _⟩ => ⟨S_, .f32⟩
  | .hbm, ⟨29, _⟩ => ⟨S2x4x256, .f32⟩
  | .hbm, ⟨30, _⟩ => ⟨S2x4x256, .f32⟩
  | .hbm, ⟨31, _⟩ => ⟨S2x4x256, .f32⟩
  | .hbm, ⟨32, _⟩ => ⟨S_, .f32⟩
  | .hbm, ⟨33, _⟩ => ⟨S2x4x256, .f32⟩
  | .hbm, ⟨34, _⟩ => ⟨S2x4x256, .f32⟩
  | .hbm, ⟨35, _⟩ => ⟨S2x4x256, .f32⟩
  | .hbm, ⟨36, _⟩ => ⟨S_, .f32⟩
  | .hbm, ⟨37, _⟩ => ⟨S2x4x256, .f32⟩
  | .hbm, ⟨38, _⟩ => ⟨S2x4x256, .f32⟩
  | _, _ => ⟨S4x2x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel30.lean ====
abbrev S4x2x31x128 : Shape := ⟨4, ![4, 2, 31, 128]⟩
abbrev S2x31x128 : Shape := ⟨3, ![2, 31, 128]⟩
abbrev S4x1x31x128 : Shape := ⟨4, ![4, 1, 31, 128]⟩
abbrev S1x31x128 : Shape := ⟨3, ![1, 31, 128]⟩
abbrev S1x1x31x128 : Shape := ⟨4, ![1, 1, 31, 128]⟩
abbrev S31x128 : Shape := ⟨2, ![31, 128]⟩

abbrev nBuf : Space → Nat
  | .hbm => 9
  | .vmem => 16
  | .smem => 0
  | _ => 0

abbrev bufTy : (tb : Table) → Fin (tcTables nBuf tb) → BufTy
  | .hbm, ⟨0, _⟩ => ⟨S4x2x31x128, .f32⟩
  | .hbm, ⟨1, _⟩ => ⟨S2x31x128, .f32⟩
  | .hbm, ⟨2, _⟩ => ⟨S2x31x128, .f32⟩
  | .hbm, ⟨3, _⟩ => ⟨S2x31x128, .f32⟩
  | .hbm, ⟨4, _⟩ => ⟨S4x2x31x128, .bf16⟩
  | .hbm, ⟨5, _⟩ => ⟨S2x31x128, .f32⟩
  | .hbm, ⟨6, _⟩ => ⟨S2x31x128, .f32⟩
  | .hbm, ⟨7, _⟩ => ⟨S2x31x128, .f32⟩
  | .hbm, ⟨8, _⟩ => ⟨S2x31x128, .f32⟩
  | .local _ .vmem, ⟨0, _⟩ => ⟨S4x1x31x128, .bf16⟩
  | .local _ .vmem, ⟨1, _⟩ => ⟨S4x1x31x128, .bf16⟩
  | .local _ .vmem, ⟨2, _⟩ => ⟨S1x31x128, .f32⟩
  | .local _ .vmem, ⟨3, _⟩ => ⟨S1x31x128, .f32⟩
  | .local _ .vmem, ⟨4, _⟩ => ⟨S1x31x128, .f32⟩
  | .local _ .vmem, ⟨5, _⟩ => ⟨S1x31x128, .f32⟩
  | .local _ .vmem, ⟨6, _⟩ => ⟨S1x31x128, .f32⟩
  | .local _ .vmem, ⟨7, _⟩ => ⟨S1x31x128, .f32⟩
  | .local _ .vmem, ⟨8, _⟩ => ⟨S1x31x128, .f32⟩
  | .local _ .vmem, ⟨9, _⟩ => ⟨S1x31x128, .f32⟩
  | .local _ .vmem, ⟨10, _⟩ => ⟨S1x31x128, .f32⟩
  | .local _ .vmem, ⟨11, _⟩ => ⟨S1x31x128, .f32⟩
  | .local _ .vmem, ⟨12, _⟩ => ⟨S1x31x128, .f32⟩
  | .local _ .vmem, ⟨13, _⟩ => ⟨S1x31x128, .f32⟩
  | .local _ .vmem, ⟨14, _⟩ => ⟨S1x31x128, .f32⟩
  | .local _ .vmem, ⟨15, _⟩ => ⟨S1x31x128, .f32⟩
  | _, _ => ⟨S4x2x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x31x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x31x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x31x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x31x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x31x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x31x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x31x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel30Ideal.lean ====
abbrev S4x2x31x128 : Shape := ⟨4, ![4, 2, 31, 128]⟩
abbrev S2x31x128 : Shape := ⟨3, ![2, 31, 128]⟩
abbrev S4x1x31x128 : Shape := ⟨4, ![4, 1, 31, 128]⟩
abbrev S1x31x128 : Shape := ⟨3, ![1, 31, 128]⟩
abbrev S1x1x31x128 : Shape := ⟨4, ![1, 1, 31, 128]⟩
abbrev S31x128 : Shape := ⟨2, ![31, 128]⟩

abbrev nBuf : Space → Nat
  | .hbm => 9
  | .vmem => 16
  | .smem => 0
  | _ => 0

abbrev bufTy : (tb : Table) → Fin (tcTables nBuf tb) → BufTy
  | .hbm, ⟨0, _⟩ => ⟨S4x2x31x128, .f32⟩
  | .hbm, ⟨1, _⟩ => ⟨S2x31x128, .f32⟩
  | .hbm, ⟨2, _⟩ => ⟨S2x31x128, .f32⟩
  | .hbm, ⟨3, _⟩ => ⟨S2x31x128, .f32⟩
  | .hbm, ⟨4, _⟩ => ⟨S4x2x31x128, .bf16⟩
  | .hbm, ⟨5, _⟩ => ⟨S2x31x128, .f32⟩
  | .hbm, ⟨6, _⟩ => ⟨S2x31x128, .f32⟩
  | .hbm, ⟨7, _⟩ => ⟨S2x31x128, .f32⟩
  | .hbm, ⟨8, _⟩ => ⟨S2x31x128, .f32⟩
  | .local _ .vmem, ⟨0, _⟩ => ⟨S4x1x31x128, .bf16⟩
  | .local _ .vmem, ⟨1, _⟩ => ⟨S4x1x31x128, .bf16⟩
  | .local _ .vmem, ⟨2, _⟩ => ⟨S1x31x128, .f32⟩
  | .local _ .vmem, ⟨3, _⟩ => ⟨S1x31x128, .f32⟩
  | .local _ .vmem, ⟨4, _⟩ => ⟨S1x31x128, .f32⟩
  | .local _ .vmem, ⟨5, _⟩ => ⟨S1x31x128, .f32⟩
  | .local _ .vmem, ⟨6, _⟩ => ⟨S1x31x128, .f32⟩
  | .local _ .vmem, ⟨7, _⟩ => ⟨S1x31x128, .f32⟩
  | .local _ .vmem, ⟨8, _⟩ => ⟨S1x31x128, .f32⟩
  | .local _ .vmem, ⟨9, _⟩ => ⟨S1x31x128, .f32⟩
  | .local _ .vmem, ⟨10, _⟩ => ⟨S1x31x128, .f32⟩
  | .local _ .vmem, ⟨11, _⟩ => ⟨S1x31x128, .f32⟩
  | .local _ .vmem, ⟨12, _⟩ => ⟨S1x31x128, .f32⟩
  | .local _ .vmem, ⟨13, _⟩ => ⟨S1x31x128, .f32⟩
  | .local _ .vmem, ⟨14, _⟩ => ⟨S1x31x128, .f32⟩
  | .local _ .vmem, ⟨15, _⟩ => ⟨S1x31x128, .f32⟩
  | _, _ => ⟨S4x2x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x31x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x31x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x31x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x31x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x31x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x31x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x31x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference30Ideal.lean ====
abbrev S4x2x31x128 : Shape := ⟨4, ![4, 2, 31, 128]⟩
abbrev S2x31x128 : Shape := ⟨3, ![2, 31, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x2x31x128, .f32⟩
  | .hbm, ⟨1, _⟩ => ⟨S2x31x128, .f32⟩
  | .hbm, ⟨2, _⟩ => ⟨S2x31x128, .f32⟩
  | .hbm, ⟨3, _⟩ => ⟨S2x31x128, .f32⟩
  | .hbm, ⟨4, _⟩ => ⟨S_, .f32⟩
  | .hbm, ⟨5, _⟩ => ⟨S2x31x128, .f32⟩
  | .hbm, ⟨6, _⟩ => ⟨S_, .f32⟩
  | .hbm, ⟨7, _⟩ => ⟨S2x31x128, .f32⟩
  | .hbm, ⟨8, _⟩ => ⟨S2x31x128, .f32⟩
  | .hbm, ⟨9, _⟩ => ⟨S_, .f32⟩
  | .hbm, ⟨10, _⟩ => ⟨S2x31x128, .f32⟩
  | .hbm, ⟨11, _⟩ => ⟨S2x31x128, .f32⟩
  | .hbm, ⟨12, _⟩ => ⟨S2x31x128, .f32⟩
  | .hbm, ⟨13, _⟩ => ⟨S_, .f32⟩
  | .hbm, ⟨14, _⟩ => ⟨S2x31x128, .f32⟩
  | .hbm, ⟨15, _⟩ => ⟨S2x31x128, .f32⟩
  | .hbm, ⟨16, _⟩ => ⟨S2x31x128, .f32⟩
  | .hbm, ⟨17, _⟩ => ⟨S_, .f32⟩
  | .hbm, ⟨18, _⟩ => ⟨S2x31x128, .f32⟩
  | .hbm, ⟨19, _⟩ => ⟨S2x31x128, .f32⟩
  | .hbm, ⟨20, _⟩ => ⟨S2x31x128, .f32⟩
  | .hbm, ⟨21, _⟩ => ⟨S_, .f32⟩
  | .hbm, ⟨22, _⟩ => ⟨S2x31x128, .f32⟩
  | .hbm, ⟨23, _⟩ => ⟨S2x31x128, .f32⟩
  | .hbm, ⟨24, _⟩ => ⟨S_, .f32⟩
  | .hbm, ⟨25, _⟩ => ⟨S2x31x128, .f32⟩
  | .hbm, ⟨26, _⟩ => ⟨S2x31x128, .f32⟩
  | .hbm, ⟨27, _⟩ => ⟨S2x31x128, .f32⟩
  | .hbm, ⟨28, _⟩ => ⟨S_, .f32⟩
  | .hbm, ⟨29, _⟩ => ⟨S2x31x128, .f32⟩
  | .hbm, ⟨30, _⟩ => ⟨S2x31x128, .f32⟩
  | .hbm, ⟨31, _⟩ => ⟨S2x31x128, .f32⟩
  | .hbm, ⟨32, _⟩ => ⟨S_, .f32⟩
  | .hbm, ⟨33, _⟩ => ⟨S2x31x128, .f32⟩
  | .hbm, ⟨34, _⟩ => ⟨S2x31x128, .f32⟩
  | .hbm, ⟨35, _⟩ => ⟨S2x31x128, .f32⟩
  | .hbm, ⟨36, _⟩ => ⟨S_, .f32⟩
  | .hbm, ⟨37, _⟩ => ⟨S2x31x128, .f32⟩
  | .hbm, ⟨38, _⟩ => ⟨S2x31x128, .f32⟩
  | _, _ => ⟨S4x2x31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel31.lean ====
abbrev S4x2x3x1408 : Shape := ⟨4, ![4, 2, 3, 1408]⟩
abbrev S2x3x1408 : Shape := ⟨3, ![2, 3, 1408]⟩
abbrev S4x1x3x1408 : Shape := ⟨4, ![4, 1, 3, 1408]⟩
abbrev S1x3x1408 : Shape := ⟨3, ![1, 3, 1408]⟩
abbrev S1x1x3x1408 : Shape := ⟨4, ![1, 1, 3, 1408]⟩
abbrev S3x1408 : Shape := ⟨2, ![3, 1408]⟩

abbrev nBuf : Space → Nat
  | .hbm => 9
  | .vmem => 16
  | .smem => 0
  | _ => 0

abbrev bufTy : (tb : Table) → Fin (tcTables nBuf tb) → BufTy
  | .hbm, ⟨0, _⟩ => ⟨S4x2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S4x2x3x1408, .bf16⟩
  | .hbm, ⟨5, _⟩ => ⟨S2x3x1408, .f32⟩
  | .hbm, ⟨6, _⟩ => ⟨S2x3x1408, .f32⟩
  | .hbm, ⟨7, _⟩ => ⟨S2x3x1408, .f32⟩
  | .hbm, ⟨8, _⟩ => ⟨S2x3x1408, .f32⟩
  | .local _ .vmem, ⟨0, _⟩ => ⟨S4x1x3x1408, .bf16⟩
  | .local _ .vmem, ⟨1, _⟩ => ⟨S4x1x3x1408, .bf16⟩
  | .local _ .vmem, ⟨2, _⟩ => ⟨S1x3x1408, .f32⟩
  | .local _ .vmem, ⟨3, _⟩ => ⟨S1x3x1408, .f32⟩
  | .local _ .vmem, ⟨4, _⟩ => ⟨S1x3x1408, .f32⟩
  | .local _ .vmem, ⟨5, _⟩ => ⟨S1x3x1408, .f32⟩
  | .local _ .vmem, ⟨6, _⟩ => ⟨S1x3x1408, .f32⟩
  | .local _ .vmem, ⟨7, _⟩ => ⟨S1x3x1408, .f32⟩
  | .local _ .vmem, ⟨8, _⟩ => ⟨S1x3x1408, .f32⟩
  | .local _ .vmem, ⟨9, _⟩ => ⟨S1x3x1408, .f32⟩
  | .local _ .vmem, ⟨10, _⟩ => ⟨S1x3x1408, .f32⟩
  | .local _ .vmem, ⟨11, _⟩ => ⟨S1x3x1408, .f32⟩
  | .local _ .vmem, ⟨12, _⟩ => ⟨S1x3x1408, .f32⟩
  | .local _ .vmem, ⟨13, _⟩ => ⟨S1x3x1408, .f32⟩
  | .local _ .vmem, ⟨14, _⟩ => ⟨S1x3x1408, .f32⟩
  | .local _ .vmem, ⟨15, _⟩ => ⟨S1x3x1408, .f32⟩
  | _, _ => ⟨S4x2x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x3x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel31Ideal.lean ====
abbrev S4x2x3x1408 : Shape := ⟨4, ![4, 2, 3, 1408]⟩
abbrev S2x3x1408 : Shape := ⟨3, ![2, 3, 1408]⟩
abbrev S4x1x3x1408 : Shape := ⟨4, ![4, 1, 3, 1408]⟩
abbrev S1x3x1408 : Shape := ⟨3, ![1, 3, 1408]⟩
abbrev S1x1x3x1408 : Shape := ⟨4, ![1, 1, 3, 1408]⟩
abbrev S3x1408 : Shape := ⟨2, ![3, 1408]⟩

abbrev nBuf : Space → Nat
  | .hbm => 9
  | .vmem => 16
  | .smem => 0
  | _ => 0

abbrev bufTy : (tb : Table) → Fin (tcTables nBuf tb) → BufTy
  | .hbm, ⟨0, _⟩ => ⟨S4x2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S4x2x3x1408, .bf16⟩
  | .hbm, ⟨5, _⟩ => ⟨S2x3x1408, .f32⟩
  | .hbm, ⟨6, _⟩ => ⟨S2x3x1408, .f32⟩
  | .hbm, ⟨7, _⟩ => ⟨S2x3x1408, .f32⟩
  | .hbm, ⟨8, _⟩ => ⟨S2x3x1408, .f32⟩
  | .local _ .vmem, ⟨0, _⟩ => ⟨S4x1x3x1408, .bf16⟩
  | .local _ .vmem, ⟨1, _⟩ => ⟨S4x1x3x1408, .bf16⟩
  | .local _ .vmem, ⟨2, _⟩ => ⟨S1x3x1408, .f32⟩
  | .local _ .vmem, ⟨3, _⟩ => ⟨S1x3x1408, .f32⟩
  | .local _ .vmem, ⟨4, _⟩ => ⟨S1x3x1408, .f32⟩
  | .local _ .vmem, ⟨5, _⟩ => ⟨S1x3x1408, .f32⟩
  | .local _ .vmem, ⟨6, _⟩ => ⟨S1x3x1408, .f32⟩
  | .local _ .vmem, ⟨7, _⟩ => ⟨S1x3x1408, .f32⟩
  | .local _ .vmem, ⟨8, _⟩ => ⟨S1x3x1408, .f32⟩
  | .local _ .vmem, ⟨9, _⟩ => ⟨S1x3x1408, .f32⟩
  | .local _ .vmem, ⟨10, _⟩ => ⟨S1x3x1408, .f32⟩
  | .local _ .vmem, ⟨11, _⟩ => ⟨S1x3x1408, .f32⟩
  | .local _ .vmem, ⟨12, _⟩ => ⟨S1x3x1408, .f32⟩
  | .local _ .vmem, ⟨13, _⟩ => ⟨S1x3x1408, .f32⟩
  | .local _ .vmem, ⟨14, _⟩ => ⟨S1x3x1408, .f32⟩
  | .local _ .vmem, ⟨15, _⟩ => ⟨S1x3x1408, .f32⟩
  | _, _ => ⟨S4x2x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x3x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference31Ideal.lean ====
abbrev S4x2x3x1408 : Shape := ⟨4, ![4, 2, 3, 1408]⟩
abbrev S2x3x1408 : Shape := ⟨3, ![2, 3, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S_, .f32⟩
  | .hbm, ⟨5, _⟩ => ⟨S2x3x1408, .f32⟩
  | .hbm, ⟨6, _⟩ => ⟨S_, .f32⟩
  | .hbm, ⟨7, _⟩ => ⟨S2x3x1408, .f32⟩
  | .hbm, ⟨8, _⟩ => ⟨S2x3x1408, .f32⟩
  | .hbm, ⟨9, _⟩ => ⟨S_, .f32⟩
  | .hbm, ⟨10, _⟩ => ⟨S2x3x1408, .f32⟩
  | .hbm, ⟨11, _⟩ => ⟨S2x3x1408, .f32⟩
  | .hbm, ⟨12, _⟩ => ⟨S2x3x1408, .f32⟩
  | .hbm, ⟨13, _⟩ => ⟨S_, .f32⟩
  | .hbm, ⟨14, _⟩ => ⟨S2x3x1408, .f32⟩
  | .hbm, ⟨15, _⟩ => ⟨S2x3x1408, .f32⟩
  | .hbm, ⟨16, _⟩ => ⟨S2x3x1408, .f32⟩
  | .hbm, ⟨17, _⟩ => ⟨S_, .f32⟩
  | .hbm, ⟨18, _⟩ => ⟨S2x3x1408, .f32⟩
  | .hbm, ⟨19, _⟩ => ⟨S2x3x1408, .f32⟩
  | .hbm, ⟨20, _⟩ => ⟨S2x3x1408, .f32⟩
  | .hbm, ⟨21, _⟩ => ⟨S_, .f32⟩
  | .hbm, ⟨22, _⟩ => ⟨S2x3x1408, .f32⟩
  | .hbm, ⟨23, _⟩ => ⟨S2x3x1408, .f32⟩
  | .hbm, ⟨24, _⟩ => ⟨S_, .f32⟩
  | .hbm, ⟨25, _⟩ => ⟨S2x3x1408, .f32⟩
  | .hbm, ⟨26, _⟩ => ⟨S2x3x1408, .f32⟩
  | .hbm, ⟨27, _⟩ => ⟨S2x3x1408, .f32⟩
  | .hbm, ⟨28, _⟩ => ⟨S_, .f32⟩
  | .hbm, ⟨29, _⟩ => ⟨S2x3x1408, .f32⟩
  | .hbm, ⟨30, _⟩ => ⟨S2x3x1408, .f32⟩
  | .hbm, ⟨31, _⟩ => ⟨S2x3x1408, .f32⟩
  | .hbm, ⟨32, _⟩ => ⟨S_, .f32⟩
  | .hbm, ⟨33, _⟩ => ⟨S2x3x1408, .f32⟩
  | .hbm, ⟨34, _⟩ => ⟨S2x3x1408, .f32⟩
  | .hbm, ⟨35, _⟩ => ⟨S2x3x1408, .f32⟩
  | .hbm, ⟨36, _⟩ => ⟨S_, .f32⟩
  | .hbm, ⟨37, _⟩ => ⟨S2x3x1408, .f32⟩
  | .hbm, ⟨38, _⟩ => ⟨S2x3x1408, .f32⟩
  | _, _ => ⟨S4x2x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel32.lean ====
abbrev S4x8x1024x256 : Shape := ⟨4, ![4, 8, 1024, 256]⟩
abbrev S8x1024x256 : Shape := ⟨3, ![8, 1024, 256]⟩
abbrev S4x1x1024x256 : Shape := ⟨4, ![4, 1, 1024, 256]⟩
abbrev S1x1024x256 : Shape := ⟨3, ![1, 1024, 256]⟩
abbrev S1x1x1024x256 : Shape := ⟨4, ![1, 1, 1024, 256]⟩
abbrev S1024x256 : Shape := ⟨2, ![1024, 256]⟩

abbrev nBuf : Space → Nat
  | .hbm => 9
  | .vmem => 16
  | .smem => 0
  | _ => 0

abbrev bufTy : (tb : Table) → Fin (tcTables nBuf tb) → BufTy
  | .hbm, ⟨0, _⟩ => ⟨S4x8x1024x256, .f32⟩
  | .hbm, ⟨1, _⟩ => ⟨S8x1024x256, .f32⟩
  | .hbm, ⟨2, _⟩ => ⟨S8x1024x256, .f32⟩
  | .hbm, ⟨3, _⟩ => ⟨S8x1024x256, .f32⟩
  | .hbm, ⟨4, _⟩ => ⟨S4x8x1024x256, .bf16⟩
  | .hbm, ⟨5, _⟩ => ⟨S8x1024x256, .f32⟩
  | .hbm, ⟨6, _⟩ => ⟨S8x1024x256, .f32⟩
  | .hbm, ⟨7, _⟩ => ⟨S8x1024x256, .f32⟩
  | .hbm, ⟨8, _⟩ => ⟨S8x1024x256, .f32⟩
  | .local _ .vmem, ⟨0, _⟩ => ⟨S4x1x1024x256, .bf16⟩
  | .local _ .vmem, ⟨1, _⟩ => ⟨S4x1x1024x256, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x256, .f32⟩
  | .local _ .vmem, ⟨14, _⟩ => ⟨S1x1024x256, .f32⟩
  | .local _ .vmem, ⟨15, _⟩ => ⟨S1x1024x256, .f32⟩
  | _, _ => ⟨S4x8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel32Ideal.lean ====
abbrev S4x8x1024x256 : Shape := ⟨4, ![4, 8, 1024, 256]⟩
abbrev S8x1024x256 : Shape := ⟨3, ![8, 1024, 256]⟩
abbrev S4x1x1024x256 : Shape := ⟨4, ![4, 1, 1024, 256]⟩
abbrev S1x1024x256 : Shape := ⟨3, ![1, 1024, 256]⟩
abbrev S1x1x1024x256 : Shape := ⟨4, ![1, 1, 1024, 256]⟩
abbrev S1024x256 : Shape := ⟨2, ![1024, 256]⟩

abbrev nBuf : Space → Nat
  | .hbm => 9
  | .vmem => 16
  | .smem => 0
  | _ => 0

abbrev bufTy : (tb : Table) → Fin (tcTables nBuf tb) → BufTy
  | .hbm, ⟨0, _⟩ => ⟨S4x8x1024x256, .f32⟩
  | .hbm, ⟨1, _⟩ => ⟨S8x1024x256, .f32⟩
  | .hbm, ⟨2, _⟩ => ⟨S8x1024x256, .f32⟩
  | .hbm, ⟨3, _⟩ => ⟨S8x1024x256, .f32⟩
  | .hbm, ⟨4, _⟩ => ⟨S4x8x1024x256, .bf16⟩
  | .hbm, ⟨5, _⟩ => ⟨S8x1024x256, .f32⟩
  | .hbm, ⟨6, _⟩ => ⟨S8x1024x256, .f32⟩
  | .hbm, ⟨7, _⟩ => ⟨S8x1024x256, .f32⟩
  | .hbm, ⟨8, _⟩ => ⟨S8x1024x256, .f32⟩
  | .local _ .vmem, ⟨0, _⟩ => ⟨S4x1x1024x256, .bf16⟩
  | .local _ .vmem, ⟨1, _⟩ => ⟨S4x1x1024x256, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x256, .f32⟩
  | .local _ .vmem, ⟨14, _⟩ => ⟨S1x1024x256, .f32⟩
  | .local _ .vmem, ⟨15, _⟩ => ⟨S1x1024x256, .f32⟩
  | _, _ => ⟨S4x8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference32Ideal.lean ====
abbrev S4x8x1024x256 : Shape := ⟨4, ![4, 8, 1024, 256]⟩
abbrev S8x1024x256 : Shape := ⟨3, ![8, 1024, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x8x1024x256, .f32⟩
  | .hbm, ⟨1, _⟩ => ⟨S8x1024x256, .f32⟩
  | .hbm, ⟨2, _⟩ => ⟨S8x1024x256, .f32⟩
  | .hbm, ⟨3, _⟩ => ⟨S8x1024x256, .f32⟩
  | .hbm, ⟨4, _⟩ => ⟨S_, .f32⟩
  | .hbm, ⟨5, _⟩ => ⟨S8x1024x256, .f32⟩
  | .hbm, ⟨6, _⟩ => ⟨S_, .f32⟩
  | .hbm, ⟨7, _⟩ => ⟨S8x1024x256, .f32⟩
  | .hbm, ⟨8, _⟩ => ⟨S8x1024x256, .f32⟩
  | .hbm, ⟨9, _⟩ => ⟨S_, .f32⟩
  | .hbm, ⟨10, _⟩ => ⟨S8x1024x256, .f32⟩
  | .hbm, ⟨11, _⟩ => ⟨S8x1024x256, .f32⟩
  | .hbm, ⟨12, _⟩ => ⟨S8x1024x256, .f32⟩
  | .hbm, ⟨13, _⟩ => ⟨S_, .f32⟩
  | .hbm, ⟨14, _⟩ => ⟨S8x1024x256, .f32⟩
  | .hbm, ⟨15, _⟩ => ⟨S8x1024x256, .f32⟩
  | .hbm, ⟨16, _⟩ => ⟨S8x1024x256, .f32⟩
  | .hbm, ⟨17, _⟩ => ⟨S_, .f32⟩
  | .hbm, ⟨18, _⟩ => ⟨S8x1024x256, .f32⟩
  | .hbm, ⟨19, _⟩ => ⟨S8x1024x256, .f32⟩
  | .hbm, ⟨20, _⟩ => ⟨S8x1024x256, .f32⟩
  | .hbm, ⟨21, _⟩ => ⟨S_, .f32⟩
  | .hbm, ⟨22, _⟩ => ⟨S8x1024x256, .f32⟩
  | .hbm, ⟨23, _⟩ => ⟨S8x1024x256, .f32⟩
  | .hbm, ⟨24, _⟩ => ⟨S_, .f32⟩
  | .hbm, ⟨25, _⟩ => ⟨S8x1024x256, .f32⟩
  | .hbm, ⟨26, _⟩ => ⟨S8x1024x256, .f32⟩
  | .hbm, ⟨27, _⟩ => ⟨S8x1024x256, .f32⟩
  | .hbm, ⟨28, _⟩ => ⟨S_, .f32⟩
  | .hbm, ⟨29, _⟩ => ⟨S8x1024x256, .f32⟩
  | .hbm, ⟨30, _⟩ => ⟨S8x1024x256, .f32⟩
  | .hbm, ⟨31, _⟩ => ⟨S8x1024x256, .f32⟩
  | .hbm, ⟨32, _⟩ => ⟨S_, .f32⟩
  | .hbm, ⟨33, _⟩ => ⟨S8x1024x256, .f32⟩
  | .hbm, ⟨34, _⟩ => ⟨S8x1024x256, .f32⟩
  | .hbm, ⟨35, _⟩ => ⟨S8x1024x256, .f32⟩
  | .hbm, ⟨36, _⟩ => ⟨S_, .f32⟩
  | .hbm, ⟨37, _⟩ => ⟨S8x1024x256, .f32⟩
  | .hbm, ⟨38, _⟩ => ⟨S8x1024x256, .f32⟩
  | _, _ => ⟨S4x8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel33.lean ====
abbrev S8x1x344x128 : Shape := ⟨4, ![8, 1, 344, 128]⟩
abbrev S1x344x128 : Shape := ⟨3, ![1, 344, 128]⟩
abbrev S8x1x8x128 : Shape := ⟨4, ![8, 1, 8, 128]⟩
abbrev S1x8x128 : Shape := ⟨3, ![1, 8, 128]⟩
abbrev S1x1x8x128 : Shape := ⟨4, ![1, 1, 8, 128]⟩
abbrev S8x128 : Shape := ⟨2, ![8, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x1x344x128, .f32⟩
  | .hbm, ⟨1, _⟩ => ⟨S1x344x128, .f32⟩
  | .hbm, ⟨2, _⟩ => ⟨S1x344x128, .f32⟩
  | .hbm, ⟨3, _⟩ => ⟨S1x344x128, .f32⟩
  | .hbm, ⟨4, _⟩ => ⟨S1x344x128, .f32⟩
  | .hbm, ⟨5, _⟩ => ⟨S1x344x128, .f32⟩
  | .hbm, ⟨6, _⟩ => ⟨S1x344x128, .f32⟩
  | .hbm, ⟨7, _⟩ => ⟨S1x344x128, .f32⟩
  | .local _ .vmem, ⟨0, _⟩ => ⟨S8x1x8x128, .f32⟩
  | .local _ .vmem, ⟨1, _⟩ => ⟨S8x1x8x128, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S1x8x128, .f32⟩
  | _, _ => ⟨S8x1x344x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 43], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference33Ideal.lean ====
abbrev S8x1x344x128 : Shape := ⟨4, ![8, 1, 344, 128]⟩
abbrev S1x344x128 : Shape := ⟨3, ![1, 344, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x344x128, .f32⟩
  | .hbm, ⟨1, _⟩ => ⟨S1x344x128, .f32⟩
  | .hbm, ⟨2, _⟩ => ⟨S1x344x128, .f32⟩
  | .hbm, ⟨3, _⟩ => ⟨S1x344x128, .f32⟩
  | .hbm, ⟨4, _⟩ => ⟨S_, .f32⟩
  | .hbm, ⟨5, _⟩ => ⟨S1x344x128, .f32⟩
  | .hbm, ⟨6, _⟩ => ⟨S_, .f32⟩
  | .hbm, ⟨7, _⟩ => ⟨S1x344x128, .f32⟩
  | .hbm, ⟨8, _⟩ => ⟨S1x344x128, .f32⟩
  | .hbm, ⟨9, _⟩ => ⟨S_, .f32⟩
  | .hbm, ⟨10, _⟩ => ⟨S1x344x128, .f32⟩
  | .hbm, ⟨11, _⟩ => ⟨S1x344x128, .f32⟩
  | .hbm, ⟨12, _⟩ => ⟨S1x344x128, .f32⟩
  | .hbm, ⟨13, _⟩ => ⟨S_, .f32⟩
  | .hbm, ⟨14, _⟩ => ⟨S1x344x128, .f32⟩
  | .hbm, ⟨15, _⟩ => ⟨S1x344x128, .f32⟩
  | .hbm, ⟨16, _⟩ => ⟨S1x344x128, .f32⟩
  | .hbm, ⟨17, _⟩ => ⟨S_, .f32⟩
  | .hbm, ⟨18, _⟩ => ⟨S1x344x128, .f32⟩
  | .hbm, ⟨19, _⟩ => ⟨S1x344x128, .f32⟩
  | .hbm, ⟨20, _⟩ => ⟨S1x344x128, .f32⟩
  | .hbm, ⟨21, _⟩ => ⟨S_, .f32⟩
  | .hbm, ⟨22, _⟩ => ⟨S1x344x128, .f32⟩
  | .hbm, ⟨23, _⟩ => ⟨S1x344x128, .f32⟩
  | .hbm, ⟨24, _⟩ => ⟨S_, .f32⟩
  | .hbm, ⟨25, _⟩ => ⟨S1x344x128, .f32⟩
  | .hbm, ⟨26, _⟩ => ⟨S1x344x128, .f32⟩
  | .hbm, ⟨27, _⟩ => ⟨S1x344x128, .f32⟩
  | .hbm, ⟨28, _⟩ => ⟨S_, .f32⟩
  | .hbm, ⟨29, _⟩ => ⟨S1x344x128, .f32⟩
  | .hbm, ⟨30, _⟩ => ⟨S1x344x128, .f32⟩
  | .hbm, ⟨31, _⟩ => ⟨S1x344x128, .f32⟩
  | .hbm, ⟨32, _⟩ => ⟨S_, .f32⟩
  | .hbm, ⟨33, _⟩ => ⟨S1x344x128, .f32⟩
  | .hbm, ⟨34, _⟩ => ⟨S1x344x128, .f32⟩
  | .hbm, ⟨35, _⟩ => ⟨S1x344x128, .f32⟩
  | .hbm, ⟨36, _⟩ => ⟨S_, .f32⟩
  | .hbm, ⟨37, _⟩ => ⟨S1x344x128, .f32⟩
  | .hbm, ⟨38, _⟩ => ⟨S1x344x128, .f32⟩
  | _, _ => ⟨S8x1x344x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel34.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference34Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel35.lean ====
abbrev S8192x2048 : Shape := ⟨2, ![8192, 2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8x128, .f32⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S8x128, .f32⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference35Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S8x128 : Shape := ⟨2, ![8, 128]⟩

abbrev nBuf : Space → Nat
  | .hbm => 71
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Kernel36.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference36Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel37.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== Reference37Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel38.lean ====
abbrev S8192x16384 : Shape := ⟨2, ![8192, 16384]⟩
abbrev S8192x2048 : Shape := ⟨2, ![8192, 2048]⟩
abbrev S128x8192 : Shape := ⟨2, ![128, 8192]⟩
abbrev S128x2048 : Shape := ⟨2, ![128, 2048]⟩

abbrev nBuf : Space → Nat
  | .hbm => 6
  | .vmem => 12
  | .smem => 0
  | _ => 0

abbrev bufTy : (tb : Table) → Fin (tcTables nBuf tb) → BufTy
  | .hbm, ⟨0, _⟩ => ⟨S8192x16384, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .local _ .vmem, ⟨0, _⟩ => ⟨S128x8192, .f32⟩
  | .local _ .vmem, ⟨1, _⟩ => ⟨S128x8192, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .bf16⟩
  | .local _ .vmem, ⟨11, _⟩ => ⟨S128x2048, .bf16⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]
-- ==== Reference38Ideal.lean ====
abbrev S8192x16384 : Shape := ⟨2, ![8192, 16384]⟩
abbrev S8192x2048 : Shape := ⟨2, ![8192, 2048]⟩
abbrev S8192x8192 : Shape := ⟨2, ![8192, 8192]⟩
abbrev S_ : Shape := ⟨0, ![]⟩
abbrev S8192x4x2048 : Shape := ⟨3, ![8192, 4, 2048]⟩
abbrev S8192x1x2048 : Shape := ⟨3, ![8192, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x4x2048, .f32⟩
  | .hbm, ⟨15, _⟩ => ⟨S8192x1x2048, .f32⟩
  | .hbm, ⟨16, _⟩ => ⟨S8192x2048, .f32⟩
  | .hbm, ⟨17, _⟩ => ⟨S8192x2048, .f32⟩
  | .hbm, ⟨18, _⟩ => ⟨S8192x1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .bf16⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel39.lean ====
abbrev S8192x16384 : Shape := ⟨2, ![8192, 16384]⟩
abbrev S8192x2048 : Shape := ⟨2, ![8192, 2048]⟩
abbrev S128x8192 : Shape := ⟨2, ![128, 8192]⟩
abbrev S128x2048 : Shape := ⟨2, ![128, 2048]⟩

abbrev nBuf : Space → Nat
  | .hbm => 13
  | .vmem => 22
  | .smem => 0
  | _ => 0

abbrev bufTy : (tb : Table) → Fin (tcTables nBuf tb) → BufTy
  | .hbm, ⟨0, _⟩ => ⟨S8192x16384, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x16384, .f32⟩
  | .hbm, ⟨7, _⟩ => ⟨S8192x16384, .bf16⟩
  | .hbm, ⟨8, _⟩ => ⟨S8192x16384, .bf16⟩
  | .hbm, ⟨9, _⟩ => ⟨S8192x2048, .bf16⟩
  | .hbm, ⟨10, _⟩ => ⟨S8192x2048, .bf16⟩
  | .hbm, ⟨11, _⟩ => ⟨S8192x2048, .bf16⟩
  | .hbm, ⟨12, _⟩ => ⟨S8192x2048, .bf16⟩
  | .local _ .vmem, ⟨0, _⟩ => ⟨S128x8192, .f32⟩
  | .local _ .vmem, ⟨1, _⟩ => ⟨S128x8192, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x8192, .bf16⟩
  | .local _ .vmem, ⟨13, _⟩ => ⟨S128x8192, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]
-- ==== Reference39Ideal.lean ====
abbrev S8192x16384 : Shape := ⟨2, ![8192, 16384]⟩
abbrev S8192x2048 : Shape := ⟨2, ![8192, 2048]⟩
abbrev S8192x8192 : Shape := ⟨2, ![8192, 8192]⟩
abbrev S_ : Shape := ⟨0, ![]⟩
abbrev S8192x4x2048 : Shape := ⟨3, ![8192, 4, 2048]⟩
abbrev S8192x1x2048 : Shape := ⟨3, ![8192, 1, 2048]⟩

abbrev nBuf : Space → Nat
  | .hbm => 70
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x16384, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x4x2048, .f32⟩
  | .hbm, ⟨21, _⟩ => ⟨S8192x1x2048, .f32⟩
  | .hbm, ⟨22, _⟩ => ⟨S8192x2048, .f32⟩
  | .hbm, ⟨23, _⟩ => ⟨S8192x2048, .f32⟩
  | .hbm, ⟨24, _⟩ => ⟨S8192x1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x1x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x1x2048, .f32⟩
  | .hbm, ⟨41, _⟩ => ⟨S_, .f32⟩
  | .hbm, ⟨42, _⟩ => ⟨S8192x4x2048, .f32⟩
  | .hbm, ⟨43, _⟩ => ⟨S8192x2048, .f32⟩
  | .hbm, ⟨44, _⟩ => ⟨S8192x2048, .f32⟩
  | .hbm, ⟨45, _⟩ => ⟨S8192x1x2048, .f32⟩
  | .hbm, ⟨46, _⟩ => ⟨S_, .f32⟩
  | .hbm, ⟨47, _⟩ => ⟨S8192x4x2048, .f32⟩
  | .hbm, ⟨48, _⟩ => ⟨S8192x4x2048, .f32⟩
  | .hbm, ⟨49, _⟩ => ⟨S8192x2048, .f32⟩
  | .hbm, ⟨50, _⟩ => ⟨S8192x2048, .f32⟩
  | .hbm, ⟨51, _⟩ => ⟨S8192x1x2048, .f32⟩
  | .hbm, ⟨52, _⟩ => ⟨S_, .f32⟩
  | .hbm, ⟨53, _⟩ => ⟨S8192x4x2048, .f32⟩
  | .hbm, ⟨54, _⟩ => ⟨S8192x4x2048, .f32⟩
  | .hbm, ⟨55, _⟩ => ⟨S8192x2048, .f32⟩
  | .hbm, ⟨56, _⟩ => ⟨S8192x2048, .f32⟩
  | .hbm, ⟨57, _⟩ => ⟨S8192x1x2048, .f32⟩
  | .hbm, ⟨58, _⟩ => ⟨S_, .f32⟩
  | .hbm, ⟨59, _⟩ => ⟨S8192x4x2048, .f32⟩
  | .hbm, ⟨60, _⟩ => ⟨S8192x4x2048, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S8192x16384, .f32⟩
  | .hbm, ⟨65, _⟩ => ⟨S8192x16384, .bf16⟩
  | .hbm, ⟨66, _⟩ => ⟨S8192x2048, .bf16⟩
  | .hbm, ⟨67, _⟩ => ⟨S8192x2048, .bf16⟩
  | .hbm, ⟨68, _⟩ => ⟨S8192x2048, .bf16⟩
  | .hbm, ⟨69, _⟩ => ⟨S8192x2048, .bf16⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Kernel40.lean ====
abbrev S8192x2048 : Shape := ⟨2, ![8192, 2048]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference40Ideal.lean ====
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel41.lean ====
abbrev S8192x16384 : Shape := ⟨2, ![8192, 16384]⟩
abbrev S1x512 : Shape := ⟨2, ![1, 512]⟩
abbrev S8192x512 : Shape := ⟨2, ![8192, 512]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x16384, .f32⟩
  | .hbm, ⟨1, _⟩ => ⟨S1x512, .f32⟩
  | .hbm, ⟨2, _⟩ => ⟨S1x512, .f32⟩
  | .hbm, ⟨3, _⟩ => ⟨S8192x512, .bf16⟩
  | .hbm, ⟨4, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c28_i32 : BitVec 32 := 28#32
  let c0_i32 : BitVec 32 := 0#32
  ![arg1.toNat, c28_i32.toNat]

def cc0_transform_1 (i : grid0.Coords) : Fin 2 → Nat :=
  let arg0 : BitVec 32 := BitVec.ofNat 32 (i 0).val
  let arg1 : BitVec 32 := BitVec.ofNat 32 (i 1).val
  let c29_i32 : BitVec 32 := 29#32
  let c0_i32 : BitVec 32 := 0#32
  ![arg1.toNat, c29_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]
-- ==== Reference41Ideal.lean ====
abbrev S8192x16384 : Shape := ⟨2, ![8192, 16384]⟩
abbrev S1x512 : Shape := ⟨2, ![1, 512]⟩
abbrev S8192x512 : Shape := ⟨2, ![8192, 512]⟩
abbrev S_ : Shape := ⟨0, ![]⟩
abbrev S8192 : Shape := ⟨1, ![8192]⟩
abbrev S8192x1 : Shape := ⟨2, ![8192, 1]⟩

abbrev nBuf : Space → Nat
  | .hbm => 37
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S1x512, .f32⟩
  | .hbm, ⟨2, _⟩ => ⟨S1x512, .f32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .bf16⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .bf16⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel42.lean ====
abbrev S8192x1024 : Shape := ⟨2, ![8192, 1024]⟩
abbrev S8192x16384 : Shape := ⟨2, ![8192, 16384]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x16384, .f32⟩
  | .hbm, ⟨2, _⟩ => ⟨S1x128, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg1.toNat, c13_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== Reference42Ideal.lean ====
abbrev S8192x1024 : Shape := ⟨2, ![8192, 1024]⟩
abbrev S8192x16384 : Shape := ⟨2, ![8192, 16384]⟩
abbrev S1x128 : Shape := ⟨2, ![1, 128]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x16384, .f32⟩
  | .hbm, ⟨2, _⟩ => ⟨S1x128, .f32⟩
  | .hbm, ⟨3, _⟩ => ⟨S8192x1024, .f32⟩
  | .hbm, ⟨4, _⟩ => ⟨S8192x8x128, .f32⟩
  | .hbm, ⟨5, _⟩ => ⟨S8192x8x128, .f32⟩
  | .hbm, ⟨6, _⟩ => ⟨S8192x8x128, .f32⟩
  | .hbm, ⟨7, _⟩ => ⟨S_, .f32⟩
  | .hbm, ⟨8, _⟩ => ⟨S8192x8, .f32⟩
  | .hbm, ⟨9, _⟩ => ⟨S8192x8x1, .f32⟩
  | .hbm, ⟨10, _⟩ => ⟨S_, .f32⟩
  | .hbm, ⟨11, _⟩ => ⟨S8192x8x1, .f32⟩
  | .hbm, ⟨12, _⟩ => ⟨S8192x8x1, .f32⟩
  | .hbm, ⟨13, _⟩ => ⟨S_, .f32⟩
  | .hbm, ⟨14, _⟩ => ⟨S8192x8x1, .f32⟩
  | .hbm, ⟨15, _⟩ => ⟨S8192x8x1, .f32⟩
  | .hbm, ⟨16, _⟩ => ⟨S8192x8x1, .f32⟩
  | .hbm, ⟨17, _⟩ => ⟨S8192x8x128, .f32⟩
  | .hbm, ⟨18, _⟩ => ⟨S8192x8x128, .f32⟩
  | .hbm, ⟨19, _⟩ => ⟨S1x1x128, .f32⟩
  | .hbm, ⟨20, _⟩ => ⟨S8192x8x128, .f32⟩
  | .hbm, ⟨21, _⟩ => ⟨S8192x8x128, .f32⟩
  | .hbm, ⟨22, _⟩ => ⟨S8192x8x128, .f32⟩
  | .hbm, ⟨23, _⟩ => ⟨S8192x8x128, .f32⟩
  | .hbm, ⟨24, _⟩ => ⟨S_, .f32⟩
  | .hbm, ⟨25, _⟩ => ⟨S8192x8x128, .f32⟩
  | .hbm, ⟨26, _⟩ => ⟨S8192x8x128, .f32⟩
  | .hbm, ⟨27, _⟩ => ⟨S_, .f32⟩
  | .hbm, ⟨28, _⟩ => ⟨S8192x8x128, .f32⟩
  | .hbm, ⟨29, _⟩ => ⟨S8192x8x128, .f32⟩
  | .hbm, ⟨30, _⟩ => ⟨S8192x8x128, .f32⟩
  | .hbm, ⟨31, _⟩ => ⟨S8192x8x128, .f32⟩
  | .hbm, ⟨32, _⟩ => ⟨S8192x1024, .f32⟩
  | .hbm, ⟨33, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Proof.Heads.lean ====
/- What one point of the two kernels' grids computes, head by head, as functions of the blocks the
   point reads and of the state it is handed — at any float arithmetic `F`. -/
module

public import proofs.«01_k».proof.Proof.Gen.KernelIdeal.Skeleton
public import Idealize.ShloMosaic.Lib.Pipeline.FrameBody

@[expose] public section

noncomputable section

namespace Cert.KernelIdeal.Gdn

open Idealize.ShloMosaic Idealize.SL.Sem Gen

variable {F : FTy → Type} [FloatOps F]

/-! ## The head's part of each block -/

/-- Head `h`'s 128 columns of a chunk's block. -/
abbrev colR (h : Fin 8) : Rect S64x1024 :=
  Rect.unit (s := S64x1024) ![0, 128 * h.val] S64x128.size (by revert h; decide)
/-- Head `h`'s matrix of the state. -/
abbrev stR (h : Fin 8) : Rect S8x128x128 :=
  Rect.unit (s := S8x128x128) ![h.val, 0, 0] S1x128x128.size (by revert h; decide)
/-- Head `h`'s matrix of a chunk's scores. -/
abbrev qkR (h : Fin 8) : Rect S8x64x64 :=
  Rect.unit (s := S8x64x64) ![h.val, 0, 0] S1x64x64.size (by revert h; decide)
/-- Head `h`'s row of a chunk's decays. -/
abbrev gamR (h : Fin 8) : Rect S1x8x128 :=
  Rect.unit (s := S1x8x128) ![0, h.val, 0] S1x1x128.size (by revert h; decide)
/-- Head `h`'s matrix of a saved state. -/
abbrev ssR (h : Fin 8) : Rect S8x1x128x128 :=
  Rect.unit (s := S8x1x128x128) ![h.val, 0, 0, 0] S1x1x128x128.size (by revert h; decide)

/-- The heads, in the order in which a list of stores names them: the last store first. -/
abbrev heads : List (Fin 8) := [7, 6, 5, 4, 3, 2, 1, 0]

/-! ## One head of the forward scan -/

section Head

variable (s : Vec F S1x128x128 .f32) (u w qg kd : Vec F S64x128 .f32) (qk : Vec F S1x64x64 .f32) (gam : Vec F S1x1x128 .f32)

/-- The state as a matrix. -/
def mat : FVec F S128x128 .f32 := shapeCast S128x128 s shapeCasts_S1x128x128_S128x128

/-- The corrected values `u − w·s`. -/
def vnH : FVec F S64x128 .f32 :=
  subf u (matmul dot_S64x128_S128x128_S64x128_1_0_0_1_n_n none (truncf .bf16 w bitsLt_bf16_f32)
    (truncf .bf16 (mat s) bitsLt_bf16_f32) (constant S64x128 .f32 0x00000000#32))

/-- The output `qg·s + qk·vn`. -/
def oH (vn : FVec F S64x128 .f32) : FVec F S64x128 .f32 :=
  addf (matmul dot_S64x128_S128x128_S64x128_1_0_0_1_n_n none (truncf .bf16 qg bitsLt_bf16_f32)
      (truncf .bf16 (mat s) bitsLt_bf16_f32) (constant S64x128 .f32 0x00000000#32))
    (matmul dot_S64x64_S64x128_S64x128_1_0_0_1_n_n none
      (truncf .bf16 (shapeCast S64x64 qk shapeCasts_S1x64x64_S64x64 : FVec F S64x64 .f32) bitsLt_bf16_f32)
      (truncf .bf16 vn bitsLt_bf16_f32) (constant S64x128 .f32 0x00000000#32))

/-- The decay's row, repeated down a matrix. -/
def gamM : FVec F S128x128 .f32 :=
  broadcastTo S128x128 (shapeCast S1x128 gam shapeCasts_S1x1x128_S1x128 : FVec F S1x128 .f32) broadcasts_S1x128_S128x128

/-- The next state `s·gam + kdᵀ·vn`. -/
def s2H (vn : FVec F S64x128 .f32) : FVec F S128x128 .f32 :=
  addf (mulf (mat s) (gamM gam))
    (matmul dot_S64x128_S64x128_S128x128_0_0_1_1_n_n none (truncf .bf16 kd bitsLt_bf16_f32)
      (truncf .bf16 vn bitsLt_bf16_f32) (constant S128x128 .f32 0x00000000#32))

end Head

/-! ## One point of the forward scan -/

section Fwd

variable (u w qg kd : Vec F S64x1024 .f32) (qk : Vec F S8x64x64 .f32) (gam : Vec F S1x8x128 .f32) (s : Vec F S8x128x128 .f32)

/-- Head `h`'s corrected values. -/
def vnAt (h : Fin 8) : FVec F S64x128 .f32 := vnH (View.ld s (stR h)) (View.ld u (colR h)) (View.ld w (colR h))

/-- The block of outputs a point stores. -/
def oBlk : Vec F S64x1024 .f32 :=
  View.canon (Val := Elt F) (heads.map fun h => ⟨colR h,
    oH (View.ld s (stR h)) (View.ld qg (colR h)) (View.ld qk (qkR h)) (vnAt u w s h)⟩)
/-- The block of corrected values a point stores. -/
def vnBlk : Vec F S64x1024 .f32 := View.canon (Val := Elt F) (heads.map fun h => ⟨colR h, vnAt u w s h⟩)
/-- The state a point saves. -/
def ssBlk : Vec F S8x1x128x128 .f32 :=
  View.canon (Val := Elt F) (heads.map fun h => ⟨ssR h,
    (shapeCast S1x1x128x128 (mat (View.ld s (stR h))) shapeCasts_S128x128_S1x1x128x128 : FVec F S1x1x128x128 .f32)⟩)
/-- The state a point leaves to the next. -/
def stNext : Vec F S8x128x128 .f32 :=
  View.canon (Val := Elt F) (heads.map fun h => ⟨stR h,
    (shapeCast S1x128x128 (s2H (View.ld s (stR h)) (View.ld kd (colR h)) (View.ld gam (gamR h)) (vnAt u w s h))
      shapeCasts_S128x128_S1x128x128 : FVec F S1x128x128 .f32)⟩)

end Fwd

/-! ## One head of the backward scan -/

section Head

variable (ds : Vec F S1x128x128 .f32) (s : Vec F S1x1x128x128 .f32) (dov w qg kd vn : Vec F S64x128 .f32)
  (qk : Vec F S1x64x64 .f32) (gam : Vec F S1x1x128 .f32)

/-- The saved state as a matrix. -/
def matS : FVec F S128x128 .f32 := shapeCast S128x128 s shapeCasts_S1x1x128x128_S128x128

/-- The gradient of the corrected values, `qkᵀ·do + kd·ds`. -/
def dvnH : FVec F S64x128 .f32 :=
  addf (matmul dot_S64x64_S64x128_S64x128_0_0_1_1_n_n none
      (truncf .bf16 (shapeCast S64x64 qk shapeCasts_S1x64x64_S64x64 : FVec F S64x64 .f32) bitsLt_bf16_f32)
      (truncf .bf16 dov bitsLt_bf16_f32) (constant S64x128 .f32 0x00000000#32))
    (matmul dot_S64x128_S128x128_S64x128_1_0_0_1_n_n none (truncf .bf16 kd bitsLt_bf16_f32)
      (truncf .bf16 (mat ds) bitsLt_bf16_f32) (constant S64x128 .f32 0x00000000#32))

/-- A product with a matrix's transpose, `x·mᵀ`. -/
def mulT (x : FVec F S64x128 .f32) (m : FVec F S128x128 .f32) : FVec F S64x128 .f32 :=
  matmul dot_S64x128_S128x128_S64x128_1_1_0_0_n_n none (truncf .bf16 x bitsLt_bf16_f32)
    (truncf .bf16 m bitsLt_bf16_f32) (constant S64x128 .f32 0x00000000#32)

/-- The gradient of `w`, `−dvn·sᵀ`. -/
def dwH (dvn : FVec F S64x128 .f32) : FVec F S64x128 .f32 :=
  subf (broadcast S64x128 (Scalar.ofBits .f32 0x00000000#32)) (mulT dvn (matS s))

/-- The lower triangle of a chunk, the diagonal with it. -/
def lowerM : IVec S64x64 1 := cmpi .sge (iota .tc S64x64 32 [0] iota_S64x64_d0_w32) (iota .tc S64x64 32 [1] iota_S64x64_d1_w32)

/-- The gradient of the scores, `do·vnᵀ` under the triangle. -/
def dqkH : FVec F S64x64 .f32 :=
  select lowerM (matmul dot_S64x128_S64x128_S64x64_1_1_0_0_n_n none (truncf .bf16 dov bitsLt_bf16_f32)
    (truncf .bf16 vn bitsLt_bf16_f32) (constant S64x64 .f32 0x00000000#32)) (broadcast S64x64 (Scalar.ofBits .f32 0x00000000#32))

/-- The gradient of the state before the chunk, `ds·gam + qgᵀ·do − wᵀ·dvn`. -/
def ds0H (dvn : FVec F S64x128 .f32) : FVec F S128x128 .f32 :=
  subf (addf (mulf (mat ds) (gamM gam))
      (matmul dot_S64x128_S64x128_S128x128_0_0_1_1_n_n none (truncf .bf16 qg bitsLt_bf16_f32)
        (truncf .bf16 dov bitsLt_bf16_f32) (constant S128x128 .f32 0x00000000#32)))
    (matmul dot_S64x128_S64x128_S128x128_0_0_1_1_n_n none (truncf .bf16 w bitsLt_bf16_f32)
      (truncf .bf16 dvn bitsLt_bf16_f32) (constant S128x128 .f32 0x00000000#32))

/-- The gradient of the decay, the sum of `s·ds` over the matrix, repeated along the lanes. -/
def dgamH : FVec F S1x128 .f32 :=
  broadcastTo S1x128 (shapeCast S1x1 (shapeCast S1x1 (multiReduction .add [0] S1 (shapeCast S128x1
    (multiReduction .add [1] S128 (mulf (matS s) (mat ds)) 0x00000000#32 reduces_S128x128_S128 (.inl rfl) rfl : FVec F S128 .f32)
    shapeCasts_S128_S128x1 : FVec F S128x1 .f32) 0x00000000#32 reduces_S128x1_S1 (.inl rfl) rfl : FVec F S1 .f32)
    shapeCasts_S1_S1x1 : FVec F S1x1 .f32) shapeCasts_S1x1_S1x1 : FVec F S1x1 .f32) broadcasts_S1x1_S1x128

end Head

/-! ## One point of the backward scan -/

section Bwd

variable (dov w qg kd : Vec F S64x1024 .f32) (qk : Vec F S8x64x64 .f32) (gam : Vec F S1x8x128 .f32)
  (s : Vec F S8x1x128x128 .f32) (vn : Vec F S64x1024 .f32) (ds : Vec F S8x128x128 .f32)

/-- Head `h`'s gradient of the corrected values. -/
def dvnAt (h : Fin 8) : FVec F S64x128 .f32 :=
  dvnH (View.ld ds (stR h)) (View.ld dov (colR h)) (View.ld kd (colR h)) (View.ld qk (qkR h))

/-- The block of the gradient of `u` (and of the corrected values). -/
def duBlk : Vec F S64x1024 .f32 := View.canon (Val := Elt F) (heads.map fun h => ⟨colR h, dvnAt dov kd qk ds h⟩)
/-- The block of the gradient of `w`. -/
def dwBlk : Vec F S64x1024 .f32 :=
  View.canon (Val := Elt F) (heads.map fun h => ⟨colR h, dwH (View.ld s (ssR h)) (dvnAt dov kd qk ds h)⟩)
/-- The block of the gradient of `qg`. -/
def dqgBlk : Vec F S64x1024 .f32 :=
  View.canon (Val := Elt F) (heads.map fun h => ⟨colR h, mulT (View.ld dov (colR h)) (matS (View.ld s (ssR h)))⟩)
/-- Head `h`'s corrected values, as the body reads them back. -/
def vnOf (h : Fin 8) : FVec F S64x128 .f32 := shapeCast S64x128 (View.ld vn (colR h)) shapeCasts_S64x128_S64x128
/-- The block of the gradient of `kd`. -/
def dkdBlk : Vec F S64x1024 .f32 :=
  View.canon (Val := Elt F) (heads.map fun h => ⟨colR h, mulT (vnOf vn h) (mat (View.ld ds (stR h)))⟩)
/-- The block of the gradient of `qk`. -/
def dqkBlk : Vec F S8x64x64 .f32 :=
  View.canon (Val := Elt F) (heads.map fun h => ⟨qkR h,
    (shapeCast S1x64x64 (dqkH (View.ld dov (colR h)) (vnOf vn h)) shapeCasts_S64x64_S1x64x64 : FVec F S1x64x64 .f32)⟩)
/-- Head `h`'s row of the gradient of the decays. -/
def dgamAt (h : Fin 8) : FVec F S1x128 .f32 := dgamH (View.ld ds (stR h)) (View.ld s (ssR h))
/-- The block of the gradient of the decays. -/
def dgamBlk : Vec F S1x8x128 .f32 :=
  shapeCast S1x8x128 (concatenate S8x128 0 [⟨S1x128, dgamAt s ds 0⟩, ⟨S1x128, dgamAt s ds 1⟩, ⟨S1x128, dgamAt s ds 2⟩,
      ⟨S1x128, dgamAt s ds 3⟩, ⟨S1x128, dgamAt s ds 4⟩, ⟨S1x128, dgamAt s ds 5⟩, ⟨S1x128, dgamAt s ds 6⟩, ⟨S1x128, dgamAt s ds 7⟩]
    concatenates_S1x128_S1x128_S1x128_S1x128_S1x128_S1x128_S1x128_S1x128_S8x128_d0 : FVec F S8x128 .f32) shapeCasts_S8x128_S1x8x128
/-- The gradient of the state a point leaves to the point before its chunk. -/
def dsNext : Vec F S8x128x128 .f32 :=
  View.canon (Val := Elt F) (heads.map fun h => ⟨stR h,
    (shapeCast S1x128x128 (ds0H (View.ld ds (stR h)) (View.ld dov (colR h)) (View.ld w (colR h)) (View.ld qg (colR h))
      (View.ld gam (gamR h)) (dvnAt dov kd qk ds h)) shapeCasts_S128x128_S1x128x128 : FVec F S1x128x128 .f32)⟩)

end Bwd

/-- The state, or its gradient, before the first point. -/
def zeroSt : Vec F S8x128x128 .f32 :=
  shapeCast S8x128x128 (broadcast S8x128x128 (Scalar.ofBits .f32 0x00000000#32) : FVec F S8x128x128 .f32) shapeCasts_S8x128x128_S8x128x128

end Cert.KernelIdeal.Gdn

end
-- ==== Proof.FwdRun.lean ====
/- The forward scan's body, run on whole buffers: what it leaves in each output's block and in the
   state it carries, at the first point (which zeroes the state first) and at every later one. -/
module

public import proofs.«01_k».proof.Proof.Heads
public import proofs.«01_k».proof.Proof.Gen.KernelIdeal.Launch
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.KernelIdeal.Gdn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (UR sig nD τ) ℕ

/-- The condition under which the body zeroes the state: the point is the first. -/
abbrev first0 (i : grid0.Coords) : Prop := Scalar.cmpi .ne (Scalar.extui (Scalar.cmpi .eq (BitVec.ofNat 32 (i 0).val) 0#32)) 0#32 = 1#1

/-- Eight blocks of 128 columns cover a chunk's block, whatever they hold. -/
theorem cover_col (p : (h : Fin 8) → (colR h).shape.Idx → Elt F .f32) (y : S64x1024.Idx) :
    ∃ q ∈ (heads.map fun h => (⟨colR h, p h⟩ : View.Piece (Elt F) S64x1024 .f32)), y ∈ q.1.set :=
  View.cover_of_tiled (heads.map fun h => (⟨colR h, p h⟩ : View.Piece (Elt F) S64x1024 .f32)) S64x128.size (by rfl) y
theorem cover_st (p : (h : Fin 8) → (stR h).shape.Idx → Elt F .f32) (y : S8x128x128.Idx) :
    ∃ q ∈ (heads.map fun h => (⟨stR h, p h⟩ : View.Piece (Elt F) S8x128x128 .f32)), y ∈ q.1.set :=
  View.cover_of_tiled (heads.map fun h => (⟨stR h, p h⟩ : View.Piece (Elt F) S8x128x128 .f32)) S1x128x128.size (by rfl) y
theorem cover_ss (p : (h : Fin 8) → (ssR h).shape.Idx → Elt F .f32) (y : S8x1x128x128.Idx) :
    ∃ q ∈ (heads.map fun h => (⟨ssR h, p h⟩ : View.Piece (Elt F) S8x1x128x128 .f32)), y ∈ q.1.set :=
  View.cover_of_tiled (heads.map fun h => (⟨ssR h, p h⟩ : View.Piece (Elt F) S8x1x128x128 .f32)) S1x1x128x128.size (by rfl) y
theorem cover_qk (p : (h : Fin 8) → (qkR h).shape.Idx → Elt F .f32) (y : S8x64x64.Idx) :
    ∃ q ∈ (heads.map fun h => (⟨qkR h, p h⟩ : View.Piece (Elt F) S8x64x64 .f32)), y ∈ q.1.set :=
  View.cover_of_tiled (heads.map fun h => (⟨qkR h, p h⟩ : View.Piece (Elt F) S8x64x64 .f32)) S1x64x64.size (by rfl) y

theorem zero3 : (![0, 0, 0] : Fin 3 → Nat) = fun _ => 0 := by decide

/-- One store of a whole buffer leaves its payload. -/
theorem read_whole {S : Shape} {sp : Space} (v : View sig .tc sp S .f32) (f : v.ty.Contents (Elt F)) {off : Fin S.rank → Nat}
    (h : off = fun _ => 0) (inb : ∀ a, off a + S.size a ≤ S.size a) (x : S.Idx → Elt F .f32) :
    v.read (Elt F) (v.writes (Elt F) f [⟨Rect.unit off S.size inb, x⟩]) = x := by
  rw [View.read_writes_eq_canon v f _ fun y => ⟨_, List.mem_singleton_self _, View.mem_set_unit_zero h inb y⟩]
  exact View.canon_unit_zero h inb x

variable (c : Dev nD) (i : grid0.Coords)
  (arg1 : Memref sig .tc .vmem S64x1024 .f32) (harg1 : arg1.IsWhole) (arg2 : Memref sig .tc .vmem S64x1024 .f32) (harg2 : arg2.IsWhole)
  (arg3 : Memref sig .tc .vmem S64x1024 .f32) (harg3 : arg3.IsWhole) (arg4 : Memref sig .tc .vmem S64x1024 .f32) (harg4 : arg4.IsWhole)
  (arg5 : Memref sig .tc .vmem S8x64x64 .f32) (harg5 : arg5.IsWhole) (arg6 : Memref sig .tc .vmem S1x8x128 .f32) (harg6 : arg6.IsWhole)
  (arg7 : Memref sig .tc .vmem S64x1024 .f32) (harg7 : arg7.IsWhole) (arg8 : Memref sig .tc .vmem S8x1x128x128 .f32) (harg8 : arg8.IsWhole)
  (arg9 : Memref sig .tc .vmem S64x1024 .f32) (harg9 : arg9.IsWhole) (arg10 : Memref sig .tc .vmem S8x128x128 .f32) (harg10 : arg10.IsWhole)
  (u w qg kd : Vec F S64x1024 .f32) (qk : Vec F S8x64x64 .f32) (gam : Vec F S1x8x128 .f32)

/-- The inputs' buffers as the body finds and leaves them. -/
abbrev fwdIn : sProp 𝕄 :=
  iprop(owns (c : Thread nD τ) arg1 fullShare u ∗ owns (c : Thread nD τ) arg2 fullShare w ∗ owns (c : Thread nD τ) arg3 fullShare qg
    ∗ owns (c : Thread nD τ) arg4 fullShare kd ∗ owns (c : Thread nD τ) arg5 fullShare qk ∗ owns (c : Thread nD τ) arg6 fullShare gam)

/-- What the body leaves, handed the state `s`. -/
abbrev fwdOut (s : Vec F S8x128x128 .f32) : sProp 𝕄 :=
  iprop(owns (c : Thread nD τ) arg7 fullShare (oBlk u w qg qk s) ∗ owns (c : Thread nD τ) arg8 fullShare (ssBlk s)
    ∗ owns (c : Thread nD τ) arg9 fullShare (vnBlk u w s) ∗ owns (c : Thread nD τ) arg10 fullShare (stNext u w kd gam s))

set_option maxHeartbeats 4000000 in
/-- A later point: the state is what the point before left. -/
theorem fwd_later (hc : ¬ first0 i) (s : Vec F S8x128x128 .f32) (E : Set ℕ) (K : PUnit → sProp 𝕄) :
    iprop(fwdIn c arg1 arg2 arg3 arg4 arg5 arg6 u w qg kd qk gam
        ∗ (∃ d, owns (c : Thread nD τ) arg7 fullShare d) ∗ (∃ d, owns (c : Thread nD τ) arg8 fullShare d)
        ∗ (∃ d, owns (c : Thread nD τ) arg9 fullShare d) ∗ owns (c : Thread nD τ) arg10 fullShare s
        ∗ (iprop(fwdIn c arg1 arg2 arg3 arg4 arg5 arg6 u w qg kd qk gam
            ∗ fwdOut c arg7 arg8 arg9 arg10 u w qg kd qk gam s) -∗ K ⟨⟩))
      ⊢ wp frame (wpE (defs₀ (F := F)) Variants.none c none) E
          (cc0_gdn_scan i arg1 harg1 arg2 harg2 arg3 harg3 arg4 harg4 arg5 harg5 arg6 harg6 arg7 harg7 arg8 harg8 arg9 harg9 arg10 harg10) K := by
  simp only [cc0_gdn_scan_eq_skeleton]; unfold cc0_gdn_scan_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold fwdIn fwdOut owns
  iintro ⟨⟨⟨%f1, %h1, H1⟩, ⟨%f2, %h2, H2⟩, ⟨%f3, %h3, H3⟩, ⟨%f4, %h4, H4⟩, ⟨%f5, %h5, H5⟩, ⟨%f6, %h6, H6⟩⟩, ⟨%d7, %f7, -, H7⟩, ⟨%d8, %f8, -, H8⟩, ⟨%d9, %f9, -, H9⟩, ⟨%f10, %h10, H10⟩, Hk⟩
  subst h1 h2 h3 h4 h5 h6 h10
  sl_exec (disch := first | sl_exact hc)
  sl_step
  iapply Hk
  isplitl [H1 H2 H3 H4 H5 H6]
  · isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]; · iexists _; isplitr; · ipureintro; rfl
                    iexact H5
    iexists _; isplitr; · ipureintro; rfl
    iexact H6
  isplitl [H7]
  · iexists _; isplitr; swap; · iexact H7
    ipureintro; refine Eq.trans (View.read_writes_eq_canon _ _ _ ?_) ?_; exacts [View.cover_of_tiled _ S64x128.size (by rfl), rfl]
  isplitl [H8]
  · iexists _; isplitr; swap; · iexact H8
    ipureintro; refine Eq.trans (View.read_writes_eq_canon _ _ _ ?_) ?_; exacts [View.cover_of_tiled _ S1x1x128x128.size (by rfl), rfl]
  isplitl [H9]
  · iexists _; isplitr; swap; · iexact H9
    ipureintro; refine Eq.trans (View.read_writes_eq_canon _ _ _ ?_) ?_; exacts [View.cover_of_tiled _ S64x128.size (by rfl), rfl]
  iexists _; isplitr; swap; · iexact H10
  ipureintro; refine Eq.trans (View.read_writes_eq_canon _ _ _ ?_) ?_; exacts [View.cover_of_tiled _ S1x128x128.size (by rfl), rfl]

/-- The body at the first point is a zeroing store and then the body at a later one. -/
theorem fwd_split (hc : first0 i) (i' : grid0.Coords) (hc' : ¬ first0 i') :
    (cc0_gdn_scan i arg1 harg1 arg2 harg2 arg3 harg3 arg4 harg4 arg5 harg5 arg6 harg6 arg7 harg7 arg8 harg8 arg9 harg9 arg10 harg10
        : Prog (TpuEff nD τ sig (Elt F) Λ₀ .tc) PUnit)
      = (do
        let _ : Vec F S8x128x128 .f32 ← Prog.lift (.load arg10 (Rect.unit (s := S8x128x128) ![0, 0, 0] S8x128x128.size inb_S8x128x128_S8x128x128_0_0_0).toLoadRect (View.loadsAt_vmem h_S8x128x128))
        Prog.lift (.store arg10 (Rect.unit (s := S8x128x128) ![0, 0, 0] S8x128x128.size inb_S8x128x128_S8x128x128_0_0_0) (zeroSt (F := F)) Finset.univ (View.stores_vmem_bits_univ h_S8x128x128 rfl) (.inl rfl))
        cc0_gdn_scan i' arg1 harg1 arg2 harg2 arg3 harg3 arg4 harg4 arg5 harg5 arg6 harg6 arg7 harg7 arg8 harg8 arg9 harg9 arg10 harg10) := by
  simp only [cc0_gdn_scan_eq_skeleton]; unfold cc0_gdn_scan_skel
  simp only [k0_part1_eq_skeleton]; unfold k0_part1_skel
  dsimp only
  rw [dif_pos hc, dif_neg hc']
  rfl

set_option maxHeartbeats 4000000 in
/-- The first point: the state is zeroed. -/
theorem fwd_first (hc : first0 i) (i' : grid0.Coords) (hc' : ¬ first0 i') (E : Set ℕ) (K : PUnit → sProp 𝕄) :
    iprop(fwdIn c arg1 arg2 arg3 arg4 arg5 arg6 u w qg kd qk gam
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(fwdIn c arg1 arg2 arg3 arg4 arg5 arg6 u w qg kd qk gam
            ∗ fwdOut c arg7 arg8 arg9 arg10 u w qg kd qk gam zeroSt) -∗ K ⟨⟩))
      ⊢ wp frame (wpE (defs₀ (F := F)) Variants.none c none) E
          (cc0_gdn_scan i arg1 harg1 arg2 harg2 arg3 harg3 arg4 harg4 arg5 harg5 arg6 harg6 arg7 harg7 arg8 harg8 arg9 harg9 arg10 harg10) K := by
  rw [fwd_split i arg1 harg1 arg2 harg2 arg3 harg3 arg4 harg4 arg5 harg5 arg6 harg6 arg7 harg7 arg8 harg8 arg9 harg9 arg10 harg10 hc i' hc']
  have hl := fwd_later (F := F) c i' arg1 harg1 arg2 harg2 arg3 harg3 arg4 harg4 arg5 harg5 arg6 harg6 arg7 harg7 arg8 harg8 arg9 harg9 arg10 harg10
    u w qg kd qk gam hc' zeroSt E K
  generalize (cc0_gdn_scan i' arg1 harg1 arg2 harg2 arg3 harg3 arg4 harg4 arg5 harg5 arg6 harg6 arg7 harg7 arg8 harg8 arg9 harg9 arg10 harg10
        : Prog (TpuEff nD τ sig (Elt F) Λ₀ .tc) PUnit) = p at hl ⊢
  iintro ⟨HI, H7, H8, H9, ⟨%d10, H10⟩, Hk⟩
  unfold owns at *
  icases H10 with ⟨%f10, -, H10⟩
  sl_exec
  iapply hl
  isplitl [HI]; · iexact HI
  isplitl [H7]; · iexact H7
  isplitl [H8]; · iexact H8
  isplitl [H9]; · iexact H9
  isplitl [H10]
  · iexists _; isplitr; swap; · iexact H10
    ipureintro; exact read_whole arg10.view f10 zero3 _ _
  iexact Hk

end Cert.KernelIdeal.Gdn

end
-- ==== Proof.FwdData.lean ====
module

public import proofs.«01_k».proof.Proof.Gen.KernelIdeal.Launch
public import proofs.«01_k».proof.Proof.Gen.KernelIdeal.Points
public import proofs.«01_k».proof.Proof.FwdRun
public import Idealize.ShloMosaic.Lib.Pipeline.RegionsLoop
public import Idealize.ShloMosaic.Lib.Pipeline.FrameSuffix
public import Idealize.ShloMosaic.Lib.WordCmp

/-! # The forward scan as a pipeline

    The carried state as a sequence over the chunks, what every chunk leaves in its output blocks, and the body at every
    chunk: the pipeline's proof data over any contents `V` of the arrays. -/

@[expose] public section
noncomputable section

set_option maxRecDepth 16384

namespace Cert.KernelIdeal.Gdn

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The carried state before point `n`. -/
def sc0 (c : Dev nD) : (n : ℕ) → n ≤ cfg0.N → Vec F S8x128x128 .f32
  | 0, _ => zeroSt
  | n + 1, h => stNext (iblk0 V c 0 ⟨n, h⟩) (iblk0 V c 1 ⟨n, h⟩) (iblk0 V c 3 ⟨n, h⟩) (iblk0 V c 5 ⟨n, h⟩) (sc0 c n (Nat.le_of_succ_le h))

/-- The carried state before point `t`. -/
abbrev scAt0 (c : Dev nD) (t : Fin cfg0.N) : Vec F S8x128x128 .f32 := sc0 V c t.val (Nat.le_of_lt t.isLt)

theorem sc0_succ (c : Dev nD) (t : Fin cfg0.N) :
    sc0 V c (t.val + 1) t.isLt = stNext (iblk0 V c 0 t) (iblk0 V c 1 t) (iblk0 V c 3 t) (iblk0 V c 5 t) (scAt0 V c t) := rfl

/-- The scratch buffer that carries the state. -/
abbrev scM0 : Memref sig .tc .vmem S8x128x128 .f32 := Memref.whole cc0_scratch0

/-- What the region holds beside the windows: the scratch, every other scoped buffer, the generator register. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM0, owns_whole]; rfl

/-- The invariant before point `n`: at the first, the scratch at anything; later, at the carried state. -/
def Phi0 (c : Dev nD) : (n : ℕ) → n ≤ cfg0.N → sProp 𝕄
  | 0, _ => Pipeline.ΦA spec0 c
  | n + 1, hn => iprop(iprop(owns (c : Thread nD τ) scM0 fullShare (sc0 V c (n + 1) hn)
          ∗ Pipeline.scopedRestBut (Ix := Unit) (Name := ℕ) (U := UR sig nD τ) (Lvl := ℕ) (Val := Elt F) spec0 c [cc0_scratch0]) ∗ (∃ r, prngReg c r))

theorem Phi0_zero (c : Dev nD) (n : ℕ) (h : n ≤ cfg0.N) (hz : n = 0) : Phi0 V c n h = Pipeline.ΦA spec0 c := by
  subst hz; rfl

theorem Phi0_pos (c : Dev nD) (n : ℕ) (h : n ≤ cfg0.N) (hz : n ≠ 0) :
    Phi0 V c n h = iprop(iprop(owns (c : Thread nD τ) scM0 fullShare (sc0 V c n h)
          ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The pipeline's proof data: inputs stay, each output block is the chunk's value, the invariant carries the state. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => oBlk (iblk0 V c 0 t) (iblk0 V c 1 t) (iblk0 V c 2 t) (iblk0 V c 4 t) (scAt0 V c t)
    | ⟨7, _⟩ => ssBlk (scAt0 V c t)
    | ⟨8, _⟩ => vnBlk (iblk0 V c 0 t) (iblk0 V c 1 t) (scAt0 V c t)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; exact Pipeline.Dat.Φ_castSucc (Phi0 V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = oBlk (iblk0 V c 0 t) (iblk0 V c 1 t) (iblk0 V c 2 t) (iblk0 V c 4 t) (scAt0 V c t) := by dsimp only [dat0]
theorem after0_7 (c : Dev nD) (t : Fin cfg0.N) : (dat0 V c).after 7 t = ssBlk (scAt0 V c t) := by dsimp only [dat0]
theorem after0_8 (c : Dev nD) (t : Fin cfg0.N) : (dat0 V c).after 8 t = vnBlk (iblk0 V c 0 t) (iblk0 V c 1 t) (scAt0 V c t) := by dsimp only [dat0]

/-! An input window's buffer holds its block at every point. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-- The body's test for the first point holds at point 0 alone. -/
theorem cond0 (t : Fin cfg0.N) : first0 (grid0.coords t) ↔ t.val = 0 := by
  have e0 : (grid0.coords t 0).val = t.val / 1 % 128 := Pipeline.Grid.coords_val t 0 (by decide) rfl
  have hN : t.val < 128 := lt_of_lt_of_eq t.isLt (show cfg0.N = 128 from N_0)
  have h : first0 (grid0.coords t) ↔ t.val % 128 = 0 := by
    simp only [first0, e0]; word_cmp
  rw [h]; omega

/-- A later point, whose body the first point's is after zeroing the state. -/
def pt0 : Fin cfg0.N := ⟨1, by rw [show cfg0.N = 128 from N_0]; decide⟩
theorem pt0_later : ¬ first0 (grid0.coords pt0) := fun h => absurd ((cond0 pt0).mp h) (by unfold pt0; exact Nat.one_ne_zero)

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    after0_0, after0_1, after0_2, after0_3, after0_4, after0_5, after0_6, after0_7, after0_8]
  rw [show (dat0 V c).Φ t.succ = Phi0 V c (t.val + 1) t.isLt from rfl, Phi0_pos V c _ _ (Nat.succ_ne_zero _),
    Phi0_castSucc V c t, sc0_succ]
  by_cases hz : t.val = 0
  · have hs : scAt0 V c t = zeroSt := by
      obtain ⟨n, hn⟩ := t; cases n with
      | zero => rfl
      | succ n => exact absurd hz (Nat.succ_ne_zero _)
    rw [hs, Phi0_zero V c _ _ hz, PhiA0_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (fwd_first c (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) ((cond0 t).mpr hz) (grid0.coords pt0) pt0_later Set.univ _)
    isplitl [H0 H1 H2 H3 H4 H5]
    · unfold fwdIn
      isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [H8]; · iexists _; iexact H8
    isplitl [HS]; · iexact HS
    unfold fwdIn fwdOut
    iintro ⟨⟨H0, H1, H2, H3, H4, H5⟩, ⟨H6, H7, H8, HS⟩⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Phi0_pos V c _ _ hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (fwd_later c (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (fun h => hz ((cond0 t).mp h)) (scAt0 V c t) Set.univ _)
    isplitl [H0 H1 H2 H3 H4 H5]
    · unfold fwdIn
      isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [H8]; · iexists _; iexact H8
    isplitl [HS]; · iexact HS
    unfold fwdIn fwdOut
    iintro ⟨⟨H0, H1, H2, H3, H4, H5⟩, ⟨H6, H7, H8, HS⟩⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots. -/
theorem defs₀_row0 (t : Fin cfg0.N) :
    defs₀ (F := F) .tc cfg0.body (cfg0.bodyArgs t (cfg0.slots t)) = bodyAt0 t := by
  unfold defs₀; rw [Defs.onTc_tc]

/-- The body obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- After the last point the invariant gives back what the region took. -/
theorem Phi0_last (c : Dev nD) : (dat0 V c).Φ (Fin.last cfg0.N) ⊢ Pipeline.ΦA spec0 c := by
  have hN : cfg0.N = 128 := N_0
  rw [show (dat0 V c).Φ (Fin.last cfg0.N) = Phi0 V c cfg0.N (Nat.le_refl _) from rfl,
    Phi0_pos V c _ _ (by rw [hN]; decide), PhiA0_eq]
  iintro ⟨⟨HS, HR⟩, Hg⟩
  isplitl [HS HR]
  · isplitl [HS]; · iexists _; iexact HS
    iexact HR
  iexact Hg

end Cert.KernelIdeal.Gdn

end
-- ==== Proof.BwdRun.lean ====
/- The backward scan's body, run on whole buffers: what it leaves in each output's block and in the
   gradient of the state it carries, at the first point (which zeroes it first) and at every later one. -/
module

public import proofs.«01_k».proof.Proof.FwdRun
public import proofs.«01_k».proof.Proof.Gen.KernelIdeal.Launch
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.KernelIdeal.Gdn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (UR sig nD τ) ℕ

/-- The condition under which the body zeroes the gradient of the state: the point is the first. -/
abbrev first1 (i : grid1.Coords) : Prop := Scalar.cmpi .ne (Scalar.extui (Scalar.cmpi .eq (BitVec.ofNat 32 (i 0).val) 0#32)) 0#32 = 1#1

variable (c : Dev nD) (i : grid1.Coords)
  (arg1 : Memref sig .tc .vmem S64x1024 .f32) (harg1 : arg1.IsWhole)  (arg2 : Memref sig .tc .vmem S64x1024 .f32) (harg2 : arg2.IsWhole)
  (arg3 : Memref sig .tc .vmem S64x1024 .f32) (harg3 : arg3.IsWhole)  (arg4 : Memref sig .tc .vmem S64x1024 .f32) (harg4 : arg4.IsWhole)
  (arg5 : Memref sig .tc .vmem S8x64x64 .f32) (harg5 : arg5.IsWhole)  (arg6 : Memref sig .tc .vmem S1x8x128 .f32) (harg6 : arg6.IsWhole)
  (arg7 : Memref sig .tc .vmem S8x1x128x128 .f32) (harg7 : arg7.IsWhole)  (arg8 : Memref sig .tc .vmem S64x1024 .f32) (harg8 : arg8.IsWhole)
  (arg9 : Memref sig .tc .vmem S64x1024 .f32) (harg9 : arg9.IsWhole)  (arg10 : Memref sig .tc .vmem S64x1024 .f32) (harg10 : arg10.IsWhole)
  (arg11 : Memref sig .tc .vmem S64x1024 .f32) (harg11 : arg11.IsWhole)  (arg12 : Memref sig .tc .vmem S64x1024 .f32) (harg12 : arg12.IsWhole)
  (arg13 : Memref sig .tc .vmem S8x64x64 .f32) (harg13 : arg13.IsWhole)  (arg14 : Memref sig .tc .vmem S1x8x128 .f32) (harg14 : arg14.IsWhole)
  (arg15 : Memref sig .tc .vmem S8x128x128 .f32) (harg15 : arg15.IsWhole)
  (dov w qg kd : Vec F S64x1024 .f32) (qk : Vec F S8x64x64 .f32) (gam : Vec F S1x8x128 .f32)
  (s : Vec F S8x1x128x128 .f32) (vn : Vec F S64x1024 .f32)

/-- The inputs' buffers as the body finds and leaves them. -/
abbrev bwdIn : sProp 𝕄 :=
  iprop(owns (c : Thread nD τ) arg1 fullShare dov
    ∗ owns (c : Thread nD τ) arg2 fullShare w
    ∗ owns (c : Thread nD τ) arg3 fullShare qg
    ∗ owns (c : Thread nD τ) arg4 fullShare kd
    ∗ owns (c : Thread nD τ) arg5 fullShare qk
    ∗ owns (c : Thread nD τ) arg6 fullShare gam
    ∗ owns (c : Thread nD τ) arg7 fullShare s
    ∗ owns (c : Thread nD τ) arg8 fullShare vn)

/-- What the body leaves, handed the gradient `ds` of the state after the chunk. -/
abbrev bwdOut (ds : Vec F S8x128x128 .f32) : sProp 𝕄 :=
  iprop(owns (c : Thread nD τ) arg9 fullShare (duBlk dov kd qk ds)
    ∗ owns (c : Thread nD τ) arg10 fullShare (dwBlk dov kd qk s ds)
    ∗ owns (c : Thread nD τ) arg11 fullShare (dqgBlk dov s)
    ∗ owns (c : Thread nD τ) arg12 fullShare (dkdBlk vn ds)
    ∗ owns (c : Thread nD τ) arg13 fullShare (dqkBlk dov vn)
    ∗ owns (c : Thread nD τ) arg14 fullShare (dgamBlk s ds)
    ∗ owns (c : Thread nD τ) arg15 fullShare (dsNext dov w qg kd qk gam ds))

set_option maxHeartbeats 8000000 in
/-- A later point: the gradient of the state is what the point before left. -/
theorem bwd_later (hc : ¬ first1 i) (ds : Vec F S8x128x128 .f32) (E : Set ℕ) (K : PUnit → sProp 𝕄) :
    iprop(bwdIn c arg1 arg2 arg3 arg4 arg5 arg6 arg7 arg8 dov w qg kd qk gam s vn
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ owns (c : Thread nD τ) arg15 fullShare ds
        ∗ (iprop(bwdIn c arg1 arg2 arg3 arg4 arg5 arg6 arg7 arg8 dov w qg kd qk gam s vn
            ∗ bwdOut c arg9 arg10 arg11 arg12 arg13 arg14 arg15 dov w qg kd qk gam s vn ds) -∗ K ⟨⟩))
      ⊢ wp frame (wpE (defs₀ (F := F)) Variants.none c none) E (cc1_gdn_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_gdn_scan_bwd_eq_skeleton]; unfold cc1_gdn_scan_bwd_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton]
  unfold bwdIn bwdOut owns
  iintro ⟨⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%f15, %h15, H15⟩, Hk⟩
  subst h1 h2 h3 h4 h5 h6 h7 h8 h15
  sl_exec (disch := first | sl_exact hc)
  sl_step
  iapply Hk
  isplitl [H1 H2 H3 H4 H5 H6 H7 H8]
  · isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]; · iexists _; isplitr; · ipureintro; rfl
                    iexact H5
    isplitl [H6]; · iexists _; isplitr; · ipureintro; rfl
                    iexact H6
    isplitl [H7]; · iexists _; isplitr; · ipureintro; rfl
                    iexact H7
    iexists _; isplitr; · ipureintro; rfl
    iexact H8
  isplitl [H9]
  · iexists _; isplitr; swap; · iexact H9
    ipureintro; refine Eq.trans (View.read_writes_eq_canon _ _ _ ?_) ?_; exacts [View.cover_of_tiled _ S64x128.size (by rfl), rfl]
  isplitl [H10]
  · iexists _; isplitr; swap; · iexact H10
    ipureintro; refine Eq.trans (View.read_writes_eq_canon _ _ _ ?_) ?_; exacts [View.cover_of_tiled _ S64x128.size (by rfl), rfl]
  isplitl [H11]
  · iexists _; isplitr; swap; · iexact H11
    ipureintro; refine Eq.trans (View.read_writes_eq_canon _ _ _ ?_) ?_; exacts [View.cover_of_tiled _ S64x128.size (by rfl), rfl]
  isplitl [H12]
  · iexists _; isplitr; swap; · iexact H12
    ipureintro; refine Eq.trans (View.read_writes_eq_canon _ _ _ ?_) ?_; exacts [View.cover_of_tiled _ S64x128.size (by rfl), rfl]
  isplitl [H13]
  · iexists _; isplitr; swap; · iexact H13
    ipureintro; refine Eq.trans (View.read_writes_eq_canon _ _ _ ?_) ?_; exacts [View.cover_of_tiled _ S1x64x64.size (by rfl), rfl]
  isplitl [H14]
  · iexists _; isplitr; swap; · iexact H14
    ipureintro; exact read_whole arg14.view f14 zero3 _ _
  iexists _; isplitr; swap; · iexact H15
  ipureintro; refine Eq.trans (View.read_writes_eq_canon _ _ _ ?_) ?_; exacts [View.cover_of_tiled _ S1x128x128.size (by rfl), rfl]

/-- The body at the first point is a zeroing store and then the body at a later one. -/
theorem bwd_split (hc : first1 i) (i' : grid1.Coords) (hc' : ¬ first1 i') :
    (cc1_gdn_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15
        : Prog (TpuEff nD τ sig (Elt F) Λ₀ .tc) PUnit)
      = (do
        let _ : Vec F S8x128x128 .f32 ← Prog.lift (.load arg15 (Rect.unit (s := S8x128x128) ![0, 0, 0] S8x128x128.size inb_S8x128x128_S8x128x128_0_0_0).toLoadRect (View.loadsAt_vmem h_S8x128x128))
        Prog.lift (.store arg15 (Rect.unit (s := S8x128x128) ![0, 0, 0] S8x128x128.size inb_S8x128x128_S8x128x128_0_0_0) (zeroSt (F := F)) Finset.univ (View.stores_vmem_bits_univ h_S8x128x128 rfl) (.inl rfl))
        cc1_gdn_scan_bwd i' arg1 harg1 arg2 harg2 arg3 harg3 arg4 harg4 arg5 harg5 arg6 harg6 arg7 harg7 arg8 harg8 arg9 harg9 arg10 harg10 arg11 harg11 arg12 harg12 arg13 harg13 arg14 harg14 arg15 harg15) := by
  simp only [cc1_gdn_scan_bwd_eq_skeleton]; unfold cc1_gdn_scan_bwd_skel
  simp only [k1_part1_eq_skeleton]; unfold k1_part1_skel
  dsimp only
  rw [dif_pos hc, dif_neg hc']
  rfl

set_option maxHeartbeats 4000000 in
/-- The first point: the gradient of the state is zeroed. -/
theorem bwd_first (hc : first1 i) (i' : grid1.Coords) (hc' : ¬ first1 i') (E : Set ℕ) (K : PUnit → sProp 𝕄) :
    iprop(bwdIn c arg1 arg2 arg3 arg4 arg5 arg6 arg7 arg8 dov w qg kd qk gam s vn
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (iprop(bwdIn c arg1 arg2 arg3 arg4 arg5 arg6 arg7 arg8 dov w qg kd qk gam s vn
            ∗ bwdOut c arg9 arg10 arg11 arg12 arg13 arg14 arg15 dov w qg kd qk gam s vn zeroSt) -∗ K ⟨⟩))
      ⊢ wp frame (wpE (defs₀ (F := F)) Variants.none c none) E (cc1_gdn_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  rw [bwd_split i arg1 harg1 arg2 harg2 arg3 harg3 arg4 harg4 arg5 harg5 arg6 harg6 arg7 harg7 arg8 harg8 arg9 harg9 arg10 harg10 arg11 harg11 arg12 harg12 arg13 harg13 arg14 harg14 arg15 harg15 hc i' hc']
  have hl := bwd_later (F := F) c i' arg1 harg1 arg2 harg2 arg3 harg3 arg4 harg4 arg5 harg5 arg6 harg6 arg7 harg7 arg8 harg8 arg9 harg9 arg10 harg10 arg11 harg11 arg12 harg12 arg13 harg13 arg14 harg14 arg15 harg15
    dov w qg kd qk gam s vn hc' zeroSt E K
  generalize (cc1_gdn_scan_bwd i' arg1 harg1 arg2 harg2 arg3 harg3 arg4 harg4 arg5 harg5 arg6 harg6 arg7 harg7 arg8 harg8 arg9 harg9 arg10 harg10 arg11 harg11 arg12 harg12 arg13 harg13 arg14 harg14 arg15 harg15
        : Prog (TpuEff nD τ sig (Elt F) Λ₀ .tc) PUnit) = p at hl ⊢
  iintro ⟨HI, H9, H10, H11, H12, H13, H14, ⟨%d15, H15⟩, Hk⟩
  unfold owns at *
  icases H15 with ⟨%f15, -, H15⟩
  sl_exec
  iapply hl
  isplitl [HI]; · iexact HI
  isplitl [H9]; · iexact H9
  isplitl [H10]; · iexact H10
  isplitl [H11]; · iexact H11
  isplitl [H12]; · iexact H12
  isplitl [H13]; · iexact H13
  isplitl [H14]; · iexact H14
  isplitl [H15]
  · iexists _; isplitr; swap; · iexact H15
    ipureintro; exact read_whole arg15.view f15 zero3 _ _
  iexact Hk

end Cert.KernelIdeal.Gdn

end
-- ==== Proof.BwdData.lean ====
module

public import proofs.«01_k».proof.Proof.Gen.KernelIdeal.Launch
public import proofs.«01_k».proof.Proof.Gen.KernelIdeal.Points
public import proofs.«01_k».proof.Proof.BwdRun
public import Idealize.ShloMosaic.Lib.Pipeline.RegionsLoop
public import Idealize.ShloMosaic.Lib.Pipeline.FrameSuffix
public import Idealize.ShloMosaic.Lib.WordCmp

/-! # The backward scan as a pipeline

    The carried state as a sequence over the chunks, what every chunk leaves in its output blocks, and the body at every
    chunk: the pipeline's proof data over any contents `V` of the arrays. -/

@[expose] public section
noncomputable section

set_option maxRecDepth 16384

namespace Cert.KernelIdeal.Gdn

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried state before point `n`. -/
def sc1 (c : Dev nD) : (n : ℕ) → n ≤ cfg1.N → Vec F S8x128x128 .f32
  | 0, _ => zeroSt
  | n + 1, h => dsNext (iblk1 V c 0 ⟨n, h⟩) (iblk1 V c 1 ⟨n, h⟩) (iblk1 V c 2 ⟨n, h⟩) (iblk1 V c 3 ⟨n, h⟩) (iblk1 V c 4 ⟨n, h⟩) (iblk1 V c 5 ⟨n, h⟩) (sc1 c n (Nat.le_of_succ_le h))

/-- The carried state before point `t`. -/
abbrev scAt1 (c : Dev nD) (t : Fin cfg1.N) : Vec F S8x128x128 .f32 := sc1 V c t.val (Nat.le_of_lt t.isLt)

theorem sc1_succ (c : Dev nD) (t : Fin cfg1.N) :
    sc1 V c (t.val + 1) t.isLt = dsNext (iblk1 V c 0 t) (iblk1 V c 1 t) (iblk1 V c 2 t) (iblk1 V c 3 t) (iblk1 V c 4 t) (iblk1 V c 5 t) (scAt1 V c t) := rfl

/-- The scratch buffer that carries the state. -/
abbrev scM1 : Memref sig .tc .vmem S8x128x128 .f32 := Memref.whole cc1_scratch0

/-- What the region holds beside the windows: the scratch, every other scoped buffer, the generator register. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole]; rfl

/-- The invariant before point `n`: at the first, the scratch at anything; later, at the carried state. -/
def Phi1 (c : Dev nD) : (n : ℕ) → n ≤ cfg1.N → sProp 𝕄
  | 0, _ => Pipeline.ΦA spec1 c
  | n + 1, hn => iprop(iprop(owns (c : Thread nD τ) scM1 fullShare (sc1 V c (n + 1) hn)
          ∗ Pipeline.scopedRestBut (Ix := Unit) (Name := ℕ) (U := UR sig nD τ) (Lvl := ℕ) (Val := Elt F) spec1 c [cc1_scratch0]) ∗ (∃ r, prngReg c r))

theorem Phi1_zero (c : Dev nD) (n : ℕ) (h : n ≤ cfg1.N) (hz : n = 0) : Phi1 V c n h = Pipeline.ΦA spec1 c := by
  subst hz; rfl

theorem Phi1_pos (c : Dev nD) (n : ℕ) (h : n ≤ cfg1.N) (hz : n ≠ 0) :
    Phi1 V c n h = iprop(iprop(owns (c : Thread nD τ) scM1 fullShare (sc1 V c n h)
          ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The pipeline's proof data: inputs stay, each output block is the chunk's value, the invariant carries the state. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => duBlk (iblk1 V c 0 t) (iblk1 V c 3 t) (iblk1 V c 4 t) (scAt1 V c t)
    | ⟨9, _⟩ => dwBlk (iblk1 V c 0 t) (iblk1 V c 3 t) (iblk1 V c 4 t) (iblk1 V c 6 t) (scAt1 V c t)
    | ⟨10, _⟩ => dqgBlk (iblk1 V c 0 t) (iblk1 V c 6 t)
    | ⟨11, _⟩ => dkdBlk (iblk1 V c 7 t) (scAt1 V c t)
    | ⟨12, _⟩ => dqkBlk (iblk1 V c 0 t) (iblk1 V c 7 t)
    | ⟨13, _⟩ => dgamBlk (iblk1 V c 6 t) (scAt1 V c t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; exact Pipeline.Dat.Φ_castSucc (Phi1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = duBlk (iblk1 V c 0 t) (iblk1 V c 3 t) (iblk1 V c 4 t) (scAt1 V c t) := by dsimp only [dat1]
theorem after1_9 (c : Dev nD) (t : Fin cfg1.N) : (dat1 V c).after 9 t = dwBlk (iblk1 V c 0 t) (iblk1 V c 3 t) (iblk1 V c 4 t) (iblk1 V c 6 t) (scAt1 V c t) := by dsimp only [dat1]
theorem after1_10 (c : Dev nD) (t : Fin cfg1.N) : (dat1 V c).after 10 t = dqgBlk (iblk1 V c 0 t) (iblk1 V c 6 t) := by dsimp only [dat1]
theorem after1_11 (c : Dev nD) (t : Fin cfg1.N) : (dat1 V c).after 11 t = dkdBlk (iblk1 V c 7 t) (scAt1 V c t) := by dsimp only [dat1]
theorem after1_12 (c : Dev nD) (t : Fin cfg1.N) : (dat1 V c).after 12 t = dqkBlk (iblk1 V c 0 t) (iblk1 V c 7 t) := by dsimp only [dat1]
theorem after1_13 (c : Dev nD) (t : Fin cfg1.N) : (dat1 V c).after 13 t = dgamBlk (iblk1 V c 6 t) (scAt1 V c t) := by dsimp only [dat1]

/-! An input window's buffer holds its block at every point. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-- The body's test for the first point holds at point 0 alone. -/
theorem cond1 (t : Fin cfg1.N) : first1 (grid1.coords t) ↔ t.val = 0 := by
  have e0 : (grid1.coords t 0).val = t.val / 1 % 128 := Pipeline.Grid.coords_val t 0 (by decide) rfl
  have hN : t.val < 128 := lt_of_lt_of_eq t.isLt (show cfg1.N = 128 from N_1)
  have h : first1 (grid1.coords t) ↔ t.val % 128 = 0 := by
    simp only [first1, e0]; word_cmp
  rw [h]; omega

/-- A later point, whose body the first point's is after zeroing the state. -/
def pt1 : Fin cfg1.N := ⟨1, by rw [show cfg1.N = 128 from N_1]; decide⟩
theorem pt1_later : ¬ first1 (grid1.coords pt1) := fun h => absurd ((cond1 pt1).mp h) (by unfold pt1; exact Nat.one_ne_zero)

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7, after1_8, after1_9, after1_10, after1_11, after1_12, after1_13]
  rw [show (dat1 V c).Φ t.succ = Phi1 V c (t.val + 1) t.isLt from rfl, Phi1_pos V c _ _ (Nat.succ_ne_zero _),
    Phi1_castSucc V c t, sc1_succ]
  by_cases hz : t.val = 0
  · have hs : scAt1 V c t = zeroSt := by
      obtain ⟨n, hn⟩ := t; cases n with
      | zero => rfl
      | succ n => exact absurd hz (Nat.succ_ne_zero _)
    rw [hs, Phi1_zero V c _ _ hz, PhiA1_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (bwd_first c (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) ((cond1 t).mpr hz) (grid1.coords pt1) pt1_later Set.univ _)
    isplitl [H0 H1 H2 H3 H4 H5 H6 H7]
    · unfold bwdIn
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS]; · iexact HS
    unfold bwdIn bwdOut
    iintro ⟨⟨H0, H1, H2, H3, H4, H5, H6, H7⟩, ⟨H8, H9, H10, H11, H12, H13, HS⟩⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [Phi1_pos V c _ _ hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (bwd_later c (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (fun h => hz ((cond1 t).mp h)) (scAt1 V c t) Set.univ _)
    isplitl [H0 H1 H2 H3 H4 H5 H6 H7]
    · unfold bwdIn
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS]; · iexact HS
    unfold bwdIn bwdOut
    iintro ⟨⟨H0, H1, H2, H3, H4, H5, H6, H7⟩, ⟨H8, H9, H10, H11, H12, H13, HS⟩⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at point `t`'s slots. -/
theorem defs₀_row1 (t : Fin cfg1.N) :
    defs₀ (F := F) .tc cfg1.body (cfg1.bodyArgs t (cfg1.slots t)) = bodyAt1 t := by
  unfold defs₀; rw [Defs.onTc_tc]

/-- The body obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- After the last point the invariant gives back what the region took. -/
theorem Phi1_last (c : Dev nD) : (dat1 V c).Φ (Fin.last cfg1.N) ⊢ Pipeline.ΦA spec1 c := by
  have hN : cfg1.N = 128 := N_1
  rw [show (dat1 V c).Φ (Fin.last cfg1.N) = Phi1 V c cfg1.N (Nat.le_refl _) from rfl,
    Phi1_pos V c _ _ (by rw [hN]; decide), PhiA1_eq]
  iintro ⟨⟨HS, HR⟩, Hg⟩
  isplitl [HS HR]
  · isplitl [HS]; · iexists _; iexact HS
    iexact HR
  iexact Hg

end Cert.KernelIdeal.Gdn

end
-- ==== Proof.Run.lean ====
module

public import proofs.«01_k».proof.Proof.Gen.KernelIdeal.Regions
public import proofs.«01_k».proof.Proof.FwdData
public import proofs.«01_k».proof.Proof.BwdData
public import Idealize.ShloMosaic.Lib.Ring
public import Idealize.ShloMosaic.Lib.Tactic

/-! # The whole run of the kernel

    The buffers' contents at each boundary of `main` (three host stretches, the forward scan, the backward scan, one
    host stretch), the two scans as segments, and the run: every buffer ends at the last boundary's contents and every
    semaphore at zero. -/

@[expose] public section
noncomputable section

set_option maxRecDepth 16384

namespace Cert.KernelIdeal.Gdn

open Gen (hostOps0 hostOps0_1 hostOps0_2 hostOps2 hostOps0_fresh hostOps0_1_fresh hostOps0_2_fresh hostOps2_fresh
  hostOps0_writes hostOps0_1_writes hostOps0_2_writes hostOps2_writes hostOps0_W hostOps0_1_W hostOps0_2_W hostOps2_W
  hostOps0_sub hostOps0_1_sub hostOps0_2_sub hostOps2_sub launch0 launch1 main_chain cellOf_inj)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6]

/-! ## The contents at each boundary -/

/-- At launch. -/
abbrev W0 : Dev nD → Valuation τ sig (Elt F) := fun c b => (s₀ m ρ).mem ((c : Dev nD), b)
/-- After the first three host stretches. -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev U3 : (c : Dev nD) → (b : Ref sig .tc) → Buf (Elt F) ((c : Thread nD τ).loc b) := fun c b => W3 m ρ c b

/-- After the forward scan: its arrays at what the pipeline leaves, every other buffer as entered. -/
def W4 (c : Dev nD) : Valuation τ sig (Elt F) :=
  Pipeline.withArrays spec0 c (W3 m ρ c) fun w => (dat0 (U3 m ρ) c).arrAt w cfg0.N
abbrev U4 : (c : Dev nD) → (b : Ref sig .tc) → Buf (Elt F) ((c : Thread nD τ).loc b) := fun c b => W4 m ρ c b
theorem W4_arr (c : Dev nD) (w : Fin cfg0.W) :
    W4 m ρ c (Proc.devRef .tc (Pipeline.arrRef spec0 w)) = (dat0 (U3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A buffer that is no output of the scan keeps its contents. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (U3 m ρ) c).arrAt_in w (h w rfl) _).trans (A_eq0 (U3 m ρ) c w))
  · exact W4_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem hF0 (c : Dev nD) (w : Fin cfg0.W) : (dat0 (U3 m ρ) c).arrAt w cfg0.N = U4 m ρ c (Pipeline.arrRef spec0 w) :=
  (W4_arr m ρ c w).symm
theorem hrest0 (c : Dev nD) : ∀ b, b ∉ Finset.univ.image (Pipeline.arrRef spec0) → U4 m ρ c b = U3 m ρ c b :=
  fun b hb => W4_of_ne m ρ c b fun w e => hb (Finset.mem_image.mpr ⟨w, Finset.mem_univ _, e⟩)

/-- After the backward scan: its arrays at what the pipeline leaves, every other buffer as entered. -/
def W5 (c : Dev nD) : Valuation τ sig (Elt F) :=
  Pipeline.withArrays spec1 c (W4 m ρ c) fun w => (dat1 (U4 m ρ) c).arrAt w cfg1.N
abbrev U5 : (c : Dev nD) → (b : Ref sig .tc) → Buf (Elt F) ((c : Thread nD τ).loc b) := fun c b => W5 m ρ c b
theorem W5_arr (c : Dev nD) (w : Fin cfg1.W) :
    W5 m ρ c (Proc.devRef .tc (Pipeline.arrRef spec1 w)) = (dat1 (U4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- A buffer that is no output of the scan keeps its contents. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (U4 m ρ) c).arrAt_in w (h w rfl) _).trans (A_eq1 (U4 m ρ) c w))
  · exact W5_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem hF1 (c : Dev nD) (w : Fin cfg1.W) : (dat1 (U4 m ρ) c).arrAt w cfg1.N = U5 m ρ c (Pipeline.arrRef spec1 w) :=
  (W5_arr m ρ c w).symm
theorem hrest1 (c : Dev nD) : ∀ b, b ∉ Finset.univ.image (Pipeline.arrRef spec1) → U5 m ρ c b = U4 m ρ c b :=
  fun b hb => W5_of_ne m ρ c b fun w e => hb (Finset.mem_image.mpr ⟨w, Finset.mem_univ _, e⟩)

/-- After the last host stretch. -/
abbrev W6 : Dev nD → Valuation τ sig (Elt F) := fun c => StableHlo.after hostOps2 (W5 m ρ c)

theorem hostArgs : ∀ a ∈ argRefs, a ∉ hostOps0_W ∧ a ∉ hostOps0_1_W ∧ a ∉ hostOps0_2_W ∧ a ∉ hostOps2_W :=
  ListAll.forall_mem_of_all_decide (by decide +kernel)

/-- No boundary changes an argument: before the scans, -/
theorem W3_args (c : Dev nD) (a : Ref sig .tc) (ha : a ∈ argRefs) : W3 m ρ c (Proc.devRef .tc a) = m ((c : Thread nD τ).loc a) :=
  (StableHlo.after_of_writes_sub hostOps0_2 _ hostOps0_2_writes (hostArgs a ha).2.2.1).trans
    ((StableHlo.after_of_writes_sub hostOps0_1 _ hostOps0_1_writes (hostArgs a ha).2.1).trans
      (StableHlo.after_of_writes_sub hostOps0 _ hostOps0_writes (hostArgs a ha).1))
theorem W4_args (c : Dev nD) (a : Ref sig .tc) (ha : a ∈ argRefs) : W4 m ρ c (Proc.devRef .tc a) = m ((c : Thread nD τ).loc a) :=
  (W4_of m ρ c a (argsIn0 a ha)).trans (W3_args m ρ c a ha)
/-- and at the end. -/
theorem W6_args (c : Dev nD) (a : Ref sig .tc) (ha : a ∈ argRefs) : W6 m ρ c (Proc.devRef .tc a) = m ((c : Thread nD τ).loc a) :=
  (StableHlo.after_of_writes_sub hostOps2 _ hostOps2_writes (hostArgs a ha).2.2.2).trans
    ((W5_of m ρ c a (argsIn1 a ha)).trans (W4_args m ρ c a ha))

/-! ## The launch set-up -/

abbrev adm : (p : Fin 2) → (pcfgs (F := F) p).Adm := fun p => (cfgs p).toPCfg_adm
/-- Each pipeline's proof data at its entry contents. -/
def pdats : (p : Fin 2) → (c : Dev nD) → Dat τ (Elt F) Unit ℕ (UR sig nD τ) ℕ (Pipeline.pin (pcfgs (F := F)) adm p) c
  | ⟨0, _⟩ => fun c => dat0 (U3 m ρ) c
  | ⟨1, _⟩ => fun c => dat1 (U4 m ρ) c
abbrev 𝒱₀ : Variants := Variants.none
abbrev L : GSem nD τ sig → Finset Unit := fun _ => ∅
abbrev lv : GSem nD τ sig → Unit → ℕ := fun _ _ => 0
/-- What rides beside the buffers: the generator register and the core's dues, none. -/
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
/-- The forward scan as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m ρ) c).loose
  hwaits := Pipeline.hwaits_of_owed_zero _ _ _ _ L lv 0 fun _ _ => rfl
  pre c := iprop(StableHlo.held (c : Thread nD τ) (Pipeline.ucRefs τ sig) (W3 m ρ c) ∗ Rst c)
  post c := iprop(StableHlo.held (c : Thread nD τ) (Pipeline.ucRefs τ sig) (W4 m ρ c) ∗ Rst c)
  X c := iprop(∃ r, prngReg c r)
  Y c := iprop(∃ r, prngReg c r)
  Z c := Pipeline.unscopedRest (Ix := Unit) (Name := ℕ) (U := UR sig nD τ) (Lvl := ℕ) spec0 c (U3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U3 m ρ c) (A_eq0 (U3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi0_last (U3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U3 m ρ c) (U4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward scan as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U4 m ρ) c).loose
  hwaits := Pipeline.hwaits_of_owed_zero _ _ _ _ L lv 1 fun _ _ => rfl
  pre c := iprop(StableHlo.held (c : Thread nD τ) (Pipeline.ucRefs τ sig) (W4 m ρ c) ∗ Rst c)
  post c := iprop(StableHlo.held (c : Thread nD τ) (Pipeline.ucRefs τ sig) (W5 m ρ c) ∗ Rst c)
  X c := iprop(∃ r, prngReg c r)
  Y c := iprop(∃ r, prngReg c r)
  Z c := Pipeline.unscopedRest (Ix := Unit) (Name := ℕ) (U := UR sig nD τ) (Lvl := ℕ) spec1 c (U4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U4 m ρ c) (A_eq1 (U4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi1_last (U4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U4 m ρ c) (U5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- `main`'s six segments. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every execution ends with every buffer at the last boundary's contents and every semaphore at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨fun c => h c, funext fun g => hz g (.inr (no_unscoped g.2))⟩)

/-- The frame: the arguments end as launched, every semaphore at zero. -/
theorem frame_any : θ_run defs (onTc (τ := τ) (main (F := F))) ⟨m, fun _ => 0, ρ⟩ (fun r => (∀ c : Dev nD,
      ∀ a ∈ argRefs, r.2.mem ((c.tc : Thread nD τ).loc a) = m ((c.tc : Thread nD τ).loc a))
      ∧ r.2.sem = fun _ => 0) :=
  (θ_run defs _ _).mono (fun _ h => ⟨fun c a ha => (h.1 c _ (mem_uc a (by
    revert a; exact ListAll.forall_mem_of_all_decide (by decide +kernel)))).trans (W6_args m ρ c a ha), h.2⟩) (run_all m ρ)

end Cert.KernelIdeal.Gdn

end
-- ==== Proof.FrameKernel.lean ====
module

public import proofs.«01_k».proof.Defs
public import proofs.«01_k».proof.Proof.Gen.Kernel.Launch
public import proofs.«01_k».proof.Proof.Run

/-! # The frames of the two kernel programs, from one run -/

@[expose] public section
noncomputable section

namespace Cert.Proof

open Idealize.ShloMosaic Idealize.SL.Sem

variable {F : FTy → Type} [FloatOps F]

/-- The run's frame, argument by argument. -/
theorem frame_args (m : (ℓ : Loc KernelIdeal.nD KernelIdeal.τ KernelIdeal.sig) → Buf (Elt F) ℓ) (g : Dev KernelIdeal.nD → PrngReg) :
    θ_run (KernelIdeal.defs (F := F)) (onTc (τ := KernelIdeal.τ) (KernelIdeal.main (F := F))) ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)
      ∧ r.2.mem ((c.tc : Thread KernelIdeal.nD KernelIdeal.τ).loc KernelIdeal.main_arg6) = m ((c.tc : Thread KernelIdeal.nD KernelIdeal.τ).loc KernelIdeal.main_arg6))
      ∧ r.2.sem = fun _ => 0) :=
  (θ_run KernelIdeal.defs _ _).mono (fun _ h => ⟨fun c => ⟨h.1 c _ (by decide), h.1 c _ (by decide), h.1 c _ (by decide), h.1 c _ (by decide),
    h.1 c _ (by decide), h.1 c _ (by decide), h.1 c _ (by decide)⟩, h.2⟩) (KernelIdeal.Gdn.frame_any m g)

theorem frame_KernelIdeal : Cert.quiescent_KernelIdeal := fun m g _ => frame_args m g

/-- The kernel's own text is the ideal program's, read at words: the two frame statements are one. -/
theorem same_text : (∀ (m : (ℓ : Loc KernelIdeal.nD KernelIdeal.τ KernelIdeal.sig) → Buf (Elt Bits) ℓ) (g : Dev KernelIdeal.nD → PrngReg), True →
    θ_run (KernelIdeal.defs (F := Bits)) (onTc (τ := KernelIdeal.τ) (KernelIdeal.main (F := Bits))) ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)
      ∧ r.2.mem ((c.tc : Thread KernelIdeal.nD KernelIdeal.τ).loc KernelIdeal.main_arg6) = m ((c.tc : Thread KernelIdeal.nD KernelIdeal.τ).loc KernelIdeal.main_arg6))
      ∧ r.2.sem = fun _ => 0) ) = Cert.quiescent_Kernel := by chain_rfl

theorem frame_Kernel : Cert.quiescent_Kernel := same_text ▸ fun m g _ => frame_args (F := Bits) m g

end Cert.Proof

end
-- ==== Proof.Spec.lean ====
module

public import Idealize.ShloMosaic.Lib.ValueIdx

/-! # The gated delta rule over the reals

    The scan, and the gradient of its inputs given the gradient of its output, as recursions over the chunks and sums over a
    chunk's rows and columns. Both programs are shown to compute these functions. -/

@[expose] public section
noncomputable section

namespace Gdn

/-- Two extended reals' sums: a sum of finite values is the finite sum. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

abbrev Mat (m n : ℕ) := Fin m → Fin n → ℝ

/-! ## One head of one chunk -/

section Chunk

variable (q k u w d v dv : Mat 64 128) (a : Mat 64 64) (g : ℝ) (s ds : Mat 128 128)

/-- The corrected values `u − w·s`. -/
def vn : Mat 64 128 := fun r b => u r b - ∑ x, w r x * s x b
/-- The output `q·s + a·v`. -/
def out : Mat 64 128 := fun r b => (∑ x, q r x * s x b) + ∑ j, a r j * v j b
/-- The next state `s·g + kᵀ·v`. -/
def next : Mat 128 128 := fun x b => s x b * g + ∑ r, k r x * v r b
/-- The gradient of the corrected values, `aᵀ·d + k·ds`. -/
def dval : Mat 64 128 := fun r b => (∑ i, a i r * d i b) + ∑ x, k r x * ds x b
/-- A product with a transpose, `x·mᵀ`. -/
def mulT (x : Mat 64 128) (m : Mat 128 128) : Mat 64 128 := fun r c => ∑ b, x r b * m c b
/-- The gradient of the scores, `d·vᵀ`. -/
def dscore : Mat 64 64 := fun i j => ∑ b, d i b * v j b
/-- The gradient of the decay. -/
def ddecay : ℝ := ∑ x, ∑ b, s x b * ds x b
/-- The gradient of the state before the chunk, `ds·g + qᵀ·d − wᵀ·dv`. -/
def prev : Mat 128 128 := fun x b => ds x b * g + (∑ r, q r x * d r b) - ∑ r, w r x * dv r b

end Chunk

/-! ## The chunks in order -/

/-- The inputs, chunk by chunk and head by head; `a` holds the scores under their triangle, `d` the output's gradient. -/
structure Ins where
  q : ℕ → Fin 8 → Mat 64 128
  k : ℕ → Fin 8 → Mat 64 128
  u : ℕ → Fin 8 → Mat 64 128
  w : ℕ → Fin 8 → Mat 64 128
  d : ℕ → Fin 8 → Mat 64 128
  a : ℕ → Fin 8 → Mat 64 64
  g : ℕ → Fin 8 → ℝ

namespace Ins

variable (I : Ins)

/-- The state before chunk `n`. -/
def S : ℕ → Fin 8 → Mat 128 128
  | 0 => fun _ _ _ => 0
  | n + 1 => fun h => next (I.k n h) (vn (I.u n h) (I.w n h) (S n h)) (I.g n h) (S n h)
/-- Chunk `n`'s corrected values and output. -/
def V (n : ℕ) (h : Fin 8) : Mat 64 128 := vn (I.u n h) (I.w n h) (I.S n h)
def O (n : ℕ) (h : Fin 8) : Mat 64 128 := out (I.q n h) (I.V n h) (I.a n h) (I.S n h)
/-- The chunk the gradient's step `j` takes: the last first. -/
abbrev rev (j : ℕ) : ℕ := 127 - j
/-- The gradient of the state after chunk `127 − j`. -/
def DS : ℕ → Fin 8 → Mat 128 128
  | 0 => fun _ _ _ => 0
  | j + 1 => fun h => prev (I.q (rev j) h) (I.w (rev j) h) (I.d (rev j) h)
      (dval (I.k (rev j) h) (I.d (rev j) h) (I.a (rev j) h) (DS j h)) (I.g (rev j) h) (DS j h)
/-- Chunk `127 − j`'s gradients. -/
def DV (j : ℕ) (h : Fin 8) : Mat 64 128 := dval (I.k (rev j) h) (I.d (rev j) h) (I.a (rev j) h) (I.DS j h)
def DW (j : ℕ) (h : Fin 8) : Mat 64 128 := fun r c => - mulT (I.DV j h) (I.S (rev j) h) r c
def DQ (j : ℕ) (h : Fin 8) : Mat 64 128 := mulT (I.d (rev j) h) (I.S (rev j) h)
def DK (j : ℕ) (h : Fin 8) : Mat 64 128 := mulT (I.V (rev j) h) (I.DS j h)
def DA (j : ℕ) (h : Fin 8) : Mat 64 64 := dscore (I.d (rev j) h) (I.V (rev j) h)
def DG (j : ℕ) (h : Fin 8) : ℝ := ddecay (I.S (rev j) h) (I.DS j h)

theorem S_succ (n : ℕ) (h : Fin 8) : I.S (n + 1) h = next (I.k n h) (I.V n h) (I.g n h) (I.S n h) := rfl
theorem DS_succ (j : ℕ) (h : Fin 8) : I.DS (j + 1) h = prev (I.q (rev j) h) (I.w (rev j) h) (I.d (rev j) h) (I.DV j h) (I.g (rev j) h) (I.DS j h) := rfl

end Ins

end Gdn
-- ==== Proof.Layout.lean ====
module

public import proofs.«01_k».proof.Proof.Spec
public import Idealize.ShloMosaic.Lib.Pointwise

/-! # Chunks and heads in the arrays

    Time runs in chunks of 64 rows, the columns in heads of 128: the place of each chunk's rows and each head's columns, the
    inputs of the recursion read off the arrays, and what it is for an array to hold a family of chunks. -/

@[expose] public section
noncomputable section

namespace Gdn

open Idealize.ShloMosaic

/-- Row `r` of chunk `n`. -/
def rowIx (n : ℕ) (r : Fin 64) : Fin 8192 := ⟨(64 * n + r) % 8192, Nat.mod_lt _ (by decide)⟩
/-- Column `b` of head `h`. -/
def colIx (h : Fin 8) (b : Fin 128) : Fin 1024 := ⟨128 * h + b, by omega⟩
/-- Chunk `n`, of 128. -/
def chIx (n : ℕ) : Fin 128 := ⟨n % 128, Nat.mod_lt _ (by decide)⟩

theorem rowIx_val (n : Fin 128) (r : Fin 64) : (rowIx n r).val = 64 * n + r := Nat.mod_eq_of_lt (by omega)
theorem chIx_val (n : Fin 128) : chIx n = n := Fin.ext (Nat.mod_eq_of_lt n.isLt)

abbrev Wide : Shape := ⟨2, ![8192, 1024]⟩
abbrev Score : Shape := ⟨3, ![8, 8192, 64]⟩
abbrev Decay : Shape := ⟨2, ![128, 8]⟩

/-- The recursion's inputs, of arrays of extended reals. -/
def insOf (u w q k : Wide.Idx → EReal) (a : Score.Idx → EReal) (g : Decay.Idx → EReal) (d : Wide.Idx → EReal) : Ins where
  q n h r b := (q (ix2 (rowIx n r) (colIx h b))).toReal
  k n h r b := (k (ix2 (rowIx n r) (colIx h b))).toReal
  u n h r b := (u (ix2 (rowIx n r) (colIx h b))).toReal
  w n h r b := (w (ix2 (rowIx n r) (colIx h b))).toReal
  d n h r b := (d (ix2 (rowIx n r) (colIx h b))).toReal
  a n h i j := if j ≤ i then (a (ix3 h (rowIx n i) j)).toReal else 0
  g n h := (g (ix2 (chIx n) h)).toReal

/-- The array holds `M`, chunk by chunk and head by head. -/
def HoldsWide (X : Wide.Idx → EReal) (M : ℕ → Fin 8 → Mat 64 128) : Prop :=
  ∀ (n : Fin 128) (h : Fin 8) (r : Fin 64) (b : Fin 128), X (ix2 (rowIx n r) (colIx h b)) = ((M n h r b : ℝ) : EReal)
def HoldsScore (X : Score.Idx → EReal) (M : ℕ → Fin 8 → Mat 64 64) : Prop :=
  ∀ (n : Fin 128) (h : Fin 8) (i j : Fin 64), X (ix3 h (rowIx n i) j) = ((M n h i j : ℝ) : EReal)
def HoldsDecay (X : Decay.Idx → EReal) (M : ℕ → Fin 8 → ℝ) : Prop :=
  ∀ (n : Fin 128) (h : Fin 8), X (ix2 n h) = ((M n h : ℝ) : EReal)

theorem HoldsWide.eq {X Y : Wide.Idx → EReal} {M : ℕ → Fin 8 → Mat 64 128} (hX : HoldsWide X M) (hY : HoldsWide Y M) : X = Y := by
  funext i
  obtain ⟨t, e, rfl⟩ : ∃ (t : Fin 8192) (e : Fin 1024), i = ix2 t e := ⟨i 0, i 1, funext fun a => by fin_cases a <;> rfl⟩
  have ht : rowIx (⟨t.val / 64, by omega⟩ : Fin 128) ⟨t.val % 64, by omega⟩ = t := Fin.ext ((rowIx_val _ _).trans (Nat.div_add_mod t.val 64))
  have he : colIx ⟨e.val / 128, by omega⟩ ⟨e.val % 128, by omega⟩ = e := Fin.ext (Nat.div_add_mod e.val 128)
  rw [← ht, ← he, hX, hY]

theorem HoldsScore.eq {X Y : Score.Idx → EReal} {M : ℕ → Fin 8 → Mat 64 64} (hX : HoldsScore X M) (hY : HoldsScore Y M) : X = Y := by
  funext i
  obtain ⟨h, t, j, rfl⟩ : ∃ (h : Fin 8) (t : Fin 8192) (j : Fin 64), i = ix3 h t j := ⟨i 0, i 1, i 2, funext fun a => by fin_cases a <;> rfl⟩
  have ht : rowIx (⟨t.val / 64, by omega⟩ : Fin 128) ⟨t.val % 64, by omega⟩ = t := Fin.ext ((rowIx_val _ _).trans (Nat.div_add_mod t.val 64))
  rw [← ht, hX, hY]

theorem HoldsDecay.eq {X Y : Decay.Idx → EReal} {M : ℕ → Fin 8 → ℝ} (hX : HoldsDecay X M) (hY : HoldsDecay Y M) : X = Y := by
  funext i
  obtain ⟨n, h, rfl⟩ : ∃ (n : Fin 128) (h : Fin 8), i = ix2 n h := ⟨i 0, i 1, funext fun a => by fin_cases a <;> rfl⟩
  rw [hX, hY]

/-! ## The arrays cut into chunks and heads -/

section Casts

variable {α : Type} (n : Fin 128) (r : Fin 64) (h : Fin 8) (b : Fin 128) (i j : Fin 64)

theorem wide_cut (X : Wide.Idx → α) (hc : Wide.ShapeCasts ⟨4, ![128, 64, 8, 128]⟩) :
    shapeCast ⟨4, ![128, 64, 8, 128]⟩ X hc (ix4 n r h b) = X (ix2 (rowIx n r) (colIx h b)) := by
  refine shapeCast_apply _ _ _ _ ?_
  rw [Shape.rowMajor_val_two, Shape.rowMajor_val_four]
  show (rowIx n r).val * 1024 + (128 * h.val + b.val) = ((n.val * 64 + r.val) * 8 + h.val) * 128 + b.val
  rw [rowIx_val]; omega

theorem wide_join (X : (⟨4, ![128, 64, 8, 128]⟩ : Shape).Idx → α) (hc : (⟨4, ![128, 64, 8, 128]⟩ : Shape).ShapeCasts Wide) :
    shapeCast Wide X hc (ix2 (rowIx n r) (colIx h b)) = X (ix4 n r h b) := by
  refine shapeCast_apply _ _ _ _ ?_
  rw [Shape.rowMajor_val_two, Shape.rowMajor_val_four]
  show ((n.val * 64 + r.val) * 8 + h.val) * 128 + b.val = (rowIx n r).val * 1024 + (128 * h.val + b.val)
  rw [rowIx_val]; omega

theorem score_cut (X : Score.Idx → α) (hc : Score.ShapeCasts ⟨4, ![8, 128, 64, 64]⟩) :
    shapeCast ⟨4, ![8, 128, 64, 64]⟩ X hc (ix4 h n i j) = X (ix3 h (rowIx n i) j) := by
  refine shapeCast_apply _ _ _ _ ?_
  rw [Shape.rowMajor_val_three, Shape.rowMajor_val_four]
  show (h.val * 8192 + (rowIx n i).val) * 64 + j.val = ((h.val * 128 + n.val) * 64 + i.val) * 64 + j.val
  rw [rowIx_val]; omega

theorem score_join (X : (⟨4, ![8, 128, 64, 64]⟩ : Shape).Idx → α) (hc : (⟨4, ![8, 128, 64, 64]⟩ : Shape).ShapeCasts Score) :
    shapeCast Score X hc (ix3 h (rowIx n i) j) = X (ix4 h n i j) := by
  refine shapeCast_apply _ _ _ _ ?_
  rw [Shape.rowMajor_val_three, Shape.rowMajor_val_four]
  show ((h.val * 128 + n.val) * 64 + i.val) * 64 + j.val = (h.val * 8192 + (rowIx n i).val) * 64 + j.val
  rw [rowIx_val]; omega

end Casts

end Gdn
-- ==== Proof.Blocks.lean ====
module

public import proofs.«01_k».proof.Proof.Heads
public import proofs.«01_k».proof.Proof.Layout
public import Idealize.ShloMosaic.Lib.Pointwise
public import Idealize.ShloMosaic.Lib.Pipeline.ValueKit.Tiles

/-! # One point's blocks over the extended reals

    A block made of one store per head reads, at a head's entry, what the head stores there; at finite operands each head's
    entry is the real function of `Spec`. -/

@[expose] public section
noncomputable section

set_option maxRecDepth 16384

namespace Cert.KernelIdeal.Gdn

open Idealize.ShloMosaic Gen
open _root_.Gdn (Mat colIx sum_coe)

/-! ## Heads in blocks -/

section Tiles

variable {F : FTy → Type} [FloatOps F] (h : Fin 8)

theorem mem_heads (h : Fin 8) : h ∈ heads := by revert h; decide

theorem colIx_div (b : Fin 128) : (colIx h b).val / 128 = h.val := by show (128 * h.val + b.val) / 128 = h.val; omega
theorem colIx_mod (b : Fin 128) : (colIx h b).val % 128 = b.val := by show (128 * h.val + b.val) % 128 = b.val; omega

theorem ld_col (u : Vec F S64x1024 .f32) (r : Fin 64) (b : Fin 128) : View.ld u (colR h) (ix2 r b) = u (ix2 r (colIx h b)) :=
  View.ld_unit_apply_of _ _ _ _ _ _ fun a => by
    fin_cases a
    · exact (Nat.zero_add _).symm
    · rfl
theorem ld_st (s : Vec F S8x128x128 .f32) (x b : Fin 128) : View.ld s (stR h) (ix3 0 x b) = s (ix3 h x b) :=
  View.ld_unit_apply_of _ _ _ _ _ _ fun a => by
    fin_cases a
    · rfl
    · exact (Nat.zero_add _).symm
    · exact (Nat.zero_add _).symm
theorem ld_qk (s : Vec F S8x64x64 .f32) (i j : Fin 64) : View.ld s (qkR h) (ix3 0 i j) = s (ix3 h i j) :=
  View.ld_unit_apply_of _ _ _ _ _ _ fun a => by
    fin_cases a
    · rfl
    · exact (Nat.zero_add _).symm
    · exact (Nat.zero_add _).symm
theorem ld_gam (g : Vec F S1x8x128 .f32) (b : Fin 128) : View.ld g (gamR h) (ix3 0 0 b) = g (ix3 0 h b) :=
  View.ld_unit_apply_of _ _ _ _ _ _ fun a => by
    fin_cases a
    · rfl
    · rfl
    · exact (Nat.zero_add _).symm
theorem ld_ss (s : Vec F S8x1x128x128 .f32) (x b : Fin 128) : View.ld s (ssR h) (ix4 0 0 x b) = s (ix4 h 0 x b) :=
  View.ld_unit_apply_of _ _ _ _ _ _ fun a => by
    fin_cases a
    · rfl
    · rfl
    · exact (Nat.zero_add _).symm
    · exact (Nat.zero_add _).symm

theorem emb_val {S : Shape} (off size : Fin S.rank → ℕ) (inb) (x : (Rect.unit (s := S) off size inb).shape.Idx) (a : Fin S.rank) :
    ((Rect.unit (s := S) off size inb).emb x a).val = off a + (x a).val := Rect.idx_unit_val off size inb x a

/-- Stores through disjoint rectangles, one per head: each rectangle's entries are its own store's. -/
theorem canon_head {S : Shape} {e : EltTy} (R : Fin 8 → Rect S) (f : ∀ h, (R h).shape.Idx → Elt F e)
    (hd : ∀ h k, (∃ x y, (R h).emb x = (R k).emb y) → h = k) (x : (R h).shape.Idx) :
    ∀ l : List (Fin 8), h ∈ l → View.canon (Val := Elt F) (l.map fun k => (⟨R k, f k⟩ : View.Piece (Elt F) S e)) ((R h).emb x) = f h x
  | [], hl => absurd hl List.not_mem_nil
  | k :: l, hl => by
    by_cases e : h = k
    · subst e; exact View.canon_cons_emb (Val := Elt F) (R h) (f h) _ x
    · refine (View.canon_cons_of_not_mem _ _ fun hm => ?_).trans (canon_head R f hd x l ((List.mem_cons.1 hl).resolve_left e))
      obtain ⟨y, hy⟩ := (R k).exists_idx_of_mem hm
      exact e (hd h k ⟨x, y, hy.symm⟩)

theorem canon_col (f : Fin 8 → FVec F S64x128 .f32) (r : Fin 64) (b : Fin 128) :
    View.canon (Val := Elt F) (heads.map fun h => (⟨colR h, f h⟩ : View.Piece (Elt F) S64x1024 .f32)) (ix2 r (colIx h b)) = f h (ix2 r b) := by
  have e : (ix2 r (colIx h b) : S64x1024.Idx) = (colR h).emb (ix2 r b) := funext fun a => Fin.ext <| by
    rw [emb_val]
    fin_cases a
    · exact (Nat.zero_add _).symm
    · rfl
  rw [e]
  refine canon_head (F := F) (e := .f32) h colR f (fun h k => ?_) _ heads (mem_heads h)
  rintro ⟨x, y, hxy⟩
  have h1 := congrArg (fun i : S64x1024.Idx => (i 1).val) hxy
  simp only [emb_val] at h1
  have h2 : 128 * h.val + (x 1).val = 128 * k.val + (y 1).val := h1
  have hx : (x 1).val < 128 := (x 1).isLt
  have hy : (y 1).val < 128 := (y 1).isLt
  exact Fin.ext (by omega)
theorem canon_st (f : Fin 8 → FVec F S1x128x128 .f32) (x b : Fin 128) :
    View.canon (Val := Elt F) (heads.map fun h => (⟨stR h, f h⟩ : View.Piece (Elt F) S8x128x128 .f32)) (ix3 h x b) = f h (ix3 0 x b) := by
  have e : (ix3 h x b : S8x128x128.Idx) = (stR h).emb (ix3 0 x b) := funext fun a => Fin.ext <| by
    rw [emb_val]
    fin_cases a
    · rfl
    · exact (Nat.zero_add _).symm
    · exact (Nat.zero_add _).symm
  rw [e]
  refine canon_head (F := F) (e := .f32) h stR f (fun h k => ?_) _ heads (mem_heads h)
  rintro ⟨x, y, hxy⟩
  have h1 := congrArg (fun i : S8x128x128.Idx => (i 0).val) hxy
  simp only [emb_val] at h1
  have h2 : h.val + (x 0).val = k.val + (y 0).val := h1
  have hx : (x 0).val < 1 := (x 0).isLt
  have hy : (y 0).val < 1 := (y 0).isLt
  exact Fin.ext (by omega)
theorem canon_qk (f : Fin 8 → FVec F S1x64x64 .f32) (i j : Fin 64) :
    View.canon (Val := Elt F) (heads.map fun h => (⟨qkR h, f h⟩ : View.Piece (Elt F) S8x64x64 .f32)) (ix3 h i j) = f h (ix3 0 i j) := by
  have e : (ix3 h i j : S8x64x64.Idx) = (qkR h).emb (ix3 0 i j) := funext fun a => Fin.ext <| by
    rw [emb_val]
    fin_cases a
    · rfl
    · exact (Nat.zero_add _).symm
    · exact (Nat.zero_add _).symm
  rw [e]
  refine canon_head (F := F) (e := .f32) h qkR f (fun h k => ?_) _ heads (mem_heads h)
  rintro ⟨x, y, hxy⟩
  have h1 := congrArg (fun i : S8x64x64.Idx => (i 0).val) hxy
  simp only [emb_val] at h1
  have h2 : h.val + (x 0).val = k.val + (y 0).val := h1
  have hx : (x 0).val < 1 := (x 0).isLt
  have hy : (y 0).val < 1 := (y 0).isLt
  exact Fin.ext (by omega)
theorem canon_ss (f : Fin 8 → FVec F S1x1x128x128 .f32) (x b : Fin 128) :
    View.canon (Val := Elt F) (heads.map fun h => (⟨ssR h, f h⟩ : View.Piece (Elt F) S8x1x128x128 .f32)) (ix4 h 0 x b) = f h (ix4 0 0 x b) := by
  have e : (ix4 h 0 x b : S8x1x128x128.Idx) = (ssR h).emb (ix4 0 0 x b) := funext fun a => Fin.ext <| by
    rw [emb_val]
    fin_cases a
    · rfl
    · rfl
    · exact (Nat.zero_add _).symm
    · exact (Nat.zero_add _).symm
  rw [e]
  refine canon_head (F := F) (e := .f32) h ssR f (fun h k => ?_) _ heads (mem_heads h)
  rintro ⟨x, y, hxy⟩
  have h1 := congrArg (fun i : S8x1x128x128.Idx => (i 0).val) hxy
  simp only [emb_val] at h1
  have h2 : h.val + (x 0).val = k.val + (y 0).val := h1
  have hx : (x 0).val < 1 := (x 0).isLt
  have hy : (y 0).val < 1 := (y 0).isLt
  exact Fin.ext (by omega)

end Tiles

theorem lane_ne_one : ((128:ℕ) = 1) = False := by decide

/-! ## One head at finite operands -/

section Head

variable {s ds : Vec Ideal S1x128x128 .f32} {u w q k d v dv : FVec Ideal S64x128 .f32} {a : Vec Ideal S1x64x64 .f32} {g : Vec Ideal S1x1x128 .f32}
  {t : Vec Ideal S1x1x128x128 .f32} {S DS : Mat 128 128} {U W Q K D V DV : Mat 64 128} {A : Mat 64 64} {G : ℝ}
  (hs : ∀ x b, s (ix3 0 x b) = ((S x b : ℝ) : EReal)) (ht : ∀ x b, t (ix4 0 0 x b) = ((S x b : ℝ) : EReal))
  (hds : ∀ x b, ds (ix3 0 x b) = ((DS x b : ℝ) : EReal))
  (hu : ∀ r b, u (ix2 r b) = ((U r b : ℝ) : EReal)) (hw : ∀ r b, w (ix2 r b) = ((W r b : ℝ) : EReal))
  (hq : ∀ r b, q (ix2 r b) = ((Q r b : ℝ) : EReal)) (hk : ∀ r b, k (ix2 r b) = ((K r b : ℝ) : EReal))
  (hd : ∀ r b, d (ix2 r b) = ((D r b : ℝ) : EReal)) (hv : ∀ r b, v (ix2 r b) = ((V r b : ℝ) : EReal))
  (hdv : ∀ r b, dv (ix2 r b) = ((DV r b : ℝ) : EReal)) (ha : ∀ i j, a (ix3 0 i j) = ((A i j : ℝ) : EReal))
  (hg : ∀ b, g (ix3 0 0 b) = ((G : ℝ) : EReal))

include hs hu hw in
theorem vnH_coe (r : Fin 64) (b : Fin 128) : vnH (F := Ideal) s u w (ix2 r b) = ((_root_.Gdn.vn U W S r b : ℝ) : EReal) := by
  simp only [vnH, mat, pointwise, hs, hu, hw, ← EReal.coe_mul, sum_coe, zero_add, ← EReal.coe_sub, _root_.Gdn.vn]
include hs hq ha hv in
theorem oH_coe (r : Fin 64) (b : Fin 128) : oH (F := Ideal) s q a v (ix2 r b) = ((_root_.Gdn.out Q V A S r b : ℝ) : EReal) := by
  simp only [oH, mat, pointwise, hs, hq, ha, hv, ← EReal.coe_mul, sum_coe, zero_add, ← EReal.coe_add, _root_.Gdn.out]
include hs hk hv hg in
theorem s2H_coe (x b : Fin 128) : s2H (F := Ideal) s k g v (ix2 x b) = ((_root_.Gdn.next K V G S x b : ℝ) : EReal) := by
  simp only [s2H, mat, gamM, pointwise, lane_ne_one, ↓reduceDIte, hs, hk, hv, hg, ← EReal.coe_mul, sum_coe, zero_add, ← EReal.coe_add, _root_.Gdn.next]
include hds hd hk ha in
theorem dvnH_coe (r : Fin 64) (b : Fin 128) : dvnH (F := Ideal) ds d k a (ix2 r b) = ((_root_.Gdn.dval K D A DS r b : ℝ) : EReal) := by
  simp only [dvnH, mat, pointwise, hds, hd, hk, ha, ← EReal.coe_mul, sum_coe, zero_add, ← EReal.coe_add, _root_.Gdn.dval]
include ht hdv in
theorem dwH_coe (r : Fin 64) (b : Fin 128) : dwH (F := Ideal) t dv (ix2 r b) = ((- _root_.Gdn.mulT DV S r b : ℝ) : EReal) := by
  simp only [dwH, mulT, matS, pointwise, ht, hdv, ← EReal.coe_mul, sum_coe, zero_add, _root_.Gdn.mulT]
  rw [zero_sub, EReal.coe_neg]
include ht hd in
theorem dqH_coe (r : Fin 64) (b : Fin 128) : mulT (F := Ideal) d (matS t) (ix2 r b) = ((_root_.Gdn.mulT D S r b : ℝ) : EReal) := by
  simp only [mulT, matS, pointwise, ht, hd, ← EReal.coe_mul, sum_coe, zero_add, _root_.Gdn.mulT]
include hds hv in
theorem dkH_coe (r : Fin 64) (b : Fin 128) : mulT (F := Ideal) v (mat ds) (ix2 r b) = ((_root_.Gdn.mulT V DS r b : ℝ) : EReal) := by
  simp only [mulT, mat, pointwise, hds, hv, ← EReal.coe_mul, sum_coe, zero_add, _root_.Gdn.mulT]
theorem lowerM_apply (i j : Fin 64) : lowerM (ix2 i j) = 1#1 ↔ j ≤ i := by
  revert i j; decide +kernel
include hd hv in
theorem dqkH_coe (i j : Fin 64) : dqkH (F := Ideal) d v (ix2 i j) = (((if j ≤ i then _root_.Gdn.dscore D V i j else 0) : ℝ) : EReal) := by
  simp only [dqkH, pointwise, hd, hv, ← EReal.coe_mul, sum_coe, zero_add, _root_.Gdn.dscore]
  by_cases c : j ≤ i
  · rw [if_pos c]; exact if_pos ((lowerM_apply i j).2 c)
  · rw [if_neg c]; exact if_neg fun e => c ((lowerM_apply i j).1 e)
include hds hq hd hw hdv hg in
theorem ds0H_coe (x b : Fin 128) : ds0H (F := Ideal) ds d w q g dv (ix2 x b) = ((_root_.Gdn.prev Q W D DV G DS x b : ℝ) : EReal) := by
  simp only [ds0H, mat, gamM, pointwise, lane_ne_one, ↓reduceDIte, hds, hq, hd, hw, hdv, hg, ← EReal.coe_mul, sum_coe, zero_add, ← EReal.coe_add, ← EReal.coe_sub, _root_.Gdn.prev]
include ht hds in
theorem dgamH_coe (b : Fin 128) : dgamH (F := Ideal) ds t (ix2 0 b) = ((_root_.Gdn.ddecay S DS : ℝ) : EReal) := by
  simp only [dgamH, mat, matS, pointwise, ht, hds, ← EReal.coe_mul, sum_coe, zero_add, _root_.Gdn.ddecay]

end Head

end Cert.KernelIdeal.Gdn
-- ==== Proof.BlockVals.lean ====
module

public import proofs.«01_k».proof.Proof.Blocks

/-! # One point's blocks are the recursion's step

    A point whose blocks hold one chunk's inputs, and whose state holds the recursion's, stores that chunk's outputs and
    leaves the recursion's next state. -/

@[expose] public section
noncomputable section

set_option maxRecDepth 16384

namespace Cert.KernelIdeal.Gdn

open Idealize.ShloMosaic Gen
open _root_.Gdn (Mat colIx)

/-! ## What a block holds -/

/-- The block holds one chunk's matrices, a head in each 128 columns. -/
def BWide (x : Vec Ideal S64x1024 .f32) (M : Fin 8 → Mat 64 128) : Prop := ∀ h r b, x (ix2 r (colIx h b)) = ((M h r b : ℝ) : EReal)
def BScore (x : Vec Ideal S8x64x64 .f32) (M : Fin 8 → Mat 64 64) : Prop := ∀ h i j, x (ix3 h i j) = ((M h i j : ℝ) : EReal)
def BDecay (x : Vec Ideal S1x8x128 .f32) (M : Fin 8 → ℝ) : Prop := ∀ h b, x (ix3 0 h b) = ((M h : ℝ) : EReal)
def BState (x : Vec Ideal S8x128x128 .f32) (M : Fin 8 → Mat 128 128) : Prop := ∀ h a b, x (ix3 h a b) = ((M h a b : ℝ) : EReal)
def BSaved (x : Vec Ideal S8x1x128x128 .f32) (M : Fin 8 → Mat 128 128) : Prop := ∀ h a b, x (ix4 h 0 a b) = ((M h a b : ℝ) : EReal)

variable {u w q k d v : Vec Ideal S64x1024 .f32} {a : Vec Ideal S8x64x64 .f32} {g : Vec Ideal S1x8x128 .f32}
  {s ds : Vec Ideal S8x128x128 .f32} {t : Vec Ideal S8x1x128x128 .f32}
  {U W Q K D V : Fin 8 → Mat 64 128} {A : Fin 8 → Mat 64 64} {G : Fin 8 → ℝ} {S DS : Fin 8 → Mat 128 128}

theorem BWide.ld (hu : BWide u U) (h : Fin 8) (r : Fin 64) (b : Fin 128) : View.ld (Val := Elt Ideal) u (colR h) (ix2 r b) = ((U h r b : ℝ) : EReal) :=
  (ld_col (F := Ideal) h u r b).trans (hu h r b)
theorem BScore.ld (ha : BScore a A) (h : Fin 8) (i j : Fin 64) : View.ld (Val := Elt Ideal) a (qkR h) (ix3 0 i j) = ((A h i j : ℝ) : EReal) :=
  (ld_qk (F := Ideal) h a i j).trans (ha h i j)
theorem BDecay.ld (hg : BDecay g G) (h : Fin 8) (b : Fin 128) : View.ld (Val := Elt Ideal) g (gamR h) (ix3 0 0 b) = ((G h : ℝ) : EReal) :=
  (ld_gam (F := Ideal) h g b).trans (hg h b)
theorem BState.ld (hs : BState s S) (h : Fin 8) (x b : Fin 128) : View.ld (Val := Elt Ideal) s (stR h) (ix3 0 x b) = ((S h x b : ℝ) : EReal) :=
  (ld_st (F := Ideal) h s x b).trans (hs h x b)
theorem BSaved.ld (ht : BSaved t S) (h : Fin 8) (x b : Fin 128) : View.ld (Val := Elt Ideal) t (ssR h) (ix4 0 0 x b) = ((S h x b : ℝ) : EReal) :=
  (ld_ss (F := Ideal) h t x b).trans (ht h x b)

/-! ## The forward scan -/

theorem vnAt_coe (hu : BWide u U) (hw : BWide w W) (hs : BState s S) (h : Fin 8) (r : Fin 64) (b : Fin 128) :
    vnAt (F := Ideal) u w s h (ix2 r b) = ((_root_.Gdn.vn (U h) (W h) (S h) r b : ℝ) : EReal) :=
  vnH_coe (hs.ld h) (hu.ld h) (hw.ld h) r b

theorem vnBlk_holds (hu : BWide u U) (hw : BWide w W) (hs : BState s S) :
    BWide (vnBlk (F := Ideal) u w s) fun h => _root_.Gdn.vn (U h) (W h) (S h) := fun h r b =>
  (canon_col (F := Ideal) h _ r b).trans (vnAt_coe hu hw hs h r b)

theorem oBlk_holds (hu : BWide u U) (hw : BWide w W) (hq : BWide q Q) (ha : BScore a A) (hs : BState s S) :
    BWide (oBlk (F := Ideal) u w q a s) fun h => _root_.Gdn.out (Q h) (_root_.Gdn.vn (U h) (W h) (S h)) (A h) (S h) := fun h r b =>
  (canon_col (F := Ideal) h _ r b).trans (oH_coe (hs.ld h) (hq.ld h) (vnAt_coe hu hw hs h) (ha.ld h) r b)

theorem saved_apply (m : FVec Ideal S128x128 .f32) (x b : Fin 128) :
    shapeCast S1x1x128x128 m shapeCasts_S128x128_S1x1x128x128 (ix4 0 0 x b) = m (ix2 x b) := by simp only [pointwise]
theorem mat_apply (s : Vec Ideal S1x128x128 .f32) (x b : Fin 128) : mat (F := Ideal) s (ix2 x b) = s (ix3 0 x b) := by
  simp only [mat, pointwise]

theorem ssBlk_holds (hs : BState s S) : BSaved (ssBlk (F := Ideal) s) S := fun h x b => by
  exact (canon_ss (F := Ideal) h _ x b).trans ((saved_apply _ x b).trans ((mat_apply _ x b).trans (hs.ld h x b)))

theorem stNext_holds (hu : BWide u U) (hw : BWide w W) (hk : BWide k K) (hg : BDecay g G) (hs : BState s S) :
    BState (stNext (F := Ideal) u w k g s) fun h => _root_.Gdn.next (K h) (_root_.Gdn.vn (U h) (W h) (S h)) (G h) (S h) := fun h x b => by
  refine (canon_st (F := Ideal) h _ x b).trans ?_
  simp only [pointwise]
  exact s2H_coe (hs.ld h) (hk.ld h) (vnAt_coe hu hw hs h) (hg.ld h) x b

theorem zeroSt_holds : BState (zeroSt (F := Ideal)) fun _ _ _ => 0 := fun h x b => by
  simp only [zeroSt, pointwise]; rfl

/-! ## The backward scan -/

theorem dvnAt_coe (hd : BWide d D) (hk : BWide k K) (ha : BScore a A) (hs : BState ds DS) (h : Fin 8) (r : Fin 64) (b : Fin 128) :
    dvnAt (F := Ideal) d k a ds h (ix2 r b) = ((_root_.Gdn.dval (K h) (D h) (A h) (DS h) r b : ℝ) : EReal) :=
  dvnH_coe (hs.ld h) (hk.ld h) (hd.ld h) (ha.ld h) r b

theorem duBlk_holds (hd : BWide d D) (hk : BWide k K) (ha : BScore a A) (hs : BState ds DS) :
    BWide (duBlk (F := Ideal) d k a ds) fun h => _root_.Gdn.dval (K h) (D h) (A h) (DS h) := fun h r b =>
  (canon_col (F := Ideal) h _ r b).trans (dvnAt_coe hd hk ha hs h r b)

theorem dwBlk_holds (hd : BWide d D) (hk : BWide k K) (ha : BScore a A) (ht : BSaved t S) (hs : BState ds DS) :
    BWide (dwBlk (F := Ideal) d k a t ds) fun h r c => - _root_.Gdn.mulT (_root_.Gdn.dval (K h) (D h) (A h) (DS h)) (S h) r c := fun h r b =>
  (canon_col (F := Ideal) h _ r b).trans (dwH_coe (ht.ld h) (dvnAt_coe hd hk ha hs h) r b)

theorem dqgBlk_holds (hd : BWide d D) (ht : BSaved t S) : BWide (dqgBlk (F := Ideal) d t) fun h => _root_.Gdn.mulT (D h) (S h) := fun h r b =>
  (canon_col (F := Ideal) h _ r b).trans (dqH_coe (ht.ld h) (hd.ld h) r b)

theorem vnOf_coe (hv : BWide v V) (h : Fin 8) (r : Fin 64) (b : Fin 128) : vnOf (F := Ideal) v h (ix2 r b) = ((V h r b : ℝ) : EReal) := by
  exact (congrFun (shapeCast_self _ _) _).trans (hv.ld h r b)

theorem dkdBlk_holds (hv : BWide v V) (hs : BState ds DS) : BWide (dkdBlk (F := Ideal) v ds) fun h => _root_.Gdn.mulT (V h) (DS h) := fun h r b =>
  (canon_col (F := Ideal) h _ r b).trans (dkH_coe (hs.ld h) (vnOf_coe hv h) r b)

theorem dqkBlk_holds (hd : BWide d D) (hv : BWide v V) :
    BScore (dqkBlk (F := Ideal) d v) fun h i j => if j ≤ i then _root_.Gdn.dscore (D h) (V h) i j else 0 := fun h i j => by
  refine (canon_qk (F := Ideal) h _ i j).trans ?_
  simp only [pointwise]
  exact dqkH_coe (hd.ld h) (vnOf_coe hv h) i j

theorem dgamAt_coe (ht : BSaved t S) (hs : BState ds DS) (h : Fin 8) (b : Fin 128) :
    dgamAt (F := Ideal) t ds h (ix2 0 b) = ((_root_.Gdn.ddecay (S h) (DS h) : ℝ) : EReal) :=
  dgamH_coe (ht.ld h) (hs.ld h) b

theorem rows_apply (x : FVec Ideal S8x128 .f32) (h : Fin 8) (b : Fin 128) :
    shapeCast S1x8x128 x shapeCasts_S8x128_S1x8x128 (ix3 0 h b) = x (ix2 h b) := by simp only [pointwise]

theorem dgamBlk_holds (ht : BSaved t S) (hs : BState ds DS) : BDecay (dgamBlk (F := Ideal) t ds) fun h => _root_.Gdn.ddecay (S h) (DS h) := fun h b => by
  refine (rows_apply _ h b).trans ?_
  refine (concatenate_ofFn_unit_apply (t := S8x128) 0 (dgamAt (F := Ideal) t ds)
    concatenates_S1x128_S1x128_S1x128_S1x128_S1x128_S1x128_S1x128_S1x128_S8x128_d0 rfl rfl (ix2 h b) h rfl (ix2 0 b) fun a ha => ?_).trans
    (dgamAt_coe ht hs h b)
  fin_cases a
  · exact absurd rfl ha
  · rfl

theorem dsNext_holds (hd : BWide d D) (hw : BWide w W) (hq : BWide q Q) (hk : BWide k K) (ha : BScore a A) (hg : BDecay g G) (hs : BState ds DS) :
    BState (dsNext (F := Ideal) d w q k a g ds)
      fun h => _root_.Gdn.prev (Q h) (W h) (D h) (_root_.Gdn.dval (K h) (D h) (A h) (DS h)) (G h) (DS h) := fun h x b => by
  refine (canon_st (F := Ideal) h _ x b).trans ?_
  simp only [pointwise]
  exact ds0H_coe (hs.ld h) (hw.ld h) (hq.ld h) (hd.ld h) (dvnAt_coe hd hk ha hs h) (hg.ld h) x b

end Cert.KernelIdeal.Gdn
-- ==== Proof.Arrays.lean ====
module

public import proofs.«01_k».proof.Proof.BlockVals
public import proofs.«01_k».proof.Proof.Run

/-! # Chunks' blocks in the scans' arrays

    Where a window's block at a point lies in its array, what a block read off an array holds, and what an array written
    block by block holds. -/

@[expose] public section
noncomputable section

set_option maxRecDepth 16384

namespace Cert.KernelIdeal.Gdn

open Idealize.ShloMosaic Idealize.ShloMosaic.TcCoe Gen
open Idealize.ShloMosaic.Pipeline (Dat Cfg)
open _root_.Gdn (Mat colIx rowIx rowIx_val HoldsWide HoldsScore Wide Score)

/-! ## Places -/

variable {n : ℕ} (hn : n < 128)

include hn in
theorem wide_at {ix : Fin 2 → ℕ} (hi : ix = ![n, 0]) (r : Fin 64) (e : Fin 1024) (j : S8192x1024.Idx)
    (h0 : (j 0).val = ix 0 * 64 + 1 * r.val) (h1 : (j 1).val = ix 1 * 1024 + 1 * e.val) : j = ix2 (rowIx n r) e := by
  subst hi
  funext a
  fin_cases a
  · refine Fin.ext (h0.trans ((rowIx_val ⟨n, hn⟩ r).trans ?_).symm)
    show 64 * n + r.val = n * 64 + 1 * r.val; omega
  · refine Fin.ext (h1.trans ?_)
    show 0 * 1024 + 1 * e.val = e.val; omega
include hn in
theorem score_at {ix : Fin 3 → ℕ} (hi : ix = ![0, n, 0]) (h : Fin 8) (r k : Fin 64) (j : S8x8192x64.Idx)
    (h0 : (j 0).val = ix 0 * 8 + 1 * h.val) (h1 : (j 1).val = ix 1 * 64 + 1 * r.val) (h2 : (j 2).val = ix 2 * 64 + 1 * k.val) :
    j = ix3 h (rowIx n r) k := by
  subst hi
  funext a
  fin_cases a
  · refine Fin.ext (h0.trans ?_)
    show 0 * 8 + 1 * h.val = h.val; omega
  · refine Fin.ext (h1.trans ((rowIx_val ⟨n, hn⟩ r).trans ?_).symm)
    show 64 * n + r.val = n * 64 + 1 * r.val; omega
  · refine Fin.ext (h2.trans ?_)
    show 0 * 64 + 1 * k.val = k.val; omega
theorem lane_at {ix : Fin 3 → ℕ} (hi : ix = ![n, 0, 0]) (h : Fin 8) (b : Fin 128) (j : S128x8x128.Idx)
    (h0 : (j 0).val = ix 0 * 1 + 1 * 0) (h1 : (j 1).val = ix 1 * 8 + 1 * h.val) (h2 : (j 2).val = ix 2 * 128 + 1 * b.val) :
    j = ix3 ⟨n, hn⟩ h b := by
  subst hi
  funext a
  fin_cases a
  · refine Fin.ext (h0.trans ?_)
    show n * 1 + 1 * 0 = n; omega
  · refine Fin.ext (h1.trans ?_)
    show 0 * 8 + 1 * h.val = h.val; omega
  · refine Fin.ext (h2.trans ?_)
    show 0 * 128 + 1 * b.val = b.val; omega
theorem saved_at {ix : Fin 4 → ℕ} (hi : ix = ![0, n, 0, 0]) (h : Fin 8) (x b : Fin 128) (j : S8x128x128x128.Idx)
    (h0 : (j 0).val = ix 0 * 8 + 1 * h.val) (h1 : (j 1).val = ix 1 * 1 + 1 * 0)
    (h2 : (j 2).val = ix 2 * 128 + 1 * x.val) (h3 : (j 3).val = ix 3 * 128 + 1 * b.val) :
    j = ix4 h ⟨n, hn⟩ x b := by
  subst hi
  funext a
  fin_cases a
  · refine Fin.ext (h0.trans ?_)
    show 0 * 8 + 1 * h.val = h.val; omega
  · refine Fin.ext (h1.trans ?_)
    show n * 1 + 1 * 0 = n; omega
  · refine Fin.ext (h2.trans ?_)
    show 0 * 128 + 1 * x.val = x.val; omega
  · refine Fin.ext (h3.trans ?_)
    show 0 * 128 + 1 * b.val = b.val; omega

/-- A column is some head's. -/
theorem exists_col (e : Fin 1024) : ∃ h b, e = colIx h b :=
  ⟨⟨e.val / 128, by omega⟩, ⟨e.val % 128, by omega⟩, Fin.ext (Nat.div_add_mod e.val 128).symm⟩
/-- A row is some chunk's. -/
theorem exists_row (t : Fin 8192) : ∃ (n : Fin 128) (r : Fin 64), t = rowIx n r :=
  ⟨⟨t.val / 64, by omega⟩, ⟨t.val % 64, by omega⟩, Fin.ext ((rowIx_val _ _).trans (Nat.div_add_mod t.val 64)).symm⟩

/-! ## Arrays that hold a family -/

/-- The decays' array, each decay repeated along the lanes. -/
def HoldsLane (X : S128x8x128.Idx → EReal) (M : ℕ → Fin 8 → ℝ) : Prop :=
  ∀ (n : Fin 128) (h : Fin 8) (b : Fin 128), X (ix3 n h b) = ((M n h : ℝ) : EReal)
/-- The array of saved states. -/
def HoldsSaved (X : S8x128x128x128.Idx → EReal) (M : ℕ → Fin 8 → Mat 128 128) : Prop :=
  ∀ (n : Fin 128) (h : Fin 8) (x b : Fin 128), X (ix4 h n x b) = ((M n h x b : ℝ) : EReal)

theorem exists_wide (M : ℕ → Fin 8 → Mat 64 128) : ∃ X, HoldsWide X M :=
  ⟨fun i => ((M ((i 0).val / 64) ⟨(i 1).val / 128, Nat.div_lt_of_lt_mul (i 1).isLt⟩ ⟨(i 0).val % 64, Nat.mod_lt _ (by decide)⟩
      ⟨(i 1).val % 128, Nat.mod_lt _ (by decide)⟩ : ℝ) : EReal), fun n h r b => by
    have e0 : (rowIx n r).val / 64 = n := by rw [rowIx_val]; omega
    have e1 : (rowIx n r).val % 64 = r := by rw [rowIx_val]; omega
    exact congrArg _ (congr (congr (congr (congrArg M e0) (Fin.ext (colIx_div h b))) (Fin.ext e1)) (Fin.ext (colIx_mod h b)))⟩
theorem exists_score (M : ℕ → Fin 8 → Mat 64 64) : ∃ X, HoldsScore X M :=
  ⟨fun i => ((M ((i 1).val / 64) (i 0) ⟨(i 1).val % 64, Nat.mod_lt _ (by decide)⟩ (i 2) : ℝ) : EReal), fun n h r j => by
    have e0 : (rowIx n r).val / 64 = n := by rw [rowIx_val]; omega
    have e1 : (rowIx n r).val % 64 = r := by rw [rowIx_val]; omega
    exact congrArg _ (congrFun (congr (congrFun (congrArg M e0) h) (Fin.ext e1)) j)⟩
theorem exists_lane (M : ℕ → Fin 8 → ℝ) : ∃ X, HoldsLane X M := ⟨fun i => ((M (i 0).val (i 1) : ℝ) : EReal), fun _ _ _ => rfl⟩
theorem exists_saved (M : ℕ → Fin 8 → Mat 128 128) : ∃ X, HoldsSaved X M :=
  ⟨fun i => ((M (i 1).val (i 0) (i 2) (i 3) : ℝ) : EReal), fun _ _ _ _ => rfl⟩

/-! ## A window's blocks, given where they lie -/

section Blocks

variable {ι : Type} {ch : ι → Fin 128} {pt : Fin 128 → ι} (hpt : ∀ n, ch (pt n) = n)

section

variable {emb : ι → S64x1024.Idx → S8192x1024.Idx} (P : ∀ t r e, emb t (ix2 r e) = ix2 (rowIx (ch t) r) e)
  {X : S8192x1024.Idx → EReal} {M : ℕ → Fin 8 → Mat 64 128} (hX : HoldsWide X M) (t : ι)

include P hX in
/-- The block read off an array, -/
theorem wide_in : BWide (fun y => X (emb t y)) (M (ch t)) := fun h r b => (congrArg X (P t r (colIx h b))).trans (hX (ch t) h r b)
include P hX in
/-- the block written to it, -/
theorem wide_out {B : Vec Ideal S64x1024 .f32} (hB : BWide B (M (ch t))) (y : S64x1024.Idx) : B y = X (emb t y) := by
  obtain ⟨r, e, rfl⟩ : ∃ (r : Fin 64) (e : Fin 1024), y = ix2 r e := ⟨y 0, y 1, funext fun a => by fin_cases a <;> rfl⟩
  obtain ⟨h, b, rfl⟩ := exists_col e
  exact (hB h r b).trans (wide_in P hX t h r b).symm
include P hpt in
/-- and every entry in some block. -/
theorem wide_cover (i : S8192x1024.Idx) : ∃ t y, emb t y = i := by
  obtain ⟨s, e, rfl⟩ : ∃ (s : Fin 8192) (e : Fin 1024), i = ix2 s e := ⟨i 0, i 1, funext fun a => by fin_cases a <;> rfl⟩
  obtain ⟨n, r, rfl⟩ := exists_row s
  exact ⟨pt n, ix2 r e, by rw [P, hpt]⟩

end

section

variable {emb : ι → S8x64x64.Idx → S8x8192x64.Idx} (P : ∀ t h i j, emb t (ix3 h i j) = ix3 h (rowIx (ch t) i) j)
  {X : S8x8192x64.Idx → EReal} {M : ℕ → Fin 8 → Mat 64 64} (hX : HoldsScore X M) (t : ι)

include P hX in
theorem score_in : BScore (fun y => X (emb t y)) (M (ch t)) := fun h i j => (congrArg X (P t h i j)).trans (hX (ch t) h i j)
include P hX in
theorem score_out {B : Vec Ideal S8x64x64 .f32} (hB : BScore B (M (ch t))) (y : S8x64x64.Idx) : B y = X (emb t y) := by
  obtain ⟨h, i, j, rfl⟩ : ∃ (h : Fin 8) (i j : Fin 64), y = ix3 h i j := ⟨y 0, y 1, y 2, funext fun a => by fin_cases a <;> rfl⟩
  exact (hB h i j).trans (score_in P hX t h i j).symm
include P hpt in
theorem score_cover (i : S8x8192x64.Idx) : ∃ t y, emb t y = i := by
  obtain ⟨h, s, j, rfl⟩ : ∃ (h : Fin 8) (s : Fin 8192) (j : Fin 64), i = ix3 h s j := ⟨i 0, i 1, i 2, funext fun a => by fin_cases a <;> rfl⟩
  obtain ⟨n, r, rfl⟩ := exists_row s
  exact ⟨pt n, ix3 h r j, by rw [P, hpt]⟩

end

section

variable {emb : ι → S1x8x128.Idx → S128x8x128.Idx} (P : ∀ t h b, emb t (ix3 0 h b) = ix3 (ch t) h b)
  {X : S128x8x128.Idx → EReal} {M : ℕ → Fin 8 → ℝ} (hX : HoldsLane X M) (t : ι)

include P hX in
theorem lane_in : BDecay (fun y => X (emb t y)) (M (ch t)) := fun h b => (congrArg X (P t h b)).trans (hX (ch t) h b)
include P hX in
theorem lane_out {B : Vec Ideal S1x8x128 .f32} (hB : BDecay B (M (ch t))) (y : S1x8x128.Idx) : B y = X (emb t y) := by
  obtain ⟨h, b, rfl⟩ : ∃ (h : Fin 8) (b : Fin 128), y = ix3 0 h b := ⟨y 1, y 2, funext fun a => by
    fin_cases a
    · exact Subsingleton.elim (α := Fin 1) _ _
    all_goals rfl⟩
  exact (hB h b).trans (lane_in P hX t h b).symm
include P hpt in
theorem lane_cover (i : S128x8x128.Idx) : ∃ t y, emb t y = i := by
  obtain ⟨n, h, b, rfl⟩ : ∃ (n : Fin 128) (h : Fin 8) (b : Fin 128), i = ix3 n h b := ⟨i 0, i 1, i 2, funext fun a => by fin_cases a <;> rfl⟩
  exact ⟨pt n, ix3 0 h b, by rw [P, hpt]⟩

end

section

variable {emb : ι → S8x1x128x128.Idx → S8x128x128x128.Idx} (P : ∀ t h x b, emb t (ix4 h 0 x b) = ix4 h (ch t) x b)
  {X : S8x128x128x128.Idx → EReal} {M : ℕ → Fin 8 → Mat 128 128} (hX : HoldsSaved X M) (t : ι)

include P hX in
theorem saved_in : BSaved (fun y => X (emb t y)) (M (ch t)) := fun h x b => (congrArg X (P t h x b)).trans (hX (ch t) h x b)
include P hX in
theorem saved_out {B : Vec Ideal S8x1x128x128 .f32} (hB : BSaved B (M (ch t))) (y : S8x1x128x128.Idx) : B y = X (emb t y) := by
  obtain ⟨h, x, b, rfl⟩ : ∃ (h : Fin 8) (x b : Fin 128), y = ix4 h 0 x b := ⟨y 0, y 2, y 3, funext fun a => by
    fin_cases a
    · rfl
    · exact Subsingleton.elim (α := Fin 1) _ _
    all_goals rfl⟩
  exact (hB h x b).trans (saved_in P hX t h x b).symm
include P hpt in
theorem saved_cover (i : S8x128x128x128.Idx) : ∃ t y, emb t y = i := by
  obtain ⟨h, n, x, b, rfl⟩ : ∃ (h : Fin 8) (n x b : Fin 128), i = ix4 h n x b := ⟨i 0, i 1, i 2, i 3, funext fun a => by fin_cases a <;> rfl⟩
  exact ⟨pt n, ix4 h 0 x b, by rw [P, hpt]⟩

end

end Blocks

/-! ## An array written block by block -/

/-- An output window flushed at every point, whose blocks cover its array, leaves the array whose blocks they are. -/
theorem arr_eq {Λ : Idealize.SL.Sem.Labels} {cfg : Cfg sig Λ} {c : Dev nD} (D : Dat τ (Elt Ideal) Unit ℕ (UR sig nD τ) ℕ cfg c) (w : Fin cfg.W)
    (X : Buf (Elt Ideal) ((cfg.win w).arr.view.loc (c.tc : Thread nD τ))) (hf : ∀ t, (cfg.win w).flush t = true)
    (hb : ∀ t y, D.flushed w t y = ((cfg.win w).blk t).view.read (Elt Ideal) X y)
    (hc : ∀ i : ((cfg.win w).arr.view.loc (c.tc : Thread nD τ)).2.ty.Idx, ∃ t y, ((cfg.win w).blk t).view.emb y = i) : D.arrAt w cfg.N = X :=
  D.arrAt_eq_of_cover w X (fun t _ => funext fun y => hb t y) fun i => by
    obtain ⟨t, y, h⟩ := hc i
    exact ⟨t, hf t, h ▸ View.emb_mem_set _ y⟩

end Cert.KernelIdeal.Gdn
-- ==== Proof.FwdVals.lean ====
module

public import proofs.«01_k».proof.Proof.Arrays

/-! # The forward scan's arrays -/

@[expose] public section
noncomputable section

set_option maxRecDepth 16384

namespace Cert.KernelIdeal.Gdn

open Idealize.ShloMosaic Idealize.ShloMosaic.TcCoe Gen
open Idealize.ShloMosaic.Pipeline (Dat Cfg)
open _root_.Gdn (Mat colIx rowIx HoldsWide HoldsScore Ins)

variable (V : (c : Dev nD) → (b : Ref sig .tc) → Buf (Elt Ideal) ((c : Thread nD τ).loc b)) (c : Dev nD) (I : Ins)

/-- The arrays the forward scan reads hold the recursion's inputs. -/
structure FwdIn : Prop where
  hu : HoldsWide (V c main_arg0) I.u
  hw : HoldsWide (V c main_arg1) I.w
  hq : HoldsWide (V c main_arg2) I.q
  hk : HoldsWide (V c main_arg3) I.k
  ha : HoldsScore (V c main_v9) I.a
  hg : HoldsLane (V c main_v11) I.g

/-- Point `t`'s blocks are chunk `t`'s. -/
theorem idx0 : ∀ t : Fin cfg0.N, (win0_0.index t = ![t.val, 0] ∧ win0_1.index t = ![t.val, 0] ∧ win0_2.index t = ![t.val, 0]
      ∧ win0_3.index t = ![t.val, 0]) ∧ win0_4.index t = ![0, t.val, 0] ∧ win0_5.index t = ![t.val, 0, 0]
      ∧ win0_6.index t = ![t.val, 0] ∧ win0_7.index t = ![0, t.val, 0, 0] ∧ win0_8.index t = ![t.val, 0] :=
  (by decide +kernel : ∀ t : Fin grid0.N, _)

/-- Point `t`'s chunk, and chunk `n`'s point. -/
abbrev ch0 (t : Fin cfg0.N) : Fin 128 := ⟨t.val, lt_of_lt_of_eq t.isLt N_0⟩
abbrev at0 (n : Fin 128) : Fin cfg0.N := ⟨n.val, lt_of_lt_of_eq n.isLt N_0.symm⟩

/-! Where the windows' blocks lie. -/

theorem place0_0 (t r e) : ((cfg0.win 0).blk t).view.emb (ix2 r e) = ix2 (rowIx (ch0 t) r) e := wide_at (ch0 t).isLt (idx0 t).1.1 r e _ rfl rfl
theorem place0_1 (t r e) : ((cfg0.win 1).blk t).view.emb (ix2 r e) = ix2 (rowIx (ch0 t) r) e := wide_at (ch0 t).isLt (idx0 t).1.2.1 r e _ rfl rfl
theorem place0_2 (t r e) : ((cfg0.win 2).blk t).view.emb (ix2 r e) = ix2 (rowIx (ch0 t) r) e := wide_at (ch0 t).isLt (idx0 t).1.2.2.1 r e _ rfl rfl
theorem place0_3 (t r e) : ((cfg0.win 3).blk t).view.emb (ix2 r e) = ix2 (rowIx (ch0 t) r) e := wide_at (ch0 t).isLt (idx0 t).1.2.2.2 r e _ rfl rfl
theorem place0_4 (t h i j) : ((cfg0.win 4).blk t).view.emb (ix3 h i j) = ix3 h (rowIx (ch0 t) i) j := score_at (ch0 t).isLt (idx0 t).2.1 h i j _ rfl rfl rfl
theorem place0_5 (t h b) : ((cfg0.win 5).blk t).view.emb (ix3 0 h b) = ix3 (ch0 t) h b := lane_at (ch0 t).isLt (idx0 t).2.2.1 h b _ rfl rfl rfl
theorem place0_6 (t r e) : ((cfg0.win 6).blk t).view.emb (ix2 r e) = ix2 (rowIx (ch0 t) r) e := wide_at (ch0 t).isLt (idx0 t).2.2.2.1 r e _ rfl rfl
theorem place0_7 (t h x b) : ((cfg0.win 7).blk t).view.emb (ix4 h 0 x b) = ix4 h (ch0 t) x b := saved_at (ch0 t).isLt (idx0 t).2.2.2.2.1 h x b _ rfl rfl rfl rfl
theorem place0_8 (t r e) : ((cfg0.win 8).blk t).view.emb (ix2 r e) = ix2 (rowIx (ch0 t) r) e := wide_at (ch0 t).isLt (idx0 t).2.2.2.2.2 r e _ rfl rfl

variable {V c I} (H : FwdIn V c I) (t : Fin cfg0.N)

/-! The blocks read. -/

include H in
theorem in0_u : BWide (iblk0 V c 0 t) (I.u t.val) := wide_in place0_0 H.hu t
include H in
theorem in0_w : BWide (iblk0 V c 1 t) (I.w t.val) := wide_in place0_1 H.hw t
include H in
theorem in0_q : BWide (iblk0 V c 2 t) (I.q t.val) := wide_in place0_2 H.hq t
include H in
theorem in0_k : BWide (iblk0 V c 3 t) (I.k t.val) := wide_in place0_3 H.hk t
include H in
theorem in0_a : BScore (iblk0 V c 4 t) (I.a t.val) := score_in place0_4 H.ha t
include H in
theorem in0_g : BDecay (iblk0 V c 5 t) (I.g t.val) := lane_in place0_5 H.hg t

include H in
/-- The carried state is the recursion's. -/
theorem st0 : ∀ (n : ℕ) (hn : n ≤ cfg0.N), BState (sc0 V c n hn) (I.S n)
  | 0, _ => zeroSt_holds
  | n + 1, hn => stNext_holds (in0_u H ⟨n, hn⟩) (in0_w H ⟨n, hn⟩) (in0_k H ⟨n, hn⟩) (in0_g H ⟨n, hn⟩) (st0 n (Nat.le_of_succ_le hn))

/-! The arrays written: the output, the saved states, the corrected values. -/

include H in
theorem out_o : HoldsWide ((dat0 V c).arrAt 6 cfg0.N) I.O := by
  obtain ⟨X, hX⟩ := exists_wide I.O
  rw [arr_eq (dat0 V c) 6 X flush0_6 (fun t y => (congrFun (after0_6 V c t) y).trans (wide_out place0_6 hX t
    (oBlk_holds (in0_u H t) (in0_w H t) (in0_q H t) (in0_a H t) (st0 H _ _)) y)) (wide_cover (pt := at0) (fun _ => rfl) place0_6)]
  exact hX
include H in
theorem out_s : HoldsSaved ((dat0 V c).arrAt 7 cfg0.N) I.S := by
  obtain ⟨X, hX⟩ := exists_saved I.S
  rw [arr_eq (dat0 V c) 7 X flush0_7 (fun t y => (congrFun (after0_7 V c t) y).trans (saved_out place0_7 hX t
    (ssBlk_holds (st0 H _ _)) y)) (saved_cover (pt := at0) (fun _ => rfl) place0_7)]
  exact hX
include H in
theorem out_v : HoldsWide ((dat0 V c).arrAt 8 cfg0.N) I.V := by
  obtain ⟨X, hX⟩ := exists_wide I.V
  rw [arr_eq (dat0 V c) 8 X flush0_8 (fun t y => (congrFun (after0_8 V c t) y).trans (wide_out place0_8 hX t
    (vnBlk_holds (in0_u H t) (in0_w H t) (st0 H _ _)) y)) (wide_cover (pt := at0) (fun _ => rfl) place0_8)]
  exact hX

end Cert.KernelIdeal.Gdn
-- ==== Proof.BwdVals.lean ====
module

public import proofs.«01_k».proof.Proof.Arrays

/-! # The backward scan's arrays -/

@[expose] public section
noncomputable section

set_option maxRecDepth 16384

namespace Cert.KernelIdeal.Gdn

open Idealize.ShloMosaic Idealize.ShloMosaic.TcCoe Gen
open Idealize.ShloMosaic.Pipeline (Dat Cfg)
open _root_.Gdn (Mat colIx rowIx HoldsWide HoldsScore Ins)

variable (V : (c : Dev nD) → (b : Ref sig .tc) → Buf (Elt Ideal) ((c : Thread nD τ).loc b)) (c : Dev nD) (I : Ins)

/-- The arrays the backward scan reads hold the recursion's inputs and what the forward scan saved. -/
structure BwdIn : Prop where
  hd : HoldsWide (V c main_arg6) I.d
  hw : HoldsWide (V c main_arg1) I.w
  hq : HoldsWide (V c main_arg2) I.q
  hk : HoldsWide (V c main_arg3) I.k
  ha : HoldsScore (V c main_v9) I.a
  hg : HoldsLane (V c main_v11) I.g
  hs : HoldsSaved (V c main_v12_1) I.S
  hv : HoldsWide (V c main_v12_2) I.V

/-- Point `t`'s blocks are chunk `127 − t`'s. -/
theorem idx1 : ∀ t : Fin cfg1.N, (win1_0.index t = ![127 - t.val, 0] ∧ win1_1.index t = ![127 - t.val, 0] ∧ win1_2.index t = ![127 - t.val, 0] ∧ win1_3.index t = ![127 - t.val, 0] ∧ win1_7.index t = ![127 - t.val, 0] ∧ win1_8.index t = ![127 - t.val, 0] ∧ win1_9.index t = ![127 - t.val, 0] ∧ win1_10.index t = ![127 - t.val, 0] ∧ win1_11.index t = ![127 - t.val, 0])
      ∧ (win1_4.index t = ![0, 127 - t.val, 0] ∧ win1_12.index t = ![0, 127 - t.val, 0]) ∧ (win1_5.index t = ![127 - t.val, 0, 0] ∧ win1_13.index t = ![127 - t.val, 0, 0]) ∧ (win1_6.index t = ![0, 127 - t.val, 0, 0]) :=
  (by decide +kernel : ∀ t : Fin grid1.N, _)

/-- Point `t`'s chunk, and chunk `n`'s point. -/
abbrev ch1 (t : Fin cfg1.N) : Fin 128 := ⟨127 - t.val, by omega⟩
abbrev at1 (n : Fin 128) : Fin cfg1.N := ⟨127 - n.val, lt_of_lt_of_eq (by omega) N_1.symm⟩
theorem ch_at1 (n : Fin 128) : ch1 (at1 n) = n := Fin.ext (show 127 - (127 - n.val) = n.val by omega)

/-! Where the windows' blocks lie. -/

theorem place1_0 (t r e) : ((cfg1.win 0).blk t).view.emb (ix2 r e) = ix2 (rowIx (ch1 t) r) e := wide_at (ch1 t).isLt (idx1 t).1.1 r e _ rfl rfl
theorem place1_1 (t r e) : ((cfg1.win 1).blk t).view.emb (ix2 r e) = ix2 (rowIx (ch1 t) r) e := wide_at (ch1 t).isLt (idx1 t).1.2.1 r e _ rfl rfl
theorem place1_2 (t r e) : ((cfg1.win 2).blk t).view.emb (ix2 r e) = ix2 (rowIx (ch1 t) r) e := wide_at (ch1 t).isLt (idx1 t).1.2.2.1 r e _ rfl rfl
theorem place1_3 (t r e) : ((cfg1.win 3).blk t).view.emb (ix2 r e) = ix2 (rowIx (ch1 t) r) e := wide_at (ch1 t).isLt (idx1 t).1.2.2.2.1 r e _ rfl rfl
theorem place1_4 (t h i j) : ((cfg1.win 4).blk t).view.emb (ix3 h i j) = ix3 h (rowIx (ch1 t) i) j := score_at (ch1 t).isLt (idx1 t).2.1.1 h i j _ rfl rfl rfl
theorem place1_5 (t h b) : ((cfg1.win 5).blk t).view.emb (ix3 0 h b) = ix3 (ch1 t) h b := lane_at (ch1 t).isLt (idx1 t).2.2.1.1 h b _ rfl rfl rfl
theorem place1_6 (t h x b) : ((cfg1.win 6).blk t).view.emb (ix4 h 0 x b) = ix4 h (ch1 t) x b := saved_at (ch1 t).isLt (idx1 t).2.2.2 h x b _ rfl rfl rfl rfl
theorem place1_7 (t r e) : ((cfg1.win 7).blk t).view.emb (ix2 r e) = ix2 (rowIx (ch1 t) r) e := wide_at (ch1 t).isLt (idx1 t).1.2.2.2.2.1 r e _ rfl rfl
theorem place1_8 (t r e) : ((cfg1.win 8).blk t).view.emb (ix2 r e) = ix2 (rowIx (ch1 t) r) e := wide_at (ch1 t).isLt (idx1 t).1.2.2.2.2.2.1 r e _ rfl rfl
theorem place1_9 (t r e) : ((cfg1.win 9).blk t).view.emb (ix2 r e) = ix2 (rowIx (ch1 t) r) e := wide_at (ch1 t).isLt (idx1 t).1.2.2.2.2.2.2.1 r e _ rfl rfl
theorem place1_10 (t r e) : ((cfg1.win 10).blk t).view.emb (ix2 r e) = ix2 (rowIx (ch1 t) r) e := wide_at (ch1 t).isLt (idx1 t).1.2.2.2.2.2.2.2.1 r e _ rfl rfl
theorem place1_11 (t r e) : ((cfg1.win 11).blk t).view.emb (ix2 r e) = ix2 (rowIx (ch1 t) r) e := wide_at (ch1 t).isLt (idx1 t).1.2.2.2.2.2.2.2.2 r e _ rfl rfl
theorem place1_12 (t h i j) : ((cfg1.win 12).blk t).view.emb (ix3 h i j) = ix3 h (rowIx (ch1 t) i) j := score_at (ch1 t).isLt (idx1 t).2.1.2 h i j _ rfl rfl rfl
theorem place1_13 (t h b) : ((cfg1.win 13).blk t).view.emb (ix3 0 h b) = ix3 (ch1 t) h b := lane_at (ch1 t).isLt (idx1 t).2.2.1.2 h b _ rfl rfl rfl

variable {V c I} (H : BwdIn V c I) (t : Fin cfg1.N)

/-! The blocks read. -/

include H in
theorem in1_d : BWide (iblk1 V c 0 t) (I.d (127 - t.val)) := wide_in place1_0 H.hd t
include H in
theorem in1_w : BWide (iblk1 V c 1 t) (I.w (127 - t.val)) := wide_in place1_1 H.hw t
include H in
theorem in1_q : BWide (iblk1 V c 2 t) (I.q (127 - t.val)) := wide_in place1_2 H.hq t
include H in
theorem in1_k : BWide (iblk1 V c 3 t) (I.k (127 - t.val)) := wide_in place1_3 H.hk t
include H in
theorem in1_a : BScore (iblk1 V c 4 t) (I.a (127 - t.val)) := score_in place1_4 H.ha t
include H in
theorem in1_g : BDecay (iblk1 V c 5 t) (I.g (127 - t.val)) := lane_in place1_5 H.hg t
include H in
theorem in1_s : BSaved (iblk1 V c 6 t) (I.S (127 - t.val)) := saved_in place1_6 H.hs t
include H in
theorem in1_v : BWide (iblk1 V c 7 t) (I.V (127 - t.val)) := wide_in place1_7 H.hv t

include H in
/-- The carried gradient is the recursion's. -/
theorem st1 : ∀ (n : ℕ) (hn : n ≤ cfg1.N), BState (sc1 V c n hn) (I.DS n)
  | 0, _ => zeroSt_holds
  | n + 1, hn => dsNext_holds (in1_d H ⟨n, hn⟩) (in1_w H ⟨n, hn⟩) (in1_q H ⟨n, hn⟩) (in1_k H ⟨n, hn⟩) (in1_a H ⟨n, hn⟩) (in1_g H ⟨n, hn⟩)
    (st1 n (Nat.le_of_succ_le hn))

/-- A family taken in the backward order. -/
theorem rev_ch {α : Type} (M : ℕ → α) (t : Fin cfg1.N) : M (127 - (ch1 t).val) = M t.val :=
  congrArg M (show 127 - (127 - t.val) = t.val by have := lt_of_lt_of_eq t.isLt N_1; omega)

/-! The arrays written: the gradients. -/

include H in
theorem out_dv : HoldsWide ((dat1 V c).arrAt 8 cfg1.N) (fun n => I.DV (127 - n)) := by
  obtain ⟨X, hX⟩ := exists_wide (fun n => I.DV (127 - n))
  rw [arr_eq (dat1 V c) 8 X flush1_8 (fun t y => (congrFun (after1_8 V c t) y).trans (wide_out place1_8 hX t (by
    simp only [rev_ch (fun j => I.DV j)]
    exact duBlk_holds (in1_d H t) (in1_k H t) (in1_a H t) (st1 H _ _)) y)) (wide_cover (pt := at1) ch_at1 place1_8)]
  exact hX
include H in
theorem out_dw : HoldsWide ((dat1 V c).arrAt 9 cfg1.N) (fun n => I.DW (127 - n)) := by
  obtain ⟨X, hX⟩ := exists_wide (fun n => I.DW (127 - n))
  rw [arr_eq (dat1 V c) 9 X flush1_9 (fun t y => (congrFun (after1_9 V c t) y).trans (wide_out place1_9 hX t (by
    simp only [rev_ch (fun j => I.DW j)]
    exact dwBlk_holds (in1_d H t) (in1_k H t) (in1_a H t) (in1_s H t) (st1 H _ _)) y)) (wide_cover (pt := at1) ch_at1 place1_9)]
  exact hX
include H in
theorem out_dq : HoldsWide ((dat1 V c).arrAt 10 cfg1.N) (fun n => I.DQ (127 - n)) := by
  obtain ⟨X, hX⟩ := exists_wide (fun n => I.DQ (127 - n))
  rw [arr_eq (dat1 V c) 10 X flush1_10 (fun t y => (congrFun (after1_10 V c t) y).trans (wide_out place1_10 hX t (by
    simp only [rev_ch (fun j => I.DQ j)]
    exact dqgBlk_holds (in1_d H t) (in1_s H t)) y)) (wide_cover (pt := at1) ch_at1 place1_10)]
  exact hX
include H in
theorem out_dk : HoldsWide ((dat1 V c).arrAt 11 cfg1.N) (fun n => I.DK (127 - n)) := by
  obtain ⟨X, hX⟩ := exists_wide (fun n => I.DK (127 - n))
  rw [arr_eq (dat1 V c) 11 X flush1_11 (fun t y => (congrFun (after1_11 V c t) y).trans (wide_out place1_11 hX t (by
    simp only [rev_ch (fun j => I.DK j)]
    exact dkdBlk_holds (in1_v H t) (st1 H _ _)) y)) (wide_cover (pt := at1) ch_at1 place1_11)]
  exact hX
include H in
theorem out_da : HoldsScore ((dat1 V c).arrAt 12 cfg1.N) (fun n h i j => if j ≤ i then I.DA (127 - n) h i j else 0) := by
  obtain ⟨X, hX⟩ := exists_score (fun n h i j => if j ≤ i then I.DA (127 - n) h i j else 0)
  rw [arr_eq (dat1 V c) 12 X flush1_12 (fun t y => (congrFun (after1_12 V c t) y).trans (score_out place1_12 hX t (by
    simp only [rev_ch (fun j => I.DA j)]
    exact dqkBlk_holds (in1_d H t) (in1_v H t)) y)) (score_cover (pt := at1) ch_at1 place1_12)]
  exact hX
include H in
theorem out_dg : HoldsLane ((dat1 V c).arrAt 13 cfg1.N) (fun n => I.DG (127 - n)) := by
  obtain ⟨X, hX⟩ := exists_lane (fun n => I.DG (127 - n))
  rw [arr_eq (dat1 V c) 13 X flush1_13 (fun t y => (congrFun (after1_13 V c t) y).trans (lane_out place1_13 hX t (by
    simp only [rev_ch (fun j => I.DG j)]
    exact dgamBlk_holds (in1_s H t) (st1 H _ _)) y)) (lane_cover (pt := at1) ch_at1 place1_13)]
  exact hX

end Cert.KernelIdeal.Gdn
-- ==== Proof.RefOps.lean ====
module

public import proofs.«01_k».proof.Proof.Gen.ReferenceIdeal
public import Idealize.ShloMosaic.Lib.Pipeline.Regions
public import Idealize.ShloMosaic.Lib.StableHlo.RunLoop

/-! # The reference's operations

    The reference's `main` as stretches of operations around its two loops (the forward scan and the scan of its
    gradient), and each loop's body as stretches. -/

@[expose] public section
noncomputable section

namespace Cert.ReferenceIdeal.Gdn

open Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- the mask of ones -/
abbrev preOps0 : List (HloOp τ sig (Elt F)) :=
  [ StableHlo.nullary main_c (constantI S_ 1 1#1),
    StableHlo.unary main_c main_v0 (broadcastInDim S64x64 ![] bcast_S_S64x64 : (⟨S_, .i1⟩ : BufTy).Contents (Elt F) → (⟨S64x64, .i1⟩ : BufTy).Contents (Elt F)) ]

theorem preOps0_sub : (preOps0 : List (HloOp τ sig (Elt F))).Forall fun op => op.bufs ⊆ StableHlo.tcRefs τ sig :=
  ⟨StableHlo.nullary_bufs_sub .., StableHlo.unary_bufs_sub ..⟩

theorem preOps0_fresh : (preOps0 : List (HloOp τ sig (Elt F))).Forall fun op => op.fresh = ∅ := by
  repeat' constructor

/-- the lower triangle -/
abbrev preOps1 : List (HloOp τ sig (Elt F)) :=
  [ StableHlo.TRef.nullary (.of main_call0_v0 : StableHlo.TRef sig ⟨S64x64, .i32⟩) (iotaInDim S64x64 32 0),
    StableHlo.TRef.nullary (.of main_call0_c : StableHlo.TRef sig ⟨S_, .i32⟩) (constantI S_ 32 0#32),
    StableHlo.TRef.unary (.of main_call0_c : StableHlo.TRef sig ⟨S_, .i32⟩) (.of main_call0_v1 : StableHlo.TRef sig ⟨S64x64, .i32⟩) (broadcastInDim S64x64 ![] bcast_S_S64x64),
    StableHlo.TRef.binary (.of main_call0_v0 : StableHlo.TRef sig ⟨S64x64, .i32⟩) (.of main_call0_v1 : StableHlo.TRef sig ⟨S64x64, .i32⟩) (.of main_call0_v2 : StableHlo.TRef sig ⟨S64x64, .i32⟩) addi,
    StableHlo.TRef.nullary (.of main_call0_v3 : StableHlo.TRef sig ⟨S64x64, .i32⟩) (iotaInDim S64x64 32 1),
    StableHlo.TRef.binary (.of main_call0_v2 : StableHlo.TRef sig ⟨S64x64, .i32⟩) (.of main_call0_v3 : StableHlo.TRef sig ⟨S64x64, .i32⟩) (.of main_call0_v4 : StableHlo.TRef sig ⟨S64x64, .i1⟩) (cmpi .sge),
    StableHlo.TRef.nullary (.of main_call0_c_0 : StableHlo.TRef sig ⟨S_, .i1⟩) (constantI S_ 1 0#1),
    StableHlo.TRef.unary (.of main_call0_c_0 : StableHlo.TRef sig ⟨S_, .i1⟩) (.of main_call0_v5 : StableHlo.TRef sig ⟨S64x64, .i1⟩) (broadcastInDim S64x64 ![] bcast_S_S64x64),
    StableHlo.TRef.ternary (.of main_call0_v4 : StableHlo.TRef sig ⟨S64x64, .i1⟩) (.of main_v0 : StableHlo.TRef sig ⟨S64x64, .i1⟩) (.of main_call0_v5 : StableHlo.TRef sig ⟨S64x64, .i1⟩) (.of main_v1 : StableHlo.TRef sig ⟨S64x64, .i1⟩) select ]

theorem preOps1_sub : (preOps1 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub ..⟩

theorem preOps1_fresh : (preOps1 : List (HloOp τ sig (Elt F))).Forall fun op => op.fresh = ∅ := by
  repeat' constructor

/-- the products of the chunks, chunk by chunk -/
abbrev preOps2 : List (HloOp τ sig (Elt F)) :=
  [ StableHlo.reshape main_arg4 main_v2 (rfl : (.f32 : EltTy) = .f32) shapeCasts_S8x8192x64_S8x128x64x64,
    StableHlo.unary main_v2 main_v3 ((transpose S128x8x64x64 [1, 0, 2, 3] · transposes_S8x128x64x64_S128x8x64x64_1_0_2_3) : (⟨S8x128x64x64, .f32⟩ : BufTy).Contents (Elt F) → (⟨S128x8x64x64, .f32⟩ : BufTy).Contents (Elt F)),
    StableHlo.nullary main_cst (constant S_ .f32 0x00000000#32) ]

theorem preOps2_sub : (preOps2 : List (HloOp τ sig (Elt F))).Forall fun op => op.bufs ⊆ StableHlo.tcRefs τ sig :=
  ⟨StableHlo.reshape_bufs_sub .., StableHlo.unary_bufs_sub .., StableHlo.nullary_bufs_sub ..⟩

theorem preOps2_fresh : (preOps2 : List (HloOp τ sig (Elt F))).Forall fun op => op.fresh = ∅ := by
  repeat' constructor

/-- their lower triangles -/
abbrev preOps3 : List (HloOp τ sig (Elt F)) :=
  [ StableHlo.TRef.unary (.of main_cst : StableHlo.TRef sig ⟨S_, .f32⟩) (.of main_call1_v0 : StableHlo.TRef sig ⟨S_, .f32⟩) id,
    StableHlo.TRef.unary (.of main_v1 : StableHlo.TRef sig ⟨S64x64, .i1⟩) (.of main_v4_1 : StableHlo.TRef sig ⟨S128x8x64x64, .i1⟩) (broadcastInDim S128x8x64x64 ![2, 3] bcast_S64x64_S128x8x64x64_2_3),
    StableHlo.TRef.unary (.of main_call1_v0 : StableHlo.TRef sig ⟨S_, .f32⟩) (.of main_call1_v2 : StableHlo.TRef sig ⟨S128x8x64x64, .f32⟩) (broadcastInDim S128x8x64x64 ![] bcast_S_S128x8x64x64),
    StableHlo.TRef.ternary (.of main_v4_1 : StableHlo.TRef sig ⟨S128x8x64x64, .i1⟩) (.of main_v3 : StableHlo.TRef sig ⟨S128x8x64x64, .f32⟩) (.of main_call1_v2 : StableHlo.TRef sig ⟨S128x8x64x64, .f32⟩) (.of main_v4_0 : StableHlo.TRef sig ⟨S128x8x64x64, .f32⟩) select,
    StableHlo.TRef.nullary (.of main_call1_cst : StableHlo.TRef sig ⟨S_, .f32⟩) (constant S_ .f32 0x00000000#32),
    StableHlo.TRef.unary (.of main_call1_cst : StableHlo.TRef sig ⟨S_, .f32⟩) (.of main_v4_2 : StableHlo.TRef sig ⟨S128x8x64x64, .f32⟩) (broadcastInDim S128x8x64x64 ![] bcast_S_S128x8x64x64) ]

theorem preOps3_sub : (preOps3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub .., StableHlo.nullary_bufs_sub .., StableHlo.unary_bufs_sub ..⟩

theorem preOps3_fresh : (preOps3 : List (HloOp τ sig (Elt F))).Forall fun op => op.fresh = ∅ := by
  repeat' constructor

/-- the first loop's entry -/
abbrev preOps4 : List (HloOp τ sig (Elt F)) :=
  [ StableHlo.nullary main_cst_0 (constant S_ .f32 0x00000000#32),
    StableHlo.unary main_cst_0 main_v5 (broadcastInDim S8x128x128 ![] bcast_S_S8x128x128 : (⟨S_, .f32⟩ : BufTy).Contents (Elt F) → (⟨S8x128x128, .f32⟩ : BufTy).Contents (Elt F)),
    StableHlo.reshape main_arg2 main_v6 (rfl : (.f32 : EltTy) = .f32) shapeCasts_S8192x1024_S128x64x8x128,
    StableHlo.unary main_v6 main_v7 ((transpose S128x8x64x128 [0, 2, 1, 3] · transposes_S128x64x8x128_S128x8x64x128_0_2_1_3) : (⟨S128x64x8x128, .f32⟩ : BufTy).Contents (Elt F) → (⟨S128x8x64x128, .f32⟩ : BufTy).Contents (Elt F)),
    StableHlo.reshape main_arg3 main_v8 (rfl : (.f32 : EltTy) = .f32) shapeCasts_S8192x1024_S128x64x8x128,
    StableHlo.unary main_v8 main_v9 ((transpose S128x8x64x128 [0, 2, 1, 3] · transposes_S128x64x8x128_S128x8x64x128_0_2_1_3) : (⟨S128x64x8x128, .f32⟩ : BufTy).Contents (Elt F) → (⟨S128x8x64x128, .f32⟩ : BufTy).Contents (Elt F)),
    StableHlo.reshape main_arg0 main_v10 (rfl : (.f32 : EltTy) = .f32) shapeCasts_S8192x1024_S128x64x8x128,
    StableHlo.unary main_v10 main_v11 ((transpose S128x8x64x128 [0, 2, 1, 3] · transposes_S128x64x8x128_S128x8x64x128_0_2_1_3) : (⟨S128x64x8x128, .f32⟩ : BufTy).Contents (Elt F) → (⟨S128x8x64x128, .f32⟩ : BufTy).Contents (Elt F)),
    StableHlo.reshape main_arg1 main_v12 (rfl : (.f32 : EltTy) = .f32) shapeCasts_S8192x1024_S128x64x8x128,
    StableHlo.unary main_v12 main_v13 ((transpose S128x8x64x128 [0, 2, 1, 3] · transposes_S128x64x8x128_S128x8x64x128_0_2_1_3) : (⟨S128x64x8x128, .f32⟩ : BufTy).Contents (Elt F) → (⟨S128x8x64x128, .f32⟩ : BufTy).Contents (Elt F)),
    StableHlo.nullary main_cst_1 (constant S_ .f32 0x00000000#32),
    StableHlo.unary main_cst_1 main_v14 (broadcastInDim S128x8x64x128 ![] bcast_S_S128x8x64x128 : (⟨S_, .f32⟩ : BufTy).Contents (Elt F) → (⟨S128x8x64x128, .f32⟩ : BufTy).Contents (Elt F)),
    StableHlo.nullary main_cst_2 (constant S_ .f32 0x00000000#32),
    StableHlo.unary main_cst_2 main_v15 (broadcastInDim S128x8x128x128 ![] bcast_S_S128x8x128x128 : (⟨S_, .f32⟩ : BufTy).Contents (Elt F) → (⟨S128x8x128x128, .f32⟩ : BufTy).Contents (Elt F)),
    StableHlo.nullary main_cst_3 (constant S_ .f32 0x00000000#32),
    StableHlo.unary main_cst_3 main_v16 (broadcastInDim S128x8x64x128 ![] bcast_S_S128x8x64x128 : (⟨S_, .f32⟩ : BufTy).Contents (Elt F) → (⟨S128x8x64x128, .f32⟩ : BufTy).Contents (Elt F)),
    StableHlo.nullary main_cst_4 (constant S_ .f32 0x00000000#32),
    StableHlo.unary main_cst_4 main_v17 (broadcastInDim S128x8x1x1 ![] bcast_S_S128x8x1x1 : (⟨S_, .f32⟩ : BufTy).Contents (Elt F) → (⟨S128x8x1x1, .f32⟩ : BufTy).Contents (Elt F)),
    StableHlo.nullary main_c_5 (constantI S_ 32 0#32),
    StableHlo.unary main_v7 main_v18_0 id,
    StableHlo.unary main_v9 main_v18_1 id,
    StableHlo.unary main_v11 main_v18_2 id,
    StableHlo.unary main_v13 main_v18_3 id,
    StableHlo.unary main_arg5 main_v18_4 id,
    StableHlo.unary main_v4_0 main_v18_5 id,
    StableHlo.unary main_c_5 main_v18_6 id,
    StableHlo.unary main_v5 main_v18_7 id,
    StableHlo.unary main_v14 main_v18_8 id,
    StableHlo.unary main_v15 main_v18_9 id,
    StableHlo.unary main_v16 main_v18_10 id,
    StableHlo.unary main_v17 main_v18_11 id ]

theorem preOps4_sub : (preOps4 : List (HloOp τ sig (Elt F))).Forall fun op => op.bufs ⊆ StableHlo.tcRefs τ sig :=
  ⟨StableHlo.nullary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem preOps4_fresh : (preOps4 : List (HloOp τ sig (Elt F))).Forall fun op => op.fresh = ∅ := by
  repeat' constructor

/-- the first result and the second loop's constants -/
abbrev midOps0 : List (HloOp τ sig (Elt F)) :=
  [ StableHlo.unary main_v18_8 main_v19 ((transpose S128x64x8x128 [0, 2, 1, 3] · transposes_S128x8x64x128_S128x64x8x128_0_2_1_3) : (⟨S128x8x64x128, .f32⟩ : BufTy).Contents (Elt F) → (⟨S128x64x8x128, .f32⟩ : BufTy).Contents (Elt F)),
    StableHlo.reshape main_v19 main_v20 (rfl : (.f32 : EltTy) = .f32) shapeCasts_S128x64x8x128_S8192x1024,
    StableHlo.nullary main_cst_6 (constant S_ .f32 0x00000000#32),
    StableHlo.unary main_cst_6 main_v21 (broadcastInDim S8x128x128 ![] bcast_S_S8x128x128 : (⟨S_, .f32⟩ : BufTy).Contents (Elt F) → (⟨S8x128x128, .f32⟩ : BufTy).Contents (Elt F)),
    StableHlo.reshape main_arg6 main_v22 (rfl : (.f32 : EltTy) = .f32) shapeCasts_S8192x1024_S128x64x8x128,
    StableHlo.unary main_v22 main_v23 ((transpose S128x8x64x128 [0, 2, 1, 3] · transposes_S128x64x8x128_S128x8x64x128_0_2_1_3) : (⟨S128x64x8x128, .f32⟩ : BufTy).Contents (Elt F) → (⟨S128x8x64x128, .f32⟩ : BufTy).Contents (Elt F)),
    StableHlo.nullary main_cst_7 (constant S_ .f32 0x00000000#32),
    StableHlo.unary main_cst_7 main_v24 (broadcastInDim S8x128x128 ![] bcast_S_S8x128x128 : (⟨S_, .f32⟩ : BufTy).Contents (Elt F) → (⟨S8x128x128, .f32⟩ : BufTy).Contents (Elt F)),
    StableHlo.nullary main_cst_8 (constant S_ .f32 0x00000000#32),
    StableHlo.unary main_cst_8 main_v25 (broadcastInDim S128x8x64x128 ![] bcast_S_S128x8x64x128 : (⟨S_, .f32⟩ : BufTy).Contents (Elt F) → (⟨S128x8x64x128, .f32⟩ : BufTy).Contents (Elt F)),
    StableHlo.nullary main_cst_9 (constant S_ .f32 0x00000000#32),
    StableHlo.unary main_cst_9 main_v26 (broadcastInDim S128x8x64x128 ![] bcast_S_S128x8x64x128 : (⟨S_, .f32⟩ : BufTy).Contents (Elt F) → (⟨S128x8x64x128, .f32⟩ : BufTy).Contents (Elt F)),
    StableHlo.nullary main_cst_10 (constant S_ .f32 0x00000000#32),
    StableHlo.unary main_cst_10 main_v27 (broadcastInDim S128x8x64x128 ![] bcast_S_S128x8x64x128 : (⟨S_, .f32⟩ : BufTy).Contents (Elt F) → (⟨S128x8x64x128, .f32⟩ : BufTy).Contents (Elt F)),
    StableHlo.nullary main_cst_11 (constant S_ .f32 0x00000000#32),
    StableHlo.unary main_cst_11 main_v28 (broadcastInDim S128x8x64x128 ![] bcast_S_S128x8x64x128 : (⟨S_, .f32⟩ : BufTy).Contents (Elt F) → (⟨S128x8x64x128, .f32⟩ : BufTy).Contents (Elt F)),
    StableHlo.nullary main_cst_12 (constant S_ .f32 0x00000000#32),
    StableHlo.unary main_cst_12 main_v29 (broadcastInDim S128x8 ![] bcast_S_S128x8 : (⟨S_, .f32⟩ : BufTy).Contents (Elt F) → (⟨S128x8, .f32⟩ : BufTy).Contents (Elt F)),
    StableHlo.nullary main_cst_13 (constant S_ .f32 0x00000000#32),
    StableHlo.unary main_cst_13 main_v30 (broadcastInDim S128x8x64x64 ![] bcast_S_S128x8x64x64 : (⟨S_, .f32⟩ : BufTy).Contents (Elt F) → (⟨S128x8x64x64, .f32⟩ : BufTy).Contents (Elt F)),
    StableHlo.nullary main_c_14 (constantI S_ 32 0#32) ]

theorem midOps0_sub : (midOps0 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub ..⟩

theorem midOps0_fresh : (midOps0 : List (HloOp τ sig (Elt F))).Forall fun op => op.fresh = ∅ := by
  repeat' constructor

/-- the second loop's entry -/
abbrev midOps1 : List (HloOp τ sig (Elt F)) :=
  [ StableHlo.unary main_v23 main_v31_0 id,
    StableHlo.unary main_v18_9 main_v31_1 id,
    StableHlo.unary main_v13 main_v31_2 id,
    StableHlo.unary main_v7 main_v31_3 id,
    StableHlo.unary main_v18_10 main_v31_4 id,
    StableHlo.unary main_v4_0 main_v31_5 id,
    StableHlo.unary main_v18_11 main_v31_6 id,
    StableHlo.unary main_v9 main_v31_7 id,
    StableHlo.unary main_c_14 main_v31_8 id,
    StableHlo.unary main_v24 main_v31_9 id,
    StableHlo.unary main_v25 main_v31_10 id,
    StableHlo.unary main_v26 main_v31_11 id,
    StableHlo.unary main_v27 main_v31_12 id,
    StableHlo.unary main_v28 main_v31_13 id,
    StableHlo.unary main_v29 main_v31_14 id,
    StableHlo.unary main_v30 main_v31_15 id ]

theorem midOps1_sub : (midOps1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem midOps1_fresh : (midOps1 : List (HloOp τ sig (Elt F))).Forall fun op => op.fresh = ∅ := by
  repeat' constructor

/-- the gradients as rows -/
abbrev postOps0 : List (HloOp τ sig (Elt F)) :=
  [ StableHlo.unary main_v31_13 main_v32 ((transpose S128x64x8x128 [0, 2, 1, 3] · transposes_S128x8x64x128_S128x64x8x128_0_2_1_3) : (⟨S128x8x64x128, .f32⟩ : BufTy).Contents (Elt F) → (⟨S128x64x8x128, .f32⟩ : BufTy).Contents (Elt F)),
    StableHlo.reshape main_v32 main_v33 (rfl : (.f32 : EltTy) = .f32) shapeCasts_S128x64x8x128_S8192x1024,
    StableHlo.unary main_v31_12 main_v34 ((transpose S128x64x8x128 [0, 2, 1, 3] · transposes_S128x8x64x128_S128x64x8x128_0_2_1_3) : (⟨S128x8x64x128, .f32⟩ : BufTy).Contents (Elt F) → (⟨S128x64x8x128, .f32⟩ : BufTy).Contents (Elt F)),
    StableHlo.reshape main_v34 main_v35 (rfl : (.f32 : EltTy) = .f32) shapeCasts_S128x64x8x128_S8192x1024,
    StableHlo.unary main_v31_11 main_v36 ((transpose S128x64x8x128 [0, 2, 1, 3] · transposes_S128x8x64x128_S128x64x8x128_0_2_1_3) : (⟨S128x8x64x128, .f32⟩ : BufTy).Contents (Elt F) → (⟨S128x64x8x128, .f32⟩ : BufTy).Contents (Elt F)),
    StableHlo.reshape main_v36 main_v37 (rfl : (.f32 : EltTy) = .f32) shapeCasts_S128x64x8x128_S8192x1024,
    StableHlo.unary main_v31_10 main_v38 ((transpose S128x64x8x128 [0, 2, 1, 3] · transposes_S128x8x64x128_S128x64x8x128_0_2_1_3) : (⟨S128x8x64x128, .f32⟩ : BufTy).Contents (Elt F) → (⟨S128x64x8x128, .f32⟩ : BufTy).Contents (Elt F)),
    StableHlo.reshape main_v38 main_v39 (rfl : (.f32 : EltTy) = .f32) shapeCasts_S128x64x8x128_S8192x1024 ]

theorem postOps0_sub : (postOps0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩

theorem postOps0_fresh : (postOps0 : List (HloOp τ sig (Elt F))).Forall fun op => op.fresh = ∅ := by
  repeat' constructor

/-- the mask of a gradient -/
abbrev postOps1 : List (HloOp τ sig (Elt F)) :=
  [ StableHlo.TRef.nullary (.of main_call26_cst : StableHlo.TRef sig ⟨S_, .f32⟩) (constant S_ .f32 0x00000000#32),
    StableHlo.TRef.unary (.of main_call26_cst : StableHlo.TRef sig ⟨S_, .f32⟩) (.of main_call26_v0 : StableHlo.TRef sig ⟨S128x8x64x64, .f32⟩) (broadcastInDim S128x8x64x64 ![] bcast_S_S128x8x64x64),
    StableHlo.TRef.ternary (.of main_v4_1 : StableHlo.TRef sig ⟨S128x8x64x64, .i1⟩) (.of main_v31_15 : StableHlo.TRef sig ⟨S128x8x64x64, .f32⟩) (.of main_call26_v0 : StableHlo.TRef sig ⟨S128x8x64x64, .f32⟩) (.of main_v40 : StableHlo.TRef sig ⟨S128x8x64x64, .f32⟩) select ]

theorem postOps1_sub : (postOps1 : List (HloOp τ sig (Elt F))).Forall fun op => op.bufs ⊆ StableHlo.tcRefs τ sig :=
  ⟨StableHlo.nullary_bufs_sub .., StableHlo.unary_bufs_sub .., StableHlo.ternary_bufs_sub ..⟩

theorem postOps1_fresh : (postOps1 : List (HloOp τ sig (Elt F))).Forall fun op => op.fresh = ∅ := by
  repeat' constructor

/-- that gradient as rows -/
abbrev postOps2 : List (HloOp τ sig (Elt F)) :=
  [ StableHlo.unary main_v40 main_v41 ((transpose S8x128x64x64 [1, 0, 2, 3] · transposes_S128x8x64x64_S8x128x64x64_1_0_2_3) : (⟨S128x8x64x64, .f32⟩ : BufTy).Contents (Elt F) → (⟨S8x128x64x64, .f32⟩ : BufTy).Contents (Elt F)),
    StableHlo.reshape main_v41 main_v42 (rfl : (.f32 : EltTy) = .f32) shapeCasts_S8x128x64x64_S8x8192x64 ]

theorem postOps2_sub : (postOps2 : List (HloOp τ sig (Elt F))).Forall fun op => op.bufs ⊆ StableHlo.tcRefs τ sig :=
  ⟨StableHlo.unary_bufs_sub .., StableHlo.reshape_bufs_sub ..⟩

theorem postOps2_fresh : (postOps2 : List (HloOp τ sig (Elt F))).Forall fun op => op.fresh = ∅ := by
  repeat' constructor

/-- Stretch 0 of the first loop's body. -/
abbrev fwdOps0 : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.unaryIndexed (.of main_v18_0 : StableHlo.TRef sig ⟨S128x8x64x128, .f32⟩) ![(.of main_v18_6 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩)] (.of main_while0b_call2_v0 : StableHlo.TRef sig ⟨S1x8x64x128, .f32⟩) (fun x i => Host.dynamicSlice S1x8x64x128 x (fun k => (i k (Shape.Idx.first h_S_)).toInt) sliceFits_S128x8x64x128_S1x8x64x128),
    StableHlo.TRef.reshape (.of main_while0b_call2_v0 : StableHlo.TRef sig ⟨S1x8x64x128, .f32⟩) (.of main_while0b_v43 : StableHlo.TRef sig ⟨S8x64x128, .f32⟩) (rfl : (.f32 : EltTy) = .f32) shapeCasts_S1x8x64x128_S8x64x128 ]

theorem fwdOps0_sub : (fwdOps0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem fwdOps0_fresh : (fwdOps0 : List (HloOp τ sig (Elt F))).Forall fun op => op.fresh = ∅ := by
  repeat' constructor

/-- Stretch 1 of the first loop's body. -/
abbrev fwdOps1 : List (HloOp τ sig (Elt F)) :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.nullary (.of main_while0b_call3_c_1 : StableHlo.TRef sig ⟨S_, .i32⟩) (constantI S_ 32 0#32),
    StableHlo.TRef.unaryIndexed (.of main_v18_1 : StableHlo.TRef sig ⟨S128x8x64x128, .f32⟩) ![(.of main_v18_6 : StableHlo.TRef sig ⟨S_, .i32⟩), (.of main_while0b_call3_c : StableHlo.TRef sig ⟨S_, .i32⟩), (.of main_while0b_call3_c_0 : StableHlo.TRef sig ⟨S_, .i32⟩), (.of main_while0b_call3_c_1 : StableHlo.TRef sig ⟨S_, .i32⟩)] (.of main_while0b_call3_v0 : StableHlo.TRef sig ⟨S1x8x64x128, .f32⟩) (fun x i => Host.dynamicSlice S1x8x64x128 x (fun k => (i k (Shape.Idx.first h_S_)).toInt) sliceFits_S128x8x64x128_S1x8x64x128),
    StableHlo.TRef.reshape (.of main_while0b_call3_v0 : StableHlo.TRef sig ⟨S1x8x64x128, .f32⟩) (.of main_while0b_v44 : StableHlo.TRef sig ⟨S8x64x128, .f32⟩) (rfl : (.f32 : EltTy) = .f32) shapeCasts_S1x8x64x128_S8x64x128 ]

theorem fwdOps1_sub : (fwdOps1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem fwdOps1_fresh : (fwdOps1 : List (HloOp τ sig (Elt F))).Forall fun op => op.fresh = ∅ := by
  repeat' constructor

/-- Stretch 2 of the first loop's body. -/
abbrev fwdOps2 : List (HloOp τ sig (Elt F)) :=
  [ StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.unaryIndexed (.of main_v18_2 : StableHlo.TRef sig ⟨S128x8x64x128, .f32⟩) ![(.of main_v18_6 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩)] (.of main_while0b_call4_v0 : StableHlo.TRef sig ⟨S1x8x64x128, .f32⟩) (fun x i => Host.dynamicSlice S1x8x64x128 x (fun k => (i k (Shape.Idx.first h_S_)).toInt) sliceFits_S128x8x64x128_S1x8x64x128),
    StableHlo.TRef.reshape (.of main_while0b_call4_v0 : StableHlo.TRef sig ⟨S1x8x64x128, .f32⟩) (.of main_while0b_v45 : StableHlo.TRef sig ⟨S8x64x128, .f32⟩) (rfl : (.f32 : EltTy) = .f32) shapeCasts_S1x8x64x128_S8x64x128 ]

theorem fwdOps2_sub : (fwdOps2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem fwdOps2_fresh : (fwdOps2 : List (HloOp τ sig (Elt F))).Forall fun op => op.fresh = ∅ := by
  repeat' constructor

/-- Stretch 3 of the first loop's body. -/
abbrev fwdOps3 : List (HloOp τ sig (Elt F)) :=
  [ StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.nullary (.of main_while0b_call5_c_1 : StableHlo.TRef sig ⟨S_, .i32⟩) (constantI S_ 32 0#32),
    StableHlo.TRef.unaryIndexed (.of main_v18_3 : StableHlo.TRef sig ⟨S128x8x64x128, .f32⟩) ![(.of main_v18_6 : StableHlo.TRef sig ⟨S_, .i32⟩), (.of main_while0b_call5_c : StableHlo.TRef sig ⟨S_, .i32⟩), (.of main_while0b_call5_c_0 : StableHlo.TRef sig ⟨S_, .i32⟩), (.of main_while0b_call5_c_1 : StableHlo.TRef sig ⟨S_, .i32⟩)] (.of main_while0b_call5_v0 : StableHlo.TRef sig ⟨S1x8x64x128, .f32⟩) (fun x i => Host.dynamicSlice S1x8x64x128 x (fun k => (i k (Shape.Idx.first h_S_)).toInt) sliceFits_S128x8x64x128_S1x8x64x128),
    StableHlo.TRef.reshape (.of main_while0b_call5_v0 : StableHlo.TRef sig ⟨S1x8x64x128, .f32⟩) (.of main_while0b_v46 : StableHlo.TRef sig ⟨S8x64x128, .f32⟩) (rfl : (.f32 : EltTy) = .f32) shapeCasts_S1x8x64x128_S8x64x128 ]

theorem fwdOps3_sub : (fwdOps3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem fwdOps3_fresh : (fwdOps3 : List (HloOp τ sig (Elt F))).Forall fun op => op.fresh = ∅ := by
  repeat' constructor

/-- Stretch 4 of the first loop's body. -/
abbrev fwdOps4 : List (HloOp τ sig (Elt F)) :=
  [ StableHlo.TRef.nullary (.of main_while0b_call6_c : StableHlo.TRef sig ⟨S_, .i32⟩) (constantI S_ 32 0#32),
    StableHlo.TRef.unaryIndexed (.of main_v18_4 : StableHlo.TRef sig ⟨S128x8, .f32⟩) ![(.of main_v18_6 : StableHlo.TRef sig ⟨S_, .i32⟩), (.of main_while0b_call6_c : StableHlo.TRef sig ⟨S_, .i32⟩)] (.of main_while0b_call6_v0 : StableHlo.TRef sig ⟨S1x8, .f32⟩) (fun x i => Host.dynamicSlice S1x8 x (fun k => (i k (Shape.Idx.first h_S_)).toInt) sliceFits_S128x8_S1x8),
    StableHlo.TRef.reshape (.of main_while0b_call6_v0 : StableHlo.TRef sig ⟨S1x8, .f32⟩) (.of main_while0b_v47 : StableHlo.TRef sig ⟨S8, .f32⟩) (rfl : (.f32 : EltTy) = .f32) shapeCasts_S1x8_S8 ]

theorem fwdOps4_sub : (fwdOps4 : List (HloOp τ sig (Elt F))).Forall fun op => op.bufs ⊆ StableHlo.tcRefs τ sig :=
  ⟨StableHlo.nullary_bufs_sub .., StableHlo.unaryIndexed_bufs_sub .., StableHlo.reshape_bufs_sub ..⟩

theorem fwdOps4_fresh : (fwdOps4 : List (HloOp τ sig (Elt F))).Forall fun op => op.fresh = ∅ := by
  repeat' constructor

/-- Stretch 5 of the first loop's body. -/
abbrev fwdOps5 : List (HloOp τ sig (Elt F)) :=
  [ StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.nullary (.of main_while0b_call7_c_1 : StableHlo.TRef sig ⟨S_, .i32⟩) (constantI S_ 32 0#32),
    StableHlo.TRef.unaryIndexed (.of main_v18_5 : StableHlo.TRef sig ⟨S128x8x64x64, .f32⟩) ![(.of main_v18_6 : StableHlo.TRef sig ⟨S_, .i32⟩), (.of main_while0b_call7_c : StableHlo.TRef sig ⟨S_, .i32⟩), (.of main_while0b_call7_c_0 : StableHlo.TRef sig ⟨S_, .i32⟩), (.of main_while0b_call7_c_1 : StableHlo.TRef sig ⟨S_, .i32⟩)] (.of main_while0b_call7_v0 : StableHlo.TRef sig ⟨S1x8x64x64, .f32⟩) (fun x i => Host.dynamicSlice S1x8x64x64 x (fun k => (i k (Shape.Idx.first h_S_)).toInt) sliceFits_S128x8x64x64_S1x8x64x64),
    StableHlo.TRef.reshape (.of main_while0b_call7_v0 : StableHlo.TRef sig ⟨S1x8x64x64, .f32⟩) (.of main_while0b_v48 : StableHlo.TRef sig ⟨S8x64x64, .f32⟩) (rfl : (.f32 : EltTy) = .f32) shapeCasts_S1x8x64x64_S8x64x64 ]

theorem fwdOps5_sub : (fwdOps5 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem fwdOps5_fresh : (fwdOps5 : List (HloOp τ sig (Elt F))).Forall fun op => op.fresh = ∅ := by
  repeat' constructor

/-- Stretch 6 of the first loop's body. -/
abbrev fwdOps6 : List (HloOp τ sig (Elt F)) :=
  [ StableHlo.binary main_while0b_v46 main_v18_7 main_while0b_v49 ((fun l r => Host.dotGeneral dot_S8x64x128_S8x128x128_S8x64x128_2_1_1_2_0_0 none l r) : (⟨S8x64x128, .f32⟩ : BufTy).Contents (Elt F) → (⟨S8x128x128, .f32⟩ : BufTy).Contents (Elt F) → (⟨S8x64x128, .f32⟩ : BufTy).Contents (Elt F)),
    StableHlo.binary main_while0b_v45 main_while0b_v49 main_while0b_v50 (subf : (⟨S8x64x128, .f32⟩ : BufTy).Contents (Elt F) → (⟨S8x64x128, .f32⟩ : BufTy).Contents (Elt F) → (⟨S8x64x128, .f32⟩ : BufTy).Contents (Elt F)),
    StableHlo.binary main_while0b_v43 main_v18_7 main_while0b_v51 ((fun l r => Host.dotGeneral dot_S8x64x128_S8x128x128_S8x64x128_2_1_1_2_0_0 none l r) : (⟨S8x64x128, .f32⟩ : BufTy).Contents (Elt F) → (⟨S8x128x128, .f32⟩ : BufTy).Contents (Elt F) → (⟨S8x64x128, .f32⟩ : BufTy).Contents (Elt F)),
    StableHlo.binary main_while0b_v48 main_while0b_v50 main_while0b_v52 ((fun l r => Host.dotGeneral dot_S8x64x64_S8x64x128_S8x64x128_2_1_1_2_0_0 none l r) : (⟨S8x64x64, .f32⟩ : BufTy).Contents (Elt F) → (⟨S8x64x128, .f32⟩ : BufTy).Contents (Elt F) → (⟨S8x64x128, .f32⟩ : BufTy).Contents (Elt F)),
    StableHlo.binary main_while0b_v51 main_while0b_v52 main_while0b_v53 (addf : (⟨S8x64x128, .f32⟩ : BufTy).Contents (Elt F) → (⟨S8x64x128, .f32⟩ : BufTy).Contents (Elt F) → (⟨S8x64x128, .f32⟩ : BufTy).Contents (Elt F)),
    StableHlo.unary main_while0b_v47 main_while0b_v54 (broadcastInDim S8x1x1 ![0] bcast_S8_S8x1x1_0 : (⟨S8, .f32⟩ : BufTy).Contents (Elt F) → (⟨S8x1x1, .f32⟩ : BufTy).Contents (Elt F)),
    StableHlo.unary main_while0b_v54 main_while0b_v55 (broadcastInDim S8x128x128 ![0, 1, 2] bcast_S8x1x1_S8x128x128_0_1_2 : (⟨S8x1x1, .f32⟩ : BufTy).Contents (Elt F) → (⟨S8x128x128, .f32⟩ : BufTy).Contents (Elt F)),
    StableHlo.binary main_v18_7 main_while0b_v55 main_while0b_v56 (mulf : (⟨S8x128x128, .f32⟩ : BufTy).Contents (Elt F) → (⟨S8x128x128, .f32⟩ : BufTy).Contents (Elt F) → (⟨S8x128x128, .f32⟩ : BufTy).Contents (Elt F)),
    StableHlo.binary main_while0b_v44 main_while0b_v50 main_while0b_v57 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    StableHlo.binary main_while0b_v56 main_while0b_v57 main_while0b_v58 (addf : (⟨S8x128x128, .f32⟩ : BufTy).Contents (Elt F) → (⟨S8x128x128, .f32⟩ : BufTy).Contents (Elt F) → (⟨S8x128x128, .f32⟩ : BufTy).Contents (Elt F)) ]

theorem fwdOps6_sub : (fwdOps6 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub ..⟩

theorem fwdOps6_fresh : (fwdOps6 : List (HloOp τ sig (Elt F))).Forall fun op => op.fresh = ∅ := by
  repeat' constructor

/-- Stretch 7 of the first loop's body. -/
abbrev fwdOps7 : List (HloOp τ sig (Elt F)) :=
  [ StableHlo.TRef.unary (.of main_while0b_v53 : StableHlo.TRef sig ⟨S8x64x128, .f32⟩) (.of main_while0b_call8_v0 : StableHlo.TRef sig ⟨S1x8x64x128, .f32⟩) (broadcastInDim S1x8x64x128 ![1, 2, 3] bcast_S8x64x128_S1x8x64x128_1_2_3),
    StableHlo.TRef.nullary (.of main_while0b_call8_c : StableHlo.TRef sig ⟨S_, .i32⟩) (constantI S_ 32 0#32),
    StableHlo.TRef.nullary (.of main_while0b_call8_c_0 : StableHlo.TRef sig ⟨S_, .i32⟩) (constantI S_ 32 0#32),
    StableHlo.TRef.nullary (.of main_while0b_call8_c_1 : StableHlo.TRef sig ⟨S_, .i32⟩) (constantI S_ 32 0#32),
    StableHlo.TRef.binaryIndexed (.of main_v18_8 : StableHlo.TRef sig ⟨S128x8x64x128, .f32⟩) (.of main_while0b_call8_v0 : StableHlo.TRef sig ⟨S1x8x64x128, .f32⟩) ![(.of main_v18_6 : StableHlo.TRef sig ⟨S_, .i32⟩), (.of main_while0b_call8_c : StableHlo.TRef sig ⟨S_, .i32⟩), (.of main_while0b_call8_c_0 : StableHlo.TRef sig ⟨S_, .i32⟩), (.of main_while0b_call8_c_1 : StableHlo.TRef sig ⟨S_, .i32⟩)] (.of main_while0b_v59 : StableHlo.TRef sig ⟨S128x8x64x128, .f32⟩) (fun x u i => Host.dynamicUpdateSlice x u (fun k => (i k (Shape.Idx.first h_S_)).toInt) updateFits_S128x8x64x128_S1x8x64x128) ]

theorem fwdOps7_sub : (fwdOps7 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem fwdOps7_fresh : (fwdOps7 : List (HloOp τ sig (Elt F))).Forall fun op => op.fresh = ∅ := by
  repeat' constructor

/-- Stretch 8 of the first loop's body. -/
abbrev fwdOps8 : List (HloOp τ sig (Elt F)) :=
  [ StableHlo.TRef.unary (.of main_v18_7 : StableHlo.TRef sig ⟨S8x128x128, .f32⟩) (.of main_while0b_call9_v0 : StableHlo.TRef sig ⟨S1x8x128x128, .f32⟩) (broadcastInDim S1x8x128x128 ![1, 2, 3] bcast_S8x128x128_S1x8x128x128_1_2_3),
    StableHlo.TRef.nullary (.of main_while0b_call9_c : StableHlo.TRef sig ⟨S_, .i32⟩) (constantI S_ 32 0#32),
    StableHlo.TRef.nullary (.of main_while0b_call9_c_0 : StableHlo.TRef sig ⟨S_, .i32⟩) (constantI S_ 32 0#32),
    StableHlo.TRef.nullary (.of main_while0b_call9_c_1 : StableHlo.TRef sig ⟨S_, .i32⟩) (constantI S_ 32 0#32),
    StableHlo.TRef.binaryIndexed (.of main_v18_9 : StableHlo.TRef sig ⟨S128x8x128x128, .f32⟩) (.of main_while0b_call9_v0 : StableHlo.TRef sig ⟨S1x8x128x128, .f32⟩) ![(.of main_v18_6 : StableHlo.TRef sig ⟨S_, .i32⟩), (.of main_while0b_call9_c : StableHlo.TRef sig ⟨S_, .i32⟩), (.of main_while0b_call9_c_0 : StableHlo.TRef sig ⟨S_, .i32⟩), (.of main_while0b_call9_c_1 : StableHlo.TRef sig ⟨S_, .i32⟩)] (.of main_while0b_v60 : StableHlo.TRef sig ⟨S128x8x128x128, .f32⟩) (fun x u i => Host.dynamicUpdateSlice x u (fun k => (i k (Shape.Idx.first h_S_)).toInt) updateFits_S128x8x128x128_S1x8x128x128) ]

theorem fwdOps8_sub : (fwdOps8 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem fwdOps8_fresh : (fwdOps8 : List (HloOp τ sig (Elt F))).Forall fun op => op.fresh = ∅ := by
  repeat' constructor

/-- Stretch 9 of the first loop's body. -/
abbrev fwdOps9 : List (HloOp τ sig (Elt F)) :=
  [ StableHlo.TRef.unary (.of main_while0b_v50 : StableHlo.TRef sig ⟨S8x64x128, .f32⟩) (.of main_while0b_call10_v0 : StableHlo.TRef sig ⟨S1x8x64x128, .f32⟩) (broadcastInDim S1x8x64x128 ![1, 2, 3] bcast_S8x64x128_S1x8x64x128_1_2_3),
    StableHlo.TRef.nullary (.of main_while0b_call10_c : StableHlo.TRef sig ⟨S_, .i32⟩) (constantI S_ 32 0#32),
    StableHlo.TRef.nullary (.of main_while0b_call10_c_0 : StableHlo.TRef sig ⟨S_, .i32⟩) (constantI S_ 32 0#32),
    StableHlo.TRef.nullary (.of main_while0b_call10_c_1 : StableHlo.TRef sig ⟨S_, .i32⟩) (constantI S_ 32 0#32),
    StableHlo.TRef.binaryIndexed (.of main_v18_10 : StableHlo.TRef sig ⟨S128x8x64x128, .f32⟩) (.of main_while0b_call10_v0 : StableHlo.TRef sig ⟨S1x8x64x128, .f32⟩) ![(.of main_v18_6 : StableHlo.TRef sig ⟨S_, .i32⟩), (.of main_while0b_call10_c : StableHlo.TRef sig ⟨S_, .i32⟩), (.of main_while0b_call10_c_0 : StableHlo.TRef sig ⟨S_, .i32⟩), (.of main_while0b_call10_c_1 : StableHlo.TRef sig ⟨S_, .i32⟩)] (.of main_while0b_v61 : StableHlo.TRef sig ⟨S128x8x64x128, .f32⟩) (fun x u i => Host.dynamicUpdateSlice x u (fun k => (i k (Shape.Idx.first h_S_)).toInt) updateFits_S128x8x64x128_S1x8x64x128) ]

theorem fwdOps9_sub : (fwdOps9 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem fwdOps9_fresh : (fwdOps9 : List (HloOp τ sig (Elt F))).Forall fun op => op.fresh = ∅ := by
  repeat' constructor

/-- Stretch 10 of the first loop's body. -/
abbrev fwdOps10 : List (HloOp τ sig (Elt F)) :=
  [ StableHlo.TRef.unary (.of main_while0b_v54 : StableHlo.TRef sig ⟨S8x1x1, .f32⟩) (.of main_while0b_call11_v0 : StableHlo.TRef sig ⟨S1x8x1x1, .f32⟩) (broadcastInDim S1x8x1x1 ![1, 2, 3] bcast_S8x1x1_S1x8x1x1_1_2_3),
    StableHlo.TRef.nullary (.of main_while0b_call11_c : StableHlo.TRef sig ⟨S_, .i32⟩) (constantI S_ 32 0#32),
    StableHlo.TRef.nullary (.of main_while0b_call11_c_0 : StableHlo.TRef sig ⟨S_, .i32⟩) (constantI S_ 32 0#32),
    StableHlo.TRef.nullary (.of main_while0b_call11_c_1 : StableHlo.TRef sig ⟨S_, .i32⟩) (constantI S_ 32 0#32),
    StableHlo.TRef.binaryIndexed (.of main_v18_11 : StableHlo.TRef sig ⟨S128x8x1x1, .f32⟩) (.of main_while0b_call11_v0 : StableHlo.TRef sig ⟨S1x8x1x1, .f32⟩) ![(.of main_v18_6 : StableHlo.TRef sig ⟨S_, .i32⟩), (.of main_while0b_call11_c : StableHlo.TRef sig ⟨S_, .i32⟩), (.of main_while0b_call11_c_0 : StableHlo.TRef sig ⟨S_, .i32⟩), (.of main_while0b_call11_c_1 : StableHlo.TRef sig ⟨S_, .i32⟩)] (.of main_while0b_v62 : StableHlo.TRef sig ⟨S128x8x1x1, .f32⟩) (fun x u i => Host.dynamicUpdateSlice x u (fun k => (i k (Shape.Idx.first h_S_)).toInt) updateFits_S128x8x1x1_S1x8x1x1) ]

theorem fwdOps10_sub : (fwdOps10 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem fwdOps10_fresh : (fwdOps10 : List (HloOp τ sig (Elt F))).Forall fun op => op.fresh = ∅ := by
  repeat' constructor

/-- Stretch 11 of the first loop's body. -/
abbrev fwdOps11 : List (HloOp τ sig (Elt F)) :=
  [ StableHlo.nullary main_while0b_c_26 (constantI S_ 32 1#32),
    StableHlo.binary main_v18_6 main_while0b_c_26 main_while0b_v63 (addi : (⟨S_, .i32⟩ : BufTy).Contents (Elt F) → (⟨S_, .i32⟩ : BufTy).Contents (Elt F) → (⟨S_, .i32⟩ : BufTy).Contents (Elt F)),
    StableHlo.unary main_while0b_v63 main_v18_6 id,
    StableHlo.unary main_while0b_v58 main_v18_7 id,
    StableHlo.unary main_while0b_v59 main_v18_8 id,
    StableHlo.unary main_while0b_v60 main_v18_9 id,
    StableHlo.unary main_while0b_v61 main_v18_10 id,
    StableHlo.unary main_while0b_v62 main_v18_11 id ]

theorem fwdOps11_sub : (fwdOps11 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩

theorem fwdOps11_fresh : (fwdOps11 : List (HloOp τ sig (Elt F))).Forall fun op => op.fresh = ∅ := by
  repeat' constructor

/-- Stretch 0 of the second loop's body. -/
abbrev bwdOps0 : List (HloOp τ sig (Elt F)) :=
  [ StableHlo.nullary main_while1b_c_30 (constantI S_ 32 128#32),
    StableHlo.binary main_while1b_c_30 main_v31_8 main_while1b_v43 (subi : (⟨S_, .i32⟩ : BufTy).Contents (Elt F) → (⟨S_, .i32⟩ : BufTy).Contents (Elt F) → (⟨S_, .i32⟩ : BufTy).Contents (Elt F)),
    StableHlo.nullary main_while1b_c_31 (constantI S_ 32 1#32),
    StableHlo.binary main_while1b_v43 main_while1b_c_31 main_while1b_v44 (subi : (⟨S_, .i32⟩ : BufTy).Contents (Elt F) → (⟨S_, .i32⟩ : BufTy).Contents (Elt F) → (⟨S_, .i32⟩ : BufTy).Contents (Elt F)) ]

theorem bwdOps0_sub : (bwdOps0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

theorem bwdOps0_fresh : (bwdOps0 : List (HloOp τ sig (Elt F))).Forall fun op => op.fresh = ∅ := by
  repeat' constructor

/-- Stretch 1 of the second loop's body. -/
abbrev bwdOps1 : List (HloOp τ sig (Elt F)) :=
  [ StableHlo.TRef.nullary (.of main_while1b_call12_c : StableHlo.TRef sig ⟨S_, .i32⟩) (constantI S_ 32 0#32),
    StableHlo.TRef.nullary (.of main_while1b_call12_c_0 : StableHlo.TRef sig ⟨S_, .i32⟩) (constantI S_ 32 0#32),
    StableHlo.TRef.nullary (.of main_while1b_call12_c_1 : StableHlo.TRef sig ⟨S_, .i32⟩) (constantI S_ 32 0#32),
    StableHlo.TRef.unaryIndexed (.of main_v31_0 : StableHlo.TRef sig ⟨S128x8x64x128, .f32⟩) ![(.of main_while1b_v44 : StableHlo.TRef sig ⟨S_, .i32⟩), (.of main_while1b_call12_c : StableHlo.TRef sig ⟨S_, .i32⟩), (.of main_while1b_call12_c_0 : StableHlo.TRef sig ⟨S_, .i32⟩), (.of main_while1b_call12_c_1 : StableHlo.TRef sig ⟨S_, .i32⟩)] (.of main_while1b_call12_v0 : StableHlo.TRef sig ⟨S1x8x64x128, .f32⟩) (fun x i => Host.dynamicSlice S1x8x64x128 x (fun k => (i k (Shape.Idx.first h_S_)).toInt) sliceFits_S128x8x64x128_S1x8x64x128),
    StableHlo.TRef.reshape (.of main_while1b_call12_v0 : StableHlo.TRef sig ⟨S1x8x64x128, .f32⟩) (.of main_while1b_v45 : StableHlo.TRef sig ⟨S8x64x128, .f32⟩) (rfl : (.f32 : EltTy) = .f32) shapeCasts_S1x8x64x128_S8x64x128 ]

theorem bwdOps1_sub : (bwdOps1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem bwdOps1_fresh : (bwdOps1 : List (HloOp τ sig (Elt F))).Forall fun op => op.fresh = ∅ := by
  repeat' constructor

/-- Stretch 2 of the second loop's body. -/
abbrev bwdOps2 : List (HloOp τ sig (Elt F)) :=
  [ StableHlo.TRef.nullary (.of main_while1b_call13_c : StableHlo.TRef sig ⟨S_, .i32⟩) (constantI S_ 32 0#32),
    StableHlo.TRef.nullary (.of main_while1b_call13_c_0 : StableHlo.TRef sig ⟨S_, .i32⟩) (constantI S_ 32 0#32),
    StableHlo.TRef.nullary (.of main_while1b_call13_c_1 : StableHlo.TRef sig ⟨S_, .i32⟩) (constantI S_ 32 0#32),
    StableHlo.TRef.unaryIndexed (.of main_v31_1 : StableHlo.TRef sig ⟨S128x8x128x128, .f32⟩) ![(.of main_while1b_v44 : StableHlo.TRef sig ⟨S_, .i32⟩), (.of main_while1b_call13_c : StableHlo.TRef sig ⟨S_, .i32⟩), (.of main_while1b_call13_c_0 : StableHlo.TRef sig ⟨S_, .i32⟩), (.of main_while1b_call13_c_1 : StableHlo.TRef sig ⟨S_, .i32⟩)] (.of main_while1b_call13_v0 : StableHlo.TRef sig ⟨S1x8x128x128, .f32⟩) (fun x i => Host.dynamicSlice S1x8x128x128 x (fun k => (i k (Shape.Idx.first h_S_)).toInt) sliceFits_S128x8x128x128_S1x8x128x128),
    StableHlo.TRef.reshape (.of main_while1b_call13_v0 : StableHlo.TRef sig ⟨S1x8x128x128, .f32⟩) (.of main_while1b_v46 : StableHlo.TRef sig ⟨S8x128x128, .f32⟩) (rfl : (.f32 : EltTy) = .f32) shapeCasts_S1x8x128x128_S8x128x128 ]

theorem bwdOps2_sub : (bwdOps2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem bwdOps2_fresh : (bwdOps2 : List (HloOp τ sig (Elt F))).Forall fun op => op.fresh = ∅ := by
  repeat' constructor

/-- Stretch 3 of the second loop's body. -/
abbrev bwdOps3 : List (HloOp τ sig (Elt F)) :=
  [ StableHlo.TRef.nullary (.of main_while1b_call14_c : StableHlo.TRef sig ⟨S_, .i32⟩) (constantI S_ 32 0#32),
    StableHlo.TRef.nullary (.of main_while1b_call14_c_0 : StableHlo.TRef sig ⟨S_, .i32⟩) (constantI S_ 32 0#32),
    StableHlo.TRef.nullary (.of main_while1b_call14_c_1 : StableHlo.TRef sig ⟨S_, .i32⟩) (constantI S_ 32 0#32),
    StableHlo.TRef.unaryIndexed (.of main_v31_2 : StableHlo.TRef sig ⟨S128x8x64x128, .f32⟩) ![(.of main_while1b_v44 : StableHlo.TRef sig ⟨S_, .i32⟩), (.of main_while1b_call14_c : StableHlo.TRef sig ⟨S_, .i32⟩), (.of main_while1b_call14_c_0 : StableHlo.TRef sig ⟨S_, .i32⟩), (.of main_while1b_call14_c_1 : StableHlo.TRef sig ⟨S_, .i32⟩)] (.of main_while1b_call14_v0 : StableHlo.TRef sig ⟨S1x8x64x128, .f32⟩) (fun x i => Host.dynamicSlice S1x8x64x128 x (fun k => (i k (Shape.Idx.first h_S_)).toInt) sliceFits_S128x8x64x128_S1x8x64x128),
    StableHlo.TRef.reshape (.of main_while1b_call14_v0 : StableHlo.TRef sig ⟨S1x8x64x128, .f32⟩) (.of main_while1b_v47 : StableHlo.TRef sig ⟨S8x64x128, .f32⟩) (rfl : (.f32 : EltTy) = .f32) shapeCasts_S1x8x64x128_S8x64x128 ]

theorem bwdOps3_sub : (bwdOps3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem bwdOps3_fresh : (bwdOps3 : List (HloOp τ sig (Elt F))).Forall fun op => op.fresh = ∅ := by
  repeat' constructor

/-- Stretch 4 of the second loop's body. -/
abbrev bwdOps4 : List (HloOp τ sig (Elt F)) :=
  [ StableHlo.TRef.nullary (.of main_while1b_call15_c : StableHlo.TRef sig ⟨S_, .i32⟩) (constantI S_ 32 0#32),
    StableHlo.TRef.nullary (.of main_while1b_call15_c_0 : StableHlo.TRef sig ⟨S_, .i32⟩) (constantI S_ 32 0#32),
    StableHlo.TRef.nullary (.of main_while1b_call15_c_1 : StableHlo.TRef sig ⟨S_, .i32⟩) (constantI S_ 32 0#32),
    StableHlo.TRef.unaryIndexed (.of main_v31_3 : StableHlo.TRef sig ⟨S128x8x64x128, .f32⟩) ![(.of main_while1b_v44 : StableHlo.TRef sig ⟨S_, .i32⟩), (.of main_while1b_call15_c : StableHlo.TRef sig ⟨S_, .i32⟩), (.of main_while1b_call15_c_0 : StableHlo.TRef sig ⟨S_, .i32⟩), (.of main_while1b_call15_c_1 : StableHlo.TRef sig ⟨S_, .i32⟩)] (.of main_while1b_call15_v0 : StableHlo.TRef sig ⟨S1x8x64x128, .f32⟩) (fun x i => Host.dynamicSlice S1x8x64x128 x (fun k => (i k (Shape.Idx.first h_S_)).toInt) sliceFits_S128x8x64x128_S1x8x64x128),
    StableHlo.TRef.reshape (.of main_while1b_call15_v0 : StableHlo.TRef sig ⟨S1x8x64x128, .f32⟩) (.of main_while1b_v48 : StableHlo.TRef sig ⟨S8x64x128, .f32⟩) (rfl : (.f32 : EltTy) = .f32) shapeCasts_S1x8x64x128_S8x64x128 ]

theorem bwdOps4_sub : (bwdOps4 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem bwdOps4_fresh : (bwdOps4 : List (HloOp τ sig (Elt F))).Forall fun op => op.fresh = ∅ := by
  repeat' constructor

/-- Stretch 5 of the second loop's body. -/
abbrev bwdOps5 : List (HloOp τ sig (Elt F)) :=
  [ StableHlo.TRef.nullary (.of main_while1b_call16_c : StableHlo.TRef sig ⟨S_, .i32⟩) (constantI S_ 32 0#32),
    StableHlo.TRef.nullary (.of main_while1b_call16_c_0 : StableHlo.TRef sig ⟨S_, .i32⟩) (constantI S_ 32 0#32),
    StableHlo.TRef.nullary (.of main_while1b_call16_c_1 : StableHlo.TRef sig ⟨S_, .i32⟩) (constantI S_ 32 0#32),
    StableHlo.TRef.unaryIndexed (.of main_v31_4 : StableHlo.TRef sig ⟨S128x8x64x128, .f32⟩) ![(.of main_while1b_v44 : StableHlo.TRef sig ⟨S_, .i32⟩), (.of main_while1b_call16_c : StableHlo.TRef sig ⟨S_, .i32⟩), (.of main_while1b_call16_c_0 : StableHlo.TRef sig ⟨S_, .i32⟩), (.of main_while1b_call16_c_1 : StableHlo.TRef sig ⟨S_, .i32⟩)] (.of main_while1b_call16_v0 : StableHlo.TRef sig ⟨S1x8x64x128, .f32⟩) (fun x i => Host.dynamicSlice S1x8x64x128 x (fun k => (i k (Shape.Idx.first h_S_)).toInt) sliceFits_S128x8x64x128_S1x8x64x128),
    StableHlo.TRef.reshape (.of main_while1b_call16_v0 : StableHlo.TRef sig ⟨S1x8x64x128, .f32⟩) (.of main_while1b_v49 : StableHlo.TRef sig ⟨S8x64x128, .f32⟩) (rfl : (.f32 : EltTy) = .f32) shapeCasts_S1x8x64x128_S8x64x128 ]

theorem bwdOps5_sub : (bwdOps5 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem bwdOps5_fresh : (bwdOps5 : List (HloOp τ sig (Elt F))).Forall fun op => op.fresh = ∅ := by
  repeat' constructor

/-- Stretch 6 of the second loop's body. -/
abbrev bwdOps6 : List (HloOp τ sig (Elt F)) :=
  [ StableHlo.TRef.nullary (.of main_while1b_call17_c : StableHlo.TRef sig ⟨S_, .i32⟩) (constantI S_ 32 0#32),
    StableHlo.TRef.nullary (.of main_while1b_call17_c_0 : StableHlo.TRef sig ⟨S_, .i32⟩) (constantI S_ 32 0#32),
    StableHlo.TRef.nullary (.of main_while1b_call17_c_1 : StableHlo.TRef sig ⟨S_, .i32⟩) (constantI S_ 32 0#32),
    StableHlo.TRef.unaryIndexed (.of main_v31_5 : StableHlo.TRef sig ⟨S128x8x64x64, .f32⟩) ![(.of main_while1b_v44 : StableHlo.TRef sig ⟨S_, .i32⟩), (.of main_while1b_call17_c : StableHlo.TRef sig ⟨S_, .i32⟩), (.of main_while1b_call17_c_0 : StableHlo.TRef sig ⟨S_, .i32⟩), (.of main_while1b_call17_c_1 : StableHlo.TRef sig ⟨S_, .i32⟩)] (.of main_while1b_call17_v0 : StableHlo.TRef sig ⟨S1x8x64x64, .f32⟩) (fun x i => Host.dynamicSlice S1x8x64x64 x (fun k => (i k (Shape.Idx.first h_S_)).toInt) sliceFits_S128x8x64x64_S1x8x64x64),
    StableHlo.TRef.reshape (.of main_while1b_call17_v0 : StableHlo.TRef sig ⟨S1x8x64x64, .f32⟩) (.of main_while1b_v50 : StableHlo.TRef sig ⟨S8x64x64, .f32⟩) (rfl : (.f32 : EltTy) = .f32) shapeCasts_S1x8x64x64_S8x64x64 ]

theorem bwdOps6_sub : (bwdOps6 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem bwdOps6_fresh : (bwdOps6 : List (HloOp τ sig (Elt F))).Forall fun op => op.fresh = ∅ := by
  repeat' constructor

/-- Stretch 7 of the second loop's body. -/
abbrev bwdOps7 : List (HloOp τ sig (Elt F)) :=
  [ StableHlo.TRef.nullary (.of main_while1b_call18_c : StableHlo.TRef sig ⟨S_, .i32⟩) (constantI S_ 32 0#32),
    StableHlo.TRef.nullary (.of main_while1b_call18_c_0 : StableHlo.TRef sig ⟨S_, .i32⟩) (constantI S_ 32 0#32),
    StableHlo.TRef.nullary (.of main_while1b_call18_c_1 : StableHlo.TRef sig ⟨S_, .i32⟩) (constantI S_ 32 0#32),
    StableHlo.TRef.unaryIndexed (.of main_v31_6 : StableHlo.TRef sig ⟨S128x8x1x1, .f32⟩) ![(.of main_while1b_v44 : StableHlo.TRef sig ⟨S_, .i32⟩), (.of main_while1b_call18_c : StableHlo.TRef sig ⟨S_, .i32⟩), (.of main_while1b_call18_c_0 : StableHlo.TRef sig ⟨S_, .i32⟩), (.of main_while1b_call18_c_1 : StableHlo.TRef sig ⟨S_, .i32⟩)] (.of main_while1b_call18_v0 : StableHlo.TRef sig ⟨S1x8x1x1, .f32⟩) (fun x i => Host.dynamicSlice S1x8x1x1 x (fun k => (i k (Shape.Idx.first h_S_)).toInt) sliceFits_S128x8x1x1_S1x8x1x1),
    StableHlo.TRef.reshape (.of main_while1b_call18_v0 : StableHlo.TRef sig ⟨S1x8x1x1, .f32⟩) (.of main_while1b_v51 : StableHlo.TRef sig ⟨S8x1x1, .f32⟩) (rfl : (.f32 : EltTy) = .f32) shapeCasts_S1x8x1x1_S8x1x1 ]

theorem bwdOps7_sub : (bwdOps7 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem bwdOps7_fresh : (bwdOps7 : List (HloOp τ sig (Elt F))).Forall fun op => op.fresh = ∅ := by
  repeat' constructor

/-- Stretch 8 of the second loop's body. -/
abbrev bwdOps8 : List (HloOp τ sig (Elt F)) :=
  [ StableHlo.TRef.nullary (.of main_while1b_call19_c : StableHlo.TRef sig ⟨S_, .i32⟩) (constantI S_ 32 0#32),
    StableHlo.TRef.nullary (.of main_while1b_call19_c_0 : StableHlo.TRef sig ⟨S_, .i32⟩) (constantI S_ 32 0#32),
    StableHlo.TRef.nullary (.of main_while1b_call19_c_1 : StableHlo.TRef sig ⟨S_, .i32⟩) (constantI S_ 32 0#32),
    StableHlo.TRef.unaryIndexed (.of main_v31_7 : StableHlo.TRef sig ⟨S128x8x64x128, .f32⟩) ![(.of main_while1b_v44 : StableHlo.TRef sig ⟨S_, .i32⟩), (.of main_while1b_call19_c : StableHlo.TRef sig ⟨S_, .i32⟩), (.of main_while1b_call19_c_0 : StableHlo.TRef sig ⟨S_, .i32⟩), (.of main_while1b_call19_c_1 : StableHlo.TRef sig ⟨S_, .i32⟩)] (.of main_while1b_call19_v0 : StableHlo.TRef sig ⟨S1x8x64x128, .f32⟩) (fun x i => Host.dynamicSlice S1x8x64x128 x (fun k => (i k (Shape.Idx.first h_S_)).toInt) sliceFits_S128x8x64x128_S1x8x64x128),
    StableHlo.TRef.reshape (.of main_while1b_call19_v0 : StableHlo.TRef sig ⟨S1x8x64x128, .f32⟩) (.of main_while1b_v52 : StableHlo.TRef sig ⟨S8x64x128, .f32⟩) (rfl : (.f32 : EltTy) = .f32) shapeCasts_S1x8x64x128_S8x64x128 ]

theorem bwdOps8_sub : (bwdOps8 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem bwdOps8_fresh : (bwdOps8 : List (HloOp τ sig (Elt F))).Forall fun op => op.fresh = ∅ := by
  repeat' constructor

/-- Stretch 9 of the second loop's body. -/
abbrev bwdOps9 : List (HloOp τ sig (Elt F)) :=
  [ StableHlo.binary main_v31_9 main_while1b_v52 main_while1b_v53 ((fun l r => Host.dotGeneral dot_S8x128x128_S8x64x128_S8x128x64_1_2_2_1_0_0 none l r) : (⟨S8x128x128, .f32⟩ : BufTy).Contents (Elt F) → (⟨S8x64x128, .f32⟩ : BufTy).Contents (Elt F) → (⟨S8x128x64, .f32⟩ : BufTy).Contents (Elt F)),
    StableHlo.unary main_while1b_v53 main_while1b_v54 ((transpose S8x64x128 [0, 2, 1] · transposes_S8x128x64_S8x64x128_0_2_1) : (⟨S8x128x64, .f32⟩ : BufTy).Contents (Elt F) → (⟨S8x64x128, .f32⟩ : BufTy).Contents (Elt F)),
    StableHlo.binary main_v31_9 main_while1b_v49 main_while1b_v55 ((fun l r => Host.dotGeneral dot_S8x128x128_S8x64x128_S8x128x64_2_2_1_1_0_0 none l r) : (⟨S8x128x128, .f32⟩ : BufTy).Contents (Elt F) → (⟨S8x64x128, .f32⟩ : BufTy).Contents (Elt F) → (⟨S8x128x64, .f32⟩ : BufTy).Contents (Elt F)),
    StableHlo.unary main_while1b_v55 main_while1b_v56 ((transpose S8x64x128 [0, 2, 1] · transposes_S8x128x64_S8x64x128_0_2_1) : (⟨S8x128x64, .f32⟩ : BufTy).Contents (Elt F) → (⟨S8x64x128, .f32⟩ : BufTy).Contents (Elt F)),
    StableHlo.binary main_while1b_v46 main_v31_9 main_while1b_v57 (mulf : (⟨S8x128x128, .f32⟩ : BufTy).Contents (Elt F) → (⟨S8x128x128, .f32⟩ : BufTy).Contents (Elt F) → (⟨S8x128x128, .f32⟩ : BufTy).Contents (Elt F)),
    StableHlo.nullary main_while1b_cst_32 (constant S_ .f32 0x00000000#32),
    StableHlo.binary main_while1b_v57 main_while1b_cst_32 main_while1b_v58 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    StableHlo.reshape main_while1b_v58 main_while1b_v59 (rfl : (.f32 : EltTy) = .f32) shapeCasts_S8_S8x1x1,
    StableHlo.unary main_while1b_v51 main_while1b_v60 (broadcastInDim S8x128x128 ![0, 1, 2] bcast_S8x1x1_S8x128x128_0_1_2 : (⟨S8x1x1, .f32⟩ : BufTy).Contents (Elt F) → (⟨S8x128x128, .f32⟩ : BufTy).Contents (Elt F)),
    StableHlo.binary main_v31_9 main_while1b_v60 main_while1b_v61 (mulf : (⟨S8x128x128, .f32⟩ : BufTy).Contents (Elt F) → (⟨S8x128x128, .f32⟩ : BufTy).Contents (Elt F) → (⟨S8x128x128, .f32⟩ : BufTy).Contents (Elt F)),
    StableHlo.nullary main_while1b_cst_33 (constant S_ .f32 0x00000000#32),
    StableHlo.binary main_while1b_v59 main_while1b_cst_33 main_while1b_v62 ((fun x v => Host.reduceAdd x v reducesTo_S8x1x1_S8_d1_2 h_S_) : (⟨S8x1x1, .f32⟩ : BufTy).Contents (Elt F) → (⟨S_, .f32⟩ : BufTy).Contents (Elt F) → (⟨S8, .f32⟩ : BufTy).Contents (Elt F)),
    StableHlo.binary main_while1b_v45 main_while1b_v50 main_while1b_v63 ((fun l r => Host.dotGeneral dot_S8x64x128_S8x64x64_S8x128x64_1_1_2_2_0_0 none l r) : (⟨S8x64x128, .f32⟩ : BufTy).Contents (Elt F) → (⟨S8x64x64, .f32⟩ : BufTy).Contents (Elt F) → (⟨S8x128x64, .f32⟩ : BufTy).Contents (Elt F)),
    StableHlo.unary main_while1b_v63 main_while1b_v64 ((transpose S8x64x128 [0, 2, 1] · transposes_S8x128x64_S8x64x128_0_2_1) : (⟨S8x128x64, .f32⟩ : BufTy).Contents (Elt F) → (⟨S8x64x128, .f32⟩ : BufTy).Contents (Elt F)),
    StableHlo.binary main_while1b_v54 main_while1b_v64 main_while1b_v65 (addf : (⟨S8x64x128, .f32⟩ : BufTy).Contents (Elt F) → (⟨S8x64x128, .f32⟩ : BufTy).Contents (Elt F) → (⟨S8x64x128, .f32⟩ : BufTy).Contents (Elt F)),
    StableHlo.binary main_while1b_v45 main_while1b_v49 main_while1b_v66 ((fun l r => Host.dotGeneral dot_S8x64x128_S8x64x128_S8x64x64_2_2_1_1_0_0 none l r) : (⟨S8x64x128, .f32⟩ : BufTy).Contents (Elt F) → (⟨S8x64x128, .f32⟩ : BufTy).Contents (Elt F) → (⟨S8x64x64, .f32⟩ : BufTy).Contents (Elt F)),
    StableHlo.binary main_while1b_v45 main_while1b_v48 main_while1b_v67 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    StableHlo.unary main_while1b_v67 main_while1b_v68 ((transpose S8x128x128 [0, 2, 1] · transposes_S8x128x128_S8x128x128_0_2_1) : (⟨S8x128x128, .f32⟩ : BufTy).Contents (Elt F) → (⟨S8x128x128, .f32⟩ : BufTy).Contents (Elt F)),
    StableHlo.binary main_while1b_v61 main_while1b_v68 main_while1b_v69 (addf : (⟨S8x128x128, .f32⟩ : BufTy).Contents (Elt F) → (⟨S8x128x128, .f32⟩ : BufTy).Contents (Elt F) → (⟨S8x128x128, .f32⟩ : BufTy).Contents (Elt F)),
    StableHlo.binary main_while1b_v45 main_while1b_v46 main_while1b_v70 ((fun l r => Host.dotGeneral dot_S8x64x128_S8x128x128_S8x64x128_2_2_1_1_0_0 none l r) : (⟨S8x64x128, .f32⟩ : BufTy).Contents (Elt F) → (⟨S8x128x128, .f32⟩ : BufTy).Contents (Elt F) → (⟨S8x64x128, .f32⟩ : BufTy).Contents (Elt F)),
    StableHlo.unary main_while1b_v65 main_while1b_v71 (Host.negf : (⟨S8x64x128, .f32⟩ : BufTy).Contents (Elt F) → (⟨S8x64x128, .f32⟩ : BufTy).Contents (Elt F)),
    StableHlo.binary main_while1b_v71 main_while1b_v47 main_while1b_v72 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    StableHlo.unary main_while1b_v72 main_while1b_v73 ((transpose S8x128x128 [0, 2, 1] · transposes_S8x128x128_S8x128x128_0_2_1) : (⟨S8x128x128, .f32⟩ : BufTy).Contents (Elt F) → (⟨S8x128x128, .f32⟩ : BufTy).Contents (Elt F)),
    StableHlo.binary main_while1b_v69 main_while1b_v73 main_while1b_v74 (addf : (⟨S8x128x128, .f32⟩ : BufTy).Contents (Elt F) → (⟨S8x128x128, .f32⟩ : BufTy).Contents (Elt F) → (⟨S8x128x128, .f32⟩ : BufTy).Contents (Elt F)),
    StableHlo.binary main_while1b_v71 main_while1b_v46 main_while1b_v75 ((fun l r => Host.dotGeneral dot_S8x64x128_S8x128x128_S8x64x128_2_2_1_1_0_0 none l r) : (⟨S8x64x128, .f32⟩ : BufTy).Contents (Elt F) → (⟨S8x128x128, .f32⟩ : BufTy).Contents (Elt F) → (⟨S8x64x128, .f32⟩ : BufTy).Contents (Elt F)) ]

theorem bwdOps9_sub : (bwdOps9 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub ..⟩

theorem bwdOps9_fresh : (bwdOps9 : List (HloOp τ sig (Elt F))).Forall fun op => op.fresh = ∅ := by
  repeat' constructor

/-- Stretch 10 of the second loop's body. -/
abbrev bwdOps10 : List (HloOp τ sig (Elt F)) :=
  [ StableHlo.TRef.unary (.of main_while1b_v70 : StableHlo.TRef sig ⟨S8x64x128, .f32⟩) (.of main_while1b_call20_v0 : StableHlo.TRef sig ⟨S1x8x64x128, .f32⟩) (broadcastInDim S1x8x64x128 ![1, 2, 3] bcast_S8x64x128_S1x8x64x128_1_2_3),
    StableHlo.TRef.nullary (.of main_while1b_call20_c : StableHlo.TRef sig ⟨S_, .i32⟩) (constantI S_ 32 0#32),
    StableHlo.TRef.nullary (.of main_while1b_call20_c_0 : StableHlo.TRef sig ⟨S_, .i32⟩) (constantI S_ 32 0#32),
    StableHlo.TRef.nullary (.of main_while1b_call20_c_1 : StableHlo.TRef sig ⟨S_, .i32⟩) (constantI S_ 32 0#32),
    StableHlo.TRef.binaryIndexed (.of main_v31_10 : StableHlo.TRef sig ⟨S128x8x64x128, .f32⟩) (.of main_while1b_call20_v0 : StableHlo.TRef sig ⟨S1x8x64x128, .f32⟩) ![(.of main_while1b_v44 : StableHlo.TRef sig ⟨S_, .i32⟩), (.of main_while1b_call20_c : StableHlo.TRef sig ⟨S_, .i32⟩), (.of main_while1b_call20_c_0 : StableHlo.TRef sig ⟨S_, .i32⟩), (.of main_while1b_call20_c_1 : StableHlo.TRef sig ⟨S_, .i32⟩)] (.of main_while1b_v76 : StableHlo.TRef sig ⟨S128x8x64x128, .f32⟩) (fun x u i => Host.dynamicUpdateSlice x u (fun k => (i k (Shape.Idx.first h_S_)).toInt) updateFits_S128x8x64x128_S1x8x64x128) ]

theorem bwdOps10_sub : (bwdOps10 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem bwdOps10_fresh : (bwdOps10 : List (HloOp τ sig (Elt F))).Forall fun op => op.fresh = ∅ := by
  repeat' constructor

/-- Stretch 11 of the second loop's body. -/
abbrev bwdOps11 : List (HloOp τ sig (Elt F)) :=
  [ StableHlo.TRef.unary (.of main_while1b_v56 : StableHlo.TRef sig ⟨S8x64x128, .f32⟩) (.of main_while1b_call21_v0 : StableHlo.TRef sig ⟨S1x8x64x128, .f32⟩) (broadcastInDim S1x8x64x128 ![1, 2, 3] bcast_S8x64x128_S1x8x64x128_1_2_3),
    StableHlo.TRef.nullary (.of main_while1b_call21_c : StableHlo.TRef sig ⟨S_, .i32⟩) (constantI S_ 32 0#32),
    StableHlo.TRef.nullary (.of main_while1b_call21_c_0 : StableHlo.TRef sig ⟨S_, .i32⟩) (constantI S_ 32 0#32),
    StableHlo.TRef.nullary (.of main_while1b_call21_c_1 : StableHlo.TRef sig ⟨S_, .i32⟩) (constantI S_ 32 0#32),
    StableHlo.TRef.binaryIndexed (.of main_v31_11 : StableHlo.TRef sig ⟨S128x8x64x128, .f32⟩) (.of main_while1b_call21_v0 : StableHlo.TRef sig ⟨S1x8x64x128, .f32⟩) ![(.of main_while1b_v44 : StableHlo.TRef sig ⟨S_, .i32⟩), (.of main_while1b_call21_c : StableHlo.TRef sig ⟨S_, .i32⟩), (.of main_while1b_call21_c_0 : StableHlo.TRef sig ⟨S_, .i32⟩), (.of main_while1b_call21_c_1 : StableHlo.TRef sig ⟨S_, .i32⟩)] (.of main_while1b_v77 : StableHlo.TRef sig ⟨S128x8x64x128, .f32⟩) (fun x u i => Host.dynamicUpdateSlice x u (fun k => (i k (Shape.Idx.first h_S_)).toInt) updateFits_S128x8x64x128_S1x8x64x128) ]

theorem bwdOps11_sub : (bwdOps11 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem bwdOps11_fresh : (bwdOps11 : List (HloOp τ sig (Elt F))).Forall fun op => op.fresh = ∅ := by
  repeat' constructor

/-- Stretch 12 of the second loop's body. -/
abbrev bwdOps12 : List (HloOp τ sig (Elt F)) :=
  [ StableHlo.TRef.unary (.of main_while1b_v65 : StableHlo.TRef sig ⟨S8x64x128, .f32⟩) (.of main_while1b_call22_v0 : StableHlo.TRef sig ⟨S1x8x64x128, .f32⟩) (broadcastInDim S1x8x64x128 ![1, 2, 3] bcast_S8x64x128_S1x8x64x128_1_2_3),
    StableHlo.TRef.nullary (.of main_while1b_call22_c : StableHlo.TRef sig ⟨S_, .i32⟩) (constantI S_ 32 0#32),
    StableHlo.TRef.nullary (.of main_while1b_call22_c_0 : StableHlo.TRef sig ⟨S_, .i32⟩) (constantI S_ 32 0#32),
    StableHlo.TRef.nullary (.of main_while1b_call22_c_1 : StableHlo.TRef sig ⟨S_, .i32⟩) (constantI S_ 32 0#32),
    StableHlo.TRef.binaryIndexed (.of main_v31_12 : StableHlo.TRef sig ⟨S128x8x64x128, .f32⟩) (.of main_while1b_call22_v0 : StableHlo.TRef sig ⟨S1x8x64x128, .f32⟩) ![(.of main_while1b_v44 : StableHlo.TRef sig ⟨S_, .i32⟩), (.of main_while1b_call22_c : StableHlo.TRef sig ⟨S_, .i32⟩), (.of main_while1b_call22_c_0 : StableHlo.TRef sig ⟨S_, .i32⟩), (.of main_while1b_call22_c_1 : StableHlo.TRef sig ⟨S_, .i32⟩)] (.of main_while1b_v78 : StableHlo.TRef sig ⟨S128x8x64x128, .f32⟩) (fun x u i => Host.dynamicUpdateSlice x u (fun k => (i k (Shape.Idx.first h_S_)).toInt) updateFits_S128x8x64x128_S1x8x64x128) ]

theorem bwdOps12_sub : (bwdOps12 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem bwdOps12_fresh : (bwdOps12 : List (HloOp τ sig (Elt F))).Forall fun op => op.fresh = ∅ := by
  repeat' constructor

/-- Stretch 13 of the second loop's body. -/
abbrev bwdOps13 : List (HloOp τ sig (Elt F)) :=
  [ StableHlo.TRef.unary (.of main_while1b_v75 : StableHlo.TRef sig ⟨S8x64x128, .f32⟩) (.of main_while1b_call23_v0 : StableHlo.TRef sig ⟨S1x8x64x128, .f32⟩) (broadcastInDim S1x8x64x128 ![1, 2, 3] bcast_S8x64x128_S1x8x64x128_1_2_3),
    StableHlo.TRef.nullary (.of main_while1b_call23_c : StableHlo.TRef sig ⟨S_, .i32⟩) (constantI S_ 32 0#32),
    StableHlo.TRef.nullary (.of main_while1b_call23_c_0 : StableHlo.TRef sig ⟨S_, .i32⟩) (constantI S_ 32 0#32),
    StableHlo.TRef.nullary (.of main_while1b_call23_c_1 : StableHlo.TRef sig ⟨S_, .i32⟩) (constantI S_ 32 0#32),
    StableHlo.TRef.binaryIndexed (.of main_v31_13 : StableHlo.TRef sig ⟨S128x8x64x128, .f32⟩) (.of main_while1b_call23_v0 : StableHlo.TRef sig ⟨S1x8x64x128, .f32⟩) ![(.of main_while1b_v44 : StableHlo.TRef sig ⟨S_, .i32⟩), (.of main_while1b_call23_c : StableHlo.TRef sig ⟨S_, .i32⟩), (.of main_while1b_call23_c_0 : StableHlo.TRef sig ⟨S_, .i32⟩), (.of main_while1b_call23_c_1 : StableHlo.TRef sig ⟨S_, .i32⟩)] (.of main_while1b_v79 : StableHlo.TRef sig ⟨S128x8x64x128, .f32⟩) (fun x u i => Host.dynamicUpdateSlice x u (fun k => (i k (Shape.Idx.first h_S_)).toInt) updateFits_S128x8x64x128_S1x8x64x128) ]

theorem bwdOps13_sub : (bwdOps13 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem bwdOps13_fresh : (bwdOps13 : List (HloOp τ sig (Elt F))).Forall fun op => op.fresh = ∅ := by
  repeat' constructor

/-- Stretch 14 of the second loop's body. -/
abbrev bwdOps14 : List (HloOp τ sig (Elt F)) :=
  [ StableHlo.TRef.unary (.of main_while1b_v62 : StableHlo.TRef sig ⟨S8, .f32⟩) (.of main_while1b_call24_v0 : StableHlo.TRef sig ⟨S1x8, .f32⟩) (broadcastInDim S1x8 ![1] bcast_S8_S1x8_1),
    StableHlo.TRef.nullary (.of main_while1b_call24_c : StableHlo.TRef sig ⟨S_, .i32⟩) (constantI S_ 32 0#32),
    StableHlo.TRef.binaryIndexed (.of main_v31_14 : StableHlo.TRef sig ⟨S128x8, .f32⟩) (.of main_while1b_call24_v0 : StableHlo.TRef sig ⟨S1x8, .f32⟩) ![(.of main_while1b_v44 : StableHlo.TRef sig ⟨S_, .i32⟩), (.of main_while1b_call24_c : StableHlo.TRef sig ⟨S_, .i32⟩)] (.of main_while1b_v80 : StableHlo.TRef sig ⟨S128x8, .f32⟩) (fun x u i => Host.dynamicUpdateSlice x u (fun k => (i k (Shape.Idx.first h_S_)).toInt) updateFits_S128x8_S1x8) ]

theorem bwdOps14_sub : (bwdOps14 : List (HloOp τ sig (Elt F))).Forall fun op => op.bufs ⊆ StableHlo.tcRefs τ sig :=
  ⟨StableHlo.unary_bufs_sub .., StableHlo.nullary_bufs_sub .., StableHlo.binaryIndexed_bufs_sub ..⟩

theorem bwdOps14_fresh : (bwdOps14 : List (HloOp τ sig (Elt F))).Forall fun op => op.fresh = ∅ := by
  repeat' constructor

/-- Stretch 15 of the second loop's body. -/
abbrev bwdOps15 : List (HloOp τ sig (Elt F)) :=
  [ StableHlo.TRef.unary (.of main_while1b_v66 : StableHlo.TRef sig ⟨S8x64x64, .f32⟩) (.of main_while1b_call25_v0 : StableHlo.TRef sig ⟨S1x8x64x64, .f32⟩) (broadcastInDim S1x8x64x64 ![1, 2, 3] bcast_S8x64x64_S1x8x64x64_1_2_3),
    StableHlo.TRef.nullary (.of main_while1b_call25_c : StableHlo.TRef sig ⟨S_, .i32⟩) (constantI S_ 32 0#32),
    StableHlo.TRef.nullary (.of main_while1b_call25_c_0 : StableHlo.TRef sig ⟨S_, .i32⟩) (constantI S_ 32 0#32),
    StableHlo.TRef.nullary (.of main_while1b_call25_c_1 : StableHlo.TRef sig ⟨S_, .i32⟩) (constantI S_ 32 0#32),
    StableHlo.TRef.binaryIndexed (.of main_v31_15 : StableHlo.TRef sig ⟨S128x8x64x64, .f32⟩) (.of main_while1b_call25_v0 : StableHlo.TRef sig ⟨S1x8x64x64, .f32⟩) ![(.of main_while1b_v44 : StableHlo.TRef sig ⟨S_, .i32⟩), (.of main_while1b_call25_c : StableHlo.TRef sig ⟨S_, .i32⟩), (.of main_while1b_call25_c_0 : StableHlo.TRef sig ⟨S_, .i32⟩), (.of main_while1b_call25_c_1 : StableHlo.TRef sig ⟨S_, .i32⟩)] (.of main_while1b_v81 : StableHlo.TRef sig ⟨S128x8x64x64, .f32⟩) (fun x u i => Host.dynamicUpdateSlice x u (fun k => (i k (Shape.Idx.first h_S_)).toInt) updateFits_S128x8x64x64_S1x8x64x64) ]

theorem bwdOps15_sub : (bwdOps15 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem bwdOps15_fresh : (bwdOps15 : List (HloOp τ sig (Elt F))).Forall fun op => op.fresh = ∅ := by
  repeat' constructor

/-- Stretch 16 of the second loop's body. -/
abbrev bwdOps16 : List (HloOp τ sig (Elt F)) :=
  [ StableHlo.nullary main_while1b_c_34 (constantI S_ 32 1#32),
    StableHlo.binary main_v31_8 main_while1b_c_34 main_while1b_v82 (addi : (⟨S_, .i32⟩ : BufTy).Contents (Elt F) → (⟨S_, .i32⟩ : BufTy).Contents (Elt F) → (⟨S_, .i32⟩ : BufTy).Contents (Elt F)),
    StableHlo.unary main_while1b_v82 main_v31_8 id,
    StableHlo.unary main_while1b_v74 main_v31_9 id,
    StableHlo.unary main_while1b_v76 main_v31_10 id,
    StableHlo.unary main_while1b_v77 main_v31_11 id,
    StableHlo.unary main_while1b_v78 main_v31_12 id,
    StableHlo.unary main_while1b_v79 main_v31_13 id,
    StableHlo.unary main_while1b_v80 main_v31_14 id,
    StableHlo.unary main_while1b_v81 main_v31_15 id ]

theorem bwdOps16_sub : (bwdOps16 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem bwdOps16_fresh : (bwdOps16 : List (HloOp τ sig (Elt F))).Forall fun op => op.fresh = ∅ := by
  repeat' constructor

/-- The first part of `main` is the chain of its stretches and the first loop. -/
theorem main_part0_chain (c : Dev nD) : main_part0 (F := F) c = (Pipeline.chainK
  [ StableHlo.seq preOps0,
    StableHlo.seq preOps1,
    StableHlo.seq preOps2,
    StableHlo.seq preOps3,
    StableHlo.seq preOps4,
    HostLoop.enter 0 ]
  (StableHlo.seq midOps0) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons]
  chain_rfl

/-- The second part of `main` is the chain of the second loop and its stretches. -/
theorem main_part1_chain (c : Dev nD) : main_part1 (F := F) c = (Pipeline.chain
  [ StableHlo.seq midOps1,
    HostLoop.enter 1,
    StableHlo.seq postOps0,
    StableHlo.seq postOps1,
    StableHlo.seq postOps2 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

/-- `main` is the chain of its stretches and its two loops. -/
theorem main_chain_windows (c : Dev nD) : main (F := F) c = (Pipeline.chain
  [ StableHlo.seq preOps0,
    StableHlo.seq preOps1,
    StableHlo.seq preOps2,
    StableHlo.seq preOps3,
    StableHlo.seq preOps4,
    HostLoop.enter 0,
    StableHlo.seq midOps0,
    StableHlo.seq midOps1,
    HostLoop.enter 1,
    StableHlo.seq postOps0,
    StableHlo.seq postOps1,
    StableHlo.seq postOps2 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

/-- The first loop's body is the chain of its stretches. -/
theorem while0_body_chain : main_while0_body (F := F) = (Pipeline.chain
  [ StableHlo.seq fwdOps0,
    StableHlo.seq fwdOps1,
    StableHlo.seq fwdOps2,
    StableHlo.seq fwdOps3,
    StableHlo.seq fwdOps4,
    StableHlo.seq fwdOps5,
    StableHlo.seq fwdOps6,
    StableHlo.seq fwdOps7,
    StableHlo.seq fwdOps8,
    StableHlo.seq fwdOps9,
    StableHlo.seq fwdOps10,
    StableHlo.seq fwdOps11 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, StableHlo.chain_seq_cons]
  chain_rfl

/-- The second loop's body is the chain of its stretches. -/
theorem while1_body_chain : main_while1_body (F := F) = (Pipeline.chain
  [ StableHlo.seq bwdOps0,
    StableHlo.seq bwdOps1,
    StableHlo.seq bwdOps2,
    StableHlo.seq bwdOps3,
    StableHlo.seq bwdOps4,
    StableHlo.seq bwdOps5,
    StableHlo.seq bwdOps6,
    StableHlo.seq bwdOps7,
    StableHlo.seq bwdOps8,
    StableHlo.seq bwdOps9,
    StableHlo.seq bwdOps10,
    StableHlo.seq bwdOps11,
    StableHlo.seq bwdOps12,
    StableHlo.seq bwdOps13,
    StableHlo.seq bwdOps14,
    StableHlo.seq bwdOps15,
    StableHlo.seq bwdOps16 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, Pipeline.chain_cons, Pipeline.chain_cons, StableHlo.chain_seq_cons]
  chain_rfl

end Cert.ReferenceIdeal.Gdn
-- ==== Proof.RefRun.lean ====
module

public import proofs.«01_k».proof.Proof.RefOps
public import Idealize.ShloMosaic.Lib.StableHlo.RunRead
public import Idealize.ShloMosaic.Lib.Scf.ExitTest
public import Idealize.ShloMosaic.Lib.Scf.Counter

/-! # The reference's run

    The reference runs its stretches, the forward loop's 128 trips, more stretches, the gradient loop's 128 trips and the last
    stretches; every buffer ends at the fold of the operations over the launch contents (`final`). -/

@[expose] public section
noncomputable section

set_option maxRecDepth 16384

namespace Cert.ReferenceIdeal.Gdn

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg Ticket)

variable {F : FTy → Type} [FloatOps F]

/-- The stretches before the first loop. -/
abbrev preI : List (List (HloOp τ sig (Elt F))) := [preOps0, preOps1, preOps2, preOps3, preOps4]
theorem preI_plain : Plain (preI (F := F)) :=
  (.cons preOps0_sub (hf := List.forall_iff_forall_mem.mp preOps0_fresh) (.cons preOps1_sub (hf := List.forall_iff_forall_mem.mp preOps1_fresh) (.cons preOps2_sub (hf := List.forall_iff_forall_mem.mp preOps2_fresh) (.cons preOps3_sub (hf := List.forall_iff_forall_mem.mp preOps3_fresh) (.cons preOps4_sub (hf := List.forall_iff_forall_mem.mp preOps4_fresh) .nil)))))

/-- The stretches of the first loop's body. -/
abbrev fwdI : List (List (HloOp τ sig (Elt F))) := [fwdOps0, fwdOps1, fwdOps2, fwdOps3, fwdOps4, fwdOps5, fwdOps6, fwdOps7, fwdOps8, fwdOps9, fwdOps10, fwdOps11]
theorem fwdI_plain : Plain (fwdI (F := F)) :=
  (.cons fwdOps0_sub (hf := List.forall_iff_forall_mem.mp fwdOps0_fresh) (.cons fwdOps1_sub (hf := List.forall_iff_forall_mem.mp fwdOps1_fresh) (.cons fwdOps2_sub (hf := List.forall_iff_forall_mem.mp fwdOps2_fresh) (.cons fwdOps3_sub (hf := List.forall_iff_forall_mem.mp fwdOps3_fresh) (.cons fwdOps4_sub (hf := List.forall_iff_forall_mem.mp fwdOps4_fresh) (.cons fwdOps5_sub (hf := List.forall_iff_forall_mem.mp fwdOps5_fresh) (.cons fwdOps6_sub (hf := List.forall_iff_forall_mem.mp fwdOps6_fresh) (.cons fwdOps7_sub (hf := List.forall_iff_forall_mem.mp fwdOps7_fresh) (.cons fwdOps8_sub (hf := List.forall_iff_forall_mem.mp fwdOps8_fresh) (.cons fwdOps9_sub (hf := List.forall_iff_forall_mem.mp fwdOps9_fresh) (.cons fwdOps10_sub (hf := List.forall_iff_forall_mem.mp fwdOps10_fresh) (.cons fwdOps11_sub (hf := List.forall_iff_forall_mem.mp fwdOps11_fresh) .nil))))))))))))

/-- The stretches between the loops. -/
abbrev midI : List (List (HloOp τ sig (Elt F))) := [midOps0, midOps1]
theorem midI_plain : Plain (midI (F := F)) :=
  (.cons midOps0_sub (hf := List.forall_iff_forall_mem.mp midOps0_fresh) (.cons midOps1_sub (hf := List.forall_iff_forall_mem.mp midOps1_fresh) .nil))

/-- The stretches of the second loop's body. -/
abbrev bwdI : List (List (HloOp τ sig (Elt F))) := [bwdOps0, bwdOps1, bwdOps2, bwdOps3, bwdOps4, bwdOps5, bwdOps6, bwdOps7, bwdOps8, bwdOps9, bwdOps10, bwdOps11, bwdOps12, bwdOps13, bwdOps14, bwdOps15, bwdOps16]
theorem bwdI_plain : Plain (bwdI (F := F)) :=
  (.cons bwdOps0_sub (hf := List.forall_iff_forall_mem.mp bwdOps0_fresh) (.cons bwdOps1_sub (hf := List.forall_iff_forall_mem.mp bwdOps1_fresh) (.cons bwdOps2_sub (hf := List.forall_iff_forall_mem.mp bwdOps2_fresh) (.cons bwdOps3_sub (hf := List.forall_iff_forall_mem.mp bwdOps3_fresh) (.cons bwdOps4_sub (hf := List.forall_iff_forall_mem.mp bwdOps4_fresh) (.cons bwdOps5_sub (hf := List.forall_iff_forall_mem.mp bwdOps5_fresh) (.cons bwdOps6_sub (hf := List.forall_iff_forall_mem.mp bwdOps6_fresh) (.cons bwdOps7_sub (hf := List.forall_iff_forall_mem.mp bwdOps7_fresh) (.cons bwdOps8_sub (hf := List.forall_iff_forall_mem.mp bwdOps8_fresh) (.cons bwdOps9_sub (hf := List.forall_iff_forall_mem.mp bwdOps9_fresh) (.cons bwdOps10_sub (hf := List.forall_iff_forall_mem.mp bwdOps10_fresh) (.cons bwdOps11_sub (hf := List.forall_iff_forall_mem.mp bwdOps11_fresh) (.cons bwdOps12_sub (hf := List.forall_iff_forall_mem.mp bwdOps12_fresh) (.cons bwdOps13_sub (hf := List.forall_iff_forall_mem.mp bwdOps13_fresh) (.cons bwdOps14_sub (hf := List.forall_iff_forall_mem.mp bwdOps14_fresh) (.cons bwdOps15_sub (hf := List.forall_iff_forall_mem.mp bwdOps15_fresh) (.cons bwdOps16_sub (hf := List.forall_iff_forall_mem.mp bwdOps16_fresh) .nil)))))))))))))))))

/-- The stretches after the second loop. -/
abbrev postI : List (List (HloOp τ sig (Elt F))) := [postOps0, postOps1, postOps2]
theorem postI_plain : Plain (postI (F := F)) :=
  (.cons postOps0_sub (hf := List.forall_iff_forall_mem.mp postOps0_fresh) (.cons postOps1_sub (hf := List.forall_iff_forall_mem.mp postOps1_fresh) (.cons postOps2_sub (hf := List.forall_iff_forall_mem.mp postOps2_fresh) .nil)))

/-- The first loop's condition: the counter compared with 128. -/
abbrev fwdCond : List (HloOp τ sig (Elt F)) :=
  [ StableHlo.nullary main_while0c_c_26 (constantI S_ 32 128#32),
    StableHlo.binary main_v18_6 main_while0c_c_26 main_while0c_v43 (cmpi .slt) ]

/-- The second loop's condition: the counter compared with 128. -/
abbrev bwdCond : List (HloOp τ sig (Elt F)) :=
  [ StableHlo.nullary main_while1c_c_30 (constantI S_ 32 128#32),
    StableHlo.binary main_v31_8 main_while1c_c_30 main_while1c_v43 (cmpi .slt) ]

variable (m : (ℓ : Loc nD τ sig) → Buf (Elt F) ℓ) (ρ : Dev nD → PrngReg)

/-- The buffers at the first loop's entry, and before its `k`-th condition. -/
abbrev E0 (c : Dev nD) : Valuation τ sig (Elt F) := afterL preI (launchContents m c)
abbrev K0 (k : ℕ) (c : Dev nD) : Valuation τ sig (Elt F) := atTrip fwdCond fwdI (E0 m) k c
/-- The buffers at the first loop's exit, at the second's entry and before its `k`-th condition. -/
abbrev X0 (c : Dev nD) : Valuation τ sig (Elt F) := after fwdCond (K0 m 128 c)
abbrev E1 (c : Dev nD) : Valuation τ sig (Elt F) := afterL midI (X0 m c)
abbrev K1 (k : ℕ) (c : Dev nD) : Valuation τ sig (Elt F) := atTrip bwdCond bwdI (E1 m) k c
/-- The buffers at the second loop's exit and at the end. -/
abbrev X1 (c : Dev nD) : Valuation τ sig (Elt F) := after bwdCond (K1 m 128 c)
abbrev final (c : Dev nD) : Valuation τ sig (Elt F) := afterL postI (X1 m c)

/-! ## The counters -/

/-- A loop's body adds one to its counter. -/
theorem fwd_ctr (X : Valuation τ sig (Elt F)) : afterL fwdI (after fwdCond X) (Proc.devRef .tc main_v18_6)
    = addi (X (Proc.devRef .tc main_v18_6)) (constantI S_ 32 1#32) := by
  simp only [afterL_cons, afterL_nil]
  after_reads_simp
  rfl
theorem bwd_ctr (X : Valuation τ sig (Elt F)) : afterL bwdI (after bwdCond X) (Proc.devRef .tc main_v31_8)
    = addi (X (Proc.devRef .tc main_v31_8)) (constantI S_ 32 1#32) := by
  simp only [afterL_cons, afterL_nil]
  after_reads_simp
  rfl

/-- Each counter starts at zero. -/
theorem E0_ctr (c : Dev nD) : E0 m c (Proc.devRef .tc main_v18_6) = fun _ => (0#32 : BitVec 32) := by
  simp only [E0, afterL_cons, afterL_nil]
  after_reads_simp
  rfl
theorem E1_ctr (c : Dev nD) : E1 m c (Proc.devRef .tc main_v31_8) = fun _ => (0#32 : BitVec 32) := by
  simp only [E1, afterL_cons, afterL_nil]
  after_reads_simp
  rfl

/-- Before the `k`-th condition each counter is `k`. -/
theorem K0_ctr (c : Dev nD) : ∀ k, K0 m k c (Proc.devRef .tc main_v18_6) = fun _ => Scf.iv 0#32 1#32 k
  | 0 => by rw [show K0 m 0 c = E0 m c from rfl, E0_ctr, Scf.iv_zero]
  | k + 1 => by
    rw [show K0 m (k + 1) c = afterL fwdI (after fwdCond (K0 m k c)) from rfl, fwd_ctr, K0_ctr c k, Scf.iv_succ]
    rfl
theorem K1_ctr (c : Dev nD) : ∀ k, K1 m k c (Proc.devRef .tc main_v31_8) = fun _ => Scf.iv 0#32 1#32 k
  | 0 => by rw [show K1 m 0 c = E1 m c from rfl, E1_ctr, Scf.iv_zero]
  | k + 1 => by
    rw [show K1 m (k + 1) c = afterL bwdI (after bwdCond (K1 m k c)) from rfl, bwd_ctr, K1_ctr c k, Scf.iv_succ]
    rfl

/-! ## The run -/

local notation "𝕄" => MT nD τ sig Unit (Elt F) ℕ (Option PUnit) ℕ

/-- Nothing is admitted, ticketed or levelled: the program has no kernel region. -/
abbrev noAdm : (p : Fin 0) → (pcfgs (F := F) p).Adm := fun p => p.elim0
abbrev noTk : Fin 0 → Ticket (Ix := Unit) (Name := ℕ) (U := Option PUnit) (Lvl := ℕ) (nD := nD) (τ := τ) (pcfgs (F := F)) noAdm := fun j => j.elim0
abbrev noL : GSem nD τ sig → Finset Unit := fun _ => ∅
abbrev noLv : GSem nD τ sig → Unit → ℕ := fun _ _ => 0

/-- What rides along beside the buffers: the core's outstanding signals, none. -/
abbrev Side (c : Dev nD) : sProp 𝕄 := iprop(∃ W, owes (c : Thread nD τ) (0 : CellTallies nD τ sig Unit) W)

set_option backward.isDefEq.respectTransparency.types false in
/-- The condition of loop 0 holds before trip `k` exactly when `k < 128`. -/
theorem fwd_cond : LoopCond (pcfgs (F := F)) defs₀ Variants.none loops Side (main_while0_cond (F := F)) fwdCond fwdI (E0 m) 128 := by
  intro k hk c bd
  have hctr := K0_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (K0 m k c) main_v18_6 HostLoop.idx0)
        (HloOp.result _ (K0 m k c) main_while0c_c_26 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  isplitl [Hh]
  · rw [after_cons, after_cons, after_nil]; iexact Hh
  iexact HR

set_option backward.isDefEq.respectTransparency.types false in
/-- The condition of loop 1 holds before trip `k` exactly when `k < 128`. -/
theorem bwd_cond : LoopCond (pcfgs (F := F)) defs₀ Variants.none loops Side (main_while1_cond (F := F)) bwdCond bwdI (E1 m) 128 := by
  intro k hk c bd
  have hctr := K1_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (K1 m k c) main_v31_8 HostLoop.idx0)
        (HloOp.result _ (K1 m k c) main_while1c_c_30 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  isplitl [Hh]
  · rw [after_cons, after_cons, after_nil]; iexact Hh
  iexact HR

/-- `main`'s segments: stretches, the forward loop, stretches, the gradient loop, stretches. -/
def segs : List (CSeg (pcfgs (F := F)) noAdm defs₀ Variants.none noL noLv loops noTk) :=
  segsOf _ _ _ _ _ _ _ _ Side preI preI_plain (launchContents m)
    ++ loopSeg _ _ _ _ _ _ _ _ 0 main_while0_cond main_while0_body rfl fwdCond fwdI fwdI_plain (by rw [while0_body_chain]; rfl) 128 (E0 m) Side (fwd_cond m)
      :: (segsOf _ _ _ _ _ _ _ _ Side midI midI_plain (X0 m)
        ++ loopSeg _ _ _ _ _ _ _ _ 1 main_while1_cond main_while1_body rfl bwdCond bwdI bwdI_plain (by rw [while1_body_chain]; rfl) 128 (E1 m) Side (bwd_cond m)
          :: segsOf _ _ _ _ _ _ _ _ Side postI postI_plain (X1 m))

theorem segs_prog : (segs m).map CSeg.prog
    = (preI (F := F).map fun ops => (seq ops : Prog _ PUnit)) ++ HostLoop.enter 0 :: ((midI (F := F).map fun ops => (seq ops : Prog _ PUnit))
      ++ HostLoop.enter 1 :: postI (F := F).map fun ops => (seq ops : Prog _ PUnit)) := by
  unfold segs
  rw [List.map_append, List.map_cons, List.map_append, List.map_cons, segsOf_prog, segsOf_prog, segsOf_prog]
  rfl

theorem segs_chains : CSeg.Chains (fun c => iprop(held (c : Thread nD τ) (ucRefs τ sig) (launchContents m c) ∗ Side c)) (segs m)
    (fun c => iprop(iprop(held (c : Thread nD τ) (ucRefs τ sig) (final m c)) ∗ ∃ W, owes (c : Thread nD τ) (0 : CellTallies nD τ sig Unit) W)) := by
  unfold segs
  exact CSeg.Chains.append (segsOf_chains _ _ _ _ _ _ _ _ Side preI preI_plain _)
    ⟨fun _ => .rfl, CSeg.Chains.append (segsOf_chains _ _ _ _ _ _ _ _ Side midI midI_plain _)
      ⟨fun _ => .rfl, segsOf_chains _ _ _ _ _ _ _ _ Side postI postI_plain _⟩⟩

/-- Every run of the reference ends, with every unscoped buffer at `final`. -/
theorem run_ref [∀ e, Nonempty (Elt F e)] : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = final m c (Proc.devRef .tc b)) :=
  Pipeline.θ_run_regions_loop_kit (Ix := Unit) (Name := ℕ) (U := Option PUnit) (Lvl := ℕ) (J := Fin 0) (P := Fin 0) (Val := Elt F)
    pcfgs noAdm (fun k => k.1.elim0) defs₀ Variants.none noL noLv loops noTk m ρ main (segs m)
    (fun c Q => by
      rw [main_chain_windows c]
      show wp _ _ _ (Pipeline.chain ((segs m).map CSeg.prog)) Q ⊢ _
      rw [segs_prog]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Side c))
    (Tₙ := fun c => iprop(held (c : Thread nD τ) (ucRefs τ sig) (final m c)))
    (hch := segs_chains m)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ReferenceIdeal.Gdn
-- ==== Proof.RefTrip.lean ====
module

public import proofs.«01_k».proof.Proof.RefRun
public import Idealize.ShloMosaic.Lib.WordCmp

/-! # One trip of each of the reference's loops

    What a trip leaves in each buffer the loop carries, as a function of what it found there, at any float arithmetic. -/

@[expose] public section
noncomputable section

set_option maxRecDepth 16384

namespace Cert.ReferenceIdeal.Gdn

open Cert.ReferenceIdeal Cert.ReferenceIdeal.Gen
open Idealize.ShloMosaic Idealize.ShloMosaic.TcCoe Idealize.ShloMosaic.Tactic
open Idealize.ShloMosaic.StableHlo

/-! ## Slices at a start given one coordinate at a time -/

section Slices

variable {α : Type} {d : Fin 4 → ℕ} {e : Fin 2 → ℕ}

/-- A slice whose four starts are given apart. -/
def slice4 (t : Shape) (x : (⟨4, d⟩ : Shape).Idx → α) (a b c k : ℤ) (h : (⟨4, d⟩ : Shape).Slices (fun _ => 0) t) : t.Idx → α :=
  Host.dynamicSlice t x ![a, b, c, k] h
theorem dyn4 (t : Shape) (x : (⟨4, d⟩ : Shape).Idx → α) (st : Fin 4 → ℤ) (h : (⟨4, d⟩ : Shape).Slices (fun _ => 0) t) :
    Host.dynamicSlice t x st h = slice4 t x (st 0) (st 1) (st 2) (st 3) h :=
  congrArg (fun z => Host.dynamicSlice t x z h) (funext fun i => by fin_cases i <;> rfl)
/-- A slice whose two starts are given apart. -/
def slice2 (t : Shape) (x : (⟨2, e⟩ : Shape).Idx → α) (a b : ℤ) (h : (⟨2, e⟩ : Shape).Slices (fun _ => 0) t) : t.Idx → α :=
  Host.dynamicSlice t x ![a, b] h
theorem dyn2 (t : Shape) (x : (⟨2, e⟩ : Shape).Idx → α) (st : Fin 2 → ℤ) (h : (⟨2, e⟩ : Shape).Slices (fun _ => 0) t) :
    Host.dynamicSlice t x st h = slice2 t x (st 0) (st 1) h :=
  congrArg (fun z => Host.dynamicSlice t x z h) (funext fun i => by fin_cases i <;> rfl)
/-- An update whose four starts are given apart. -/
def put4 {u : Shape} (x : (⟨4, d⟩ : Shape).Idx → α) (v : u.Idx → α) (a b c k : ℤ) (h : (⟨4, d⟩ : Shape).Slices (fun _ => 0) u) :
    (⟨4, d⟩ : Shape).Idx → α :=
  Host.dynamicUpdateSlice x v ![a, b, c, k] h
theorem dynPut4 {u : Shape} (x : (⟨4, d⟩ : Shape).Idx → α) (v : u.Idx → α) (st : Fin 4 → ℤ) (h : (⟨4, d⟩ : Shape).Slices (fun _ => 0) u) :
    Host.dynamicUpdateSlice x v st h = put4 x v (st 0) (st 1) (st 2) (st 3) h :=
  congrArg (fun z => Host.dynamicUpdateSlice x v z h) (funext fun i => by fin_cases i <;> rfl)
/-- An update whose two starts are given apart. -/
def put2 {u : Shape} (x : (⟨2, e⟩ : Shape).Idx → α) (v : u.Idx → α) (a b : ℤ) (h : (⟨2, e⟩ : Shape).Slices (fun _ => 0) u) :
    (⟨2, e⟩ : Shape).Idx → α :=
  Host.dynamicUpdateSlice x v ![a, b] h
theorem dynPut2 {u : Shape} (x : (⟨2, e⟩ : Shape).Idx → α) (v : u.Idx → α) (st : Fin 2 → ℤ) (h : (⟨2, e⟩ : Shape).Slices (fun _ => 0) u) :
    Host.dynamicUpdateSlice x v st h = put2 x v (st 0) (st 1) h :=
  congrArg (fun z => Host.dynamicUpdateSlice x v z h) (funext fun i => by fin_cases i <;> rfl)

end Slices

variable {F : FTy → Type} [FloatOps F]

/-! ## Row `i` of a stack, and a stack with row `i` replaced -/

section Stack

variable (i : ℤ)

def rowV (A : FVec F S128x8x64x128 .f32) : FVec F S8x64x128 .f32 :=
  shapeCast S8x64x128 (slice4 S1x8x64x128 A i 0 0 0 sliceFits_S128x8x64x128_S1x8x64x128) shapeCasts_S1x8x64x128_S8x64x128
def rowA (A : FVec F S128x8x64x64 .f32) : FVec F S8x64x64 .f32 :=
  shapeCast S8x64x64 (slice4 S1x8x64x64 A i 0 0 0 sliceFits_S128x8x64x64_S1x8x64x64) shapeCasts_S1x8x64x64_S8x64x64
def rowS (A : FVec F S128x8x128x128 .f32) : FVec F S8x128x128 .f32 :=
  shapeCast S8x128x128 (slice4 S1x8x128x128 A i 0 0 0 sliceFits_S128x8x128x128_S1x8x128x128) shapeCasts_S1x8x128x128_S8x128x128
def rowG (A : FVec F S128x8 .f32) : FVec F S8x1x1 .f32 :=
  broadcastInDim S8x1x1 ![0] bcast_S8_S8x1x1_0 (shapeCast S8 (slice2 S1x8 A i 0 sliceFits_S128x8_S1x8) shapeCasts_S1x8_S8)
def rowH (A : FVec F S128x8x1x1 .f32) : FVec F S8x1x1 .f32 :=
  shapeCast S8x1x1 (slice4 S1x8x1x1 A i 0 0 0 sliceFits_S128x8x1x1_S1x8x1x1) shapeCasts_S1x8x1x1_S8x1x1

def putV (A : FVec F S128x8x64x128 .f32) (v : FVec F S8x64x128 .f32) : FVec F S128x8x64x128 .f32 :=
  put4 A (broadcastInDim S1x8x64x128 ![1, 2, 3] bcast_S8x64x128_S1x8x64x128_1_2_3 v) i 0 0 0 updateFits_S128x8x64x128_S1x8x64x128
def putA (A : FVec F S128x8x64x64 .f32) (v : FVec F S8x64x64 .f32) : FVec F S128x8x64x64 .f32 :=
  put4 A (broadcastInDim S1x8x64x64 ![1, 2, 3] bcast_S8x64x64_S1x8x64x64_1_2_3 v) i 0 0 0 updateFits_S128x8x64x64_S1x8x64x64
def putS (A : FVec F S128x8x128x128 .f32) (v : FVec F S8x128x128 .f32) : FVec F S128x8x128x128 .f32 :=
  put4 A (broadcastInDim S1x8x128x128 ![1, 2, 3] bcast_S8x128x128_S1x8x128x128_1_2_3 v) i 0 0 0 updateFits_S128x8x128x128_S1x8x128x128
def putH (A : FVec F S128x8x1x1 .f32) (v : FVec F S8x1x1 .f32) : FVec F S128x8x1x1 .f32 :=
  put4 A (broadcastInDim S1x8x1x1 ![1, 2, 3] bcast_S8x1x1_S1x8x1x1_1_2_3 v) i 0 0 0 updateFits_S128x8x1x1_S1x8x1x1
def putG (A : FVec F S128x8 .f32) (v : FVec F S8 .f32) : FVec F S128x8 .f32 :=
  put2 A (broadcastInDim S1x8 ![1] bcast_S8_S1x8_1 v) i 0 updateFits_S128x8_S1x8

end Stack

/-! ## The forward step on one chunk -/

section Step

variable (q k u w : FVec F S8x64x128 .f32) (g : FVec F S8x1x1 .f32) (a : FVec F S8x64x64 .f32) (s : FVec F S8x128x128 .f32)

/-- The corrected values. -/
def vNew : FVec F S8x64x128 .f32 := subf u (Host.dotGeneral dot_S8x64x128_S8x128x128_S8x64x128_2_1_1_2_0_0 none w s)
/-- The output. -/
def oNew (v : FVec F S8x64x128 .f32) : FVec F S8x64x128 .f32 :=
  addf (Host.dotGeneral dot_S8x64x128_S8x128x128_S8x64x128_2_1_1_2_0_0 none q s)
    (Host.dotGeneral dot_S8x64x64_S8x64x128_S8x64x128_2_1_1_2_0_0 none a v)
/-- The next state. -/
def sNew (v : FVec F S8x64x128 .f32) : FVec F S8x128x128 .f32 :=
  addf (mulf s (broadcastInDim S8x128x128 ![0, 1, 2] bcast_S8x1x1_S8x128x128_0_1_2 g))
    (Host.dotGeneral dot_S8x64x128_S8x64x128_S8x128x128_1_1_2_2_0_0 none k v)

/-! ## The backward step on one chunk -/

variable (d v : FVec F S8x64x128 .f32) (ds : FVec F S8x128x128 .f32)

/-- The gradient of the corrected values. -/
def dvNew : FVec F S8x64x128 .f32 :=
  addf (transpose S8x64x128 [0, 2, 1] (Host.dotGeneral dot_S8x128x128_S8x64x128_S8x128x64_1_2_2_1_0_0 none ds k) transposes_S8x128x64_S8x64x128_0_2_1)
    (transpose S8x64x128 [0, 2, 1] (Host.dotGeneral dot_S8x64x128_S8x64x64_S8x128x64_1_1_2_2_0_0 none d a) transposes_S8x128x64_S8x64x128_0_2_1)
/-- The gradient of `kd`. -/
def dkNew : FVec F S8x64x128 .f32 :=
  transpose S8x64x128 [0, 2, 1] (Host.dotGeneral dot_S8x128x128_S8x64x128_S8x128x64_2_2_1_1_0_0 none ds v) transposes_S8x128x64_S8x64x128_0_2_1
/-- The gradient of the decay. -/
def dgNew : FVec F S8 .f32 :=
  Host.reduceAdd (shapeCast S8x1x1 (Host.reduceAdd (mulf s ds) (constant S_ .f32 0x00000000#32) reducesTo_S8x128x128_S8_d1_2 h_S_) shapeCasts_S8_S8x1x1)
    (constant S_ .f32 0x00000000#32) reducesTo_S8x1x1_S8_d1_2 h_S_
/-- The gradient of the scores, before the triangle. -/
def daNew : FVec F S8x64x64 .f32 := Host.dotGeneral dot_S8x64x128_S8x64x128_S8x64x64_2_2_1_1_0_0 none d v
/-- A product with the state's transpose: with `d` the gradient of `q`, with `−dv` the gradient of `w`. -/
def mulSt (x : FVec F S8x64x128 .f32) : FVec F S8x64x128 .f32 := Host.dotGeneral dot_S8x64x128_S8x128x128_S8x64x128_2_2_1_1_0_0 none x s
/-- The gradient of the state before the chunk. -/
def dsNew (dv : FVec F S8x64x128 .f32) : FVec F S8x128x128 .f32 :=
  addf (addf (mulf ds (broadcastInDim S8x128x128 ![0, 1, 2] bcast_S8x1x1_S8x128x128_0_1_2 g))
      (transpose S8x128x128 [0, 2, 1] (Host.dotGeneral dot_S8x64x128_S8x64x128_S8x128x128_1_1_2_2_0_0 none d q) transposes_S8x128x128_S8x128x128_0_2_1))
    (transpose S8x128x128 [0, 2, 1] (Host.dotGeneral dot_S8x64x128_S8x64x128_S8x128x128_1_1_2_2_0_0 none (Host.negf dv) w) transposes_S8x128x128_S8x128x128_0_2_1)

end Step

/-! ## A trip of the forward loop -/

section Fwd

variable (X : Valuation τ sig (Elt F))

/-- The counter, read as an index. -/
abbrev fwdIx : ℤ := BitVec.toInt (X (Proc.devRef .tc main_v18_6) (Shape.Idx.first h_S_))
/-- The trip's corrected values. -/
abbrev fwdV : FVec F S8x64x128 .f32 :=
  vNew (rowV (fwdIx X) (X (Proc.devRef .tc main_v18_2))) (rowV (fwdIx X) (X (Proc.devRef .tc main_v18_3))) (X (Proc.devRef .tc main_v18_7))

theorem fwd_state : afterL fwdI (after fwdCond X) (Proc.devRef .tc main_v18_7)
    = sNew (rowV (fwdIx X) (X (Proc.devRef .tc main_v18_1))) (rowG (fwdIx X) (X (Proc.devRef .tc main_v18_4)))
        (X (Proc.devRef .tc main_v18_7)) (fwdV X) := by
  simp only [afterL_cons, afterL_nil]
  after_reads_simp
  simp only [dyn4, dyn2, Matrix.cons_val]
  after_reads_simp
  rfl

theorem fwd_out : afterL fwdI (after fwdCond X) (Proc.devRef .tc main_v18_8)
    = putV (fwdIx X) (X (Proc.devRef .tc main_v18_8)) (oNew (rowV (fwdIx X) (X (Proc.devRef .tc main_v18_0)))
        (rowA (fwdIx X) (X (Proc.devRef .tc main_v18_5))) (X (Proc.devRef .tc main_v18_7)) (fwdV X)) := by
  simp only [afterL_cons, afterL_nil]
  after_reads_simp
  simp only [dyn4, dyn2, dynPut4, Matrix.cons_val]
  after_reads_simp
  rfl

theorem fwd_saved : afterL fwdI (after fwdCond X) (Proc.devRef .tc main_v18_9)
    = putS (fwdIx X) (X (Proc.devRef .tc main_v18_9)) (X (Proc.devRef .tc main_v18_7)) := by
  simp only [afterL_cons, afterL_nil]
  after_reads_simp
  simp only [dyn4, dyn2, dynPut4, dynPut2, Matrix.cons_val]
  after_reads_simp
  rfl

theorem fwd_vals : afterL fwdI (after fwdCond X) (Proc.devRef .tc main_v18_10)
    = putV (fwdIx X) (X (Proc.devRef .tc main_v18_10)) (fwdV X) := by
  simp only [afterL_cons, afterL_nil]
  after_reads_simp
  simp only [dyn4, dyn2, dynPut4, dynPut2, Matrix.cons_val]
  after_reads_simp
  rfl

theorem fwd_decay : afterL fwdI (after fwdCond X) (Proc.devRef .tc main_v18_11)
    = putH (fwdIx X) (X (Proc.devRef .tc main_v18_11)) (rowG (fwdIx X) (X (Proc.devRef .tc main_v18_4))) := by
  simp only [afterL_cons, afterL_nil]
  after_reads_simp
  simp only [dyn4, dyn2, dynPut4, dynPut2, Matrix.cons_val]
  after_reads_simp
  rfl

end Fwd

/-! ## A trip of the gradient's loop -/

section Bwd

variable (X : Valuation τ sig (Elt F))

/-- The counter's chunk, `128 − k − 1`, read as an index. -/
abbrev bwdIx : ℤ := BitVec.toInt (subi (subi (constantI S_ 32 128#32) (X (Proc.devRef .tc main_v31_8))) (constantI S_ 32 1#32) (Shape.Idx.first h_S_))
/-- The chunk's gradient of the output, its state before, `w`, `q`, corrected values, scores, decay and `k`. -/
abbrev bD : FVec F S8x64x128 .f32 := rowV (bwdIx X) (X (Proc.devRef .tc main_v31_0))
abbrev bS : FVec F S8x128x128 .f32 := rowS (bwdIx X) (X (Proc.devRef .tc main_v31_1))
abbrev bW : FVec F S8x64x128 .f32 := rowV (bwdIx X) (X (Proc.devRef .tc main_v31_2))
abbrev bQ : FVec F S8x64x128 .f32 := rowV (bwdIx X) (X (Proc.devRef .tc main_v31_3))
abbrev bV : FVec F S8x64x128 .f32 := rowV (bwdIx X) (X (Proc.devRef .tc main_v31_4))
abbrev bA : FVec F S8x64x64 .f32 := rowA (bwdIx X) (X (Proc.devRef .tc main_v31_5))
abbrev bG : FVec F S8x1x1 .f32 := rowH (bwdIx X) (X (Proc.devRef .tc main_v31_6))
abbrev bK : FVec F S8x64x128 .f32 := rowV (bwdIx X) (X (Proc.devRef .tc main_v31_7))
/-- The gradient of the state after the chunk. -/
abbrev bDS : FVec F S8x128x128 .f32 := X (Proc.devRef .tc main_v31_9)
/-- The trip's gradient of the corrected values. -/
abbrev bDV : FVec F S8x64x128 .f32 := dvNew (bK X) (bA X) (bD X) (bDS X)

theorem bwd_state : afterL bwdI (after bwdCond X) (Proc.devRef .tc main_v31_9)
    = dsNew (bQ X) (bW X) (bG X) (bD X) (bDS X) (bDV X) := by
  simp only [afterL_cons, afterL_nil]
  after_reads_simp
  simp only [dyn4, dyn2, dynPut4, dynPut2, Matrix.cons_val]
  after_reads_simp
  rfl

theorem bwd_dq : afterL bwdI (after bwdCond X) (Proc.devRef .tc main_v31_10)
    = putV (bwdIx X) (X (Proc.devRef .tc main_v31_10)) (mulSt (bS X) (bD X)) := by
  simp only [afterL_cons, afterL_nil]
  after_reads_simp
  simp only [dyn4, dyn2, dynPut4, dynPut2, Matrix.cons_val]
  after_reads_simp
  rfl

theorem bwd_dk : afterL bwdI (after bwdCond X) (Proc.devRef .tc main_v31_11)
    = putV (bwdIx X) (X (Proc.devRef .tc main_v31_11)) (dkNew (bV X) (bDS X)) := by
  simp only [afterL_cons, afterL_nil]
  after_reads_simp
  simp only [dyn4, dyn2, dynPut4, dynPut2, Matrix.cons_val]
  after_reads_simp
  rfl

theorem bwd_du : afterL bwdI (after bwdCond X) (Proc.devRef .tc main_v31_12)
    = putV (bwdIx X) (X (Proc.devRef .tc main_v31_12)) (bDV X) := by
  simp only [afterL_cons, afterL_nil]
  after_reads_simp
  simp only [dyn4, dyn2, dynPut4, dynPut2, Matrix.cons_val]
  after_reads_simp
  rfl

theorem bwd_dw : afterL bwdI (after bwdCond X) (Proc.devRef .tc main_v31_13)
    = putV (bwdIx X) (X (Proc.devRef .tc main_v31_13)) (mulSt (bS X) (Host.negf (bDV X))) := by
  simp only [afterL_cons, afterL_nil]
  after_reads_simp
  simp only [dyn4, dyn2, dynPut4, dynPut2, Matrix.cons_val]
  after_reads_simp
  rfl

theorem bwd_dg : afterL bwdI (after bwdCond X) (Proc.devRef .tc main_v31_14)
    = putG (bwdIx X) (X (Proc.devRef .tc main_v31_14)) (dgNew (bS X) (bDS X)) := by
  simp only [afterL_cons, afterL_nil]
  after_reads_simp
  simp only [dyn4, dyn2, dynPut4, dynPut2, Matrix.cons_val]
  after_reads_simp
  rfl

theorem bwd_da : afterL bwdI (after bwdCond X) (Proc.devRef .tc main_v31_15)
    = putA (bwdIx X) (X (Proc.devRef .tc main_v31_15)) (daNew (bD X) (bV X)) := by
  simp only [afterL_cons, afterL_nil]
  after_reads_simp
  simp only [dyn4, dyn2, dynPut4, dynPut2, Matrix.cons_val]
  after_reads_simp
  rfl

end Bwd

end Cert.ReferenceIdeal.Gdn
-- ==== Proof.RefIdeal.lean ====
module

public import proofs.«01_k».proof.Proof.RefTrip
public import proofs.«01_k».proof.Proof.Spec
public import Idealize.ShloMosaic.Lib.Pointwise

/-! # The reference's steps over the extended reals

    Each step's function of a trip, read at an index: at finite operands it is the real function of `Spec`. -/

@[expose] public section
noncomputable section

set_option maxRecDepth 16384

namespace Cert.ReferenceIdeal.Gdn

open Cert.ReferenceIdeal Cert.ReferenceIdeal.Gen
open Idealize.ShloMosaic
open _root_.Gdn (Mat sum_coe)

/-! ## Rows of a stack -/

section Rows

variable {α : Type} {n p q r : ℕ}

/-- The start of a one-row window at row `j`: the row, and zero on the other axes. -/
theorem start_row (j : Fin n) (h : (⟨4, ![n, p, q, r]⟩ : Shape).Slices (fun _ => 0) ⟨4, ![1, p, q, r]⟩) (a : Fin 4) :
    Host.clampedStart ⟨4, ![n, p, q, r]⟩ ⟨4, ![1, p, q, r]⟩ h.1 ![(j.val : ℤ), 0, 0, 0] a = (![j.val, 0, 0, 0] : Fin 4 → ℕ) a := by
  refine Host.clampedStart_of_le (s := ⟨4, ![n, p, q, r]⟩) (t := ⟨4, ![1, p, q, r]⟩) h.1 ![(j.val : ℤ), 0, 0, 0] a _ ?_ ?_
  · fin_cases a <;> rfl
  · have := j.isLt
    fin_cases a
    · exact this
    · exact (Nat.zero_add p).le
    · exact (Nat.zero_add q).le
    · exact (Nat.zero_add r).le

/-- A slice of one row is the row. -/
theorem slice4_row (A : (⟨4, ![n, p, q, r]⟩ : Shape).Idx → α) (j : Fin n) (h : (⟨4, ![n, p, q, r]⟩ : Shape).Slices (fun _ => 0) ⟨4, ![1, p, q, r]⟩)
    (x : Fin p) (y : Fin q) (z : Fin r) : slice4 ⟨4, ![1, p, q, r]⟩ A (j.val : ℤ) 0 0 0 h (ix4 0 x y z) = A (ix4 j x y z) := by
  have e := start_row j h
  rw [slice4, Host.dynamicSlice_apply]
  refine congrArg A (funext fun a => Fin.ext ?_)
  show Host.clampedStart ⟨4, ![n, p, q, r]⟩ ⟨4, ![1, p, q, r]⟩ h.1 ![(j.val : ℤ), 0, 0, 0] a + (ix4 (0 : Fin 1) x y z a).val = (ix4 j x y z a).val
  rw [e a]
  fin_cases a
  · rfl
  · exact Nat.zero_add x.val
  · exact Nat.zero_add y.val
  · exact Nat.zero_add z.val

/-- A stack with one row replaced. -/
theorem put4_row (A : (⟨4, ![n, p, q, r]⟩ : Shape).Idx → α) (v : (⟨4, ![1, p, q, r]⟩ : Shape).Idx → α) (j : Fin n)
    (h : (⟨4, ![n, p, q, r]⟩ : Shape).Slices (fun _ => 0) ⟨4, ![1, p, q, r]⟩) (i : Fin n) (x : Fin p) (y : Fin q) (z : Fin r) :
    put4 A v (j.val : ℤ) 0 0 0 h (ix4 i x y z) = if i = j then v (ix4 0 x y z) else A (ix4 i x y z) := by
  have e := start_row j h
  rw [put4, Host.dynamicUpdateSlice_apply]
  by_cases hij : i = j
  · subst hij
    rw [dif_pos, if_pos rfl]
    · refine congrArg v (funext fun a => Fin.ext ?_)
      show (ix4 i x y z a).val - Host.clampedStart ⟨4, ![n, p, q, r]⟩ ⟨4, ![1, p, q, r]⟩ h.1 ![(i.val : ℤ), 0, 0, 0] a = (ix4 (0 : Fin 1) x y z a).val
      rw [e a]
      fin_cases a
      · exact Nat.sub_self i.val
      · rfl
      · rfl
      · rfl
    · intro a
      rw [e a]
      fin_cases a
      · exact ⟨Nat.le_refl i.val, Nat.lt_succ_self i.val⟩
      · exact ⟨Nat.zero_le _, lt_of_lt_of_eq x.isLt (Nat.zero_add p).symm⟩
      · exact ⟨Nat.zero_le _, lt_of_lt_of_eq y.isLt (Nat.zero_add q).symm⟩
      · exact ⟨Nat.zero_le _, lt_of_lt_of_eq z.isLt (Nat.zero_add r).symm⟩
  · rw [dif_neg, if_neg hij]
    intro H
    have h0 := H 0
    rw [e 0] at h0
    exact hij (Fin.ext (by have h1 : j.val ≤ i.val := h0.1; have h2 : i.val < j.val + 1 := h0.2; omega))

/-- The start of a one-row window of a matrix. -/
theorem start_row2 (j : Fin n) (h : (⟨2, ![n, p]⟩ : Shape).Slices (fun _ => 0) ⟨2, ![1, p]⟩) (a : Fin 2) :
    Host.clampedStart ⟨2, ![n, p]⟩ ⟨2, ![1, p]⟩ h.1 ![(j.val : ℤ), 0] a = (![j.val, 0] : Fin 2 → ℕ) a := by
  refine Host.clampedStart_of_le (s := ⟨2, ![n, p]⟩) (t := ⟨2, ![1, p]⟩) h.1 ![(j.val : ℤ), 0] a _ ?_ ?_
  · fin_cases a <;> rfl
  · have := j.isLt
    fin_cases a
    · exact this
    · exact (Nat.zero_add p).le

theorem slice2_row (A : (⟨2, ![n, p]⟩ : Shape).Idx → α) (j : Fin n) (h : (⟨2, ![n, p]⟩ : Shape).Slices (fun _ => 0) ⟨2, ![1, p]⟩)
    (x : Fin p) : slice2 ⟨2, ![1, p]⟩ A (j.val : ℤ) 0 h (ix2 0 x) = A (ix2 j x) := by
  have e := start_row2 j h
  rw [slice2, Host.dynamicSlice_apply]
  refine congrArg A (funext fun a => Fin.ext ?_)
  show Host.clampedStart ⟨2, ![n, p]⟩ ⟨2, ![1, p]⟩ h.1 ![(j.val : ℤ), 0] a + (ix2 (0 : Fin 1) x a).val = (ix2 j x a).val
  rw [e a]
  fin_cases a
  · rfl
  · exact Nat.zero_add x.val

theorem put2_row (A : (⟨2, ![n, p]⟩ : Shape).Idx → α) (v : (⟨2, ![1, p]⟩ : Shape).Idx → α) (j : Fin n)
    (h : (⟨2, ![n, p]⟩ : Shape).Slices (fun _ => 0) ⟨2, ![1, p]⟩) (i : Fin n) (x : Fin p) :
    put2 A v (j.val : ℤ) 0 h (ix2 i x) = if i = j then v (ix2 0 x) else A (ix2 i x) := by
  have e := start_row2 j h
  rw [put2, Host.dynamicUpdateSlice_apply]
  by_cases hij : i = j
  · subst hij
    rw [dif_pos, if_pos rfl]
    · refine congrArg v (funext fun a => Fin.ext ?_)
      show (ix2 i x a).val - Host.clampedStart ⟨2, ![n, p]⟩ ⟨2, ![1, p]⟩ h.1 ![(i.val : ℤ), 0] a = (ix2 (0 : Fin 1) x a).val
      rw [e a]
      fin_cases a
      · exact Nat.sub_self i.val
      · rfl
    · intro a
      rw [e a]
      fin_cases a
      · exact ⟨Nat.le_refl i.val, Nat.lt_succ_self i.val⟩
      · exact ⟨Nat.zero_le _, lt_of_lt_of_eq x.isLt (Nat.zero_add p).symm⟩
  · rw [dif_neg, if_neg hij]
    intro H
    have h0 := H 0
    rw [e 0] at h0
    exact hij (Fin.ext (by have h1 : j.val ≤ i.val := h0.1; have h2 : i.val < j.val + 1 := h0.2; omega))

end Rows

section Stack

variable (j n : Fin 128) (h : Fin 8)

theorem rowV_apply (A : FVec Ideal S128x8x64x128 .f32) (r : Fin 64) (b : Fin 128) :
    rowV (F := Ideal) (j.val : ℤ) A (ix3 h r b) = A (ix4 j h r b) := by
  simp only [rowV, slice4_row, pointwise]
theorem rowA_apply (A : FVec Ideal S128x8x64x64 .f32) (r : Fin 64) (b : Fin 64) :
    rowA (F := Ideal) (j.val : ℤ) A (ix3 h r b) = A (ix4 j h r b) := by
  simp only [rowA, slice4_row, pointwise]
theorem rowS_apply (A : FVec Ideal S128x8x128x128 .f32) (r : Fin 128) (b : Fin 128) :
    rowS (F := Ideal) (j.val : ℤ) A (ix3 h r b) = A (ix4 j h r b) := by
  simp only [rowS, slice4_row, pointwise]
theorem rowH_apply (A : FVec Ideal S128x8x1x1 .f32) (r : Fin 1) (b : Fin 1) :
    rowH (F := Ideal) (j.val : ℤ) A (ix3 h r b) = A (ix4 j h r b) := by
  obtain rfl : r = 0 := Subsingleton.elim _ _
  obtain rfl : b = 0 := Subsingleton.elim _ _
  simp only [rowH, slice4_row, pointwise]
theorem rowG_apply (A : FVec Ideal S128x8 .f32) (r : Fin 1) (b : Fin 1) :
    rowG (F := Ideal) (j.val : ℤ) A (ix3 h r b) = A (ix2 j h) := by
  simp only [rowG, slice2_row, pointwise]
  exact slice2_row A j sliceFits_S128x8_S1x8 h
theorem putV_apply (A : FVec Ideal S128x8x64x128 .f32) (v : FVec Ideal S8x64x128 .f32) (r : Fin 64) (b : Fin 128) :
    putV (F := Ideal) (j.val : ℤ) A v (ix4 n h r b) = if n = j then v (ix3 h r b) else A (ix4 n h r b) := by
  simp only [putV, put4_row, pointwise]
  rfl
theorem putA_apply (A : FVec Ideal S128x8x64x64 .f32) (v : FVec Ideal S8x64x64 .f32) (r : Fin 64) (b : Fin 64) :
    putA (F := Ideal) (j.val : ℤ) A v (ix4 n h r b) = if n = j then v (ix3 h r b) else A (ix4 n h r b) := by
  simp only [putA, put4_row, pointwise]
  rfl
theorem putS_apply (A : FVec Ideal S128x8x128x128 .f32) (v : FVec Ideal S8x128x128 .f32) (r : Fin 128) (b : Fin 128) :
    putS (F := Ideal) (j.val : ℤ) A v (ix4 n h r b) = if n = j then v (ix3 h r b) else A (ix4 n h r b) := by
  simp only [putS, put4_row, pointwise]
  rfl
theorem putH_apply (A : FVec Ideal S128x8x1x1 .f32) (v : FVec Ideal S8x1x1 .f32) :
    putH (F := Ideal) (j.val : ℤ) A v (ix4 n h 0 0) = if n = j then v (ix3 h 0 0) else A (ix4 n h 0 0) := by
  simp only [putH, put4_row, pointwise]
  rfl
theorem putG_apply (A : FVec Ideal S128x8 .f32) (v : FVec Ideal S8 .f32) :
    putG (F := Ideal) (j.val : ℤ) A v (ix2 n h) = if n = j then v (ix1 h) else A (ix2 n h) := by
  simp only [putG, put2_row, pointwise]
  rfl

end Stack

/-! ## The steps at finite operands -/

theorem eight_ne_one : ((8 : ℕ) = 1) = False := by decide

section Steps

variable {q k u w d v dv : FVec Ideal S8x64x128 .f32} {a : FVec Ideal S8x64x64 .f32} {g : FVec Ideal S8x1x1 .f32}
  {s ds : FVec Ideal S8x128x128 .f32}
  {Q K U W D V DV : Fin 8 → Mat 64 128} {A : Fin 8 → Mat 64 64} {G : Fin 8 → ℝ} {S DS : Fin 8 → Mat 128 128}
  (hq : ∀ h r b, q (ix3 h r b) = ((Q h r b : ℝ) : EReal)) (hk : ∀ h r b, k (ix3 h r b) = ((K h r b : ℝ) : EReal))
  (hu : ∀ h r b, u (ix3 h r b) = ((U h r b : ℝ) : EReal)) (hw : ∀ h r b, w (ix3 h r b) = ((W h r b : ℝ) : EReal))
  (hd : ∀ h r b, d (ix3 h r b) = ((D h r b : ℝ) : EReal)) (hv : ∀ h r b, v (ix3 h r b) = ((V h r b : ℝ) : EReal))
  (hdv : ∀ h r b, dv (ix3 h r b) = ((DV h r b : ℝ) : EReal)) (ha : ∀ h r b, a (ix3 h r b) = ((A h r b : ℝ) : EReal))
  (hg : ∀ h r b, g (ix3 h r b) = ((G h : ℝ) : EReal)) (hs : ∀ h r b, s (ix3 h r b) = ((S h r b : ℝ) : EReal))
  (hds : ∀ h r b, ds (ix3 h r b) = ((DS h r b : ℝ) : EReal))
  (h : Fin 8)

include hu hw hs in
theorem vNew_coe (r : Fin 64) (b : Fin 128) : vNew u w s (ix3 h r b) = ((Gdn.vn (U h) (W h) (S h) r b : ℝ) : EReal) := by
  simp only [vNew, pointwise, hu, hw, hs, ← EReal.coe_mul, sum_coe, zero_add, ← EReal.coe_sub, Gdn.vn]
include hq hs ha hv in
theorem oNew_coe (r : Fin 64) (b : Fin 128) : oNew q a s v (ix3 h r b) = ((Gdn.out (Q h) (V h) (A h) (S h) r b : ℝ) : EReal) := by
  simp only [oNew, pointwise, hq, hs, ha, hv, ← EReal.coe_mul, sum_coe, zero_add, ← EReal.coe_add, Gdn.out]
include hk hg hs hv in
theorem sNew_coe (r b : Fin 128) : sNew k g s v (ix3 h r b) = ((Gdn.next (K h) (V h) (G h) (S h) r b : ℝ) : EReal) := by
  simp only [sNew, pointwise, eight_ne_one, ↓reduceDIte, hk, hg, hs, hv, ← EReal.coe_mul, sum_coe, zero_add, ← EReal.coe_add, Gdn.next]
include hk ha hd hds in
theorem dvNew_coe (r : Fin 64) (b : Fin 128) : dvNew k a d ds (ix3 h r b) = ((Gdn.dval (K h) (D h) (A h) (DS h) r b : ℝ) : EReal) := by
  simp only [dvNew, pointwise, hk, ha, hd, hds, ← EReal.coe_mul, sum_coe, zero_add, ← EReal.coe_add, Gdn.dval]
  refine congrArg _ ((add_comm _ _).trans (congrArg₂ _ ?_ ?_)) <;> exact Finset.sum_congr rfl fun _ _ => mul_comm _ _
include hv hds in
theorem dkNew_coe (r : Fin 64) (b : Fin 128) : dkNew v ds (ix3 h r b) = ((Gdn.mulT (V h) (DS h) r b : ℝ) : EReal) := by
  simp only [dkNew, pointwise, hv, hds, ← EReal.coe_mul, sum_coe, zero_add, Gdn.mulT]
  exact congrArg _ (Finset.sum_congr rfl fun _ _ => mul_comm _ _)
include hd hs in
theorem mulSt_coe (r : Fin 64) (b : Fin 128) : mulSt s d (ix3 h r b) = ((Gdn.mulT (D h) (S h) r b : ℝ) : EReal) := by
  simp only [mulSt, pointwise, hd, hs, ← EReal.coe_mul, sum_coe, zero_add, Gdn.mulT]
include hdv hs in
theorem mulSt_neg_coe (r : Fin 64) (b : Fin 128) : mulSt s (Host.negf dv) (ix3 h r b) = ((- Gdn.mulT (DV h) (S h) r b : ℝ) : EReal) := by
  simp only [mulSt, pointwise, hdv, hs, ← EReal.coe_neg, ← EReal.coe_mul, sum_coe, zero_add, Gdn.mulT, neg_mul, Finset.sum_neg_distrib]
include hd hv in
theorem daNew_coe (i j : Fin 64) : daNew d v (ix3 h i j) = ((Gdn.dscore (D h) (V h) i j : ℝ) : EReal) := by
  simp only [daNew, pointwise, hd, hv, ← EReal.coe_mul, sum_coe, zero_add, Gdn.dscore]
include hs hds in
theorem dgNew_coe : dgNew s ds (ix1 h) = ((Gdn.ddecay (S h) (DS h) : ℝ) : EReal) := by
  simp only [dgNew, pointwise, hs, hds, ← EReal.coe_mul, sum_coe, zero_add, Gdn.ddecay, Finset.univ_unique, Finset.sum_singleton]
include hq hw hg hd hds hdv in
theorem dsNew_coe (r b : Fin 128) : dsNew q w g d ds dv (ix3 h r b) = ((Gdn.prev (Q h) (W h) (D h) (DV h) (G h) (DS h) r b : ℝ) : EReal) := by
  simp only [dsNew, pointwise, eight_ne_one, ↓reduceDIte, hq, hw, hg, hd, hds, hdv, ← EReal.coe_neg, ← EReal.coe_mul, sum_coe, zero_add, ← EReal.coe_add, Gdn.prev]
  refine congrArg _ ?_
  rw [sub_eq_add_neg, ← Finset.sum_neg_distrib]
  refine congrArg₂ _ (congrArg₂ _ rfl ?_) ?_ <;> exact Finset.sum_congr rfl fun _ _ => by ring

end Steps

end Cert.ReferenceIdeal.Gdn
-- ==== Proof.RefEntry.lean ====
module

public import proofs.«01_k».proof.Proof.RefIdeal
public import proofs.«01_k».proof.Proof.Layout

/-! # The reference before, between and after its loops

    What the loops start from and what the results are made of, read at an index over the extended reals; and the buffers each
    stretch leaves alone. -/

@[expose] public section
noncomputable section

set_option maxRecDepth 16384

namespace Cert.ReferenceIdeal.Gdn

open Cert.ReferenceIdeal Cert.ReferenceIdeal.Gen
open Idealize.ShloMosaic Idealize.ShloMosaic.TcCoe Idealize.ShloMosaic.Tactic
open Idealize.ShloMosaic.StableHlo
open _root_.Gdn (rowIx colIx wide_cut wide_join score_cut score_join rowIx_val)

/-! ## What a stretch leaves alone -/

section Keep

variable {F : FTy → Type} [FloatOps F] (X : Valuation τ sig (Elt F))

/-- The arguments. -/
abbrev argRefs : List (Ref sig .tc) := [main_arg0, main_arg1, main_arg2, main_arg3, main_arg4, main_arg5, main_arg6]
/-- What the first loop does not write and is read later. -/
abbrev fwdKept : List (Ref sig .tc) := argRefs ++ [main_v18_0, main_v18_1, main_v18_2, main_v18_3, main_v18_4, main_v18_5,
  main_v7, main_v9, main_v13, main_v4_0, main_v4_1]
/-- What the stretch between the loops does not write and is read later. -/
abbrev midKept : List (Ref sig .tc) := argRefs ++ [main_v4_1]
/-- What the second loop does not write and is read later. -/
abbrev bwdKept : List (Ref sig .tc) := argRefs ++ [main_v31_0, main_v31_1, main_v31_2, main_v31_3, main_v31_4, main_v31_5, main_v31_6,
  main_v31_7, main_v4_1, main_v20]
/-- What the last stretch does not write and is a result or an argument. -/
abbrev postKept : List (Ref sig .tc) := argRefs ++ [main_v20, main_v31_14]

theorem pre_keep : ∀ b ∈ argRefs, afterL preI X (Proc.devRef .tc b) = X (Proc.devRef .tc b) := by
  intro b hb
  simp only [List.mem_cons, List.not_mem_nil, or_false] at hb
  simp only [afterL_cons, afterL_nil]
  rcases hb with rfl | rfl | rfl | rfl | rfl | rfl | rfl <;> after_reads_simp

theorem fwd_keep : ∀ b ∈ fwdKept, afterL fwdI (after fwdCond X) (Proc.devRef .tc b) = X (Proc.devRef .tc b) := by
  intro b hb
  simp only [List.mem_append, List.mem_cons, List.not_mem_nil, or_false] at hb
  simp only [afterL_cons, afterL_nil]
  rcases hb with (rfl | rfl | rfl | rfl | rfl | rfl | rfl) | (rfl | rfl | rfl | rfl | rfl | rfl | rfl | rfl | rfl | rfl | rfl) <;> after_reads_simp

theorem fwd_cond_keep : ∀ b ∈ fwdKept ++ [main_v18_7, main_v18_8, main_v18_9, main_v18_10, main_v18_11], after fwdCond X (Proc.devRef .tc b) = X (Proc.devRef .tc b) := by
  intro b hb
  simp only [List.mem_append, List.mem_cons, List.not_mem_nil, or_false] at hb
  rcases hb with ((rfl | rfl | rfl | rfl | rfl | rfl | rfl) | (rfl | rfl | rfl | rfl | rfl | rfl | rfl | rfl | rfl | rfl | rfl)) | (rfl | rfl | rfl | rfl | rfl) <;> after_reads_simp

theorem mid_keep : ∀ b ∈ midKept, afterL midI X (Proc.devRef .tc b) = X (Proc.devRef .tc b) := by
  intro b hb
  simp only [List.mem_append, List.mem_cons, List.not_mem_nil, or_false] at hb
  simp only [afterL_cons, afterL_nil]
  rcases hb with (rfl | rfl | rfl | rfl | rfl | rfl | rfl) | rfl <;> after_reads_simp

theorem bwd_keep : ∀ b ∈ bwdKept, afterL bwdI (after bwdCond X) (Proc.devRef .tc b) = X (Proc.devRef .tc b) := by
  intro b hb
  simp only [List.mem_append, List.mem_cons, List.not_mem_nil, or_false] at hb
  simp only [afterL_cons, afterL_nil]
  rcases hb with (rfl | rfl | rfl | rfl | rfl | rfl | rfl) | (rfl | rfl | rfl | rfl | rfl | rfl | rfl | rfl | rfl | rfl) <;> after_reads_simp

theorem bwd_cond_keep : ∀ b ∈ bwdKept ++ [main_v31_9, main_v31_10, main_v31_11, main_v31_12, main_v31_13, main_v31_14, main_v31_15],
    after bwdCond X (Proc.devRef .tc b) = X (Proc.devRef .tc b) := by
  intro b hb
  simp only [List.mem_append, List.mem_cons, List.not_mem_nil, or_false] at hb
  rcases hb with ((rfl | rfl | rfl | rfl | rfl | rfl | rfl) | (rfl | rfl | rfl | rfl | rfl | rfl | rfl | rfl | rfl | rfl)) | (rfl | rfl | rfl | rfl | rfl | rfl | rfl) <;> after_reads_simp

theorem post_keep : ∀ b ∈ postKept, afterL postI X (Proc.devRef .tc b) = X (Proc.devRef .tc b) := by
  intro b hb
  simp only [List.mem_append, List.mem_cons, List.not_mem_nil, or_false] at hb
  simp only [afterL_cons, afterL_nil]
  rcases hb with (rfl | rfl | rfl | rfl | rfl | rfl | rfl) | (rfl | rfl) <;> after_reads_simp

end Keep

/-! ## Chunks by head, and back -/

section Arrange

variable {F : FTy → Type} [FloatOps F]

/-- An array's chunks, head by head. -/
def cut (A : FVec F S8192x1024 .f32) : FVec F S128x8x64x128 .f32 :=
  transpose S128x8x64x128 [0, 2, 1, 3] (shapeCast S128x64x8x128 A shapeCasts_S8192x1024_S128x64x8x128) transposes_S128x64x8x128_S128x8x64x128_0_2_1_3
/-- The array of these chunks. -/
def join (A : FVec F S128x8x64x128 .f32) : FVec F S8192x1024 .f32 :=
  shapeCast S8192x1024 (transpose S128x64x8x128 [0, 2, 1, 3] A transposes_S128x8x64x128_S128x64x8x128_0_2_1_3) shapeCasts_S128x64x8x128_S8192x1024
/-- The lower triangle of a chunk. -/
def tri : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))
/-- The lower triangle of every chunk. -/
def tris : IVec S128x8x64x64 1 := broadcastInDim S128x8x64x64 ![2, 3] bcast_S64x64_S128x8x64x64_2_3 tri
def zeroA : FVec F S128x8x64x64 .f32 := broadcastInDim S128x8x64x64 ![] bcast_S_S128x8x64x64 (constant S_ .f32 0x00000000#32)
/-- The scores under their triangles. -/
def scores (A : FVec F S8x8192x64 .f32) : FVec F S128x8x64x64 .f32 :=
  select tris (transpose S128x8x64x64 [1, 0, 2, 3] (shapeCast S8x128x64x64 A shapeCasts_S8x8192x64_S8x128x64x64) transposes_S8x128x64x64_S128x8x64x64_1_0_2_3) zeroA
/-- The gradient of the scores, as the scores are laid out. -/
def unscores (A : FVec F S128x8x64x64 .f32) : FVec F S8x8192x64 .f32 :=
  shapeCast S8x8192x64 (transpose S8x128x64x64 [1, 0, 2, 3] A transposes_S128x8x64x64_S8x128x64x64_1_0_2_3) shapeCasts_S8x128x64x64_S8x8192x64

variable (X : Valuation τ sig (Elt F))

theorem pre_q : afterL preI X (Proc.devRef .tc main_v18_0) = cut (X (Proc.devRef .tc main_arg2)) := by
  simp only [afterL_cons, afterL_nil]; after_reads_simp; rfl
theorem pre_k : afterL preI X (Proc.devRef .tc main_v18_1) = cut (X (Proc.devRef .tc main_arg3)) := by
  simp only [afterL_cons, afterL_nil]; after_reads_simp; rfl
theorem pre_u : afterL preI X (Proc.devRef .tc main_v18_2) = cut (X (Proc.devRef .tc main_arg0)) := by
  simp only [afterL_cons, afterL_nil]; after_reads_simp; rfl
theorem pre_w : afterL preI X (Proc.devRef .tc main_v18_3) = cut (X (Proc.devRef .tc main_arg1)) := by
  simp only [afterL_cons, afterL_nil]; after_reads_simp; rfl
theorem pre_g : afterL preI X (Proc.devRef .tc main_v18_4) = X (Proc.devRef .tc main_arg5) := by
  simp only [afterL_cons, afterL_nil]; after_reads_simp; rfl
theorem pre_a : afterL preI X (Proc.devRef .tc main_v18_5) = scores (X (Proc.devRef .tc main_arg4)) := by
  simp only [afterL_cons, afterL_nil]; after_reads_simp; rfl
theorem pre_s : afterL preI X (Proc.devRef .tc main_v18_7) = broadcastInDim S8x128x128 ![] bcast_S_S8x128x128 (constant S_ .f32 0x00000000#32) := by
  simp only [afterL_cons, afterL_nil]; after_reads_simp; rfl
theorem pre_q' : afterL preI X (Proc.devRef .tc main_v7) = cut (X (Proc.devRef .tc main_arg2)) := by
  simp only [afterL_cons, afterL_nil]; after_reads_simp; rfl
theorem pre_k' : afterL preI X (Proc.devRef .tc main_v9) = cut (X (Proc.devRef .tc main_arg3)) := by
  simp only [afterL_cons, afterL_nil]; after_reads_simp; rfl
theorem pre_w' : afterL preI X (Proc.devRef .tc main_v13) = cut (X (Proc.devRef .tc main_arg1)) := by
  simp only [afterL_cons, afterL_nil]; after_reads_simp; rfl
theorem pre_a' : afterL preI X (Proc.devRef .tc main_v4_0) = scores (X (Proc.devRef .tc main_arg4)) := by
  simp only [afterL_cons, afterL_nil]; after_reads_simp; rfl
theorem pre_tri : afterL preI X (Proc.devRef .tc main_v4_1) = tris := by
  simp only [afterL_cons, afterL_nil]; after_reads_simp; rfl

theorem mid_o : afterL midI X (Proc.devRef .tc main_v20) = join (X (Proc.devRef .tc main_v18_8)) := by
  simp only [afterL_cons, afterL_nil]; after_reads_simp; rfl
theorem mid_d : afterL midI X (Proc.devRef .tc main_v31_0) = cut (X (Proc.devRef .tc main_arg6)) := by
  simp only [afterL_cons, afterL_nil]; after_reads_simp; rfl
theorem mid_s : afterL midI X (Proc.devRef .tc main_v31_1) = X (Proc.devRef .tc main_v18_9) := by
  simp only [afterL_cons, afterL_nil]; after_reads_simp; rfl
theorem mid_w : afterL midI X (Proc.devRef .tc main_v31_2) = X (Proc.devRef .tc main_v13) := by
  simp only [afterL_cons, afterL_nil]; after_reads_simp; rfl
theorem mid_q : afterL midI X (Proc.devRef .tc main_v31_3) = X (Proc.devRef .tc main_v7) := by
  simp only [afterL_cons, afterL_nil]; after_reads_simp; rfl
theorem mid_v : afterL midI X (Proc.devRef .tc main_v31_4) = X (Proc.devRef .tc main_v18_10) := by
  simp only [afterL_cons, afterL_nil]; after_reads_simp; rfl
theorem mid_a : afterL midI X (Proc.devRef .tc main_v31_5) = X (Proc.devRef .tc main_v4_0) := by
  simp only [afterL_cons, afterL_nil]; after_reads_simp; rfl
theorem mid_g : afterL midI X (Proc.devRef .tc main_v31_6) = X (Proc.devRef .tc main_v18_11) := by
  simp only [afterL_cons, afterL_nil]; after_reads_simp; rfl
theorem mid_k : afterL midI X (Proc.devRef .tc main_v31_7) = X (Proc.devRef .tc main_v9) := by
  simp only [afterL_cons, afterL_nil]; after_reads_simp; rfl
theorem mid_ds : afterL midI X (Proc.devRef .tc main_v31_9) = broadcastInDim S8x128x128 ![] bcast_S_S8x128x128 (constant S_ .f32 0x00000000#32) := by
  simp only [afterL_cons, afterL_nil]; after_reads_simp; rfl

theorem post_w : afterL postI X (Proc.devRef .tc main_v33) = join (X (Proc.devRef .tc main_v31_13)) := by
  simp only [afterL_cons, afterL_nil]; after_reads_simp; rfl
theorem post_u : afterL postI X (Proc.devRef .tc main_v35) = join (X (Proc.devRef .tc main_v31_12)) := by
  simp only [afterL_cons, afterL_nil]; after_reads_simp; rfl
theorem post_k : afterL postI X (Proc.devRef .tc main_v37) = join (X (Proc.devRef .tc main_v31_11)) := by
  simp only [afterL_cons, afterL_nil]; after_reads_simp; rfl
theorem post_q : afterL postI X (Proc.devRef .tc main_v39) = join (X (Proc.devRef .tc main_v31_10)) := by
  simp only [afterL_cons, afterL_nil]; after_reads_simp; rfl
theorem post_a : afterL postI X (Proc.devRef .tc main_v42)
    = unscores (select (X (Proc.devRef .tc main_v4_1)) (X (Proc.devRef .tc main_v31_15)) zeroA) := by
  simp only [afterL_cons, afterL_nil]; after_reads_simp; rfl

end Arrange

/-! ## Read at an index -/

section At

variable (n : Fin 128) (h : Fin 8) (r : Fin 64) (b : Fin 128) (i j : Fin 64)

theorem cut_apply (A : FVec Ideal S8192x1024 .f32) : cut A (ix4 n h r b) = A (ix2 (rowIx n r) (colIx h b)) := by
  simp only [cut, pointwise]
  exact congrArg A (congrArg₂ ix2 (Fin.ext (by rw [rowIx_val]; exact congrArg (· + r.val) (Nat.mul_comm _ _))) (Fin.ext (congrArg (· + b.val) (Nat.mul_comm _ _))))
theorem join_apply (A : FVec Ideal S128x8x64x128 .f32) : join A (ix2 (rowIx n r) (colIx h b)) = A (ix4 n h r b) := by
  rw [join]
  refine (wide_join n r h b _ _).trans ?_
  simp only [pointwise]
theorem tri_apply : tri (ix2 i j) = 1#1 ↔ j ≤ i := by
  revert i j; decide +kernel
theorem tris_apply : tris (ix4 n h i j) = tri (ix2 i j) := by
  simp only [tris, pointwise]
  rfl
theorem select_tris (A : FVec Ideal S128x8x64x64 .f32) : select tris A zeroA (ix4 n h i j) = if j ≤ i then A (ix4 n h i j) else (0 : EReal) := by
  simp only [select, tris_apply, zeroA, pointwise]
  by_cases hij : j ≤ i
  · rw [if_pos hij, (tri_apply i j).2 hij]; rfl
  · have h0 : tri (ix2 i j) = 0#1 := by
      rcases BitVec.eq_zero_or_eq_one (tri (ix2 i j)) with h' | h'
      · exact h'
      · exact absurd ((tri_apply i j).1 h') hij
    rw [if_neg hij, h0]; rfl
theorem scores_apply (A : FVec Ideal S8x8192x64 .f32) : scores A (ix4 n h i j) = if j ≤ i then A (ix3 h (rowIx n i) j) else (0 : EReal) := by
  have e : (ix3 h (⟨n.val * 64 + i.val, by omega⟩ : Fin 8192) j : S8x8192x64.Idx) = ix3 h (rowIx n i) j :=
    congrArg (fun t => ix3 h t j) (Fin.ext (by rw [rowIx_val]; exact congrArg (· + i.val) (Nat.mul_comm _ _)))
  rw [scores, select_tris, ← e]
  simp only [pointwise]
theorem unscores_apply (A : FVec Ideal S128x8x64x64 .f32) : unscores A (ix3 h (rowIx n i) j) = A (ix4 n h i j) := by
  rw [unscores]
  refine (score_join n h i j _ _).trans ?_
  simp only [pointwise]

end At

end Cert.ReferenceIdeal.Gdn
-- ==== Proof.RefValue.lean ====
module

public import proofs.«01_k».proof.Proof.RefEntry

/-! # The reference's results over the extended reals

    At finite arguments the two loops carry the recursions of `Spec`: after `k` trips the first holds chunks `0 … k − 1` and the
    state before chunk `k`, the second the gradients of chunks `128 − k … 127` and of the state after chunk `127 − k`. -/

@[expose] public section
noncomputable section

set_option maxRecDepth 16384

namespace Cert.ReferenceIdeal.Gdn

open Cert.ReferenceIdeal Cert.ReferenceIdeal.Gen
open Idealize.ShloMosaic Idealize.ShloMosaic.TcCoe Idealize.ShloMosaic.Tactic
open Idealize.ShloMosaic.StableHlo
open _root_.Gdn (Ins Mat HoldsWide HoldsScore HoldsDecay insOf rowIx colIx chIx chIx_val)

/-! ## Stacks that hold real families -/

/-- Row `n`, head `h` of the stack holds `M n h`, for the rows `P` picks. -/
abbrev HoldsV (P : Fin 128 → Prop) (A : FVec Ideal S128x8x64x128 .f32) (M : ℕ → Fin 8 → Mat 64 128) : Prop :=
  ∀ n, P n → ∀ h r b, A (ix4 n h r b) = ((M n h r b : ℝ) : EReal)
abbrev HoldsA (P : Fin 128 → Prop) (A : FVec Ideal S128x8x64x64 .f32) (M : ℕ → Fin 8 → Mat 64 64) : Prop :=
  ∀ n, P n → ∀ h r b, A (ix4 n h r b) = ((M n h r b : ℝ) : EReal)
abbrev HoldsS (P : Fin 128 → Prop) (A : FVec Ideal S128x8x128x128 .f32) (M : ℕ → Fin 8 → Mat 128 128) : Prop :=
  ∀ n, P n → ∀ h r b, A (ix4 n h r b) = ((M n h r b : ℝ) : EReal)
abbrev HoldsH (P : Fin 128 → Prop) (A : FVec Ideal S128x8x1x1 .f32) (M : ℕ → Fin 8 → ℝ) : Prop :=
  ∀ n, P n → ∀ h, A (ix4 n h 0 0) = ((M n h : ℝ) : EReal)
abbrev HoldsG (P : Fin 128 → Prop) (A : FVec Ideal S128x8 .f32) (M : ℕ → Fin 8 → ℝ) : Prop :=
  ∀ n, P n → ∀ h, A (ix2 n h) = ((M n h : ℝ) : EReal)
abbrev HoldsSt (A : FVec Ideal S8x128x128 .f32) (M : Fin 8 → Mat 128 128) : Prop := ∀ h x b, A (ix3 h x b) = ((M h x b : ℝ) : EReal)

abbrev all : Fin 128 → Prop := fun _ => True
/-- The rows of a stack one trip further on: the trip's own, and those before it. -/
theorem step_rows {P Q : Fin 128 → Prop} {j : Fin 128} (hPQ : ∀ n, Q n → n = j ∨ P n) {n : Fin 128} (h : Q n) : n = j ∨ (n ≠ j ∧ P n) := by
  by_cases e : n = j
  · exact .inl e
  · exact .inr ⟨e, (hPQ n h).resolve_left e⟩

section Put

variable {P Q : Fin 128 → Prop} {j : Fin 128} (hPQ : ∀ n, Q n → n = j ∨ P n)
include hPQ

theorem putV_holds {A : FVec Ideal S128x8x64x128 .f32} {v : FVec Ideal S8x64x128 .f32} {M : ℕ → Fin 8 → Mat 64 128} (hA : HoldsV P A M)
    (hv : ∀ h r b, v (ix3 h r b) = ((M j h r b : ℝ) : EReal)) : HoldsV Q (putV (F := Ideal) (j.val : ℤ) A v) M := by
  intro n hn h r b
  rw [putV_apply]
  rcases step_rows hPQ hn with rfl | ⟨hne, hp⟩
  · rw [if_pos rfl, hv]
  · rw [if_neg hne, hA n hp]
theorem putA_holds {A : FVec Ideal S128x8x64x64 .f32} {v : FVec Ideal S8x64x64 .f32} {M : ℕ → Fin 8 → Mat 64 64} (hA : HoldsA P A M)
    (hv : ∀ h r b, v (ix3 h r b) = ((M j h r b : ℝ) : EReal)) : HoldsA Q (putA (F := Ideal) (j.val : ℤ) A v) M := by
  intro n hn h r b
  rw [putA_apply]
  rcases step_rows hPQ hn with rfl | ⟨hne, hp⟩
  · rw [if_pos rfl, hv]
  · rw [if_neg hne, hA n hp]
theorem putS_holds {A : FVec Ideal S128x8x128x128 .f32} {v : FVec Ideal S8x128x128 .f32} {M : ℕ → Fin 8 → Mat 128 128} (hA : HoldsS P A M)
    (hv : ∀ h r b, v (ix3 h r b) = ((M j h r b : ℝ) : EReal)) : HoldsS Q (putS (F := Ideal) (j.val : ℤ) A v) M := by
  intro n hn h r b
  rw [putS_apply]
  rcases step_rows hPQ hn with rfl | ⟨hne, hp⟩
  · rw [if_pos rfl, hv]
  · rw [if_neg hne, hA n hp]
theorem putH_holds {A : FVec Ideal S128x8x1x1 .f32} {v : FVec Ideal S8x1x1 .f32} {M : ℕ → Fin 8 → ℝ} (hA : HoldsH P A M)
    (hv : ∀ h, v (ix3 h 0 0) = ((M j h : ℝ) : EReal)) : HoldsH Q (putH (F := Ideal) (j.val : ℤ) A v) M := by
  intro n hn h
  rw [putH_apply]
  rcases step_rows hPQ hn with rfl | ⟨hne, hp⟩
  · rw [if_pos rfl, hv]
  · rw [if_neg hne, hA n hp]
theorem putG_holds {A : FVec Ideal S128x8 .f32} {v : FVec Ideal S8 .f32} {M : ℕ → Fin 8 → ℝ} (hA : HoldsG P A M)
    (hv : ∀ h, v (ix1 h) = ((M j h : ℝ) : EReal)) : HoldsG Q (putG (F := Ideal) (j.val : ℤ) A v) M := by
  intro n hn h
  rw [putG_apply]
  rcases step_rows hPQ hn with rfl | ⟨hne, hp⟩
  · rw [if_pos rfl, hv]
  · rw [if_neg hne, hA n hp]

end Put

/-! ## The first loop -/

section Fwd

variable (I : Ins)

/-- The first loop's inputs. -/
structure FwdIn (X : Valuation τ sig (Elt Ideal)) : Prop where
  q : HoldsV all (X (Proc.devRef .tc main_v18_0)) I.q
  k : HoldsV all (X (Proc.devRef .tc main_v18_1)) I.k
  u : HoldsV all (X (Proc.devRef .tc main_v18_2)) I.u
  w : HoldsV all (X (Proc.devRef .tc main_v18_3)) I.w
  g : HoldsG all (X (Proc.devRef .tc main_v18_4)) I.g
  a : HoldsA all (X (Proc.devRef .tc main_v18_5)) I.a

/-- What the first loop holds before trip `t`. -/
structure FwdAt (t : ℕ) (X : Valuation τ sig (Elt Ideal)) : Prop extends FwdIn I X where
  ctr : X (Proc.devRef .tc main_v18_6) = fun _ => Scf.iv 0#32 1#32 t
  st : HoldsSt (X (Proc.devRef .tc main_v18_7)) (I.S t)
  o : HoldsV (fun n => n.val < t) (X (Proc.devRef .tc main_v18_8)) I.O
  s : HoldsS (fun n => n.val < t) (X (Proc.devRef .tc main_v18_9)) I.S
  v : HoldsV (fun n => n.val < t) (X (Proc.devRef .tc main_v18_10)) I.V
  gs : HoldsH (fun n => n.val < t) (X (Proc.devRef .tc main_v18_11)) I.g

theorem iv_toInt (j : Fin 128) : BitVec.toInt (Scf.iv 0#32 1#32 j.val) = (j.val : ℤ) := by
  revert j; decide +kernel

variable {I}

theorem fwd_step {X : Valuation τ sig (Elt Ideal)} (j : Fin 128) (H : FwdAt I j.val X) : FwdAt I (j.val + 1) (afterL fwdI (after fwdCond X)) := by
  have hix : fwdIx X = (j.val : ℤ) := by rw [fwdIx, H.ctr]; exact iv_toInt j
  have hu : ∀ h r b, rowV (F := Ideal) (fwdIx X) (X (Proc.devRef .tc main_v18_2)) (ix3 h r b) = ((I.u j h r b : ℝ) : EReal) :=
    fun h r b => by rw [hix, rowV_apply]; exact H.u j trivial h r b
  have hw : ∀ h r b, rowV (F := Ideal) (fwdIx X) (X (Proc.devRef .tc main_v18_3)) (ix3 h r b) = ((I.w j h r b : ℝ) : EReal) :=
    fun h r b => by rw [hix, rowV_apply]; exact H.w j trivial h r b
  have hq : ∀ h r b, rowV (F := Ideal) (fwdIx X) (X (Proc.devRef .tc main_v18_0)) (ix3 h r b) = ((I.q j h r b : ℝ) : EReal) :=
    fun h r b => by rw [hix, rowV_apply]; exact H.q j trivial h r b
  have hk : ∀ h r b, rowV (F := Ideal) (fwdIx X) (X (Proc.devRef .tc main_v18_1)) (ix3 h r b) = ((I.k j h r b : ℝ) : EReal) :=
    fun h r b => by rw [hix, rowV_apply]; exact H.k j trivial h r b
  have ha : ∀ h r b, rowA (F := Ideal) (fwdIx X) (X (Proc.devRef .tc main_v18_5)) (ix3 h r b) = ((I.a j h r b : ℝ) : EReal) :=
    fun h r b => by rw [hix, rowA_apply]; exact H.a j trivial h r b
  have hg : ∀ h r b, rowG (F := Ideal) (fwdIx X) (X (Proc.devRef .tc main_v18_4)) (ix3 h r b) = ((I.g j h : ℝ) : EReal) :=
    fun h r b => by rw [hix, rowG_apply]; exact H.g j trivial h
  have hv : ∀ h r b, fwdV X (ix3 h r b) = ((I.V j h r b : ℝ) : EReal) := fun h r b => vNew_coe hu hw H.st h r b
  have rows : ∀ n : Fin 128, n.val < j.val + 1 → n = j ∨ n.val < j.val := fun n hn => by
    rcases Nat.lt_succ_iff_lt_or_eq.1 hn with h' | h'
    · exact .inr h'
    · exact .inl (Fin.ext h')
  constructor
  · constructor
    · rw [fwd_keep X main_v18_0 (by decide)]; exact H.q
    · rw [fwd_keep X main_v18_1 (by decide)]; exact H.k
    · rw [fwd_keep X main_v18_2 (by decide)]; exact H.u
    · rw [fwd_keep X main_v18_3 (by decide)]; exact H.w
    · rw [fwd_keep X main_v18_4 (by decide)]; exact H.g
    · rw [fwd_keep X main_v18_5 (by decide)]; exact H.a
  · rw [fwd_ctr, H.ctr, Scf.iv_succ]; rfl
  · rw [fwd_state]; exact fun h x b => sNew_coe hk hv hg H.st h x b
  · rw [fwd_out, hix]
    exact putV_holds rows H.o fun h r b => by rw [← hix]; exact oNew_coe hq hv ha H.st h r b
  · rw [fwd_saved, hix]; exact putS_holds rows H.s H.st
  · rw [fwd_vals, hix]; exact putV_holds rows H.v hv
  · rw [fwd_decay, hix]; exact putH_holds rows H.gs fun h => by rw [← hix]; exact hg h 0 0

end Fwd

/-! ## The second loop -/

section Bwd

variable (I : Ins)

/-- The second loop's inputs. -/
structure BwdIn (X : Valuation τ sig (Elt Ideal)) : Prop where
  d : HoldsV all (X (Proc.devRef .tc main_v31_0)) I.d
  s : HoldsS all (X (Proc.devRef .tc main_v31_1)) I.S
  w : HoldsV all (X (Proc.devRef .tc main_v31_2)) I.w
  q : HoldsV all (X (Proc.devRef .tc main_v31_3)) I.q
  v : HoldsV all (X (Proc.devRef .tc main_v31_4)) I.V
  a : HoldsA all (X (Proc.devRef .tc main_v31_5)) I.a
  g : HoldsH all (X (Proc.devRef .tc main_v31_6)) I.g
  k : HoldsV all (X (Proc.devRef .tc main_v31_7)) I.k

/-- What the second loop holds before trip `t`: chunk `n`'s gradients are those of step `127 − n`. -/
structure BwdAt (t : ℕ) (X : Valuation τ sig (Elt Ideal)) : Prop extends BwdIn I X where
  ctr : X (Proc.devRef .tc main_v31_8) = fun _ => Scf.iv 0#32 1#32 t
  st : HoldsSt (X (Proc.devRef .tc main_v31_9)) (I.DS t)
  dq : HoldsV (fun n => 127 - n.val < t) (X (Proc.devRef .tc main_v31_10)) fun n => I.DQ (127 - n)
  dk : HoldsV (fun n => 127 - n.val < t) (X (Proc.devRef .tc main_v31_11)) fun n => I.DK (127 - n)
  du : HoldsV (fun n => 127 - n.val < t) (X (Proc.devRef .tc main_v31_12)) fun n => I.DV (127 - n)
  dw : HoldsV (fun n => 127 - n.val < t) (X (Proc.devRef .tc main_v31_13)) fun n => I.DW (127 - n)
  dg : HoldsG (fun n => 127 - n.val < t) (X (Proc.devRef .tc main_v31_14)) fun n => I.DG (127 - n)
  da : HoldsA (fun n => 127 - n.val < t) (X (Proc.devRef .tc main_v31_15)) fun n => I.DA (127 - n)

/-- The chunk trip `k` takes. -/
def revIx (k : Fin 128) : Fin 128 := ⟨127 - k.val, by omega⟩
theorem rev_toInt (k : Fin 128) : BitVec.toInt (128#32 - Scf.iv 0#32 1#32 k.val - 1#32) = ((revIx k).val : ℤ) := by
  revert k; decide +kernel
theorem rev_rev (k : Fin 128) : 127 - (revIx k).val = k.val := by
  show 127 - (127 - k.val) = k.val
  omega

variable {I}

theorem bwd_step {X : Valuation τ sig (Elt Ideal)} (k : Fin 128) (H : BwdAt I k.val X) : BwdAt I (k.val + 1) (afterL bwdI (after bwdCond X)) := by
  have hix : bwdIx X = ((revIx k).val : ℤ) := by
    rw [bwdIx, H.ctr]; exact rev_toInt k
  have hd : ∀ h r b, bD X (ix3 h r b) = ((I.d (revIx k) h r b : ℝ) : EReal) := fun h r b => by rw [bD, hix, rowV_apply]; exact H.d _ trivial h r b
  have hs : ∀ h r b, bS X (ix3 h r b) = ((I.S (revIx k) h r b : ℝ) : EReal) := fun h r b => by rw [bS, hix, rowS_apply]; exact H.s _ trivial h r b
  have hw : ∀ h r b, bW X (ix3 h r b) = ((I.w (revIx k) h r b : ℝ) : EReal) := fun h r b => by rw [bW, hix, rowV_apply]; exact H.w _ trivial h r b
  have hq : ∀ h r b, bQ X (ix3 h r b) = ((I.q (revIx k) h r b : ℝ) : EReal) := fun h r b => by rw [bQ, hix, rowV_apply]; exact H.q _ trivial h r b
  have hv : ∀ h r b, bV X (ix3 h r b) = ((I.V (revIx k) h r b : ℝ) : EReal) := fun h r b => by rw [bV, hix, rowV_apply]; exact H.v _ trivial h r b
  have ha : ∀ h r b, bA X (ix3 h r b) = ((I.a (revIx k) h r b : ℝ) : EReal) := fun h r b => by rw [bA, hix, rowA_apply]; exact H.a _ trivial h r b
  have hk : ∀ h r b, bK X (ix3 h r b) = ((I.k (revIx k) h r b : ℝ) : EReal) := fun h r b => by rw [bK, hix, rowV_apply]; exact H.k _ trivial h r b
  have hg : ∀ h r b, bG X (ix3 h r b) = ((I.g (revIx k) h : ℝ) : EReal) := fun h r b => by
    rw [bG, hix, rowH_apply, Subsingleton.elim r 0, Subsingleton.elim b 0]; exact H.g _ trivial h
  have hdv : ∀ h r b, bDV X (ix3 h r b) = ((I.DV k h r b : ℝ) : EReal) := fun h r b => dvNew_coe hk hd ha H.st h r b
  have rows : ∀ n : Fin 128, 127 - n.val < k.val + 1 → n = revIx k ∨ 127 - n.val < k.val := fun n hn => by
    rcases Nat.lt_succ_iff_lt_or_eq.1 hn with h' | h'
    · exact .inr h'
    · exact .inl (Fin.ext (by have := n.isLt; show n.val = 127 - k.val; omega))
  constructor
  · constructor
    · rw [bwd_keep X main_v31_0 (by decide)]; exact H.d
    · rw [bwd_keep X main_v31_1 (by decide)]; exact H.s
    · rw [bwd_keep X main_v31_2 (by decide)]; exact H.w
    · rw [bwd_keep X main_v31_3 (by decide)]; exact H.q
    · rw [bwd_keep X main_v31_4 (by decide)]; exact H.v
    · rw [bwd_keep X main_v31_5 (by decide)]; exact H.a
    · rw [bwd_keep X main_v31_6 (by decide)]; exact H.g
    · rw [bwd_keep X main_v31_7 (by decide)]; exact H.k
  · rw [bwd_ctr, H.ctr, Scf.iv_succ]; rfl
  · rw [bwd_state]; exact fun h x b => dsNew_coe hq hw hd hdv hg H.st h x b
  · rw [bwd_dq, hix]; exact putV_holds rows H.dq fun h r b => by rw [rev_rev]; exact mulSt_coe hd hs h r b
  · rw [bwd_dk, hix]; exact putV_holds rows H.dk fun h r b => by rw [rev_rev]; exact dkNew_coe hv H.st h r b
  · rw [bwd_du, hix]; exact putV_holds rows H.du fun h r b => by rw [rev_rev]; exact hdv h r b
  · rw [bwd_dw, hix]; exact putV_holds rows H.dw fun h r b => by rw [rev_rev]; exact mulSt_neg_coe hdv hs h r b
  · rw [bwd_dg, hix]; exact putG_holds rows H.dg fun h => by rw [rev_rev]; exact dgNew_coe hs H.st h
  · rw [bwd_da, hix]; exact putA_holds rows H.da fun h r b => by rw [rev_rev]; exact daNew_coe hd hv h r b

end Bwd

/-! ## The whole program -/

/-- Every entry is a real number. -/
def Real {s : Shape} (A : FVec Ideal s .f32) : Prop := ∀ i, (((A i : EReal).toReal : ℝ) : EReal) = A i

section Whole

variable (m : (ℓ : Loc nD τ sig) → Buf (Elt Ideal) ℓ) (c : Dev nD)

/-- The recursion's inputs, of the arguments. -/
abbrev refIns : Ins := insOf (m (c.tc.loc main_arg0)) (m (c.tc.loc main_arg1)) (m (c.tc.loc main_arg2)) (m (c.tc.loc main_arg3))
  (m (c.tc.loc main_arg4)) (m (c.tc.loc main_arg5)) (m (c.tc.loc main_arg6))

theorem zero_word : ((constant (F := Ideal) S_ .f32 0x00000000#32) (Shape.Idx.first h_S_) : EReal) = 0 := by
  simp only [pointwise]

theorem cut_holds {A : FVec Ideal S8192x1024 .f32} (hA : Real A) :
    HoldsV all (cut A) fun n h r b => (A (ix2 (rowIx n r) (colIx h b)) : EReal).toReal := by
  intro n _ h r b
  rw [cut_apply]; exact (hA _).symm
theorem scores_holds {A : FVec Ideal S8x8192x64 .f32} (hA : Real A) :
    HoldsA all (scores A) fun n h i j => if j ≤ i then (A (ix3 h (rowIx n i) j) : EReal).toReal else 0 := by
  intro n _ h i j
  rw [scores_apply]
  by_cases hij : j ≤ i
  · simp only [if_pos hij]; exact (hA _).symm
  · simp only [if_neg hij]; rfl
theorem none_lt {P : Fin 128 → Prop} : ∀ n : Fin 128, n.val < 0 → P n := fun n h => absurd h (Nat.not_lt_zero _)

variable (h0 : Real (m (c.tc.loc main_arg0))) (h1 : Real (m (c.tc.loc main_arg1))) (h2 : Real (m (c.tc.loc main_arg2)))
  (h3 : Real (m (c.tc.loc main_arg3))) (h4 : Real (m (c.tc.loc main_arg4))) (h5 : Real (m (c.tc.loc main_arg5))) (h6 : Real (m (c.tc.loc main_arg6)))

include h0 h1 h2 h3 h4 h5 in
theorem fwd_entry : FwdAt (refIns m c) 0 (E0 m c) := by
  constructor
  · constructor
    · rw [E0, pre_q]; exact cut_holds h2
    · rw [E0, pre_k]; exact cut_holds h3
    · rw [E0, pre_u]; exact cut_holds h0
    · rw [E0, pre_w]; exact cut_holds h1
    · rw [E0, pre_g]
      intro n _ h
      show _ = ((((m (c.tc.loc main_arg5)) (ix2 (chIx n) h) : EReal).toReal : ℝ) : EReal)
      rw [chIx_val]; exact (h5 _).symm
    · rw [E0, pre_a]; exact scores_holds h4
  · rw [E0_ctr, Scf.iv_zero]
  · rw [E0, pre_s]
    intro h x b
    simp only [pointwise]; rfl
  · exact fun n hn => absurd hn (Nat.not_lt_zero _)
  · exact fun n hn => absurd hn (Nat.not_lt_zero _)
  · exact fun n hn => absurd hn (Nat.not_lt_zero _)
  · exact fun n hn => absurd hn (Nat.not_lt_zero _)

include h0 h1 h2 h3 h4 h5 in
theorem fwd_all : ∀ k, k ≤ 128 → FwdAt (refIns m c) k (K0 m k c)
  | 0, _ => fwd_entry m c h0 h1 h2 h3 h4 h5
  | k + 1, hk => fwd_step ⟨k, hk⟩ (fwd_all k (Nat.le_of_succ_le hk))

/-- What the first loop keeps, after `k` trips. -/
theorem K0_keep {b : Ref sig .tc} (hb : b ∈ fwdKept) : ∀ k, K0 m k c (Proc.devRef .tc b) = E0 m c (Proc.devRef .tc b)
  | 0 => rfl
  | k + 1 => (fwd_keep (K0 m k c) b hb).trans (K0_keep hb k)
theorem X0_keep {b : Ref sig .tc} (hb : b ∈ fwdKept) : X0 m c (Proc.devRef .tc b) = E0 m c (Proc.devRef .tc b) :=
  (fwd_cond_keep (K0 m 128 c) b (List.mem_append_left _ hb)).trans (K0_keep m c hb 128)
theorem K1_keep {b : Ref sig .tc} (hb : b ∈ bwdKept) : ∀ k, K1 m k c (Proc.devRef .tc b) = E1 m c (Proc.devRef .tc b)
  | 0 => rfl
  | k + 1 => (bwd_keep (K1 m k c) b hb).trans (K1_keep hb k)
theorem X1_keep {b : Ref sig .tc} (hb : b ∈ bwdKept) : X1 m c (Proc.devRef .tc b) = E1 m c (Proc.devRef .tc b) :=
  (bwd_cond_keep (K1 m 128 c) b (List.mem_append_left _ hb)).trans (K1_keep m c hb 128)

/-- No argument is written. -/
theorem final_arg {b : Ref sig .tc} (hb : b ∈ argRefs) : final m c (Proc.devRef .tc b) = m (c.tc.loc b) :=
  (post_keep _ b (List.mem_append_left _ hb)).trans <| (X1_keep m c (List.mem_append_left _ hb)).trans <|
    (mid_keep _ b (List.mem_append_left _ hb)).trans <| (X0_keep m c (List.mem_append_left _ hb)).trans <| pre_keep _ b hb

include h0 h1 h2 h3 h4 h5 h6 in
theorem bwd_entry : BwdAt (refIns m c) 0 (E1 m c) := by
  have H := fwd_all m c h0 h1 h2 h3 h4 h5 128 le_rfl
  constructor
  · constructor
    · rw [E1, mid_d, X0_keep m c (by decide), E0, pre_keep _ main_arg6 (by decide)]; exact cut_holds h6
    · rw [E1, mid_s, X0, fwd_cond_keep _ main_v18_9 (by decide)]; exact fun n _ => H.s n n.isLt
    · rw [E1, mid_w, X0_keep m c (by decide), E0, pre_w']; exact cut_holds h1
    · rw [E1, mid_q, X0_keep m c (by decide), E0, pre_q']; exact cut_holds h2
    · rw [E1, mid_v, X0, fwd_cond_keep _ main_v18_10 (by decide)]; exact fun n _ => H.v n n.isLt
    · rw [E1, mid_a, X0_keep m c (by decide), E0, pre_a']; exact scores_holds h4
    · rw [E1, mid_g, X0, fwd_cond_keep _ main_v18_11 (by decide)]; exact fun n _ => H.gs n n.isLt
    · rw [E1, mid_k, X0_keep m c (by decide), E0, pre_k']; exact cut_holds h3
  · rw [E1_ctr, Scf.iv_zero]
  · rw [E1, mid_ds]
    intro h x b
    simp only [pointwise]; rfl
  · exact fun n hn => absurd hn (Nat.not_lt_zero _)
  · exact fun n hn => absurd hn (Nat.not_lt_zero _)
  · exact fun n hn => absurd hn (Nat.not_lt_zero _)
  · exact fun n hn => absurd hn (Nat.not_lt_zero _)
  · exact fun n hn => absurd hn (Nat.not_lt_zero _)
  · exact fun n hn => absurd hn (Nat.not_lt_zero _)

include h0 h1 h2 h3 h4 h5 h6 in
theorem bwd_all : ∀ k, k ≤ 128 → BwdAt (refIns m c) k (K1 m k c)
  | 0, _ => bwd_entry m c h0 h1 h2 h3 h4 h5 h6
  | k + 1, hk => bwd_step ⟨k, hk⟩ (bwd_all k (Nat.le_of_succ_le hk))

theorem join_holds {A : FVec Ideal S128x8x64x128 .f32} {M : ℕ → Fin 8 → Mat 64 128} (hA : ∀ n h r b, A (ix4 n h r b) = ((M n.val h r b : ℝ) : EReal)) :
    HoldsWide (join A) M := by
  intro n h r b
  rw [join_apply]; exact hA n h r b

include h0 h1 h2 h3 h4 h5 h6 in
/-- The results at finite arguments. -/
theorem ref_results :
    HoldsWide (final m c (Proc.devRef .tc main_v20)) (refIns m c).O
    ∧ HoldsWide (final m c (Proc.devRef .tc main_v35)) (fun n => (refIns m c).DV (127 - n))
    ∧ HoldsWide (final m c (Proc.devRef .tc main_v33)) (fun n => (refIns m c).DW (127 - n))
    ∧ HoldsWide (final m c (Proc.devRef .tc main_v39)) (fun n => (refIns m c).DQ (127 - n))
    ∧ HoldsWide (final m c (Proc.devRef .tc main_v37)) (fun n => (refIns m c).DK (127 - n))
    ∧ HoldsScore (final m c (Proc.devRef .tc main_v42)) (fun n h i j => if j ≤ i then (refIns m c).DA (127 - n) h i j else 0)
    ∧ HoldsDecay (final m c (Proc.devRef .tc main_v31_14)) (fun n => (refIns m c).DG (127 - n)) := by
  have H := fwd_all m c h0 h1 h2 h3 h4 h5 128 le_rfl
  have G := bwd_all m c h0 h1 h2 h3 h4 h5 h6 128 le_rfl
  have lt : ∀ n : Fin 128, 127 - n.val < 128 := fun n => by omega
  refine ⟨?_, ?_, ?_, ?_, ?_, ?_, ?_⟩
  · rw [final, post_keep _ main_v20 (by decide), X1_keep m c (by decide), E1, mid_o, X0, fwd_cond_keep _ main_v18_8 (by decide)]
    exact join_holds fun n => H.o n n.isLt
  · rw [final, post_u, X1, bwd_cond_keep _ main_v31_12 (by decide)]; exact join_holds fun n => G.du n (lt n)
  · rw [final, post_w, X1, bwd_cond_keep _ main_v31_13 (by decide)]; exact join_holds fun n => G.dw n (lt n)
  · rw [final, post_q, X1, bwd_cond_keep _ main_v31_10 (by decide)]; exact join_holds fun n => G.dq n (lt n)
  · rw [final, post_k, X1, bwd_cond_keep _ main_v31_11 (by decide)]; exact join_holds fun n => G.dk n (lt n)
  · rw [final, post_a, X1_keep m c (b := main_v4_1) (by decide), X1, bwd_cond_keep _ main_v31_15 (by decide), E1, mid_keep _ main_v4_1 (by decide), X0_keep m c (by decide), E0, pre_tri]
    intro n h i j
    rw [unscores_apply, select_tris]
    by_cases hij : j ≤ i
    · simp only [if_pos hij]; exact G.da n (lt n) h i j
    · simp only [if_neg hij]; rfl
  · rw [final, post_keep _ main_v31_14 (by decide), X1, bwd_cond_keep _ main_v31_14 (by decide)]
    exact fun n => G.dg n (lt n)

end Whole

end Cert.ReferenceIdeal.Gdn
-- ==== Proof.KernelValue.lean ====
module

public import proofs.«01_k».proof.Proof.FwdVals
public import proofs.«01_k».proof.Proof.BwdVals
public import proofs.«01_k».proof.Proof.RefValue

/-! # The kernel's results over the extended reals

    The host's preparation masks the scores and repeats the decays; the forward scan's arrays and then the backward scan's
    hold the recursions of `Spec`; the host takes one lane of the decays' gradient. -/

@[expose] public section
noncomputable section

set_option maxRecDepth 16384

namespace Cert.KernelIdeal.Gdn

open Idealize.ShloMosaic Idealize.ShloMosaic.TcCoe Gen
open Idealize.ShloMosaic.StableHlo (after)
open _root_.Gdn (Mat colIx rowIx rowIx_val chIx_val HoldsWide HoldsScore HoldsDecay Ins insOf score_cut score_join)
open Cert.ReferenceIdeal.Gdn (Real)

/-! ## The host's preparation -/

section Host

variable {F : FTy → Type} [FloatOps F] (X : Valuation τ sig (Elt F))

/-- The lower triangle, the diagonal with it. -/
def triK : IVec S64x64 1 :=
  cmpi .sge (broadcastInDim S64x64 ![0, 1] bcast_S64x1_S64x64_0_1 (broadcastInDim S64x1 ![0] bcast_S64_S64x1_0 (iotaInDim S64 32 0)))
    (broadcastInDim S64x64 ![0, 1] bcast_S1x64_S64x64_0_1 (broadcastInDim S1x64 ![1] bcast_S64_S1x64_1 (iotaInDim S64 32 0)))
/-- The scores under their triangles. -/
def masked (A : FVec F S8x8192x64 .f32) : FVec F S8x8192x64 .f32 :=
  shapeCast S8x8192x64 (select (broadcastInDim S8x128x64x64 ![2, 3] bcast_S64x64_S8x128x64x64_2_3 triK)
    (shapeCast S8x128x64x64 A shapeCasts_S8x8192x64_S8x128x64x64)
    (broadcastInDim S8x128x64x64 ![] bcast_S_S8x128x64x64 (constant S_ .f32 0x00000000#32))) shapeCasts_S8x128x64x64_S8x8192x64
/-- The decays repeated along the lanes. -/
def lanes (G : FVec F S128x8 .f32) : FVec F S128x8x128 .f32 :=
  broadcastInDim S128x8x128 ![0, 1, 2] bcast_S128x8x1_S128x8x128_0_1_2 (broadcastInDim S128x8x1 ![0, 1] bcast_S128x8_S128x8x1_0_1 G)
/-- The first lane. -/
def lane0 (G : FVec F S128x8x128 .f32) : FVec F S128x8 .f32 :=
  shapeCast S128x8 (extractStridedSlice S128x8x1 ![0, 0, 0] G slices_S128x8x128_S128x8x1_0_0_0) shapeCasts_S128x8x1_S128x8

theorem host_a : after hostOps0_2 (after hostOps0_1 (after hostOps0 X)) (Proc.devRef .tc main_v9) = masked (X (Proc.devRef .tc main_arg4)) := by
  after_reads_simp; rfl
theorem host_g : after hostOps0_2 (after hostOps0_1 (after hostOps0 X)) (Proc.devRef .tc main_v11) = lanes (X (Proc.devRef .tc main_arg5)) := by
  after_reads_simp; rfl
theorem host_dg : after hostOps2 X (Proc.devRef .tc main_v15) = lane0 (X (Proc.devRef .tc main_v13_5)) := by
  after_reads_simp; rfl

end Host

theorem triK_apply (i j : Fin 64) : triK (ix2 i j) = 1#1 ↔ j ≤ i := by
  revert i j; decide +kernel

theorem masked_apply (A : FVec Ideal S8x8192x64 .f32) (n : Fin 128) (h : Fin 8) (i j : Fin 64) :
    masked A (ix3 h (rowIx n i) j) = if j ≤ i then A (ix3 h (rowIx n i) j) else (0 : EReal) := by
  rw [masked, score_join]
  show Scalar.select (triK (ix2 i j)) (shapeCast S8x128x64x64 A shapeCasts_S8x8192x64_S8x128x64x64 (ix4 h n i j)) _ = _
  rw [score_cut]
  by_cases c : j ≤ i
  · rw [if_pos c]; exact if_pos ((triK_apply i j).2 c)
  · rw [if_neg c]
    refine (if_neg fun e => c ((triK_apply i j).1 e)).trans ?_
    simp only [pointwise]

theorem lanes_apply (G : FVec Ideal S128x8 .f32) (n : Fin 128) (h : Fin 8) (b : Fin 128) : lanes G (ix3 n h b) = G (ix2 n h) := by
  simp only [lanes, pointwise]; rfl

theorem lane0_apply (G : FVec Ideal S128x8x128 .f32) (n : Fin 128) (h : Fin 8) : lane0 G (ix2 n h) = G (ix3 n h 0) := by
  simp only [lane0, pointwise]
  congr 2 <;> exact Fin.ext (Nat.zero_add _)

/-! ## The run's arrays at finite arguments -/

section Whole

variable (m : (ℓ : Loc nD τ sig) → Buf (Elt Ideal) ℓ) (ρ : Dev nD → PrngReg) (c : Dev nD)

/-- The recursion's inputs, of the kernel's arguments. -/
def kerIns : Ins :=
  insOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

variable (h0 : Real (s := S8192x1024) (m ((c : Thread nD τ).loc main_arg0))) (h1 : Real (s := S8192x1024) (m ((c : Thread nD τ).loc main_arg1)))
  (h2 : Real (s := S8192x1024) (m ((c : Thread nD τ).loc main_arg2))) (h3 : Real (s := S8192x1024) (m ((c : Thread nD τ).loc main_arg3)))
  (h4 : Real (s := S8x8192x64) (m ((c : Thread nD τ).loc main_arg4))) (h5 : Real (s := S128x8) (m ((c : Thread nD τ).loc main_arg5)))
  (h6 : Real (s := S8192x1024) (m ((c : Thread nD τ).loc main_arg6)))

include h4 in
theorem v9_holds : HoldsScore (W3 m ρ c (Proc.devRef .tc main_v9)) (kerIns m c).a := fun n h i j => by
  rw [W3, W2, W1, host_a, masked_apply]
  by_cases e : j ≤ i
  · rw [if_pos e]
    refine (h4 _).symm.trans (congrArg _ ?_)
    exact (if_pos e).symm
  · rw [if_neg e]
    exact congrArg (fun x : ℝ => (x : EReal)) (if_neg e).symm
include h5 in
theorem v11_holds : HoldsLane (W3 m ρ c (Proc.devRef .tc main_v11)) (kerIns m c).g := fun n h b => by
  rw [W3, W2, W1, host_g, lanes_apply]
  refine (h5 _).symm.trans (congrArg (fun x : ℝ => (x : EReal)) ?_)
  show _ = (m ((c : Thread nD τ).loc main_arg5) (ix2 (_root_.Gdn.chIx n) h)).toReal
  rw [chIx_val]

include h0 h1 h2 h3 h4 h5 in
theorem fwd_in : FwdIn (U3 m ρ) c (kerIns m c) where
  hu n h r b := (congrFun (W3_args m ρ c main_arg0 (by decide)) _).trans (h0 _).symm
  hw n h r b := (congrFun (W3_args m ρ c main_arg1 (by decide)) _).trans (h1 _).symm
  hq n h r b := (congrFun (W3_args m ρ c main_arg2 (by decide)) _).trans (h2 _).symm
  hk n h r b := (congrFun (W3_args m ρ c main_arg3 (by decide)) _).trans (h3 _).symm
  ha := v9_holds m ρ c h4
  hg := v11_holds m ρ c h5

include h0 h1 h2 h3 h4 h5 h6 in
theorem bwd_in : BwdIn (U4 m ρ) c (kerIns m c) where
  hd n h r b := (congrFun (W4_args m ρ c main_arg6 (by decide)) _).trans (h6 _).symm
  hw n h r b := (congrFun (W4_args m ρ c main_arg1 (by decide)) _).trans (h1 _).symm
  hq n h r b := (congrFun (W4_args m ρ c main_arg2 (by decide)) _).trans (h2 _).symm
  hk n h r b := (congrFun (W4_args m ρ c main_arg3 (by decide)) _).trans (h3 _).symm
  ha n h i j := (congrFun (W4_of m ρ c main_v9 (by decide)) _).trans (v9_holds m ρ c h4 n h i j)
  hg n h b := (congrFun (W4_of m ρ c main_v11 (by decide)) _).trans (v11_holds m ρ c h5 n h b)
  hs n h x b := (congrFun (W4_arr m ρ c 7) _).trans (out_s (fwd_in m ρ c h0 h1 h2 h3 h4 h5) n h x b)
  hv n h r b := (congrFun (W4_arr m ρ c 8) _).trans (out_v (fwd_in m ρ c h0 h1 h2 h3 h4 h5) n h r b)

theorem W6_of (b : Ref sig .tc) (hb : b ∉ hostOps2_W) : W6 m ρ c (Proc.devRef .tc b) = W5 m ρ c (Proc.devRef .tc b) :=
  StableHlo.after_of_writes_sub hostOps2 _ hostOps2_writes hb

include h0 h1 h2 h3 h4 h5 h6 in
/-- The results at finite arguments. -/
theorem ker_results :
    HoldsWide (W6 m ρ c (Proc.devRef .tc main_v12_0)) (kerIns m c).O
    ∧ HoldsWide (W6 m ρ c (Proc.devRef .tc main_v13_0)) (fun n => (kerIns m c).DV (127 - n))
    ∧ HoldsWide (W6 m ρ c (Proc.devRef .tc main_v13_1)) (fun n => (kerIns m c).DW (127 - n))
    ∧ HoldsWide (W6 m ρ c (Proc.devRef .tc main_v13_2)) (fun n => (kerIns m c).DQ (127 - n))
    ∧ HoldsWide (W6 m ρ c (Proc.devRef .tc main_v13_3)) (fun n => (kerIns m c).DK (127 - n))
    ∧ HoldsScore (W6 m ρ c (Proc.devRef .tc main_v13_4)) (fun n h i j => if j ≤ i then (kerIns m c).DA (127 - n) h i j else 0)
    ∧ HoldsDecay (W6 m ρ c (Proc.devRef .tc main_v15)) (fun n => (kerIns m c).DG (127 - n)) := by
  have H := fwd_in m ρ c h0 h1 h2 h3 h4 h5
  have G := bwd_in m ρ c h0 h1 h2 h3 h4 h5 h6
  refine ⟨?_, ?_, ?_, ?_, ?_, ?_, ?_⟩
  · rw [W6_of m ρ c main_v12_0 (by decide), W5_of_ne m ρ c main_v12_0 (by decide)]
    intro n h r b; exact (congrFun (W4_arr m ρ c 6) _).trans (out_o H n h r b)
  · rw [W6_of m ρ c main_v13_0 (by decide)]
    intro n h r b; exact (congrFun (W5_arr m ρ c 8) _).trans (out_dv G n h r b)
  · rw [W6_of m ρ c main_v13_1 (by decide)]
    intro n h r b; exact (congrFun (W5_arr m ρ c 9) _).trans (out_dw G n h r b)
  · rw [W6_of m ρ c main_v13_2 (by decide)]
    intro n h r b; exact (congrFun (W5_arr m ρ c 10) _).trans (out_dq G n h r b)
  · rw [W6_of m ρ c main_v13_3 (by decide)]
    intro n h r b; exact (congrFun (W5_arr m ρ c 11) _).trans (out_dk G n h r b)
  · rw [W6_of m ρ c main_v13_4 (by decide)]
    intro n h i j; exact (congrFun (W5_arr m ρ c 12) _).trans (out_da G n h i j)
  · intro n h
    rw [W6, host_dg, lane0_apply]
    exact (congrFun (W5_arr m ρ c 13) _).trans (out_dg G n h 0)

end Whole

end Cert.KernelIdeal.Gdn
-- ==== Proof.Finite.lean ====
module

public import proofs.«01_k».proof.Defs
public import proofs.«01_k».proof.Proof.RefValue
public import Idealize.ShloMosaic.Lib.ReduceAll
public import Idealize.ShloMosaic.Lib.Affine
public import Idealize.ShloMosaic.Lib.KernelVsHost

/-! # What the precondition says

    Every argument's every entry is a real number. -/

@[expose] public section
noncomputable section

namespace Cert.Pre_finite

open Idealize.ShloMosaic
open Cert.ReferenceIdeal.Gdn (Real)

/-- The precondition's operations' side conditions. -/
theorem facts : Facts where
  bcast_S_S8192x1024 := by decide
  reducesTo_S8192x1024_S_d0_1 := by decide
  h_S_ := by decide
  bcast_S_S8x8192x64 := by decide
  reducesTo_S8x8192x64_S_d0_1_2 := by decide
  bcast_S_S128x8 := by decide
  reducesTo_S128x8_S_d0_1 := by decide

/-- A magnitude below infinity is a real number's. -/
theorem real_of_lt (x : EReal) (h : Ideal.cmp .olt (max x (-x)) (Ideal.ofBits .f32 0x7F800000#32) = 1#1) : ((x.toReal : ℝ) : EReal) = x := by
  have htop : Ideal.ofBits .f32 0x7F800000#32 = ⊤ := by simp [Ideal.ofBits, Ideal.ieee]
  rw [htop] at h
  refine EReal.coe_toReal ?_ ?_ <;> rintro rfl <;> simp [Ideal.cmp] at h

/-- One argument's conjunct. -/
theorem real_of_all {s : Shape} {axes : List (Fin s.rank)} (A : FVec Ideal s .f32) (hb : S_.BroadcastsInDim s (![] : Fin 0 → Fin s.rank))
    (hr : s.ReducesTo axes S_) (hu : 0 < S_.numel) (j : S_.Idx)
    (e : Host.reduce IntOp.andi (cmpf .olt (Host.absf A) (broadcastInDim s ![] hb (constant S_ .f32 0x7F800000#32))) (constantI S_ 1 1#1) hr hu j = 1#1) :
    Real A := fun i => real_of_lt _ (Host.reduce_andi_all _ _ hr hu j e i)

theorem real_all [Facts] (A0 A1 A2 A3 : FVec Ideal S8192x1024 .f32) (A4 : FVec Ideal S8x8192x64 .f32) (A5 : FVec Ideal S128x8 .f32)
    (A6 : FVec Ideal S8192x1024 .f32) (h : fn A0 A1 A2 A3 A4 A5 A6 = fun _ => 1#1) :
    Real A0 ∧ Real A1 ∧ Real A2 ∧ Real A3 ∧ Real A4 ∧ Real A5 ∧ Real A6 := by
  have e := congrFun h (fun a => a.elim0)
  dsimp only [fn, fn_part1] at e
  simp only [andi, IntOp.andi_eq_one] at e
  obtain ⟨⟨⟨⟨⟨⟨e0, e1⟩, e2⟩, e3⟩, e4⟩, e5⟩, e6⟩ := e
  exact ⟨real_of_all _ _ _ _ _ e0, real_of_all _ _ _ _ _ e1, real_of_all _ _ _ _ _ e2, real_of_all _ _ _ _ _ e3, real_of_all _ _ _ _ _ e4,
    real_of_all _ _ _ _ _ e5, real_of_all _ _ _ _ _ e6⟩

end Cert.Pre_finite
-- ==== Proof.Same.lean ====
module

public import proofs.«01_k».proof.Defs
public import proofs.«01_k».proof.Proof.KernelValue
public import proofs.«01_k».proof.Proof.Finite
public import Idealize.ShloMosaic.Lib.Quiescent

/-! # The reference's frame, and that kernel and reference compute the same

    Both runs end with the recursions of `Spec` at the same inputs. -/

@[expose] public section
noncomputable section

namespace Cert.Proof

open Idealize.ShloMosaic Idealize.SL.Sem Gdn

/-- The reference's run: what every unscoped buffer ends with, and the semaphores, of which there are none. -/
theorem run_reference (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r =>
      (∀ (c : Dev ReferenceIdeal.nD) (b : Ref ReferenceIdeal.sig .tc), (Proc.devRef .tc b : DevRef ReferenceIdeal.τ ReferenceIdeal.sig).isScoped = false →
        r.2.mem ((c.tc : Thread ReferenceIdeal.nD ReferenceIdeal.τ).loc b) = ReferenceIdeal.Gdn.final m c (Proc.devRef .tc b))
      ∧ r.2.sem = fun _ => 0) :=
  (θ_run ReferenceIdeal.defs _ _).mono (fun r h => ⟨h, sem_eq_zero_of_no_sems (by decide) r.2⟩) (ReferenceIdeal.Gdn.run_ref m g)

theorem ref_arg (m : (ℓ : Loc ReferenceIdeal.nD ReferenceIdeal.τ ReferenceIdeal.sig) → Buf (Elt Ideal) ℓ) (c : Dev ReferenceIdeal.nD)
    {r : MemSt ReferenceIdeal.nD ReferenceIdeal.τ ReferenceIdeal.sig (Elt Ideal)}
    (h : ∀ (c : Dev ReferenceIdeal.nD) (b : Ref ReferenceIdeal.sig .tc), (Proc.devRef .tc b : DevRef ReferenceIdeal.τ ReferenceIdeal.sig).isScoped = false →
        r.mem ((c.tc : Thread ReferenceIdeal.nD ReferenceIdeal.τ).loc b) = ReferenceIdeal.Gdn.final m c (Proc.devRef .tc b))
    (b : Ref ReferenceIdeal.sig .tc) (hb : b ∈ ReferenceIdeal.Gdn.argRefs)
    (hs : (Proc.devRef .tc b : DevRef ReferenceIdeal.τ ReferenceIdeal.sig).isScoped = false) :
    r.mem ((c.tc : Thread ReferenceIdeal.nD ReferenceIdeal.τ).loc b) = m ((c.tc : Thread ReferenceIdeal.nD ReferenceIdeal.τ).loc b) :=
  (h c b hs).trans (ReferenceIdeal.Gdn.final_arg m c hb)

theorem frame_ReferenceIdeal : Cert.quiescent_ReferenceIdeal := fun m g _ =>
  (θ_run ReferenceIdeal.defs _ _).mono (fun r h => ⟨fun c => ⟨ref_arg m c h.1 _ (by decide) (by decide), ref_arg m c h.1 _ (by decide) (by decide), ref_arg m c h.1 _ (by decide) (by decide), ref_arg m c h.1 _ (by decide) (by decide), ref_arg m c h.1 _ (by decide) (by decide), ref_arg m c h.1 _ (by decide) (by decide), ref_arg m c h.1 _ (by decide) (by decide)⟩, h.2⟩) (run_reference m g)

/-- Equal arrays are finite together. -/
theorem real_congr {s : Shape} {A B : FVec Ideal s .f32} (e : A = B) (h : ReferenceIdeal.Gdn.Real B) : ReferenceIdeal.Gdn.Real A := e ▸ h

theorem insOf_congr {u w q k d u' w' q' k' d' : Wide.Idx → EReal} {a a' : Score.Idx → EReal} {g g' : Decay.Idx → EReal}
    (h0 : u = u') (h1 : w = w') (h2 : q = q') (h3 : k = k') (h4 : a = a') (h5 : g = g') (h6 : d = d') :
    insOf u w q k a g d = insOf u' w' q' k' a' g' d' := by
  subst h0 h1 h2 h3 h4 h5 h6; rfl

theorem algebraic [Cert.Pre_finite.Facts] : Cert.algebraic_KernelIdeal_ReferenceIdeal_pre_finite := by
  intro m g m' g' hp he
  have hr := fun c => Cert.Pre_finite.real_all _ _ _ _ _ _ _ (hp c)
  have K := fun c => KernelIdeal.Gdn.ker_results m g c (hr c).1 (hr c).2.1 (hr c).2.2.1 (hr c).2.2.2.1 (hr c).2.2.2.2.1 (hr c).2.2.2.2.2.1 (hr c).2.2.2.2.2.2
  have hI : ∀ c, ReferenceIdeal.Gdn.refIns m' c = KernelIdeal.Gdn.kerIns m c := fun c =>
    insOf_congr (he c).1 (he c).2.1 (he c).2.2.1 (he c).2.2.2.1 (he c).2.2.2.2.1 (he c).2.2.2.2.2.1 (he c).2.2.2.2.2.2
  have L := fun c => ReferenceIdeal.Gdn.ref_results m' c
    (real_congr (he c).1 (hr c).1) (real_congr (he c).2.1 (hr c).2.1) (real_congr (he c).2.2.1 (hr c).2.2.1)
    (real_congr (he c).2.2.2.1 (hr c).2.2.2.1) (real_congr (he c).2.2.2.2.1 (hr c).2.2.2.2.1) (real_congr (he c).2.2.2.2.2.1 (hr c).2.2.2.2.2.1)
    (real_congr (he c).2.2.2.2.2.2 (hr c).2.2.2.2.2.2)
  simp only [hI] at L
  refine ⟨fun c => KernelIdeal.Gdn.W6 m g c (Proc.devRef .tc KernelIdeal.main_v12_0), fun c => KernelIdeal.Gdn.W6 m g c (Proc.devRef .tc KernelIdeal.main_v13_0),
    fun c => KernelIdeal.Gdn.W6 m g c (Proc.devRef .tc KernelIdeal.main_v13_1), fun c => KernelIdeal.Gdn.W6 m g c (Proc.devRef .tc KernelIdeal.main_v13_2),
    fun c => KernelIdeal.Gdn.W6 m g c (Proc.devRef .tc KernelIdeal.main_v13_3), fun c => KernelIdeal.Gdn.W6 m g c (Proc.devRef .tc KernelIdeal.main_v13_4),
    fun c => KernelIdeal.Gdn.W6 m g c (Proc.devRef .tc KernelIdeal.main_v15), ?_, ?_⟩
  · refine (θ_run KernelIdeal.defs _ _).mono (fun r h c => ?_) (KernelIdeal.Gdn.run_all m g)
    have M := fun (b : Ref KernelIdeal.sig .tc) (hb : ¬ (Proc.devRef .tc b : DevRef KernelIdeal.τ KernelIdeal.sig).isScoped) => h.1 c _ (KernelIdeal.Gdn.mem_uc b hb)
    exact ⟨M KernelIdeal.main_v12_0 (by decide), M KernelIdeal.main_v13_0 (by decide), M KernelIdeal.main_v13_1 (by decide), M KernelIdeal.main_v13_2 (by decide), M KernelIdeal.main_v13_3 (by decide), M KernelIdeal.main_v13_4 (by decide), M KernelIdeal.main_v15 (by decide),
      (M KernelIdeal.main_arg0 (by decide)).trans (KernelIdeal.Gdn.W6_args m g c _ (by decide)), (M KernelIdeal.main_arg1 (by decide)).trans (KernelIdeal.Gdn.W6_args m g c _ (by decide)), (M KernelIdeal.main_arg2 (by decide)).trans (KernelIdeal.Gdn.W6_args m g c _ (by decide)), (M KernelIdeal.main_arg3 (by decide)).trans (KernelIdeal.Gdn.W6_args m g c _ (by decide)), (M KernelIdeal.main_arg4 (by decide)).trans (KernelIdeal.Gdn.W6_args m g c _ (by decide)), (M KernelIdeal.main_arg5 (by decide)).trans (KernelIdeal.Gdn.W6_args m g c _ (by decide)), (M KernelIdeal.main_arg6 (by decide)).trans (KernelIdeal.Gdn.W6_args m g c _ (by decide))⟩
  · refine (θ_run ReferenceIdeal.defs _ _).mono (fun r h c => ?_) (run_reference m' g')
    obtain ⟨K0, K1, K2, K3, K4, K5, K6⟩ := K c
    obtain ⟨L0, L1, L2, L3, L4, L5, L6⟩ := L c
    exact ⟨(h.1 c ReferenceIdeal.main_v20 (by decide)).trans (L0.eq K0), (h.1 c ReferenceIdeal.main_v35 (by decide)).trans (L1.eq K1), (h.1 c ReferenceIdeal.main_v33 (by decide)).trans (L2.eq K2), (h.1 c ReferenceIdeal.main_v39 (by decide)).trans (L3.eq K3), (h.1 c ReferenceIdeal.main_v37 (by decide)).trans (L4.eq K4), (h.1 c ReferenceIdeal.main_v42 (by decide)).trans (L5.eq K5), (h.1 c ReferenceIdeal.main_v31_14 (by decide)).trans (L6.eq K6),
      ref_arg m' c h.1 _ (by decide) (by decide), ref_arg m' c h.1 _ (by decide) (by decide), ref_arg m' c h.1 _ (by decide) (by decide), ref_arg m' c h.1 _ (by decide) (by decide), ref_arg m' c h.1 _ (by decide) (by decide), ref_arg m' c h.1 _ (by decide) (by decide), ref_arg m' c h.1 _ (by decide) (by decide)⟩

end Cert.Proof
-- ==== Proof.Tiles.lean ====
module

public import Idealize.ShloMosaic.PureOps.Ideal
public import Idealize.ShloMosaic.Lib.Pointwise
public import Idealize.ShloMosaic.Lib.Pipeline.ValueKit

/-! # A product computed block by block

    A product's grid visits, for each block of the result, the blocks of the contracted axis one after another, and adds
    each block's product to what it holds. Over the extended reals addition is commutative and associative without
    exception, so what the last of them leaves is the sum over the whole axis, with no condition on the entries. -/

@[expose] public section
noncomputable section

namespace Tiles

open Idealize.ShloMosaic

/-- The sum of the products of two sequences' entries. -/
def dot {K : ℕ} (x y : Fin K → EReal) : EReal := ∑ k, x k * y k

theorem dot_congr {K : ℕ} {x x' y y' : Fin K → EReal} (hx : ∀ k, x k = x' k) (hy : ∀ k, y k = y' k) : dot x y = dot x' y' :=
  Finset.sum_congr rfl fun k _ => by rw [hx, hy]

theorem dot_comm {K : ℕ} (x y : Fin K → EReal) : dot x y = dot y x :=
  Finset.sum_congr rfl fun k _ => mul_comm _ _

/-- The entries of a rank-two index are its values. -/
theorem ix2_congr {a b : ℕ} {i : (⟨2, ![a, b]⟩ : Shape).Idx} {p : Fin a} {q : Fin b} (h0 : (i 0).val = p.val) (h1 : (i 1).val = q.val) :
    i = ix2 p q := by
  funext d
  match d with
  | ⟨0, _⟩ => exact Fin.ext h0
  | ⟨1, _⟩ => exact Fin.ext h1

/-- The product of two matrices. -/
def mul {M K N : ℕ} (a : (⟨2, ![M, K]⟩ : Shape).Idx → EReal) (b : (⟨2, ![K, N]⟩ : Shape).Idx → EReal) : (⟨2, ![M, N]⟩ : Shape).Idx → EReal :=
  fun i => dot (fun k => a (ix2 (i 0) k)) (fun k => b (ix2 k (i 1)))

/-- The product of a matrix and another's transpose. -/
def mulT {M K N : ℕ} (a : (⟨2, ![M, K]⟩ : Shape).Idx → EReal) (b : (⟨2, ![N, K]⟩ : Shape).Idx → EReal) : (⟨2, ![M, N]⟩ : Shape).Idx → EReal :=
  fun i => dot (fun k => a (ix2 (i 0) k)) (fun k => b (ix2 (i 1) k))

/-- The product of a matrix's transpose and another matrix. -/
def tmul {M K N : ℕ} (a : (⟨2, ![K, M]⟩ : Shape).Idx → EReal) (b : (⟨2, ![K, N]⟩ : Shape).Idx → EReal) : (⟨2, ![M, N]⟩ : Shape).Idx → EReal :=
  fun i => dot (fun k => a (ix2 k (i 0))) (fun k => b (ix2 k (i 1)))

/-- A quantity that the first point of each run of `nk` sets to a product over a block of `tk` terms, and every other point
    of the run increases by such a product, holds at the run's last point the product over all `K = nk * tk` terms. -/
theorem dot_of_run {N nk tk K : ℕ} [NeZero nk] {ι : Type} (f : (n : ℕ) → n < N → ι → EReal) (u v : Fin N → ι → Fin tk → EReal)
    (first : ∀ t : Fin N, t.val % nk = 0 → ∀ i, f t.val t.isLt i = dot (u t i) (v t i))
    (next : ∀ t : Fin N, ¬ t.val % nk = 0 → ∀ i, f t.val t.isLt i = f (t.val - 1) (Nat.lt_of_le_of_lt (Nat.sub_le _ _) t.isLt) i + dot (u t i) (v t i))
    (t : Fin N) (ht : t.val % nk = nk - 1) (i : ι) (x y : Fin K → EReal) (hK : K = nk * tk)
    (hx : ∀ (p : Fin N) (s : Fin nk) (k : Fin tk) (l : Fin K), l.val = s.val * tk + k.val → p.val = nk * (t.val / nk) + s.val → u p i k = x l)
    (hy : ∀ (p : Fin N) (s : Fin nk) (k : Fin tk) (l : Fin K), l.val = s.val * tk + k.val → p.val = nk * (t.val / nk) + s.val → v p i k = y l) :
    f t.val t.isLt i = dot x y := by
  rw [Pipeline.eq_sum_fin_of_reset_step_apply_of_flush f nk 0 (fun t i => dot (u t i) (v t i))
    (fun t h i => (first t h i).trans (zero_add _).symm) next t ht i]
  exact (zero_add _).trans (Fin.sum_mul_add_congr (fun s k hl => by rw [hx _ s k ⟨_, hl⟩ rfl rfl, hy _ s k ⟨_, hl⟩ rfl rfl]) hK)

end Tiles
-- ==== Proof.FfnUp.lean ====
module

public import proofs.«01_k».proof.Defs
public import proofs.«01_k».proof.Proof.Tiles
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Read
public import Idealize.ShloMosaic.Lib.Quiescent

/-! # The feed-forward block's first product and its two gradients

    The product of 8192 rows and the 2048 × 11264 weight has each of its blocks computed at one grid point. The rows' gradient has
    11264 terms to an entry, in four blocks, and the weight's has 8192, in four; both carry the sum in a scratch buffer. -/

@[expose] public section
noncomputable section

set_option maxRecDepth 16384

/-! ## The product -/

namespace Cert.Kernel2Ideal.Prod

open Idealize.ShloMosaic Idealize.ShloMosaic.TcCoe Idealize.SL.Sem Gen

variable (m : (ℓ : Loc nD τ sig) → Buf (Elt Ideal) ℓ) (c : Dev nD)

theorem found : V m c main_v0 = m ((c : Thread nD τ).loc main_arg0) ∧ V m c main_v1 = m ((c : Thread nD τ).loc main_arg1) := by
  constructor <;> (show StableHlo.after hostOps0 _ _ = _; after_results <;> rfl)

theorem visits : ∀ t : Fin cfg0.N, (win0_0.index t 0 = win0_2.index t 0 ∧ win0_0.index t 1 = 0) ∧
    (win0_1.index t 0 = 0 ∧ win0_1.index t 1 = win0_2.index t 1) :=
  (by decide +kernel : ∀ t : Fin grid0.N, _)

theorem final : (dats m 0 c).arrAt 2 cfg0.N =
    Tiles.mul (M := 8192) (K := 2048) (N := 11264) (m ((c : Thread nD τ).loc main_arg0)) (m ((c : Thread nD τ).loc main_arg1)) := by
  refine (dats m 0 c).arrAt_eq_of_covers 2 _ (by decide +kernel) fun t hf y => ?_
  have e := visits t
  blk_simp
  rw [after0_2]; frame_out
  simp only [k0_pay1, pointwise]
  refine (zero_add _).trans (Tiles.dot_congr (fun k => (congrFun (found m c).1 _).trans (congrArg _ (Tiles.ix2_congr ?_ ?_)))
    (fun k => (congrFun (found m c).2 _).trans (congrArg _ (Tiles.ix2_congr ?_ ?_)))) <;> blk_simp <;> omega

end Cert.Kernel2Ideal.Prod

/-! ## The gradient of the rows -/

namespace Cert.Kernel3Ideal.Prod

open Idealize.ShloMosaic Idealize.ShloMosaic.TcCoe Idealize.SL.Sem Gen

variable (m : (ℓ : Loc nD τ sig) → Buf (Elt Ideal) ℓ) (c : Dev nD)

theorem found : V m c main_v0 = m ((c : Thread nD τ).loc main_arg0) ∧ V m c main_v1 = m ((c : Thread nD τ).loc main_arg1) := by
  constructor <;> (show StableHlo.after hostOps0 _ _ = _; after_results <;> rfl)

theorem visits : ∀ t : Fin cfg0.N, (win0_0.index t 0 = t.val / 8 ∧ win0_0.index t 1 = t.val % 4) ∧
    (win0_1.index t 0 = t.val / 4 % 2 ∧ win0_1.index t 1 = t.val % 4) ∧ win0_2.index t 0 = t.val / 8 ∧ win0_2.index t 1 = t.val / 4 % 2 :=
  (by decide +kernel : ∀ t : Fin grid0.N, _)

theorem first (t : Fin cfg0.N) (h : t.val % 4 = 0) (y : S1024x1024.Idx) : (outsAt0 m c t.val t.isLt).2 y =
    Tiles.dot (fun k : Fin 2816 => iblk m c 0 t (ix2 (y 0) k)) (fun k => iblk m c 1 t (ix2 (y 1) k)) := by
  rw [outsAt0_A m c t h (by omega) (by omega)]; frame_out
  simp only [k0_pay1, pointwise]
  exact zero_add _

theorem next (t : Fin cfg0.N) (h : ¬ t.val % 4 = 0) (y : S1024x1024.Idx) : (outsAt0 m c t.val t.isLt).2 y =
    (show EReal from (outsAt0 m c (t.val - 1) (Nat.lt_of_le_of_lt (Nat.sub_le _ _) t.isLt)).2 y) +
      Tiles.dot (fun k : Fin 2816 => iblk m c 0 t (ix2 (y 0) k)) (fun k => iblk m c 1 t (ix2 (y 1) k)) := by
  by_cases h2 : t.val % 4 = 3 <;> [rw [outsAt0_C m c t h (by omega) h2]; rw [outsAt0_B m c t h (by omega) h2]] <;> frame_out <;>
    refine (congrArg (k0_pay2 · _ _ y) (Memref.IsWhole.read_unread _ _)).trans ?_ <;> simp only [k0_pay2, pointwise] <;>
    exact congrArg _ (zero_add _)

theorem last (t : Fin cfg0.N) (h : t.val % 4 = 3) : (outsAt0 m c t.val t.isLt).1 = (outsAt0 m c t.val t.isLt).2 := by
  rw [outsAt0_C m c t (by omega) (by omega) h]; frame_out

theorem final : (dats m 0 c).arrAt 2 cfg0.N =
    Tiles.mulT (M := 8192) (K := 11264) (N := 2048) (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  have e := (visits t).2.2
  blk_simp
  rw [after0_2, last m c t ht]
  refine Tiles.dot_of_run (nk := 4) (tk := 2816) (fun n h => (outsAt0 m c n h).2) _ _ (first m c) (next m c) t ht y _ _ rfl
    (fun p s k l hl hp => (congrFun (found m c).1 _).trans (congrArg _ (Tiles.ix2_congr ?_ ?_)))
    (fun p s k l hl hp => (congrFun (found m c).2 _).trans (congrArg _ (Tiles.ix2_congr ?_ ?_))) <;>
    have d := visits p <;> blk_simp <;> omega

end Cert.Kernel3Ideal.Prod

/-! ## The gradient of the weight -/

namespace Cert.Kernel4Ideal.Prod

open Idealize.ShloMosaic Idealize.ShloMosaic.TcCoe Idealize.SL.Sem Gen

variable (m : (ℓ : Loc nD τ sig) → Buf (Elt Ideal) ℓ) (c : Dev nD)

theorem found : V m c main_v0 = m ((c : Thread nD τ).loc main_arg0) ∧ V m c main_v1 = m ((c : Thread nD τ).loc main_arg1) := by
  constructor <;> (show StableHlo.after hostOps0 _ _ = _; after_results <;> rfl)

theorem visits : ∀ t : Fin cfg0.N, (win0_0.index t 0 = t.val % 4 ∧ win0_0.index t 1 = t.val / 44) ∧
    (win0_1.index t 0 = t.val % 4 ∧ win0_1.index t 1 = t.val / 4 % 11) ∧ win0_2.index t 0 = t.val / 44 ∧ win0_2.index t 1 = t.val / 4 % 11 :=
  (by decide +kernel : ∀ t : Fin grid0.N, _)

theorem first (t : Fin cfg0.N) (h : t.val % 4 = 0) (y : S1024x1024.Idx) : (outsAt0 m c t.val t.isLt).2 y =
    Tiles.dot (fun k : Fin 2048 => iblk m c 0 t (ix2 k (y 0))) (fun k => iblk m c 1 t (ix2 k (y 1))) := by
  rw [outsAt0_A m c t h (by omega) (by omega)]; frame_out
  simp only [k0_pay1, pointwise]
  exact zero_add _

theorem next (t : Fin cfg0.N) (h : ¬ t.val % 4 = 0) (y : S1024x1024.Idx) : (outsAt0 m c t.val t.isLt).2 y =
    (show EReal from (outsAt0 m c (t.val - 1) (Nat.lt_of_le_of_lt (Nat.sub_le _ _) t.isLt)).2 y) +
      Tiles.dot (fun k : Fin 2048 => iblk m c 0 t (ix2 k (y 0))) (fun k => iblk m c 1 t (ix2 k (y 1))) := by
  by_cases h2 : t.val % 4 = 3 <;> [rw [outsAt0_C m c t h (by omega) h2]; rw [outsAt0_B m c t h (by omega) h2]] <;> frame_out <;>
    refine (congrArg (k0_pay2 · _ _ y) (Memref.IsWhole.read_unread _ _)).trans ?_ <;> simp only [k0_pay2, pointwise] <;>
    exact congrArg _ (zero_add _)

theorem last (t : Fin cfg0.N) (h : t.val % 4 = 3) : (outsAt0 m c t.val t.isLt).1 = (outsAt0 m c t.val t.isLt).2 := by
  rw [outsAt0_C m c t (by omega) (by omega) h]; frame_out; rfl

theorem final : (dats m 0 c).arrAt 2 cfg0.N =
    Tiles.tmul (M := 2048) (K := 8192) (N := 11264) (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  have e := (visits t).2.2
  blk_simp
  rw [after0_2, last m c t ht]
  refine Tiles.dot_of_run (nk := 4) (tk := 2048) (fun n h => (outsAt0 m c n h).2) _ _ (first m c) (next m c) t ht y _ _ rfl
    (fun p s k l hl hp => (congrFun (found m c).1 _).trans (congrArg _ (Tiles.ix2_congr ?_ ?_)))
    (fun p s k l hl hp => (congrFun (found m c).2 _).trans (congrArg _ (Tiles.ix2_congr ?_ ?_))) <;>
    have d := visits p <;> blk_simp <;> omega

end Cert.Kernel4Ideal.Prod

/-! ## Beside the reference -/

namespace Cert.Proof

open Idealize.ShloMosaic Idealize.ShloMosaic.TcCoe Idealize.SL.Sem

theorem frame_Reference2Ideal : Cert.quiescent_Reference2Ideal := fun m g _ =>
  (θ_run Reference2Ideal.defs _ _).mono (fun r h => ⟨fun c => (h c).2, sem_eq_zero_of_no_sems (by decide) r.2⟩) (Reference2Ideal.Value.run m g)

theorem algebraic2 : Cert.algebraic_Kernel2Ideal_Reference2Ideal := by
  intro m g m' g' _ he
  refine ⟨_, (θ_run Kernel2Ideal.defs _ _).mono (fun r h c => ⟨(h c).1.trans (Kernel2Ideal.Prod.final m c), (h c).2⟩) (Kernel2Ideal.Value.run_blocks m g),
    (θ_run Reference2Ideal.defs _ _).mono (fun r h c => ⟨(h c).1.trans ?_, (h c).2⟩) (Reference2Ideal.Value.run m' g')⟩
  rw [Reference2Ideal.Read.val_main_v0_eq, (he c).1, (he c).2]
  funext i
  rw [Reference2Ideal.Read.val_main_v0_apply]
  refine Tiles.dot_congr (fun k => congrArg _ (Tiles.ix2_congr ?_ ?_)) (fun k => congrArg _ (Tiles.ix2_congr ?_ ?_)) <;> rfl

theorem frame_Reference3Ideal : Cert.quiescent_Reference3Ideal := fun m g _ =>
  (θ_run Reference3Ideal.defs _ _).mono (fun r h => ⟨fun c => (h c).2, sem_eq_zero_of_no_sems (by decide) r.2⟩) (Reference3Ideal.Value.run m g)

theorem algebraic3 : Cert.algebraic_Kernel3Ideal_Reference3Ideal := by
  intro m g m' g' _ he
  refine ⟨_, (θ_run Kernel3Ideal.defs _ _).mono (fun r h c => ⟨(h c).1.trans (Kernel3Ideal.Prod.final m c), (h c).2⟩) (Kernel3Ideal.Value.run_blocks m g),
    (θ_run Reference3Ideal.defs _ _).mono (fun r h c => ⟨(h c).1.trans ?_, (h c).2⟩) (Reference3Ideal.Value.run m' g')⟩
  rw [Reference3Ideal.Read.val_main_v2_eq, (he c).1, (he c).2]
  funext i
  rw [Reference3Ideal.Read.val_main_v2_apply]
  refine Tiles.dot_congr (fun k => congrArg _ (Tiles.ix2_congr ?_ ?_)) (fun k => congrArg _ (Tiles.ix2_congr ?_ ?_)) <;> rfl

theorem frame_Reference4Ideal : Cert.quiescent_Reference4Ideal := fun m g _ =>
  (θ_run Reference4Ideal.defs _ _).mono (fun r h => ⟨fun c => (h c).2, sem_eq_zero_of_no_sems (by decide) r.2⟩) (Reference4Ideal.Value.run m g)

theorem algebraic4 : Cert.algebraic_Kernel4Ideal_Reference4Ideal := by
  intro m g m' g' _ he
  refine ⟨_, (θ_run Kernel4Ideal.defs _ _).mono (fun r h c => ⟨(h c).1.trans (Kernel4Ideal.Prod.final m c), (h c).2⟩) (Kernel4Ideal.Value.run_blocks m g),
    (θ_run Reference4Ideal.defs _ _).mono (fun r h c => ⟨(h c).1.trans ?_, (h c).2⟩) (Reference4Ideal.Value.run m' g')⟩
  rw [Reference4Ideal.Read.val_main_v4_eq, (he c).1, (he c).2]
  funext i
  rw [Reference4Ideal.Read.val_main_v4_apply, Reference4Ideal.Read.val_main_v3_apply, Reference4Ideal.Read.val_main_v2_apply]
  refine (Tiles.dot_comm _ _).trans (Tiles.dot_congr (fun k => congrArg _ (Tiles.ix2_congr ?_ ?_)) (fun k => congrArg _ (Tiles.ix2_congr ?_ ?_))) <;> rfl

end Cert.Proof
-- ==== Proof.FfnDown.lean ====
module

public import proofs.«01_k».proof.Defs
public import proofs.«01_k».proof.Proof.Tiles
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Read
public import Idealize.ShloMosaic.Lib.Quiescent

/-! # The feed-forward block's second product and its two gradients

    The product of 8192 rows and the 5632 × 2048 weight sums its 5632 terms in two blocks, the weight's gradient its 8192 in four;
    the rows' gradient is computed at one grid point for each of its blocks. -/

@[expose] public section
noncomputable section

set_option maxRecDepth 16384

/-! ## The product -/

namespace Cert.Kernel5Ideal.Prod

open Idealize.ShloMosaic Idealize.ShloMosaic.TcCoe Idealize.SL.Sem Gen

variable (m : (ℓ : Loc nD τ sig) → Buf (Elt Ideal) ℓ) (c : Dev nD)

theorem found : V m c main_v0 = m ((c : Thread nD τ).loc main_arg0) ∧ V m c main_v1 = m ((c : Thread nD τ).loc main_arg1) := by
  constructor <;> (show StableHlo.after hostOps0 _ _ = _; after_results <;> rfl)

theorem visits : ∀ t : Fin cfg0.N, (win0_0.index t 0 = t.val / 4 ∧ win0_0.index t 1 = t.val % 2) ∧
    (win0_1.index t 0 = t.val % 2 ∧ win0_1.index t 1 = t.val / 2 % 2) ∧ win0_2.index t 0 = t.val / 4 ∧ win0_2.index t 1 = t.val / 2 % 2 :=
  (by decide +kernel : ∀ t : Fin grid0.N, _)

theorem first (t : Fin cfg0.N) (h : t.val % 2 = 0) (y : S1024x1024.Idx) : (outsAt0 m c t.val t.isLt).2 y =
    Tiles.dot (fun k : Fin 2816 => iblk m c 0 t (ix2 (y 0) k)) (fun k => iblk m c 1 t (ix2 k (y 1))) := by
  rw [outsAt0_A m c t h (by omega) (by omega)]; frame_out
  simp only [k0_pay1, pointwise]
  exact zero_add _

theorem next (t : Fin cfg0.N) (h : ¬ t.val % 2 = 0) (y : S1024x1024.Idx) : (outsAt0 m c t.val t.isLt).2 y =
    (show EReal from (outsAt0 m c (t.val - 1) (Nat.lt_of_le_of_lt (Nat.sub_le _ _) t.isLt)).2 y) +
      Tiles.dot (fun k : Fin 2816 => iblk m c 0 t (ix2 (y 0) k)) (fun k => iblk m c 1 t (ix2 k (y 1))) := by
  rw [outsAt0_B m c t h (by omega) (by omega)]; frame_out
  refine (congrArg (k0_pay2 · _ _ y) (Memref.IsWhole.read_unread _ _)).trans ?_
  simp only [k0_pay2, pointwise]
  exact congrArg _ (zero_add _)

theorem last (t : Fin cfg0.N) (h : t.val % 2 = 1) : (outsAt0 m c t.val t.isLt).1 = (outsAt0 m c t.val t.isLt).2 := by
  rw [outsAt0_B m c t (by omega) (by omega) (by omega)]; frame_out

theorem final : (dats m 0 c).arrAt 2 cfg0.N =
    Tiles.mul (M := 8192) (K := 5632) (N := 2048) (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have e := (visits t).2.2
  blk_simp
  rw [after0_2, last m c t ht]
  refine Tiles.dot_of_run (nk := 2) (tk := 2816) (fun n h => (outsAt0 m c n h).2) _ _ (first m c) (next m c) t ht y _ _ rfl
    (fun p s k l hl hp => (congrFun (found m c).1 _).trans (congrArg _ (Tiles.ix2_congr ?_ ?_)))
    (fun p s k l hl hp => (congrFun (found m c).2 _).trans (congrArg _ (Tiles.ix2_congr ?_ ?_))) <;>
    have d := visits p <;> blk_simp <;> omega

end Cert.Kernel5Ideal.Prod

/-! ## The gradient of the rows -/

namespace Cert.Kernel6Ideal.Prod

open Idealize.ShloMosaic Idealize.ShloMosaic.TcCoe Idealize.SL.Sem Gen

variable (m : (ℓ : Loc nD τ sig) → Buf (Elt Ideal) ℓ) (c : Dev nD)

theorem found : V m c main_arg0 = m ((c : Thread nD τ).loc main_arg0) ∧ V m c main_v0 = m ((c : Thread nD τ).loc main_arg1) := by
  constructor <;> (show StableHlo.after hostOps0 _ _ = _; after_results <;> rfl)

theorem visits : ∀ t : Fin cfg0.N, (win0_0.index t 0 = win0_2.index t 0 ∧ win0_0.index t 1 = 0) ∧
    (win0_1.index t 0 = win0_2.index t 1 ∧ win0_1.index t 1 = 0) :=
  (by decide +kernel : ∀ t : Fin grid0.N, _)

theorem final : (dats m 0 c).arrAt 2 cfg0.N =
    Tiles.mulT (M := 8192) (K := 2048) (N := 5632) (m ((c : Thread nD τ).loc main_arg0)) (m ((c : Thread nD τ).loc main_arg1)) := by
  refine (dats m 0 c).arrAt_eq_of_covers 2 _ (by decide +kernel) fun t hf y => ?_
  have e := visits t
  blk_simp
  rw [after0_2]; frame_out
  simp only [k0_pay1, pointwise]
  refine (zero_add _).trans (Tiles.dot_congr (fun k => (congrFun (found m c).1 _).trans (congrArg _ (Tiles.ix2_congr ?_ ?_)))
    (fun k => (congrFun (found m c).2 _).trans (congrArg _ (Tiles.ix2_congr ?_ ?_)))) <;> blk_simp <;> omega

end Cert.Kernel6Ideal.Prod

/-! ## The gradient of the weight -/

namespace Cert.Kernel7Ideal.Prod

open Idealize.ShloMosaic Idealize.ShloMosaic.TcCoe Idealize.SL.Sem Gen

variable (m : (ℓ : Loc nD τ sig) → Buf (Elt Ideal) ℓ) (c : Dev nD)

theorem found : V m c main_v0 = m ((c : Thread nD τ).loc main_arg0) ∧ V m c main_arg1 = m ((c : Thread nD τ).loc main_arg1) := by
  constructor <;> (show StableHlo.after hostOps0 _ _ = _; after_results <;> rfl)

theorem visits : ∀ t : Fin cfg0.N, (win0_0.index t 0 = t.val % 4 ∧ win0_0.index t 1 = t.val / 8) ∧
    (win0_1.index t 0 = t.val % 4 ∧ win0_1.index t 1 = t.val / 4 % 2) ∧ win0_2.index t 0 = t.val / 8 ∧ win0_2.index t 1 = t.val / 4 % 2 :=
  (by decide +kernel : ∀ t : Fin grid0.N, _)

theorem first (t : Fin cfg0.N) (h : t.val % 4 = 0) (y : S1408x1024.Idx) : (outsAt0 m c t.val t.isLt).2 y =
    Tiles.dot (fun k : Fin 2048 => iblk m c 0 t (ix2 k (y 0))) (fun k => iblk m c 1 t (ix2 k (y 1))) := by
  rw [outsAt0_A m c t h (by omega) (by omega)]; frame_out
  simp only [k0_pay1, pointwise]
  exact zero_add _

theorem next (t : Fin cfg0.N) (h : ¬ t.val % 4 = 0) (y : S1408x1024.Idx) : (outsAt0 m c t.val t.isLt).2 y =
    (show EReal from (outsAt0 m c (t.val - 1) (Nat.lt_of_le_of_lt (Nat.sub_le _ _) t.isLt)).2 y) +
      Tiles.dot (fun k : Fin 2048 => iblk m c 0 t (ix2 k (y 0))) (fun k => iblk m c 1 t (ix2 k (y 1))) := by
  by_cases h2 : t.val % 4 = 3 <;> [rw [outsAt0_C m c t h (by omega) h2]; rw [outsAt0_B m c t h (by omega) h2]] <;> frame_out <;>
    refine (congrArg (k0_pay2 · _ _ y) (Memref.IsWhole.read_unread _ _)).trans ?_ <;> simp only [k0_pay2, pointwise] <;>
    exact congrArg _ (zero_add _)

theorem last (t : Fin cfg0.N) (h : t.val % 4 = 3) : (outsAt0 m c t.val t.isLt).1 = (outsAt0 m c t.val t.isLt).2 := by
  rw [outsAt0_C m c t (by omega) (by omega) h]; frame_out; rfl

theorem final : (dats m 0 c).arrAt 2 cfg0.N =
    Tiles.tmul (M := 5632) (K := 8192) (N := 2048) (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  have e := (visits t).2.2
  blk_simp
  rw [after0_2, last m c t ht]
  refine Tiles.dot_of_run (nk := 4) (tk := 2048) (fun n h => (outsAt0 m c n h).2) _ _ (first m c) (next m c) t ht y _ _ rfl
    (fun p s k l hl hp => (congrFun (found m c).1 _).trans (congrArg _ (Tiles.ix2_congr ?_ ?_)))
    (fun p s k l hl hp => (congrFun (found m c).2 _).trans (congrArg _ (Tiles.ix2_congr ?_ ?_))) <;>
    have d := visits p <;> blk_simp <;> omega

end Cert.Kernel7Ideal.Prod

/-! ## Beside the reference -/

namespace Cert.Proof

open Idealize.ShloMosaic Idealize.ShloMosaic.TcCoe Idealize.SL.Sem

theorem frame_Reference5Ideal : Cert.quiescent_Reference5Ideal := fun m g _ =>
  (θ_run Reference5Ideal.defs _ _).mono (fun r h => ⟨fun c => (h c).2, sem_eq_zero_of_no_sems (by decide) r.2⟩) (Reference5Ideal.Value.run m g)

theorem algebraic5 : Cert.algebraic_Kernel5Ideal_Reference5Ideal := by
  intro m g m' g' _ he
  refine ⟨_, (θ_run Kernel5Ideal.defs _ _).mono (fun r h c => ⟨(h c).1.trans (Kernel5Ideal.Prod.final m c), (h c).2⟩) (Kernel5Ideal.Value.run_blocks m g),
    (θ_run Reference5Ideal.defs _ _).mono (fun r h c => ⟨(h c).1.trans ?_, (h c).2⟩) (Reference5Ideal.Value.run m' g')⟩
  rw [Reference5Ideal.Read.val_main_v0_eq, (he c).1, (he c).2]
  funext i
  rw [Reference5Ideal.Read.val_main_v0_apply]
  refine Tiles.dot_congr (fun k => congrArg _ (Tiles.ix2_congr ?_ ?_)) (fun k => congrArg _ (Tiles.ix2_congr ?_ ?_)) <;> rfl

theorem frame_Reference6Ideal : Cert.quiescent_Reference6Ideal := fun m g _ =>
  (θ_run Reference6Ideal.defs _ _).mono (fun r h => ⟨fun c => (h c).2, sem_eq_zero_of_no_sems (by decide) r.2⟩) (Reference6Ideal.Value.run m g)

theorem algebraic6 : Cert.algebraic_Kernel6Ideal_Reference6Ideal := by
  intro m g m' g' _ he
  refine ⟨_, (θ_run Kernel6Ideal.defs _ _).mono (fun r h c => ⟨(h c).1.trans (Kernel6Ideal.Prod.final m c), (h c).2⟩) (Kernel6Ideal.Value.run_blocks m g),
    (θ_run Reference6Ideal.defs _ _).mono (fun r h c => ⟨(h c).1.trans ?_, (h c).2⟩) (Reference6Ideal.Value.run m' g')⟩
  rw [Reference6Ideal.Read.val_main_v2_eq, (he c).1, (he c).2]
  funext i
  rw [Reference6Ideal.Read.val_main_v2_apply]
  refine Tiles.dot_congr (fun k => congrArg _ (Tiles.ix2_congr ?_ ?_)) (fun k => congrArg _ (Tiles.ix2_congr ?_ ?_)) <;> rfl

theorem frame_Reference7Ideal : Cert.quiescent_Reference7Ideal := fun m g _ =>
  (θ_run Reference7Ideal.defs _ _).mono (fun r h => ⟨fun c => (h c).2, sem_eq_zero_of_no_sems (by decide) r.2⟩) (Reference7Ideal.Value.run m g)

theorem algebraic7 : Cert.algebraic_Kernel7Ideal_Reference7Ideal := by
  intro m g m' g' _ he
  refine ⟨_, (θ_run Kernel7Ideal.defs _ _).mono (fun r h c => ⟨(h c).1.trans (Kernel7Ideal.Prod.final m c), (h c).2⟩) (Kernel7Ideal.Value.run_blocks m g),
    (θ_run Reference7Ideal.defs _ _).mono (fun r h c => ⟨(h c).1.trans ?_, (h c).2⟩) (Reference7Ideal.Value.run m' g')⟩
  rw [Reference7Ideal.Read.val_main_v4_eq, (he c).1, (he c).2]
  funext i
  rw [Reference7Ideal.Read.val_main_v4_apply, Reference7Ideal.Read.val_main_v3_apply, Reference7Ideal.Read.val_main_v2_apply]
  refine (Tiles.dot_comm _ _).trans (Tiles.dot_congr (fun k => congrArg _ (Tiles.ix2_congr ?_ ?_)) (fun k => congrArg _ (Tiles.ix2_congr ?_ ?_))) <;> rfl

end Cert.Proof
-- ==== Proof.WIn.lean ====
module

public import proofs.«01_k».proof.Defs
public import proofs.«01_k».proof.Proof.Tiles
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Read
public import Idealize.ShloMosaic.Lib.Quiescent

/-! # The input projection and its two gradients

    The projection's weight has 16384 columns. The rows' gradient sums its 16384 terms in eight blocks, the weight's its 8192 in four. -/

@[expose] public section
noncomputable section

set_option maxRecDepth 16384

/-! ## The product -/

namespace Cert.Kernel8Ideal.Prod

open Idealize.ShloMosaic Idealize.ShloMosaic.TcCoe Idealize.SL.Sem Gen

variable (m : (ℓ : Loc nD τ sig) → Buf (Elt Ideal) ℓ) (c : Dev nD)

theorem found : V m c main_v0 = m ((c : Thread nD τ).loc main_arg0) ∧ V m c main_v1 = m ((c : Thread nD τ).loc main_arg1) := by
  constructor <;> (show StableHlo.after hostOps0 _ _ = _; after_results <;> rfl)

theorem visits : ∀ t : Fin cfg0.N, (win0_0.index t 0 = win0_2.index t 0 ∧ win0_0.index t 1 = 0) ∧
    (win0_1.index t 0 = 0 ∧ win0_1.index t 1 = win0_2.index t 1) :=
  (by decide +kernel : ∀ t : Fin grid0.N, _)

theorem final : (dats m 0 c).arrAt 2 cfg0.N =
    Tiles.mul (M := 8192) (K := 2048) (N := 16384) (m ((c : Thread nD τ).loc main_arg0)) (m ((c : Thread nD τ).loc main_arg1)) := by
  refine (dats m 0 c).arrAt_eq_of_covers 2 _ (by decide +kernel) fun t hf y => ?_
  have e := visits t
  blk_simp
  rw [after0_2]; frame_out
  simp only [k0_pay1, pointwise]
  refine (zero_add _).trans (Tiles.dot_congr (fun k => (congrFun (found m c).1 _).trans (congrArg _ (Tiles.ix2_congr ?_ ?_)))
    (fun k => (congrFun (found m c).2 _).trans (congrArg _ (Tiles.ix2_congr ?_ ?_)))) <;> blk_simp <;> omega

end Cert.Kernel8Ideal.Prod

/-! ## The gradient of the rows -/

namespace Cert.Kernel9Ideal.Prod

open Idealize.ShloMosaic Idealize.ShloMosaic.TcCoe Idealize.SL.Sem Gen

variable (m : (ℓ : Loc nD τ sig) → Buf (Elt Ideal) ℓ) (c : Dev nD)

theorem found : V m c main_v0 = m ((c : Thread nD τ).loc main_arg0) ∧ V m c main_v1 = m ((c : Thread nD τ).loc main_arg1) := by
  constructor <;> (show StableHlo.after hostOps0 _ _ = _; after_results <;> rfl)

theorem visits : ∀ t : Fin cfg0.N, (win0_0.index t 0 = t.val / 16 ∧ win0_0.index t 1 = t.val % 8) ∧
    (win0_1.index t 0 = t.val / 8 % 2 ∧ win0_1.index t 1 = t.val % 8) ∧ win0_2.index t 0 = t.val / 16 ∧ win0_2.index t 1 = t.val / 8 % 2 :=
  (by decide +kernel : ∀ t : Fin grid0.N, _)

theorem first (t : Fin cfg0.N) (h : t.val % 8 = 0) (y : S1024x1024.Idx) : (outsAt0 m c t.val t.isLt).2 y =
    Tiles.dot (fun k : Fin 2048 => iblk m c 0 t (ix2 (y 0) k)) (fun k => iblk m c 1 t (ix2 (y 1) k)) := by
  rw [outsAt0_A m c t h (by omega) (by omega)]; frame_out
  simp only [k0_pay1, pointwise]
  exact zero_add _

theorem next (t : Fin cfg0.N) (h : ¬ t.val % 8 = 0) (y : S1024x1024.Idx) : (outsAt0 m c t.val t.isLt).2 y =
    (show EReal from (outsAt0 m c (t.val - 1) (Nat.lt_of_le_of_lt (Nat.sub_le _ _) t.isLt)).2 y) +
      Tiles.dot (fun k : Fin 2048 => iblk m c 0 t (ix2 (y 0) k)) (fun k => iblk m c 1 t (ix2 (y 1) k)) := by
  by_cases h2 : t.val % 8 = 7 <;> [rw [outsAt0_C m c t h (by omega) h2]; rw [outsAt0_B m c t h (by omega) h2]] <;> frame_out <;>
    refine (congrArg (k0_pay2 · _ _ y) (Memref.IsWhole.read_unread _ _)).trans ?_ <;> simp only [k0_pay2, pointwise] <;>
    exact congrArg _ (zero_add _)

theorem last (t : Fin cfg0.N) (h : t.val % 8 = 7) : (outsAt0 m c t.val t.isLt).1 = (outsAt0 m c t.val t.isLt).2 := by
  rw [outsAt0_C m c t (by omega) (by omega) h]; frame_out

theorem final : (dats m 0 c).arrAt 2 cfg0.N =
    Tiles.mulT (M := 8192) (K := 16384) (N := 2048) (m ((c : Thread nD τ).loc main_arg0)) (m ((c : Thread nD τ).loc main_arg1)) := by
  refine (dats m 0 c).arrAt_eq_of_covers 2 _ (by decide +kernel) fun t hf y => ?_
  have ht : t.val % 8 = 7 := (flush0_2 t).mp hf
  have e := (visits t).2.2
  blk_simp
  rw [after0_2, last m c t ht]
  refine Tiles.dot_of_run (nk := 8) (tk := 2048) (fun n h => (outsAt0 m c n h).2) _ _ (first m c) (next m c) t ht y _ _ rfl
    (fun p s k l hl hp => (congrFun (found m c).1 _).trans (congrArg _ (Tiles.ix2_congr ?_ ?_)))
    (fun p s k l hl hp => (congrFun (found m c).2 _).trans (congrArg _ (Tiles.ix2_congr ?_ ?_))) <;>
    have d := visits p <;> blk_simp <;> omega

end Cert.Kernel9Ideal.Prod

/-! ## The gradient of the weight -/

namespace Cert.Kernel10Ideal.Prod

open Idealize.ShloMosaic Idealize.ShloMosaic.TcCoe Idealize.SL.Sem Gen

variable (m : (ℓ : Loc nD τ sig) → Buf (Elt Ideal) ℓ) (c : Dev nD)

theorem found : V m c main_v0 = m ((c : Thread nD τ).loc main_arg0) ∧ V m c main_v1 = m ((c : Thread nD τ).loc main_arg1) := by
  constructor <;> (show StableHlo.after hostOps0 _ _ = _; after_results <;> rfl)

theorem visits : ∀ t : Fin cfg0.N, (win0_0.index t 0 = t.val % 4 ∧ win0_0.index t 1 = t.val / 64) ∧
    (win0_1.index t 0 = t.val % 4 ∧ win0_1.index t 1 = t.val / 4 % 16) ∧ win0_2.index t 0 = t.val / 64 ∧ win0_2.index t 1 = t.val / 4 % 16 :=
  (by decide +kernel : ∀ t : Fin grid0.N, _)

theorem first (t : Fin cfg0.N) (h : t.val % 4 = 0) (y : S1024x1024.Idx) : (outsAt0 m c t.val t.isLt).2 y =
    Tiles.dot (fun k : Fin 2048 => iblk m c 0 t (ix2 k (y 0))) (fun k => iblk m c 1 t (ix2 k (y 1))) := by
  rw [outsAt0_A m c t h (by omega) (by omega)]; frame_out
  simp only [k0_pay1, pointwise]
  exact zero_add _

theorem next (t : Fin cfg0.N) (h : ¬ t.val % 4 = 0) (y : S1024x1024.Idx) : (outsAt0 m c t.val t.isLt).2 y =
    (show EReal from (outsAt0 m c (t.val - 1) (Nat.lt_of_le_of_lt (Nat.sub_le _ _) t.isLt)).2 y) +
      Tiles.dot (fun k : Fin 2048 => iblk m c 0 t (ix2 k (y 0))) (fun k => iblk m c 1 t (ix2 k (y 1))) := by
  by_cases h2 : t.val % 4 = 3 <;> [rw [outsAt0_C m c t h (by omega) h2]; rw [outsAt0_B m c t h (by omega) h2]] <;> frame_out <;>
    refine (congrArg (k0_pay2 · _ _ y) (Memref.IsWhole.read_unread _ _)).trans ?_ <;> simp only [k0_pay2, pointwise] <;>
    exact congrArg _ (zero_add _)

theorem last (t : Fin cfg0.N) (h : t.val % 4 = 3) : (outsAt0 m c t.val t.isLt).1 = (outsAt0 m c t.val t.isLt).2 := by
  rw [outsAt0_C m c t (by omega) (by omega) h]; frame_out; rfl

theorem final : (dats m 0 c).arrAt 2 cfg0.N =
    Tiles.tmul (M := 2048) (K := 8192) (N := 16384) (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  have e := (visits t).2.2
  blk_simp
  rw [after0_2, last m c t ht]
  refine Tiles.dot_of_run (nk := 4) (tk := 2048) (fun n h => (outsAt0 m c n h).2) _ _ (first m c) (next m c) t ht y _ _ rfl
    (fun p s k l hl hp => (congrFun (found m c).1 _).trans (congrArg _ (Tiles.ix2_congr ?_ ?_)))
    (fun p s k l hl hp => (congrFun (found m c).2 _).trans (congrArg _ (Tiles.ix2_congr ?_ ?_))) <;>
    have d := visits p <;> blk_simp <;> omega

end Cert.Kernel10Ideal.Prod

/-! ## Beside the reference -/

namespace Cert.Proof

open Idealize.ShloMosaic Idealize.ShloMosaic.TcCoe Idealize.SL.Sem

theorem frame_Reference8Ideal : Cert.quiescent_Reference8Ideal := fun m g _ =>
  (θ_run Reference8Ideal.defs _ _).mono (fun r h => ⟨fun c => (h c).2, sem_eq_zero_of_no_sems (by decide) r.2⟩) (Reference8Ideal.Value.run m g)

theorem algebraic8 : Cert.algebraic_Kernel8Ideal_Reference8Ideal := by
  intro m g m' g' _ he
  refine ⟨_, (θ_run Kernel8Ideal.defs _ _).mono (fun r h c => ⟨(h c).1.trans (Kernel8Ideal.Prod.final m c), (h c).2⟩) (Kernel8Ideal.Value.run_blocks m g),
    (θ_run Reference8Ideal.defs _ _).mono (fun r h c => ⟨(h c).1.trans ?_, (h c).2⟩) (Reference8Ideal.Value.run m' g')⟩
  rw [Reference8Ideal.Read.val_main_v0_eq, (he c).1, (he c).2]
  funext i
  rw [Reference8Ideal.Read.val_main_v0_apply]
  refine Tiles.dot_congr (fun k => congrArg _ (Tiles.ix2_congr ?_ ?_)) (fun k => congrArg _ (Tiles.ix2_congr ?_ ?_)) <;> rfl

theorem frame_Reference9Ideal : Cert.quiescent_Reference9Ideal := fun m g _ =>
  (θ_run Reference9Ideal.defs _ _).mono (fun r h => ⟨fun c => (h c).2, sem_eq_zero_of_no_sems (by decide) r.2⟩) (Reference9Ideal.Value.run m g)

theorem algebraic9 : Cert.algebraic_Kernel9Ideal_Reference9Ideal := by
  intro m g m' g' _ he
  refine ⟨_, (θ_run Kernel9Ideal.defs _ _).mono (fun r h c => ⟨(h c).1.trans (Kernel9Ideal.Prod.final m c), (h c).2⟩) (Kernel9Ideal.Value.run_blocks m g),
    (θ_run Reference9Ideal.defs _ _).mono (fun r h c => ⟨(h c).1.trans ?_, (h c).2⟩) (Reference9Ideal.Value.run m' g')⟩
  rw [Reference9Ideal.Read.val_main_v2_eq, (he c).1, (he c).2]
  funext i
  rw [Reference9Ideal.Read.val_main_v2_apply]
  refine Tiles.dot_congr (fun k => congrArg _ (Tiles.ix2_congr ?_ ?_)) (fun k => congrArg _ (Tiles.ix2_congr ?_ ?_)) <;> rfl

theorem frame_Reference10Ideal : Cert.quiescent_Reference10Ideal := fun m g _ =>
  (θ_run Reference10Ideal.defs _ _).mono (fun r h => ⟨fun c => (h c).2, sem_eq_zero_of_no_sems (by decide) r.2⟩) (Reference10Ideal.Value.run m g)

theorem algebraic10 : Cert.algebraic_Kernel10Ideal_Reference10Ideal := by
  intro m g m' g' _ he
  refine ⟨_, (θ_run Kernel10Ideal.defs _ _).mono (fun r h c => ⟨(h c).1.trans (Kernel10Ideal.Prod.final m c), (h c).2⟩) (Kernel10Ideal.Value.run_blocks m g),
    (θ_run Reference10Ideal.defs _ _).mono (fun r h c => ⟨(h c).1.trans ?_, (h c).2⟩) (Reference10Ideal.Value.run m' g')⟩
  rw [Reference10Ideal.Read.val_main_v4_eq, (he c).1, (he c).2]
  funext i
  rw [Reference10Ideal.Read.val_main_v4_apply, Reference10Ideal.Read.val_main_v3_apply, Reference10Ideal.Read.val_main_v2_apply]
  refine (Tiles.dot_comm _ _).trans (Tiles.dot_congr (fun k => congrArg _ (Tiles.ix2_congr ?_ ?_)) (fun k => congrArg _ (Tiles.ix2_congr ?_ ?_))) <;> rfl

end Cert.Proof
-- ==== Proof.WOut.lean ====
module

public import proofs.«01_k».proof.Defs
public import proofs.«01_k».proof.Proof.Tiles
public import proofs.«01_k».proof.Proof.Gen.Kernel11.Frame
public import proofs.«01_k».proof.Proof.Gen.Kernel11Ideal.Value
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Read
public import Idealize.ShloMosaic.Lib.Quiescent

/-! # The output projection and its two gradients

    The weight is 2048 × 2048; only its own gradient sums over more than one block. -/

@[expose] public section
noncomputable section

set_option maxRecDepth 16384

/-! ## The product -/

namespace Cert.Kernel11Ideal.Prod

open Idealize.ShloMosaic Idealize.ShloMosaic.TcCoe Idealize.SL.Sem Gen

variable (m : (ℓ : Loc nD τ sig) → Buf (Elt Ideal) ℓ) (c : Dev nD)

theorem found : V m c main_v0 = m ((c : Thread nD τ).loc main_arg0) ∧ V m c main_v1 = m ((c : Thread nD τ).loc main_arg1) := by
  constructor <;> (show StableHlo.after hostOps0 _ _ = _; after_results <;> rfl)

theorem visits : ∀ t : Fin cfg0.N, (win0_0.index t 0 = win0_2.index t 0 ∧ win0_0.index t 1 = 0) ∧
    (win0_1.index t 0 = 0 ∧ win0_1.index t 1 = win0_2.index t 1) :=
  (by decide +kernel : ∀ t : Fin grid0.N, _)

theorem final : (dats m 0 c).arrAt 2 cfg0.N =
    Tiles.mul (M := 8192) (K := 2048) (N := 2048) (m ((c : Thread nD τ).loc main_arg0)) (m ((c : Thread nD τ).loc main_arg1)) := by
  refine (dats m 0 c).arrAt_eq_of_covers 2 _ (by decide +kernel) fun t hf y => ?_
  have e := visits t
  blk_simp
  rw [after0_2]; frame_out
  simp only [k0_pay1, pointwise]
  refine (zero_add _).trans (Tiles.dot_congr (fun k => (congrFun (found m c).1 _).trans (congrArg _ (Tiles.ix2_congr ?_ ?_)))
    (fun k => (congrFun (found m c).2 _).trans (congrArg _ (Tiles.ix2_congr ?_ ?_)))) <;> blk_simp <;> omega

end Cert.Kernel11Ideal.Prod

/-! ## The gradient of the rows -/

namespace Cert.Kernel12Ideal.Prod

open Idealize.ShloMosaic Idealize.ShloMosaic.TcCoe Idealize.SL.Sem Gen

variable (m : (ℓ : Loc nD τ sig) → Buf (Elt Ideal) ℓ) (c : Dev nD)

theorem found : V m c main_arg0 = m ((c : Thread nD τ).loc main_arg0) ∧ V m c main_v0 = m ((c : Thread nD τ).loc main_arg1) := by
  constructor <;> (show StableHlo.after hostOps0 _ _ = _; after_results <;> rfl)

theorem visits : ∀ t : Fin cfg0.N, (win0_0.index t 0 = win0_2.index t 0 ∧ win0_0.index t 1 = 0) ∧
    (win0_1.index t 0 = win0_2.index t 1 ∧ win0_1.index t 1 = 0) :=
  (by decide +kernel : ∀ t : Fin grid0.N, _)

theorem final : (dats m 0 c).arrAt 2 cfg0.N =
    Tiles.mulT (M := 8192) (K := 2048) (N := 2048) (m ((c : Thread nD τ).loc main_arg0)) (m ((c : Thread nD τ).loc main_arg1)) := by
  refine (dats m 0 c).arrAt_eq_of_covers 2 _ (by decide +kernel) fun t hf y => ?_
  have e := visits t
  blk_simp
  rw [after0_2]; frame_out
  simp only [k0_pay1, pointwise]
  refine (zero_add _).trans (Tiles.dot_congr (fun k => (congrFun (found m c).1 _).trans (congrArg _ (Tiles.ix2_congr ?_ ?_)))
    (fun k => (congrFun (found m c).2 _).trans (congrArg _ (Tiles.ix2_congr ?_ ?_)))) <;> blk_simp <;> omega

end Cert.Kernel12Ideal.Prod

/-! ## The gradient of the weight -/

namespace Cert.Kernel13Ideal.Prod

open Idealize.ShloMosaic Idealize.ShloMosaic.TcCoe Idealize.SL.Sem Gen

variable (m : (ℓ : Loc nD τ sig) → Buf (Elt Ideal) ℓ) (c : Dev nD)

theorem found : V m c main_v0 = m ((c : Thread nD τ).loc main_arg0) ∧ V m c main_arg1 = m ((c : Thread nD τ).loc main_arg1) := by
  constructor <;> (show StableHlo.after hostOps0 _ _ = _; after_results <;> rfl)

theorem visits : ∀ t : Fin cfg0.N, (win0_0.index t 0 = t.val % 4 ∧ win0_0.index t 1 = t.val / 8) ∧
    (win0_1.index t 0 = t.val % 4 ∧ win0_1.index t 1 = t.val / 4 % 2) ∧ win0_2.index t 0 = t.val / 8 ∧ win0_2.index t 1 = t.val / 4 % 2 :=
  (by decide +kernel : ∀ t : Fin grid0.N, _)

theorem first (t : Fin cfg0.N) (h : t.val % 4 = 0) (y : S1024x1024.Idx) : (outsAt0 m c t.val t.isLt).2 y =
    Tiles.dot (fun k : Fin 2048 => iblk m c 0 t (ix2 k (y 0))) (fun k => iblk m c 1 t (ix2 k (y 1))) := by
  rw [outsAt0_A m c t h (by omega) (by omega)]; frame_out
  simp only [k0_pay1, pointwise]
  exact zero_add _

theorem next (t : Fin cfg0.N) (h : ¬ t.val % 4 = 0) (y : S1024x1024.Idx) : (outsAt0 m c t.val t.isLt).2 y =
    (show EReal from (outsAt0 m c (t.val - 1) (Nat.lt_of_le_of_lt (Nat.sub_le _ _) t.isLt)).2 y) +
      Tiles.dot (fun k : Fin 2048 => iblk m c 0 t (ix2 k (y 0))) (fun k => iblk m c 1 t (ix2 k (y 1))) := by
  by_cases h2 : t.val % 4 = 3 <;> [rw [outsAt0_C m c t h (by omega) h2]; rw [outsAt0_B m c t h (by omega) h2]] <;> frame_out <;>
    refine (congrArg (k0_pay2 · _ _ y) (Memref.IsWhole.read_unread _ _)).trans ?_ <;> simp only [k0_pay2, pointwise] <;>
    exact congrArg _ (zero_add _)

theorem last (t : Fin cfg0.N) (h : t.val % 4 = 3) : (outsAt0 m c t.val t.isLt).1 = (outsAt0 m c t.val t.isLt).2 := by
  rw [outsAt0_C m c t (by omega) (by omega) h]; frame_out; rfl

theorem final : (dats m 0 c).arrAt 2 cfg0.N =
    Tiles.tmul (M := 2048) (K := 8192) (N := 2048) (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  have e := (visits t).2.2
  blk_simp
  rw [after0_2, last m c t ht]
  refine Tiles.dot_of_run (nk := 4) (tk := 2048) (fun n h => (outsAt0 m c n h).2) _ _ (first m c) (next m c) t ht y _ _ rfl
    (fun p s k l hl hp => (congrFun (found m c).1 _).trans (congrArg _ (Tiles.ix2_congr ?_ ?_)))
    (fun p s k l hl hp => (congrFun (found m c).2 _).trans (congrArg _ (Tiles.ix2_congr ?_ ?_))) <;>
    have d := visits p <;> blk_simp <;> omega

end Cert.Kernel13Ideal.Prod

/-! ## Beside the reference -/

namespace Cert.Proof

open Idealize.ShloMosaic Idealize.ShloMosaic.TcCoe Idealize.SL.Sem

theorem frame_Reference11Ideal : Cert.quiescent_Reference11Ideal := fun m g _ =>
  (θ_run Reference11Ideal.defs _ _).mono (fun r h => ⟨fun c => (h c).2, sem_eq_zero_of_no_sems (by decide) r.2⟩) (Reference11Ideal.Value.run m g)

theorem algebraic11 : Cert.algebraic_Kernel11Ideal_Reference11Ideal := by
  intro m g m' g' _ he
  refine ⟨_, (θ_run Kernel11Ideal.defs _ _).mono (fun r h c => ⟨(h c).1.trans (Kernel11Ideal.Prod.final m c), (h c).2⟩) (Kernel11Ideal.Value.run_blocks m g),
    (θ_run Reference11Ideal.defs _ _).mono (fun r h c => ⟨(h c).1.trans ?_, (h c).2⟩) (Reference11Ideal.Value.run m' g')⟩
  rw [Reference11Ideal.Read.val_main_v0_eq, (he c).1, (he c).2]
  funext i
  rw [Reference11Ideal.Read.val_main_v0_apply]
  refine Tiles.dot_congr (fun k => congrArg _ (Tiles.ix2_congr ?_ ?_)) (fun k => congrArg _ (Tiles.ix2_congr ?_ ?_)) <;> rfl

theorem frame_Reference12Ideal : Cert.quiescent_Reference12Ideal := fun m g _ =>
  (θ_run Reference12Ideal.defs _ _).mono (fun r h => ⟨fun c => (h c).2, sem_eq_zero_of_no_sems (by decide) r.2⟩) (Reference12Ideal.Value.run m g)

theorem algebraic12 : Cert.algebraic_Kernel12Ideal_Reference12Ideal := by
  intro m g m' g' _ he
  refine ⟨_, (θ_run Kernel12Ideal.defs _ _).mono (fun r h c => ⟨(h c).1.trans (Kernel12Ideal.Prod.final m c), (h c).2⟩) (Kernel12Ideal.Value.run_blocks m g),
    (θ_run Reference12Ideal.defs _ _).mono (fun r h c => ⟨(h c).1.trans ?_, (h c).2⟩) (Reference12Ideal.Value.run m' g')⟩
  rw [Reference12Ideal.Read.val_main_v2_eq, (he c).1, (he c).2]
  funext i
  rw [Reference12Ideal.Read.val_main_v2_apply]
  refine Tiles.dot_congr (fun k => congrArg _ (Tiles.ix2_congr ?_ ?_)) (fun k => congrArg _ (Tiles.ix2_congr ?_ ?_)) <;> rfl

theorem frame_Reference13Ideal : Cert.quiescent_Reference13Ideal := fun m g _ =>
  (θ_run Reference13Ideal.defs _ _).mono (fun r h => ⟨fun c => (h c).2, sem_eq_zero_of_no_sems (by decide) r.2⟩) (Reference13Ideal.Value.run m g)

theorem algebraic13 : Cert.algebraic_Kernel13Ideal_Reference13Ideal := by
  intro m g m' g' _ he
  refine ⟨_, (θ_run Kernel13Ideal.defs _ _).mono (fun r h c => ⟨(h c).1.trans (Kernel13Ideal.Prod.final m c), (h c).2⟩) (Kernel13Ideal.Value.run_blocks m g),
    (θ_run Reference13Ideal.defs _ _).mono (fun r h c => ⟨(h c).1.trans ?_, (h c).2⟩) (Reference13Ideal.Value.run m' g')⟩
  rw [Reference13Ideal.Read.val_main_v4_eq, (he c).1, (he c).2]
  funext i
  rw [Reference13Ideal.Read.val_main_v4_apply, Reference13Ideal.Read.val_main_v3_apply, Reference13Ideal.Read.val_main_v2_apply]
  refine (Tiles.dot_comm _ _).trans (Tiles.dot_congr (fun k => congrArg _ (Tiles.ix2_congr ?_ ?_)) (fun k => congrArg _ (Tiles.ix2_congr ?_ ?_))) <;> rfl

end Cert.Proof
-- ==== Proof.MixOut.lean ====
module

public import proofs.«01_k».proof.Defs
public import proofs.«01_k».proof.Proof.Tiles
public import proofs.«01_k».proof.Proof.Gen.Kernel14.Frame
public import proofs.«01_k».proof.Proof.Gen.Kernel14Ideal.Value
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Read
public import proofs.«01_k».proof.Proof.Gen.Kernel18.Frame
public import proofs.«01_k».proof.Proof.Gen.Kernel18Ideal.Value
public import proofs.«01_k».proof.Proof.Gen.Reference18Ideal.Read
public import Idealize.ShloMosaic.Lib.Quiescent

/-! # A mixer's output projection and its two gradients

    The weight is 1024 × 2048; only its own gradient sums over more than one block. The attention's output projection and its
    weight's gradient take their rows at float32. -/

@[expose] public section
noncomputable section

set_option maxRecDepth 16384

/-! ## The product -/

namespace Cert.Kernel14Ideal.Prod

open Idealize.ShloMosaic Idealize.ShloMosaic.TcCoe Idealize.SL.Sem Gen

variable (m : (ℓ : Loc nD τ sig) → Buf (Elt Ideal) ℓ) (c : Dev nD)

theorem found : V m c main_v0 = m ((c : Thread nD τ).loc main_arg0) ∧ V m c main_v1 = m ((c : Thread nD τ).loc main_arg1) := by
  constructor <;> (show StableHlo.after hostOps0 _ _ = _; after_results <;> rfl)

theorem visits : ∀ t : Fin cfg0.N, (win0_0.index t 0 = win0_2.index t 0 ∧ win0_0.index t 1 = 0) ∧
    (win0_1.index t 0 = 0 ∧ win0_1.index t 1 = win0_2.index t 1) :=
  (by decide +kernel : ∀ t : Fin grid0.N, _)

theorem final : (dats m 0 c).arrAt 2 cfg0.N =
    Tiles.mul (M := 8192) (K := 1024) (N := 2048) (m ((c : Thread nD τ).loc main_arg0)) (m ((c : Thread nD τ).loc main_arg1)) := by
  refine (dats m 0 c).arrAt_eq_of_covers 2 _ (by decide +kernel) fun t hf y => ?_
  have e := visits t
  blk_simp
  rw [after0_2]; frame_out
  simp only [k0_pay1, pointwise]
  refine (zero_add _).trans (Tiles.dot_congr (fun k => (congrFun (found m c).1 _).trans (congrArg _ (Tiles.ix2_congr ?_ ?_)))
    (fun k => (congrFun (found m c).2 _).trans (congrArg _ (Tiles.ix2_congr ?_ ?_)))) <;> blk_simp <;> omega

end Cert.Kernel14Ideal.Prod

/-! ## The gradient of the rows -/

namespace Cert.Kernel15Ideal.Prod

open Idealize.ShloMosaic Idealize.ShloMosaic.TcCoe Idealize.SL.Sem Gen

variable (m : (ℓ : Loc nD τ sig) → Buf (Elt Ideal) ℓ) (c : Dev nD)

theorem found : V m c main_v0 = m ((c : Thread nD τ).loc main_arg0) ∧ V m c main_v1 = m ((c : Thread nD τ).loc main_arg1) := by
  constructor <;> (show StableHlo.after hostOps0 _ _ = _; after_results <;> rfl)

theorem visits : ∀ t : Fin cfg0.N, (win0_0.index t 0 = win0_2.index t 0 ∧ win0_0.index t 1 = 0) ∧
    (win0_1.index t 0 = win0_2.index t 1 ∧ win0_1.index t 1 = 0) :=
  (by decide +kernel : ∀ t : Fin grid0.N, _)

theorem final : (dats m 0 c).arrAt 2 cfg0.N =
    Tiles.mulT (M := 8192) (K := 2048) (N := 1024) (m ((c : Thread nD τ).loc main_arg0)) (m ((c : Thread nD τ).loc main_arg1)) := by
  refine (dats m 0 c).arrAt_eq_of_covers 2 _ (by decide +kernel) fun t hf y => ?_
  have e := visits t
  blk_simp
  rw [after0_2]; frame_out
  simp only [k0_pay1, pointwise]
  refine (zero_add _).trans (Tiles.dot_congr (fun k => (congrFun (found m c).1 _).trans (congrArg _ (Tiles.ix2_congr ?_ ?_)))
    (fun k => (congrFun (found m c).2 _).trans (congrArg _ (Tiles.ix2_congr ?_ ?_)))) <;> blk_simp <;> omega

end Cert.Kernel15Ideal.Prod

/-! ## The gradient of the weight -/

namespace Cert.Kernel16Ideal.Prod

open Idealize.ShloMosaic Idealize.ShloMosaic.TcCoe Idealize.SL.Sem Gen

variable (m : (ℓ : Loc nD τ sig) → Buf (Elt Ideal) ℓ) (c : Dev nD)

theorem found : V m c main_v0 = m ((c : Thread nD τ).loc main_arg0) ∧ V m c main_v1 = m ((c : Thread nD τ).loc main_arg1) := by
  constructor <;> (show StableHlo.after hostOps0 _ _ = _; after_results <;> rfl)

theorem visits : ∀ t : Fin cfg0.N, (win0_0.index t 0 = t.val % 4 ∧ win0_0.index t 1 = t.val / 8) ∧
    (win0_1.index t 0 = t.val % 4 ∧ win0_1.index t 1 = t.val / 4 % 2) ∧ win0_2.index t 0 = t.val / 8 ∧ win0_2.index t 1 = t.val / 4 % 2 :=
  (by decide +kernel : ∀ t : Fin grid0.N, _)

theorem first (t : Fin cfg0.N) (h : t.val % 4 = 0) (y : S1024x1024.Idx) : (outsAt0 m c t.val t.isLt).2 y =
    Tiles.dot (fun k : Fin 2048 => iblk m c 0 t (ix2 k (y 0))) (fun k => iblk m c 1 t (ix2 k (y 1))) := by
  rw [outsAt0_A m c t h (by omega) (by omega)]; frame_out
  simp only [k0_pay1, pointwise]
  exact zero_add _

theorem next (t : Fin cfg0.N) (h : ¬ t.val % 4 = 0) (y : S1024x1024.Idx) : (outsAt0 m c t.val t.isLt).2 y =
    (show EReal from (outsAt0 m c (t.val - 1) (Nat.lt_of_le_of_lt (Nat.sub_le _ _) t.isLt)).2 y) +
      Tiles.dot (fun k : Fin 2048 => iblk m c 0 t (ix2 k (y 0))) (fun k => iblk m c 1 t (ix2 k (y 1))) := by
  by_cases h2 : t.val % 4 = 3 <;> [rw [outsAt0_C m c t h (by omega) h2]; rw [outsAt0_B m c t h (by omega) h2]] <;> frame_out <;>
    refine (congrArg (k0_pay2 · _ _ y) (Memref.IsWhole.read_unread _ _)).trans ?_ <;> simp only [k0_pay2, pointwise] <;>
    exact congrArg _ (zero_add _)

theorem last (t : Fin cfg0.N) (h : t.val % 4 = 3) : (outsAt0 m c t.val t.isLt).1 = (outsAt0 m c t.val t.isLt).2 := by
  rw [outsAt0_C m c t (by omega) (by omega) h]; frame_out; rfl

theorem final : (dats m 0 c).arrAt 2 cfg0.N =
    Tiles.tmul (M := 1024) (K := 8192) (N := 2048) (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  have e := (visits t).2.2
  blk_simp
  rw [after0_2, last m c t ht]
  refine Tiles.dot_of_run (nk := 4) (tk := 2048) (fun n h => (outsAt0 m c n h).2) _ _ (first m c) (next m c) t ht y _ _ rfl
    (fun p s k l hl hp => (congrFun (found m c).1 _).trans (congrArg _ (Tiles.ix2_congr ?_ ?_)))
    (fun p s k l hl hp => (congrFun (found m c).2 _).trans (congrArg _ (Tiles.ix2_congr ?_ ?_))) <;>
    have d := visits p <;> blk_simp <;> omega

end Cert.Kernel16Ideal.Prod

/-! ## The attention's product -/

namespace Cert.Kernel17Ideal.Prod

open Idealize.ShloMosaic Idealize.ShloMosaic.TcCoe Idealize.SL.Sem Gen

variable (m : (ℓ : Loc nD τ sig) → Buf (Elt Ideal) ℓ) (c : Dev nD)

theorem found : V m c main_arg0 = m ((c : Thread nD τ).loc main_arg0) ∧ V m c main_v0 = m ((c : Thread nD τ).loc main_arg1) := by
  constructor <;> (show StableHlo.after hostOps0 _ _ = _; after_results <;> rfl)

theorem visits : ∀ t : Fin cfg0.N, (win0_0.index t 0 = win0_2.index t 0 ∧ win0_0.index t 1 = 0) ∧
    (win0_1.index t 0 = 0 ∧ win0_1.index t 1 = win0_2.index t 1) :=
  (by decide +kernel : ∀ t : Fin grid0.N, _)

theorem final : (dats m 0 c).arrAt 2 cfg0.N =
    Tiles.mul (M := 8192) (K := 1024) (N := 2048) (m ((c : Thread nD τ).loc main_arg0)) (m ((c : Thread nD τ).loc main_arg1)) := by
  refine (dats m 0 c).arrAt_eq_of_covers 2 _ (by decide +kernel) fun t hf y => ?_
  have e := visits t
  blk_simp
  rw [after0_2]; frame_out
  simp only [k0_pay1, pointwise]
  refine (zero_add _).trans (Tiles.dot_congr (fun k => (congrFun (found m c).1 _).trans (congrArg _ (Tiles.ix2_congr ?_ ?_)))
    (fun k => (congrFun (found m c).2 _).trans (congrArg _ (Tiles.ix2_congr ?_ ?_)))) <;> blk_simp <;> omega

end Cert.Kernel17Ideal.Prod

/-! ## The gradient of the attention's weight -/

namespace Cert.Kernel18Ideal.Prod

open Idealize.ShloMosaic Idealize.ShloMosaic.TcCoe Idealize.SL.Sem Gen

variable (m : (ℓ : Loc nD τ sig) → Buf (Elt Ideal) ℓ) (c : Dev nD)

theorem found : V m c main_arg0 = m ((c : Thread nD τ).loc main_arg0) ∧ V m c main_v0 = m ((c : Thread nD τ).loc main_arg1) := by
  constructor <;> (show StableHlo.after hostOps0 _ _ = _; after_results <;> rfl)

theorem visits : ∀ t : Fin cfg0.N, (win0_0.index t 0 = t.val % 4 ∧ win0_0.index t 1 = t.val / 8) ∧
    (win0_1.index t 0 = t.val % 4 ∧ win0_1.index t 1 = t.val / 4 % 2) ∧ win0_2.index t 0 = t.val / 8 ∧ win0_2.index t 1 = t.val / 4 % 2 :=
  (by decide +kernel : ∀ t : Fin grid0.N, _)

theorem first (t : Fin cfg0.N) (h : t.val % 4 = 0) (y : S1024x1024.Idx) : (outsAt0 m c t.val t.isLt).2 y =
    Tiles.dot (fun k : Fin 2048 => iblk m c 0 t (ix2 k (y 0))) (fun k => iblk m c 1 t (ix2 k (y 1))) := by
  rw [outsAt0_A m c t h (by omega) (by omega)]; frame_out
  simp only [k0_pay1, pointwise]
  exact zero_add _

theorem next (t : Fin cfg0.N) (h : ¬ t.val % 4 = 0) (y : S1024x1024.Idx) : (outsAt0 m c t.val t.isLt).2 y =
    (show EReal from (outsAt0 m c (t.val - 1) (Nat.lt_of_le_of_lt (Nat.sub_le _ _) t.isLt)).2 y) +
      Tiles.dot (fun k : Fin 2048 => iblk m c 0 t (ix2 k (y 0))) (fun k => iblk m c 1 t (ix2 k (y 1))) := by
  by_cases h2 : t.val % 4 = 3 <;> [rw [outsAt0_C m c t h (by omega) h2]; rw [outsAt0_B m c t h (by omega) h2]] <;> frame_out <;>
    refine (congrArg (k0_pay2 · _ _ y) (Memref.IsWhole.read_unread _ _)).trans ?_ <;> simp only [k0_pay2, pointwise] <;>
    exact congrArg _ (zero_add _)

theorem last (t : Fin cfg0.N) (h : t.val % 4 = 3) : (outsAt0 m c t.val t.isLt).1 = (outsAt0 m c t.val t.isLt).2 := by
  rw [outsAt0_C m c t (by omega) (by omega) h]; frame_out; rfl

theorem final : (dats m 0 c).arrAt 2 cfg0.N =
    Tiles.tmul (M := 1024) (K := 8192) (N := 2048) (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  have e := (visits t).2.2
  blk_simp
  rw [after0_2, last m c t ht]
  refine Tiles.dot_of_run (nk := 4) (tk := 2048) (fun n h => (outsAt0 m c n h).2) _ _ (first m c) (next m c) t ht y _ _ rfl
    (fun p s k l hl hp => (congrFun (found m c).1 _).trans (congrArg _ (Tiles.ix2_congr ?_ ?_)))
    (fun p s k l hl hp => (congrFun (found m c).2 _).trans (congrArg _ (Tiles.ix2_congr ?_ ?_))) <;>
    have d := visits p <;> blk_simp <;> omega

end Cert.Kernel18Ideal.Prod

/-! ## Beside the reference -/

namespace Cert.Proof

open Idealize.ShloMosaic Idealize.ShloMosaic.TcCoe Idealize.SL.Sem

theorem frame_Reference14Ideal : Cert.quiescent_Reference14Ideal := fun m g _ =>
  (θ_run Reference14Ideal.defs _ _).mono (fun r h => ⟨fun c => (h c).2, sem_eq_zero_of_no_sems (by decide) r.2⟩) (Reference14Ideal.Value.run m g)

theorem algebraic14 : Cert.algebraic_Kernel14Ideal_Reference14Ideal := by
  intro m g m' g' _ he
  refine ⟨_, (θ_run Kernel14Ideal.defs _ _).mono (fun r h c => ⟨(h c).1.trans (Kernel14Ideal.Prod.final m c), (h c).2⟩) (Kernel14Ideal.Value.run_blocks m g),
    (θ_run Reference14Ideal.defs _ _).mono (fun r h c => ⟨(h c).1.trans ?_, (h c).2⟩) (Reference14Ideal.Value.run m' g')⟩
  rw [Reference14Ideal.Read.val_main_v0_eq, (he c).1, (he c).2]
  funext i
  rw [Reference14Ideal.Read.val_main_v0_apply]
  refine Tiles.dot_congr (fun k => congrArg _ (Tiles.ix2_congr ?_ ?_)) (fun k => congrArg _ (Tiles.ix2_congr ?_ ?_)) <;> rfl

theorem frame_Reference15Ideal : Cert.quiescent_Reference15Ideal := fun m g _ =>
  (θ_run Reference15Ideal.defs _ _).mono (fun r h => ⟨fun c => (h c).2, sem_eq_zero_of_no_sems (by decide) r.2⟩) (Reference15Ideal.Value.run m g)

theorem algebraic15 : Cert.algebraic_Kernel15Ideal_Reference15Ideal := by
  intro m g m' g' _ he
  refine ⟨_, (θ_run Kernel15Ideal.defs _ _).mono (fun r h c => ⟨(h c).1.trans (Kernel15Ideal.Prod.final m c), (h c).2⟩) (Kernel15Ideal.Value.run_blocks m g),
    (θ_run Reference15Ideal.defs _ _).mono (fun r h c => ⟨(h c).1.trans ?_, (h c).2⟩) (Reference15Ideal.Value.run m' g')⟩
  rw [Reference15Ideal.Read.val_main_v2_eq, (he c).1, (he c).2]
  funext i
  rw [Reference15Ideal.Read.val_main_v2_apply]
  refine Tiles.dot_congr (fun k => congrArg _ (Tiles.ix2_congr ?_ ?_)) (fun k => congrArg _ (Tiles.ix2_congr ?_ ?_)) <;> rfl

theorem frame_Reference16Ideal : Cert.quiescent_Reference16Ideal := fun m g _ =>
  (θ_run Reference16Ideal.defs _ _).mono (fun r h => ⟨fun c => (h c).2, sem_eq_zero_of_no_sems (by decide) r.2⟩) (Reference16Ideal.Value.run m g)

theorem algebraic16 : Cert.algebraic_Kernel16Ideal_Reference16Ideal := by
  intro m g m' g' _ he
  refine ⟨_, (θ_run Kernel16Ideal.defs _ _).mono (fun r h c => ⟨(h c).1.trans (Kernel16Ideal.Prod.final m c), (h c).2⟩) (Kernel16Ideal.Value.run_blocks m g),
    (θ_run Reference16Ideal.defs _ _).mono (fun r h c => ⟨(h c).1.trans ?_, (h c).2⟩) (Reference16Ideal.Value.run m' g')⟩
  rw [Reference16Ideal.Read.val_main_v4_eq, (he c).1, (he c).2]
  funext i
  rw [Reference16Ideal.Read.val_main_v4_apply, Reference16Ideal.Read.val_main_v3_apply, Reference16Ideal.Read.val_main_v2_apply]
  refine (Tiles.dot_comm _ _).trans (Tiles.dot_congr (fun k => congrArg _ (Tiles.ix2_congr ?_ ?_)) (fun k => congrArg _ (Tiles.ix2_congr ?_ ?_))) <;> rfl

theorem frame_Reference17Ideal : Cert.quiescent_Reference17Ideal := fun m g _ =>
  (θ_run Reference17Ideal.defs _ _).mono (fun r h => ⟨fun c => (h c).2, sem_eq_zero_of_no_sems (by decide) r.2⟩) (Reference17Ideal.Value.run m g)

theorem algebraic17 : Cert.algebraic_Kernel17Ideal_Reference17Ideal := by
  intro m g m' g' _ he
  refine ⟨_, (θ_run Kernel17Ideal.defs _ _).mono (fun r h c => ⟨(h c).1.trans (Kernel17Ideal.Prod.final m c), (h c).2⟩) (Kernel17Ideal.Value.run_blocks m g),
    (θ_run Reference17Ideal.defs _ _).mono (fun r h c => ⟨(h c).1.trans ?_, (h c).2⟩) (Reference17Ideal.Value.run m' g')⟩
  rw [Reference17Ideal.Read.val_main_v0_eq, (he c).1, (he c).2]
  funext i
  rw [Reference17Ideal.Read.val_main_v0_apply]
  refine Tiles.dot_congr (fun k => congrArg _ (Tiles.ix2_congr ?_ ?_)) (fun k => congrArg _ (Tiles.ix2_congr ?_ ?_)) <;> rfl

theorem frame_Reference18Ideal : Cert.quiescent_Reference18Ideal := fun m g _ =>
  (θ_run Reference18Ideal.defs _ _).mono (fun r h => ⟨fun c => (h c).2, sem_eq_zero_of_no_sems (by decide) r.2⟩) (Reference18Ideal.Value.run m g)

theorem algebraic18 : Cert.algebraic_Kernel18Ideal_Reference18Ideal := by
  intro m g m' g' _ he
  refine ⟨_, (θ_run Kernel18Ideal.defs _ _).mono (fun r h c => ⟨(h c).1.trans (Kernel18Ideal.Prod.final m c), (h c).2⟩) (Kernel18Ideal.Value.run_blocks m g),
    (θ_run Reference18Ideal.defs _ _).mono (fun r h c => ⟨(h c).1.trans ?_, (h c).2⟩) (Reference18Ideal.Value.run m' g')⟩
  rw [Reference18Ideal.Read.val_main_v4_eq, (he c).1, (he c).2]
  funext i
  rw [Reference18Ideal.Read.val_main_v4_apply, Reference18Ideal.Read.val_main_v3_apply, Reference18Ideal.Read.val_main_v2_apply]
  refine (Tiles.dot_comm _ _).trans (Tiles.dot_congr (fun k => congrArg _ (Tiles.ix2_congr ?_ ?_)) (fun k => congrArg _ (Tiles.ix2_congr ?_ ?_))) <;> rfl

end Cert.Proof
-- ==== Proof.LowRank.lean ====
module

public import proofs.«01_k».proof.Defs
public import proofs.«01_k».proof.Proof.Tiles
public import proofs.«01_k».proof.Proof.Gen.Kernel19.Frame
public import proofs.«01_k».proof.Proof.Gen.Kernel19Ideal.Value
public import proofs.«01_k».proof.Proof.Gen.Reference19Ideal.Read
public import proofs.«01_k».proof.Proof.Gen.Kernel20.Frame
public import proofs.«01_k».proof.Proof.Gen.Kernel20Ideal.Value
public import proofs.«01_k».proof.Proof.Gen.Reference20Ideal.Read
public import proofs.«01_k».proof.Proof.Gen.Kernel21.Frame
public import proofs.«01_k».proof.Proof.Gen.Kernel21Ideal.Value
public import proofs.«01_k».proof.Proof.Gen.Reference21Ideal.Read
public import Idealize.ShloMosaic.Lib.Quiescent

/-! # The attention's low-rank projections and their gradients

    The queries and the keys and values come from 512 columns each, through weights of the same shape; only the weight's gradient
    sums over more than one block. -/

@[expose] public section
noncomputable section

set_option maxRecDepth 16384

/-! ## The product -/

namespace Cert.Kernel19Ideal.Prod

open Idealize.ShloMosaic Idealize.ShloMosaic.TcCoe Idealize.SL.Sem Gen

variable (m : (ℓ : Loc nD τ sig) → Buf (Elt Ideal) ℓ) (c : Dev nD)

theorem found : V m c main_v0 = m ((c : Thread nD τ).loc main_arg0) ∧ V m c main_v1 = m ((c : Thread nD τ).loc main_arg1) := by
  constructor <;> (show StableHlo.after hostOps0 _ _ = _; after_results <;> rfl)

theorem visits : ∀ t : Fin cfg0.N, (win0_0.index t 0 = win0_2.index t 0 ∧ win0_0.index t 1 = 0) ∧
    (win0_1.index t 0 = 0 ∧ win0_1.index t 1 = win0_2.index t 1) :=
  (by decide +kernel : ∀ t : Fin grid0.N, _)

theorem final : (dats m 0 c).arrAt 2 cfg0.N =
    Tiles.mul (M := 8192) (K := 512) (N := 2048) (m ((c : Thread nD τ).loc main_arg0)) (m ((c : Thread nD τ).loc main_arg1)) := by
  refine (dats m 0 c).arrAt_eq_of_covers 2 _ (by decide +kernel) fun t hf y => ?_
  have e := visits t
  blk_simp
  rw [after0_2]; frame_out
  simp only [k0_pay1, pointwise]
  refine (zero_add _).trans (Tiles.dot_congr (fun k => (congrFun (found m c).1 _).trans (congrArg _ (Tiles.ix2_congr ?_ ?_)))
    (fun k => (congrFun (found m c).2 _).trans (congrArg _ (Tiles.ix2_congr ?_ ?_)))) <;> blk_simp <;> omega

end Cert.Kernel19Ideal.Prod

/-! ## The gradient of the rows -/

namespace Cert.Kernel20Ideal.Prod

open Idealize.ShloMosaic Idealize.ShloMosaic.TcCoe Idealize.SL.Sem Gen

variable (m : (ℓ : Loc nD τ sig) → Buf (Elt Ideal) ℓ) (c : Dev nD)

theorem found : V m c main_v0 = m ((c : Thread nD τ).loc main_arg0) ∧ V m c main_v1 = m ((c : Thread nD τ).loc main_arg1) := by
  constructor <;> (show StableHlo.after hostOps0 _ _ = _; after_results <;> rfl)

theorem visits : ∀ t : Fin cfg0.N, (win0_0.index t 0 = win0_2.index t 0 ∧ win0_0.index t 1 = 0) ∧
    (win0_1.index t 0 = win0_2.index t 1 ∧ win0_1.index t 1 = 0) :=
  (by decide +kernel : ∀ t : Fin grid0.N, _)

theorem final : (dats m 0 c).arrAt 2 cfg0.N =
    Tiles.mulT (M := 8192) (K := 2048) (N := 512) (m ((c : Thread nD τ).loc main_arg0)) (m ((c : Thread nD τ).loc main_arg1)) := by
  refine (dats m 0 c).arrAt_eq_of_covers 2 _ (by decide +kernel) fun t hf y => ?_
  have e := visits t
  blk_simp
  rw [after0_2]; frame_out
  simp only [k0_pay1, pointwise]
  refine (zero_add _).trans (Tiles.dot_congr (fun k => (congrFun (found m c).1 _).trans (congrArg _ (Tiles.ix2_congr ?_ ?_)))
    (fun k => (congrFun (found m c).2 _).trans (congrArg _ (Tiles.ix2_congr ?_ ?_)))) <;> blk_simp <;> omega

end Cert.Kernel20Ideal.Prod

/-! ## The gradient of the weight -/

namespace Cert.Kernel21Ideal.Prod

open Idealize.ShloMosaic Idealize.ShloMosaic.TcCoe Idealize.SL.Sem Gen

variable (m : (ℓ : Loc nD τ sig) → Buf (Elt Ideal) ℓ) (c : Dev nD)

theorem found : V m c main_v0 = m ((c : Thread nD τ).loc main_arg0) ∧ V m c main_v1 = m ((c : Thread nD τ).loc main_arg1) := by
  constructor <;> (show StableHlo.after hostOps0 _ _ = _; after_results <;> rfl)

theorem visits : ∀ t : Fin cfg0.N, (win0_0.index t 0 = t.val % 4 ∧ win0_0.index t 1 = t.val / 8) ∧
    (win0_1.index t 0 = t.val % 4 ∧ win0_1.index t 1 = t.val / 4 % 2) ∧ win0_2.index t 0 = t.val / 8 ∧ win0_2.index t 1 = t.val / 4 % 2 :=
  (by decide +kernel : ∀ t : Fin grid0.N, _)

theorem first (t : Fin cfg0.N) (h : t.val % 4 = 0) (y : S512x1024.Idx) : (outsAt0 m c t.val t.isLt).2 y =
    Tiles.dot (fun k : Fin 2048 => iblk m c 0 t (ix2 k (y 0))) (fun k => iblk m c 1 t (ix2 k (y 1))) := by
  rw [outsAt0_A m c t h (by omega) (by omega)]; frame_out
  simp only [k0_pay1, pointwise]
  exact zero_add _

theorem next (t : Fin cfg0.N) (h : ¬ t.val % 4 = 0) (y : S512x1024.Idx) : (outsAt0 m c t.val t.isLt).2 y =
    (show EReal from (outsAt0 m c (t.val - 1) (Nat.lt_of_le_of_lt (Nat.sub_le _ _) t.isLt)).2 y) +
      Tiles.dot (fun k : Fin 2048 => iblk m c 0 t (ix2 k (y 0))) (fun k => iblk m c 1 t (ix2 k (y 1))) := by
  by_cases h2 : t.val % 4 = 3 <;> [rw [outsAt0_C m c t h (by omega) h2]; rw [outsAt0_B m c t h (by omega) h2]] <;> frame_out <;>
    refine (congrArg (k0_pay2 · _ _ y) (Memref.IsWhole.read_unread _ _)).trans ?_ <;> simp only [k0_pay2, pointwise] <;>
    exact congrArg _ (zero_add _)

theorem last (t : Fin cfg0.N) (h : t.val % 4 = 3) : (outsAt0 m c t.val t.isLt).1 = (outsAt0 m c t.val t.isLt).2 := by
  rw [outsAt0_C m c t (by omega) (by omega) h]; frame_out; rfl

theorem final : (dats m 0 c).arrAt 2 cfg0.N =
    Tiles.tmul (M := 512) (K := 8192) (N := 2048) (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  have e := (visits t).2.2
  blk_simp
  rw [after0_2, last m c t ht]
  refine Tiles.dot_of_run (nk := 4) (tk := 2048) (fun n h => (outsAt0 m c n h).2) _ _ (first m c) (next m c) t ht y _ _ rfl
    (fun p s k l hl hp => (congrFun (found m c).1 _).trans (congrArg _ (Tiles.ix2_congr ?_ ?_)))
    (fun p s k l hl hp => (congrFun (found m c).2 _).trans (congrArg _ (Tiles.ix2_congr ?_ ?_))) <;>
    have d := visits p <;> blk_simp <;> omega

end Cert.Kernel21Ideal.Prod

/-! ## Beside the reference -/

namespace Cert.Proof

open Idealize.ShloMosaic Idealize.ShloMosaic.TcCoe Idealize.SL.Sem

theorem frame_Reference19Ideal : Cert.quiescent_Reference19Ideal := fun m g _ =>
  (θ_run Reference19Ideal.defs _ _).mono (fun r h => ⟨fun c => (h c).2, sem_eq_zero_of_no_sems (by decide) r.2⟩) (Reference19Ideal.Value.run m g)

theorem algebraic19 : Cert.algebraic_Kernel19Ideal_Reference19Ideal := by
  intro m g m' g' _ he
  refine ⟨_, (θ_run Kernel19Ideal.defs _ _).mono (fun r h c => ⟨(h c).1.trans (Kernel19Ideal.Prod.final m c), (h c).2⟩) (Kernel19Ideal.Value.run_blocks m g),
    (θ_run Reference19Ideal.defs _ _).mono (fun r h c => ⟨(h c).1.trans ?_, (h c).2⟩) (Reference19Ideal.Value.run m' g')⟩
  rw [Reference19Ideal.Read.val_main_v0_eq, (he c).1, (he c).2]
  funext i
  rw [Reference19Ideal.Read.val_main_v0_apply]
  refine Tiles.dot_congr (fun k => congrArg _ (Tiles.ix2_congr ?_ ?_)) (fun k => congrArg _ (Tiles.ix2_congr ?_ ?_)) <;> rfl

theorem frame_Reference20Ideal : Cert.quiescent_Reference20Ideal := fun m g _ =>
  (θ_run Reference20Ideal.defs _ _).mono (fun r h => ⟨fun c => (h c).2, sem_eq_zero_of_no_sems (by decide) r.2⟩) (Reference20Ideal.Value.run m g)

theorem algebraic20 : Cert.algebraic_Kernel20Ideal_Reference20Ideal := by
  intro m g m' g' _ he
  refine ⟨_, (θ_run Kernel20Ideal.defs _ _).mono (fun r h c => ⟨(h c).1.trans (Kernel20Ideal.Prod.final m c), (h c).2⟩) (Kernel20Ideal.Value.run_blocks m g),
    (θ_run Reference20Ideal.defs _ _).mono (fun r h c => ⟨(h c).1.trans ?_, (h c).2⟩) (Reference20Ideal.Value.run m' g')⟩
  rw [Reference20Ideal.Read.val_main_v2_eq, (he c).1, (he c).2]
  funext i
  rw [Reference20Ideal.Read.val_main_v2_apply]
  refine Tiles.dot_congr (fun k => congrArg _ (Tiles.ix2_congr ?_ ?_)) (fun k => congrArg _ (Tiles.ix2_congr ?_ ?_)) <;> rfl

theorem frame_Reference21Ideal : Cert.quiescent_Reference21Ideal := fun m g _ =>
  (θ_run Reference21Ideal.defs _ _).mono (fun r h => ⟨fun c => (h c).2, sem_eq_zero_of_no_sems (by decide) r.2⟩) (Reference21Ideal.Value.run m g)

theorem algebraic21 : Cert.algebraic_Kernel21Ideal_Reference21Ideal := by
  intro m g m' g' _ he
  refine ⟨_, (θ_run Kernel21Ideal.defs _ _).mono (fun r h c => ⟨(h c).1.trans (Kernel21Ideal.Prod.final m c), (h c).2⟩) (Kernel21Ideal.Value.run_blocks m g),
    (θ_run Reference21Ideal.defs _ _).mono (fun r h c => ⟨(h c).1.trans ?_, (h c).2⟩) (Reference21Ideal.Value.run m' g')⟩
  rw [Reference21Ideal.Read.val_main_v4_eq, (he c).1, (he c).2]
  funext i
  rw [Reference21Ideal.Read.val_main_v4_apply, Reference21Ideal.Read.val_main_v3_apply, Reference21Ideal.Read.val_main_v2_apply]
  refine (Tiles.dot_comm _ _).trans (Tiles.dot_congr (fun k => congrArg _ (Tiles.ix2_congr ?_ ?_)) (fun k => congrArg _ (Tiles.ix2_congr ?_ ?_))) <;> rfl

end Cert.Proof
-- ==== Proof.Adam.lean ====
module

public import proofs.«01_k».proof.Proof.Tiles

/-! # A step of AdamW over the extended reals

    A weight's entry `w` with its moments `m` and `v`, and its gradient `g`, the sum of the parts the devices hold. The
    step's constants are the float32 numbers nearest to 0.9, 0.1, 0.999, 0.001, the moments' corrections 1 − 0.9¹⁰ and
    1 − 0.999¹⁰, the offset 1e-8, the decay 0.01 and the rate −0.001. -/

@[expose] public section
noncomputable section

namespace Adam

open Idealize.ShloMosaic

/-- The first moment after the step. -/
def first (g m : EReal) : EReal := Ideal.ofBits .f32 0x3F666666#32 * m + Ideal.ofBits .f32 0x3DCCCCCD#32 * g

/-- The second moment after the step. -/
def second (g v : EReal) : EReal := Ideal.ofBits .f32 0x3F7FBE77#32 * v + Ideal.ofBits .f32 0x3A83126F#32 * (g * g)

/-- What the step adds to the weight. -/
def delta (g w m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32) +
      Ideal.ofBits .f32 0x3C23D70A#32 * w)

variable {n A B C : ℕ}

/-- An array of rank three, and one with an axis of parts before. -/
abbrev Arr (A B C : ℕ) := (⟨3, ![A, B, C]⟩ : Shape).Idx → EReal
abbrev Parts (n A B C : ℕ) := (⟨4, ![n, A, B, C]⟩ : Shape).Idx → EReal

/-- The gradient, the sum of its parts. -/
def grads (p : Parts n A B C) : Arr A B C := fun i => ∑ s, p (ix4 s (i 0) (i 1) (i 2))

/-- The step on a weight's arrays. -/
def firsts (p : Parts n A B C) (m : Arr A B C) : Arr A B C := fun i => first (grads p i) (m i)
def seconds (p : Parts n A B C) (v : Arr A B C) : Arr A B C := fun i => second (grads p i) (v i)
def deltas (p : Parts n A B C) (w m v : Arr A B C) : Arr A B C := fun i => delta (grads p i) (w i) (m i) (v i)

theorem first_congr {g g' m m' : EReal} (hg : g = g') (hm : m = m') : first g m = first g' m' := by rw [hg, hm]

theorem second_congr {g g' v v' : EReal} (hg : g = g') (hv : v = v') : second g v = second g' v' := by rw [hg, hv]

theorem delta_congr {g g' w w' m m' v v' : EReal} (hg : g = g') (hw : w = w') (hm : m = m') (hv : v = v') :
    delta g w m v = delta g' w' m' v' := by rw [hg, hw, hm, hv]

/-- Four parts added in turn. -/
theorem grads_four {p : Parts 4 A B C} {i : (⟨3, ![A, B, C]⟩ : Shape).Idx} {a b c d : EReal} (ha : a = p (ix4 0 (i 0) (i 1) (i 2)))
    (hb : b = p (ix4 1 (i 0) (i 1) (i 2))) (hc : c = p (ix4 2 (i 0) (i 1) (i 2))) (hd : d = p (ix4 3 (i 0) (i 1) (i 2))) :
    a + b + c + d = grads p i := by
  rw [ha, hb, hc, hd]; exact (Fin.sum_univ_four fun s => p (ix4 s (i 0) (i 1) (i 2))).symm

/-- Eight parts added in turn. -/
theorem grads_eight {p : Parts 8 A B C} {i : (⟨3, ![A, B, C]⟩ : Shape).Idx} {a b c d e f g k : EReal}
    (ha : a = p (ix4 0 (i 0) (i 1) (i 2))) (hb : b = p (ix4 1 (i 0) (i 1) (i 2)))
    (hc : c = p (ix4 2 (i 0) (i 1) (i 2))) (hd : d = p (ix4 3 (i 0) (i 1) (i 2)))
    (he : e = p (ix4 4 (i 0) (i 1) (i 2))) (hf : f = p (ix4 5 (i 0) (i 1) (i 2)))
    (hg : g = p (ix4 6 (i 0) (i 1) (i 2))) (hk : k = p (ix4 7 (i 0) (i 1) (i 2))) :
    a + b + c + d + e + f + g + k = grads p i := by
  rw [ha, hb, hc, hd, he, hf, hg, hk]; exact (Fin.sum_univ_eight fun s => p (ix4 s (i 0) (i 1) (i 2))).symm

/-- The entries of an index of rank three or four are its values. -/
theorem ix3_congr {i j : (⟨3, ![A, B, C]⟩ : Shape).Idx} (h0 : (i 0).val = (j 0).val) (h1 : (i 1).val = (j 1).val) (h2 : (i 2).val = (j 2).val) :
    i = j := by
  funext d
  match d with
  | ⟨0, _⟩ => exact Fin.ext h0
  | ⟨1, _⟩ => exact Fin.ext h1
  | ⟨2, _⟩ => exact Fin.ext h2

theorem ix4_congr {i : (⟨4, ![n, A, B, C]⟩ : Shape).Idx} {s : Fin n} {x : Fin A} {y : Fin B} {z : Fin C} (hs : (i 0).val = s.val)
    (h0 : (i 1).val = x.val) (h1 : (i 2).val = y.val) (h2 : (i 3).val = z.val) : i = ix4 s x y z := by
  funext d
  match d with
  | ⟨0, _⟩ => exact Fin.ext hs
  | ⟨1, _⟩ => exact Fin.ext h0
  | ⟨2, _⟩ => exact Fin.ext h1
  | ⟨3, _⟩ => exact Fin.ext h2

/-! ## The step as a program of whole arrays writes it -/

section Arrays

open StableHlo

variable {p : Parts n A B C} {w m v g : Arr A B C} (hb : (⟨0, ![]⟩ : Shape).BroadcastsInDim ⟨3, ![A, B, C]⟩ ![])

/-- An array that holds one number everywhere. -/
abbrev num (b : BitVec 32) : FVec Ideal ⟨3, ![A, B, C]⟩ .f32 :=
  broadcastInDim ⟨3, ![A, B, C]⟩ ![] hb (constant (F := Ideal) ⟨0, ![]⟩ .f32 b)

theorem sum_parts (p : Parts n A B C) (h : (⟨4, ![n, A, B, C]⟩ : Shape).ReducesTo [0] ⟨3, ![A, B, C]⟩) (hs : 0 < (⟨0, ![]⟩ : Shape).numel) :
    Host.reduceAdd (F := Ideal) (φ := .f32) p (constant ⟨0, ![]⟩ .f32 0x00000000#32) h hs = grads p := by
  funext i
  simp only [Host.reduceAdd, pointwise, zero_add]
  rfl

theorem firsts_eq (hg : g = grads p) :
    addf (F := Ideal) (φ := .f32) (mulf (num hb 0x3F666666#32) m) (mulf (num hb 0x3DCCCCCD#32) g) = firsts p m := by
  rw [hg]; rfl

theorem seconds_eq (hg : g = grads p) :
    addf (F := Ideal) (φ := .f32) (mulf (num hb 0x3F7FBE77#32) v) (mulf (num hb 0x3A83126F#32) (mulf g g)) = seconds p v := by
  rw [hg]; rfl

theorem deltas_eq (hg : g = grads p) :
    mulf (F := Ideal) (φ := .f32) (num hb 0xBA83126F#32) (addf (Host.divf (Host.divf (addf (mulf (num hb 0x3F666666#32) m)
      (mulf (num hb 0x3DCCCCCD#32) g)) (num hb 0x3F26BD02#32)) (addf (Host.sqrt (Host.divf (addf (mulf (num hb 0x3F7FBE77#32) v)
        (mulf (num hb 0x3A83126F#32) (mulf g g))) (num hb 0x3C231ACC#32))) (num hb 0x322BCC77#32))) (mulf (num hb 0x3C23D70A#32) w)) =
      deltas p w m v := by
  rw [hg]; rfl

end Arrays

end Adam
-- ==== Proof.StepWide.lean ====
module

public import proofs.«01_k».proof.Defs
public import proofs.«01_k».proof.Proof.Adam
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Value
public import proofs.«01_k».proof.Proof.Gen.Reference25Ideal.Run
public import Idealize.ShloMosaic.Lib.Quiescent

/-! # The optimiser's step on the wide weights

    The input projection, the feed-forward block's two projections and the output projection: four parts each, one grid point
    for each block of rows. -/

@[expose] public section
noncomputable section

set_option backward.proofsInPublic true

namespace Cert.Kernel22Ideal.Step

open Cert.Kernel22Ideal Cert.Kernel22Ideal.Gen Idealize.ShloMosaic Idealize.ShloMosaic.TcCoe Idealize.SL.Sem

variable (m : (ℓ : Loc nD τ sig) → Buf (Elt Ideal) ℓ) (c : Dev nD)

/-- The arguments: the parts, the weight and its moments. -/
abbrev parts : Adam.Parts 4 2 2048 1930 := m ((c : Thread nD τ).loc main_arg0)
abbrev weight : Adam.Arr 2 2048 1930 := m ((c : Thread nD τ).loc main_arg1)
abbrev mom : Adam.Arr 2 2048 1930 := m ((c : Thread nD τ).loc main_arg2)
abbrev vel : Adam.Arr 2 2048 1930 := m ((c : Thread nD τ).loc main_arg3)

theorem found : V m c main_v0 = parts m c ∧ V m c main_arg1 = weight m c ∧ V m c main_arg2 = mom m c ∧ V m c main_arg3 = vel m c := by
  refine ⟨?_, ?_, ?_, ?_⟩ <;> (show StableHlo.after hostOps0 _ _ = _; after_results <;> rfl)

theorem visits : ∀ t : Fin cfg0.N, (win0_0.index t 0 = 0 ∧ win0_0.index t 1 = win0_4.index t 0 ∧ win0_0.index t 2 = win0_4.index t 1 ∧
    win0_0.index t 3 = win0_4.index t 2) ∧ (∀ a, win0_1.index t a = win0_4.index t a) ∧ (∀ a, win0_2.index t a = win0_4.index t a) ∧
    (∀ a, win0_3.index t a = win0_4.index t a) ∧ (∀ a, win0_5.index t a = win0_4.index t a) ∧ (∀ a, win0_6.index t a = win0_4.index t a) ∧
    ∀ a, win0_7.index t a = win0_4.index t a :=
  (by decide +kernel : ∀ t : Fin grid0.N, _)

theorem gradient : (dats m 0 c).arrAt 4 cfg0.N = Adam.grads (parts m c) := by
  refine (dats m 0 c).arrAt_eq_of_covers 4 _ (by decide +kernel) fun t hf y => ?_
  blk_simp; rw [after0_4]; unfold_out out0_4; frame_out; simp only [k0_pay1, k0_pay2, k0_pay3, k0_pay4, k0_pay5, k0_pay6, k0_pay7, k0_pay8, pointwise]
  refine Adam.grads_four ?_ ?_ ?_ ?_ <;>
    refine (congrFun (found m c).1 _).trans (congrArg _ (Adam.ix4_congr ?_ ?_ ?_ ?_)) <;> blk_simp <;> simp [visits t]

theorem change : (dats m 0 c).arrAt 5 cfg0.N = Adam.deltas (parts m c) (weight m c) (mom m c) (vel m c) := by
  refine (dats m 0 c).arrAt_eq_of_covers 5 _ (by decide +kernel) fun t hf y => ?_
  blk_simp; rw [after0_5]; unfold_out out0_5; frame_out; simp only [k0_pay1, k0_pay2, k0_pay3, k0_pay4, k0_pay5, k0_pay6, k0_pay7, k0_pay8, pointwise]
  refine Adam.delta_congr (Adam.grads_four ?_ ?_ ?_ ?_) ((congrFun (found m c).2.1 _).trans (congrArg _ (Adam.ix3_congr ?_ ?_ ?_)))
    ((congrFun (found m c).2.2.1 _).trans (congrArg _ (Adam.ix3_congr ?_ ?_ ?_)))
    ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem momentum : (dats m 0 c).arrAt 6 cfg0.N = Adam.firsts (parts m c) (mom m c) := by
  refine (dats m 0 c).arrAt_eq_of_covers 6 _ (by decide +kernel) fun t hf y => ?_
  blk_simp; rw [after0_6]; unfold_out out0_6; frame_out; simp only [k0_pay1, k0_pay2, k0_pay3, k0_pay4, k0_pay5, k0_pay6, k0_pay7, k0_pay8, pointwise]
  refine Adam.first_congr (Adam.grads_four ?_ ?_ ?_ ?_) ((congrFun (found m c).2.2.1 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem velocity : (dats m 0 c).arrAt 7 cfg0.N = Adam.seconds (parts m c) (vel m c) := by
  refine (dats m 0 c).arrAt_eq_of_covers 7 _ (by decide +kernel) fun t hf y => ?_
  blk_simp; rw [after0_7]; unfold_out out0_7; frame_out; simp only [k0_pay1, k0_pay2, k0_pay3, k0_pay4, k0_pay5, k0_pay6, k0_pay7, k0_pay8, pointwise]
  refine Adam.second_congr (Adam.grads_four ?_ ?_ ?_ ?_) ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

end Cert.Kernel22Ideal.Step

namespace Cert.Proof

open Cert Idealize.ShloMosaic Idealize.ShloMosaic.TcCoe Idealize.SL.Sem

theorem frame_Reference22Ideal : Cert.quiescent_Reference22Ideal := fun m g _ =>
  (θ_run Reference22Ideal.defs _ _).mono (fun r h => ⟨fun c => (h c).2.2.2.2, sem_eq_zero_of_no_sems (by decide) r.2⟩) (Reference22Ideal.Value.run m g)

theorem algebraic22 : Cert.algebraic_Kernel22Ideal_Reference22Ideal := by
  intro m g m' g' _ he
  refine ⟨_, _, _, _, (θ_run Kernel22Ideal.defs _ _).mono (fun r h c => ⟨(h c).1.trans (Kernel22Ideal.Step.gradient m c),
      (h c).2.1.trans (Kernel22Ideal.Step.change m c), (h c).2.2.1.trans (Kernel22Ideal.Step.momentum m c),
      (h c).2.2.2.1.trans (Kernel22Ideal.Step.velocity m c), (h c).2.2.2.2⟩) (Kernel22Ideal.Value.run_blocks m g),
    (θ_run Reference22Ideal.defs _ _).mono (fun r h c => ⟨(h c).1.trans ?_, (h c).2.1.trans ?_, (h c).2.2.1.trans ?_, (h c).2.2.2.1.trans ?_,
      (h c).2.2.2.2⟩) (Reference22Ideal.Value.run m' g')⟩ <;> simp only [(he c).1, (he c).2.1, (he c).2.2.1, (he c).2.2.2]
  · exact Adam.sum_parts _ _ _
  · exact Adam.deltas_eq _ (Adam.sum_parts _ _ _)
  · exact Adam.firsts_eq _ (Adam.sum_parts _ _ _)
  · exact Adam.seconds_eq _ (Adam.sum_parts _ _ _)

end Cert.Proof

namespace Cert.Kernel23Ideal.Step

open Cert.Kernel23Ideal Cert.Kernel23Ideal.Gen Idealize.ShloMosaic Idealize.ShloMosaic.TcCoe Idealize.SL.Sem

variable (m : (ℓ : Loc nD τ sig) → Buf (Elt Ideal) ℓ) (c : Dev nD)

/-- The arguments: the parts, the weight and its moments. -/
abbrev parts : Adam.Parts 4 2 2048 1408 := m ((c : Thread nD τ).loc main_arg0)
abbrev weight : Adam.Arr 2 2048 1408 := m ((c : Thread nD τ).loc main_arg1)
abbrev mom : Adam.Arr 2 2048 1408 := m ((c : Thread nD τ).loc main_arg2)
abbrev vel : Adam.Arr 2 2048 1408 := m ((c : Thread nD τ).loc main_arg3)

theorem found : V m c main_v0 = parts m c ∧ V m c main_arg1 = weight m c ∧ V m c main_arg2 = mom m c ∧ V m c main_arg3 = vel m c := by
  refine ⟨?_, ?_, ?_, ?_⟩ <;> (show StableHlo.after hostOps0 _ _ = _; after_results <;> rfl)

theorem visits : ∀ t : Fin cfg0.N, (win0_0.index t 0 = 0 ∧ win0_0.index t 1 = win0_4.index t 0 ∧ win0_0.index t 2 = win0_4.index t 1 ∧
    win0_0.index t 3 = win0_4.index t 2) ∧ (∀ a, win0_1.index t a = win0_4.index t a) ∧ (∀ a, win0_2.index t a = win0_4.index t a) ∧
    (∀ a, win0_3.index t a = win0_4.index t a) ∧ (∀ a, win0_5.index t a = win0_4.index t a) ∧ (∀ a, win0_6.index t a = win0_4.index t a) ∧
    ∀ a, win0_7.index t a = win0_4.index t a :=
  (by decide +kernel : ∀ t : Fin grid0.N, _)

theorem gradient : (dats m 0 c).arrAt 4 cfg0.N = Adam.grads (parts m c) := by
  refine (dats m 0 c).arrAt_eq_of_covers 4 _ (by decide +kernel) fun t hf y => ?_
  blk_simp; rw [after0_4]; unfold_out out0_4; frame_out; simp only [k0_pay1, k0_pay2, k0_pay3, k0_pay4, k0_pay5, k0_pay6, k0_pay7, k0_pay8, pointwise]
  refine Adam.grads_four ?_ ?_ ?_ ?_ <;>
    refine (congrFun (found m c).1 _).trans (congrArg _ (Adam.ix4_congr ?_ ?_ ?_ ?_)) <;> blk_simp <;> simp [visits t]

theorem change : (dats m 0 c).arrAt 5 cfg0.N = Adam.deltas (parts m c) (weight m c) (mom m c) (vel m c) := by
  refine (dats m 0 c).arrAt_eq_of_covers 5 _ (by decide +kernel) fun t hf y => ?_
  blk_simp; rw [after0_5]; unfold_out out0_5; frame_out; simp only [k0_pay1, k0_pay2, k0_pay3, k0_pay4, k0_pay5, k0_pay6, k0_pay7, k0_pay8, pointwise]
  refine Adam.delta_congr (Adam.grads_four ?_ ?_ ?_ ?_) ((congrFun (found m c).2.1 _).trans (congrArg _ (Adam.ix3_congr ?_ ?_ ?_)))
    ((congrFun (found m c).2.2.1 _).trans (congrArg _ (Adam.ix3_congr ?_ ?_ ?_)))
    ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem momentum : (dats m 0 c).arrAt 6 cfg0.N = Adam.firsts (parts m c) (mom m c) := by
  refine (dats m 0 c).arrAt_eq_of_covers 6 _ (by decide +kernel) fun t hf y => ?_
  blk_simp; rw [after0_6]; unfold_out out0_6; frame_out; simp only [k0_pay1, k0_pay2, k0_pay3, k0_pay4, k0_pay5, k0_pay6, k0_pay7, k0_pay8, pointwise]
  refine Adam.first_congr (Adam.grads_four ?_ ?_ ?_ ?_) ((congrFun (found m c).2.2.1 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem velocity : (dats m 0 c).arrAt 7 cfg0.N = Adam.seconds (parts m c) (vel m c) := by
  refine (dats m 0 c).arrAt_eq_of_covers 7 _ (by decide +kernel) fun t hf y => ?_
  blk_simp; rw [after0_7]; unfold_out out0_7; frame_out; simp only [k0_pay1, k0_pay2, k0_pay3, k0_pay4, k0_pay5, k0_pay6, k0_pay7, k0_pay8, pointwise]
  refine Adam.second_congr (Adam.grads_four ?_ ?_ ?_ ?_) ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

end Cert.Kernel23Ideal.Step

namespace Cert.Proof

open Cert Idealize.ShloMosaic Idealize.ShloMosaic.TcCoe Idealize.SL.Sem

theorem frame_Reference23Ideal : Cert.quiescent_Reference23Ideal := fun m g _ =>
  (θ_run Reference23Ideal.defs _ _).mono (fun r h => ⟨fun c => (h c).2.2.2.2, sem_eq_zero_of_no_sems (by decide) r.2⟩) (Reference23Ideal.Value.run m g)

theorem algebraic23 : Cert.algebraic_Kernel23Ideal_Reference23Ideal := by
  intro m g m' g' _ he
  refine ⟨_, _, _, _, (θ_run Kernel23Ideal.defs _ _).mono (fun r h c => ⟨(h c).1.trans (Kernel23Ideal.Step.gradient m c),
      (h c).2.1.trans (Kernel23Ideal.Step.change m c), (h c).2.2.1.trans (Kernel23Ideal.Step.momentum m c),
      (h c).2.2.2.1.trans (Kernel23Ideal.Step.velocity m c), (h c).2.2.2.2⟩) (Kernel23Ideal.Value.run_blocks m g),
    (θ_run Reference23Ideal.defs _ _).mono (fun r h c => ⟨(h c).1.trans ?_, (h c).2.1.trans ?_, (h c).2.2.1.trans ?_, (h c).2.2.2.1.trans ?_,
      (h c).2.2.2.2⟩) (Reference23Ideal.Value.run m' g')⟩ <;> simp only [(he c).1, (he c).2.1, (he c).2.2.1, (he c).2.2.2]
  · exact Adam.sum_parts _ _ _
  · exact Adam.deltas_eq _ (Adam.sum_parts _ _ _)
  · exact Adam.firsts_eq _ (Adam.sum_parts _ _ _)
  · exact Adam.seconds_eq _ (Adam.sum_parts _ _ _)

end Cert.Proof

namespace Cert.Kernel24Ideal.Step

open Cert.Kernel24Ideal Cert.Kernel24Ideal.Gen Idealize.ShloMosaic Idealize.ShloMosaic.TcCoe Idealize.SL.Sem

variable (m : (ℓ : Loc nD τ sig) → Buf (Elt Ideal) ℓ) (c : Dev nD)

/-- The arguments: the parts, the weight and its moments. -/
abbrev parts : Adam.Parts 4 2 704 2048 := m ((c : Thread nD τ).loc main_arg0)
abbrev weight : Adam.Arr 2 704 2048 := m ((c : Thread nD τ).loc main_arg1)
abbrev mom : Adam.Arr 2 704 2048 := m ((c : Thread nD τ).loc main_arg2)
abbrev vel : Adam.Arr 2 704 2048 := m ((c : Thread nD τ).loc main_arg3)

theorem found : V m c main_v0 = parts m c ∧ V m c main_arg1 = weight m c ∧ V m c main_arg2 = mom m c ∧ V m c main_arg3 = vel m c := by
  refine ⟨?_, ?_, ?_, ?_⟩ <;> (show StableHlo.after hostOps0 _ _ = _; after_results <;> rfl)

theorem visits : ∀ t : Fin cfg0.N, (win0_0.index t 0 = 0 ∧ win0_0.index t 1 = win0_4.index t 0 ∧ win0_0.index t 2 = win0_4.index t 1 ∧
    win0_0.index t 3 = win0_4.index t 2) ∧ (∀ a, win0_1.index t a = win0_4.index t a) ∧ (∀ a, win0_2.index t a = win0_4.index t a) ∧
    (∀ a, win0_3.index t a = win0_4.index t a) ∧ (∀ a, win0_5.index t a = win0_4.index t a) ∧ (∀ a, win0_6.index t a = win0_4.index t a) ∧
    ∀ a, win0_7.index t a = win0_4.index t a :=
  (by decide +kernel : ∀ t : Fin grid0.N, _)

theorem gradient : (dats m 0 c).arrAt 4 cfg0.N = Adam.grads (parts m c) := by
  refine (dats m 0 c).arrAt_eq_of_covers 4 _ (by decide +kernel) fun t hf y => ?_
  blk_simp; rw [after0_4]; unfold_out out0_4; frame_out; simp only [k0_pay1, k0_pay2, k0_pay3, k0_pay4, k0_pay5, k0_pay6, k0_pay7, k0_pay8, pointwise]
  refine Adam.grads_four ?_ ?_ ?_ ?_ <;>
    refine (congrFun (found m c).1 _).trans (congrArg _ (Adam.ix4_congr ?_ ?_ ?_ ?_)) <;> blk_simp <;> simp [visits t]

theorem change : (dats m 0 c).arrAt 5 cfg0.N = Adam.deltas (parts m c) (weight m c) (mom m c) (vel m c) := by
  refine (dats m 0 c).arrAt_eq_of_covers 5 _ (by decide +kernel) fun t hf y => ?_
  blk_simp; rw [after0_5]; unfold_out out0_5; frame_out; simp only [k0_pay1, k0_pay2, k0_pay3, k0_pay4, k0_pay5, k0_pay6, k0_pay7, k0_pay8, pointwise]
  refine Adam.delta_congr (Adam.grads_four ?_ ?_ ?_ ?_) ((congrFun (found m c).2.1 _).trans (congrArg _ (Adam.ix3_congr ?_ ?_ ?_)))
    ((congrFun (found m c).2.2.1 _).trans (congrArg _ (Adam.ix3_congr ?_ ?_ ?_)))
    ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem momentum : (dats m 0 c).arrAt 6 cfg0.N = Adam.firsts (parts m c) (mom m c) := by
  refine (dats m 0 c).arrAt_eq_of_covers 6 _ (by decide +kernel) fun t hf y => ?_
  blk_simp; rw [after0_6]; unfold_out out0_6; frame_out; simp only [k0_pay1, k0_pay2, k0_pay3, k0_pay4, k0_pay5, k0_pay6, k0_pay7, k0_pay8, pointwise]
  refine Adam.first_congr (Adam.grads_four ?_ ?_ ?_ ?_) ((congrFun (found m c).2.2.1 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem velocity : (dats m 0 c).arrAt 7 cfg0.N = Adam.seconds (parts m c) (vel m c) := by
  refine (dats m 0 c).arrAt_eq_of_covers 7 _ (by decide +kernel) fun t hf y => ?_
  blk_simp; rw [after0_7]; unfold_out out0_7; frame_out; simp only [k0_pay1, k0_pay2, k0_pay3, k0_pay4, k0_pay5, k0_pay6, k0_pay7, k0_pay8, pointwise]
  refine Adam.second_congr (Adam.grads_four ?_ ?_ ?_ ?_) ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

end Cert.Kernel24Ideal.Step

namespace Cert.Proof

open Cert Idealize.ShloMosaic Idealize.ShloMosaic.TcCoe Idealize.SL.Sem

theorem frame_Reference24Ideal : Cert.quiescent_Reference24Ideal := fun m g _ =>
  (θ_run Reference24Ideal.defs _ _).mono (fun r h => ⟨fun c => (h c).2.2.2.2, sem_eq_zero_of_no_sems (by decide) r.2⟩) (Reference24Ideal.Value.run m g)

theorem algebraic24 : Cert.algebraic_Kernel24Ideal_Reference24Ideal := by
  intro m g m' g' _ he
  refine ⟨_, _, _, _, (θ_run Kernel24Ideal.defs _ _).mono (fun r h c => ⟨(h c).1.trans (Kernel24Ideal.Step.gradient m c),
      (h c).2.1.trans (Kernel24Ideal.Step.change m c), (h c).2.2.1.trans (Kernel24Ideal.Step.momentum m c),
      (h c).2.2.2.1.trans (Kernel24Ideal.Step.velocity m c), (h c).2.2.2.2⟩) (Kernel24Ideal.Value.run_blocks m g),
    (θ_run Reference24Ideal.defs _ _).mono (fun r h c => ⟨(h c).1.trans ?_, (h c).2.1.trans ?_, (h c).2.2.1.trans ?_, (h c).2.2.2.1.trans ?_,
      (h c).2.2.2.2⟩) (Reference24Ideal.Value.run m' g')⟩ <;> simp only [(he c).1, (he c).2.1, (he c).2.2.1, (he c).2.2.2]
  · exact Adam.sum_parts _ _ _
  · exact Adam.deltas_eq _ (Adam.sum_parts _ _ _)
  · exact Adam.firsts_eq _ (Adam.sum_parts _ _ _)
  · exact Adam.seconds_eq _ (Adam.sum_parts _ _ _)

end Cert.Proof

namespace Cert.Kernel25Ideal.Step

open Cert.Kernel25Ideal Cert.Kernel25Ideal.Gen Idealize.ShloMosaic Idealize.ShloMosaic.TcCoe Idealize.SL.Sem

variable (m : (ℓ : Loc nD τ sig) → Buf (Elt Ideal) ℓ) (c : Dev nD)

/-- The arguments: the parts, the weight and its moments. -/
abbrev parts : Adam.Parts 4 2 256 2048 := m ((c : Thread nD τ).loc main_arg0)
abbrev weight : Adam.Arr 2 256 2048 := m ((c : Thread nD τ).loc main_arg1)
abbrev mom : Adam.Arr 2 256 2048 := m ((c : Thread nD τ).loc main_arg2)
abbrev vel : Adam.Arr 2 256 2048 := m ((c : Thread nD τ).loc main_arg3)

theorem found : V m c main_v0 = parts m c ∧ V m c main_arg1 = weight m c ∧ V m c main_arg2 = mom m c ∧ V m c main_arg3 = vel m c := by
  refine ⟨?_, ?_, ?_, ?_⟩ <;> (show StableHlo.after hostOps0 _ _ = _; after_results <;> rfl)

theorem visits : ∀ t : Fin cfg0.N, (win0_0.index t 0 = 0 ∧ win0_0.index t 1 = win0_4.index t 0 ∧ win0_0.index t 2 = win0_4.index t 1 ∧
    win0_0.index t 3 = win0_4.index t 2) ∧ (∀ a, win0_1.index t a = win0_4.index t a) ∧ (∀ a, win0_2.index t a = win0_4.index t a) ∧
    (∀ a, win0_3.index t a = win0_4.index t a) ∧ (∀ a, win0_5.index t a = win0_4.index t a) ∧ (∀ a, win0_6.index t a = win0_4.index t a) ∧
    ∀ a, win0_7.index t a = win0_4.index t a :=
  (by decide +kernel : ∀ t : Fin grid0.N, _)

theorem gradient : (dats m 0 c).arrAt 4 cfg0.N = Adam.grads (parts m c) := by
  refine (dats m 0 c).arrAt_eq_of_covers 4 _ (by decide +kernel) fun t hf y => ?_
  blk_simp; rw [after0_4]; unfold_out out0_4; frame_out; simp only [k0_pay1, k0_pay2, k0_pay3, k0_pay4, k0_pay5, k0_pay6, k0_pay7, k0_pay8, pointwise]
  refine Adam.grads_four ?_ ?_ ?_ ?_ <;>
    refine (congrFun (found m c).1 _).trans (congrArg _ (Adam.ix4_congr ?_ ?_ ?_ ?_)) <;> blk_simp <;> simp [visits t]

theorem change : (dats m 0 c).arrAt 5 cfg0.N = Adam.deltas (parts m c) (weight m c) (mom m c) (vel m c) := by
  refine (dats m 0 c).arrAt_eq_of_covers 5 _ (by decide +kernel) fun t hf y => ?_
  blk_simp; rw [after0_5]; unfold_out out0_5; frame_out; simp only [k0_pay1, k0_pay2, k0_pay3, k0_pay4, k0_pay5, k0_pay6, k0_pay7, k0_pay8, pointwise]
  refine Adam.delta_congr (Adam.grads_four ?_ ?_ ?_ ?_) ((congrFun (found m c).2.1 _).trans (congrArg _ (Adam.ix3_congr ?_ ?_ ?_)))
    ((congrFun (found m c).2.2.1 _).trans (congrArg _ (Adam.ix3_congr ?_ ?_ ?_)))
    ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem momentum : (dats m 0 c).arrAt 6 cfg0.N = Adam.firsts (parts m c) (mom m c) := by
  refine (dats m 0 c).arrAt_eq_of_covers 6 _ (by decide +kernel) fun t hf y => ?_
  blk_simp; rw [after0_6]; unfold_out out0_6; frame_out; simp only [k0_pay1, k0_pay2, k0_pay3, k0_pay4, k0_pay5, k0_pay6, k0_pay7, k0_pay8, pointwise]
  refine Adam.first_congr (Adam.grads_four ?_ ?_ ?_ ?_) ((congrFun (found m c).2.2.1 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem velocity : (dats m 0 c).arrAt 7 cfg0.N = Adam.seconds (parts m c) (vel m c) := by
  refine (dats m 0 c).arrAt_eq_of_covers 7 _ (by decide +kernel) fun t hf y => ?_
  blk_simp; rw [after0_7]; unfold_out out0_7; frame_out; simp only [k0_pay1, k0_pay2, k0_pay3, k0_pay4, k0_pay5, k0_pay6, k0_pay7, k0_pay8, pointwise]
  refine Adam.second_congr (Adam.grads_four ?_ ?_ ?_ ?_) ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

end Cert.Kernel25Ideal.Step

namespace Cert.Proof

open Cert Idealize.ShloMosaic Idealize.ShloMosaic.TcCoe Idealize.SL.Sem

theorem frame_Reference25Ideal : Cert.quiescent_Reference25Ideal := fun m g _ =>
  (θ_run Reference25Ideal.defs _ _).mono (fun r h => ⟨fun c => (h c).2.2.2.2, sem_eq_zero_of_no_sems (by decide) r.2⟩) (Reference25Ideal.Value.run m g)

theorem algebraic25 : Cert.algebraic_Kernel25Ideal_Reference25Ideal := by
  intro m g m' g' _ he
  refine ⟨_, _, _, _, (θ_run Kernel25Ideal.defs _ _).mono (fun r h c => ⟨(h c).1.trans (Kernel25Ideal.Step.gradient m c),
      (h c).2.1.trans (Kernel25Ideal.Step.change m c), (h c).2.2.1.trans (Kernel25Ideal.Step.momentum m c),
      (h c).2.2.2.1.trans (Kernel25Ideal.Step.velocity m c), (h c).2.2.2.2⟩) (Kernel25Ideal.Value.run_blocks m g),
    (θ_run Reference25Ideal.defs _ _).mono (fun r h c => ⟨(h c).1.trans ?_, (h c).2.1.trans ?_, (h c).2.2.1.trans ?_, (h c).2.2.2.1.trans ?_,
      (h c).2.2.2.2⟩) (Reference25Ideal.Value.run m' g')⟩ <;> simp only [(he c).1, (he c).2.1, (he c).2.2.1, (he c).2.2.2]
  · exact Adam.sum_parts _ _ _
  · exact Adam.deltas_eq _ (Adam.sum_parts _ _ _)
  · exact Adam.firsts_eq _ (Adam.sum_parts _ _ _)
  · exact Adam.seconds_eq _ (Adam.sum_parts _ _ _)

end Cert.Proof
-- ==== Proof.StepMixers.lean ====
module

public import proofs.«01_k».proof.Defs
public import proofs.«01_k».proof.Proof.Adam
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Value
public import proofs.«01_k».proof.Proof.Gen.Reference31Ideal.Run
public import Idealize.ShloMosaic.Lib.Quiescent

/-! # The optimiser's step on the mixers' weights

    The low-rank projections, the pooling weight and the convolutions' weights: four parts each, every device's share of a
    weight a block or a few. -/

@[expose] public section
noncomputable section

set_option backward.proofsInPublic true

namespace Cert.Kernel26Ideal.Step

open Cert.Kernel26Ideal Cert.Kernel26Ideal.Gen Idealize.ShloMosaic Idealize.ShloMosaic.TcCoe Idealize.SL.Sem

variable (m : (ℓ : Loc nD τ sig) → Buf (Elt Ideal) ℓ) (c : Dev nD)

/-- The arguments: the parts, the weight and its moments. -/
abbrev parts : Adam.Parts 4 2 512 256 := m ((c : Thread nD τ).loc main_arg0)
abbrev weight : Adam.Arr 2 512 256 := m ((c : Thread nD τ).loc main_arg1)
abbrev mom : Adam.Arr 2 512 256 := m ((c : Thread nD τ).loc main_arg2)
abbrev vel : Adam.Arr 2 512 256 := m ((c : Thread nD τ).loc main_arg3)

theorem found : V m c main_v0 = parts m c ∧ V m c main_arg1 = weight m c ∧ V m c main_arg2 = mom m c ∧ V m c main_arg3 = vel m c := by
  refine ⟨?_, ?_, ?_, ?_⟩ <;> (show StableHlo.after hostOps0 _ _ = _; after_results <;> rfl)

theorem visits : ∀ t : Fin cfg0.N, (win0_0.index t 0 = 0 ∧ win0_0.index t 1 = win0_4.index t 0 ∧ win0_0.index t 2 = win0_4.index t 1 ∧
    win0_0.index t 3 = win0_4.index t 2) ∧ (∀ a, win0_1.index t a = win0_4.index t a) ∧ (∀ a, win0_2.index t a = win0_4.index t a) ∧
    (∀ a, win0_3.index t a = win0_4.index t a) ∧ (∀ a, win0_5.index t a = win0_4.index t a) ∧ (∀ a, win0_6.index t a = win0_4.index t a) ∧
    ∀ a, win0_7.index t a = win0_4.index t a :=
  (by decide +kernel : ∀ t : Fin grid0.N, _)

theorem gradient : (dats m 0 c).arrAt 4 cfg0.N = Adam.grads (parts m c) := by
  refine (dats m 0 c).arrAt_eq_of_covers 4 _ (by decide +kernel) fun t hf y => ?_
  blk_simp; rw [after0_4]; unfold_out out0_4; frame_out; simp only [k0_pay1, k0_pay2, k0_pay3, k0_pay4, k0_pay5, k0_pay6, k0_pay7, k0_pay8, pointwise]
  refine Adam.grads_four ?_ ?_ ?_ ?_ <;>
    refine (congrFun (found m c).1 _).trans (congrArg _ (Adam.ix4_congr ?_ ?_ ?_ ?_)) <;> blk_simp <;> simp [visits t]

theorem change : (dats m 0 c).arrAt 5 cfg0.N = Adam.deltas (parts m c) (weight m c) (mom m c) (vel m c) := by
  refine (dats m 0 c).arrAt_eq_of_covers 5 _ (by decide +kernel) fun t hf y => ?_
  blk_simp; rw [after0_5]; unfold_out out0_5; frame_out; simp only [k0_pay1, k0_pay2, k0_pay3, k0_pay4, k0_pay5, k0_pay6, k0_pay7, k0_pay8, pointwise]
  refine Adam.delta_congr (Adam.grads_four ?_ ?_ ?_ ?_) ((congrFun (found m c).2.1 _).trans (congrArg _ (Adam.ix3_congr ?_ ?_ ?_)))
    ((congrFun (found m c).2.2.1 _).trans (congrArg _ (Adam.ix3_congr ?_ ?_ ?_)))
    ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem momentum : (dats m 0 c).arrAt 6 cfg0.N = Adam.firsts (parts m c) (mom m c) := by
  refine (dats m 0 c).arrAt_eq_of_covers 6 _ (by decide +kernel) fun t hf y => ?_
  blk_simp; rw [after0_6]; unfold_out out0_6; frame_out; simp only [k0_pay1, k0_pay2, k0_pay3, k0_pay4, k0_pay5, k0_pay6, k0_pay7, k0_pay8, pointwise]
  refine Adam.first_congr (Adam.grads_four ?_ ?_ ?_ ?_) ((congrFun (found m c).2.2.1 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem velocity : (dats m 0 c).arrAt 7 cfg0.N = Adam.seconds (parts m c) (vel m c) := by
  refine (dats m 0 c).arrAt_eq_of_covers 7 _ (by decide +kernel) fun t hf y => ?_
  blk_simp; rw [after0_7]; unfold_out out0_7; frame_out; simp only [k0_pay1, k0_pay2, k0_pay3, k0_pay4, k0_pay5, k0_pay6, k0_pay7, k0_pay8, pointwise]
  refine Adam.second_congr (Adam.grads_four ?_ ?_ ?_ ?_) ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

end Cert.Kernel26Ideal.Step

namespace Cert.Proof

open Cert Idealize.ShloMosaic Idealize.ShloMosaic.TcCoe Idealize.SL.Sem

theorem frame_Reference26Ideal : Cert.quiescent_Reference26Ideal := fun m g _ =>
  (θ_run Reference26Ideal.defs _ _).mono (fun r h => ⟨fun c => (h c).2.2.2.2, sem_eq_zero_of_no_sems (by decide) r.2⟩) (Reference26Ideal.Value.run m g)

theorem algebraic26 : Cert.algebraic_Kernel26Ideal_Reference26Ideal := by
  intro m g m' g' _ he
  refine ⟨_, _, _, _, (θ_run Kernel26Ideal.defs _ _).mono (fun r h c => ⟨(h c).1.trans (Kernel26Ideal.Step.gradient m c),
      (h c).2.1.trans (Kernel26Ideal.Step.change m c), (h c).2.2.1.trans (Kernel26Ideal.Step.momentum m c),
      (h c).2.2.2.1.trans (Kernel26Ideal.Step.velocity m c), (h c).2.2.2.2⟩) (Kernel26Ideal.Value.run_blocks m g),
    (θ_run Reference26Ideal.defs _ _).mono (fun r h c => ⟨(h c).1.trans ?_, (h c).2.1.trans ?_, (h c).2.2.1.trans ?_, (h c).2.2.2.1.trans ?_,
      (h c).2.2.2.2⟩) (Reference26Ideal.Value.run m' g')⟩ <;> simp only [(he c).1, (he c).2.1, (he c).2.2.1, (he c).2.2.2]
  · exact Adam.sum_parts _ _ _
  · exact Adam.deltas_eq _ (Adam.sum_parts _ _ _)
  · exact Adam.firsts_eq _ (Adam.sum_parts _ _ _)
  · exact Adam.seconds_eq _ (Adam.sum_parts _ _ _)

end Cert.Proof

namespace Cert.Kernel27Ideal.Step

open Cert.Kernel27Ideal Cert.Kernel27Ideal.Gen Idealize.ShloMosaic Idealize.ShloMosaic.TcCoe Idealize.SL.Sem

variable (m : (ℓ : Loc nD τ sig) → Buf (Elt Ideal) ℓ) (c : Dev nD)

/-- The arguments: the parts, the weight and its moments. -/
abbrev parts : Adam.Parts 4 2 512 192 := m ((c : Thread nD τ).loc main_arg0)
abbrev weight : Adam.Arr 2 512 192 := m ((c : Thread nD τ).loc main_arg1)
abbrev mom : Adam.Arr 2 512 192 := m ((c : Thread nD τ).loc main_arg2)
abbrev vel : Adam.Arr 2 512 192 := m ((c : Thread nD τ).loc main_arg3)

theorem found : V m c main_v0 = parts m c ∧ V m c main_arg1 = weight m c ∧ V m c main_arg2 = mom m c ∧ V m c main_arg3 = vel m c := by
  refine ⟨?_, ?_, ?_, ?_⟩ <;> (show StableHlo.after hostOps0 _ _ = _; after_results <;> rfl)

theorem visits : ∀ t : Fin cfg0.N, (win0_0.index t 0 = 0 ∧ win0_0.index t 1 = win0_4.index t 0 ∧ win0_0.index t 2 = win0_4.index t 1 ∧
    win0_0.index t 3 = win0_4.index t 2) ∧ (∀ a, win0_1.index t a = win0_4.index t a) ∧ (∀ a, win0_2.index t a = win0_4.index t a) ∧
    (∀ a, win0_3.index t a = win0_4.index t a) ∧ (∀ a, win0_5.index t a = win0_4.index t a) ∧ (∀ a, win0_6.index t a = win0_4.index t a) ∧
    ∀ a, win0_7.index t a = win0_4.index t a :=
  (by decide +kernel : ∀ t : Fin grid0.N, _)

theorem gradient : (dats m 0 c).arrAt 4 cfg0.N = Adam.grads (parts m c) := by
  refine (dats m 0 c).arrAt_eq_of_covers 4 _ (by decide +kernel) fun t hf y => ?_
  blk_simp; rw [after0_4]; unfold_out out0_4; frame_out; simp only [k0_pay1, k0_pay2, k0_pay3, k0_pay4, k0_pay5, k0_pay6, k0_pay7, k0_pay8, pointwise]
  refine Adam.grads_four ?_ ?_ ?_ ?_ <;>
    refine (congrFun (found m c).1 _).trans (congrArg _ (Adam.ix4_congr ?_ ?_ ?_ ?_)) <;> blk_simp <;> simp [visits t]

theorem change : (dats m 0 c).arrAt 5 cfg0.N = Adam.deltas (parts m c) (weight m c) (mom m c) (vel m c) := by
  refine (dats m 0 c).arrAt_eq_of_covers 5 _ (by decide +kernel) fun t hf y => ?_
  blk_simp; rw [after0_5]; unfold_out out0_5; frame_out; simp only [k0_pay1, k0_pay2, k0_pay3, k0_pay4, k0_pay5, k0_pay6, k0_pay7, k0_pay8, pointwise]
  refine Adam.delta_congr (Adam.grads_four ?_ ?_ ?_ ?_) ((congrFun (found m c).2.1 _).trans (congrArg _ (Adam.ix3_congr ?_ ?_ ?_)))
    ((congrFun (found m c).2.2.1 _).trans (congrArg _ (Adam.ix3_congr ?_ ?_ ?_)))
    ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem momentum : (dats m 0 c).arrAt 6 cfg0.N = Adam.firsts (parts m c) (mom m c) := by
  refine (dats m 0 c).arrAt_eq_of_covers 6 _ (by decide +kernel) fun t hf y => ?_
  blk_simp; rw [after0_6]; unfold_out out0_6; frame_out; simp only [k0_pay1, k0_pay2, k0_pay3, k0_pay4, k0_pay5, k0_pay6, k0_pay7, k0_pay8, pointwise]
  refine Adam.first_congr (Adam.grads_four ?_ ?_ ?_ ?_) ((congrFun (found m c).2.2.1 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem velocity : (dats m 0 c).arrAt 7 cfg0.N = Adam.seconds (parts m c) (vel m c) := by
  refine (dats m 0 c).arrAt_eq_of_covers 7 _ (by decide +kernel) fun t hf y => ?_
  blk_simp; rw [after0_7]; unfold_out out0_7; frame_out; simp only [k0_pay1, k0_pay2, k0_pay3, k0_pay4, k0_pay5, k0_pay6, k0_pay7, k0_pay8, pointwise]
  refine Adam.second_congr (Adam.grads_four ?_ ?_ ?_ ?_) ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

end Cert.Kernel27Ideal.Step

namespace Cert.Proof

open Cert Idealize.ShloMosaic Idealize.ShloMosaic.TcCoe Idealize.SL.Sem

theorem frame_Reference27Ideal : Cert.quiescent_Reference27Ideal := fun m g _ =>
  (θ_run Reference27Ideal.defs _ _).mono (fun r h => ⟨fun c => (h c).2.2.2.2, sem_eq_zero_of_no_sems (by decide) r.2⟩) (Reference27Ideal.Value.run m g)

theorem algebraic27 : Cert.algebraic_Kernel27Ideal_Reference27Ideal := by
  intro m g m' g' _ he
  refine ⟨_, _, _, _, (θ_run Kernel27Ideal.defs _ _).mono (fun r h c => ⟨(h c).1.trans (Kernel27Ideal.Step.gradient m c),
      (h c).2.1.trans (Kernel27Ideal.Step.change m c), (h c).2.2.1.trans (Kernel27Ideal.Step.momentum m c),
      (h c).2.2.2.1.trans (Kernel27Ideal.Step.velocity m c), (h c).2.2.2.2⟩) (Kernel27Ideal.Value.run_blocks m g),
    (θ_run Reference27Ideal.defs _ _).mono (fun r h c => ⟨(h c).1.trans ?_, (h c).2.1.trans ?_, (h c).2.2.1.trans ?_, (h c).2.2.2.1.trans ?_,
      (h c).2.2.2.2⟩) (Reference27Ideal.Value.run m' g')⟩ <;> simp only [(he c).1, (he c).2.1, (he c).2.2.1, (he c).2.2.2]
  · exact Adam.sum_parts _ _ _
  · exact Adam.deltas_eq _ (Adam.sum_parts _ _ _)
  · exact Adam.firsts_eq _ (Adam.sum_parts _ _ _)
  · exact Adam.seconds_eq _ (Adam.sum_parts _ _ _)

end Cert.Proof

namespace Cert.Kernel28Ideal.Step

open Cert.Kernel28Ideal Cert.Kernel28Ideal.Gen Idealize.ShloMosaic Idealize.ShloMosaic.TcCoe Idealize.SL.Sem

variable (m : (ℓ : Loc nD τ sig) → Buf (Elt Ideal) ℓ) (c : Dev nD)

/-- The arguments: the parts, the weight and its moments. -/
abbrev parts : Adam.Parts 4 8 32 256 := m ((c : Thread nD τ).loc main_arg0)
abbrev weight : Adam.Arr 8 32 256 := m ((c : Thread nD τ).loc main_arg1)
abbrev mom : Adam.Arr 8 32 256 := m ((c : Thread nD τ).loc main_arg2)
abbrev vel : Adam.Arr 8 32 256 := m ((c : Thread nD τ).loc main_arg3)

theorem found : V m c main_v0 = parts m c ∧ V m c main_arg1 = weight m c ∧ V m c main_arg2 = mom m c ∧ V m c main_arg3 = vel m c := by
  refine ⟨?_, ?_, ?_, ?_⟩ <;> (show StableHlo.after hostOps0 _ _ = _; after_results <;> rfl)

theorem visits : ∀ t : Fin cfg0.N, (win0_0.index t 0 = 0 ∧ win0_0.index t 1 = win0_4.index t 0 ∧ win0_0.index t 2 = win0_4.index t 1 ∧
    win0_0.index t 3 = win0_4.index t 2) ∧ (∀ a, win0_1.index t a = win0_4.index t a) ∧ (∀ a, win0_2.index t a = win0_4.index t a) ∧
    (∀ a, win0_3.index t a = win0_4.index t a) ∧ (∀ a, win0_5.index t a = win0_4.index t a) ∧ (∀ a, win0_6.index t a = win0_4.index t a) ∧
    ∀ a, win0_7.index t a = win0_4.index t a :=
  (by decide +kernel : ∀ t : Fin grid0.N, _)

theorem gradient : (dats m 0 c).arrAt 4 cfg0.N = Adam.grads (parts m c) := by
  refine (dats m 0 c).arrAt_eq_of_covers 4 _ (by decide +kernel) fun t hf y => ?_
  blk_simp; rw [after0_4]; unfold_out out0_4; frame_out; simp only [k0_pay1, k0_pay2, k0_pay3, k0_pay4, k0_pay5, k0_pay6, k0_pay7, k0_pay8, pointwise]
  refine Adam.grads_four ?_ ?_ ?_ ?_ <;>
    refine (congrFun (found m c).1 _).trans (congrArg _ (Adam.ix4_congr ?_ ?_ ?_ ?_)) <;> blk_simp <;> simp [visits t]

theorem change : (dats m 0 c).arrAt 5 cfg0.N = Adam.deltas (parts m c) (weight m c) (mom m c) (vel m c) := by
  refine (dats m 0 c).arrAt_eq_of_covers 5 _ (by decide +kernel) fun t hf y => ?_
  blk_simp; rw [after0_5]; unfold_out out0_5; frame_out; simp only [k0_pay1, k0_pay2, k0_pay3, k0_pay4, k0_pay5, k0_pay6, k0_pay7, k0_pay8, pointwise]
  refine Adam.delta_congr (Adam.grads_four ?_ ?_ ?_ ?_) ((congrFun (found m c).2.1 _).trans (congrArg _ (Adam.ix3_congr ?_ ?_ ?_)))
    ((congrFun (found m c).2.2.1 _).trans (congrArg _ (Adam.ix3_congr ?_ ?_ ?_)))
    ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem momentum : (dats m 0 c).arrAt 6 cfg0.N = Adam.firsts (parts m c) (mom m c) := by
  refine (dats m 0 c).arrAt_eq_of_covers 6 _ (by decide +kernel) fun t hf y => ?_
  blk_simp; rw [after0_6]; unfold_out out0_6; frame_out; simp only [k0_pay1, k0_pay2, k0_pay3, k0_pay4, k0_pay5, k0_pay6, k0_pay7, k0_pay8, pointwise]
  refine Adam.first_congr (Adam.grads_four ?_ ?_ ?_ ?_) ((congrFun (found m c).2.2.1 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem velocity : (dats m 0 c).arrAt 7 cfg0.N = Adam.seconds (parts m c) (vel m c) := by
  refine (dats m 0 c).arrAt_eq_of_covers 7 _ (by decide +kernel) fun t hf y => ?_
  blk_simp; rw [after0_7]; unfold_out out0_7; frame_out; simp only [k0_pay1, k0_pay2, k0_pay3, k0_pay4, k0_pay5, k0_pay6, k0_pay7, k0_pay8, pointwise]
  refine Adam.second_congr (Adam.grads_four ?_ ?_ ?_ ?_) ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

end Cert.Kernel28Ideal.Step

namespace Cert.Proof

open Cert Idealize.ShloMosaic Idealize.ShloMosaic.TcCoe Idealize.SL.Sem

theorem frame_Reference28Ideal : Cert.quiescent_Reference28Ideal := fun m g _ =>
  (θ_run Reference28Ideal.defs _ _).mono (fun r h => ⟨fun c => (h c).2.2.2.2, sem_eq_zero_of_no_sems (by decide) r.2⟩) (Reference28Ideal.Value.run m g)

theorem algebraic28 : Cert.algebraic_Kernel28Ideal_Reference28Ideal := by
  intro m g m' g' _ he
  refine ⟨_, _, _, _, (θ_run Kernel28Ideal.defs _ _).mono (fun r h c => ⟨(h c).1.trans (Kernel28Ideal.Step.gradient m c),
      (h c).2.1.trans (Kernel28Ideal.Step.change m c), (h c).2.2.1.trans (Kernel28Ideal.Step.momentum m c),
      (h c).2.2.2.1.trans (Kernel28Ideal.Step.velocity m c), (h c).2.2.2.2⟩) (Kernel28Ideal.Value.run_blocks m g),
    (θ_run Reference28Ideal.defs _ _).mono (fun r h c => ⟨(h c).1.trans ?_, (h c).2.1.trans ?_, (h c).2.2.1.trans ?_, (h c).2.2.2.1.trans ?_,
      (h c).2.2.2.2⟩) (Reference28Ideal.Value.run m' g')⟩ <;> simp only [(he c).1, (he c).2.1, (he c).2.2.1, (he c).2.2.2]
  · exact Adam.sum_parts _ _ _
  · exact Adam.deltas_eq _ (Adam.sum_parts _ _ _)
  · exact Adam.firsts_eq _ (Adam.sum_parts _ _ _)
  · exact Adam.seconds_eq _ (Adam.sum_parts _ _ _)

end Cert.Proof

namespace Cert.Kernel29Ideal.Step

open Cert.Kernel29Ideal Cert.Kernel29Ideal.Gen Idealize.ShloMosaic Idealize.ShloMosaic.TcCoe Idealize.SL.Sem

variable (m : (ℓ : Loc nD τ sig) → Buf (Elt Ideal) ℓ) (c : Dev nD)

/-- The arguments: the parts, the weight and its moments. -/
abbrev parts : Adam.Parts 4 2 4 256 := m ((c : Thread nD τ).loc main_arg0)
abbrev weight : Adam.Arr 2 4 256 := m ((c : Thread nD τ).loc main_arg1)
abbrev mom : Adam.Arr 2 4 256 := m ((c : Thread nD τ).loc main_arg2)
abbrev vel : Adam.Arr 2 4 256 := m ((c : Thread nD τ).loc main_arg3)

theorem found : V m c main_v0 = parts m c ∧ V m c main_arg1 = weight m c ∧ V m c main_arg2 = mom m c ∧ V m c main_arg3 = vel m c := by
  refine ⟨?_, ?_, ?_, ?_⟩ <;> (show StableHlo.after hostOps0 _ _ = _; after_results <;> rfl)

theorem visits : ∀ t : Fin cfg0.N, (win0_0.index t 0 = 0 ∧ win0_0.index t 1 = win0_4.index t 0 ∧ win0_0.index t 2 = win0_4.index t 1 ∧
    win0_0.index t 3 = win0_4.index t 2) ∧ (∀ a, win0_1.index t a = win0_4.index t a) ∧ (∀ a, win0_2.index t a = win0_4.index t a) ∧
    (∀ a, win0_3.index t a = win0_4.index t a) ∧ (∀ a, win0_5.index t a = win0_4.index t a) ∧ (∀ a, win0_6.index t a = win0_4.index t a) ∧
    ∀ a, win0_7.index t a = win0_4.index t a :=
  (by decide +kernel : ∀ t : Fin grid0.N, _)

theorem gradient : (dats m 0 c).arrAt 4 cfg0.N = Adam.grads (parts m c) := by
  refine (dats m 0 c).arrAt_eq_of_covers 4 _ (by decide +kernel) fun t hf y => ?_
  blk_simp; rw [after0_4]; unfold_out out0_4; frame_out; simp only [k0_pay1, k0_pay2, k0_pay3, k0_pay4, k0_pay5, k0_pay6, k0_pay7, k0_pay8, pointwise]
  refine Adam.grads_four ?_ ?_ ?_ ?_ <;>
    refine (congrFun (found m c).1 _).trans (congrArg _ (Adam.ix4_congr ?_ ?_ ?_ ?_)) <;> blk_simp <;> simp [visits t]

theorem change : (dats m 0 c).arrAt 5 cfg0.N = Adam.deltas (parts m c) (weight m c) (mom m c) (vel m c) := by
  refine (dats m 0 c).arrAt_eq_of_covers 5 _ (by decide +kernel) fun t hf y => ?_
  blk_simp; rw [after0_5]; unfold_out out0_5; frame_out; simp only [k0_pay1, k0_pay2, k0_pay3, k0_pay4, k0_pay5, k0_pay6, k0_pay7, k0_pay8, pointwise]
  refine Adam.delta_congr (Adam.grads_four ?_ ?_ ?_ ?_) ((congrFun (found m c).2.1 _).trans (congrArg _ (Adam.ix3_congr ?_ ?_ ?_)))
    ((congrFun (found m c).2.2.1 _).trans (congrArg _ (Adam.ix3_congr ?_ ?_ ?_)))
    ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem momentum : (dats m 0 c).arrAt 6 cfg0.N = Adam.firsts (parts m c) (mom m c) := by
  refine (dats m 0 c).arrAt_eq_of_covers 6 _ (by decide +kernel) fun t hf y => ?_
  blk_simp; rw [after0_6]; unfold_out out0_6; frame_out; simp only [k0_pay1, k0_pay2, k0_pay3, k0_pay4, k0_pay5, k0_pay6, k0_pay7, k0_pay8, pointwise]
  refine Adam.first_congr (Adam.grads_four ?_ ?_ ?_ ?_) ((congrFun (found m c).2.2.1 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem velocity : (dats m 0 c).arrAt 7 cfg0.N = Adam.seconds (parts m c) (vel m c) := by
  refine (dats m 0 c).arrAt_eq_of_covers 7 _ (by decide +kernel) fun t hf y => ?_
  blk_simp; rw [after0_7]; unfold_out out0_7; frame_out; simp only [k0_pay1, k0_pay2, k0_pay3, k0_pay4, k0_pay5, k0_pay6, k0_pay7, k0_pay8, pointwise]
  refine Adam.second_congr (Adam.grads_four ?_ ?_ ?_ ?_) ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

end Cert.Kernel29Ideal.Step

namespace Cert.Proof

open Cert Idealize.ShloMosaic Idealize.ShloMosaic.TcCoe Idealize.SL.Sem

theorem frame_Reference29Ideal : Cert.quiescent_Reference29Ideal := fun m g _ =>
  (θ_run Reference29Ideal.defs _ _).mono (fun r h => ⟨fun c => (h c).2.2.2.2, sem_eq_zero_of_no_sems (by decide) r.2⟩) (Reference29Ideal.Value.run m g)

theorem algebraic29 : Cert.algebraic_Kernel29Ideal_Reference29Ideal := by
  intro m g m' g' _ he
  refine ⟨_, _, _, _, (θ_run Kernel29Ideal.defs _ _).mono (fun r h c => ⟨(h c).1.trans (Kernel29Ideal.Step.gradient m c),
      (h c).2.1.trans (Kernel29Ideal.Step.change m c), (h c).2.2.1.trans (Kernel29Ideal.Step.momentum m c),
      (h c).2.2.2.1.trans (Kernel29Ideal.Step.velocity m c), (h c).2.2.2.2⟩) (Kernel29Ideal.Value.run_blocks m g),
    (θ_run Reference29Ideal.defs _ _).mono (fun r h c => ⟨(h c).1.trans ?_, (h c).2.1.trans ?_, (h c).2.2.1.trans ?_, (h c).2.2.2.1.trans ?_,
      (h c).2.2.2.2⟩) (Reference29Ideal.Value.run m' g')⟩ <;> simp only [(he c).1, (he c).2.1, (he c).2.2.1, (he c).2.2.2]
  · exact Adam.sum_parts _ _ _
  · exact Adam.deltas_eq _ (Adam.sum_parts _ _ _)
  · exact Adam.firsts_eq _ (Adam.sum_parts _ _ _)
  · exact Adam.seconds_eq _ (Adam.sum_parts _ _ _)

end Cert.Proof

namespace Cert.Kernel30Ideal.Step

open Cert.Kernel30Ideal Cert.Kernel30Ideal.Gen Idealize.ShloMosaic Idealize.ShloMosaic.TcCoe Idealize.SL.Sem

variable (m : (ℓ : Loc nD τ sig) → Buf (Elt Ideal) ℓ) (c : Dev nD)

/-- The arguments: the parts, the weight and its moments. -/
abbrev parts : Adam.Parts 4 2 31 128 := m ((c : Thread nD τ).loc main_arg0)
abbrev weight : Adam.Arr 2 31 128 := m ((c : Thread nD τ).loc main_arg1)
abbrev mom : Adam.Arr 2 31 128 := m ((c : Thread nD τ).loc main_arg2)
abbrev vel : Adam.Arr 2 31 128 := m ((c : Thread nD τ).loc main_arg3)

theorem found : V m c main_v0 = parts m c ∧ V m c main_arg1 = weight m c ∧ V m c main_arg2 = mom m c ∧ V m c main_arg3 = vel m c := by
  refine ⟨?_, ?_, ?_, ?_⟩ <;> (show StableHlo.after hostOps0 _ _ = _; after_results <;> rfl)

theorem visits : ∀ t : Fin cfg0.N, (win0_0.index t 0 = 0 ∧ win0_0.index t 1 = win0_4.index t 0 ∧ win0_0.index t 2 = win0_4.index t 1 ∧
    win0_0.index t 3 = win0_4.index t 2) ∧ (∀ a, win0_1.index t a = win0_4.index t a) ∧ (∀ a, win0_2.index t a = win0_4.index t a) ∧
    (∀ a, win0_3.index t a = win0_4.index t a) ∧ (∀ a, win0_5.index t a = win0_4.index t a) ∧ (∀ a, win0_6.index t a = win0_4.index t a) ∧
    ∀ a, win0_7.index t a = win0_4.index t a :=
  (by decide +kernel : ∀ t : Fin grid0.N, _)

theorem gradient : (dats m 0 c).arrAt 4 cfg0.N = Adam.grads (parts m c) := by
  refine (dats m 0 c).arrAt_eq_of_covers 4 _ (by decide +kernel) fun t hf y => ?_
  blk_simp; rw [after0_4]; unfold_out out0_4; frame_out; simp only [k0_pay1, k0_pay2, k0_pay3, k0_pay4, k0_pay5, k0_pay6, k0_pay7, k0_pay8, pointwise]
  refine Adam.grads_four ?_ ?_ ?_ ?_ <;>
    refine (congrFun (found m c).1 _).trans (congrArg _ (Adam.ix4_congr ?_ ?_ ?_ ?_)) <;> blk_simp <;> simp [visits t]

theorem change : (dats m 0 c).arrAt 5 cfg0.N = Adam.deltas (parts m c) (weight m c) (mom m c) (vel m c) := by
  refine (dats m 0 c).arrAt_eq_of_covers 5 _ (by decide +kernel) fun t hf y => ?_
  blk_simp; rw [after0_5]; unfold_out out0_5; frame_out; simp only [k0_pay1, k0_pay2, k0_pay3, k0_pay4, k0_pay5, k0_pay6, k0_pay7, k0_pay8, pointwise]
  refine Adam.delta_congr (Adam.grads_four ?_ ?_ ?_ ?_) ((congrFun (found m c).2.1 _).trans (congrArg _ (Adam.ix3_congr ?_ ?_ ?_)))
    ((congrFun (found m c).2.2.1 _).trans (congrArg _ (Adam.ix3_congr ?_ ?_ ?_)))
    ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem momentum : (dats m 0 c).arrAt 6 cfg0.N = Adam.firsts (parts m c) (mom m c) := by
  refine (dats m 0 c).arrAt_eq_of_covers 6 _ (by decide +kernel) fun t hf y => ?_
  blk_simp; rw [after0_6]; unfold_out out0_6; frame_out; simp only [k0_pay1, k0_pay2, k0_pay3, k0_pay4, k0_pay5, k0_pay6, k0_pay7, k0_pay8, pointwise]
  refine Adam.first_congr (Adam.grads_four ?_ ?_ ?_ ?_) ((congrFun (found m c).2.2.1 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem velocity : (dats m 0 c).arrAt 7 cfg0.N = Adam.seconds (parts m c) (vel m c) := by
  refine (dats m 0 c).arrAt_eq_of_covers 7 _ (by decide +kernel) fun t hf y => ?_
  blk_simp; rw [after0_7]; unfold_out out0_7; frame_out; simp only [k0_pay1, k0_pay2, k0_pay3, k0_pay4, k0_pay5, k0_pay6, k0_pay7, k0_pay8, pointwise]
  refine Adam.second_congr (Adam.grads_four ?_ ?_ ?_ ?_) ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

end Cert.Kernel30Ideal.Step

namespace Cert.Proof

open Cert Idealize.ShloMosaic Idealize.ShloMosaic.TcCoe Idealize.SL.Sem

theorem frame_Reference30Ideal : Cert.quiescent_Reference30Ideal := fun m g _ =>
  (θ_run Reference30Ideal.defs _ _).mono (fun r h => ⟨fun c => (h c).2.2.2.2, sem_eq_zero_of_no_sems (by decide) r.2⟩) (Reference30Ideal.Value.run m g)

theorem algebraic30 : Cert.algebraic_Kernel30Ideal_Reference30Ideal := by
  intro m g m' g' _ he
  refine ⟨_, _, _, _, (θ_run Kernel30Ideal.defs _ _).mono (fun r h c => ⟨(h c).1.trans (Kernel30Ideal.Step.gradient m c),
      (h c).2.1.trans (Kernel30Ideal.Step.change m c), (h c).2.2.1.trans (Kernel30Ideal.Step.momentum m c),
      (h c).2.2.2.1.trans (Kernel30Ideal.Step.velocity m c), (h c).2.2.2.2⟩) (Kernel30Ideal.Value.run_blocks m g),
    (θ_run Reference30Ideal.defs _ _).mono (fun r h c => ⟨(h c).1.trans ?_, (h c).2.1.trans ?_, (h c).2.2.1.trans ?_, (h c).2.2.2.1.trans ?_,
      (h c).2.2.2.2⟩) (Reference30Ideal.Value.run m' g')⟩ <;> simp only [(he c).1, (he c).2.1, (he c).2.2.1, (he c).2.2.2]
  · exact Adam.sum_parts _ _ _
  · exact Adam.deltas_eq _ (Adam.sum_parts _ _ _)
  · exact Adam.firsts_eq _ (Adam.sum_parts _ _ _)
  · exact Adam.seconds_eq _ (Adam.sum_parts _ _ _)

end Cert.Proof

namespace Cert.Kernel31Ideal.Step

open Cert.Kernel31Ideal Cert.Kernel31Ideal.Gen Idealize.ShloMosaic Idealize.ShloMosaic.TcCoe Idealize.SL.Sem

variable (m : (ℓ : Loc nD τ sig) → Buf (Elt Ideal) ℓ) (c : Dev nD)

/-- The arguments: the parts, the weight and its moments. -/
abbrev parts : Adam.Parts 4 2 3 1408 := m ((c : Thread nD τ).loc main_arg0)
abbrev weight : Adam.Arr 2 3 1408 := m ((c : Thread nD τ).loc main_arg1)
abbrev mom : Adam.Arr 2 3 1408 := m ((c : Thread nD τ).loc main_arg2)
abbrev vel : Adam.Arr 2 3 1408 := m ((c : Thread nD τ).loc main_arg3)

theorem found : V m c main_v0 = parts m c ∧ V m c main_arg1 = weight m c ∧ V m c main_arg2 = mom m c ∧ V m c main_arg3 = vel m c := by
  refine ⟨?_, ?_, ?_, ?_⟩ <;> (show StableHlo.after hostOps0 _ _ = _; after_results <;> rfl)

theorem visits : ∀ t : Fin cfg0.N, (win0_0.index t 0 = 0 ∧ win0_0.index t 1 = win0_4.index t 0 ∧ win0_0.index t 2 = win0_4.index t 1 ∧
    win0_0.index t 3 = win0_4.index t 2) ∧ (∀ a, win0_1.index t a = win0_4.index t a) ∧ (∀ a, win0_2.index t a = win0_4.index t a) ∧
    (∀ a, win0_3.index t a = win0_4.index t a) ∧ (∀ a, win0_5.index t a = win0_4.index t a) ∧ (∀ a, win0_6.index t a = win0_4.index t a) ∧
    ∀ a, win0_7.index t a = win0_4.index t a :=
  (by decide +kernel : ∀ t : Fin grid0.N, _)

theorem gradient : (dats m 0 c).arrAt 4 cfg0.N = Adam.grads (parts m c) := by
  refine (dats m 0 c).arrAt_eq_of_covers 4 _ (by decide +kernel) fun t hf y => ?_
  blk_simp; rw [after0_4]; unfold_out out0_4; frame_out; simp only [k0_pay1, k0_pay2, k0_pay3, k0_pay4, k0_pay5, k0_pay6, k0_pay7, k0_pay8, pointwise]
  refine Adam.grads_four ?_ ?_ ?_ ?_ <;>
    refine (congrFun (found m c).1 _).trans (congrArg _ (Adam.ix4_congr ?_ ?_ ?_ ?_)) <;> blk_simp <;> simp [visits t]

theorem change : (dats m 0 c).arrAt 5 cfg0.N = Adam.deltas (parts m c) (weight m c) (mom m c) (vel m c) := by
  refine (dats m 0 c).arrAt_eq_of_covers 5 _ (by decide +kernel) fun t hf y => ?_
  blk_simp; rw [after0_5]; unfold_out out0_5; frame_out; simp only [k0_pay1, k0_pay2, k0_pay3, k0_pay4, k0_pay5, k0_pay6, k0_pay7, k0_pay8, pointwise]
  refine Adam.delta_congr (Adam.grads_four ?_ ?_ ?_ ?_) ((congrFun (found m c).2.1 _).trans (congrArg _ (Adam.ix3_congr ?_ ?_ ?_)))
    ((congrFun (found m c).2.2.1 _).trans (congrArg _ (Adam.ix3_congr ?_ ?_ ?_)))
    ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem momentum : (dats m 0 c).arrAt 6 cfg0.N = Adam.firsts (parts m c) (mom m c) := by
  refine (dats m 0 c).arrAt_eq_of_covers 6 _ (by decide +kernel) fun t hf y => ?_
  blk_simp; rw [after0_6]; unfold_out out0_6; frame_out; simp only [k0_pay1, k0_pay2, k0_pay3, k0_pay4, k0_pay5, k0_pay6, k0_pay7, k0_pay8, pointwise]
  refine Adam.first_congr (Adam.grads_four ?_ ?_ ?_ ?_) ((congrFun (found m c).2.2.1 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem velocity : (dats m 0 c).arrAt 7 cfg0.N = Adam.seconds (parts m c) (vel m c) := by
  refine (dats m 0 c).arrAt_eq_of_covers 7 _ (by decide +kernel) fun t hf y => ?_
  blk_simp; rw [after0_7]; unfold_out out0_7; frame_out; simp only [k0_pay1, k0_pay2, k0_pay3, k0_pay4, k0_pay5, k0_pay6, k0_pay7, k0_pay8, pointwise]
  refine Adam.second_congr (Adam.grads_four ?_ ?_ ?_ ?_) ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

end Cert.Kernel31Ideal.Step

namespace Cert.Proof

open Cert Idealize.ShloMosaic Idealize.ShloMosaic.TcCoe Idealize.SL.Sem

theorem frame_Reference31Ideal : Cert.quiescent_Reference31Ideal := fun m g _ =>
  (θ_run Reference31Ideal.defs _ _).mono (fun r h => ⟨fun c => (h c).2.2.2.2, sem_eq_zero_of_no_sems (by decide) r.2⟩) (Reference31Ideal.Value.run m g)

theorem algebraic31 : Cert.algebraic_Kernel31Ideal_Reference31Ideal := by
  intro m g m' g' _ he
  refine ⟨_, _, _, _, (θ_run Kernel31Ideal.defs _ _).mono (fun r h c => ⟨(h c).1.trans (Kernel31Ideal.Step.gradient m c),
      (h c).2.1.trans (Kernel31Ideal.Step.change m c), (h c).2.2.1.trans (Kernel31Ideal.Step.momentum m c),
      (h c).2.2.2.1.trans (Kernel31Ideal.Step.velocity m c), (h c).2.2.2.2⟩) (Kernel31Ideal.Value.run_blocks m g),
    (θ_run Reference31Ideal.defs _ _).mono (fun r h c => ⟨(h c).1.trans ?_, (h c).2.1.trans ?_, (h c).2.2.1.trans ?_, (h c).2.2.2.1.trans ?_,
      (h c).2.2.2.2⟩) (Reference31Ideal.Value.run m' g')⟩ <;> simp only [(he c).1, (he c).2.1, (he c).2.2.1, (he c).2.2.2]
  · exact Adam.sum_parts _ _ _
  · exact Adam.deltas_eq _ (Adam.sum_parts _ _ _)
  · exact Adam.firsts_eq _ (Adam.sum_parts _ _ _)
  · exact Adam.seconds_eq _ (Adam.sum_parts _ _ _)

end Cert.Proof
-- ==== Proof.StepStacked.lean ====
module

public import proofs.«01_k».proof.Defs
public import proofs.«01_k».proof.Proof.Adam
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Kernel33.Frame
public import proofs.«01_k».proof.Proof.Gen.Kernel33Ideal.Value
public import proofs.«01_k».proof.Proof.Gen.Reference33Ideal.Run
public import Idealize.ShloMosaic.Lib.Quiescent

/-! # The optimiser's step on the stacked and on the packed weights

    The four output projections lie one on another; the small weights lie packed in one array, in eight parts that are not
    rounded. -/

@[expose] public section
noncomputable section

set_option backward.proofsInPublic true

namespace Cert.Kernel32Ideal.Step

open Cert.Kernel32Ideal Cert.Kernel32Ideal.Gen Idealize.ShloMosaic Idealize.ShloMosaic.TcCoe Idealize.SL.Sem

variable (m : (ℓ : Loc nD τ sig) → Buf (Elt Ideal) ℓ) (c : Dev nD)

/-- The arguments: the parts, the weight and its moments. -/
abbrev parts : Adam.Parts 4 8 1024 256 := m ((c : Thread nD τ).loc main_arg0)
abbrev weight : Adam.Arr 8 1024 256 := m ((c : Thread nD τ).loc main_arg1)
abbrev mom : Adam.Arr 8 1024 256 := m ((c : Thread nD τ).loc main_arg2)
abbrev vel : Adam.Arr 8 1024 256 := m ((c : Thread nD τ).loc main_arg3)

theorem found : V m c main_v0 = parts m c ∧ V m c main_arg1 = weight m c ∧ V m c main_arg2 = mom m c ∧ V m c main_arg3 = vel m c := by
  refine ⟨?_, ?_, ?_, ?_⟩ <;> (show StableHlo.after hostOps0 _ _ = _; after_results <;> rfl)

theorem visits : ∀ t : Fin cfg0.N, (win0_0.index t 0 = 0 ∧ win0_0.index t 1 = win0_4.index t 0 ∧ win0_0.index t 2 = win0_4.index t 1 ∧
    win0_0.index t 3 = win0_4.index t 2) ∧ (∀ a, win0_1.index t a = win0_4.index t a) ∧ (∀ a, win0_2.index t a = win0_4.index t a) ∧
    (∀ a, win0_3.index t a = win0_4.index t a) ∧ (∀ a, win0_5.index t a = win0_4.index t a) ∧ (∀ a, win0_6.index t a = win0_4.index t a) ∧
    ∀ a, win0_7.index t a = win0_4.index t a :=
  (by decide +kernel : ∀ t : Fin grid0.N, _)

theorem gradient : (dats m 0 c).arrAt 4 cfg0.N = Adam.grads (parts m c) := by
  refine (dats m 0 c).arrAt_eq_of_covers 4 _ (by decide +kernel) fun t hf y => ?_
  blk_simp; rw [after0_4]; unfold_out out0_4; frame_out; simp only [k0_pay1, k0_pay2, k0_pay3, k0_pay4, k0_pay5, k0_pay6, k0_pay7, k0_pay8, pointwise]
  refine Adam.grads_four ?_ ?_ ?_ ?_ <;>
    refine (congrFun (found m c).1 _).trans (congrArg _ (Adam.ix4_congr ?_ ?_ ?_ ?_)) <;> blk_simp <;> simp [visits t]

theorem change : (dats m 0 c).arrAt 5 cfg0.N = Adam.deltas (parts m c) (weight m c) (mom m c) (vel m c) := by
  refine (dats m 0 c).arrAt_eq_of_covers 5 _ (by decide +kernel) fun t hf y => ?_
  blk_simp; rw [after0_5]; unfold_out out0_5; frame_out; simp only [k0_pay1, k0_pay2, k0_pay3, k0_pay4, k0_pay5, k0_pay6, k0_pay7, k0_pay8, pointwise]
  refine Adam.delta_congr (Adam.grads_four ?_ ?_ ?_ ?_) ((congrFun (found m c).2.1 _).trans (congrArg _ (Adam.ix3_congr ?_ ?_ ?_)))
    ((congrFun (found m c).2.2.1 _).trans (congrArg _ (Adam.ix3_congr ?_ ?_ ?_)))
    ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem momentum : (dats m 0 c).arrAt 6 cfg0.N = Adam.firsts (parts m c) (mom m c) := by
  refine (dats m 0 c).arrAt_eq_of_covers 6 _ (by decide +kernel) fun t hf y => ?_
  blk_simp; rw [after0_6]; unfold_out out0_6; frame_out; simp only [k0_pay1, k0_pay2, k0_pay3, k0_pay4, k0_pay5, k0_pay6, k0_pay7, k0_pay8, pointwise]
  refine Adam.first_congr (Adam.grads_four ?_ ?_ ?_ ?_) ((congrFun (found m c).2.2.1 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem velocity : (dats m 0 c).arrAt 7 cfg0.N = Adam.seconds (parts m c) (vel m c) := by
  refine (dats m 0 c).arrAt_eq_of_covers 7 _ (by decide +kernel) fun t hf y => ?_
  blk_simp; rw [after0_7]; unfold_out out0_7; frame_out; simp only [k0_pay1, k0_pay2, k0_pay3, k0_pay4, k0_pay5, k0_pay6, k0_pay7, k0_pay8, pointwise]
  refine Adam.second_congr (Adam.grads_four ?_ ?_ ?_ ?_) ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

end Cert.Kernel32Ideal.Step

namespace Cert.Proof

open Cert Idealize.ShloMosaic Idealize.ShloMosaic.TcCoe Idealize.SL.Sem

theorem frame_Reference32Ideal : Cert.quiescent_Reference32Ideal := fun m g _ =>
  (θ_run Reference32Ideal.defs _ _).mono (fun r h => ⟨fun c => (h c).2.2.2.2, sem_eq_zero_of_no_sems (by decide) r.2⟩) (Reference32Ideal.Value.run m g)

theorem algebraic32 : Cert.algebraic_Kernel32Ideal_Reference32Ideal := by
  intro m g m' g' _ he
  refine ⟨_, _, _, _, (θ_run Kernel32Ideal.defs _ _).mono (fun r h c => ⟨(h c).1.trans (Kernel32Ideal.Step.gradient m c),
      (h c).2.1.trans (Kernel32Ideal.Step.change m c), (h c).2.2.1.trans (Kernel32Ideal.Step.momentum m c),
      (h c).2.2.2.1.trans (Kernel32Ideal.Step.velocity m c), (h c).2.2.2.2⟩) (Kernel32Ideal.Value.run_blocks m g),
    (θ_run Reference32Ideal.defs _ _).mono (fun r h c => ⟨(h c).1.trans ?_, (h c).2.1.trans ?_, (h c).2.2.1.trans ?_, (h c).2.2.2.1.trans ?_,
      (h c).2.2.2.2⟩) (Reference32Ideal.Value.run m' g')⟩ <;> simp only [(he c).1, (he c).2.1, (he c).2.2.1, (he c).2.2.2]
  · exact Adam.sum_parts _ _ _
  · exact Adam.deltas_eq _ (Adam.sum_parts _ _ _)
  · exact Adam.firsts_eq _ (Adam.sum_parts _ _ _)
  · exact Adam.seconds_eq _ (Adam.sum_parts _ _ _)

end Cert.Proof

namespace Cert.Kernel33Ideal.Step

open Cert.Kernel33Ideal Cert.Kernel33Ideal.Gen Idealize.ShloMosaic Idealize.ShloMosaic.TcCoe Idealize.SL.Sem

variable (m : (ℓ : Loc nD τ sig) → Buf (Elt Ideal) ℓ) (c : Dev nD)

/-- The arguments: the parts, the weight and its moments. -/
abbrev parts : Adam.Parts 8 1 344 128 := m ((c : Thread nD τ).loc main_arg0)
abbrev weight : Adam.Arr 1 344 128 := m ((c : Thread nD τ).loc main_arg1)
abbrev mom : Adam.Arr 1 344 128 := m ((c : Thread nD τ).loc main_arg2)
abbrev vel : Adam.Arr 1 344 128 := m ((c : Thread nD τ).loc main_arg3)

theorem found : V m c main_arg0 = parts m c ∧ V m c main_arg1 = weight m c ∧ V m c main_arg2 = mom m c ∧ V m c main_arg3 = vel m c := by
  exact ⟨rfl, rfl, rfl, rfl⟩

theorem visits : ∀ t : Fin cfg0.N, (win0_0.index t 0 = 0 ∧ win0_0.index t 1 = win0_4.index t 0 ∧ win0_0.index t 2 = win0_4.index t 1 ∧
    win0_0.index t 3 = win0_4.index t 2) ∧ (∀ a, win0_1.index t a = win0_4.index t a) ∧ (∀ a, win0_2.index t a = win0_4.index t a) ∧
    (∀ a, win0_3.index t a = win0_4.index t a) ∧ (∀ a, win0_5.index t a = win0_4.index t a) ∧ (∀ a, win0_6.index t a = win0_4.index t a) ∧
    ∀ a, win0_7.index t a = win0_4.index t a :=
  (by decide +kernel : ∀ t : Fin grid0.N, _)

theorem gradient : (dats m 0 c).arrAt 4 cfg0.N = Adam.grads (parts m c) := by
  refine (dats m 0 c).arrAt_eq_of_covers 4 _ (by decide +kernel) fun t hf y => ?_
  blk_simp; rw [after0_4]; unfold_out out0_4; frame_out; simp only [k0_pay1, k0_pay2, k0_pay3, k0_pay4, k0_pay5, k0_pay6, k0_pay7, k0_pay8, pointwise]
  refine Adam.grads_eight ?_ ?_ ?_ ?_ ?_ ?_ ?_ ?_ <;>
    refine (congrFun (found m c).1 _).trans (congrArg _ (Adam.ix4_congr ?_ ?_ ?_ ?_)) <;> blk_simp <;> simp [visits t]

theorem change : (dats m 0 c).arrAt 5 cfg0.N = Adam.deltas (parts m c) (weight m c) (mom m c) (vel m c) := by
  refine (dats m 0 c).arrAt_eq_of_covers 5 _ (by decide +kernel) fun t hf y => ?_
  blk_simp; rw [after0_5]; unfold_out out0_5; frame_out; simp only [k0_pay1, k0_pay2, k0_pay3, k0_pay4, k0_pay5, k0_pay6, k0_pay7, k0_pay8, pointwise]
  refine Adam.delta_congr (Adam.grads_eight ?_ ?_ ?_ ?_ ?_ ?_ ?_ ?_) ((congrFun (found m c).2.1 _).trans (congrArg _ (Adam.ix3_congr ?_ ?_ ?_)))
    ((congrFun (found m c).2.2.1 _).trans (congrArg _ (Adam.ix3_congr ?_ ?_ ?_)))
    ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem momentum : (dats m 0 c).arrAt 6 cfg0.N = Adam.firsts (parts m c) (mom m c) := by
  refine (dats m 0 c).arrAt_eq_of_covers 6 _ (by decide +kernel) fun t hf y => ?_
  blk_simp; rw [after0_6]; unfold_out out0_6; frame_out; simp only [k0_pay1, k0_pay2, k0_pay3, k0_pay4, k0_pay5, k0_pay6, k0_pay7, k0_pay8, pointwise]
  refine Adam.first_congr (Adam.grads_eight ?_ ?_ ?_ ?_ ?_ ?_ ?_ ?_) ((congrFun (found m c).2.2.1 _).trans (congrArg _ (Adam.ix3_congr ?_ ?_ ?_)))
  all_goals first | refine (congrFun (found m c).1 _).trans (congrArg _ (Adam.ix4_congr ?_ ?_ ?_ ?_)) | skip
  all_goals blk_simp <;> simp [visits t]

theorem velocity : (dats m 0 c).arrAt 7 cfg0.N = Adam.seconds (parts m c) (vel m c) := by
  refine (dats m 0 c).arrAt_eq_of_covers 7 _ (by decide +kernel) fun t hf y => ?_
  blk_simp; rw [after0_7]; unfold_out out0_7; frame_out; simp only [k0_pay1, k0_pay2, k0_pay3, k0_pay4, k0_pay5, k0_pay6, k0_pay7, k0_pay8, pointwise]
  refine Adam.second_congr (Adam.grads_eight ?_ ?_ ?_ ?_ ?_ ?_ ?_ ?_) ((congrFun (found m c).2.2.2 _).trans (congrArg _ (Adam.ix3_congr ?_ ?_ ?_)))
  all_goals first | refine (congrFun (found m c).1 _).trans (congrArg _ (Adam.ix4_congr ?_ ?_ ?_ ?_)) | skip
  all_goals blk_simp <;> simp [visits t]

end Cert.Kernel33Ideal.Step

namespace Cert.Proof

open Cert Idealize.ShloMosaic Idealize.ShloMosaic.TcCoe Idealize.SL.Sem

theorem frame_Reference33Ideal : Cert.quiescent_Reference33Ideal := fun m g _ =>
  (θ_run Reference33Ideal.defs _ _).mono (fun r h => ⟨fun c => (h c).2.2.2.2, sem_eq_zero_of_no_sems (by decide) r.2⟩) (Reference33Ideal.Value.run m g)

theorem algebraic33 : Cert.algebraic_Kernel33Ideal_Reference33Ideal := by
  intro m g m' g' _ he
  refine ⟨_, _, _, _, (θ_run Kernel33Ideal.defs _ _).mono (fun r h c => ⟨(h c).1.trans (Kernel33Ideal.Step.gradient m c),
      (h c).2.1.trans (Kernel33Ideal.Step.change m c), (h c).2.2.1.trans (Kernel33Ideal.Step.momentum m c),
      (h c).2.2.2.1.trans (Kernel33Ideal.Step.velocity m c), (h c).2.2.2.2⟩) (Kernel33Ideal.Value.run_blocks m g),
    (θ_run Reference33Ideal.defs _ _).mono (fun r h c => ⟨(h c).1.trans ?_, (h c).2.1.trans ?_, (h c).2.2.1.trans ?_, (h c).2.2.2.1.trans ?_,
      (h c).2.2.2.2⟩) (Reference33Ideal.Value.run m' g')⟩ <;> simp only [(he c).1, (he c).2.1, (he c).2.2.1, (he c).2.2.2]
  · exact Adam.sum_parts _ _ _
  · exact Adam.deltas_eq _ (Adam.sum_parts _ _ _)
  · exact Adam.firsts_eq _ (Adam.sum_parts _ _ _)
  · exact Adam.seconds_eq _ (Adam.sum_parts _ _ _)

end Cert.Proof
-- ==== Proof.Norm.lean ====
module

public import proofs.«01_k».proof.Proof.Tiles

/-! # The gradient of a row scaled to mean square one

    A row `x` of 2048 entries is divided by the root of its mean square plus an offset. Two forms of the gradient at a cotangent `d` are
    equal for all extended reals: where an entry of the row is infinite both are zero, and where none is, the root and its
    inverse are positive reals, by which a product distributes over every sum. -/

@[expose] public section
noncomputable section

namespace Norm

open Idealize.ShloMosaic

abbrev Row := Fin 2048 → EReal

/-- The number 2048, the offset, one half and its negative, one and two, as float32 numbers. -/
abbrev width : EReal := Ideal.ofBits .f32 0x45000000#32
abbrev offset : EReal := Ideal.ofBits .f32 0x358637BD#32
abbrev half : EReal := Ideal.ofBits .f32 0x3F000000#32
abbrev minus : EReal := Ideal.ofBits .f32 0xBF000000#32
abbrev one : EReal := Ideal.ofBits .f32 0x3F800000#32
abbrev two : EReal := Ideal.ofBits .f32 0x40000000#32

theorem width_eq : width = ((2048 : ℝ) : EReal) := by
  simp [Ideal.ofBits, Ideal.ieee, -EReal.coe_mul]; norm_num

theorem half_eq : half = ((1 / 2 : ℝ) : EReal) := by
  simp [Ideal.ofBits, Ideal.ieee, -EReal.coe_mul]; norm_num

theorem minus_eq : minus = ((-(1 / 2) : ℝ) : EReal) := by
  simp [Ideal.ofBits, Ideal.ieee, -EReal.coe_mul]; norm_num

theorem one_eq : one = ((1 : ℝ) : EReal) := by
  simp [Ideal.ofBits, Ideal.ieee, -EReal.coe_mul]

theorem two_eq : two = ((2 : ℝ) : EReal) := by
  simp [Ideal.ofBits, Ideal.ieee, -EReal.coe_mul]; norm_num

theorem offset_pos : ∃ e : ℝ, 0 < e ∧ offset = (e : EReal) := by
  refine ⟨_, ?_, (by simp [Ideal.ofBits, Ideal.ieee, -EReal.coe_mul]; rfl)⟩
  norm_num

/-- The mean square of a row, with the offset, and the inverse of its root. -/
def square (x : Row) : EReal := Ideal.div (∑ k, x k * x k) width + offset
def inv (x : Row) : EReal := Ideal.rsqrt (square x)

/-- The row scaled, and the gradient at a cotangent of the scaled row. -/
def unit (x : Row) (j : Fin 2048) : EReal := x j * inv x
def back (x d : Row) (j : Fin 2048) : EReal := inv x * (d j - unit x j * Ideal.div (∑ k, d k * unit x k) width)

/-- The share of the gradient that comes by the root, to be counted with each factor of the square. -/
def byRoot (x d : Row) : EReal := Ideal.div ((∑ k, x k * d k) * (minus * Ideal.div (inv x) (square x))) width

theorem div_coe (x : EReal) {r : ℝ} (h : r ≠ 0) : Ideal.div x r = x * ((r⁻¹ : ℝ) : EReal) := by
  rw [Ideal.div, if_neg (by exact_mod_cast h), EReal.coe_inv]

theorem div_width (x : EReal) : Ideal.div x width = x * (((2048 : ℝ)⁻¹ : ℝ) : EReal) := by
  rw [width_eq]; exact div_coe x (by norm_num)

theorem coe_mul_add {r : ℝ} (h : 0 ≤ r) (x y : EReal) : (r : EReal) * (x + y) = r * x + r * y :=
  EReal.left_distrib_of_nonneg_of_ne_top (by exact_mod_cast h) (EReal.coe_ne_top r) x y

theorem coe_mul_sum {ι : Type*} (s : Finset ι) (f : ι → EReal) {r : ℝ} (h : 0 ≤ r) : (r : EReal) * ∑ i ∈ s, f i = ∑ i ∈ s, r * f i := by
  classical
  induction s using Finset.induction_on with
  | empty => simp
  | insert a s ha ih => rw [Finset.sum_insert ha, Finset.sum_insert ha, coe_mul_add h, ih]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem twice (b : ℝ) (x : EReal) : ((2 * b : ℝ) : EReal) * x = b * x + b * x := by
  induction x with
  | bot =>
    rcases lt_trichotomy b 0 with h | h | h
    · rw [EReal.coe_mul_bot_of_neg h, EReal.coe_mul_bot_of_neg (by linarith)]; rfl
    · subst h; simp
    · rw [EReal.coe_mul_bot_of_pos h, EReal.coe_mul_bot_of_pos (by linarith)]; rfl
  | coe x => norm_cast; ring
  | top =>
    rcases lt_trichotomy b 0 with h | h | h
    · rw [EReal.coe_mul_top_of_neg h, EReal.coe_mul_top_of_neg (by linarith)]; rfl
    · subst h; simp
    · rw [EReal.coe_mul_top_of_pos h, EReal.coe_mul_top_of_pos (by linarith)]; rfl

theorem sq_nonneg' (x : EReal) : 0 ≤ x * x := by
  rcases le_total 0 x with h | h
  · exact EReal.mul_nonneg h h
  · have := EReal.mul_nonneg (EReal.neg_nonneg.mpr h) (EReal.neg_nonneg.mpr h)
    rwa [neg_mul_neg] at this

/-- A row either has an infinite mean square, and the inverse of its root is zero, or is a row of reals with a positive real root. -/
theorem cases (x : Row) : (square x = ⊤ ∧ inv x = 0) ∨
    ∃ (ξ : Fin 2048 → ℝ) (ρ : ℝ), 0 < ρ ∧ (∀ k, x k = ξ k) ∧ inv x = ρ ∧ Ideal.div (inv x) (square x) = ((ρ * ρ * ρ : ℝ) : EReal) := by
  obtain ⟨e, he, hoff⟩ := offset_pos
  have hs : 0 ≤ ∑ k, x k * x k := Finset.sum_nonneg fun k _ => sq_nonneg' _
  by_cases ht : ∑ k, x k * x k = ⊤
  · have : square x = ⊤ := by
      rw [square, ht, div_width, EReal.top_mul_coe_of_pos (by norm_num), hoff]; rfl
    exact Or.inl ⟨this, by rw [inv, this]; rfl⟩
  · have real : ∀ k, ∃ r : ℝ, x k = r := fun k => by
      have hk : x k * x k ≠ ⊤ := fun h => ht (top_le_iff.mp (h ▸ Finset.single_le_sum (f := fun k => x k * x k) (fun k _ => sq_nonneg' _) (Finset.mem_univ k)))
      induction hx : x k with
      | bot => exact absurd (by rw [hx]; rfl) hk
      | coe r => exact ⟨r, rfl⟩
      | top => exact absurd (by rw [hx]; rfl) hk
    choose ξ hξ using real
    have hsum : ∑ k, x k * x k = ((∑ k, ξ k * ξ k : ℝ) : EReal) := by
      rw [coe_sum]; exact Finset.sum_congr rfl fun k _ => by rw [hξ, EReal.coe_mul]
    have ha : 0 < (∑ k, ξ k * ξ k) * (2048 : ℝ)⁻¹ + e := by
      have : 0 ≤ ∑ k, ξ k * ξ k := Finset.sum_nonneg fun k _ => mul_self_nonneg _
      positivity
    have hsq : square x = (((∑ k, ξ k * ξ k) * (2048 : ℝ)⁻¹ + e : ℝ) : EReal) := by
      rw [square, hsum, div_width, hoff, EReal.coe_add, EReal.coe_mul]
    generalize (∑ k, ξ k * ξ k) * (2048 : ℝ)⁻¹ + e = a at ha hsq
    have hinv : inv x = ((Real.sqrt a)⁻¹ : ℝ) := by
      rw [inv, hsq, Ideal.rsqrt_coe, if_neg (not_lt.mpr ha.le), if_neg ha.ne']
    refine Or.inr ⟨ξ, (Real.sqrt a)⁻¹, inv_pos.mpr (Real.sqrt_pos.mpr ha), hξ, hinv, ?_⟩
    rw [hinv, hsq, div_coe _ ha.ne', ← EReal.coe_mul]
    congr 1
    have : a⁻¹ = (Real.sqrt a)⁻¹ * (Real.sqrt a)⁻¹ := by rw [← mul_inv, Real.mul_self_sqrt ha.le]
    rw [this, mul_assoc]

/-- The two forms of the gradient. -/
theorem back_eq (x d : Row) (j : Fin 2048) : back x d j = d j * inv x + x j * byRoot x d + byRoot x d * x j := by
  rcases cases x with ⟨hs, hi⟩ | ⟨ξ, ρ, hρ, hx, hi, hd⟩
  · have hb : byRoot x d = 0 := by
      rw [byRoot, hi, hs, div_width]
      have : Ideal.div 0 ⊤ = 0 := by rw [Ideal.div, if_neg (by simp), zero_mul]
      rw [this, mul_zero, mul_zero, zero_mul]
    rw [back, hb, hi]; simp
  · have hS : ∑ k, d k * unit x k = ρ * ∑ k, x k * d k := by
      rw [coe_mul_sum _ _ hρ.le]
      exact Finset.sum_congr rfl fun k _ => by rw [unit, hi]; ac_rfl
    rw [back, byRoot, hS, hd, minus_eq, div_width, div_width, unit, hi]
    generalize ∑ k, x k * d k = S
    rw [hx j, sub_eq_add_neg, coe_mul_add hρ.le, mul_comm (ρ : EReal) (d j), add_assoc]
    congr 1
    have hl : (ρ : EReal) * -((ξ j : EReal) * ρ * (ρ * S * (((2048 : ℝ)⁻¹ : ℝ) : EReal))) =
        ((2 * (ξ j * (-(1 / 2) * (ρ * ρ * ρ)) * (2048 : ℝ)⁻¹) : ℝ) : EReal) * S := by
      have : (2 * (ξ j * (-(1 / 2) * (ρ * ρ * ρ)) * (2048 : ℝ)⁻¹) : ℝ) = ρ * -(ξ j * ρ * ρ * (2048 : ℝ)⁻¹) := by ring
      rw [this, mul_neg, mul_neg]
      simp only [EReal.coe_mul, EReal.coe_neg, neg_mul]
      congr 1
      ac_rfl
    rw [hl, twice]
    congr 1 <;> simp only [EReal.coe_mul] <;> ac_rfl

/-- The cotangent of a difference that a mean of halved squares hands back. -/
theorem mean_back (e : EReal) : Ideal.div (half * one) width * (two * e) = Ideal.div e width := by
  rw [half_eq, one_eq, two_eq, div_width, div_width, ← EReal.coe_mul, ← EReal.coe_mul, ← mul_assoc, ← EReal.coe_mul, mul_comm]
  congr 2
  norm_num

/-- Halving every term of a sum halves the sum. -/
theorem half_sum {n : ℕ} (f : Fin n → EReal) : ∑ k, half * f k = half * ∑ k, f k := by
  rw [half_eq]; exact (coe_mul_sum _ _ (by norm_num)).symm

theorem idx_ext {a b : ℕ} {i j : (⟨2, ![a, b]⟩ : Shape).Idx} (h0 : (i 0).val = (j 0).val) (h1 : (i 1).val = (j 1).val) : i = j := by
  funext d
  match d with
  | ⟨0, _⟩ => exact Fin.ext h0
  | ⟨1, _⟩ => exact Fin.ext h1

theorem back_congr {x x' d d' : Row} {j j' : Fin 2048} (hx : ∀ k, x k = x' k) (hd : ∀ k, d k = d' k) (hj : j = j') : back x d j = back x' d' j' := by
  rw [funext hx, funext hd, hj]

theorem unit_congr {x x' : Row} {j j' : Fin 2048} (hx : ∀ k, x k = x' k) (hj : j = j') : unit x j = unit x' j' := by
  rw [funext hx, hj]

/-- The gradient of every row, where the scaled rows are multiplied by `g` and `dy` is the cotangent of that. -/
def rows (x dy : (⟨2, ![8192, 2048]⟩ : Shape).Idx → EReal) (g : (⟨2, ![1, 2048]⟩ : Shape).Idx → EReal) : (⟨2, ![8192, 2048]⟩ : Shape).Idx → EReal :=
  fun i => back (fun k => x (ix2 (i 0) k)) (fun k => dy (ix2 (i 0) k) * g (ix2 0 k)) (i 1)

/-- The gradient of `g`. -/
def scale (x dy : (⟨2, ![8192, 2048]⟩ : Shape).Idx → EReal) : (⟨2, ![1, 2048]⟩ : Shape).Idx → EReal :=
  fun i => Tiles.dot (fun r => dy (ix2 r (i 1))) (fun r => unit (fun k => x (ix2 r k)) (i 1))

/-- The scaled row times `g`, less the target; the cotangent of that by the mean of its halved square; the mean itself. -/
def err (h g t : Row) (j : Fin 2048) : EReal := unit h j * g j - t j
def errBack (h g t : Row) (j : Fin 2048) : EReal := Ideal.div (err h g t j) width
def mean (h g t : Row) : EReal := Ideal.div (∑ k, err h g t k * err h g t k) width

theorem err_congr {h h' g g' t t' : Row} {j j' : Fin 2048} (hh : ∀ k, h k = h' k) (hg : ∀ k, g k = g' k) (ht : ∀ k, t k = t' k) (hj : j = j') :
    err h g t j = err h' g' t' j' := by
  rw [funext hh, funext hg, funext ht, hj]

theorem errBack_congr {h h' g g' t t' : Row} {j j' : Fin 2048} (hh : ∀ k, h k = h' k) (hg : ∀ k, g k = g' k) (ht : ∀ k, t k = t' k) (hj : j = j') :
    errBack h g t j = errBack h' g' t' j' := by
  rw [funext hh, funext hg, funext ht, hj]

theorem mean_congr {h h' g g' t t' : Row} (hh : ∀ k, h k = h' k) (hg : ∀ k, g k = g' k) (ht : ∀ k, t k = t' k) : mean h g t = mean h' g' t' := by
  rw [funext hh, funext hg, funext ht]

/-- Row `r` of an array, and of the sum of two. -/
abbrev row {n : ℕ} (x : (⟨2, ![n, 2048]⟩ : Shape).Idx → EReal) (r : Fin n) : Row := fun k => x (ix2 r k)
abbrev both {n : ℕ} (x f : (⟨2, ![n, 2048]⟩ : Shape).Idx → EReal) (r : Fin n) : Row := fun k => x (ix2 r k) + f (ix2 r k)

/-- The loss and its gradients, for rows that are the sum of `x` and `f`. -/
def loss (x f : (⟨2, ![8192, 2048]⟩ : Shape).Idx → EReal) (g : (⟨2, ![1, 2048]⟩ : Shape).Idx → EReal) (t : (⟨2, ![8192, 2048]⟩ : Shape).Idx → EReal) : EReal :=
  Tiles.dot (fun _ => half) (fun r => mean (both x f r) (row g 0) (row t r))

def lossRows (x f : (⟨2, ![8192, 2048]⟩ : Shape).Idx → EReal) (g : (⟨2, ![1, 2048]⟩ : Shape).Idx → EReal) (t : (⟨2, ![8192, 2048]⟩ : Shape).Idx → EReal) :
    (⟨2, ![8192, 2048]⟩ : Shape).Idx → EReal :=
  fun i => back (both x f (i 0)) (fun k => errBack (both x f (i 0)) (row g 0) (row t (i 0)) k * g (ix2 0 k)) (i 1)

def lossScale (x f : (⟨2, ![8192, 2048]⟩ : Shape).Idx → EReal) (g : (⟨2, ![1, 2048]⟩ : Shape).Idx → EReal) (t : (⟨2, ![8192, 2048]⟩ : Shape).Idx → EReal) :
    (⟨2, ![1, 2048]⟩ : Shape).Idx → EReal :=
  fun i => Tiles.dot (fun r => errBack (both x f r) (row g 0) (row t r) (i 1)) (fun r => unit (both x f r) (i 1))

end Norm
-- ==== Proof.Rms.lean ====
module

public import proofs.«01_k».proof.Defs
public import proofs.«01_k».proof.Proof.Norm
public import proofs.«01_k».proof.Proof.Gen.Kernel34.Frame
public import proofs.«01_k».proof.Proof.Gen.Kernel34Ideal.Value
public import proofs.«01_k».proof.Proof.Gen.Reference34Ideal.Read
public import Idealize.ShloMosaic.Lib.Quiescent

/-! # The gradient of the root-mean-square norm

    A call takes the cotangent of a block of rows back through the norm and adds the residual's; the gradient of the scale sums over
    the blocks. -/

@[expose] public section
noncomputable section

set_option maxRecDepth 16384

namespace Cert.Kernel34Ideal.Prod

open Idealize.ShloMosaic Idealize.ShloMosaic.TcCoe Idealize.SL.Sem Gen

variable (m : (ℓ : Loc nD τ sig) → Buf (Elt Ideal) ℓ) (c : Dev nD)

theorem visits : ∀ t : Fin cfg0.N, (win0_0.index t 0 = t.val % 16 ∧ win0_0.index t 1 = 0) ∧ (win0_1.index t 0 = t.val % 16 ∧ win0_1.index t 1 = 0) ∧
    (win0_2.index t 0 = t.val % 16 ∧ win0_2.index t 1 = 0) ∧ (win0_3.index t 0 = 0 ∧ win0_3.index t 1 = 0) ∧
    (win0_4.index t 0 = t.val % 16 ∧ win0_4.index t 1 = 0) ∧ win0_5.index t 0 = 0 ∧ win0_5.index t 1 = 0 :=
  (by decide +kernel : ∀ t : Fin grid0.N, _)

theorem point (t : Fin cfg0.N) (y : S512x2048.Idx) : (outsAt0 m c t.val t.isLt).1 y =
    Norm.back (fun k => iblk m c 0 t (ix2 (y 0) k)) (fun k => (show EReal from iblk m c 1 t (ix2 (y 0) k)) * iblk m c 3 t (ix2 0 k)) (y 1) + (show EReal from iblk m c 2 t y) := by
  obtain ⟨a, b, rfl⟩ : ∃ a b, y = ix2 a b := ⟨y 0, y 1, Tiles.ix2_congr rfl rfl⟩
  by_cases h : t.val % 16 = 0 <;> [rw [outsAt0_A m c t h]; rw [outsAt0_B m c t h]] <;> frame_out <;>
    simp only [k0_pay1, k0_pay5, k0_pay4, k0_pay3, pointwise] <;> rfl

theorem first (t : Fin cfg0.N) (h : t.val % 16 = 0) (y : S1x2048.Idx) : (outsAt0 m c t.val t.isLt).2 y =
    Tiles.dot (fun k : Fin 512 => iblk m c 1 t (ix2 k (y 1))) (fun k => Norm.unit (fun l => iblk m c 0 t (ix2 k l)) (y 1)) := by
  rw [outsAt0_A m c t h]; frame_out
  simp only [k0_pay6, k0_pay4, k0_pay3, k0_pay2, pointwise]
  exact zero_add _

theorem next (t : Fin cfg0.N) (h : ¬ t.val % 16 = 0) (y : S1x2048.Idx) : (outsAt0 m c t.val t.isLt).2 y =
    (show EReal from (outsAt0 m c (t.val - 1) (Nat.lt_of_le_of_lt (Nat.sub_le _ _) t.isLt)).2 y) +
    Tiles.dot (fun k : Fin 512 => iblk m c 1 t (ix2 k (y 1))) (fun k => Norm.unit (fun l => iblk m c 0 t (ix2 k l)) (y 1)) := by
  rw [outsAt0_B m c t h]; frame_out
  simp only [k0_pay6, k0_pay4, k0_pay3, pointwise]
  rfl

theorem rowsAt : (dats m 0 c).arrAt 4 cfg0.N = fun i => (show EReal from m ((c : Thread nD τ).loc main_arg3) i) +
    Norm.rows (m ((c : Thread nD τ).loc main_arg0)) (m ((c : Thread nD τ).loc main_arg2)) (m ((c : Thread nD τ).loc main_arg1)) i := by
  refine (dats m 0 c).arrAt_eq_of_covers 4 _ (by decide +kernel) fun t hf y => ?_
  have e := visits t
  blk_simp
  rw [after0_4, point, add_comm]
  refine congrArg₂ _ (congrArg (m ((c : Thread nD τ).loc main_arg3)) (Norm.idx_ext ?_ ?_))
    (Norm.back_congr (fun k => congrArg (m ((c : Thread nD τ).loc main_arg0)) (Tiles.ix2_congr ?_ ?_))
      (fun k => congrArg₂ _ (congrArg (m ((c : Thread nD τ).loc main_arg2)) (Tiles.ix2_congr ?_ ?_))
        (congrArg (m ((c : Thread nD τ).loc main_arg1)) (Tiles.ix2_congr ?_ ?_))) (Fin.ext ?_)) <;> blk_simp <;> omega

theorem scaleAt : (dats m 0 c).arrAt 5 cfg0.N = Norm.scale (m ((c : Thread nD τ).loc main_arg0)) (m ((c : Thread nD τ).loc main_arg2)) := by
  refine (dats m 0 c).arrAt_eq_of_covers 5 _ (by decide +kernel) fun t hf y => ?_
  have ht : t.val % 16 = 15 := (flush0_5 t).mp hf
  have e := visits t
  blk_simp
  rw [after0_5]
  refine Tiles.dot_of_run (nk := 16) (tk := 512) (fun n h => (outsAt0 m c n h).2) _ _ (first m c) (next m c) t ht y _ _ rfl
    (fun p s k l hl hp => congrArg (m ((c : Thread nD τ).loc main_arg2)) (Tiles.ix2_congr ?_ ?_))
    (fun p s k l hl hp => Norm.unit_congr (fun n => congrArg (m ((c : Thread nD τ).loc main_arg0)) (Tiles.ix2_congr ?_ ?_)) (Fin.ext ?_)) <;>
    have d := visits p <;> blk_simp <;> omega

end Cert.Kernel34Ideal.Prod

/-! ## The reference -/

namespace Cert.Reference34Ideal.Prod

open Idealize.ShloMosaic Idealize.ShloMosaic.TcCoe Idealize.SL.Sem Reference34Ideal.Read

variable (x dy dres : (⟨S8192x2048, .f32⟩ : BufTy).Contents (Elt Ideal)) (g : (⟨S1x2048, .f32⟩ : BufTy).Contents (Elt Ideal))

theorem zero : (FloatOps.ofBits .f32 0x00000000#32 : Ideal .f32) = (0 : EReal) := by
  show Ideal.ofBits .f32 0x00000000#32 = 0
  simp [Ideal.ofBits, Ideal.ieee]

theorem square (i : S8192x1.Idx) : val_main_v6 (F := Ideal) x i = Norm.square (fun k => x (ix2 (i 0) k)) := by
  simp only [val_main_v6_apply, val_main_v5_apply, val_main_v4_apply, val_main_v3_apply, val_main_v2_apply, val_main_v1_apply, val_main_v0_apply,
    val_main_cst_apply, val_main_cst_0_apply, val_main_cst_1_apply]
  refine congrArg (Ideal.div · _ + _) ((congrArg (· + _) zero).trans ((zero_add _).trans (Finset.sum_congr rfl fun k _ => ?_)))
  have : idx_main_v1 (idx_main_v2 i) k = ix2 (i 0) k := Tiles.ix2_congr rfl rfl
  rw [this]; rfl

theorem inv (i : S8192x1.Idx) : val_main_v7 (F := Ideal) x i = Norm.inv (fun k => x (ix2 (i 0) k)) := by
  rw [val_main_v7_apply, square]; rfl

theorem unit (i : S8192x2048.Idx) : val_main_v12 (F := Ideal) x i = Norm.unit (fun k => x (ix2 (i 0) k)) (i 1) := by
  rw [val_main_v12_apply, val_main_v11_apply, inv]
  exact congrArg (fun j => (show EReal from x j) * _) (Tiles.ix2_congr rfl rfl)

theorem cotangent (i : S8192x2048.Idx) : val_main_v19 (F := Ideal) g dy i = (show EReal from dy i) * g (ix2 0 (i 1)) := by
  rw [val_main_v19_apply, val_main_v18_apply]
  exact congrArg (fun j => (show EReal from dy i) * g j) (Tiles.ix2_congr rfl rfl)

theorem byRoot (i : S8192x2048.Idx) : val_main_v29 (F := Ideal) x g dy i =
    Norm.byRoot (fun k => x (ix2 (i 0) k)) (fun k => (show EReal from dy (ix2 (i 0) k)) * g (ix2 0 k)) := by
  rw [val_main_v29_apply, val_main_v28_apply, Fin.sum_univ_one, val_main_cst_6_apply, zero]
  refine (zero_add _).trans ?_
  rw [val_main_v27_apply, val_main_v26_apply, val_main_v25_apply, val_main_v22_apply, val_main_v21_apply, val_main_v10_apply, val_main_v8_apply, inv, square,
    val_main_v9_apply]
  refine congrArg (fun e : EReal => Ideal.div (e * _) _) ((congrArg (· + _) zero).trans ((zero_add _).trans (Finset.sum_congr rfl fun k _ => ?_)))
  rw [val_main_v20_apply, cotangent]
  have : idx_main_v21 (idx_main_v22 (idx_main_v28 (idx_main_v29 i) 0)) k = ix2 (i 0) k := Tiles.ix2_congr (by simp) rfl
  rw [this]; rfl

theorem rows (i : S8192x2048.Idx) : val_main_v34 (F := Ideal) x g dy dres i = (show EReal from dres i) + Norm.rows x dy g i := by
  rw [val_main_v34_apply, val_main_v33_apply, val_main_v32_apply, val_main_v31_apply, val_main_v30_apply, val_main_v24_apply, val_main_v23_apply, inv, cotangent, byRoot]
  obtain ⟨a, b, rfl⟩ : ∃ a b, i = ix2 a b := ⟨i 0, i 1, Tiles.ix2_congr rfl rfl⟩
  exact congrArg _ (Norm.back_eq (fun k => x (ix2 a k)) (fun k => (show EReal from dy (ix2 a k)) * g (ix2 0 k)) b).symm

theorem scale (i : S1x2048.Idx) : val_main_v17 (F := Ideal) x dy i = Norm.scale x dy i := by
  rw [val_main_v17_apply, val_main_v16_apply, Norm.scale, Tiles.dot]
  refine (congrArg (· + _) zero).trans ((zero_add _).trans (Finset.sum_congr rfl fun k _ => ?_))
  rw [val_main_v15_apply, unit]
  refine (mul_comm _ _).trans ?_
  have : idx_main_v16 (idx_main_v17 i) k = ix2 k (i 1) := Tiles.ix2_congr rfl (by simp)
  rw [this]; rfl

end Cert.Reference34Ideal.Prod

/-! ## Beside the reference -/

namespace Cert.Proof

open Idealize.ShloMosaic Idealize.ShloMosaic.TcCoe Idealize.SL.Sem

theorem frame_Reference34Ideal : Cert.quiescent_Reference34Ideal := fun m g _ =>
  (θ_run Reference34Ideal.defs _ _).mono (fun r h => ⟨fun c => (h c).2.2, sem_eq_zero_of_no_sems (by decide) r.2⟩) (Reference34Ideal.Value.run m g)

theorem algebraic34 : Cert.algebraic_Kernel34Ideal_Reference34Ideal := by
  intro m g m' g' _ he
  refine ⟨_, _, (θ_run Kernel34Ideal.defs _ _).mono (fun r h c => ⟨(h c).1.trans (Kernel34Ideal.Prod.rowsAt m c), (h c).2.1.trans (Kernel34Ideal.Prod.scaleAt m c), (h c).2.2⟩)
      (Kernel34Ideal.Value.run_blocks m g),
    (θ_run Reference34Ideal.defs _ _).mono (fun r h c => ⟨(h c).1.trans ?_, (h c).2.1.trans ?_, (h c).2.2⟩) (Reference34Ideal.Value.run m' g')⟩
  · rw [Reference34Ideal.Read.val_main_v34_eq, (he c).1, (he c).2.1, (he c).2.2.1, (he c).2.2.2]
    exact funext (Reference34Ideal.Prod.rows _ _ _ _)
  · rw [Reference34Ideal.Read.val_main_v17_eq, (he c).1, (he c).2.2.1]
    exact funext (Reference34Ideal.Prod.scale _ _)

end Cert.Proof
-- ==== Proof.LossHead.lean ====
module

public import proofs.«01_k».proof.Defs
public import proofs.«01_k».proof.Proof.Norm
public import proofs.«01_k».proof.Proof.Gen.Kernel35.Frame
public import proofs.«01_k».proof.Proof.Gen.Kernel35Ideal.Value
public import proofs.«01_k».proof.Proof.Gen.Reference35Ideal.Read
public import Idealize.ShloMosaic.Lib.Quiescent

/-! # The loss and its gradients -/

@[expose] public section
noncomputable section

set_option maxRecDepth 16384

namespace Cert.Kernel35Ideal.Prod

open Idealize.ShloMosaic Idealize.ShloMosaic.TcCoe Idealize.SL.Sem Gen

variable (m : (ℓ : Loc nD τ sig) → Buf (Elt Ideal) ℓ) (c : Dev nD)

theorem visits : ∀ t : Fin cfg0.N, (win0_0.index t 0 = t.val % 16 ∧ win0_0.index t 1 = 0) ∧ (win0_1.index t 0 = t.val % 16 ∧ win0_1.index t 1 = 0) ∧
    (win0_2.index t 0 = t.val % 16 ∧ win0_2.index t 1 = 0) ∧ (win0_3.index t 0 = 0 ∧ win0_3.index t 1 = 0) ∧
    (win0_4.index t 0 = t.val % 16 ∧ win0_4.index t 1 = 0) ∧ (win0_5.index t 0 = 0 ∧ win0_5.index t 1 = 0) ∧ win0_6.index t 0 = 0 ∧ win0_6.index t 1 = 0 :=
  (by decide +kernel : ∀ t : Fin grid0.N, _)

/-! A row of the sum of the first two blocks, the block of the target's rows and the scale. -/
abbrev sumRow (t : Fin cfg0.N) (r : Fin 512) : Norm.Row := Norm.both (n := 512) (iblk m c 0 t) (iblk m c 1 t) r
abbrev wantRow (t : Fin cfg0.N) (r : Fin 512) : Norm.Row := Norm.row (n := 512) (iblk m c 2 t) r
abbrev scaleRow (t : Fin cfg0.N) : Norm.Row := Norm.row (n := 1) (iblk m c 3 t) 0

theorem point (t : Fin cfg0.N) (y : S512x2048.Idx) : (outsAt0 m c t.val t.isLt).1 y =
    Norm.back (sumRow m c t (y 0)) (fun k => Norm.errBack (sumRow m c t (y 0)) (scaleRow m c t) (wantRow m c t (y 0)) k * scaleRow m c t k) (y 1) := by
  obtain ⟨a, b, rfl⟩ : ∃ a b, y = ix2 a b := ⟨y 0, y 1, Tiles.ix2_congr rfl rfl⟩
  by_cases h : t.val % 16 = 0 <;> [rw [outsAt0_A m c t h]; rw [outsAt0_B m c t h]] <;> frame_out <;>
    simp only [k0_pay1, k0_pay3, k0_pay6, k0_pay7, k0_pay8, k0_pay9, pointwise] <;> rfl

theorem first_loss (t : Fin cfg0.N) (h : t.val % 16 = 0) (y : S8x128.Idx) : (outsAt0 m c t.val t.isLt).2.1 y =
    Tiles.dot (fun k : Fin 512 => Norm.half) (fun k => Norm.mean (sumRow m c t k) (scaleRow m c t) (wantRow m c t k)) := by
  rw [outsAt0_A m c t h]; frame_out
  simp only [k0_pay10, k0_pay9, k0_pay8, k0_pay7, k0_pay6, k0_pay4, pointwise]
  exact zero_add _

theorem next_loss (t : Fin cfg0.N) (h : ¬ t.val % 16 = 0) (y : S8x128.Idx) : (outsAt0 m c t.val t.isLt).2.1 y =
    (show EReal from (outsAt0 m c (t.val - 1) (Nat.lt_of_le_of_lt (Nat.sub_le _ _) t.isLt)).2.1 y) +
    Tiles.dot (fun k : Fin 512 => Norm.half) (fun k => Norm.mean (sumRow m c t k) (scaleRow m c t) (wantRow m c t k)) := by
  rw [outsAt0_B m c t h]; frame_out
  simp only [k0_pay10, k0_pay9, k0_pay8, k0_pay7, k0_pay6, pointwise]
  rfl

theorem first_scale (t : Fin cfg0.N) (h : t.val % 16 = 0) (y : S1x2048.Idx) : (outsAt0 m c t.val t.isLt).2.2 y =
    Tiles.dot (fun k : Fin 512 => Norm.errBack (sumRow m c t k) (scaleRow m c t) (wantRow m c t k) (y 1)) (fun k => Norm.unit (sumRow m c t k) (y 1)) := by
  rw [outsAt0_A m c t h]; frame_out
  simp only [k0_pay1, k0_pay2, k0_pay5, k0_pay9, k0_pay8, k0_pay7, k0_pay6, pointwise]
  exact zero_add _

theorem next_scale (t : Fin cfg0.N) (h : ¬ t.val % 16 = 0) (y : S1x2048.Idx) : (outsAt0 m c t.val t.isLt).2.2 y =
    (show EReal from (outsAt0 m c (t.val - 1) (Nat.lt_of_le_of_lt (Nat.sub_le _ _) t.isLt)).2.2 y) +
    Tiles.dot (fun k : Fin 512 => Norm.errBack (sumRow m c t k) (scaleRow m c t) (wantRow m c t k) (y 1)) (fun k => Norm.unit (sumRow m c t k) (y 1)) := by
  rw [outsAt0_B m c t h]; frame_out
  simp only [k0_pay1, k0_pay2, k0_pay9, k0_pay8, k0_pay7, k0_pay6, pointwise]
  rfl

variable {m c} in
theorem sumRow_eq (t : Fin cfg0.N) (r : Fin 512) (l : Fin 8192) (h : l.val = t.val % 16 * 512 + r.val) (k : Fin 2048) :
    sumRow m c t r k = Norm.both (n := 8192) (m ((c : Thread nD τ).loc main_arg0)) (m ((c : Thread nD τ).loc main_arg1)) l k := by
  have d := visits t
  refine congrArg₂ (fun a b : EReal => a + b) (congrArg (m ((c : Thread nD τ).loc main_arg0)) (Tiles.ix2_congr ?_ ?_))
    (congrArg (m ((c : Thread nD τ).loc main_arg1)) (Tiles.ix2_congr ?_ ?_)) <;> blk_simp <;> omega

variable {m c} in
theorem wantRow_eq (t : Fin cfg0.N) (r : Fin 512) (l : Fin 8192) (h : l.val = t.val % 16 * 512 + r.val) (k : Fin 2048) :
    wantRow m c t r k = Norm.row (n := 8192) (m ((c : Thread nD τ).loc main_arg3)) l k := by
  have d := visits t
  refine congrArg (m ((c : Thread nD τ).loc main_arg3)) (Tiles.ix2_congr ?_ ?_) <;> blk_simp <;> omega

variable {m c} in
theorem scaleRow_eq (t : Fin cfg0.N) (k : Fin 2048) : scaleRow m c t k = Norm.row (n := 1) (m ((c : Thread nD τ).loc main_arg2)) 0 k := by
  have d := visits t
  refine congrArg (m ((c : Thread nD τ).loc main_arg2)) (Tiles.ix2_congr ?_ ?_) <;> blk_simp <;> omega

theorem rowsAt : (dats m 0 c).arrAt 4 cfg0.N = Norm.lossRows (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  have e := visits t
  blk_simp
  rw [after0_4, point]
  refine Norm.back_congr (sumRow_eq t _ _ ?_) (fun k => congrArg₂ (fun a b : EReal => a * b)
    (Norm.errBack_congr (sumRow_eq t _ _ ?_) (scaleRow_eq t) (wantRow_eq t _ _ ?_) rfl) (scaleRow_eq t k)) (Fin.ext ?_) <;> blk_simp <;> omega

theorem lossAt : (dats m 0 c).arrAt 5 cfg0.N = fun _ => Norm.loss (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  have ht : t.val % 16 = 15 := (flush0_5 t).mp hf
  blk_simp
  rw [after0_5]
  refine Tiles.dot_of_run (nk := 16) (tk := 512) (fun n h => (outsAt0 m c n h).2.1) _ _ (first_loss m c) (next_loss m c) t ht y _ _ rfl
    (fun p s k l hl hp => rfl)
    (fun p s k l hl hp => Norm.mean_congr (sumRow_eq p _ _ ?_) (scaleRow_eq p) (wantRow_eq p _ _ ?_)) <;> omega

theorem scaleAt : (dats m 0 c).arrAt 6 cfg0.N = Norm.lossScale (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t hf y => ?_
  have ht : t.val % 16 = 15 := (flush0_6 t).mp hf
  have e := visits t
  blk_simp
  rw [after0_6]
  refine Tiles.dot_of_run (nk := 16) (tk := 512) (fun n h => (outsAt0 m c n h).2.2) _ _ (first_scale m c) (next_scale m c) t ht y _ _ rfl
    (fun p s k l hl hp => Norm.errBack_congr (sumRow_eq p _ _ ?_) (scaleRow_eq p) (wantRow_eq p _ _ ?_) (Fin.ext ?_))
    (fun p s k l hl hp => Norm.unit_congr (sumRow_eq p _ _ ?_) (Fin.ext ?_)) <;> try blk_simp
  all_goals omega

end Cert.Kernel35Ideal.Prod

/-! ## The reference -/

namespace Cert.Reference35Ideal.Prod

open Idealize.ShloMosaic Idealize.ShloMosaic.TcCoe Idealize.SL.Sem Reference35Ideal.Read

variable (x f t : (⟨S8192x2048, .f32⟩ : BufTy).Contents (Elt Ideal)) (g : (⟨S1x2048, .f32⟩ : BufTy).Contents (Elt Ideal))

theorem zero : (FloatOps.ofBits .f32 0x00000000#32 : Ideal .f32) = (0 : EReal) := by
  show Ideal.ofBits .f32 0x00000000#32 = 0
  simp [Ideal.ofBits, Ideal.ieee]

theorem square (i : S8192x1.Idx) : val_main_v7 (F := Ideal) x f i = Norm.square (Norm.both x f (i 0)) := by
  simp only [val_main_v7_apply, val_main_v6_apply, val_main_v5_apply, val_main_v4_apply, val_main_v3_apply, val_main_v2_apply, val_main_v1_apply, val_main_v0_apply,
    val_main_cst_apply, val_main_cst_0_apply, val_main_cst_1_apply]
  refine congrArg (Ideal.div · _ + _) ((congrArg (· + _) zero).trans ((zero_add _).trans (Finset.sum_congr rfl fun k _ => ?_)))
  have : idx_main_v2 (idx_main_v3 i) k = ix2 (i 0) k := Tiles.ix2_congr rfl rfl
  rw [this]; rfl

theorem inv (i : S8192x1.Idx) : val_main_v8 (F := Ideal) x f i = Norm.inv (Norm.both x f (i 0)) := by
  rw [val_main_v8_apply, square]; rfl

theorem unit (i : S8192x2048.Idx) : val_main_v13 (F := Ideal) x f i = Norm.unit (Norm.both x f (i 0)) (i 1) := by
  rw [val_main_v13_apply, val_main_v12_apply, inv, val_main_v0_apply]
  exact congrArg (fun j => ((show EReal from x j) + f j) * _) (Tiles.ix2_congr rfl rfl)

theorem err (i : S8192x2048.Idx) : val_main_v16 (F := Ideal) x f g t i = Norm.err (Norm.both x f (i 0)) (Norm.row g 0) (Norm.row t (i 0)) (i 1) := by
  rw [val_main_v16_apply, val_main_v15_apply, unit, val_main_v14_apply]
  have h : idx_main_v14 i = ix2 0 (i 1) := Tiles.ix2_congr rfl rfl
  have h' : i = ix2 (i 0) (i 1) := Tiles.ix2_congr rfl rfl
  rw [h, congrArg t h']; rfl

theorem errBack (i : S8192x2048.Idx) : val_main_v30 (F := Ideal) x f g t i = Norm.errBack (Norm.both x f (i 0)) (Norm.row g 0) (Norm.row t (i 0)) (i 1) := by
  rw [val_main_v30_apply, val_main_v19_apply, val_main_v29_apply, val_main_v28_apply, val_main_v26_apply, val_main_v27_apply, val_main_v25_apply, val_main_v18_apply, err]
  exact Norm.mean_back _

theorem cotangent (i : S8192x2048.Idx) : val_main_v35 (F := Ideal) x f g t i =
    Norm.errBack (Norm.both x f (i 0)) (Norm.row g 0) (Norm.row t (i 0)) (i 1) * g (ix2 0 (i 1)) := by
  rw [val_main_v35_apply, val_main_v34_apply, errBack]
  exact congrArg (fun j => _ * (show EReal from g j)) (Tiles.ix2_congr rfl rfl)

theorem byRoot (i : S8192x2048.Idx) : val_main_v45 (F := Ideal) x f g t i =
    Norm.byRoot (Norm.both x f (i 0)) (fun k => Norm.errBack (Norm.both x f (i 0)) (Norm.row g 0) (Norm.row t (i 0)) k * g (ix2 0 k)) := by
  rw [val_main_v45_apply, val_main_v44_apply, Fin.sum_univ_one, val_main_cst_14_apply, zero]
  refine (zero_add _).trans ?_
  rw [val_main_v43_apply, val_main_v42_apply, val_main_v41_apply, val_main_v38_apply, val_main_v37_apply, val_main_v11_apply, val_main_v9_apply, inv, square,
    val_main_v10_apply]
  refine congrArg (fun e : EReal => Ideal.div (e * _) _) ((congrArg (· + _) zero).trans ((zero_add _).trans (Finset.sum_congr rfl fun k _ => ?_)))
  rw [val_main_v36_apply, cotangent, val_main_v0_apply]
  have : idx_main_v37 (idx_main_v38 (idx_main_v44 (idx_main_v45 i) 0)) k = ix2 (i 0) k := Tiles.ix2_congr (by simp) rfl
  rw [this]; rfl

theorem rows (i : S8192x2048.Idx) : val_main_v49 (F := Ideal) x f g t i = Norm.lossRows x f g t i := by
  rw [val_main_v49_apply, val_main_v48_apply, val_main_v47_apply, val_main_v46_apply, val_main_v40_apply, val_main_v39_apply, inv, cotangent, byRoot, val_main_v0_apply]
  obtain ⟨a, b, rfl⟩ : ∃ a b, i = ix2 a b := ⟨i 0, i 1, Tiles.ix2_congr rfl rfl⟩
  exact (Norm.back_eq (Norm.both x f a) (fun k => Norm.errBack (Norm.both x f a) (Norm.row g 0) (Norm.row t a) k * g (ix2 0 k)) b).symm

theorem scale (i : S1x2048.Idx) : val_main_v33 (F := Ideal) x f g t i = Norm.lossScale x f g t i := by
  rw [val_main_v33_apply, val_main_v32_apply, Norm.lossScale, Tiles.dot]
  refine (congrArg (· + _) zero).trans ((zero_add _).trans (Finset.sum_congr rfl fun k _ => ?_))
  rw [val_main_v31_apply, unit, errBack]
  refine (mul_comm _ _).trans ?_
  have : idx_main_v32 (idx_main_v33 i) k = ix2 k (i 1) := Tiles.ix2_congr rfl (by simp)
  rw [this]; rfl

theorem mean (j : S8192.Idx) : val_main_v22 (F := Ideal) x f g t j = Norm.mean (Norm.both x f (j 0)) (Norm.row g 0) (Norm.row t (j 0)) := by
  rw [val_main_v22_apply, val_main_v21_apply, val_main_v20_apply]
  refine congrArg (Ideal.div · _) ((congrArg (· + _) zero).trans ((zero_add _).trans (Finset.sum_congr rfl fun k _ => ?_)))
  rw [val_main_v17_apply, err]
  rfl

/-- The places of a sequence are its numbers. -/
def places : Fin 8192 ≃ S8192.Idx where
  toFun k := fun d => match d with | ⟨0, _⟩ => k
  invFun j := j 0
  left_inv _ := rfl
  right_inv j := funext fun d => by match d with | ⟨0, _⟩ => rfl

theorem loss (i : S8x128.Idx) : val_main_v50 (F := Ideal) x f g t i = Norm.loss x f g t := by
  rw [val_main_v50_apply, val_main_v24_apply, val_main_v23_apply, Norm.loss, Tiles.dot, Norm.half_sum]
  have h : ∑ j : S8192.Idx, (show EReal from val_main_v22 (F := Ideal) x f g t j) = ∑ k, Norm.mean (Norm.both x f k) (Norm.row g 0) (Norm.row t k) :=
    (Fintype.sum_equiv places _ _ fun k => (mean x f t g (places k)).symm).symm
  exact congrArg (Norm.half * ·) ((congrArg (· + _) zero).trans ((zero_add _).trans h))

end Cert.Reference35Ideal.Prod

/-! ## Beside the reference -/

namespace Cert.Proof

open Idealize.ShloMosaic Idealize.ShloMosaic.TcCoe Idealize.SL.Sem

theorem frame_Reference35Ideal : Cert.quiescent_Reference35Ideal := fun m g _ =>
  (θ_run Reference35Ideal.defs _ _).mono (fun r h => ⟨fun c => (h c).2.2.2, sem_eq_zero_of_no_sems (by decide) r.2⟩) (Reference35Ideal.Value.run m g)

theorem algebraic35 : Cert.algebraic_Kernel35Ideal_Reference35Ideal := by
  intro m g m' g' _ he
  refine ⟨_, _, _, (θ_run Kernel35Ideal.defs _ _).mono (fun r h c => ⟨(h c).1.trans (Kernel35Ideal.Prod.rowsAt m c), (h c).2.1.trans (Kernel35Ideal.Prod.lossAt m c),
        (h c).2.2.1.trans (Kernel35Ideal.Prod.scaleAt m c), (h c).2.2.2⟩)
      (Kernel35Ideal.Value.run_blocks m g),
    (θ_run Reference35Ideal.defs _ _).mono (fun r h c => ⟨(h c).1.trans ?_, (h c).2.1.trans ?_, (h c).2.2.1.trans ?_, (h c).2.2.2⟩) (Reference35Ideal.Value.run m' g')⟩
  · rw [Reference35Ideal.Read.val_main_v49_eq, (he c).1, (he c).2.1, (he c).2.2.1, (he c).2.2.2]
    exact funext (Reference35Ideal.Prod.rows _ _ _ _)
  · rw [Reference35Ideal.Read.val_main_v50_eq, (he c).1, (he c).2.1, (he c).2.2.1, (he c).2.2.2]
    exact funext (Reference35Ideal.Prod.loss _ _ _ _)
  · rw [Reference35Ideal.Read.val_main_v33_eq, (he c).1, (he c).2.1, (he c).2.2.1, (he c).2.2.2]
    exact funext (Reference35Ideal.Prod.scale _ _ _ _)

end Cert.Proof
-- ==== Proof.NormForward.lean ====
module

public import proofs.«01_k».proof.Defs
public import proofs.«01_k».proof.Proof.Norm
public import proofs.«01_k».proof.Proof.Gen.Kernel36.Frame
public import proofs.«01_k».proof.Proof.Gen.Kernel36Ideal.Value
public import proofs.«01_k».proof.Proof.Gen.Reference36Ideal.Read
public import proofs.«01_k».proof.Proof.Gen.Kernel37.Frame
public import proofs.«01_k».proof.Proof.Gen.Kernel37Ideal.Value
public import proofs.«01_k».proof.Proof.Gen.Reference37Ideal.Read
public import Idealize.ShloMosaic.Lib.Quiescent

/-! # The root-mean-square norm

    A call scales each row of a block of rows to mean square one and multiplies it by the scale; the second call adds the
    residual first and returns the sum too. -/

@[expose] public section
noncomputable section

set_option maxRecDepth 16384

namespace Norm

open Idealize.ShloMosaic

/-- A scaled row's entry times the scale's, by the row's entries, the scale and the column. -/
theorem forward_congr {x y : Row} {g h : EReal} {j k : Fin 2048} (e : ∀ n, x n = y n) (f : g = h) (l : j = k) : unit x j * g = unit y k * h :=
  congrArg₂ _ (unit_congr e l) f

end Norm

namespace Cert.Kernel36Ideal.Prod

open Idealize.ShloMosaic Idealize.ShloMosaic.TcCoe Idealize.SL.Sem Gen

variable (m : (ℓ : Loc nD τ sig) → Buf (Elt Ideal) ℓ) (c : Dev nD)

theorem visits : ∀ t : Fin cfg0.N, (win0_0.index t 0 = t.val % 16 ∧ win0_0.index t 1 = 0) ∧ (win0_1.index t 0 = 0 ∧ win0_1.index t 1 = 0) ∧
    win0_2.index t 0 = t.val % 16 ∧ win0_2.index t 1 = 0 :=
  (by decide +kernel : ∀ t : Fin grid0.N, _)

theorem point (t : Fin cfg0.N) (y : S512x2048.Idx) : out0_2 (iblk m c 0 t) (iblk m c 1 t) y =
    Norm.unit (fun k => iblk m c 0 t (ix2 (y 0) k)) (y 1) * (show EReal from iblk m c 1 t (ix2 0 (y 1))) := by
  obtain ⟨a, b, rfl⟩ : ∃ a b, y = ix2 a b := ⟨y 0, y 1, Tiles.ix2_congr rfl rfl⟩
  unfold out0_2; frame_out
  simp only [k0_pay1, pointwise]
  rfl

theorem scaled : (dats m 0 c).arrAt 2 cfg0.N = fun i =>
    Norm.unit (fun k => m ((c : Thread nD τ).loc main_arg0) (ix2 (i 0) k)) (i 1) * (show EReal from m ((c : Thread nD τ).loc main_arg1) (ix2 0 (i 1))) := by
  refine (dats m 0 c).arrAt_eq_of_covers 2 _ (by decide +kernel) fun t hf y => ?_
  have e := visits t
  blk_simp
  rw [after0_2, point]
  refine Norm.forward_congr (fun k => congrArg (m ((c : Thread nD τ).loc main_arg0)) (Tiles.ix2_congr ?_ ?_))
    (congrArg (m ((c : Thread nD τ).loc main_arg1)) (Tiles.ix2_congr ?_ ?_)) (Fin.ext ?_) <;> blk_simp <;> omega

end Cert.Kernel36Ideal.Prod

namespace Cert.Kernel37Ideal.Prod

open Idealize.ShloMosaic Idealize.ShloMosaic.TcCoe Idealize.SL.Sem Gen

variable (m : (ℓ : Loc nD τ sig) → Buf (Elt Ideal) ℓ) (c : Dev nD)

theorem visits : ∀ t : Fin cfg0.N, (win0_0.index t 0 = t.val % 16 ∧ win0_0.index t 1 = 0) ∧ (win0_1.index t 0 = t.val % 16 ∧ win0_1.index t 1 = 0) ∧
    (win0_2.index t 0 = 0 ∧ win0_2.index t 1 = 0) ∧ (win0_3.index t 0 = t.val % 16 ∧ win0_3.index t 1 = 0) ∧
    win0_4.index t 0 = t.val % 16 ∧ win0_4.index t 1 = 0 :=
  (by decide +kernel : ∀ t : Fin grid0.N, _)

theorem sums : (dats m 0 c).arrAt 3 cfg0.N = fun i =>
    (show EReal from m ((c : Thread nD τ).loc main_arg0) i) + m ((c : Thread nD τ).loc main_arg1) i := by
  refine (dats m 0 c).arrAt_eq_of_covers 3 _ (by decide +kernel) fun t hf y => ?_
  have e := visits t
  blk_simp
  rw [after0_3]; unfold out0_3; frame_out
  simp only [k0_pay1, pointwise]
  refine congrArg₂ _ (congrArg (m ((c : Thread nD τ).loc main_arg0)) (Norm.idx_ext ?_ ?_))
    (congrArg (m ((c : Thread nD τ).loc main_arg1)) (Norm.idx_ext ?_ ?_)) <;> blk_simp <;> omega

theorem point (t : Fin cfg0.N) (y : S512x2048.Idx) : out0_4 (iblk m c 0 t) (iblk m c 1 t) (iblk m c 2 t) y =
    Norm.unit (fun k => (show EReal from iblk m c 0 t (ix2 (y 0) k)) + iblk m c 1 t (ix2 (y 0) k)) (y 1) * (show EReal from iblk m c 2 t (ix2 0 (y 1))) := by
  obtain ⟨a, b, rfl⟩ : ∃ a b, y = ix2 a b := ⟨y 0, y 1, Tiles.ix2_congr rfl rfl⟩
  unfold out0_4; frame_out
  simp only [k0_pay1, k0_pay2, pointwise]
  rfl

theorem scaled : (dats m 0 c).arrAt 4 cfg0.N = fun i =>
    Norm.unit (fun k => (show EReal from m ((c : Thread nD τ).loc main_arg0) (ix2 (i 0) k)) + m ((c : Thread nD τ).loc main_arg1) (ix2 (i 0) k)) (i 1) *
      (show EReal from m ((c : Thread nD τ).loc main_arg2) (ix2 0 (i 1))) := by
  refine (dats m 0 c).arrAt_eq_of_covers 4 _ (by decide +kernel) fun t hf y => ?_
  have e := visits t
  blk_simp
  rw [after0_4, point]
  refine Norm.forward_congr (fun k => congrArg₂ _ (congrArg (m ((c : Thread nD τ).loc main_arg0)) (Tiles.ix2_congr ?_ ?_))
    (congrArg (m ((c : Thread nD τ).loc main_arg1)) (Tiles.ix2_congr ?_ ?_)))
    (congrArg (m ((c : Thread nD τ).loc main_arg2)) (Tiles.ix2_congr ?_ ?_)) (Fin.ext ?_) <;> blk_simp <;> omega

end Cert.Kernel37Ideal.Prod

/-! ## The references -/

namespace Cert.Reference36Ideal.Prod

open Idealize.ShloMosaic Idealize.ShloMosaic.TcCoe Idealize.SL.Sem Reference36Ideal.Read

variable (x : (⟨S8192x2048, .f32⟩ : BufTy).Contents (Elt Ideal)) (g : (⟨S1x2048, .f32⟩ : BufTy).Contents (Elt Ideal))

theorem zero : (FloatOps.ofBits .f32 0x00000000#32 : Ideal .f32) = (0 : EReal) := by
  show Ideal.ofBits .f32 0x00000000#32 = 0
  simp [Ideal.ofBits, Ideal.ieee]

theorem square (i : S8192x1.Idx) : val_main_v6 (F := Ideal) x i = Norm.square (fun k => x (ix2 (i 0) k)) := by
  simp only [val_main_v6_apply, val_main_v5_apply, val_main_v4_apply, val_main_v3_apply, val_main_v2_apply, val_main_v1_apply, val_main_v0_apply,
    val_main_cst_apply, val_main_cst_0_apply, val_main_cst_1_apply]
  refine congrArg (Ideal.div · _ + _) ((congrArg (· + _) zero).trans ((zero_add _).trans (Finset.sum_congr rfl fun k _ => ?_)))
  have : idx_main_v1 (idx_main_v2 i) k = ix2 (i 0) k := Tiles.ix2_congr rfl rfl
  rw [this]; rfl

theorem scaled (i : S8192x2048.Idx) : val_main_v12 (F := Ideal) x g i = Norm.unit (fun k => x (ix2 (i 0) k)) (i 1) * (show EReal from g (ix2 0 (i 1))) := by
  rw [val_main_v12_apply, val_main_v11_apply, val_main_v10_apply, val_main_v9_apply, val_main_v8_apply, val_main_v7_apply, square]
  refine congrArg₂ (fun a b : EReal => a * b) (congrArg (fun j => (show EReal from x j) * _) (Tiles.ix2_congr rfl rfl)) (congrArg g (Tiles.ix2_congr rfl rfl))

end Cert.Reference36Ideal.Prod

namespace Cert.Reference37Ideal.Prod

open Idealize.ShloMosaic Idealize.ShloMosaic.TcCoe Idealize.SL.Sem Reference37Ideal.Read

variable (x y : (⟨S8192x2048, .f32⟩ : BufTy).Contents (Elt Ideal)) (g : (⟨S1x2048, .f32⟩ : BufTy).Contents (Elt Ideal))

theorem zero : (FloatOps.ofBits .f32 0x00000000#32 : Ideal .f32) = (0 : EReal) := by
  show Ideal.ofBits .f32 0x00000000#32 = 0
  simp [Ideal.ofBits, Ideal.ieee]

theorem square (i : S8192x1.Idx) : val_main_v8 (F := Ideal) x y i = Norm.square (fun k => (show EReal from x (ix2 (i 0) k)) + y (ix2 (i 0) k)) := by
  simp only [val_main_v8_apply, val_main_v7_apply, val_main_v6_apply, val_main_v5_apply, val_main_v4_apply, val_main_v3_apply, val_main_v2_apply, val_main_v1_apply,
    val_main_cst_apply, val_main_cst_0_apply, val_main_cst_1_apply]
  refine congrArg (Ideal.div · _ + _) ((congrArg (· + _) zero).trans ((zero_add _).trans (Finset.sum_congr rfl fun k _ => ?_)))
  have : idx_main_v3 (idx_main_v4 i) k = ix2 (i 0) k := Tiles.ix2_congr rfl rfl
  rw [this]; rfl

theorem scaled (i : S8192x2048.Idx) : val_main_v14 (F := Ideal) x y g i =
    Norm.unit (fun k => (show EReal from x (ix2 (i 0) k)) + y (ix2 (i 0) k)) (i 1) * (show EReal from g (ix2 0 (i 1))) := by
  rw [val_main_v14_apply, val_main_v13_apply, val_main_v12_apply, val_main_v11_apply, val_main_v10_apply, val_main_v9_apply, square, val_main_v1_apply]
  refine congrArg₂ (fun a b : EReal => a * b) (congrArg (fun j => ((show EReal from x j) + y j) * _) (Tiles.ix2_congr rfl rfl)) (congrArg g (Tiles.ix2_congr rfl rfl))

end Cert.Reference37Ideal.Prod

/-! ## Beside the references -/

namespace Cert.Proof

open Idealize.ShloMosaic Idealize.ShloMosaic.TcCoe Idealize.SL.Sem

theorem frame_Reference36Ideal : Cert.quiescent_Reference36Ideal := fun m g _ =>
  (θ_run Reference36Ideal.defs _ _).mono (fun r h => ⟨fun c => (h c).2, sem_eq_zero_of_no_sems (by decide) r.2⟩) (Reference36Ideal.Value.run m g)

theorem algebraic36 : Cert.algebraic_Kernel36Ideal_Reference36Ideal := by
  intro m g m' g' _ he
  refine ⟨_, (θ_run Kernel36Ideal.defs _ _).mono (fun r h c => ⟨(h c).1.trans (Kernel36Ideal.Prod.scaled m c), (h c).2⟩)
      (Kernel36Ideal.Value.run_blocks m g),
    (θ_run Reference36Ideal.defs _ _).mono (fun r h c => ⟨(h c).1.trans ?_, (h c).2⟩) (Reference36Ideal.Value.run m' g')⟩
  rw [Reference36Ideal.Read.val_main_v12_eq, (he c).1, (he c).2]
  exact funext (Reference36Ideal.Prod.scaled _ _)

theorem frame_Reference37Ideal : Cert.quiescent_Reference37Ideal := fun m g _ =>
  (θ_run Reference37Ideal.defs _ _).mono (fun r h => ⟨fun c => (h c).2.2, sem_eq_zero_of_no_sems (by decide) r.2⟩) (Reference37Ideal.Value.run m g)

theorem algebraic37 : Cert.algebraic_Kernel37Ideal_Reference37Ideal := by
  intro m g m' g' _ he
  refine ⟨_, _, (θ_run Kernel37Ideal.defs _ _).mono (fun r h c => ⟨(h c).1.trans (Kernel37Ideal.Prod.sums m c), (h c).2.1.trans (Kernel37Ideal.Prod.scaled m c), (h c).2.2⟩)
      (Kernel37Ideal.Value.run_blocks m g),
    (θ_run Reference37Ideal.defs _ _).mono (fun r h c => ⟨(h c).1.trans ?_, (h c).2.1.trans ?_, (h c).2.2⟩) (Reference37Ideal.Value.run m' g')⟩
  · rw [(he c).1, (he c).2.1]; rfl
  · rw [Reference37Ideal.Read.val_main_v14_eq, (he c).1, (he c).2.1, (he c).2.2]
    exact funext (Reference37Ideal.Prod.scaled _ _ _)

end Cert.Proof
-- ==== Proof.Gates.lean ====
module

public import proofs.«01_k».proof.Defs
public import proofs.«01_k».proof.Proof.Norm
public import proofs.«01_k».proof.Proof.Gen.Kernel38.Frame
public import proofs.«01_k».proof.Proof.Gen.Kernel38Ideal.Value
public import proofs.«01_k».proof.Proof.Gen.Reference38Ideal.Read
public import proofs.«01_k».proof.Proof.Gen.Kernel39.Frame
public import proofs.«01_k».proof.Proof.Gen.Kernel39Ideal.Value
public import proofs.«01_k».proof.Proof.Gen.Reference39Ideal.Read
public import Idealize.ShloMosaic.Lib.KernelVsHost
public import Idealize.ShloMosaic.Lib.Quiescent

/-! # The gates of the mixers

    Each of the four mixers' results is multiplied by a gate, the logistic function of its logit, and the products are added. The
    logits lie in the first columns of the projection, one mixer's beside the other's. -/

@[expose] public section
noncomputable section

set_option maxRecDepth 16384

namespace Gate

open Idealize.ShloMosaic

/-- The column of a mixer's logit in the projection. -/
abbrev col (b : ℕ) (j : Fin 2048) (h : b < 4 := by decide) : Fin 16384 := ⟨2048 * b + j.val, by have := j.isLt; omega⟩

/-- The mix of four values by their logits. -/
def mix (p q r s a b c d : EReal) : EReal :=
  Ideal.logistic p * a + Ideal.logistic q * b + Ideal.logistic r * c + Ideal.logistic s * d

theorem mix_congr {p q r s a b c d p' q' r' s' a' b' c' d' : EReal} (ep : p = p') (eq : q = q') (er : r = r') (es : s = s')
    (ea : a = a') (eb : b = b') (ec : c = c') (ed : d = d') : mix p q r s a b c d = mix p' q' r' s' a' b' c' d' := by
  rw [ep, eq, er, es, ea, eb, ec, ed]

/-- The logistic function written out with the number one as a float32 number. -/
theorem written (x : EReal) : Ideal.div Norm.one (Norm.one + Ideal.exp (-x)) = Ideal.logistic x := by
  rw [Norm.one_eq]; rfl

end Gate

namespace Cert.Kernel38Ideal.Prod

open Idealize.ShloMosaic Idealize.ShloMosaic.TcCoe Idealize.SL.Sem Gen

variable (m : (ℓ : Loc nD τ sig) → Buf (Elt Ideal) ℓ) (c : Dev nD)

theorem visits : ∀ t : Fin cfg0.N, (win0_0.index t 0 = t.val % 64 ∧ win0_0.index t 1 = 0) ∧ (win0_1.index t 0 = t.val % 64 ∧ win0_1.index t 1 = 0) ∧
    (win0_2.index t 0 = t.val % 64 ∧ win0_2.index t 1 = 0) ∧ (win0_3.index t 0 = t.val % 64 ∧ win0_3.index t 1 = 0) ∧
    (win0_4.index t 0 = t.val % 64 ∧ win0_4.index t 1 = 0) ∧ win0_5.index t 0 = t.val % 64 ∧ win0_5.index t 1 = 0 :=
  (by decide +kernel : ∀ t : Fin grid0.N, _)

/-- A logit's column in the block of the projection. -/
abbrev col (b : ℕ) (j : Fin 2048) (h : b < 4 := by decide) : Fin 8192 := ⟨2048 * b + j.val, by have := j.isLt; omega⟩

theorem point (t : Fin cfg0.N) (y : S128x2048.Idx) : out0_5 (iblk m c 0 t) (iblk m c 1 t) (iblk m c 2 t) (iblk m c 3 t) (iblk m c 4 t) y =
    Gate.mix (iblk m c 0 t (ix2 (y 0) (col 0 (y 1)))) (iblk m c 0 t (ix2 (y 0) (col 1 (y 1)))) (iblk m c 0 t (ix2 (y 0) (col 2 (y 1))))
      (iblk m c 0 t (ix2 (y 0) (col 3 (y 1)))) (iblk m c 1 t y) (iblk m c 2 t y) (iblk m c 3 t y) (iblk m c 4 t y) := by
  obtain ⟨a, b, rfl⟩ : ∃ a b, y = ix2 a b := ⟨y 0, y 1, Tiles.ix2_congr rfl rfl⟩
  unfold out0_5; frame_out
  simp only [k0_pay1, pointwise]
  refine Gate.mix_congr ?_ ?_ ?_ ?_ rfl rfl rfl rfl <;> refine congrArg (iblk m c 0 t) (Norm.idx_ext ?_ ?_) <;> simp

theorem mixed : (dats m 0 c).arrAt 5 cfg0.N = fun i =>
    Gate.mix (m ((c : Thread nD τ).loc main_arg0) (ix2 (i 0) (Gate.col 0 (i 1)))) (m ((c : Thread nD τ).loc main_arg0) (ix2 (i 0) (Gate.col 1 (i 1))))
      (m ((c : Thread nD τ).loc main_arg0) (ix2 (i 0) (Gate.col 2 (i 1)))) (m ((c : Thread nD τ).loc main_arg0) (ix2 (i 0) (Gate.col 3 (i 1))))
      (m ((c : Thread nD τ).loc main_arg1) i) (m ((c : Thread nD τ).loc main_arg2) i) (m ((c : Thread nD τ).loc main_arg3) i)
      (m ((c : Thread nD τ).loc main_arg4) i) := by
  refine (dats m 0 c).arrAt_eq_of_covers 5 _ (by decide +kernel) fun t hf y => ?_
  have e := visits t
  blk_simp
  rw [after0_5, point]
  refine Gate.mix_congr (congrArg (m ((c : Thread nD τ).loc main_arg0)) (Tiles.ix2_congr ?_ ?_)) (congrArg (m ((c : Thread nD τ).loc main_arg0)) (Tiles.ix2_congr ?_ ?_))
    (congrArg (m ((c : Thread nD τ).loc main_arg0)) (Tiles.ix2_congr ?_ ?_)) (congrArg (m ((c : Thread nD τ).loc main_arg0)) (Tiles.ix2_congr ?_ ?_))
    (congrArg (m ((c : Thread nD τ).loc main_arg1)) (Norm.idx_ext ?_ ?_)) (congrArg (m ((c : Thread nD τ).loc main_arg2)) (Norm.idx_ext ?_ ?_))
    (congrArg (m ((c : Thread nD τ).loc main_arg3)) (Norm.idx_ext ?_ ?_)) (congrArg (m ((c : Thread nD τ).loc main_arg4)) (Norm.idx_ext ?_ ?_)) <;>
    blk_simp [Gate.col, col] <;> (try dsimp only) <;> omega

end Cert.Kernel38Ideal.Prod

namespace Cert.Reference38Ideal.Prod

open Idealize.ShloMosaic Idealize.ShloMosaic.TcCoe Idealize.SL.Sem Reference38Ideal.Read

variable (p : (⟨S8192x16384, .f32⟩ : BufTy).Contents (Elt Ideal)) (a b c d : (⟨S8192x2048, .f32⟩ : BufTy).Contents (Elt Ideal))

theorem gate (i : S8192x8192.Idx) : val_main_v6 (F := Ideal) p i = Ideal.logistic (p (idx_main_v0 i)) := by
  rw [val_main_v6_apply, val_main_v5_apply, val_main_v4_apply, val_main_v3_apply, val_main_v2_apply, val_main_v1_apply, val_main_v0_apply,
    val_main_cst_apply, val_main_cst_0_apply]
  exact Gate.written _

theorem mixed (i : S8192x2048.Idx) : val_main_v23 (F := Ideal) p a b c d i =
    Gate.mix (p (ix2 (i 0) (Gate.col 0 (i 1)))) (p (ix2 (i 0) (Gate.col 1 (i 1)))) (p (ix2 (i 0) (Gate.col 2 (i 1)))) (p (ix2 (i 0) (Gate.col 3 (i 1))))
      (a i) (b i) (c i) (d i) := by
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, val_main_v10_apply,
    val_main_v9_apply, val_main_v8_apply, val_main_v7_apply, val_main_v7_apply, val_main_v7_apply, val_main_v7_apply, gate, gate, gate, gate]
  refine Gate.mix_congr (congrArg p (Tiles.ix2_congr ?_ ?_)) (congrArg p (Tiles.ix2_congr ?_ ?_)) (congrArg p (Tiles.ix2_congr ?_ ?_))
    (congrArg p (Tiles.ix2_congr ?_ ?_)) rfl rfl rfl rfl <;> simp <;> omega

end Cert.Reference38Ideal.Prod

namespace Cert.Proof

open Idealize.ShloMosaic Idealize.ShloMosaic.TcCoe Idealize.SL.Sem

theorem frame_Reference38Ideal : Cert.quiescent_Reference38Ideal := fun m g _ =>
  (θ_run Reference38Ideal.defs _ _).mono (fun r h => ⟨fun c => (h c).2, sem_eq_zero_of_no_sems (by decide) r.2⟩) (Reference38Ideal.Value.run m g)

theorem algebraic38 : Cert.algebraic_Kernel38Ideal_Reference38Ideal := by
  intro m g m' g' _ he
  refine ⟨_, (θ_run Kernel38Ideal.defs _ _).mono (fun r h c => ⟨(h c).1.trans (Kernel38Ideal.Prod.mixed m c), (h c).2⟩)
      (Kernel38Ideal.Value.run_blocks m g),
    (θ_run Reference38Ideal.defs _ _).mono (fun r h c => ⟨(h c).1.trans ?_, (h c).2⟩) (Reference38Ideal.Value.run m' g')⟩
  rw [Reference38Ideal.Read.val_main_v23_eq, (he c).1, (he c).2.1, (he c).2.2.1, (he c).2.2.2.1, (he c).2.2.2.2]
  exact funext (Reference38Ideal.Prod.mixed _ _ _ _ _)

end Cert.Proof

/-! # The gradient of the gates

    The cotangent of the mix times a gate is the cotangent of the gate's mixer; the cotangent of a logit is that times the mixer's
    value and one less the gate. The logits' cotangents are written in place over the first columns of an array. -/

namespace Gate

open Idealize.ShloMosaic

/-- The column of a mixer's values that belongs to a column of the projection. -/
abbrev sub {n : ℕ} (k : Fin n) : Fin 2048 := ⟨k.val % 2048, Nat.mod_lt _ (by decide)⟩

/-- The value of mixer `q`. -/
def pick (q : ℕ) (a b c d : EReal) : EReal := if q = 0 then a else if q = 1 then b else if q = 2 then c else d

theorem pick_zero (a b c d : EReal) : pick 0 a b c d = a := rfl
theorem pick_one (a b c d : EReal) : pick 1 a b c d = b := rfl
theorem pick_two (a b c d : EReal) : pick 2 a b c d = c := rfl
theorem pick_three (a b c d : EReal) : pick 3 a b c d = d := rfl

/-- The cotangent of a logit, by the logit, the mixer's value and the cotangent of the mix. -/
def slope (p y d : EReal) : EReal := d * y * Ideal.logistic p * (1 - Ideal.logistic p)

theorem slope_congr {p y d p' y' d' : EReal} (ep : p = p') (ey : y = y') (ed : d = d') : slope p y d = slope p' y' d' := by
  rw [ep, ey, ed]

theorem pick_congr {q q' : ℕ} {a b c d a' b' c' d' : EReal} (eq : q = q') (ea : a = a') (eb : b = b') (ec : c = c') (ed : d = d') :
    pick q a b c d = pick q' a' b' c' d' := by
  rw [eq, ea, eb, ec, ed]

theorem share_congr {p d p' d' : EReal} (ed : d = d') (ep : p = p') : d * Ideal.logistic p = d' * Ideal.logistic p' := by
  rw [ep, ed]

end Gate

namespace Cert.Kernel39Ideal.Prod

open Idealize.ShloMosaic Idealize.ShloMosaic.TcCoe Idealize.SL.Sem Gen

variable (m : (ℓ : Loc nD τ sig) → Buf (Elt Ideal) ℓ) (c : Dev nD)

/-- The arguments: the projection, the mixers' values, the cotangent of the mix and the array written in place. -/
abbrev proj : (⟨S8192x16384, .f32⟩ : BufTy).Contents (Elt Ideal) := m ((c : Thread nD τ).loc main_arg0)
abbrev valA : (⟨S8192x2048, .f32⟩ : BufTy).Contents (Elt Ideal) := m ((c : Thread nD τ).loc main_arg1)
abbrev valB : (⟨S8192x2048, .f32⟩ : BufTy).Contents (Elt Ideal) := m ((c : Thread nD τ).loc main_arg2)
abbrev valC : (⟨S8192x2048, .f32⟩ : BufTy).Contents (Elt Ideal) := m ((c : Thread nD τ).loc main_arg3)
abbrev valD : (⟨S8192x2048, .f32⟩ : BufTy).Contents (Elt Ideal) := m ((c : Thread nD τ).loc main_arg4)
abbrev cot : (⟨S8192x2048, .f32⟩ : BufTy).Contents (Elt Ideal) := m ((c : Thread nD τ).loc main_arg5)
abbrev into : (⟨S8192x16384, .f32⟩ : BufTy).Contents (Elt Ideal) := m ((c : Thread nD τ).loc main_arg6)

theorem found : V m c main_arg0 = proj m c ∧ V m c main_arg1 = valA m c ∧ V m c main_arg2 = valB m c ∧ V m c main_arg3 = valC m c ∧
    V m c main_arg4 = valD m c ∧ V m c main_arg5 = cot m c ∧ V m c main_v1_0 = into m c := by
  refine ⟨?_, ?_, ?_, ?_, ?_, ?_, ?_⟩ <;> (show StableHlo.after hostOps0 _ _ = _; after_results <;> rfl)

theorem visits : ∀ t : Fin cfg0.N, (win0_0.index t 0 = t.val % 64 ∧ win0_0.index t 1 = 0) ∧ (win0_1.index t 0 = t.val % 64 ∧ win0_1.index t 1 = 0) ∧
    (win0_2.index t 0 = t.val % 64 ∧ win0_2.index t 1 = 0) ∧ (win0_3.index t 0 = t.val % 64 ∧ win0_3.index t 1 = 0) ∧
    (win0_4.index t 0 = t.val % 64 ∧ win0_4.index t 1 = 0) ∧ (win0_5.index t 0 = t.val % 64 ∧ win0_5.index t 1 = 0) ∧
    (win0_6.index t 0 = t.val % 64 ∧ win0_6.index t 1 = 0) ∧ (win0_7.index t 0 = t.val % 64 ∧ win0_7.index t 1 = 0) ∧
    (win0_8.index t 0 = t.val % 64 ∧ win0_8.index t 1 = 0) ∧ (win0_9.index t 0 = t.val % 64 ∧ win0_9.index t 1 = 0) ∧
    win0_10.index t 0 = t.val % 64 ∧ win0_10.index t 1 = 0 :=
  (by decide +kernel : ∀ t : Fin grid0.N, _)

/-- A logit's column in the block of the projection. -/
abbrev col (b : ℕ) (j : Fin 2048) (h : b < 4 := by decide) : Fin 8192 := ⟨2048 * b + j.val, by have := j.isLt; omega⟩

theorem shareA (t : Fin cfg0.N) (y : S128x2048.Idx) : (outsAt0 m c t).2.1 y =
    (show EReal from iblk m c 5 t y) * Ideal.logistic (iblk m c 0 t (ix2 (y 0) (col 0 (y 1)))) := by
  obtain ⟨a, b, rfl⟩ : ∃ a b, y = ix2 a b := ⟨y 0, y 1, Tiles.ix2_congr rfl rfl⟩
  unfold outsAt0; frame_out
  simp only [k0_pay1, k0_pay6, k0_pay5, pointwise]
  refine Gate.share_congr rfl (congrArg (iblk m c 0 t) (Norm.idx_ext ?_ ?_)) <;> simp

theorem shareB (t : Fin cfg0.N) (y : S128x2048.Idx) : (outsAt0 m c t).2.2.1 y =
    (show EReal from iblk m c 5 t y) * Ideal.logistic (iblk m c 0 t (ix2 (y 0) (col 1 (y 1)))) := by
  obtain ⟨a, b, rfl⟩ : ∃ a b, y = ix2 a b := ⟨y 0, y 1, Tiles.ix2_congr rfl rfl⟩
  unfold outsAt0; frame_out
  simp only [k0_pay2, k0_pay8, k0_pay7, pointwise]
  refine Gate.share_congr rfl (congrArg (iblk m c 0 t) (Norm.idx_ext ?_ ?_)) <;> simp

theorem shareC (t : Fin cfg0.N) (y : S128x2048.Idx) : (outsAt0 m c t).2.2.2.1 y =
    (show EReal from iblk m c 5 t y) * Ideal.logistic (iblk m c 0 t (ix2 (y 0) (col 2 (y 1)))) := by
  obtain ⟨a, b, rfl⟩ : ∃ a b, y = ix2 a b := ⟨y 0, y 1, Tiles.ix2_congr rfl rfl⟩
  unfold outsAt0; frame_out
  simp only [k0_pay3, k0_pay10, k0_pay9, pointwise]
  refine Gate.share_congr rfl (congrArg (iblk m c 0 t) (Norm.idx_ext ?_ ?_)) <;> simp

theorem shareD (t : Fin cfg0.N) (y : S128x2048.Idx) : (outsAt0 m c t).2.2.2.2 y =
    (show EReal from iblk m c 5 t y) * Ideal.logistic (iblk m c 0 t (ix2 (y 0) (col 3 (y 1)))) := by
  obtain ⟨a, b, rfl⟩ : ∃ a b, y = ix2 a b := ⟨y 0, y 1, Tiles.ix2_congr rfl rfl⟩
  unfold outsAt0; frame_out
  simp only [k0_pay4, k0_pay12, k0_pay11, pointwise]
  refine Gate.share_congr rfl (congrArg (iblk m c 0 t) (Norm.idx_ext ?_ ?_)) <;> simp

theorem valueA : (dats m 0 c).arrAt 7 cfg0.N = fun i =>
    (show EReal from cot m c i) * Ideal.logistic (proj m c (ix2 (i 0) (Gate.col 0 (i 1)))) := by
  refine (dats m 0 c).arrAt_eq_of_covers 7 _ (by decide +kernel) fun t hf y => ?_
  have e := visits t
  blk_simp
  rw [after0_7, shareA]
  refine Gate.share_congr ((congrFun (found m c).2.2.2.2.2.1 _).trans (congrArg (cot m c) (Norm.idx_ext ?_ ?_)))
    ((congrFun (found m c).1 _).trans (congrArg (proj m c) (Norm.idx_ext ?_ ?_))) <;> blk_simp [Gate.col, col] <;> (try dsimp only) <;> omega

theorem valueB : (dats m 0 c).arrAt 8 cfg0.N = fun i =>
    (show EReal from cot m c i) * Ideal.logistic (proj m c (ix2 (i 0) (Gate.col 1 (i 1)))) := by
  refine (dats m 0 c).arrAt_eq_of_covers 8 _ (by decide +kernel) fun t hf y => ?_
  have e := visits t
  blk_simp
  rw [after0_8, shareB]
  refine Gate.share_congr ((congrFun (found m c).2.2.2.2.2.1 _).trans (congrArg (cot m c) (Norm.idx_ext ?_ ?_)))
    ((congrFun (found m c).1 _).trans (congrArg (proj m c) (Norm.idx_ext ?_ ?_))) <;> blk_simp [Gate.col, col] <;> (try dsimp only) <;> omega

theorem valueC : (dats m 0 c).arrAt 9 cfg0.N = fun i =>
    (show EReal from cot m c i) * Ideal.logistic (proj m c (ix2 (i 0) (Gate.col 2 (i 1)))) := by
  refine (dats m 0 c).arrAt_eq_of_covers 9 _ (by decide +kernel) fun t hf y => ?_
  have e := visits t
  blk_simp
  rw [after0_9, shareC]
  refine Gate.share_congr ((congrFun (found m c).2.2.2.2.2.1 _).trans (congrArg (cot m c) (Norm.idx_ext ?_ ?_)))
    ((congrFun (found m c).1 _).trans (congrArg (proj m c) (Norm.idx_ext ?_ ?_))) <;> blk_simp [Gate.col, col] <;> (try dsimp only) <;> omega

theorem valueD : (dats m 0 c).arrAt 10 cfg0.N = fun i =>
    (show EReal from cot m c i) * Ideal.logistic (proj m c (ix2 (i 0) (Gate.col 3 (i 1)))) := by
  refine (dats m 0 c).arrAt_eq_of_covers 10 _ (by decide +kernel) fun t hf y => ?_
  have e := visits t
  blk_simp
  rw [after0_10, shareD]
  refine Gate.share_congr ((congrFun (found m c).2.2.2.2.2.1 _).trans (congrArg (cot m c) (Norm.idx_ext ?_ ?_)))
    ((congrFun (found m c).1 _).trans (congrArg (proj m c) (Norm.idx_ext ?_ ?_))) <;> blk_simp [Gate.col, col] <;> (try dsimp only) <;> omega

theorem beside (x0 x1 x2 x3 : S128x2048.Idx → EReal) (h : Shape.Concatenates [S128x2048, S128x2048, S128x2048, S128x2048] S128x8192 1) (a : Fin 128) (b : Fin 8192) :
    concatenate S128x8192 1 [⟨S128x2048, x0⟩, ⟨S128x2048, x1⟩, ⟨S128x2048, x2⟩, ⟨S128x2048, x3⟩] h (ix2 a b) =
      Gate.pick (b.val / 2048) (x0 (ix2 a (Gate.sub b))) (x1 (ix2 a (Gate.sub b))) (x2 (ix2 a (Gate.sub b))) (x3 (ix2 a (Gate.sub b))) := by
  have hb : b.val < 8192 := b.isLt
  have hq : b.val / 2048 = 0 ∨ b.val / 2048 = 1 ∨ b.val / 2048 = 2 ∨ b.val / 2048 = 3 := by omega
  have off : ∀ n : Fin 2, n ≠ 1 → ((ix2 a (Gate.sub b) : S128x2048.Idx) n).val = ((ix2 a b : S128x8192.Idx) n).val := fun n hn => by
    match n, hn with
    | 0, _ => rfl
    | 1, hn => exact absurd rfl hn
  rcases hq with e | e | e | e <;> rw [e]
  · exact concatenate_apply_piece (t := S128x8192) 1 [⟨S128x2048, x0⟩, ⟨S128x2048, x1⟩, ⟨S128x2048, x2⟩, ⟨S128x2048, x3⟩] h (ix2 a b) 0 (by decide : 0 < 4) S128x2048 x0 rfl rfl 0 rfl (ix2 a (Gate.sub b)) off (show 0 + b.val % 2048 = b.val by omega)
  · exact concatenate_apply_piece (t := S128x8192) 1 [⟨S128x2048, x0⟩, ⟨S128x2048, x1⟩, ⟨S128x2048, x2⟩, ⟨S128x2048, x3⟩] h (ix2 a b) 1 (by decide : 1 < 4) S128x2048 x1 rfl rfl 2048 rfl (ix2 a (Gate.sub b)) off (show 2048 + b.val % 2048 = b.val by omega)
  · exact concatenate_apply_piece (t := S128x8192) 1 [⟨S128x2048, x0⟩, ⟨S128x2048, x1⟩, ⟨S128x2048, x2⟩, ⟨S128x2048, x3⟩] h (ix2 a b) 2 (by decide : 2 < 4) S128x2048 x2 rfl rfl 4096 rfl (ix2 a (Gate.sub b)) off (show 4096 + b.val % 2048 = b.val by omega)
  · exact concatenate_apply_piece (t := S128x8192) 1 [⟨S128x2048, x0⟩, ⟨S128x2048, x1⟩, ⟨S128x2048, x2⟩, ⟨S128x2048, x3⟩] h (ix2 a b) 3 (by decide : 3 < 4) S128x2048 x3 rfl rfl 6144 rfl (ix2 a (Gate.sub b)) off (show 6144 + b.val % 2048 = b.val by omega)

theorem logit (t : Fin cfg0.N) (y : S128x8192.Idx) : (outsAt0 m c t).1 y =
    Gate.slope (iblk m c 0 t y) (Gate.pick ((y 1).val / 2048) (iblk m c 1 t (ix2 (y 0) (Gate.sub (y 1)))) (iblk m c 2 t (ix2 (y 0) (Gate.sub (y 1))))
      (iblk m c 3 t (ix2 (y 0) (Gate.sub (y 1)))) (iblk m c 4 t (ix2 (y 0) (Gate.sub (y 1))))) (iblk m c 5 t (ix2 (y 0) (Gate.sub (y 1)))) := by
  obtain ⟨a, b, rfl⟩ : ∃ a b, y = ix2 a b := ⟨y 0, y 1, Tiles.ix2_congr rfl rfl⟩
  unfold outsAt0; frame_out
  simp only [k0_pay13]
  refine (beside _ _ _ _ Gen.concatenates_S128x2048_S128x2048_S128x2048_S128x2048_S128x8192_d1 a b).trans ?_
  simp only [k0_pay5, k0_pay7, k0_pay9, k0_pay11, pointwise]
  have hb : b.val < 8192 := b.isLt
  have hq : b.val / 2048 = 0 ∨ b.val / 2048 = 1 ∨ b.val / 2048 = 2 ∨ b.val / 2048 = 3 := by omega
  rcases hq with e | e | e | e <;> show Gate.pick (b.val / 2048) _ _ _ _ = Gate.slope _ (Gate.pick (b.val / 2048) _ _ _ _) _ <;> rw [e] <;>
    simp only [Gate.pick_zero, Gate.pick_one, Gate.pick_two, Gate.pick_three] <;>
    refine Gate.slope_congr (congrArg (iblk m c 0 t) (Norm.idx_ext ?_ ?_)) rfl rfl <;> simp <;> omega

theorem logits : (dats m 0 c).arrAt 6 cfg0.N = fun i : S8192x16384.Idx => if (i 1 : ℕ) / 8192 = 0 then
    Gate.slope (proj m c i) (Gate.pick ((i 1).val / 2048) (valA m c (ix2 (i 0) (Gate.sub (i 1)))) (valB m c (ix2 (i 0) (Gate.sub (i 1))))
      (valC m c (ix2 (i 0) (Gate.sub (i 1)))) (valD m c (ix2 (i 0) (Gate.sub (i 1))))) (cot m c (ix2 (i 0) (Gate.sub (i 1)))) else into m c i := by
  refine ((dats m 0 c).arrAt_eq_of_coversWhere 6 (fun i : S8192x16384.Idx =>
    Gate.slope (proj m c i) (Gate.pick ((i 1).val / 2048) (valA m c (ix2 (i 0) (Gate.sub (i 1)))) (valB m c (ix2 (i 0) (Gate.sub (i 1))))
      (valC m c (ix2 (i 0) (Gate.sub (i 1)))) (valD m c (ix2 (i 0) (Gate.sub (i 1))))) (cot m c (ix2 (i 0) (Gate.sub (i 1)))))
    (P := fun i : S8192x16384.Idx => (i 1 : ℕ) / 8192 = 0) (fun β => β (1 : Fin _) = 0) (by decide +kernel)
    (fun t hf y => ?_) (fun j => Iff.rfl)).trans (funext fun i => ?_)
  · have e := visits t
    blk_simp
    rw [after0_6, logit]
    refine Gate.slope_congr ((congrFun (found m c).1 _).trans (congrArg (proj m c) (Norm.idx_ext ?_ ?_)))
      (Gate.pick_congr ?_ ((congrFun (found m c).2.1 _).trans (congrArg (valA m c) (Tiles.ix2_congr ?_ ?_)))
        ((congrFun (found m c).2.2.1 _).trans (congrArg (valB m c) (Tiles.ix2_congr ?_ ?_)))
        ((congrFun (found m c).2.2.2.1 _).trans (congrArg (valC m c) (Tiles.ix2_congr ?_ ?_)))
        ((congrFun (found m c).2.2.2.2.1 _).trans (congrArg (valD m c) (Tiles.ix2_congr ?_ ?_))))
      ((congrFun (found m c).2.2.2.2.2.1 _).trans (congrArg (cot m c) (Tiles.ix2_congr ?_ ?_)))
    all_goals (try blk_simp [Gate.sub]) <;> (try dsimp only) <;> omega
  · split
    · rfl
    · exact congrFun (found m c).2.2.2.2.2.2 i

end Cert.Kernel39Ideal.Prod

namespace Cert.Reference39Ideal.Prod

open Idealize.ShloMosaic Idealize.ShloMosaic.TcCoe Idealize.SL.Sem Reference39Ideal.Read

variable (p into : (⟨S8192x16384, .f32⟩ : BufTy).Contents (Elt Ideal)) (a b c d e : (⟨S8192x2048, .f32⟩ : BufTy).Contents (Elt Ideal))

theorem zero : (FloatOps.ofBits .f32 0x00000000#32 : Ideal .f32) = (0 : EReal) := by
  show Ideal.ofBits .f32 0x00000000#32 = 0
  simp [Ideal.ofBits, Ideal.ieee]

theorem one : (FloatOps.ofBits .f32 0x3F800000#32 : Ideal .f32) = (1 : EReal) := Norm.one_eq

theorem gate (i : S8192x8192.Idx) : val_main_v6 (F := Ideal) p i = Ideal.logistic (p (idx_main_v0 i)) := by
  rw [val_main_v6_apply, val_main_v5_apply, val_main_v4_apply, val_main_v3_apply, val_main_v2_apply, val_main_v1_apply, val_main_v0_apply,
    val_main_cst_apply, val_main_cst_0_apply]
  exact Gate.written _

theorem cot (i : S8192x2048.Idx) : val_main_v26 (F := Ideal) e i = e i := by
  rw [val_main_v26_apply]
  refine congrArg e (Norm.idx_ext ?_ ?_) <;> have h : (i 1).val < 2048 := (i 1).isLt <;> simp <;> omega

theorem cot' (i : S8192x2048.Idx) : val_main_v27 (F := Ideal) e i = e i := by
  rw [val_main_v27_apply]
  refine congrArg e (Norm.idx_ext ?_ ?_) <;> have h : (i 1).val < 2048 := (i 1).isLt <;> simp <;> omega

theorem shareA (i : S8192x2048.Idx) : val_main_v52 (F := Ideal) p e i = (show EReal from e i) * Ideal.logistic (p (ix2 (i 0) (Gate.col 0 (i 1)))) := by
  rw [val_main_v52_apply, val_main_v42_apply, cot, val_main_v12_apply, val_main_v11_apply, val_main_v10_apply, gate]
  refine (mul_comm _ _).trans (Gate.share_congr rfl (congrArg p (Tiles.ix2_congr ?_ ?_))) <;> simp <;> omega

theorem shareB (i : S8192x2048.Idx) : val_main_v53 (F := Ideal) p e i = (show EReal from e i) * Ideal.logistic (p (ix2 (i 0) (Gate.col 1 (i 1)))) := by
  rw [val_main_v53_apply, val_main_v37_apply, cot, val_main_v15_apply, val_main_v14_apply, val_main_v10_apply, gate]
  refine (mul_comm _ _).trans (Gate.share_congr rfl (congrArg p (Tiles.ix2_congr ?_ ?_))) <;> simp <;> omega

theorem shareC (i : S8192x2048.Idx) : val_main_v54 (F := Ideal) p e i = (show EReal from e i) * Ideal.logistic (p (ix2 (i 0) (Gate.col 2 (i 1)))) := by
  rw [val_main_v54_apply, val_main_v32_apply, cot, val_main_v19_apply, val_main_v18_apply, val_main_v10_apply, gate]
  refine (mul_comm _ _).trans (Gate.share_congr rfl (congrArg p (Tiles.ix2_congr ?_ ?_))) <;> simp <;> omega

theorem shareD (i : S8192x2048.Idx) : val_main_v55 (F := Ideal) p e i = (show EReal from e i) * Ideal.logistic (p (ix2 (i 0) (Gate.col 3 (i 1)))) := by
  rw [val_main_v55_apply, val_main_v28_apply, cot', val_main_v23_apply, val_main_v22_apply, val_main_v10_apply, gate]
  refine (mul_comm _ _).trans (Gate.share_congr rfl (congrArg p (Tiles.ix2_congr ?_ ?_))) <;> simp <;> omega

/-- A slab padded with zeros to four is the slab at its own place and zero elsewhere. -/
theorem padded (n hi : ℕ) (x : S8192x1x2048.Idx → EReal) (v : S_.Idx → EReal) (hv : ∀ i, v i = 0)
    (h : S8192x1x2048.Pads ![0, n, 0] ![0, hi, 0] ![0, 0, 0] S8192x4x2048) (hu : 0 < S_.numel) (i : Fin 8192) (q : Fin 4) (k : Fin 2048) :
    pad S8192x4x2048 ![0, n, 0] ![0, hi, 0] ![0, 0, 0] x v h hu (ix3 i q k) = if q.val = n then x (ix3 i 0 k) else 0 := by
  by_cases hq : q.val = n
  · rw [if_pos hq]
    refine pad_apply_of_inside _ _ _ x v h hu _ (ix3 i 0 k) fun a => ?_
    match a with
    | 0 => show i.val = 0 + i.val * 1; omega
    | 1 => show q.val = n + 0 * 1; omega
    | 2 => show k.val = 0 + k.val * 1; omega
  · rw [if_neg hq]
    refine (pad_apply_of_not_inside _ _ _ x v h hu _ (1 : Fin 3) ?_).trans (hv _)
    show ¬(n ≤ q.val ∧ (q.val - n) % (0 + 1) = 0 ∧ (q.val - n) / (0 + 1) < 1)
    omega

theorem cells (i : Fin 8192) (q : Fin 4) (k : Fin 2048) : val_main_v46 (F := Ideal) a b c d e (ix3 i q k) =
    (show EReal from e (ix2 i k)) * Gate.pick q.val (a (ix2 i k)) (b (ix2 i k)) (c (ix2 i k)) (d (ix2 i k)) := by
  have hA : val_main_v44 (F := Ideal) a e (ix3 i 0 k) = (show EReal from e (ix2 i k)) * a (ix2 i k) := by
    rw [val_main_v44_apply, val_main_v43_apply, cot]
    exact congrArg₂ (fun x y : EReal => x * y) (congrArg e (Tiles.ix2_congr rfl rfl)) (congrArg a (Tiles.ix2_congr rfl rfl))
  have hB : val_main_v39 (F := Ideal) b e (ix3 i 0 k) = (show EReal from e (ix2 i k)) * b (ix2 i k) := by
    rw [val_main_v39_apply, val_main_v38_apply, cot]
    exact congrArg₂ (fun x y : EReal => x * y) (congrArg e (Tiles.ix2_congr rfl rfl)) (congrArg b (Tiles.ix2_congr rfl rfl))
  have hC : val_main_v34 (F := Ideal) c e (ix3 i 0 k) = (show EReal from e (ix2 i k)) * c (ix2 i k) := by
    rw [val_main_v34_apply, val_main_v33_apply, cot]
    exact congrArg₂ (fun x y : EReal => x * y) (congrArg e (Tiles.ix2_congr rfl rfl)) (congrArg c (Tiles.ix2_congr rfl rfl))
  have hD : val_main_v30 (F := Ideal) d e (ix3 i 0 k) = (show EReal from e (ix2 i k)) * d (ix2 i k) := by
    rw [val_main_v30_apply, val_main_v29_apply, cot']
    exact congrArg₂ (fun x y : EReal => x * y) (congrArg e (Tiles.ix2_congr rfl rfl)) (congrArg d (Tiles.ix2_congr rfl rfl))
  have pA := padded 0 3 (val_main_v44 (F := Ideal) a e) (val_main_cst_5 (F := Ideal)) (fun _ => zero)
      Gen.pads_S8192x1x2048_S8192x4x2048_000_030_000 Gen.h_S_ i q k
  have pB := padded 1 2 (val_main_v39 (F := Ideal) b e) (val_main_cst_4 (F := Ideal)) (fun _ => zero)
      Gen.pads_S8192x1x2048_S8192x4x2048_000_120_000 Gen.h_S_ i q k
  have pC := padded 2 1 (val_main_v34 (F := Ideal) c e) (val_main_cst_3 (F := Ideal)) (fun _ => zero)
      Gen.pads_S8192x1x2048_S8192x4x2048_000_210_000 Gen.h_S_ i q k
  have pD := padded 3 0 (val_main_v30 (F := Ideal) d e) (val_main_cst_2 (F := Ideal)) (fun _ => zero)
      Gen.pads_S8192x1x2048_S8192x4x2048_000_300_000 Gen.h_S_ i q k
  rw [hA] at pA; rw [hB] at pB; rw [hC] at pC; rw [hD] at pD
  rw [val_main_v46_apply, val_main_v41_apply, val_main_v36_apply]
  refine (congrArg₂ (fun x y : EReal => x + y) (congrArg₂ (fun x y : EReal => x + y) (congrArg₂ (fun x y : EReal => x + y) pD pC) pB) pA).trans ?_
  match q with
  | 0 => simp [Gate.pick]
  | 1 => simp [Gate.pick]
  | 2 => simp [Gate.pick]
  | 3 => simp [Gate.pick]

theorem logit (i : S8192x8192.Idx) : val_main_v48 (F := Ideal) p a b c d e i =
    Gate.slope (p (idx_main_v0 i)) (Gate.pick ((i 1).val / 2048) (a (ix2 (i 0) (Gate.sub (i 1)))) (b (ix2 (i 0) (Gate.sub (i 1))))
      (c (ix2 (i 0) (Gate.sub (i 1)))) (d (ix2 (i 0) (Gate.sub (i 1))))) (e (ix2 (i 0) (Gate.sub (i 1)))) := by
  have h0 := (i 0).isLt
  have h1 : (i 1).val < 8192 := (i 1).isLt
  have hi : idx_main_v47 i = (ix3 (show Fin 8192 from i 0) (⟨(i 1).val / 2048, by omega⟩ : Fin 4) (Gate.sub (i 1)) : S8192x4x2048.Idx) := by
    refine funext fun n => Fin.ext ?_
    match n with
    | 0 => show ((i 0).val * 8192 + (i 1).val) / 8192 = (i 0).val; omega
    | 1 => show ((i 0).val * 8192 + (i 1).val) / 2048 % 4 = (i 1).val / 2048; omega
    | 2 => show ((i 0).val * 8192 + (i 1).val) % 2048 = (i 1).val % 2048; omega
  rw [val_main_v48_apply, val_main_v47_apply, (congrArg _ hi).trans (cells a b c d e _ _ _), val_main_v9_apply, val_main_v8_apply, val_main_v7_apply, val_main_cst_1_apply, gate, one]
  exact (mul_assoc _ _ _).symm

theorem logits : val_main_v51 (F := Ideal) p a b c d e into = fun i : S8192x16384.Idx => if (i 1 : ℕ) / 8192 = 0 then
    Gate.slope (p i) (Gate.pick ((i 1).val / 2048) (a (ix2 (i 0) (Gate.sub (i 1)))) (b (ix2 (i 0) (Gate.sub (i 1))))
      (c (ix2 (i 0) (Gate.sub (i 1)))) (d (ix2 (i 0) (Gate.sub (i 1))))) (e (ix2 (i 0) (Gate.sub (i 1)))) else into i := by
  funext i
  obtain ⟨x, y, rfl⟩ : ∃ x y, i = ix2 x y := ⟨i 0, i 1, Tiles.ix2_congr rfl rfl⟩
  have hy : y.val < 16384 := y.isLt
  rw [val_main_v51_apply]
  unfold val_main_v50
  by_cases h : y.val < 8192
  · refine (concatenate_pair_apply_left 1 (val_main_v48 (F := Ideal) p a b c d e) (val_main_v49 (F := Ideal) into)
      Gen.concatenates_S8192x8192_S8192x8192_S8192x16384_d1 (ix2 x y) rfl (ix2 (show Fin 8192 from x) (⟨y.val, h⟩ : Fin 8192) : S8192x8192.Idx)
      fun n => ?_).trans ?_
    · match n with
      | 0 => rfl
      | 1 => rfl
    · rw [logit]
      refine (Gate.slope_congr (congrArg p (Tiles.ix2_congr rfl rfl)) rfl rfl).trans (if_pos (show y.val / 8192 = 0 by omega)).symm
  · refine (concatenate_pair_apply_right 1 (val_main_v48 (F := Ideal) p a b c d e) (val_main_v49 (F := Ideal) into)
      Gen.concatenates_S8192x8192_S8192x8192_S8192x16384_d1 (ix2 x y) rfl rfl (ix2 (show Fin 8192 from x) (⟨y.val - 8192, by omega⟩ : Fin 8192) : S8192x8192.Idx) (fun n hn => ?_)
      (show y.val - 8192 + 8192 = y.val by omega)).trans ?_
    · match n, hn with
      | 0, _ => rfl
      | 1, hn => exact absurd rfl hn
    · rw [val_main_v49_apply]
      refine (congrArg into (Norm.idx_ext ?_ ?_)).trans (if_neg (show ¬ y.val / 8192 = 0 by omega)).symm <;> simp <;> omega

end Cert.Reference39Ideal.Prod

namespace Cert.Proof

open Idealize.ShloMosaic Idealize.ShloMosaic.TcCoe Idealize.SL.Sem

theorem frame_Reference39Ideal : Cert.quiescent_Reference39Ideal := fun m g _ =>
  (θ_run Reference39Ideal.defs _ _).mono (fun r h => ⟨fun c => (h c).2.2.2.2.2, sem_eq_zero_of_no_sems (by decide) r.2⟩) (Reference39Ideal.Value.run m g)

theorem algebraic39 : Cert.algebraic_Kernel39Ideal_Reference39Ideal := by
  intro m g m' g' _ he
  refine ⟨_, _, _, _, _, (θ_run Kernel39Ideal.defs _ _).mono (fun r h c => ⟨(h c).1.trans (Kernel39Ideal.Prod.logits m c),
      (h c).2.1.trans (Kernel39Ideal.Prod.valueA m c), (h c).2.2.1.trans (Kernel39Ideal.Prod.valueB m c),
      (h c).2.2.2.1.trans (Kernel39Ideal.Prod.valueC m c), (h c).2.2.2.2.1.trans (Kernel39Ideal.Prod.valueD m c), (h c).2.2.2.2.2⟩)
      (Kernel39Ideal.Value.run_blocks m g),
    (θ_run Reference39Ideal.defs _ _).mono (fun r h c => ⟨(h c).1.trans ?_, (h c).2.1.trans ?_, (h c).2.2.1.trans ?_, (h c).2.2.2.1.trans ?_,
      (h c).2.2.2.2.1.trans ?_, (h c).2.2.2.2.2⟩) (Reference39Ideal.Value.run m' g')⟩
  · rw [Reference39Ideal.Read.val_main_v51_eq, (he c).1, (he c).2.1, (he c).2.2.1, (he c).2.2.2.1, (he c).2.2.2.2.1, (he c).2.2.2.2.2.1, (he c).2.2.2.2.2.2]
    exact Reference39Ideal.Prod.logits _ _ _ _ _ _ _
  · rw [Reference39Ideal.Read.val_main_v52_eq, (he c).1, (he c).2.2.2.2.2.1]
    exact funext (Reference39Ideal.Prod.shareA _ _)
  · rw [Reference39Ideal.Read.val_main_v53_eq, (he c).1, (he c).2.2.2.2.2.1]
    exact funext (Reference39Ideal.Prod.shareB _ _)
  · rw [Reference39Ideal.Read.val_main_v54_eq, (he c).1, (he c).2.2.2.2.2.1]
    exact funext (Reference39Ideal.Prod.shareC _ _)
  · rw [Reference39Ideal.Read.val_main_v55_eq, (he c).1, (he c).2.2.2.2.2.1]
    exact funext (Reference39Ideal.Prod.shareD _ _)

end Cert.Proof
-- ==== Proof.InnerNorms.lean ====
module

public import proofs.«01_k».proof.Defs
public import proofs.«01_k».proof.Proof.Gates
public import proofs.«01_k».proof.Proof.Gen.Kernel40.Frame
public import proofs.«01_k».proof.Proof.Gen.Kernel40Ideal.Value
public import proofs.«01_k».proof.Proof.Gen.Reference40Ideal.Read
public import proofs.«01_k».proof.Proof.Gen.Kernel41.Frame
public import proofs.«01_k».proof.Proof.Gen.Kernel41Ideal.Value
public import proofs.«01_k».proof.Proof.Gen.Reference41Ideal.Read
public import proofs.«01_k».proof.Proof.Gen.Kernel42.Frame
public import proofs.«01_k».proof.Proof.Gen.Kernel42Ideal.Value
public import proofs.«01_k».proof.Proof.Gen.Reference42Ideal.Read
public import Idealize.ShloMosaic.Lib.Quiescent

/-! # The residual's addition and the norms within the mixers

    One call adds the feed-forward part's result to the residual. One norms two groups of 512 columns of the projection, and one
    norms each head's 128 columns of an array and multiplies them by a gate. -/

@[expose] public section
noncomputable section

set_option maxRecDepth 16384

namespace Inner

open Idealize.ShloMosaic

/-- An entry of a row divided by the root of the row's mean square with the offset, times the scale's entry. -/
def scaled {n : ℕ} (width : EReal) (x : Fin n → EReal) (j : Fin n) (g : EReal) : EReal :=
  x j * Ideal.rsqrt (Ideal.div (∑ k, x k * x k) width + Norm.offset) * g

theorem scaled_congr {n : ℕ} {w : EReal} {x y : Fin n → EReal} {j k : Fin n} {g h : EReal} (e : ∀ i, x i = y i) (l : j = k) (f : g = h) :
    scaled w x j g = scaled w y k h := by
  rw [funext e, l, f]

/-- The widths as float32 numbers. -/
abbrev width512 : EReal := Ideal.ofBits .f32 0x44000000#32
abbrev width128 : EReal := Ideal.ofBits .f32 0x43000000#32

/-- The column of a head's entry. -/
abbrev lane (q : Fin 8) (k : Fin 128) : Fin 1024 := ⟨128 * q.val + k.val, by omega⟩

abbrev head (b : Fin 1024) : Fin 8 := ⟨b.val / 128, by omega⟩
abbrev within (b : Fin 1024) : Fin 128 := ⟨b.val % 128, by omega⟩

theorem lane_split (b : Fin 1024) : lane (head b) (within b) = b := Fin.ext (by show 128 * (b.val / 128) + b.val % 128 = b.val; omega)

/-- The entry at a column of a row of eight heads, each scaled by itself. -/
def perHead (x : Fin 1024 → EReal) (g : Fin 128 → EReal) (b : Fin 1024) : EReal :=
  scaled width128 (fun k => x (lane (head b) k)) (within b) (g (within b))

theorem perHead_lane (x : Fin 1024 → EReal) (g : Fin 128 → EReal) (q : Fin 8) (k : Fin 128) :
    perHead x g (lane q k) = scaled width128 (fun n => x (lane q n)) k (g k) := by
  have hq : head (lane q k) = q := Fin.ext (by show (128 * q.val + k.val) / 128 = q.val; omega)
  have hk : within (lane q k) = k := Fin.ext (by show (128 * q.val + k.val) % 128 = k.val; omega)
  rw [perHead, hq, hk]

theorem perHead_congr {x y : Fin 1024 → EReal} {g h : Fin 128 → EReal} {b c : Fin 1024} (e : ∀ i, x i = y i) (f : ∀ i, g i = h i) (l : b = c) :
    perHead x g b = perHead y h c := by
  rw [funext e, funext f, l]

/-- The gate of a value. -/
def gate (z : EReal) : EReal := z * Ideal.logistic z

end Inner

/-! ## The residual's addition -/

namespace Cert.Kernel40Ideal.Prod

open Idealize.ShloMosaic Idealize.ShloMosaic.TcCoe Idealize.SL.Sem Gen

variable (m : (ℓ : Loc nD τ sig) → Buf (Elt Ideal) ℓ) (c : Dev nD)

theorem visits : ∀ t : Fin cfg0.N, (win0_0.index t 0 = t.val % 16 ∧ win0_0.index t 1 = 0) ∧ (win0_1.index t 0 = t.val % 16 ∧ win0_1.index t 1 = 0) ∧
    win0_2.index t 0 = t.val % 16 ∧ win0_2.index t 1 = 0 :=
  (by decide +kernel : ∀ t : Fin grid0.N, _)

theorem sums : (dats m 0 c).arrAt 2 cfg0.N = fun i =>
    (show EReal from m ((c : Thread nD τ).loc main_arg0) i) + m ((c : Thread nD τ).loc main_arg1) i := by
  refine (dats m 0 c).arrAt_eq_of_covers 2 _ (by decide +kernel) fun t hf y => ?_
  have e := visits t
  blk_simp
  rw [after0_2]; unfold out0_2; frame_out
  simp only [k0_pay1, pointwise]
  refine congrArg₂ _ (congrArg (m ((c : Thread nD τ).loc main_arg0)) (Norm.idx_ext ?_ ?_))
    (congrArg (m ((c : Thread nD τ).loc main_arg1)) (Norm.idx_ext ?_ ?_)) <;> blk_simp <;> omega

end Cert.Kernel40Ideal.Prod

/-! ## The norms of the low-rank rows -/

namespace Cert.Kernel41Ideal.Prod

open Idealize.ShloMosaic Idealize.ShloMosaic.TcCoe Idealize.SL.Sem Gen

variable (m : (ℓ : Loc nD τ sig) → Buf (Elt Ideal) ℓ) (c : Dev nD)

abbrev colQ (k : Fin 512) : Fin 16384 := ⟨14336 + k.val, by omega⟩
abbrev colK (k : Fin 512) : Fin 16384 := ⟨14848 + k.val, by omega⟩

theorem visits : ∀ t : Fin cfg0.N, (win0_0.index t 0 = t.val % 16 ∧ win0_0.index t 1 = 28) ∧ (win0_1.index t 0 = t.val % 16 ∧ win0_1.index t 1 = 29) ∧
    (win0_2.index t 0 = 0 ∧ win0_2.index t 1 = 0) ∧ (win0_3.index t 0 = 0 ∧ win0_3.index t 1 = 0) ∧
    (win0_4.index t 0 = t.val % 16 ∧ win0_4.index t 1 = 0) ∧ win0_5.index t 0 = t.val % 16 ∧ win0_5.index t 1 = 0 :=
  (by decide +kernel : ∀ t : Fin grid0.N, _)

theorem pointQ (t : Fin cfg0.N) (y : S512x512.Idx) : out0_4 (iblk m c 0 t) (iblk m c 1 t) (iblk m c 2 t) (iblk m c 3 t) y =
    Inner.scaled Inner.width512 (fun k => iblk m c 0 t (ix2 (y 0) k)) (y 1) (iblk m c 2 t (ix2 0 (y 1))) := by
  obtain ⟨a, b, rfl⟩ : ∃ a b, y = ix2 a b := ⟨y 0, y 1, Tiles.ix2_congr rfl rfl⟩
  unfold out0_4; frame_out
  simp only [k0_pay1, pointwise]
  rfl

theorem pointK (t : Fin cfg0.N) (y : S512x512.Idx) : out0_5 (iblk m c 0 t) (iblk m c 1 t) (iblk m c 2 t) (iblk m c 3 t) y =
    Inner.scaled Inner.width512 (fun k => iblk m c 1 t (ix2 (y 0) k)) (y 1) (iblk m c 3 t (ix2 0 (y 1))) := by
  obtain ⟨a, b, rfl⟩ : ∃ a b, y = ix2 a b := ⟨y 0, y 1, Tiles.ix2_congr rfl rfl⟩
  unfold out0_5; frame_out
  simp only [k0_pay2, pointwise]
  rfl

theorem scaledQ : (dats m 0 c).arrAt 4 cfg0.N = fun i =>
    Inner.scaled Inner.width512 (fun k => m ((c : Thread nD τ).loc main_arg0) (ix2 (i 0) (colQ k))) (i 1) (m ((c : Thread nD τ).loc main_arg1) (ix2 0 (i 1))) := by
  refine (dats m 0 c).arrAt_eq_of_covers 4 _ (by decide +kernel) fun t hf y => ?_
  have e := visits t
  blk_simp
  rw [after0_4, pointQ]
  refine Inner.scaled_congr (fun k => congrArg (m ((c : Thread nD τ).loc main_arg0)) (Tiles.ix2_congr ?_ ?_)) (Fin.ext ?_)
    (congrArg (m ((c : Thread nD τ).loc main_arg1)) (Tiles.ix2_congr ?_ ?_)) <;> (try blk_simp) <;> (try dsimp only) <;> omega

theorem scaledK : (dats m 0 c).arrAt 5 cfg0.N = fun i =>
    Inner.scaled Inner.width512 (fun k => m ((c : Thread nD τ).loc main_arg0) (ix2 (i 0) (colK k))) (i 1) (m ((c : Thread nD τ).loc main_arg2) (ix2 0 (i 1))) := by
  refine (dats m 0 c).arrAt_eq_of_covers 5 _ (by decide +kernel) fun t hf y => ?_
  have e := visits t
  blk_simp
  rw [after0_5, pointK]
  refine Inner.scaled_congr (fun k => congrArg (m ((c : Thread nD τ).loc main_arg0)) (Tiles.ix2_congr ?_ ?_)) (Fin.ext ?_)
    (congrArg (m ((c : Thread nD τ).loc main_arg2)) (Tiles.ix2_congr ?_ ?_)) <;> (try blk_simp) <;> (try dsimp only) <;> omega

end Cert.Kernel41Ideal.Prod

namespace Cert.Reference41Ideal.Prod

open Idealize.ShloMosaic Idealize.ShloMosaic.TcCoe Idealize.SL.Sem Reference41Ideal.Read

variable (x : (⟨S8192x16384, .f32⟩ : BufTy).Contents (Elt Ideal)) (g : (⟨S1x512, .f32⟩ : BufTy).Contents (Elt Ideal))

theorem zero : (FloatOps.ofBits .f32 0x00000000#32 : Ideal .f32) = (0 : EReal) := by
  show Ideal.ofBits .f32 0x00000000#32 = 0
  simp [Ideal.ofBits, Ideal.ieee]

theorem squareQ (i : S8192x1.Idx) : val_main_v7 (F := Ideal) x i =
    Ideal.div (∑ k : Fin 512, (show EReal from x (ix2 (i 0) (Kernel41Ideal.Prod.colQ k))) * x (ix2 (i 0) (Kernel41Ideal.Prod.colQ k))) Inner.width512 + Norm.offset := by
  simp only [val_main_v7_apply, val_main_v6_apply, val_main_v5_apply, val_main_v4_apply, val_main_v3_apply, val_main_v2_apply, val_main_v1_apply, val_main_v0_apply,
    val_main_cst_apply, val_main_cst_0_apply, val_main_cst_1_apply]
  refine congrArg (Ideal.div · _ + _) ((congrArg (· + _) zero).trans ((zero_add _).trans (Finset.sum_congr rfl fun k _ => ?_)))
  have : idx_main_v0 (idx_main_v2 (idx_main_v3 i) k) = ix2 (i 0) (Kernel41Ideal.Prod.colQ k) := Tiles.ix2_congr rfl rfl
  rw [this]; rfl

theorem scaledQ (i : S8192x512.Idx) : val_main_v13 (F := Ideal) x g i =
    Inner.scaled Inner.width512 (fun k => x (ix2 (i 0) (Kernel41Ideal.Prod.colQ k))) (i 1) (g (ix2 0 (i 1))) := by
  rw [val_main_v13_apply, val_main_v12_apply, val_main_v11_apply, val_main_v10_apply, val_main_v9_apply, val_main_v8_apply, squareQ, val_main_v0_apply]
  refine congrArg₂ (fun a b : EReal => a * b) (congrArg (fun j => (show EReal from x j) * _) (Tiles.ix2_congr rfl rfl)) (congrArg g (Tiles.ix2_congr rfl rfl))

theorem squareK (i : S8192x1.Idx) : val_main_v21 (F := Ideal) x i =
    Ideal.div (∑ k : Fin 512, (show EReal from x (ix2 (i 0) (Kernel41Ideal.Prod.colK k))) * x (ix2 (i 0) (Kernel41Ideal.Prod.colK k))) Inner.width512 + Norm.offset := by
  simp only [val_main_v21_apply, val_main_v20_apply, val_main_v19_apply, val_main_v18_apply, val_main_v17_apply, val_main_v16_apply, val_main_v15_apply,
    val_main_v14_apply, val_main_cst_2_apply, val_main_cst_3_apply, val_main_cst_4_apply]
  refine congrArg (Ideal.div · _ + _) ((congrArg (· + _) zero).trans ((zero_add _).trans (Finset.sum_congr rfl fun k _ => ?_)))
  have : idx_main_v14 (idx_main_v16 (idx_main_v17 i) k) = ix2 (i 0) (Kernel41Ideal.Prod.colK k) := Tiles.ix2_congr rfl rfl
  rw [this]; rfl

theorem scaledK (i : S8192x512.Idx) : val_main_v27 (F := Ideal) x g i =
    Inner.scaled Inner.width512 (fun k => x (ix2 (i 0) (Kernel41Ideal.Prod.colK k))) (i 1) (g (ix2 0 (i 1))) := by
  rw [val_main_v27_apply, val_main_v26_apply, val_main_v25_apply, val_main_v24_apply, val_main_v23_apply, val_main_v22_apply, squareK, val_main_v14_apply]
  refine congrArg₂ (fun a b : EReal => a * b) (congrArg (fun j => (show EReal from x j) * _) (Tiles.ix2_congr rfl rfl)) (congrArg g (Tiles.ix2_congr rfl rfl))

end Cert.Reference41Ideal.Prod

/-! ## The norms of the heads -/

namespace Cert.Kernel42Ideal.Prod

open Idealize.ShloMosaic Idealize.ShloMosaic.TcCoe Idealize.SL.Sem Gen

variable (m : (ℓ : Loc nD τ sig) → Buf (Elt Ideal) ℓ) (c : Dev nD)

abbrev colZ (k : Fin 1024) : Fin 16384 := ⟨13312 + k.val, by omega⟩

theorem visits : ∀ t : Fin cfg0.N, (win0_0.index t 0 = t.val % 16 ∧ win0_0.index t 1 = 0) ∧ (win0_1.index t 0 = t.val % 16 ∧ win0_1.index t 1 = 13) ∧
    (win0_2.index t 0 = 0 ∧ win0_2.index t 1 = 0) ∧ win0_3.index t 0 = t.val % 16 ∧ win0_3.index t 1 = 0 :=
  (by decide +kernel : ∀ t : Fin grid0.N, _)

/-- Eight heads' blocks side by side are the row of which each is its head's part. -/
theorem beside (x0 x1 x2 x3 x4 x5 x6 x7 : S512x128.Idx → EReal)
    (h : Shape.Concatenates [S512x128, S512x128, S512x128, S512x128, S512x128, S512x128, S512x128, S512x128] S512x1024 1) (a : Fin 512) (b : Fin 1024)
    (T : Fin 1024 → EReal) (h0 : ∀ k, x0 (ix2 a k) = T (Inner.lane 0 k)) (h1 : ∀ k, x1 (ix2 a k) = T (Inner.lane 1 k)) (h2 : ∀ k, x2 (ix2 a k) = T (Inner.lane 2 k))
    (h3 : ∀ k, x3 (ix2 a k) = T (Inner.lane 3 k)) (h4 : ∀ k, x4 (ix2 a k) = T (Inner.lane 4 k)) (h5 : ∀ k, x5 (ix2 a k) = T (Inner.lane 5 k))
    (h6 : ∀ k, x6 (ix2 a k) = T (Inner.lane 6 k)) (h7 : ∀ k, x7 (ix2 a k) = T (Inner.lane 7 k)) :
    concatenate S512x1024 1 [⟨S512x128, x0⟩, ⟨S512x128, x1⟩, ⟨S512x128, x2⟩, ⟨S512x128, x3⟩, ⟨S512x128, x4⟩, ⟨S512x128, x5⟩, ⟨S512x128, x6⟩, ⟨S512x128, x7⟩] h (ix2 a b) = T b := by
  obtain ⟨q, k, rfl⟩ : ∃ q k, b = Inner.lane q k := ⟨_, _, (Inner.lane_split b).symm⟩
  have off : ∀ n : Fin 2, n ≠ 1 → ((ix2 a k : S512x128.Idx) n).val = ((ix2 a (Inner.lane q k) : S512x1024.Idx) n).val := fun n hn => by
    match n, hn with
    | 0, _ => rfl
    | 1, hn => exact absurd rfl hn
  match q, off with
  | 0, off => exact (concatenate_apply_piece (t := S512x1024) 1 [⟨S512x128, x0⟩, ⟨S512x128, x1⟩, ⟨S512x128, x2⟩, ⟨S512x128, x3⟩, ⟨S512x128, x4⟩, ⟨S512x128, x5⟩, ⟨S512x128, x6⟩, ⟨S512x128, x7⟩] h
      _ 0 (by decide : 0 < 8) S512x128 x0 rfl rfl 0 rfl (ix2 a k) off rfl).trans (h0 k)
  | 1, off => exact (concatenate_apply_piece (t := S512x1024) 1 [⟨S512x128, x0⟩, ⟨S512x128, x1⟩, ⟨S512x128, x2⟩, ⟨S512x128, x3⟩, ⟨S512x128, x4⟩, ⟨S512x128, x5⟩, ⟨S512x128, x6⟩, ⟨S512x128, x7⟩] h
      _ 1 (by decide : 1 < 8) S512x128 x1 rfl rfl 128 rfl (ix2 a k) off rfl).trans (h1 k)
  | 2, off => exact (concatenate_apply_piece (t := S512x1024) 1 [⟨S512x128, x0⟩, ⟨S512x128, x1⟩, ⟨S512x128, x2⟩, ⟨S512x128, x3⟩, ⟨S512x128, x4⟩, ⟨S512x128, x5⟩, ⟨S512x128, x6⟩, ⟨S512x128, x7⟩] h
      _ 2 (by decide : 2 < 8) S512x128 x2 rfl rfl 256 rfl (ix2 a k) off rfl).trans (h2 k)
  | 3, off => exact (concatenate_apply_piece (t := S512x1024) 1 [⟨S512x128, x0⟩, ⟨S512x128, x1⟩, ⟨S512x128, x2⟩, ⟨S512x128, x3⟩, ⟨S512x128, x4⟩, ⟨S512x128, x5⟩, ⟨S512x128, x6⟩, ⟨S512x128, x7⟩] h
      _ 3 (by decide : 3 < 8) S512x128 x3 rfl rfl 384 rfl (ix2 a k) off rfl).trans (h3 k)
  | 4, off => exact (concatenate_apply_piece (t := S512x1024) 1 [⟨S512x128, x0⟩, ⟨S512x128, x1⟩, ⟨S512x128, x2⟩, ⟨S512x128, x3⟩, ⟨S512x128, x4⟩, ⟨S512x128, x5⟩, ⟨S512x128, x6⟩, ⟨S512x128, x7⟩] h
      _ 4 (by decide : 4 < 8) S512x128 x4 rfl rfl 512 rfl (ix2 a k) off rfl).trans (h4 k)
  | 5, off => exact (concatenate_apply_piece (t := S512x1024) 1 [⟨S512x128, x0⟩, ⟨S512x128, x1⟩, ⟨S512x128, x2⟩, ⟨S512x128, x3⟩, ⟨S512x128, x4⟩, ⟨S512x128, x5⟩, ⟨S512x128, x6⟩, ⟨S512x128, x7⟩] h
      _ 5 (by decide : 5 < 8) S512x128 x5 rfl rfl 640 rfl (ix2 a k) off rfl).trans (h5 k)
  | 6, off => exact (concatenate_apply_piece (t := S512x1024) 1 [⟨S512x128, x0⟩, ⟨S512x128, x1⟩, ⟨S512x128, x2⟩, ⟨S512x128, x3⟩, ⟨S512x128, x4⟩, ⟨S512x128, x5⟩, ⟨S512x128, x6⟩, ⟨S512x128, x7⟩] h
      _ 6 (by decide : 6 < 8) S512x128 x6 rfl rfl 768 rfl (ix2 a k) off rfl).trans (h6 k)
  | 7, off => exact (concatenate_apply_piece (t := S512x1024) 1 [⟨S512x128, x0⟩, ⟨S512x128, x1⟩, ⟨S512x128, x2⟩, ⟨S512x128, x3⟩, ⟨S512x128, x4⟩, ⟨S512x128, x5⟩, ⟨S512x128, x6⟩, ⟨S512x128, x7⟩] h
      _ 7 (by decide : 7 < 8) S512x128 x7 rfl rfl 896 rfl (ix2 a k) off rfl).trans (h7 k)

variable (x : S512x1024.Idx → EReal) (g : S1x128.Idx → EReal) (a : Fin 512) (k : Fin 128)

/-- A row of a block of eight heads, each head's part scaled by itself. -/
abbrev row (b : Fin 1024) : EReal := Inner.perHead (fun n => x (ix2 a n)) (fun n => g (ix2 0 n)) b

theorem normed (y : S512x128.Idx → EReal) : k0_pay6 (F := Ideal) g y (ix2 a k) = Inner.scaled Inner.width128 (fun n => y (ix2 a n)) k (g (ix2 0 k)) := by
  simp only [k0_pay6, pointwise]
  rfl

theorem part (q : Fin 8) (h : S512x1024.Slices ![0, 128 * q.val] S512x128) :
    k0_pay6 (F := Ideal) g (extractStridedSlice S512x128 ![0, 128 * q.val] x h) (ix2 a k) = row x g a (Inner.lane q k) := by
  refine (normed _ _ _ _).trans ((Inner.scaled_congr (fun n => ?_) rfl rfl).trans (Inner.perHead_lane (fun n => x (ix2 a n)) (fun n => g (ix2 0 n)) q k).symm)
  refine extractStridedSlice_apply _ x h _ (ix2 a (Inner.lane q n)) fun d => ?_
  match d with
  | 0 => show a.val = 0 + a.val; omega
  | 1 => rfl

theorem point (t : Fin cfg0.N) (y : S512x1024.Idx) : out0_3 (iblk m c 0 t) (iblk m c 1 t) (iblk m c 2 t) y =
    row (iblk m c 0 t) (iblk m c 2 t) (y 0) (y 1) * Inner.gate (iblk m c 1 t y) := by
  obtain ⟨a, b, rfl⟩ : ∃ a b, y = ix2 a b := ⟨y 0, y 1, Tiles.ix2_congr rfl rfl⟩
  unfold out0_3; frame_out
  simp only [k0_pay1]
  refine congrArg₂ (fun u v : EReal => u * v) (beside _ _ _ _ _ _ _ _ concatenates_S512x128_S512x128_S512x128_S512x128_S512x128_S512x128_S512x128_S512x128_S512x1024_d1
    a b (row (iblk m c 0 t) (iblk m c 2 t) a) (fun k => part _ _ a k 0 slices_S512x1024_o0_0_S512x128) (fun k => part _ _ a k 1 slices_S512x1024_o0_128_S512x128)
    (fun k => part _ _ a k 2 slices_S512x1024_o0_256_S512x128) (fun k => part _ _ a k 3 slices_S512x1024_o0_384_S512x128)
    (fun k => part _ _ a k 4 slices_S512x1024_o0_512_S512x128) (fun k => part _ _ a k 5 slices_S512x1024_o0_640_S512x128)
    (fun k => part _ _ a k 6 slices_S512x1024_o0_768_S512x128) (fun k => part _ _ a k 7 slices_S512x1024_o0_896_S512x128)) ?_
  rfl

theorem gated : (dats m 0 c).arrAt 3 cfg0.N = fun i : S8192x1024.Idx =>
    Inner.perHead (fun n => m ((c : Thread nD τ).loc main_arg0) (ix2 (i 0) n)) (fun n => m ((c : Thread nD τ).loc main_arg2) (ix2 0 n)) (i 1) *
      Inner.gate (m ((c : Thread nD τ).loc main_arg1) (ix2 (i 0) (colZ (i 1)))) := by
  refine (dats m 0 c).arrAt_eq_of_covers 3 _ (by decide +kernel) fun t hf y => ?_
  have e := visits t
  blk_simp
  rw [after0_3, point]
  refine congrArg₂ (fun u v : EReal => u * v) (Inner.perHead_congr (fun n => congrArg (m ((c : Thread nD τ).loc main_arg0)) (Tiles.ix2_congr ?_ ?_))
    (fun n => congrArg (m ((c : Thread nD τ).loc main_arg2)) (Tiles.ix2_congr ?_ ?_)) (Fin.ext ?_))
    (congrArg Inner.gate (congrArg (m ((c : Thread nD τ).loc main_arg1)) (Norm.idx_ext ?_ ?_)))
  rotate_right
  · have e3 : (((cfg0.win 3).blk t).view.emb y 1).val = win0_3.index t 1 * 1024 + (y 1).val := by blk_simp
    refine Eq.trans ?_ (congrArg (13312 + ·) e3.symm)
    blk_simp; dsimp only; omega
  all_goals (try blk_simp) <;> (try dsimp only) <;> omega

end Cert.Kernel42Ideal.Prod

namespace Cert.Reference42Ideal.Prod

open Idealize.ShloMosaic Idealize.ShloMosaic.TcCoe Idealize.SL.Sem Reference42Ideal.Read

variable (x : (⟨S8192x1024, .f32⟩ : BufTy).Contents (Elt Ideal)) (z : (⟨S8192x16384, .f32⟩ : BufTy).Contents (Elt Ideal)) (g : (⟨S1x128, .f32⟩ : BufTy).Contents (Elt Ideal))

theorem zero : (FloatOps.ofBits .f32 0x00000000#32 : Ideal .f32) = (0 : EReal) := by
  show Ideal.ofBits .f32 0x00000000#32 = 0
  simp [Ideal.ofBits, Ideal.ieee]

theorem entry (r : Fin 8192) (q : Fin 8) (k : Fin 128) : val_main_v2 (F := Ideal) x (ix3 r q k) = x (ix2 r (Inner.lane q k)) := by
  rw [val_main_v2_apply]
  refine congrArg x (Norm.idx_ext ?_ ?_)
  · show ((r.val * 8 + q.val) * 128 + k.val) / 1024 = r.val; omega
  · show ((r.val * 8 + q.val) * 128 + k.val) % 1024 = 128 * q.val + k.val; omega

theorem square (r : Fin 8192) (q : Fin 8) (u : Fin 1) : val_main_v9 (F := Ideal) x (ix3 r q u) =
    Ideal.div (∑ k : Fin 128, (show EReal from x (ix2 r (Inner.lane q k))) * x (ix2 r (Inner.lane q k))) Inner.width128 + Norm.offset := by
  simp only [val_main_v9_apply, val_main_v8_apply, val_main_v7_apply, val_main_v6_apply, val_main_v5_apply, val_main_v4_apply,
    val_main_cst_apply, val_main_cst_0_apply, val_main_cst_1_apply]
  refine congrArg (Ideal.div · _ + _) ((congrArg (· + _) zero).trans ((zero_add _).trans (Finset.sum_congr rfl fun k _ => ?_)))
  have : idx_main_v4 (idx_main_v5 (ix3 r q u)) k = ix3 r q k := funext fun d => Fin.ext (by match d with | 0 => rfl | 1 => rfl | 2 => rfl)
  rw [this, val_main_v3_apply, entry]; rfl

theorem normed (r : Fin 8192) (q : Fin 8) (k : Fin 128) : val_main_v15 (F := Ideal) x g (ix3 r q k) =
    Inner.scaled Inner.width128 (fun n => x (ix2 r (Inner.lane q n))) k (g (ix2 0 k)) := by
  have hi : idx_main_v11 (ix3 r q k) = ix3 r q 0 := funext fun d => Fin.ext (by match d with | 0 => rfl | 1 => rfl | 2 => rfl)
  rw [val_main_v15_apply, val_main_v14_apply, val_main_v13_apply, val_main_v12_apply, val_main_v11_apply, val_main_v10_apply, hi, square, entry]
  exact congrArg₂ (fun a b : EReal => a * b) rfl (congrArg g (Tiles.ix2_congr rfl rfl))

theorem gate (r : Fin 8192) (q : Fin 8) (k : Fin 128) : val_main_v16 (F := Ideal) z (ix3 r q k) = Inner.gate (z (ix2 r (Kernel42Ideal.Prod.colZ (Inner.lane q k)))) := by
  have hz : val_main_v1 (F := Ideal) z (ix3 r q k) = z (ix2 r (Kernel42Ideal.Prod.colZ (Inner.lane q k))) := by
    rw [val_main_v1_apply, val_main_v0_apply]
    refine congrArg z (Norm.idx_ext ?_ ?_)
    · show ((r.val * 8 + q.val) * 128 + k.val) / 1024 = r.val; omega
    · show 13312 + ((r.val * 8 + q.val) * 128 + k.val) % 1024 = 13312 + (128 * q.val + k.val); omega
  rw [val_main_v16_apply, val_main_call0_v5_apply, val_main_call0_v4_apply, val_main_call0_v3_apply, val_main_call0_v2_apply, val_main_call0_v1_apply,
    val_main_call0_v0_apply, val_main_call0_cst_apply, val_main_call0_cst_0_apply, hz]
  exact congrArg (fun u : EReal => (show EReal from z (ix2 r (Kernel42Ideal.Prod.colZ (Inner.lane q k)))) * u) (Gate.written _)

theorem gated (i : S8192x1024.Idx) : val_main_v19 (F := Ideal) x z g i =
    Inner.perHead (fun n => x (ix2 (i 0) n)) (fun n => g (ix2 0 n)) (i 1) * Inner.gate (z (ix2 (i 0) (Kernel42Ideal.Prod.colZ (i 1)))) := by
  obtain ⟨r, b, rfl⟩ : ∃ r b, i = ix2 r b := ⟨i 0, i 1, Tiles.ix2_congr rfl rfl⟩
  obtain ⟨q, k, rfl⟩ : ∃ q k, b = Inner.lane q k := ⟨_, _, (Inner.lane_split b).symm⟩
  have hi : idx_main_v18 (ix2 r (Inner.lane q k)) = ix3 r q k := by
    refine funext fun d => Fin.ext ?_
    match d with
    | 0 => show (r.val * 1024 + (128 * q.val + k.val)) / 1024 = r.val; omega
    | 1 => show (r.val * 1024 + (128 * q.val + k.val)) / 128 % 8 = q.val; omega
    | 2 => show (r.val * 1024 + (128 * q.val + k.val)) % 128 = k.val; omega
  rw [val_main_v19_apply, val_main_v18_apply, hi, val_main_v17_apply, normed, gate]
  exact congrArg₂ (fun a b : EReal => a * b) (Inner.perHead_lane (fun n => x (ix2 r n)) (fun n => g (ix2 0 n)) q k).symm rfl

end Cert.Reference42Ideal.Prod

/-! ## Beside the references -/

namespace Cert.Proof

open Idealize.ShloMosaic Idealize.ShloMosaic.TcCoe Idealize.SL.Sem

theorem frame_Reference40Ideal : Cert.quiescent_Reference40Ideal := fun m g _ =>
  (θ_run Reference40Ideal.defs _ _).mono (fun r h => ⟨fun c => (h c).2, sem_eq_zero_of_no_sems (by decide) r.2⟩) (Reference40Ideal.Value.run m g)

theorem algebraic40 : Cert.algebraic_Kernel40Ideal_Reference40Ideal := by
  intro m g m' g' _ he
  refine ⟨_, (θ_run Kernel40Ideal.defs _ _).mono (fun r h c => ⟨(h c).1.trans (Kernel40Ideal.Prod.sums m c), (h c).2⟩)
      (Kernel40Ideal.Value.run_blocks m g),
    (θ_run Reference40Ideal.defs _ _).mono (fun r h c => ⟨(h c).1.trans ?_, (h c).2⟩) (Reference40Ideal.Value.run m' g')⟩
  rw [(he c).1, (he c).2]; rfl

theorem frame_Reference41Ideal : Cert.quiescent_Reference41Ideal := fun m g _ =>
  (θ_run Reference41Ideal.defs _ _).mono (fun r h => ⟨fun c => (h c).2.2, sem_eq_zero_of_no_sems (by decide) r.2⟩) (Reference41Ideal.Value.run m g)

theorem algebraic41 : Cert.algebraic_Kernel41Ideal_Reference41Ideal := by
  intro m g m' g' _ he
  refine ⟨_, _, (θ_run Kernel41Ideal.defs _ _).mono (fun r h c => ⟨(h c).1.trans (Kernel41Ideal.Prod.scaledQ m c), (h c).2.1.trans (Kernel41Ideal.Prod.scaledK m c), (h c).2.2⟩)
      (Kernel41Ideal.Value.run_blocks m g),
    (θ_run Reference41Ideal.defs _ _).mono (fun r h c => ⟨(h c).1.trans ?_, (h c).2.1.trans ?_, (h c).2.2⟩) (Reference41Ideal.Value.run m' g')⟩
  · rw [Reference41Ideal.Read.val_main_v13_eq, (he c).1, (he c).2.1]
    exact funext (Reference41Ideal.Prod.scaledQ _ _)
  · rw [Reference41Ideal.Read.val_main_v27_eq, (he c).1, (he c).2.2]
    exact funext (Reference41Ideal.Prod.scaledK _ _)

theorem frame_Reference42Ideal : Cert.quiescent_Reference42Ideal := fun m g _ =>
  (θ_run Reference42Ideal.defs _ _).mono (fun r h => ⟨fun c => (h c).2, sem_eq_zero_of_no_sems (by decide) r.2⟩) (Reference42Ideal.Value.run m g)

theorem algebraic42 : Cert.algebraic_Kernel42Ideal_Reference42Ideal := by
  intro m g m' g' _ he
  refine ⟨_, (θ_run Kernel42Ideal.defs _ _).mono (fun r h c => ⟨(h c).1.trans (Kernel42Ideal.Prod.gated m c), (h c).2⟩)
      (Kernel42Ideal.Value.run_blocks m g),
    (θ_run Reference42Ideal.defs _ _).mono (fun r h c => ⟨(h c).1.trans ?_, (h c).2⟩) (Reference42Ideal.Value.run m' g')⟩
  rw [Reference42Ideal.Read.val_main_v19_eq, (he c).1, (he c).2.1, (he c).2.2]
  exact funext (Reference42Ideal.Prod.gated _ _ _)

end Cert.Proof
-- ==== Proof.lean ====
module

public import proofs.«01_k».proof.Defs
public import proofs.«01_k».proof.Proof.FrameKernel
public import proofs.«01_k».proof.Proof.Same
public import proofs.«01_k».proof.Proof.FfnUp
public import proofs.«01_k».proof.Proof.FfnDown
public import proofs.«01_k».proof.Proof.WIn
public import proofs.«01_k».proof.Proof.WOut
public import proofs.«01_k».proof.Proof.MixOut
public import proofs.«01_k».proof.Proof.LowRank
public import proofs.«01_k».proof.Proof.StepWide
public import proofs.«01_k».proof.Proof.StepMixers
public import proofs.«01_k».proof.Proof.StepStacked
public import proofs.«01_k».proof.Proof.Rms
public import proofs.«01_k».proof.Proof.LossHead
public import proofs.«01_k».proof.Proof.NormForward
public import proofs.«01_k».proof.Proof.Gates
public import proofs.«01_k».proof.Proof.InnerNorms
public import Idealize.ShloMosaic.Adequacy
public import Idealize.ShloMosaic.Init

/-! # The claims

    Frames of every kernel, ideal kernel and reference, and equality of each ideal kernel with its reference: at finite
    arguments for the gated delta rule's scan and its gradient, and without a condition for the others. -/

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Kernel39.Gen.facts, Cert.Kernel39Ideal.Gen.facts, Cert.Reference39Ideal.Gen.facts,
    Cert.Kernel40.Gen.facts, Cert.Kernel40Ideal.Gen.facts, Cert.Reference40Ideal.Gen.facts,
    Cert.Kernel41.Gen.facts, Cert.Kernel41Ideal.Gen.facts, Cert.Reference41Ideal.Gen.facts,
    Cert.Kernel42.Gen.facts, Cert.Kernel42Ideal.Gen.facts, Cert.Reference42Ideal.Gen.facts,
    Cert.Pre_finite.facts,
    frame_Kernel, frame_KernelIdeal, fun m g _ => frame_KernelIdeal m g trivial, frame_ReferenceIdeal,
    fun m g _ => frame_ReferenceIdeal m g trivial,
    fun m g _ => Cert.Kernel2.Gen.frame m g, fun m g _ => Cert.Kernel2Ideal.Gen.frame m g, frame_Reference2Ideal,
    fun m g _ => Cert.Kernel3.Gen.frame m g, fun m g _ => Cert.Kernel3Ideal.Gen.frame m g, frame_Reference3Ideal,
    fun m g _ => Cert.Kernel4.Gen.frame m g, fun m g _ => Cert.Kernel4Ideal.Gen.frame m g, frame_Reference4Ideal,
    fun m g _ => Cert.Kernel5.Gen.frame m g, fun m g _ => Cert.Kernel5Ideal.Gen.frame m g, frame_Reference5Ideal,
    fun m g _ => Cert.Kernel6.Gen.frame m g, fun m g _ => Cert.Kernel6Ideal.Gen.frame m g, frame_Reference6Ideal,
    fun m g _ => Cert.Kernel7.Gen.frame m g, fun m g _ => Cert.Kernel7Ideal.Gen.frame m g, frame_Reference7Ideal,
    fun m g _ => Cert.Kernel8.Gen.frame m g, fun m g _ => Cert.Kernel8Ideal.Gen.frame m g, frame_Reference8Ideal,
    fun m g _ => Cert.Kernel9.Gen.frame m g, fun m g _ => Cert.Kernel9Ideal.Gen.frame m g, frame_Reference9Ideal,
    fun m g _ => Cert.Kernel10.Gen.frame m g, fun m g _ => Cert.Kernel10Ideal.Gen.frame m g, frame_Reference10Ideal,
    fun m g _ => Cert.Kernel11.Gen.frame m g, fun m g _ => Cert.Kernel11Ideal.Gen.frame m g, frame_Reference11Ideal,
    fun m g _ => Cert.Kernel12.Gen.frame m g, fun m g _ => Cert.Kernel12Ideal.Gen.frame m g, frame_Reference12Ideal,
    fun m g _ => Cert.Kernel13.Gen.frame m g, fun m g _ => Cert.Kernel13Ideal.Gen.frame m g, frame_Reference13Ideal,
    fun m g _ => Cert.Kernel14.Gen.frame m g, fun m g _ => Cert.Kernel14Ideal.Gen.frame m g, frame_Reference14Ideal,
    fun m g _ => Cert.Kernel15.Gen.frame m g, fun m g _ => Cert.Kernel15Ideal.Gen.frame m g, frame_Reference15Ideal,
    fun m g _ => Cert.Kernel16.Gen.frame m g, fun m g _ => Cert.Kernel16Ideal.Gen.frame m g, frame_Reference16Ideal,
    fun m g _ => Cert.Kernel17.Gen.frame m g, fun m g _ => Cert.Kernel17Ideal.Gen.frame m g, frame_Reference17Ideal,
    fun m g _ => Cert.Kernel18.Gen.frame m g, fun m g _ => Cert.Kernel18Ideal.Gen.frame m g, frame_Reference18Ideal,
    fun m g _ => Cert.Kernel19.Gen.frame m g, fun m g _ => Cert.Kernel19Ideal.Gen.frame m g, frame_Reference19Ideal,
    fun m g _ => Cert.Kernel20.Gen.frame m g, fun m g _ => Cert.Kernel20Ideal.Gen.frame m g, frame_Reference20Ideal,
    fun m g _ => Cert.Kernel21.Gen.frame m g, fun m g _ => Cert.Kernel21Ideal.Gen.frame m g, frame_Reference21Ideal,
    fun m g _ => Cert.Kernel22.Gen.frame m g, fun m g _ => Cert.Kernel22Ideal.Gen.frame m g, frame_Reference22Ideal,
    fun m g _ => Cert.Kernel23.Gen.frame m g, fun m g _ => Cert.Kernel23Ideal.Gen.frame m g, frame_Reference23Ideal,
    fun m g _ => Cert.Kernel24.Gen.frame m g, fun m g _ => Cert.Kernel24Ideal.Gen.frame m g, frame_Reference24Ideal,
    fun m g _ => Cert.Kernel25.Gen.frame m g, fun m g _ => Cert.Kernel25Ideal.Gen.frame m g, frame_Reference25Ideal,
    fun m g _ => Cert.Kernel26.Gen.frame m g, fun m g _ => Cert.Kernel26Ideal.Gen.frame m g, frame_Reference26Ideal,
    fun m g _ => Cert.Kernel27.Gen.frame m g, fun m g _ => Cert.Kernel27Ideal.Gen.frame m g, frame_Reference27Ideal,
    fun m g _ => Cert.Kernel28.Gen.frame m g, fun m g _ => Cert.Kernel28Ideal.Gen.frame m g, frame_Reference28Ideal,
    fun m g _ => Cert.Kernel29.Gen.frame m g, fun m g _ => Cert.Kernel29Ideal.Gen.frame m g, frame_Reference29Ideal,
    fun m g _ => Cert.Kernel30.Gen.frame m g, fun m g _ => Cert.Kernel30Ideal.Gen.frame m g, frame_Reference30Ideal,
    fun m g _ => Cert.Kernel31.Gen.frame m g, fun m g _ => Cert.Kernel31Ideal.Gen.frame m g, frame_Reference31Ideal,
    fun m g _ => Cert.Kernel32.Gen.frame m g, fun m g _ => Cert.Kernel32Ideal.Gen.frame m g, frame_Reference32Ideal,
    fun m g _ => Cert.Kernel33.Gen.frame m g, fun m g _ => Cert.Kernel33Ideal.Gen.frame m g, frame_Reference33Ideal,
    fun m g _ => Cert.Kernel34.Gen.frame m g, fun m g _ => Cert.Kernel34Ideal.Gen.frame m g, frame_Reference34Ideal,
    fun m g _ => Cert.Kernel35.Gen.frame m g, fun m g _ => Cert.Kernel35Ideal.Gen.frame m g, frame_Reference35Ideal,
    fun m g _ => Cert.Kernel36.Gen.frame m g, fun m g _ => Cert.Kernel36Ideal.Gen.frame m g, frame_Reference36Ideal,
    fun m g _ => Cert.Kernel37.Gen.frame m g, fun m g _ => Cert.Kernel37Ideal.Gen.frame m g, frame_Reference37Ideal,
    fun m g _ => Cert.Kernel38.Gen.frame m g, fun m g _ => Cert.Kernel38Ideal.Gen.frame m g, frame_Reference38Ideal,
    fun m g _ => Cert.Kernel39.Gen.frame m g, fun m g _ => Cert.Kernel39Ideal.Gen.frame m g, frame_Reference39Ideal,
    fun m g _ => Cert.Kernel40.Gen.frame m g, fun m g _ => Cert.Kernel40Ideal.Gen.frame m g, frame_Reference40Ideal,
    fun m g _ => Cert.Kernel41.Gen.frame m g, fun m g _ => Cert.Kernel41Ideal.Gen.frame m g, frame_Reference41Ideal,
    fun m g _ => Cert.Kernel42.Gen.frame m g, fun m g _ => Cert.Kernel42Ideal.Gen.frame m g, frame_Reference42Ideal,
    trivial, @algebraic Cert.Pre_finite.facts,
    trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17, trivial, algebraic18, trivial, algebraic19, trivial, algebraic20, trivial, algebraic21, trivial, algebraic22, trivial, algebraic23, trivial, algebraic24, trivial, algebraic25, trivial, algebraic26, trivial, algebraic27, trivial, algebraic28, trivial, algebraic29, trivial, algebraic30, trivial, algebraic31, trivial, algebraic32, trivial, algebraic33, trivial, algebraic34, trivial, algebraic35, trivial, algebraic36, trivial, algebraic37, trivial, algebraic38, trivial, algebraic39, trivial, algebraic40, trivial, algebraic41, trivial, algebraic42⟩

end Cert.Proof

end
